-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular_inputs [hPre_regular_inputs : Cert.Pre_regular_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_regular_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular_inputs [hPre_regular_inputs : Cert.Pre_regular_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_regular_inputs [hKernelIdeal : Cert.KernelIdeal.Facts] [hPre_regular_inputs : Cert.Pre_regular_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_regular_inputs [hReferenceIdeal : Cert.ReferenceIdeal.Facts] [hPre_regular_inputs : Cert.Pre_regular_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_regular_inputs [hKernelIdeal : Cert.KernelIdeal.Facts] [hReferenceIdeal : Cert.ReferenceIdeal.Facts] [hPre_regular_inputs : Cert.Pre_regular_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v653) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_regular_inputs : Cert.Pre_regular_inputs.Facts),
    quiescent_Kernel (hKernel := hKernel)
    ∧ quiescent_KernelIdeal (hKernelIdeal := hKernelIdeal)
    ∧ quiescent_KernelIdeal_pre_regular_inputs (hKernelIdeal := hKernelIdeal) (hPre_regular_inputs := hPre_regular_inputs)
    ∧ quiescent_ReferenceIdeal (hReferenceIdeal := hReferenceIdeal)
    ∧ quiescent_ReferenceIdeal_pre_regular_inputs (hReferenceIdeal := hReferenceIdeal) (hPre_regular_inputs := hPre_regular_inputs)
    ∧ preserves_Kernel_KernelIdeal
    ∧ algebraic_KernelIdeal_ReferenceIdeal_pre_regular_inputs (hKernelIdeal := hKernelIdeal) (hReferenceIdeal := hReferenceIdeal) (hPre_regular_inputs := hPre_regular_inputs)
-- ==== Pre_regular_inputs.lean ====
abbrev S16x8400x80 : Shape := ⟨3, ![16, 8400, 80]⟩
abbrev S16x8400x4x16 : Shape := ⟨4, ![16, 8400, 4, 16]⟩
abbrev S16x8400x4 : Shape := ⟨3, ![16, 8400, 4]⟩
abbrev S16x32x5 : Shape := ⟨3, ![16, 32, 5]⟩
abbrev S8400x2 : Shape := ⟨2, ![8400, 2]⟩
abbrev S8400 : Shape := ⟨1, ![8400]⟩
abbrev S16x32x1 : Shape := ⟨3, ![16, 32, 1]⟩
abbrev S16x32 : Shape := ⟨2, ![16, 32]⟩
abbrev S_ : Shape := ⟨0, ![]⟩
abbrev S16x32x4 : Shape := ⟨3, ![16, 32, 4]⟩
abbrev S8400x1 : Shape := ⟨2, ![8400, 1]⟩
abbrev S1x1x8400 : Shape := ⟨3, ![1, 1, 8400]⟩
abbrev S16x32x8400 : Shape := ⟨3, ![16, 32, 8400]⟩
abbrev S16x32x1x4 : Shape := ⟨4, ![16, 32, 1, 4]⟩
abbrev S16x1x8400x4 : Shape := ⟨4, ![16, 1, 8400, 4]⟩
abbrev S16x32x1x1 : Shape := ⟨4, ![16, 32, 1, 1]⟩
abbrev S16x1x8400x1 : Shape := ⟨4, ![16, 1, 8400, 1]⟩
abbrev S16x1x8400 : Shape := ⟨3, ![16, 1, 8400]⟩
abbrev S16x80x8400 : Shape := ⟨3, ![16, 80, 8400]⟩
abbrev S16x32x8400x1 : Shape := ⟨4, ![16, 32, 8400, 1]⟩
abbrev S16x32x10 : Shape := ⟨3, ![16, 32, 10]⟩
abbrev S16x32x9 : Shape := ⟨3, ![16, 32, 9]⟩

class Facts : Prop where
  slices_S16x32x5_S16x32x1_0_0_0 : S16x32x5.Slices ![0, 0, 0] S16x32x1
  shapeCasts_S16x32x1_S16x32 : S16x32x1.ShapeCasts S16x32
  bcast_S_S16x32 : S_.BroadcastsInDim S16x32 (![] : Fin 0 → Fin S16x32.rank)
  slices_S16x32x5_S16x32x4_0_0_1 : S16x32x5.Slices ![0, 0, 1] S16x32x4
  slices_S16x32x4_S16x32x1_0_0_0 : S16x32x4.Slices ![0, 0, 0] S16x32x1
  bcast_S16x32_S16x32x1_0_1 : S16x32.BroadcastsInDim S16x32x1 (![0, 1] : Fin 2 → Fin S16x32x1.rank)
  slices_S16x32x4_S16x32x1_0_0_1 : S16x32x4.Slices ![0, 0, 1] S16x32x1
  slices_S16x32x4_S16x32x1_0_0_2 : S16x32x4.Slices ![0, 0, 2] S16x32x1
  slices_S16x32x4_S16x32x1_0_0_3 : S16x32x4.Slices ![0, 0, 3] S16x32x1
  slices_S8400x2_S8400x1_0_0 : S8400x2.Slices ![0, 0] S8400x1
  shapeCasts_S8400x1_S8400 : S8400x1.ShapeCasts S8400
  bcast_S8400_S1x1x8400_2 : S8400.BroadcastsInDim S1x1x8400 (![2] : Fin 1 → Fin S1x1x8400.rank)
  slices_S8400x2_S8400x1_0_1 : S8400x2.Slices ![0, 1] S8400x1
  bcast_S16x32x1_S16x32x8400_0_1_2 : S16x32x1.BroadcastsInDim S16x32x8400 (![0, 1, 2] : Fin 3 → Fin S16x32x8400.rank)
  bcast_S1x1x8400_S16x32x8400_0_1_2 : S1x1x8400.BroadcastsInDim S16x32x8400 (![0, 1, 2] : Fin 3 → Fin S16x32x8400.rank)
  bcast_S16x32x4_S16x32x1x4_0_1_3 : S16x32x4.BroadcastsInDim S16x32x1x4 (![0, 1, 3] : Fin 3 → Fin S16x32x1x4.rank)
  bcast_S16x8400x4_S16x1x8400x4_0_2_3 : S16x8400x4.BroadcastsInDim S16x1x8400x4 (![0, 2, 3] : Fin 3 → Fin S16x1x8400x4.rank)
  slices_S16x32x1x4_S16x32x1x1_0_0_0_0 : S16x32x1x4.Slices ![0, 0, 0, 0] S16x32x1x1
  shapeCasts_S16x32x1x1_S16x32x1 : S16x32x1x1.ShapeCasts S16x32x1
  slices_S16x1x8400x4_S16x1x8400x1_0_0_0_0 : S16x1x8400x4.Slices ![0, 0, 0, 0] S16x1x8400x1
  shapeCasts_S16x1x8400x1_S16x1x8400 : S16x1x8400x1.ShapeCasts S16x1x8400
  bcast_S16x1x8400_S16x32x8400_0_1_2 : S16x1x8400.BroadcastsInDim S16x32x8400 (![0, 1, 2] : Fin 3 → Fin S16x32x8400.rank)
  slices_S16x32x1x4_S16x32x1x1_0_0_0_1 : S16x32x1x4.Slices ![0, 0, 0, 1] S16x32x1x1
  slices_S16x1x8400x4_S16x1x8400x1_0_0_0_1 : S16x1x8400x4.Slices ![0, 0, 0, 1] S16x1x8400x1
  slices_S16x32x1x4_S16x32x1x1_0_0_0_2 : S16x32x1x4.Slices ![0, 0, 0, 2] S16x32x1x1
  slices_S16x1x8400x4_S16x1x8400x1_0_0_0_2 : S16x1x8400x4.Slices ![0, 0, 0, 2] S16x1x8400x1
  slices_S16x32x1x4_S16x32x1x1_0_0_0_3 : S16x32x1x4.Slices ![0, 0, 0, 3] S16x32x1x1
  slices_S16x1x8400x4_S16x1x8400x1_0_0_0_3 : S16x1x8400x4.Slices ![0, 0, 0, 3] S16x1x8400x1
  bcast_S_S16x32x8400 : S_.BroadcastsInDim S16x32x8400 (![] : Fin 0 → Fin S16x32x8400.rank)
  bcast_S_S16x32x1 : S_.BroadcastsInDim S16x32x1 (![] : Fin 0 → Fin S16x32x1.rank)
  bcast_S_S16x1x8400 : S_.BroadcastsInDim S16x1x8400 (![] : Fin 0 → Fin S16x1x8400.rank)
  bcast_S_S16x8400x80 : S_.BroadcastsInDim S16x8400x80 (![] : Fin 0 → Fin S16x8400x80.rank)
  transposes_S16x8400x80_S16x80x8400_0_2_1 : S16x8400x80.Transposes [0, 2, 1] S16x80x8400
  shapeCasts_S16x32x8400_S16x32x8400x1 : S16x32x8400.ShapeCasts S16x32x8400x1
  sliceFits_S16x32x8400_S16x32x10 : S16x32x8400.Slices (fun _ => 0) S16x32x10
  slices_S16x32x10_S16x32x9_0_0_0 : S16x32x10.Slices ![0, 0, 0] S16x32x9
  slices_S16x32x10_S16x32x9_0_0_1 : S16x32x10.Slices ![0, 0, 1] S16x32x9
  bcast_S_S16x32x9 : S_.BroadcastsInDim S16x32x9 (![] : Fin 0 → Fin S16x32x9.rank)
  reducesTo_S16x32_S_d0_1 : S16x32.ReducesTo [0, 1] S_
  h_S_ : 0 < S_.numel
  reducesTo_S16x32x9_S_d0_1_2 : S16x32x9.ReducesTo [0, 1, 2] S_
  bcast_S_S8400 : S_.BroadcastsInDim S8400 (![] : Fin 0 → Fin S8400.rank)
  reducesTo_S8400_S_d0 : S8400.ReducesTo [0] S_
  reducesTo_S16x8400x4x16_S16x8400x4_d3 : S16x8400x4x16.ReducesTo [3] S16x8400x4
  bcast_S_S16x8400x4 : S_.BroadcastsInDim S16x8400x4 (![] : Fin 0 → Fin S16x8400x4.rank)
  reducesTo_S16x8400x4_S_d0_1_2 : S16x8400x4.ReducesTo [0, 1, 2] S_
  gather_S16x80x8400_S16x32x8400x1_S16x32x8400_n_1_02_02_1_3_111_wf : GatherDims.WF S16x80x8400 S16x32x8400x1 S16x32x8400 [] [1] [0, 2] [1] [0, 2] 3 ![1, 1, 1]

variable [Facts]

def gather_S16x80x8400_S16x32x8400x1_S16x32x8400_n_1_02_02_1_3_111 : GatherDims S16x80x8400 S16x32x8400x1 S16x32x8400 where
  offsetDims := []
  collapsedSliceDims := [1]
  operandBatchingDims := [0, 2]
  startIndicesBatchingDims := [0, 2]
  startIndexMap := [1]
  indexVectorDim := 3
  sliceSizes := ![1, 1, 1]
  wf := gather_S16x80x8400_S16x32x8400x1_S16x32x8400_n_1_02_02_1_3_111_wf
def fn_where {F : FTy → Type} [FloatOps F] (arg0 : IVec S16x32x1 1) (arg1 : FVec F S16x32x1 .f32) (arg2 : FVec F S16x32x1 .f32) : FVec F S16x32x1 .f32 :=
  let v0 : FVec F S16x32x1 .f32 := select arg0 arg1 arg2
  v0

def fn_where_0 {F : FTy → Type} [FloatOps F] (arg0 : IVec S16x1x8400 1) (arg1 : FVec F S16x1x8400 .f32) (arg2 : FVec F S16x1x8400 .f32) : FVec F S16x1x8400 .f32 :=
  let v0 : FVec F S16x1x8400 .f32 := select arg0 arg1 arg2
  v0

def fn_take_along_axis {F : FTy → Type} [FloatOps F] (arg0 : FVec F S16x80x8400 .f32) (arg1 : IVec S16x32x8400 32) : FVec F S16x32x8400 .f32 :=
  let c : IVec S_ 32 := constantI S_ 32 0#32
  let v0 : IVec S16x32x8400 32 := broadcastInDim S16x32x8400 ![] bcast_S_S16x32x8400 c
  let v1 : IVec S16x32x8400 1 := cmpi .slt arg1 v0
  let c_0 : IVec S_ 32 := constantI S_ 32 80#32
  let v2 : IVec S16x32x8400 32 := broadcastInDim S16x32x8400 ![] bcast_S_S16x32x8400 c_0
  let v3 : IVec S16x32x8400 32 := addi arg1 v2
  let v4 : IVec S16x32x8400 32 := select v1 v3 arg1
  let v5 : IVec S16x32x8400x1 32 := shapeCast S16x32x8400x1 v4 shapeCasts_S16x32x8400_S16x32x8400x1
  let v6 : FVec F S16x32x8400 .f32 := (fun x i => Host.gather gather_S16x80x8400_S16x32x8400x1_S16x32x8400_n_1_02_02_1_3_111 x i) arg0 v5
  v6

def fn_part15 {F : FTy → Type} [FloatOps F] (main_arg1 : FVec F S16x8400x4x16 .f32) (main_arg5 : FVec F S8400 .f32) (main_v311 : IVec S16x32x9 1) (main_v315 : IVec S16x32 1) (main_c_39 : IVec S_ 1) : IVec S_ 1 :=
  let main_v316 : IVec S_ 1 := (fun x v => Host.reduce IntOp.andi x v reducesTo_S16x32_S_d0_1 h_S_) main_v315 main_c_39
  let main_c_40 : IVec S_ 1 := constantI S_ 1 1#1
  let main_v317 : IVec S_ 1 := (fun x v => Host.reduce IntOp.andi x v reducesTo_S16x32x9_S_d0_1_2 h_S_) main_v311 main_c_40
  let main_v318 : IVec S_ 1 := andi main_v316 main_v317
  let main_cst_41 : FVec F S_ .f32 := constant S_ .f32 0x00000000#32
  let main_v319 : FVec F S8400 .f32 := broadcastInDim S8400 ![] bcast_S_S8400 main_cst_41
  let main_v320 : IVec S8400 1 := cmpf .ogt main_arg5 main_v319
  let main_cst_42 : FVec F S_ .f32 := constant S_ .f32 0x00000000#32
  let main_v321 : FVec F S8400 .f32 := broadcastInDim S8400 ![] bcast_S_S8400 main_cst_42
  let main_v322 : IVec S8400 1 := cmpf .olt main_arg5 main_v321
  let main_v323 : IVec S8400 1 := ori main_v320 main_v322
  let main_c_43 : IVec S_ 1 := constantI S_ 1 1#1
  let main_v324 : IVec S_ 1 := (fun x v => Host.reduce IntOp.andi x v reducesTo_S8400_S_d0 h_S_) main_v323 main_c_43
  let main_v325 : IVec S_ 1 := andi main_v318 main_v324
  let main_cst_44 : FVec F S_ .f32 := constant S_ .f32 0xFF800000#32
  let main_v326 : FVec F S16x8400x4 .f32 := (fun x v => Host.reduce FloatOps.maximumf x v reducesTo_S16x8400x4x16_S16x8400x4_d3 h_S_) main_arg1 main_cst_44
  let main_v327 : FVec F S16x8400x4 .f32 := Host.absf main_v326
  let main_cst_45 : FVec F S_ .f32 := constant S_ .f32 0x7F800000#32
  let main_v328 : FVec F S16x8400x4 .f32 := broadcastInDim S16x8400x4 ![] bcast_S_S16x8400x4 main_cst_45
  let main_v329 : IVec S16x8400x4 1 := cmpf .olt main_v327 main_v328
  let main_c_46 : IVec S_ 1 := constantI S_ 1 1#1
  let main_v330 : IVec S_ 1 := (fun x v => Host.reduce IntOp.andi x v reducesTo_S16x8400x4_S_d0_1_2 h_S_) main_v329 main_c_46
  let main_v331 : IVec S_ 1 := andi main_v325 main_v330
  main_v331

def fn_part14 {F : FTy → Type} [FloatOps F] (main_arg1 : FVec F S16x8400x4x16 .f32) (main_arg3 : FVec F S16x32x5 .f32) (main_arg5 : FVec F S8400 .f32) (main_v38 : IVec S16x32x8400 1) (main_v286 : FVec F S16x32x8400 .f32) (main_v296 : FVec F S16x32x8400 .f32) : IVec S_ 1 :=
  let main_v297 : FVec F S16x32x8400 .f32 := uitofp .f32 main_v38
  let main_v298 : FVec F S16x32x8400 .f32 := mulf main_v286 main_v286
  let main_v299 : FVec F S16x32x8400 .f32 := mulf main_v298 main_v298
  let main_v300 : FVec F S16x32x8400 .f32 := mulf main_v298 main_v299
  let main_v301 : FVec F S16x32x8400 .f32 := mulf main_v297 main_v300
  let main_v302 : FVec F S16x32x8400 .f32 := Host.sqrt main_v296
  let main_v303 : FVec F S16x32x8400 .f32 := mulf main_v301 main_v302
  let main_v304 : FVec F S16x32x8400 .f32 := uitofp .f32 main_v38
  let main_values : FVec F S16x32x10 .f32 := (fun x => (Host.topK S16x32x10 2 (FloatOps.cmpfTotal .gt) x sliceFits_S16x32x8400_S16x32x10).1) main_v303
  let main_indices : IVec S16x32x10 32 := (fun x => (Host.topK S16x32x10 2 (FloatOps.cmpfTotal .gt) x sliceFits_S16x32x8400_S16x32x10).2) main_v303
  let main_v305 : FVec F S16x32x9 .f32 := (extractStridedSlice S16x32x9 ![0, 0, 0] · slices_S16x32x10_S16x32x9_0_0_0) main_values
  let main_v306 : FVec F S16x32x9 .f32 := (extractStridedSlice S16x32x9 ![0, 0, 1] · slices_S16x32x10_S16x32x9_0_0_1) main_values
  let main_v307 : IVec S16x32x9 1 := cmpf .ogt main_v305 main_v306
  let main_v308 : FVec F S16x32x9 .f32 := (extractStridedSlice S16x32x9 ![0, 0, 1] · slices_S16x32x10_S16x32x9_0_0_1) main_values
  let main_cst_37 : FVec F S_ .f32 := constant S_ .f32 0x00000000#32
  let main_v309 : FVec F S16x32x9 .f32 := broadcastInDim S16x32x9 ![] bcast_S_S16x32x9 main_cst_37
  let main_v310 : IVec S16x32x9 1 := cmpf .ole main_v308 main_v309
  let main_v311 : IVec S16x32x9 1 := ori main_v307 main_v310
  let main_v312 : FVec F S16x32x1 .f32 := (extractStridedSlice S16x32x1 ![0, 0, 0] · slices_S16x32x5_S16x32x1_0_0_0) main_arg3
  let main_v313 : FVec F S16x32 .f32 := shapeCast S16x32 main_v312 shapeCasts_S16x32x1_S16x32
  let main_cst_38 : FVec F S_ .f32 := constant S_ .f32 0x42A00000#32
  let main_v314 : FVec F S16x32 .f32 := broadcastInDim S16x32 ![] bcast_S_S16x32 main_cst_38
  let main_v315 : IVec S16x32 1 := cmpf .olt main_v313 main_v314
  let main_c_39 : IVec S_ 1 := constantI S_ 1 1#1
  fn_part15 (F := F) main_arg1 main_arg5 main_v311 main_v315 main_c_39

def fn_part13 {F : FTy → Type} [FloatOps F] (main_arg0 : FVec F S16x8400x80 .f32) (main_arg1 : FVec F S16x8400x4x16 .f32) (main_arg3 : FVec F S16x32x5 .f32) (main_arg5 : FVec F S8400 .f32) (main_v4 : IVec S16x32 32) (main_v38 : IVec S16x32x8400 1) (main_v104 : FVec F S16x32x8400 .f32) (main_v139 : FVec F S16x32x8400 .f32) (main_v172 : FVec F S16x32x8400 .f32) (main_v272 : FVec F S16x32x8400 .f32) (main_v275 : FVec F S16x32x8400 .f32) (main_v276 : FVec F S16x32x8400 .f32) : IVec S_ 1 :=
  let main_v277 : FVec F S16x32x8400 .f32 := addf main_v275 main_v276
  let main_v278 : FVec F S16x32x8400 .f32 := Host.divf main_v272 main_v277
  let main_v279 : FVec F S16x32x8400 .f32 := Host.divf main_v172 main_v139
  let main_v280 : FVec F S16x32x8400 .f32 := subf main_v104 main_v279
  let main_v281 : FVec F S16x32x8400 .f32 := mulf main_v278 main_v272
  let main_v282 : FVec F S16x32x8400 .f32 := subf main_v280 main_v281
  let main_cst_33 : FVec F S_ .f32 := constant S_ .f32 0x00000000#32
  let main_v283 : FVec F S16x32x8400 .f32 := broadcastInDim S16x32x8400 ![] bcast_S_S16x32x8400 main_cst_33
  let main_v284 : FVec F S16x32x8400 .f32 := maximumf main_v282 main_v283
  let main_cst_34 : FVec F S_ .f32 := constant S_ .f32 0x3F800000#32
  let main_v285 : FVec F S16x32x8400 .f32 := broadcastInDim S16x32x8400 ![] bcast_S_S16x32x8400 main_cst_34
  let main_v286 : FVec F S16x32x8400 .f32 := minimumf main_v284 main_v285
  let main_v287 : FVec F S16x8400x80 .f32 := Host.negf main_arg0
  let main_v288 : FVec F S16x8400x80 .f32 := Host.exp main_v287
  let main_cst_35 : FVec F S_ .f32 := constant S_ .f32 0x3F800000#32
  let main_v289 : FVec F S16x8400x80 .f32 := broadcastInDim S16x8400x80 ![] bcast_S_S16x8400x80 main_cst_35
  let main_v290 : FVec F S16x8400x80 .f32 := addf main_v289 main_v288
  let main_cst_36 : FVec F S_ .f32 := constant S_ .f32 0x3F800000#32
  let main_v291 : FVec F S16x8400x80 .f32 := broadcastInDim S16x8400x80 ![] bcast_S_S16x8400x80 main_cst_36
  let main_v292 : FVec F S16x8400x80 .f32 := Host.divf main_v291 main_v290
  let main_v293 : FVec F S16x80x8400 .f32 := (transpose S16x80x8400 [0, 2, 1] · transposes_S16x8400x80_S16x80x8400_0_2_1) main_v292
  let main_v294 : IVec S16x32x1 32 := broadcastInDim S16x32x1 ![0, 1] bcast_S16x32_S16x32x1_0_1 main_v4
  let main_v295 : IVec S16x32x8400 32 := broadcastInDim S16x32x8400 ![0, 1, 2] bcast_S16x32x1_S16x32x8400_0_1_2 main_v294
  let main_v296 : FVec F S16x32x8400 .f32 := fn_take_along_axis (F := F) main_v293 main_v295
  fn_part14 (F := F) main_arg1 main_arg3 main_arg5 main_v38 main_v286 main_v296

def fn_part12 {F : FTy → Type} [FloatOps F] (main_arg0 : FVec F S16x8400x80 .f32) (main_arg1 : FVec F S16x8400x4x16 .f32) (main_arg3 : FVec F S16x32x5 .f32) (main_arg5 : FVec F S8400 .f32) (main_v4 : IVec S16x32 32) (main_v38 : IVec S16x32x8400 1) (main_v104 : FVec F S16x32x8400 .f32) (main_v139 : FVec F S16x32x8400 .f32) (main_v172 : FVec F S16x32x8400 .f32) (main_v233 : FVec F S16x32x1 .f32) (main_v236 : IVec S16x1x8400 1) (main_v239 : FVec F S16x1x8400 .f32) (main_v240 : FVec F S16x1x8400 .f32) (main_v257 : FVec F S16x1x8400 .f32) (main_cst_27 : FVec F S_ .f32) : IVec S_ 1 :=
  let main_v258 : FVec F S16x1x8400 .f32 := broadcastInDim S16x1x8400 ![] bcast_S_S16x1x8400 main_cst_27
  let main_v259 : FVec F S16x1x8400 .f32 := addf main_v257 main_v258
  let main_v260 : FVec F S16x1x8400 .f32 := mulf main_v259 main_v240
  let main_cst_28 : FVec F S_ .f32 := constant S_ .f32 0x3F7FFFF6#32
  let main_v261 : FVec F S16x1x8400 .f32 := broadcastInDim S16x1x8400 ![] bcast_S_S16x1x8400 main_cst_28
  let main_v262 : FVec F S16x1x8400 .f32 := addf main_v260 main_v261
  let main_v263 : FVec F S16x1x8400 .f32 := mulf main_v262 main_v239
  let main_cst_29 : FVec F S_ .f32 := constant S_ .f32 0x3FC90FDB#32
  let main_v264 : FVec F S16x1x8400 .f32 := broadcastInDim S16x1x8400 ![] bcast_S_S16x1x8400 main_cst_29
  let main_v265 : FVec F S16x1x8400 .f32 := subf main_v264 main_v263
  let main_v266 : FVec F S16x1x8400 .f32 := fn_where_0 (F := F) main_v236 main_v265 main_v263
  let main_v267 : FVec F S16x32x8400 .f32 := broadcastInDim S16x32x8400 ![0, 1, 2] bcast_S16x32x1_S16x32x8400_0_1_2 main_v233
  let main_v268 : FVec F S16x32x8400 .f32 := broadcastInDim S16x32x8400 ![0, 1, 2] bcast_S16x1x8400_S16x32x8400_0_1_2 main_v266
  let main_v269 : FVec F S16x32x8400 .f32 := subf main_v267 main_v268
  let main_v270 : FVec F S16x32x8400 .f32 := mulf main_v269 main_v269
  let main_cst_30 : FVec F S_ .f32 := constant S_ .f32 0x3ECF817B#32
  let main_v271 : FVec F S16x32x8400 .f32 := broadcastInDim S16x32x8400 ![] bcast_S_S16x32x8400 main_cst_30
  let main_v272 : FVec F S16x32x8400 .f32 := mulf main_v271 main_v270
  let main_cst_31 : FVec F S_ .f32 := constant S_ .f32 0x3F800000#32
  let main_v273 : FVec F S16x32x8400 .f32 := broadcastInDim S16x32x8400 ![] bcast_S_S16x32x8400 main_cst_31
  let main_v274 : FVec F S16x32x8400 .f32 := subf main_v273 main_v104
  let main_v275 : FVec F S16x32x8400 .f32 := addf main_v274 main_v272
  let main_cst_32 : FVec F S_ .f32 := constant S_ .f32 0x3089705F#32
  let main_v276 : FVec F S16x32x8400 .f32 := broadcastInDim S16x32x8400 ![] bcast_S_S16x32x8400 main_cst_32
  fn_part13 (F := F) main_arg0 main_arg1 main_arg3 main_arg5 main_v4 main_v38 main_v104 main_v139 main_v172 main_v272 main_v275 main_v276

def fn_part11 {F : FTy → Type} [FloatOps F] (main_arg0 : FVec F S16x8400x80 .f32) (main_arg1 : FVec F S16x8400x4x16 .f32) (main_arg3 : FVec F S16x32x5 .f32) (main_arg5 : FVec F S8400 .f32) (main_v4 : IVec S16x32 32) (main_v38 : IVec S16x32x8400 1) (main_v104 : FVec F S16x32x8400 .f32) (main_v139 : FVec F S16x32x8400 .f32) (main_v172 : FVec F S16x32x8400 .f32) (main_v233 : FVec F S16x32x1 .f32) (main_v236 : IVec S16x1x8400 1) (main_v239 : FVec F S16x1x8400 .f32) (main_v240 : FVec F S16x1x8400 .f32) : IVec S_ 1 :=
  let main_cst_21 : FVec F S_ .f32 := constant S_ .f32 0xBB8B852F#32
  let main_v241 : FVec F S16x1x8400 .f32 := broadcastInDim S16x1x8400 ![] bcast_S_S16x1x8400 main_cst_21
  let main_v242 : FVec F S16x1x8400 .f32 := mulf main_v241 main_v240
  let main_cst_22 : FVec F S_ .f32 := constant S_ .f32 0x3CB8E0FC#32
  let main_v243 : FVec F S16x1x8400 .f32 := broadcastInDim S16x1x8400 ![] bcast_S_S16x1x8400 main_cst_22
  let main_v244 : FVec F S16x1x8400 .f32 := addf main_v242 main_v243
  let main_v245 : FVec F S16x1x8400 .f32 := mulf main_v244 main_v240
  let main_cst_23 : FVec F S_ .f32 := constant S_ .f32 0xBD68FDE7#32
  let main_v246 : FVec F S16x1x8400 .f32 := broadcastInDim S16x1x8400 ![] bcast_S_S16x1x8400 main_cst_23
  let main_v247 : FVec F S16x1x8400 .f32 := addf main_v245 main_v246
  let main_v248 : FVec F S16x1x8400 .f32 := mulf main_v247 main_v240
  let main_cst_24 : FVec F S_ .f32 := constant S_ .f32 0x3DC6D9A1#32
  let main_v249 : FVec F S16x1x8400 .f32 := broadcastInDim S16x1x8400 ![] bcast_S_S16x1x8400 main_cst_24
  let main_v250 : FVec F S16x1x8400 .f32 := addf main_v248 main_v249
  let main_v251 : FVec F S16x1x8400 .f32 := mulf main_v250 main_v240
  let main_cst_25 : FVec F S_ .f32 := constant S_ .f32 0xBE0EAD3F#32
  let main_v252 : FVec F S16x1x8400 .f32 := broadcastInDim S16x1x8400 ![] bcast_S_S16x1x8400 main_cst_25
  let main_v253 : FVec F S16x1x8400 .f32 := addf main_v251 main_v252
  let main_v254 : FVec F S16x1x8400 .f32 := mulf main_v253 main_v240
  let main_cst_26 : FVec F S_ .f32 := constant S_ .f32 0x3E4C4CA9#32
  let main_v255 : FVec F S16x1x8400 .f32 := broadcastInDim S16x1x8400 ![] bcast_S_S16x1x8400 main_cst_26
  let main_v256 : FVec F S16x1x8400 .f32 := addf main_v254 main_v255
  let main_v257 : FVec F S16x1x8400 .f32 := mulf main_v256 main_v240
  let main_cst_27 : FVec F S_ .f32 := constant S_ .f32 0xBEAAA697#32
  fn_part12 (F := F) main_arg0 main_arg1 main_arg3 main_arg5 main_v4 main_v38 main_v104 main_v139 main_v172 main_v233 main_v236 main_v239 main_v240 main_v257 main_cst_27

def fn_part10 {F : FTy → Type} [FloatOps F] (main_arg0 : FVec F S16x8400x80 .f32) (main_arg1 : FVec F S16x8400x4x16 .f32) (main_arg3 : FVec F S16x32x5 .f32) (main_arg5 : FVec F S8400 .f32) (main_v4 : IVec S16x32 32) (main_v38 : IVec S16x32x8400 1) (main_v104 : FVec F S16x32x8400 .f32) (main_v139 : FVec F S16x32x8400 .f32) (main_v172 : FVec F S16x32x8400 .f32) (main_v193 : FVec F S16x1x8400 .f32) (main_v200 : FVec F S16x1x8400 .f32) (main_v203 : IVec S16x32x1 1) (main_v206 : FVec F S16x32x1 .f32) (main_v207 : FVec F S16x32x1 .f32) (main_v221 : FVec F S16x32x1 .f32) (main_cst_15 : FVec F S_ .f32) : IVec S_ 1 :=
  let main_v222 : FVec F S16x32x1 .f32 := broadcastInDim S16x32x1 ![] bcast_S_S16x32x1 main_cst_15
  let main_v223 : FVec F S16x32x1 .f32 := addf main_v221 main_v222
  let main_v224 : FVec F S16x32x1 .f32 := mulf main_v223 main_v207
  let main_cst_16 : FVec F S_ .f32 := constant S_ .f32 0xBEAAA697#32
  let main_v225 : FVec F S16x32x1 .f32 := broadcastInDim S16x32x1 ![] bcast_S_S16x32x1 main_cst_16
  let main_v226 : FVec F S16x32x1 .f32 := addf main_v224 main_v225
  let main_v227 : FVec F S16x32x1 .f32 := mulf main_v226 main_v207
  let main_cst_17 : FVec F S_ .f32 := constant S_ .f32 0x3F7FFFF6#32
  let main_v228 : FVec F S16x32x1 .f32 := broadcastInDim S16x32x1 ![] bcast_S_S16x32x1 main_cst_17
  let main_v229 : FVec F S16x32x1 .f32 := addf main_v227 main_v228
  let main_v230 : FVec F S16x32x1 .f32 := mulf main_v229 main_v206
  let main_cst_18 : FVec F S_ .f32 := constant S_ .f32 0x3FC90FDB#32
  let main_v231 : FVec F S16x32x1 .f32 := broadcastInDim S16x32x1 ![] bcast_S_S16x32x1 main_cst_18
  let main_v232 : FVec F S16x32x1 .f32 := subf main_v231 main_v230
  let main_v233 : FVec F S16x32x1 .f32 := fn_where (F := F) main_v203 main_v232 main_v230
  let main_v234 : FVec F S16x1x8400 .f32 := Host.divf main_v193 main_v200
  let main_cst_19 : FVec F S_ .f32 := constant S_ .f32 0x3F800000#32
  let main_v235 : FVec F S16x1x8400 .f32 := broadcastInDim S16x1x8400 ![] bcast_S_S16x1x8400 main_cst_19
  let main_v236 : IVec S16x1x8400 1 := cmpf .ogt main_v234 main_v235
  let main_cst_20 : FVec F S_ .f32 := constant S_ .f32 0x3F800000#32
  let main_v237 : FVec F S16x1x8400 .f32 := broadcastInDim S16x1x8400 ![] bcast_S_S16x1x8400 main_cst_20
  let main_v238 : FVec F S16x1x8400 .f32 := Host.divf main_v237 main_v234
  let main_v239 : FVec F S16x1x8400 .f32 := fn_where_0 (F := F) main_v236 main_v238 main_v234
  let main_v240 : FVec F S16x1x8400 .f32 := mulf main_v239 main_v239
  fn_part11 (F := F) main_arg0 main_arg1 main_arg3 main_arg5 main_v4 main_v38 main_v104 main_v139 main_v172 main_v233 main_v236 main_v239 main_v240

def fn_part9 {F : FTy → Type} [FloatOps F] (main_arg0 : FVec F S16x8400x80 .f32) (main_arg1 : FVec F S16x8400x4x16 .f32) (main_arg3 : FVec F S16x32x5 .f32) (main_arg5 : FVec F S8400 .f32) (main_v4 : IVec S16x32 32) (main_v38 : IVec S16x32x8400 1) (main_v104 : FVec F S16x32x8400 .f32) (main_v139 : FVec F S16x32x8400 .f32) (main_v172 : FVec F S16x32x8400 .f32) (main_v193 : FVec F S16x1x8400 .f32) (main_v200 : FVec F S16x1x8400 .f32) (main_v201 : FVec F S16x32x1 .f32) (main_v203 : IVec S16x32x1 1) (main_cst_9 : FVec F S_ .f32) : IVec S_ 1 :=
  let main_v204 : FVec F S16x32x1 .f32 := broadcastInDim S16x32x1 ![] bcast_S_S16x32x1 main_cst_9
  let main_v205 : FVec F S16x32x1 .f32 := Host.divf main_v204 main_v201
  let main_v206 : FVec F S16x32x1 .f32 := fn_where (F := F) main_v203 main_v205 main_v201
  let main_v207 : FVec F S16x32x1 .f32 := mulf main_v206 main_v206
  let main_cst_10 : FVec F S_ .f32 := constant S_ .f32 0xBB8B852F#32
  let main_v208 : FVec F S16x32x1 .f32 := broadcastInDim S16x32x1 ![] bcast_S_S16x32x1 main_cst_10
  let main_v209 : FVec F S16x32x1 .f32 := mulf main_v208 main_v207
  let main_cst_11 : FVec F S_ .f32 := constant S_ .f32 0x3CB8E0FC#32
  let main_v210 : FVec F S16x32x1 .f32 := broadcastInDim S16x32x1 ![] bcast_S_S16x32x1 main_cst_11
  let main_v211 : FVec F S16x32x1 .f32 := addf main_v209 main_v210
  let main_v212 : FVec F S16x32x1 .f32 := mulf main_v211 main_v207
  let main_cst_12 : FVec F S_ .f32 := constant S_ .f32 0xBD68FDE7#32
  let main_v213 : FVec F S16x32x1 .f32 := broadcastInDim S16x32x1 ![] bcast_S_S16x32x1 main_cst_12
  let main_v214 : FVec F S16x32x1 .f32 := addf main_v212 main_v213
  let main_v215 : FVec F S16x32x1 .f32 := mulf main_v214 main_v207
  let main_cst_13 : FVec F S_ .f32 := constant S_ .f32 0x3DC6D9A1#32
  let main_v216 : FVec F S16x32x1 .f32 := broadcastInDim S16x32x1 ![] bcast_S_S16x32x1 main_cst_13
  let main_v217 : FVec F S16x32x1 .f32 := addf main_v215 main_v216
  let main_v218 : FVec F S16x32x1 .f32 := mulf main_v217 main_v207
  let main_cst_14 : FVec F S_ .f32 := constant S_ .f32 0xBE0EAD3F#32
  let main_v219 : FVec F S16x32x1 .f32 := broadcastInDim S16x32x1 ![] bcast_S_S16x32x1 main_cst_14
  let main_v220 : FVec F S16x32x1 .f32 := addf main_v218 main_v219
  let main_v221 : FVec F S16x32x1 .f32 := mulf main_v220 main_v207
  let main_cst_15 : FVec F S_ .f32 := constant S_ .f32 0x3E4C4CA9#32
  fn_part10 (F := F) main_arg0 main_arg1 main_arg3 main_arg5 main_v4 main_v38 main_v104 main_v139 main_v172 main_v193 main_v200 main_v203 main_v206 main_v207 main_v221 main_cst_15

def fn_part8 {F : FTy → Type} [FloatOps F] (main_arg0 : FVec F S16x8400x80 .f32) (main_arg1 : FVec F S16x8400x4x16 .f32) (main_arg3 : FVec F S16x32x5 .f32) (main_arg5 : FVec F S8400 .f32) (main_v4 : IVec S16x32 32) (main_v38 : IVec S16x32x8400 1) (main_v40 : FVec F S16x1x8400x4 .f32) (main_v104 : FVec F S16x32x8400 .f32) (main_v139 : FVec F S16x32x8400 .f32) (main_v172 : FVec F S16x32x8400 .f32) (main_v179 : FVec F S16x32x1 .f32) (main_v184 : FVec F S16x32x1 .f32) : IVec S_ 1 :=
  let main_cst_5 : FVec F S_ .f32 := constant S_ .f32 0x3089705F#32
  let main_v185 : FVec F S16x32x1 .f32 := broadcastInDim S16x32x1 ![] bcast_S_S16x32x1 main_cst_5
  let main_v186 : FVec F S16x32x1 .f32 := addf main_v184 main_v185
  let main_v187 : FVec F S16x1x8400x1 .f32 := (extractStridedSlice S16x1x8400x1 ![0, 0, 0, 2] · slices_S16x1x8400x4_S16x1x8400x1_0_0_0_2) main_v40
  let main_v188 : FVec F S16x1x8400 .f32 := shapeCast S16x1x8400 main_v187 shapeCasts_S16x1x8400x1_S16x1x8400
  let main_v189 : FVec F S16x1x8400x1 .f32 := (extractStridedSlice S16x1x8400x1 ![0, 0, 0, 0] · slices_S16x1x8400x4_S16x1x8400x1_0_0_0_0) main_v40
  let main_v190 : FVec F S16x1x8400 .f32 := shapeCast S16x1x8400 main_v189 shapeCasts_S16x1x8400x1_S16x1x8400
  let main_v191 : FVec F S16x1x8400 .f32 := subf main_v188 main_v190
  let main_cst_6 : FVec F S_ .f32 := constant S_ .f32 0x3089705F#32
  let main_v192 : FVec F S16x1x8400 .f32 := broadcastInDim S16x1x8400 ![] bcast_S_S16x1x8400 main_cst_6
  let main_v193 : FVec F S16x1x8400 .f32 := addf main_v191 main_v192
  let main_v194 : FVec F S16x1x8400x1 .f32 := (extractStridedSlice S16x1x8400x1 ![0, 0, 0, 3] · slices_S16x1x8400x4_S16x1x8400x1_0_0_0_3) main_v40
  let main_v195 : FVec F S16x1x8400 .f32 := shapeCast S16x1x8400 main_v194 shapeCasts_S16x1x8400x1_S16x1x8400
  let main_v196 : FVec F S16x1x8400x1 .f32 := (extractStridedSlice S16x1x8400x1 ![0, 0, 0, 1] · slices_S16x1x8400x4_S16x1x8400x1_0_0_0_1) main_v40
  let main_v197 : FVec F S16x1x8400 .f32 := shapeCast S16x1x8400 main_v196 shapeCasts_S16x1x8400x1_S16x1x8400
  let main_v198 : FVec F S16x1x8400 .f32 := subf main_v195 main_v197
  let main_cst_7 : FVec F S_ .f32 := constant S_ .f32 0x3089705F#32
  let main_v199 : FVec F S16x1x8400 .f32 := broadcastInDim S16x1x8400 ![] bcast_S_S16x1x8400 main_cst_7
  let main_v200 : FVec F S16x1x8400 .f32 := addf main_v198 main_v199
  let main_v201 : FVec F S16x32x1 .f32 := Host.divf main_v179 main_v186
  let main_cst_8 : FVec F S_ .f32 := constant S_ .f32 0x3F800000#32
  let main_v202 : FVec F S16x32x1 .f32 := broadcastInDim S16x32x1 ![] bcast_S_S16x32x1 main_cst_8
  let main_v203 : IVec S16x32x1 1 := cmpf .ogt main_v201 main_v202
  let main_cst_9 : FVec F S_ .f32 := constant S_ .f32 0x3F800000#32
  fn_part9 (F := F) main_arg0 main_arg1 main_arg3 main_arg5 main_v4 main_v38 main_v104 main_v139 main_v172 main_v193 main_v200 main_v201 main_v203 main_cst_9

def fn_part7 {F : FTy → Type} [FloatOps F] (main_arg0 : FVec F S16x8400x80 .f32) (main_arg1 : FVec F S16x8400x4x16 .f32) (main_arg3 : FVec F S16x32x5 .f32) (main_arg5 : FVec F S8400 .f32) (main_v4 : IVec S16x32 32) (main_v38 : IVec S16x32x8400 1) (main_v39 : FVec F S16x32x1x4 .f32) (main_v40 : FVec F S16x1x8400x4 .f32) (main_v104 : FVec F S16x32x8400 .f32) (main_v139 : FVec F S16x32x8400 .f32) (main_v154 : FVec F S16x32x8400 .f32) (main_v161 : FVec F S16x1x8400 .f32) (main_v162 : FVec F S16x32x8400 .f32) : IVec S_ 1 :=
  let main_v163 : FVec F S16x32x8400 .f32 := broadcastInDim S16x32x8400 ![0, 1, 2] bcast_S16x1x8400_S16x32x8400_0_1_2 main_v161
  let main_v164 : FVec F S16x32x8400 .f32 := subf main_v162 main_v163
  let main_v165 : FVec F S16x1x8400x1 .f32 := (extractStridedSlice S16x1x8400x1 ![0, 0, 0, 3] · slices_S16x1x8400x4_S16x1x8400x1_0_0_0_3) main_v40
  let main_v166 : FVec F S16x1x8400 .f32 := shapeCast S16x1x8400 main_v165 shapeCasts_S16x1x8400x1_S16x1x8400
  let main_v167 : FVec F S16x32x8400 .f32 := broadcastInDim S16x32x8400 ![0, 1, 2] bcast_S16x1x8400_S16x32x8400_0_1_2 main_v166
  let main_v168 : FVec F S16x32x8400 .f32 := subf main_v164 main_v167
  let main_v169 : FVec F S16x32x8400 .f32 := mulf main_v168 main_v168
  let main_v170 : FVec F S16x32x8400 .f32 := addf main_v154 main_v169
  let main_cst_3 : FVec F S_ .f32 := constant S_ .f32 0x40800000#32
  let main_v171 : FVec F S16x32x8400 .f32 := broadcastInDim S16x32x8400 ![] bcast_S_S16x32x8400 main_cst_3
  let main_v172 : FVec F S16x32x8400 .f32 := Host.divf main_v170 main_v171
  let main_v173 : FVec F S16x32x1x1 .f32 := (extractStridedSlice S16x32x1x1 ![0, 0, 0, 2] · slices_S16x32x1x4_S16x32x1x1_0_0_0_2) main_v39
  let main_v174 : FVec F S16x32x1 .f32 := shapeCast S16x32x1 main_v173 shapeCasts_S16x32x1x1_S16x32x1
  let main_v175 : FVec F S16x32x1x1 .f32 := (extractStridedSlice S16x32x1x1 ![0, 0, 0, 0] · slices_S16x32x1x4_S16x32x1x1_0_0_0_0) main_v39
  let main_v176 : FVec F S16x32x1 .f32 := shapeCast S16x32x1 main_v175 shapeCasts_S16x32x1x1_S16x32x1
  let main_v177 : FVec F S16x32x1 .f32 := subf main_v174 main_v176
  let main_cst_4 : FVec F S_ .f32 := constant S_ .f32 0x3089705F#32
  let main_v178 : FVec F S16x32x1 .f32 := broadcastInDim S16x32x1 ![] bcast_S_S16x32x1 main_cst_4
  let main_v179 : FVec F S16x32x1 .f32 := addf main_v177 main_v178
  let main_v180 : FVec F S16x32x1x1 .f32 := (extractStridedSlice S16x32x1x1 ![0, 0, 0, 3] · slices_S16x32x1x4_S16x32x1x1_0_0_0_3) main_v39
  let main_v181 : FVec F S16x32x1 .f32 := shapeCast S16x32x1 main_v180 shapeCasts_S16x32x1x1_S16x32x1
  let main_v182 : FVec F S16x32x1x1 .f32 := (extractStridedSlice S16x32x1x1 ![0, 0, 0, 1] · slices_S16x32x1x4_S16x32x1x1_0_0_0_1) main_v39
  let main_v183 : FVec F S16x32x1 .f32 := shapeCast S16x32x1 main_v182 shapeCasts_S16x32x1x1_S16x32x1
  let main_v184 : FVec F S16x32x1 .f32 := subf main_v181 main_v183
  fn_part8 (F := F) main_arg0 main_arg1 main_arg3 main_arg5 main_v4 main_v38 main_v40 main_v104 main_v139 main_v172 main_v179 main_v184

def fn_part6 {F : FTy → Type} [FloatOps F] (main_arg0 : FVec F S16x8400x80 .f32) (main_arg1 : FVec F S16x8400x4x16 .f32) (main_arg3 : FVec F S16x32x5 .f32) (main_arg5 : FVec F S8400 .f32) (main_v4 : IVec S16x32 32) (main_v38 : IVec S16x32x8400 1) (main_v39 : FVec F S16x32x1x4 .f32) (main_v40 : FVec F S16x1x8400x4 .f32) (main_v104 : FVec F S16x32x8400 .f32) (main_v137 : FVec F S16x32x8400 .f32) (main_v138 : FVec F S16x32x8400 .f32) : IVec S_ 1 :=
  let main_v139 : FVec F S16x32x8400 .f32 := addf main_v137 main_v138
  let main_v140 : FVec F S16x32x1x1 .f32 := (extractStridedSlice S16x32x1x1 ![0, 0, 0, 0] · slices_S16x32x1x4_S16x32x1x1_0_0_0_0) main_v39
  let main_v141 : FVec F S16x32x1 .f32 := shapeCast S16x32x1 main_v140 shapeCasts_S16x32x1x1_S16x32x1
  let main_v142 : FVec F S16x32x1x1 .f32 := (extractStridedSlice S16x32x1x1 ![0, 0, 0, 2] · slices_S16x32x1x4_S16x32x1x1_0_0_0_2) main_v39
  let main_v143 : FVec F S16x32x1 .f32 := shapeCast S16x32x1 main_v142 shapeCasts_S16x32x1x1_S16x32x1
  let main_v144 : FVec F S16x32x1 .f32 := addf main_v141 main_v143
  let main_v145 : FVec F S16x1x8400x1 .f32 := (extractStridedSlice S16x1x8400x1 ![0, 0, 0, 0] · slices_S16x1x8400x4_S16x1x8400x1_0_0_0_0) main_v40
  let main_v146 : FVec F S16x1x8400 .f32 := shapeCast S16x1x8400 main_v145 shapeCasts_S16x1x8400x1_S16x1x8400
  let main_v147 : FVec F S16x32x8400 .f32 := broadcastInDim S16x32x8400 ![0, 1, 2] bcast_S16x32x1_S16x32x8400_0_1_2 main_v144
  let main_v148 : FVec F S16x32x8400 .f32 := broadcastInDim S16x32x8400 ![0, 1, 2] bcast_S16x1x8400_S16x32x8400_0_1_2 main_v146
  let main_v149 : FVec F S16x32x8400 .f32 := subf main_v147 main_v148
  let main_v150 : FVec F S16x1x8400x1 .f32 := (extractStridedSlice S16x1x8400x1 ![0, 0, 0, 2] · slices_S16x1x8400x4_S16x1x8400x1_0_0_0_2) main_v40
  let main_v151 : FVec F S16x1x8400 .f32 := shapeCast S16x1x8400 main_v150 shapeCasts_S16x1x8400x1_S16x1x8400
  let main_v152 : FVec F S16x32x8400 .f32 := broadcastInDim S16x32x8400 ![0, 1, 2] bcast_S16x1x8400_S16x32x8400_0_1_2 main_v151
  let main_v153 : FVec F S16x32x8400 .f32 := subf main_v149 main_v152
  let main_v154 : FVec F S16x32x8400 .f32 := mulf main_v153 main_v153
  let main_v155 : FVec F S16x32x1x1 .f32 := (extractStridedSlice S16x32x1x1 ![0, 0, 0, 1] · slices_S16x32x1x4_S16x32x1x1_0_0_0_1) main_v39
  let main_v156 : FVec F S16x32x1 .f32 := shapeCast S16x32x1 main_v155 shapeCasts_S16x32x1x1_S16x32x1
  let main_v157 : FVec F S16x32x1x1 .f32 := (extractStridedSlice S16x32x1x1 ![0, 0, 0, 3] · slices_S16x32x1x4_S16x32x1x1_0_0_0_3) main_v39
  let main_v158 : FVec F S16x32x1 .f32 := shapeCast S16x32x1 main_v157 shapeCasts_S16x32x1x1_S16x32x1
  let main_v159 : FVec F S16x32x1 .f32 := addf main_v156 main_v158
  let main_v160 : FVec F S16x1x8400x1 .f32 := (extractStridedSlice S16x1x8400x1 ![0, 0, 0, 1] · slices_S16x1x8400x4_S16x1x8400x1_0_0_0_1) main_v40
  let main_v161 : FVec F S16x1x8400 .f32 := shapeCast S16x1x8400 main_v160 shapeCasts_S16x1x8400x1_S16x1x8400
  let main_v162 : FVec F S16x32x8400 .f32 := broadcastInDim S16x32x8400 ![0, 1, 2] bcast_S16x32x1_S16x32x8400_0_1_2 main_v159
  fn_part7 (F := F) main_arg0 main_arg1 main_arg3 main_arg5 main_v4 main_v38 main_v39 main_v40 main_v104 main_v139 main_v154 main_v161 main_v162

def fn_part5 {F : FTy → Type} [FloatOps F] (main_arg0 : FVec F S16x8400x80 .f32) (main_arg1 : FVec F S16x8400x4x16 .f32) (main_arg3 : FVec F S16x32x5 .f32) (main_arg5 : FVec F S8400 .f32) (main_v4 : IVec S16x32 32) (main_v38 : IVec S16x32x8400 1) (main_v39 : FVec F S16x32x1x4 .f32) (main_v40 : FVec F S16x1x8400x4 .f32) (main_v104 : FVec F S16x32x8400 .f32) (main_v111 : FVec F S16x32x8400 .f32) (main_v113 : FVec F S16x32x1 .f32) (main_v115 : FVec F S16x1x8400 .f32) : IVec S_ 1 :=
  let main_v116 : FVec F S16x32x8400 .f32 := broadcastInDim S16x32x8400 ![0, 1, 2] bcast_S16x32x1_S16x32x8400_0_1_2 main_v113
  let main_v117 : FVec F S16x32x8400 .f32 := broadcastInDim S16x32x8400 ![0, 1, 2] bcast_S16x1x8400_S16x32x8400_0_1_2 main_v115
  let main_v118 : FVec F S16x32x8400 .f32 := minimumf main_v116 main_v117
  let main_v119 : FVec F S16x32x8400 .f32 := subf main_v111 main_v118
  let main_v120 : FVec F S16x32x1x1 .f32 := (extractStridedSlice S16x32x1x1 ![0, 0, 0, 3] · slices_S16x32x1x4_S16x32x1x1_0_0_0_3) main_v39
  let main_v121 : FVec F S16x32x1 .f32 := shapeCast S16x32x1 main_v120 shapeCasts_S16x32x1x1_S16x32x1
  let main_v122 : FVec F S16x1x8400x1 .f32 := (extractStridedSlice S16x1x8400x1 ![0, 0, 0, 3] · slices_S16x1x8400x4_S16x1x8400x1_0_0_0_3) main_v40
  let main_v123 : FVec F S16x1x8400 .f32 := shapeCast S16x1x8400 main_v122 shapeCasts_S16x1x8400x1_S16x1x8400
  let main_v124 : FVec F S16x32x8400 .f32 := broadcastInDim S16x32x8400 ![0, 1, 2] bcast_S16x32x1_S16x32x8400_0_1_2 main_v121
  let main_v125 : FVec F S16x32x8400 .f32 := broadcastInDim S16x32x8400 ![0, 1, 2] bcast_S16x1x8400_S16x32x8400_0_1_2 main_v123
  let main_v126 : FVec F S16x32x8400 .f32 := maximumf main_v124 main_v125
  let main_v127 : FVec F S16x32x1x1 .f32 := (extractStridedSlice S16x32x1x1 ![0, 0, 0, 1] · slices_S16x32x1x4_S16x32x1x1_0_0_0_1) main_v39
  let main_v128 : FVec F S16x32x1 .f32 := shapeCast S16x32x1 main_v127 shapeCasts_S16x32x1x1_S16x32x1
  let main_v129 : FVec F S16x1x8400x1 .f32 := (extractStridedSlice S16x1x8400x1 ![0, 0, 0, 1] · slices_S16x1x8400x4_S16x1x8400x1_0_0_0_1) main_v40
  let main_v130 : FVec F S16x1x8400 .f32 := shapeCast S16x1x8400 main_v129 shapeCasts_S16x1x8400x1_S16x1x8400
  let main_v131 : FVec F S16x32x8400 .f32 := broadcastInDim S16x32x8400 ![0, 1, 2] bcast_S16x32x1_S16x32x8400_0_1_2 main_v128
  let main_v132 : FVec F S16x32x8400 .f32 := broadcastInDim S16x32x8400 ![0, 1, 2] bcast_S16x1x8400_S16x32x8400_0_1_2 main_v130
  let main_v133 : FVec F S16x32x8400 .f32 := minimumf main_v131 main_v132
  let main_v134 : FVec F S16x32x8400 .f32 := subf main_v126 main_v133
  let main_v135 : FVec F S16x32x8400 .f32 := mulf main_v119 main_v119
  let main_v136 : FVec F S16x32x8400 .f32 := mulf main_v134 main_v134
  let main_v137 : FVec F S16x32x8400 .f32 := addf main_v135 main_v136
  let main_cst_2 : FVec F S_ .f32 := constant S_ .f32 0x3089705F#32
  let main_v138 : FVec F S16x32x8400 .f32 := broadcastInDim S16x32x8400 ![] bcast_S_S16x32x8400 main_cst_2
  fn_part6 (F := F) main_arg0 main_arg1 main_arg3 main_arg5 main_v4 main_v38 main_v39 main_v40 main_v104 main_v137 main_v138

def fn_part4 {F : FTy → Type} [FloatOps F] (main_arg0 : FVec F S16x8400x80 .f32) (main_arg1 : FVec F S16x8400x4x16 .f32) (main_arg3 : FVec F S16x32x5 .f32) (main_arg5 : FVec F S8400 .f32) (main_v4 : IVec S16x32 32) (main_v38 : IVec S16x32x8400 1) (main_v39 : FVec F S16x32x1x4 .f32) (main_v40 : FVec F S16x1x8400x4 .f32) (main_v75 : FVec F S16x32x8400 .f32) (main_v86 : FVec F S16x32x1 .f32) (main_v91 : FVec F S16x1x8400 .f32) (main_v92 : FVec F S16x1x8400x1 .f32) : IVec S_ 1 :=
  let main_v93 : FVec F S16x1x8400 .f32 := shapeCast S16x1x8400 main_v92 shapeCasts_S16x1x8400x1_S16x1x8400
  let main_v94 : FVec F S16x1x8400x1 .f32 := (extractStridedSlice S16x1x8400x1 ![0, 0, 0, 1] · slices_S16x1x8400x4_S16x1x8400x1_0_0_0_1) main_v40
  let main_v95 : FVec F S16x1x8400 .f32 := shapeCast S16x1x8400 main_v94 shapeCasts_S16x1x8400x1_S16x1x8400
  let main_v96 : FVec F S16x1x8400 .f32 := subf main_v93 main_v95
  let main_v97 : FVec F S16x1x8400 .f32 := mulf main_v91 main_v96
  let main_v98 : FVec F S16x32x8400 .f32 := broadcastInDim S16x32x8400 ![0, 1, 2] bcast_S16x32x1_S16x32x8400_0_1_2 main_v86
  let main_v99 : FVec F S16x32x8400 .f32 := broadcastInDim S16x32x8400 ![0, 1, 2] bcast_S16x1x8400_S16x32x8400_0_1_2 main_v97
  let main_v100 : FVec F S16x32x8400 .f32 := addf main_v98 main_v99
  let main_v101 : FVec F S16x32x8400 .f32 := subf main_v100 main_v75
  let main_cst_1 : FVec F S_ .f32 := constant S_ .f32 0x3089705F#32
  let main_v102 : FVec F S16x32x8400 .f32 := broadcastInDim S16x32x8400 ![] bcast_S_S16x32x8400 main_cst_1
  let main_v103 : FVec F S16x32x8400 .f32 := addf main_v101 main_v102
  let main_v104 : FVec F S16x32x8400 .f32 := Host.divf main_v75 main_v103
  let main_v105 : FVec F S16x32x1x1 .f32 := (extractStridedSlice S16x32x1x1 ![0, 0, 0, 2] · slices_S16x32x1x4_S16x32x1x1_0_0_0_2) main_v39
  let main_v106 : FVec F S16x32x1 .f32 := shapeCast S16x32x1 main_v105 shapeCasts_S16x32x1x1_S16x32x1
  let main_v107 : FVec F S16x1x8400x1 .f32 := (extractStridedSlice S16x1x8400x1 ![0, 0, 0, 2] · slices_S16x1x8400x4_S16x1x8400x1_0_0_0_2) main_v40
  let main_v108 : FVec F S16x1x8400 .f32 := shapeCast S16x1x8400 main_v107 shapeCasts_S16x1x8400x1_S16x1x8400
  let main_v109 : FVec F S16x32x8400 .f32 := broadcastInDim S16x32x8400 ![0, 1, 2] bcast_S16x32x1_S16x32x8400_0_1_2 main_v106
  let main_v110 : FVec F S16x32x8400 .f32 := broadcastInDim S16x32x8400 ![0, 1, 2] bcast_S16x1x8400_S16x32x8400_0_1_2 main_v108
  let main_v111 : FVec F S16x32x8400 .f32 := maximumf main_v109 main_v110
  let main_v112 : FVec F S16x32x1x1 .f32 := (extractStridedSlice S16x32x1x1 ![0, 0, 0, 0] · slices_S16x32x1x4_S16x32x1x1_0_0_0_0) main_v39
  let main_v113 : FVec F S16x32x1 .f32 := shapeCast S16x32x1 main_v112 shapeCasts_S16x32x1x1_S16x32x1
  let main_v114 : FVec F S16x1x8400x1 .f32 := (extractStridedSlice S16x1x8400x1 ![0, 0, 0, 0] · slices_S16x1x8400x4_S16x1x8400x1_0_0_0_0) main_v40
  let main_v115 : FVec F S16x1x8400 .f32 := shapeCast S16x1x8400 main_v114 shapeCasts_S16x1x8400x1_S16x1x8400
  fn_part5 (F := F) main_arg0 main_arg1 main_arg3 main_arg5 main_v4 main_v38 main_v39 main_v40 main_v104 main_v111 main_v113 main_v115

def fn_part3 {F : FTy → Type} [FloatOps F] (main_arg0 : FVec F S16x8400x80 .f32) (main_arg1 : FVec F S16x8400x4x16 .f32) (main_arg3 : FVec F S16x32x5 .f32) (main_arg5 : FVec F S8400 .f32) (main_v4 : IVec S16x32 32) (main_v38 : IVec S16x32x8400 1) (main_v39 : FVec F S16x32x1x4 .f32) (main_v40 : FVec F S16x1x8400x4 .f32) (main_v54 : FVec F S16x32x8400 .f32) (main_v68 : FVec F S16x32x8400 .f32) (main_v69 : FVec F S16x32x8400 .f32) (main_cst : FVec F S_ .f32) : IVec S_ 1 :=
  let main_v70 : FVec F S16x32x8400 .f32 := broadcastInDim S16x32x8400 ![] bcast_S_S16x32x8400 main_cst
  let main_v71 : FVec F S16x32x8400 .f32 := maximumf main_v69 main_v70
  let main_v72 : FVec F S16x32x8400 .f32 := subf main_v68 main_v54
  let main_cst_0 : FVec F S_ .f32 := constant S_ .f32 0x00000000#32
  let main_v73 : FVec F S16x32x8400 .f32 := broadcastInDim S16x32x8400 ![] bcast_S_S16x32x8400 main_cst_0
  let main_v74 : FVec F S16x32x8400 .f32 := maximumf main_v72 main_v73
  let main_v75 : FVec F S16x32x8400 .f32 := mulf main_v71 main_v74
  let main_v76 : FVec F S16x32x1x1 .f32 := (extractStridedSlice S16x32x1x1 ![0, 0, 0, 2] · slices_S16x32x1x4_S16x32x1x1_0_0_0_2) main_v39
  let main_v77 : FVec F S16x32x1 .f32 := shapeCast S16x32x1 main_v76 shapeCasts_S16x32x1x1_S16x32x1
  let main_v78 : FVec F S16x32x1x1 .f32 := (extractStridedSlice S16x32x1x1 ![0, 0, 0, 0] · slices_S16x32x1x4_S16x32x1x1_0_0_0_0) main_v39
  let main_v79 : FVec F S16x32x1 .f32 := shapeCast S16x32x1 main_v78 shapeCasts_S16x32x1x1_S16x32x1
  let main_v80 : FVec F S16x32x1 .f32 := subf main_v77 main_v79
  let main_v81 : FVec F S16x32x1x1 .f32 := (extractStridedSlice S16x32x1x1 ![0, 0, 0, 3] · slices_S16x32x1x4_S16x32x1x1_0_0_0_3) main_v39
  let main_v82 : FVec F S16x32x1 .f32 := shapeCast S16x32x1 main_v81 shapeCasts_S16x32x1x1_S16x32x1
  let main_v83 : FVec F S16x32x1x1 .f32 := (extractStridedSlice S16x32x1x1 ![0, 0, 0, 1] · slices_S16x32x1x4_S16x32x1x1_0_0_0_1) main_v39
  let main_v84 : FVec F S16x32x1 .f32 := shapeCast S16x32x1 main_v83 shapeCasts_S16x32x1x1_S16x32x1
  let main_v85 : FVec F S16x32x1 .f32 := subf main_v82 main_v84
  let main_v86 : FVec F S16x32x1 .f32 := mulf main_v80 main_v85
  let main_v87 : FVec F S16x1x8400x1 .f32 := (extractStridedSlice S16x1x8400x1 ![0, 0, 0, 2] · slices_S16x1x8400x4_S16x1x8400x1_0_0_0_2) main_v40
  let main_v88 : FVec F S16x1x8400 .f32 := shapeCast S16x1x8400 main_v87 shapeCasts_S16x1x8400x1_S16x1x8400
  let main_v89 : FVec F S16x1x8400x1 .f32 := (extractStridedSlice S16x1x8400x1 ![0, 0, 0, 0] · slices_S16x1x8400x4_S16x1x8400x1_0_0_0_0) main_v40
  let main_v90 : FVec F S16x1x8400 .f32 := shapeCast S16x1x8400 main_v89 shapeCasts_S16x1x8400x1_S16x1x8400
  let main_v91 : FVec F S16x1x8400 .f32 := subf main_v88 main_v90
  let main_v92 : FVec F S16x1x8400x1 .f32 := (extractStridedSlice S16x1x8400x1 ![0, 0, 0, 3] · slices_S16x1x8400x4_S16x1x8400x1_0_0_0_3) main_v40
  fn_part4 (F := F) main_arg0 main_arg1 main_arg3 main_arg5 main_v4 main_v38 main_v39 main_v40 main_v75 main_v86 main_v91 main_v92

def fn_part2 {F : FTy → Type} [FloatOps F] (main_arg0 : FVec F S16x8400x80 .f32) (main_arg1 : FVec F S16x8400x4x16 .f32) (main_arg3 : FVec F S16x32x5 .f32) (main_arg5 : FVec F S8400 .f32) (main_v4 : IVec S16x32 32) (main_v38 : IVec S16x32x8400 1) (main_v39 : FVec F S16x32x1x4 .f32) (main_v40 : FVec F S16x1x8400x4 .f32) (main_v45 : FVec F S16x32x8400 .f32) (main_v46 : FVec F S16x32x8400 .f32) : IVec S_ 1 :=
  let main_v47 : FVec F S16x32x8400 .f32 := maximumf main_v45 main_v46
  let main_v48 : FVec F S16x32x1x1 .f32 := (extractStridedSlice S16x32x1x1 ![0, 0, 0, 1] · slices_S16x32x1x4_S16x32x1x1_0_0_0_1) main_v39
  let main_v49 : FVec F S16x32x1 .f32 := shapeCast S16x32x1 main_v48 shapeCasts_S16x32x1x1_S16x32x1
  let main_v50 : FVec F S16x1x8400x1 .f32 := (extractStridedSlice S16x1x8400x1 ![0, 0, 0, 1] · slices_S16x1x8400x4_S16x1x8400x1_0_0_0_1) main_v40
  let main_v51 : FVec F S16x1x8400 .f32 := shapeCast S16x1x8400 main_v50 shapeCasts_S16x1x8400x1_S16x1x8400
  let main_v52 : FVec F S16x32x8400 .f32 := broadcastInDim S16x32x8400 ![0, 1, 2] bcast_S16x32x1_S16x32x8400_0_1_2 main_v49
  let main_v53 : FVec F S16x32x8400 .f32 := broadcastInDim S16x32x8400 ![0, 1, 2] bcast_S16x1x8400_S16x32x8400_0_1_2 main_v51
  let main_v54 : FVec F S16x32x8400 .f32 := maximumf main_v52 main_v53
  let main_v55 : FVec F S16x32x1x1 .f32 := (extractStridedSlice S16x32x1x1 ![0, 0, 0, 2] · slices_S16x32x1x4_S16x32x1x1_0_0_0_2) main_v39
  let main_v56 : FVec F S16x32x1 .f32 := shapeCast S16x32x1 main_v55 shapeCasts_S16x32x1x1_S16x32x1
  let main_v57 : FVec F S16x1x8400x1 .f32 := (extractStridedSlice S16x1x8400x1 ![0, 0, 0, 2] · slices_S16x1x8400x4_S16x1x8400x1_0_0_0_2) main_v40
  let main_v58 : FVec F S16x1x8400 .f32 := shapeCast S16x1x8400 main_v57 shapeCasts_S16x1x8400x1_S16x1x8400
  let main_v59 : FVec F S16x32x8400 .f32 := broadcastInDim S16x32x8400 ![0, 1, 2] bcast_S16x32x1_S16x32x8400_0_1_2 main_v56
  let main_v60 : FVec F S16x32x8400 .f32 := broadcastInDim S16x32x8400 ![0, 1, 2] bcast_S16x1x8400_S16x32x8400_0_1_2 main_v58
  let main_v61 : FVec F S16x32x8400 .f32 := minimumf main_v59 main_v60
  let main_v62 : FVec F S16x32x1x1 .f32 := (extractStridedSlice S16x32x1x1 ![0, 0, 0, 3] · slices_S16x32x1x4_S16x32x1x1_0_0_0_3) main_v39
  let main_v63 : FVec F S16x32x1 .f32 := shapeCast S16x32x1 main_v62 shapeCasts_S16x32x1x1_S16x32x1
  let main_v64 : FVec F S16x1x8400x1 .f32 := (extractStridedSlice S16x1x8400x1 ![0, 0, 0, 3] · slices_S16x1x8400x4_S16x1x8400x1_0_0_0_3) main_v40
  let main_v65 : FVec F S16x1x8400 .f32 := shapeCast S16x1x8400 main_v64 shapeCasts_S16x1x8400x1_S16x1x8400
  let main_v66 : FVec F S16x32x8400 .f32 := broadcastInDim S16x32x8400 ![0, 1, 2] bcast_S16x32x1_S16x32x8400_0_1_2 main_v63
  let main_v67 : FVec F S16x32x8400 .f32 := broadcastInDim S16x32x8400 ![0, 1, 2] bcast_S16x1x8400_S16x32x8400_0_1_2 main_v65
  let main_v68 : FVec F S16x32x8400 .f32 := minimumf main_v66 main_v67
  let main_v69 : FVec F S16x32x8400 .f32 := subf main_v61 main_v47
  let main_cst : FVec F S_ .f32 := constant S_ .f32 0x00000000#32
  fn_part3 (F := F) main_arg0 main_arg1 main_arg3 main_arg5 main_v4 main_v38 main_v39 main_v40 main_v54 main_v68 main_v69 main_cst

def fn_part1 {F : FTy → Type} [FloatOps F] (main_arg0 : FVec F S16x8400x80 .f32) (main_arg1 : FVec F S16x8400x4x16 .f32) (main_arg2 : FVec F S16x8400x4 .f32) (main_arg3 : FVec F S16x32x5 .f32) (main_arg5 : FVec F S8400 .f32) (main_v4 : IVec S16x32 32) (main_v5 : FVec F S16x32x4 .f32) (main_v8 : FVec F S16x32x1 .f32) (main_v11 : FVec F S16x32x1 .f32) (main_v14 : FVec F S16x32x1 .f32) (main_v17 : FVec F S16x32x1 .f32) (main_v20 : FVec F S1x1x8400 .f32) (main_v22 : FVec F S8400 .f32) : IVec S_ 1 :=
  let main_v23 : FVec F S1x1x8400 .f32 := broadcastInDim S1x1x8400 ![2] bcast_S8400_S1x1x8400_2 main_v22
  let main_v24 : FVec F S16x32x8400 .f32 := broadcastInDim S16x32x8400 ![0, 1, 2] bcast_S16x32x1_S16x32x8400_0_1_2 main_v8
  let main_v25 : FVec F S16x32x8400 .f32 := broadcastInDim S16x32x8400 ![0, 1, 2] bcast_S1x1x8400_S16x32x8400_0_1_2 main_v20
  let main_v26 : IVec S16x32x8400 1 := cmpf .olt main_v24 main_v25
  let main_v27 : FVec F S16x32x8400 .f32 := broadcastInDim S16x32x8400 ![0, 1, 2] bcast_S1x1x8400_S16x32x8400_0_1_2 main_v20
  let main_v28 : FVec F S16x32x8400 .f32 := broadcastInDim S16x32x8400 ![0, 1, 2] bcast_S16x32x1_S16x32x8400_0_1_2 main_v14
  let main_v29 : IVec S16x32x8400 1 := cmpf .olt main_v27 main_v28
  let main_v30 : IVec S16x32x8400 1 := andi main_v26 main_v29
  let main_v31 : FVec F S16x32x8400 .f32 := broadcastInDim S16x32x8400 ![0, 1, 2] bcast_S16x32x1_S16x32x8400_0_1_2 main_v11
  let main_v32 : FVec F S16x32x8400 .f32 := broadcastInDim S16x32x8400 ![0, 1, 2] bcast_S1x1x8400_S16x32x8400_0_1_2 main_v23
  let main_v33 : IVec S16x32x8400 1 := cmpf .olt main_v31 main_v32
  let main_v34 : IVec S16x32x8400 1 := andi main_v30 main_v33
  let main_v35 : FVec F S16x32x8400 .f32 := broadcastInDim S16x32x8400 ![0, 1, 2] bcast_S1x1x8400_S16x32x8400_0_1_2 main_v23
  let main_v36 : FVec F S16x32x8400 .f32 := broadcastInDim S16x32x8400 ![0, 1, 2] bcast_S16x32x1_S16x32x8400_0_1_2 main_v17
  let main_v37 : IVec S16x32x8400 1 := cmpf .olt main_v35 main_v36
  let main_v38 : IVec S16x32x8400 1 := andi main_v34 main_v37
  let main_v39 : FVec F S16x32x1x4 .f32 := broadcastInDim S16x32x1x4 ![0, 1, 3] bcast_S16x32x4_S16x32x1x4_0_1_3 main_v5
  let main_v40 : FVec F S16x1x8400x4 .f32 := broadcastInDim S16x1x8400x4 ![0, 2, 3] bcast_S16x8400x4_S16x1x8400x4_0_2_3 main_arg2
  let main_v41 : FVec F S16x32x1x1 .f32 := (extractStridedSlice S16x32x1x1 ![0, 0, 0, 0] · slices_S16x32x1x4_S16x32x1x1_0_0_0_0) main_v39
  let main_v42 : FVec F S16x32x1 .f32 := shapeCast S16x32x1 main_v41 shapeCasts_S16x32x1x1_S16x32x1
  let main_v43 : FVec F S16x1x8400x1 .f32 := (extractStridedSlice S16x1x8400x1 ![0, 0, 0, 0] · slices_S16x1x8400x4_S16x1x8400x1_0_0_0_0) main_v40
  let main_v44 : FVec F S16x1x8400 .f32 := shapeCast S16x1x8400 main_v43 shapeCasts_S16x1x8400x1_S16x1x8400
  let main_v45 : FVec F S16x32x8400 .f32 := broadcastInDim S16x32x8400 ![0, 1, 2] bcast_S16x32x1_S16x32x8400_0_1_2 main_v42
  let main_v46 : FVec F S16x32x8400 .f32 := broadcastInDim S16x32x8400 ![0, 1, 2] bcast_S16x1x8400_S16x32x8400_0_1_2 main_v44
  fn_part2 (F := F) main_arg0 main_arg1 main_arg3 main_arg5 main_v4 main_v38 main_v39 main_v40 main_v45 main_v46

def fn {F : FTy → Type} [FloatOps F] (main_arg0 : FVec F S16x8400x80 .f32) (main_arg1 : FVec F S16x8400x4x16 .f32) (main_arg2 : FVec F S16x8400x4 .f32) (main_arg3 : FVec F S16x32x5 .f32) (main_arg4 : FVec F S8400x2 .f32) (main_arg5 : FVec F S8400 .f32) : IVec S_ 1 :=
  let main_v0 : FVec F S16x32x1 .f32 := (extractStridedSlice S16x32x1 ![0, 0, 0] · slices_S16x32x5_S16x32x1_0_0_0) main_arg3
  let main_v1 : FVec F S16x32 .f32 := shapeCast S16x32 main_v0 shapeCasts_S16x32x1_S16x32
  let main_v2 : IVec S16x32 32 := fptosi 32 main_v1
  let main_c : IVec S_ 32 := constantI S_ 32 0#32
  let main_v3 : IVec S16x32 32 := broadcastInDim S16x32 ![] bcast_S_S16x32 main_c
  let main_v4 : IVec S16x32 32 := maxsi main_v2 main_v3
  let main_v5 : FVec F S16x32x4 .f32 := (extractStridedSlice S16x32x4 ![0, 0, 1] · slices_S16x32x5_S16x32x4_0_0_1) main_arg3
  let main_v6 : FVec F S16x32x1 .f32 := (extractStridedSlice S16x32x1 ![0, 0, 0] · slices_S16x32x4_S16x32x1_0_0_0) main_v5
  let main_v7 : FVec F S16x32 .f32 := shapeCast S16x32 main_v6 shapeCasts_S16x32x1_S16x32
  let main_v8 : FVec F S16x32x1 .f32 := broadcastInDim S16x32x1 ![0, 1] bcast_S16x32_S16x32x1_0_1 main_v7
  let main_v9 : FVec F S16x32x1 .f32 := (extractStridedSlice S16x32x1 ![0, 0, 1] · slices_S16x32x4_S16x32x1_0_0_1) main_v5
  let main_v10 : FVec F S16x32 .f32 := shapeCast S16x32 main_v9 shapeCasts_S16x32x1_S16x32
  let main_v11 : FVec F S16x32x1 .f32 := broadcastInDim S16x32x1 ![0, 1] bcast_S16x32_S16x32x1_0_1 main_v10
  let main_v12 : FVec F S16x32x1 .f32 := (extractStridedSlice S16x32x1 ![0, 0, 2] · slices_S16x32x4_S16x32x1_0_0_2) main_v5
  let main_v13 : FVec F S16x32 .f32 := shapeCast S16x32 main_v12 shapeCasts_S16x32x1_S16x32
  let main_v14 : FVec F S16x32x1 .f32 := broadcastInDim S16x32x1 ![0, 1] bcast_S16x32_S16x32x1_0_1 main_v13
  let main_v15 : FVec F S16x32x1 .f32 := (extractStridedSlice S16x32x1 ![0, 0, 3] · slices_S16x32x4_S16x32x1_0_0_3) main_v5
  let main_v16 : FVec F S16x32 .f32 := shapeCast S16x32 main_v15 shapeCasts_S16x32x1_S16x32
  let main_v17 : FVec F S16x32x1 .f32 := broadcastInDim S16x32x1 ![0, 1] bcast_S16x32_S16x32x1_0_1 main_v16
  let main_v18 : FVec F S8400x1 .f32 := (extractStridedSlice S8400x1 ![0, 0] · slices_S8400x2_S8400x1_0_0) main_arg4
  let main_v19 : FVec F S8400 .f32 := shapeCast S8400 main_v18 shapeCasts_S8400x1_S8400
  let main_v20 : FVec F S1x1x8400 .f32 := broadcastInDim S1x1x8400 ![2] bcast_S8400_S1x1x8400_2 main_v19
  let main_v21 : FVec F S8400x1 .f32 := (extractStridedSlice S8400x1 ![0, 1] · slices_S8400x2_S8400x1_0_1) main_arg4
  let main_v22 : FVec F S8400 .f32 := shapeCast S8400 main_v21 shapeCasts_S8400x1_S8400
  fn_part1 (F := F) main_arg0 main_arg1 main_arg2 main_arg3 main_arg5 main_v4 main_v5 main_v8 main_v11 main_v14 main_v17 main_v20 main_v22
-- ==== Kernel.lean ====
abbrev S16x8400x80 : Shape := ⟨3, ![16, 8400, 80]⟩
abbrev S16x8400x4x16 : Shape := ⟨4, ![16, 8400, 4, 16]⟩
abbrev S16x8400x4 : Shape := ⟨3, ![16, 8400, 4]⟩
abbrev S16x32x5 : Shape := ⟨3, ![16, 32, 5]⟩
abbrev S8400x2 : Shape := ⟨2, ![8400, 2]⟩
abbrev S8400 : Shape := ⟨1, ![8400]⟩
abbrev S16x80x8400 : Shape := ⟨3, ![16, 80, 8400]⟩
abbrev S16x8400x64 : Shape := ⟨3, ![16, 8400, 64]⟩
abbrev S16x64x8400 : Shape := ⟨3, ![16, 64, 8400]⟩
abbrev S16x4x8400 : Shape := ⟨3, ![16, 4, 8400]⟩
abbrev S2x8400 : Shape := ⟨2, ![2, 8400]⟩
abbrev S1x8400 : Shape := ⟨2, ![1, 8400]⟩
abbrev S3x8400 : Shape := ⟨2, ![3, 8400]⟩
abbrev S16x8x128 : Shape := ⟨3, ![16, 8, 128]⟩
abbrev S1x80x8400 : Shape := ⟨3, ![1, 80, 8400]⟩
abbrev S1x64x8400 : Shape := ⟨3, ![1, 64, 8400]⟩
abbrev S1x4x8400 : Shape := ⟨3, ![1, 4, 8400]⟩
abbrev S1x32x5 : Shape := ⟨3, ![1, 32, 5]⟩
abbrev S1x8x128 : Shape := ⟨3, ![1, 8, 128]⟩
abbrev S80x8400 : Shape := ⟨2, ![80, 8400]⟩
abbrev S64x8400 : Shape := ⟨2, ![64, 8400]⟩
abbrev S4x8400 : Shape := ⟨2, ![4, 8400]⟩
abbrev S32x5 : Shape := ⟨2, ![32, 5]⟩
abbrev S32x1 : Shape := ⟨2, ![32, 1]⟩
abbrev S32x8400 : Shape := ⟨2, ![32, 8400]⟩
abbrev S32x80 : Shape := ⟨2, ![32, 80]⟩
abbrev S32 : Shape := ⟨1, ![32]⟩
abbrev S32x48 : Shape := ⟨2, ![32, 48]⟩
abbrev S32x8448 : Shape := ⟨2, ![32, 8448]⟩
abbrev S32x128 : Shape := ⟨2, ![32, 128]⟩
abbrev S1x1x8400 : Shape := ⟨3, ![1, 1, 8400]⟩
abbrev S1 : Shape := ⟨1, ![1]⟩
abbrev S1x1x1 : Shape := ⟨3, ![1, 1, 1]⟩
abbrev S1x32x8400 : Shape := ⟨3, ![1, 32, 8400]⟩
abbrev S16x1 : Shape := ⟨2, ![16, 1]⟩
abbrev S16x8400 : Shape := ⟨2, ![16, 8400]⟩
abbrev S1x128 : Shape := ⟨2, ![1, 128]⟩
abbrev S8x128 : Shape := ⟨2, ![8, 128]⟩

abbrev nBuf : Space → Nat
  | .hbm => 14
  | .vmem => 11
  | .smem => 0
  | _ => 0

abbrev bufTy : (tb : Table) → Fin (tcTables nBuf tb) → BufTy
  | .hbm, ⟨0, _⟩ => ⟨S16x8400x80, .f32⟩
  | .hbm, ⟨1, _⟩ => ⟨S16x8400x4x16, .f32⟩
  | .hbm, ⟨2, _⟩ => ⟨S16x8400x4, .f32⟩
  | .hbm, ⟨3, _⟩ => ⟨S16x32x5, .f32⟩
  | .hbm, ⟨4, _⟩ => ⟨S8400x2, .f32⟩
  | .hbm, ⟨5, _⟩ => ⟨S8400, .f32⟩
  | .hbm, ⟨6, _⟩ => ⟨S16x80x8400, .f32⟩
  | .hbm, ⟨7, _⟩ => ⟨S16x8400x64, .f32⟩
  | .hbm, ⟨8, _⟩ => ⟨S16x64x8400, .f32⟩
  | .hbm, ⟨9, _⟩ => ⟨S16x4x8400, .f32⟩
  | .hbm, ⟨10, _⟩ => ⟨S2x8400, .f32⟩
  | .hbm, ⟨11, _⟩ => ⟨S1x8400, .f32⟩
  | .hbm, ⟨12, _⟩ => ⟨S3x8400, .f32⟩
  | .hbm, ⟨13, _⟩ => ⟨S16x8x128, .f32⟩
  | .local _ .vmem, ⟨0, _⟩ => ⟨S1x80x8400, .f32⟩
  | .local _ .vmem, ⟨1, _⟩ => ⟨S1x80x8400, .f32⟩
  | .local _ .vmem, ⟨2, _⟩ => ⟨S1x64x8400, .f32⟩
  | .local _ .vmem, ⟨3, _⟩ => ⟨S1x64x8400, .f32⟩
  | .local _ .vmem, ⟨4, _⟩ => ⟨S1x4x8400, .f32⟩
  | .local _ .vmem, ⟨5, _⟩ => ⟨S1x4x8400, .f32⟩
  | .local _ .vmem, ⟨6, _⟩ => ⟨S1x32x5, .f32⟩
  | .local _ .vmem, ⟨7, _⟩ => ⟨S1x32x5, .f32⟩
  | .local _ .vmem, ⟨8, _⟩ => ⟨S3x8400, .f32⟩
  | .local _ .vmem, ⟨9, _⟩ => ⟨S1x8x128, .f32⟩
  | .local _ .vmem, ⟨10, _⟩ => ⟨S1x8x128, .f32⟩
  | _, _ => ⟨S16x8400x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x80x8400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x8400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x8400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x8400 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x8400x80 : Shape := ⟨3, ![16, 8400, 80]⟩
abbrev S16x8400x4x16 : Shape := ⟨4, ![16, 8400, 4, 16]⟩
abbrev S16x8400x4 : Shape := ⟨3, ![16, 8400, 4]⟩
abbrev S16x32x5 : Shape := ⟨3, ![16, 32, 5]⟩
abbrev S8400x2 : Shape := ⟨2, ![8400, 2]⟩
abbrev S8400 : Shape := ⟨1, ![8400]⟩
abbrev S16x32x1 : Shape := ⟨3, ![16, 32, 1]⟩
abbrev S16x32 : Shape := ⟨2, ![16, 32]⟩
abbrev S_ : Shape := ⟨0, ![]⟩
abbrev S16x32x4 : Shape := ⟨3, ![16, 32, 4]⟩
abbrev S8400x1 : Shape := ⟨2, ![8400, 1]⟩
abbrev S1x1x8400 : Shape := ⟨3, ![1, 1, 8400]⟩
abbrev S16x32x8400 : Shape := ⟨3, ![16, 32, 8400]⟩
abbrev S16x32x1x4 : Shape := ⟨4, ![16, 32, 1, 4]⟩
abbrev S16x1x8400x4 : Shape := ⟨4, ![16, 1, 8400, 4]⟩
abbrev S16x32x1x1 : Shape := ⟨4, ![16, 32, 1, 1]⟩
abbrev S16x1x8400x1 : Shape := ⟨4, ![16, 1, 8400, 1]⟩
abbrev S16x1x8400 : Shape := ⟨3, ![16, 1, 8400]⟩
abbrev S16x80x8400 : Shape := ⟨3, ![16, 80, 8400]⟩
abbrev S16x32x8400x1 : Shape := ⟨4, ![16, 32, 8400, 1]⟩
abbrev S16x32x10 : Shape := ⟨3, ![16, 32, 10]⟩
abbrev S16x8400x32 : Shape := ⟨3, ![16, 8400, 32]⟩
abbrev S16x8400x1 : Shape := ⟨3, ![16, 8400, 1]⟩
abbrev S16x8400 : Shape := ⟨2, ![16, 8400]⟩
abbrev S16x8400x1x1 : Shape := ⟨4, ![16, 8400, 1, 1]⟩
abbrev S1x1x80 : Shape := ⟨3, ![1, 1, 80]⟩
abbrev S1x8400x1 : Shape := ⟨3, ![1, 8400, 1]⟩
abbrev S1x8400x2 : Shape := ⟨3, ![1, 8400, 2]⟩
abbrev S16x8400x2 : Shape := ⟨3, ![16, 8400, 2]⟩
abbrev S16x8400x4x1 : Shape := ⟨4, ![16, 8400, 4, 1]⟩
abbrev S16x8400x4x1x1 : Shape := ⟨5, ![16, 8400, 4, 1, 1]⟩
abbrev S16 : Shape := ⟨1, ![16]⟩
abbrev S16x8x128 : Shape := ⟨3, ![16, 8, 128]⟩
abbrev S16x1x1 : Shape := ⟨3, ![16, 1, 1]⟩

abbrev nBuf : Space → Nat
  | .hbm => 842
  | .vmem => 0
  | .smem => 0
  | _ => 0

abbrev hbmTy0_0 (i : Nat) : BufTy := match i % 128 with
  | 0 => ⟨S16x8400x80, .f32⟩
  | 1 => ⟨S16x8400x4x16, .f32⟩
  | 2 => ⟨S16x8400x4, .f32⟩
  | 3 => ⟨S16x32x5, .f32⟩
  | 4 => ⟨S8400x2, .f32⟩
  | 5 => ⟨S8400, .f32⟩
  | 6 => ⟨S16x32x1, .f32⟩
  | 7 => ⟨S16x32, .f32⟩
  | 8 => ⟨S16x32, .i32⟩
  | 9 => ⟨S_, .i32⟩
  | 10 => ⟨S16x32, .i32⟩
  | 11 => ⟨S16x32, .i32⟩
  | 12 => ⟨S16x32x4, .f32⟩
  | 13 => ⟨S16x32x1, .f32⟩
  | 14 => ⟨S16x32, .f32⟩
  | 15 => ⟨S16x32x1, .f32⟩
  | 16 => ⟨S16x32x1, .f32⟩
  | 17 => ⟨S16x32, .f32⟩
  | 18 => ⟨S16x32x1, .f32⟩
  | 19 => ⟨S16x32x1, .f32⟩
  | 20 => ⟨S16x32, .f32⟩
  | 21 => ⟨S16x32x1, .f32⟩
  | 22 => ⟨S16x32x1, .f32⟩
  | 23 => ⟨S16x32, .f32⟩
  | 24 => ⟨S16x32x1, .f32⟩
  | 25 => ⟨S8400x1, .f32⟩
  | 26 => ⟨S8400, .f32⟩
  | 27 => ⟨S1x1x8400, .f32⟩
  | 28 => ⟨S8400x1, .f32⟩
  | 29 => ⟨S8400, .f32⟩
  | 30 => ⟨S1x1x8400, .f32⟩
  | 31 => ⟨S16x32x8400, .f32⟩
  | 32 => ⟨S16x32x8400, .f32⟩
  | 33 => ⟨S16x32x8400, .i1⟩
  | 34 => ⟨S16x32x8400, .f32⟩
  | 35 => ⟨S16x32x8400, .f32⟩
  | 36 => ⟨S16x32x8400, .i1⟩
  | 37 => ⟨S16x32x8400, .i1⟩
  | 38 => ⟨S16x32x8400, .f32⟩
  | 39 => ⟨S16x32x8400, .f32⟩
  | 40 => ⟨S16x32x8400, .i1⟩
  | 41 => ⟨S16x32x8400, .i1⟩
  | 42 => ⟨S16x32x8400, .f32⟩
  | 43 => ⟨S16x32x8400, .f32⟩
  | 44 => ⟨S16x32x8400, .i1⟩
  | 45 => ⟨S16x32x8400, .i1⟩
  | 46 => ⟨S16x32x1x4, .f32⟩
  | 47 => ⟨S16x1x8400x4, .f32⟩
  | 48 => ⟨S16x32x1x1, .f32⟩
  | 49 => ⟨S16x32x1, .f32⟩
  | 50 => ⟨S16x1x8400x1, .f32⟩
  | 51 => ⟨S16x1x8400, .f32⟩
  | 52 => ⟨S16x32x8400, .f32⟩
  | 53 => ⟨S16x32x8400, .f32⟩
  | 54 => ⟨S16x32x8400, .f32⟩
  | 55 => ⟨S16x32x1x1, .f32⟩
  | 56 => ⟨S16x32x1, .f32⟩
  | 57 => ⟨S16x1x8400x1, .f32⟩
  | 58 => ⟨S16x1x8400, .f32⟩
  | 59 => ⟨S16x32x8400, .f32⟩
  | 60 => ⟨S16x32x8400, .f32⟩
  | 61 => ⟨S16x32x8400, .f32⟩
  | 62 => ⟨S16x32x1x1, .f32⟩
  | 63 => ⟨S16x32x1, .f32⟩
  | 64 => ⟨S16x1x8400x1, .f32⟩
  | 65 => ⟨S16x1x8400, .f32⟩
  | 66 => ⟨S16x32x8400, .f32⟩
  | 67 => ⟨S16x32x8400, .f32⟩
  | 68 => ⟨S16x32x8400, .f32⟩
  | 69 => ⟨S16x32x1x1, .f32⟩
  | 70 => ⟨S16x32x1, .f32⟩
  | 71 => ⟨S16x1x8400x1, .f32⟩
  | 72 => ⟨S16x1x8400, .f32⟩
  | 73 => ⟨S16x32x8400, .f32⟩
  | 74 => ⟨S16x32x8400, .f32⟩
  | 75 => ⟨S16x32x8400, .f32⟩
  | 76 => ⟨S16x32x8400, .f32⟩
  | 77 => ⟨S_, .f32⟩
  | 78 => ⟨S16x32x8400, .f32⟩
  | 79 => ⟨S16x32x8400, .f32⟩
  | 80 => ⟨S16x32x8400, .f32⟩
  | 81 => ⟨S_, .f32⟩
  | 82 => ⟨S16x32x8400, .f32⟩
  | 83 => ⟨S16x32x8400, .f32⟩
  | 84 => ⟨S16x32x8400, .f32⟩
  | 85 => ⟨S16x32x1x1, .f32⟩
  | 86 => ⟨S16x32x1, .f32⟩
  | 87 => ⟨S16x32x1x1, .f32⟩
  | 88 => ⟨S16x32x1, .f32⟩
  | 89 => ⟨S16x32x1, .f32⟩
  | 90 => ⟨S16x32x1x1, .f32⟩
  | 91 => ⟨S16x32x1, .f32⟩
  | 92 => ⟨S16x32x1x1, .f32⟩
  | 93 => ⟨S16x32x1, .f32⟩
  | 94 => ⟨S16x32x1, .f32⟩
  | 95 => ⟨S16x32x1, .f32⟩
  | 96 => ⟨S16x1x8400x1, .f32⟩
  | 97 => ⟨S16x1x8400, .f32⟩
  | 98 => ⟨S16x1x8400x1, .f32⟩
  | 99 => ⟨S16x1x8400, .f32⟩
  | 100 => ⟨S16x1x8400, .f32⟩
  | 101 => ⟨S16x1x8400x1, .f32⟩
  | 102 => ⟨S16x1x8400, .f32⟩
  | 103 => ⟨S16x1x8400x1, .f32⟩
  | 104 => ⟨S16x1x8400, .f32⟩
  | 105 => ⟨S16x1x8400, .f32⟩
  | 106 => ⟨S16x1x8400, .f32⟩
  | 107 => ⟨S16x32x8400, .f32⟩
  | 108 => ⟨S16x32x8400, .f32⟩
  | 109 => ⟨S16x32x8400, .f32⟩
  | 110 => ⟨S16x32x8400, .f32⟩
  | 111 => ⟨S_, .f32⟩
  | 112 => ⟨S16x32x8400, .f32⟩
  | 113 => ⟨S16x32x8400, .f32⟩
  | 114 => ⟨S16x32x8400, .f32⟩
  | 115 => ⟨S16x32x1x1, .f32⟩
  | 116 => ⟨S16x32x1, .f32⟩
  | 117 => ⟨S16x1x8400x1, .f32⟩
  | 118 => ⟨S16x1x8400, .f32⟩
  | 119 => ⟨S16x32x8400, .f32⟩
  | 120 => ⟨S16x32x8400, .f32⟩
  | 121 => ⟨S16x32x8400, .f32⟩
  | 122 => ⟨S16x32x1x1, .f32⟩
  | 123 => ⟨S16x32x1, .f32⟩
  | 124 => ⟨S16x1x8400x1, .f32⟩
  | 125 => ⟨S16x1x8400, .f32⟩
  | 126 => ⟨S16x32x8400, .f32⟩
  | 127 => ⟨S16x32x8400, .f32⟩
  | _ => ⟨S16x8400x80, .f32⟩

abbrev hbmTy0_1 (i : Nat) : BufTy := match i % 128 with
  | 0 => ⟨S16x32x8400, .f32⟩
  | 1 => ⟨S16x32x8400, .f32⟩
  | 2 => ⟨S16x32x1x1, .f32⟩
  | 3 => ⟨S16x32x1, .f32⟩
  | 4 => ⟨S16x1x8400x1, .f32⟩
  | 5 => ⟨S16x1x8400, .f32⟩
  | 6 => ⟨S16x32x8400, .f32⟩
  | 7 => ⟨S16x32x8400, .f32⟩
  | 8 => ⟨S16x32x8400, .f32⟩
  | 9 => ⟨S16x32x1x1, .f32⟩
  | 10 => ⟨S16x32x1, .f32⟩
  | 11 => ⟨S16x1x8400x1, .f32⟩
  | 12 => ⟨S16x1x8400, .f32⟩
  | 13 => ⟨S16x32x8400, .f32⟩
  | 14 => ⟨S16x32x8400, .f32⟩
  | 15 => ⟨S16x32x8400, .f32⟩
  | 16 => ⟨S16x32x8400, .f32⟩
  | 17 => ⟨S16x32x8400, .f32⟩
  | 18 => ⟨S16x32x8400, .f32⟩
  | 19 => ⟨S16x32x8400, .f32⟩
  | 20 => ⟨S_, .f32⟩
  | 21 => ⟨S16x32x8400, .f32⟩
  | 22 => ⟨S16x32x8400, .f32⟩
  | 23 => ⟨S16x32x1x1, .f32⟩
  | 24 => ⟨S16x32x1, .f32⟩
  | 25 => ⟨S16x32x1x1, .f32⟩
  | 26 => ⟨S16x32x1, .f32⟩
  | 27 => ⟨S16x32x1, .f32⟩
  | 28 => ⟨S16x1x8400x1, .f32⟩
  | 29 => ⟨S16x1x8400, .f32⟩
  | 30 => ⟨S16x32x8400, .f32⟩
  | 31 => ⟨S16x32x8400, .f32⟩
  | 32 => ⟨S16x32x8400, .f32⟩
  | 33 => ⟨S16x1x8400x1, .f32⟩
  | 34 => ⟨S16x1x8400, .f32⟩
  | 35 => ⟨S16x32x8400, .f32⟩
  | 36 => ⟨S16x32x8400, .f32⟩
  | 37 => ⟨S16x32x8400, .f32⟩
  | 38 => ⟨S16x32x1x1, .f32⟩
  | 39 => ⟨S16x32x1, .f32⟩
  | 40 => ⟨S16x32x1x1, .f32⟩
  | 41 => ⟨S16x32x1, .f32⟩
  | 42 => ⟨S16x32x1, .f32⟩
  | 43 => ⟨S16x1x8400x1, .f32⟩
  | 44 => ⟨S16x1x8400, .f32⟩
  | 45 => ⟨S16x32x8400, .f32⟩
  | 46 => ⟨S16x32x8400, .f32⟩
  | 47 => ⟨S16x32x8400, .f32⟩
  | 48 => ⟨S16x1x8400x1, .f32⟩
  | 49 => ⟨S16x1x8400, .f32⟩
  | 50 => ⟨S16x32x8400, .f32⟩
  | 51 => ⟨S16x32x8400, .f32⟩
  | 52 => ⟨S16x32x8400, .f32⟩
  | 53 => ⟨S16x32x8400, .f32⟩
  | 54 => ⟨S_, .f32⟩
  | 55 => ⟨S16x32x8400, .f32⟩
  | 56 => ⟨S16x32x8400, .f32⟩
  | 57 => ⟨S16x32x1x1, .f32⟩
  | 58 => ⟨S16x32x1, .f32⟩
  | 59 => ⟨S16x32x1x1, .f32⟩
  | 60 => ⟨S16x32x1, .f32⟩
  | 61 => ⟨S16x32x1, .f32⟩
  | 62 => ⟨S_, .f32⟩
  | 63 => ⟨S16x32x1, .f32⟩
  | 64 => ⟨S16x32x1, .f32⟩
  | 65 => ⟨S16x32x1x1, .f32⟩
  | 66 => ⟨S16x32x1, .f32⟩
  | 67 => ⟨S16x32x1x1, .f32⟩
  | 68 => ⟨S16x32x1, .f32⟩
  | 69 => ⟨S16x32x1, .f32⟩
  | 70 => ⟨S_, .f32⟩
  | 71 => ⟨S16x32x1, .f32⟩
  | 72 => ⟨S16x32x1, .f32⟩
  | 73 => ⟨S16x1x8400x1, .f32⟩
  | 74 => ⟨S16x1x8400, .f32⟩
  | 75 => ⟨S16x1x8400x1, .f32⟩
  | 76 => ⟨S16x1x8400, .f32⟩
  | 77 => ⟨S16x1x8400, .f32⟩
  | 78 => ⟨S_, .f32⟩
  | 79 => ⟨S16x1x8400, .f32⟩
  | 80 => ⟨S16x1x8400, .f32⟩
  | 81 => ⟨S16x1x8400x1, .f32⟩
  | 82 => ⟨S16x1x8400, .f32⟩
  | 83 => ⟨S16x1x8400x1, .f32⟩
  | 84 => ⟨S16x1x8400, .f32⟩
  | 85 => ⟨S16x1x8400, .f32⟩
  | 86 => ⟨S_, .f32⟩
  | 87 => ⟨S16x1x8400, .f32⟩
  | 88 => ⟨S16x1x8400, .f32⟩
  | 89 => ⟨S16x32x1, .f32⟩
  | 90 => ⟨S_, .f32⟩
  | 91 => ⟨S16x32x1, .f32⟩
  | 92 => ⟨S16x32x1, .i1⟩
  | 93 => ⟨S_, .f32⟩
  | 94 => ⟨S16x32x1, .f32⟩
  | 95 => ⟨S16x32x1, .f32⟩
  | 96 => ⟨S16x32x1, .f32⟩
  | 97 => ⟨S16x32x1, .f32⟩
  | 98 => ⟨S_, .f32⟩
  | 99 => ⟨S16x32x1, .f32⟩
  | 100 => ⟨S16x32x1, .f32⟩
  | 101 => ⟨S_, .f32⟩
  | 102 => ⟨S16x32x1, .f32⟩
  | 103 => ⟨S16x32x1, .f32⟩
  | 104 => ⟨S16x32x1, .f32⟩
  | 105 => ⟨S_, .f32⟩
  | 106 => ⟨S16x32x1, .f32⟩
  | 107 => ⟨S16x32x1, .f32⟩
  | 108 => ⟨S16x32x1, .f32⟩
  | 109 => ⟨S_, .f32⟩
  | 110 => ⟨S16x32x1, .f32⟩
  | 111 => ⟨S16x32x1, .f32⟩
  | 112 => ⟨S16x32x1, .f32⟩
  | 113 => ⟨S_, .f32⟩
  | 114 => ⟨S16x32x1, .f32⟩
  | 115 => ⟨S16x32x1, .f32⟩
  | 116 => ⟨S16x32x1, .f32⟩
  | 117 => ⟨S_, .f32⟩
  | 118 => ⟨S16x32x1, .f32⟩
  | 119 => ⟨S16x32x1, .f32⟩
  | 120 => ⟨S16x32x1, .f32⟩
  | 121 => ⟨S_, .f32⟩
  | 122 => ⟨S16x32x1, .f32⟩
  | 123 => ⟨S16x32x1, .f32⟩
  | 124 => ⟨S16x32x1, .f32⟩
  | 125 => ⟨S_, .f32⟩
  | 126 => ⟨S16x32x1, .f32⟩
  | 127 => ⟨S16x32x1, .f32⟩
  | _ => ⟨S16x8400x80, .f32⟩

abbrev hbmTy0_2 (i : Nat) : BufTy := match i % 128 with
  | 0 => ⟨S16x32x1, .f32⟩
  | 1 => ⟨S_, .f32⟩
  | 2 => ⟨S16x32x1, .f32⟩
  | 3 => ⟨S16x32x1, .f32⟩
  | 4 => ⟨S16x32x1, .f32⟩
  | 5 => ⟨S16x1x8400, .f32⟩
  | 6 => ⟨S_, .f32⟩
  | 7 => ⟨S16x1x8400, .f32⟩
  | 8 => ⟨S16x1x8400, .i1⟩
  | 9 => ⟨S_, .f32⟩
  | 10 => ⟨S16x1x8400, .f32⟩
  | 11 => ⟨S16x1x8400, .f32⟩
  | 12 => ⟨S16x1x8400, .f32⟩
  | 13 => ⟨S16x1x8400, .f32⟩
  | 14 => ⟨S_, .f32⟩
  | 15 => ⟨S16x1x8400, .f32⟩
  | 16 => ⟨S16x1x8400, .f32⟩
  | 17 => ⟨S_, .f32⟩
  | 18 => ⟨S16x1x8400, .f32⟩
  | 19 => ⟨S16x1x8400, .f32⟩
  | 20 => ⟨S16x1x8400, .f32⟩
  | 21 => ⟨S_, .f32⟩
  | 22 => ⟨S16x1x8400, .f32⟩
  | 23 => ⟨S16x1x8400, .f32⟩
  | 24 => ⟨S16x1x8400, .f32⟩
  | 25 => ⟨S_, .f32⟩
  | 26 => ⟨S16x1x8400, .f32⟩
  | 27 => ⟨S16x1x8400, .f32⟩
  | 28 => ⟨S16x1x8400, .f32⟩
  | 29 => ⟨S_, .f32⟩
  | 30 => ⟨S16x1x8400, .f32⟩
  | 31 => ⟨S16x1x8400, .f32⟩
  | 32 => ⟨S16x1x8400, .f32⟩
  | 33 => ⟨S_, .f32⟩
  | 34 => ⟨S16x1x8400, .f32⟩
  | 35 => ⟨S16x1x8400, .f32⟩
  | 36 => ⟨S16x1x8400, .f32⟩
  | 37 => ⟨S_, .f32⟩
  | 38 => ⟨S16x1x8400, .f32⟩
  | 39 => ⟨S16x1x8400, .f32⟩
  | 40 => ⟨S16x1x8400, .f32⟩
  | 41 => ⟨S_, .f32⟩
  | 42 => ⟨S16x1x8400, .f32⟩
  | 43 => ⟨S16x1x8400, .f32⟩
  | 44 => ⟨S16x1x8400, .f32⟩
  | 45 => ⟨S_, .f32⟩
  | 46 => ⟨S16x1x8400, .f32⟩
  | 47 => ⟨S16x1x8400, .f32⟩
  | 48 => ⟨S16x1x8400, .f32⟩
  | 49 => ⟨S16x32x8400, .f32⟩
  | 50 => ⟨S16x32x8400, .f32⟩
  | 51 => ⟨S16x32x8400, .f32⟩
  | 52 => ⟨S16x32x8400, .f32⟩
  | 53 => ⟨S_, .f32⟩
  | 54 => ⟨S16x32x8400, .f32⟩
  | 55 => ⟨S16x32x8400, .f32⟩
  | 56 => ⟨S_, .f32⟩
  | 57 => ⟨S16x32x8400, .f32⟩
  | 58 => ⟨S16x32x8400, .f32⟩
  | 59 => ⟨S16x32x8400, .f32⟩
  | 60 => ⟨S_, .f32⟩
  | 61 => ⟨S16x32x8400, .f32⟩
  | 62 => ⟨S16x32x8400, .f32⟩
  | 63 => ⟨S16x32x8400, .f32⟩
  | 64 => ⟨S16x32x8400, .f32⟩
  | 65 => ⟨S16x32x8400, .f32⟩
  | 66 => ⟨S16x32x8400, .f32⟩
  | 67 => ⟨S16x32x8400, .f32⟩
  | 68 => ⟨S_, .f32⟩
  | 69 => ⟨S16x32x8400, .f32⟩
  | 70 => ⟨S16x32x8400, .f32⟩
  | 71 => ⟨S_, .f32⟩
  | 72 => ⟨S16x32x8400, .f32⟩
  | 73 => ⟨S16x32x8400, .f32⟩
  | 74 => ⟨S16x8400x80, .f32⟩
  | 75 => ⟨S16x8400x80, .f32⟩
  | 76 => ⟨S_, .f32⟩
  | 77 => ⟨S16x8400x80, .f32⟩
  | 78 => ⟨S16x8400x80, .f32⟩
  | 79 => ⟨S_, .f32⟩
  | 80 => ⟨S16x8400x80, .f32⟩
  | 81 => ⟨S16x8400x80, .f32⟩
  | 82 => ⟨S16x80x8400, .f32⟩
  | 83 => ⟨S16x32x1, .i32⟩
  | 84 => ⟨S16x32x8400, .i32⟩
  | 85 => ⟨S_, .i32⟩
  | 86 => ⟨S16x32x8400, .i32⟩
  | 87 => ⟨S16x32x8400, .i1⟩
  | 88 => ⟨S_, .i32⟩
  | 89 => ⟨S16x32x8400, .i32⟩
  | 90 => ⟨S16x32x8400, .i32⟩
  | 91 => ⟨S16x32x8400, .i32⟩
  | 92 => ⟨S16x32x8400x1, .i32⟩
  | 93 => ⟨S16x32x8400, .f32⟩
  | 94 => ⟨S16x32x8400, .f32⟩
  | 95 => ⟨S16x32x8400, .f32⟩
  | 96 => ⟨S16x32x8400, .f32⟩
  | 97 => ⟨S16x32x8400, .f32⟩
  | 98 => ⟨S16x32x8400, .f32⟩
  | 99 => ⟨S16x32x8400, .f32⟩
  | 100 => ⟨S16x32x8400, .f32⟩
  | 101 => ⟨S16x32x8400, .f32⟩
  | 102 => ⟨S16x32x1, .f32⟩
  | 103 => ⟨S16x32, .f32⟩
  | 104 => ⟨S16x32, .i32⟩
  | 105 => ⟨S_, .i32⟩
  | 106 => ⟨S16x32, .i32⟩
  | 107 => ⟨S16x32, .i32⟩
  | 108 => ⟨S16x32x10, .f32⟩
  | 109 => ⟨S16x32x10, .i32⟩
  | 110 => ⟨S16x32x1, .f32⟩
  | 111 => ⟨S16x32x8400, .f32⟩
  | 112 => ⟨S16x32x8400, .i1⟩
  | 113 => ⟨S_, .f32⟩
  | 114 => ⟨S_, .f32⟩
  | 115 => ⟨S16x32x8400, .f32⟩
  | 116 => ⟨S16x32x8400, .f32⟩
  | 117 => ⟨S_, .f32⟩
  | 118 => ⟨S16x32x8400, .f32⟩
  | 119 => ⟨S16x32x8400, .i1⟩
  | 120 => ⟨S16x32x8400, .f32⟩
  | 121 => ⟨S16x8400x32, .f32⟩
  | 122 => ⟨S16x8400x1, .f32⟩
  | 123 => ⟨S16x8400x1, .i32⟩
  | 124 => ⟨S16x8400, .i32⟩
  | 125 => ⟨S_, .f32⟩
  | 126 => ⟨S16x8400, .f32⟩
  | 127 => ⟨S_, .f32⟩
  | _ => ⟨S16x8400x80, .f32⟩

abbrev hbmTy0_3 (i : Nat) : BufTy := match i % 128 with
  | 0 => ⟨S16x8400, .f32⟩
  | 1 => ⟨S16x8400, .f32⟩
  | 2 => ⟨S_, .f32⟩
  | 3 => ⟨S16x8400, .f32⟩
  | 4 => ⟨S16x8400, .i1⟩
  | 5 => ⟨S16x8400, .f32⟩
  | 6 => ⟨S_, .f32⟩
  | 7 => ⟨S16x32, .f32⟩
  | 8 => ⟨S16x32x1, .f32⟩
  | 9 => ⟨S_, .f32⟩
  | 10 => ⟨S16x32x1, .f32⟩
  | 11 => ⟨S16x32x1, .f32⟩
  | 12 => ⟨S16x32x8400, .f32⟩
  | 13 => ⟨S16x32x8400, .f32⟩
  | 14 => ⟨S_, .f32⟩
  | 15 => ⟨S16x32, .f32⟩
  | 16 => ⟨S16x32x1, .f32⟩
  | 17 => ⟨S16x32x8400, .f32⟩
  | 18 => ⟨S16x32x8400, .f32⟩
  | 19 => ⟨S16x8400x32, .f32⟩
  | 20 => ⟨S16x8400x1, .i32⟩
  | 21 => ⟨S_, .i32⟩
  | 22 => ⟨S16x8400x1, .i32⟩
  | 23 => ⟨S16x8400x1, .i1⟩
  | 24 => ⟨S_, .i32⟩
  | 25 => ⟨S16x8400x1, .i32⟩
  | 26 => ⟨S16x8400x1, .i32⟩
  | 27 => ⟨S16x8400x1, .i32⟩
  | 28 => ⟨S16x8400x1x1, .i32⟩
  | 29 => ⟨S16x8400x1, .f32⟩
  | 30 => ⟨S16x32x4, .f32⟩
  | 31 => ⟨S16x8400x1, .i32⟩
  | 32 => ⟨S_, .i32⟩
  | 33 => ⟨S16x8400x1, .i32⟩
  | 34 => ⟨S16x8400x1, .i1⟩
  | 35 => ⟨S_, .i32⟩
  | 36 => ⟨S16x8400x1, .i32⟩
  | 37 => ⟨S16x8400x1, .i32⟩
  | 38 => ⟨S16x8400x1, .i32⟩
  | 39 => ⟨S16x8400x4, .f32⟩
  | 40 => ⟨S_, .i32⟩
  | 41 => ⟨S16x8400, .i32⟩
  | 42 => ⟨S16x8400, .i1⟩
  | 43 => ⟨S_, .i32⟩
  | 44 => ⟨S16x8400, .i32⟩
  | 45 => ⟨S16x8400, .i32⟩
  | 46 => ⟨S16x8400, .i32⟩
  | 47 => ⟨S16x8400x1, .i32⟩
  | 48 => ⟨S16x8400, .i32⟩
  | 49 => ⟨S16x8400x1, .i32⟩
  | 50 => ⟨S1x1x80, .i32⟩
  | 51 => ⟨S16x8400x80, .i32⟩
  | 52 => ⟨S16x8400x80, .i32⟩
  | 53 => ⟨S16x8400x80, .i1⟩
  | 54 => ⟨S16x8400x80, .f32⟩
  | 55 => ⟨S16x8400x80, .f32⟩
  | 56 => ⟨S16x8400x80, .f32⟩
  | 57 => ⟨S16x8400x1, .f32⟩
  | 58 => ⟨S16x8400x80, .f32⟩
  | 59 => ⟨S16x8400x80, .f32⟩
  | 60 => ⟨S_, .f32⟩
  | 61 => ⟨S16x8400x80, .f32⟩
  | 62 => ⟨S16x8400x80, .f32⟩
  | 63 => ⟨S16x8400x80, .f32⟩
  | 64 => ⟨S16x8400x80, .f32⟩
  | 65 => ⟨S16x8400x80, .f32⟩
  | 66 => ⟨S16x8400x80, .f32⟩
  | 67 => ⟨S16x8400x80, .f32⟩
  | 68 => ⟨S1x8400x1, .f32⟩
  | 69 => ⟨S16x8400x4, .f32⟩
  | 70 => ⟨S16x8400x4, .f32⟩
  | 71 => ⟨S1x8400x1, .f32⟩
  | 72 => ⟨S16x8400x4, .f32⟩
  | 73 => ⟨S16x8400x4, .f32⟩
  | 74 => ⟨S_, .f32⟩
  | 75 => ⟨S16x8400, .f32⟩
  | 76 => ⟨S16x8400x1, .f32⟩
  | 77 => ⟨S16x8400, .f32⟩
  | 78 => ⟨S16x8400x1, .f32⟩
  | 79 => ⟨S16x8400, .f32⟩
  | 80 => ⟨S16x8400, .f32⟩
  | 81 => ⟨S16x8400x1, .f32⟩
  | 82 => ⟨S16x8400, .f32⟩
  | 83 => ⟨S16x8400x1, .f32⟩
  | 84 => ⟨S16x8400, .f32⟩
  | 85 => ⟨S16x8400, .f32⟩
  | 86 => ⟨S16x8400x1, .f32⟩
  | 87 => ⟨S16x8400, .f32⟩
  | 88 => ⟨S16x8400x1, .f32⟩
  | 89 => ⟨S16x8400, .f32⟩
  | 90 => ⟨S16x8400, .f32⟩
  | 91 => ⟨S16x8400x1, .f32⟩
  | 92 => ⟨S16x8400, .f32⟩
  | 93 => ⟨S16x8400x1, .f32⟩
  | 94 => ⟨S16x8400, .f32⟩
  | 95 => ⟨S16x8400, .f32⟩
  | 96 => ⟨S16x8400, .f32⟩
  | 97 => ⟨S_, .f32⟩
  | 98 => ⟨S16x8400, .f32⟩
  | 99 => ⟨S16x8400, .f32⟩
  | 100 => ⟨S16x8400, .f32⟩
  | 101 => ⟨S_, .f32⟩
  | 102 => ⟨S16x8400, .f32⟩
  | 103 => ⟨S16x8400, .f32⟩
  | 104 => ⟨S16x8400, .f32⟩
  | 105 => ⟨S16x8400x1, .f32⟩
  | 106 => ⟨S16x8400, .f32⟩
  | 107 => ⟨S16x8400x1, .f32⟩
  | 108 => ⟨S16x8400, .f32⟩
  | 109 => ⟨S16x8400, .f32⟩
  | 110 => ⟨S16x8400x1, .f32⟩
  | 111 => ⟨S16x8400, .f32⟩
  | 112 => ⟨S16x8400x1, .f32⟩
  | 113 => ⟨S16x8400, .f32⟩
  | 114 => ⟨S16x8400, .f32⟩
  | 115 => ⟨S16x8400, .f32⟩
  | 116 => ⟨S16x8400x1, .f32⟩
  | 117 => ⟨S16x8400, .f32⟩
  | 118 => ⟨S16x8400x1, .f32⟩
  | 119 => ⟨S16x8400, .f32⟩
  | 120 => ⟨S16x8400, .f32⟩
  | 121 => ⟨S16x8400x1, .f32⟩
  | 122 => ⟨S16x8400, .f32⟩
  | 123 => ⟨S16x8400x1, .f32⟩
  | 124 => ⟨S16x8400, .f32⟩
  | 125 => ⟨S16x8400, .f32⟩
  | 126 => ⟨S16x8400, .f32⟩
  | 127 => ⟨S16x8400, .f32⟩
  | _ => ⟨S16x8400x80, .f32⟩

abbrev hbmTy0_4 (i : Nat) : BufTy := match i % 128 with
  | 0 => ⟨S16x8400, .f32⟩
  | 1 => ⟨S_, .f32⟩
  | 2 => ⟨S16x8400, .f32⟩
  | 3 => ⟨S16x8400, .f32⟩
  | 4 => ⟨S16x8400, .f32⟩
  | 5 => ⟨S16x8400x1, .f32⟩
  | 6 => ⟨S16x8400, .f32⟩
  | 7 => ⟨S16x8400x1, .f32⟩
  | 8 => ⟨S16x8400, .f32⟩
  | 9 => ⟨S16x8400, .f32⟩
  | 10 => ⟨S16x8400x1, .f32⟩
  | 11 => ⟨S16x8400, .f32⟩
  | 12 => ⟨S16x8400x1, .f32⟩
  | 13 => ⟨S16x8400, .f32⟩
  | 14 => ⟨S16x8400, .f32⟩
  | 15 => ⟨S16x8400, .f32⟩
  | 16 => ⟨S16x8400x1, .f32⟩
  | 17 => ⟨S16x8400, .f32⟩
  | 18 => ⟨S16x8400x1, .f32⟩
  | 19 => ⟨S16x8400, .f32⟩
  | 20 => ⟨S16x8400, .f32⟩
  | 21 => ⟨S16x8400x1, .f32⟩
  | 22 => ⟨S16x8400, .f32⟩
  | 23 => ⟨S16x8400x1, .f32⟩
  | 24 => ⟨S16x8400, .f32⟩
  | 25 => ⟨S16x8400, .f32⟩
  | 26 => ⟨S16x8400, .f32⟩
  | 27 => ⟨S16x8400, .f32⟩
  | 28 => ⟨S16x8400, .f32⟩
  | 29 => ⟨S16x8400, .f32⟩
  | 30 => ⟨S_, .f32⟩
  | 31 => ⟨S16x8400, .f32⟩
  | 32 => ⟨S16x8400, .f32⟩
  | 33 => ⟨S16x8400x1, .f32⟩
  | 34 => ⟨S16x8400, .f32⟩
  | 35 => ⟨S16x8400x1, .f32⟩
  | 36 => ⟨S16x8400, .f32⟩
  | 37 => ⟨S16x8400, .f32⟩
  | 38 => ⟨S16x8400x1, .f32⟩
  | 39 => ⟨S16x8400, .f32⟩
  | 40 => ⟨S16x8400, .f32⟩
  | 41 => ⟨S16x8400x1, .f32⟩
  | 42 => ⟨S16x8400, .f32⟩
  | 43 => ⟨S16x8400, .f32⟩
  | 44 => ⟨S16x8400, .f32⟩
  | 45 => ⟨S16x8400x1, .f32⟩
  | 46 => ⟨S16x8400, .f32⟩
  | 47 => ⟨S16x8400x1, .f32⟩
  | 48 => ⟨S16x8400, .f32⟩
  | 49 => ⟨S16x8400, .f32⟩
  | 50 => ⟨S16x8400x1, .f32⟩
  | 51 => ⟨S16x8400, .f32⟩
  | 52 => ⟨S16x8400, .f32⟩
  | 53 => ⟨S16x8400x1, .f32⟩
  | 54 => ⟨S16x8400, .f32⟩
  | 55 => ⟨S16x8400, .f32⟩
  | 56 => ⟨S16x8400, .f32⟩
  | 57 => ⟨S16x8400, .f32⟩
  | 58 => ⟨S_, .f32⟩
  | 59 => ⟨S16x8400, .f32⟩
  | 60 => ⟨S16x8400, .f32⟩
  | 61 => ⟨S16x8400x1, .f32⟩
  | 62 => ⟨S16x8400, .f32⟩
  | 63 => ⟨S16x8400x1, .f32⟩
  | 64 => ⟨S16x8400, .f32⟩
  | 65 => ⟨S16x8400, .f32⟩
  | 66 => ⟨S_, .f32⟩
  | 67 => ⟨S16x8400, .f32⟩
  | 68 => ⟨S16x8400, .f32⟩
  | 69 => ⟨S16x8400x1, .f32⟩
  | 70 => ⟨S16x8400, .f32⟩
  | 71 => ⟨S16x8400x1, .f32⟩
  | 72 => ⟨S16x8400, .f32⟩
  | 73 => ⟨S16x8400, .f32⟩
  | 74 => ⟨S_, .f32⟩
  | 75 => ⟨S16x8400, .f32⟩
  | 76 => ⟨S16x8400, .f32⟩
  | 77 => ⟨S16x8400x1, .f32⟩
  | 78 => ⟨S16x8400, .f32⟩
  | 79 => ⟨S16x8400x1, .f32⟩
  | 80 => ⟨S16x8400, .f32⟩
  | 81 => ⟨S16x8400, .f32⟩
  | 82 => ⟨S_, .f32⟩
  | 83 => ⟨S16x8400, .f32⟩
  | 84 => ⟨S16x8400, .f32⟩
  | 85 => ⟨S16x8400x1, .f32⟩
  | 86 => ⟨S16x8400, .f32⟩
  | 87 => ⟨S16x8400x1, .f32⟩
  | 88 => ⟨S16x8400, .f32⟩
  | 89 => ⟨S16x8400, .f32⟩
  | 90 => ⟨S_, .f32⟩
  | 91 => ⟨S16x8400, .f32⟩
  | 92 => ⟨S16x8400, .f32⟩
  | 93 => ⟨S16x8400, .f32⟩
  | 94 => ⟨S_, .f32⟩
  | 95 => ⟨S16x8400, .f32⟩
  | 96 => ⟨S16x8400, .i1⟩
  | 97 => ⟨S_, .f32⟩
  | 98 => ⟨S16x8400, .f32⟩
  | 99 => ⟨S16x8400, .f32⟩
  | 100 => ⟨S16x8400, .f32⟩
  | 101 => ⟨S16x8400, .f32⟩
  | 102 => ⟨S_, .f32⟩
  | 103 => ⟨S16x8400, .f32⟩
  | 104 => ⟨S16x8400, .f32⟩
  | 105 => ⟨S_, .f32⟩
  | 106 => ⟨S16x8400, .f32⟩
  | 107 => ⟨S16x8400, .f32⟩
  | 108 => ⟨S16x8400, .f32⟩
  | 109 => ⟨S_, .f32⟩
  | 110 => ⟨S16x8400, .f32⟩
  | 111 => ⟨S16x8400, .f32⟩
  | 112 => ⟨S16x8400, .f32⟩
  | 113 => ⟨S_, .f32⟩
  | 114 => ⟨S16x8400, .f32⟩
  | 115 => ⟨S16x8400, .f32⟩
  | 116 => ⟨S16x8400, .f32⟩
  | 117 => ⟨S_, .f32⟩
  | 118 => ⟨S16x8400, .f32⟩
  | 119 => ⟨S16x8400, .f32⟩
  | 120 => ⟨S16x8400, .f32⟩
  | 121 => ⟨S_, .f32⟩
  | 122 => ⟨S16x8400, .f32⟩
  | 123 => ⟨S16x8400, .f32⟩
  | 124 => ⟨S16x8400, .f32⟩
  | 125 => ⟨S_, .f32⟩
  | 126 => ⟨S16x8400, .f32⟩
  | 127 => ⟨S16x8400, .f32⟩
  | _ => ⟨S16x8400x80, .f32⟩

abbrev hbmTy0_5 (i : Nat) : BufTy := match i % 128 with
  | 0 => ⟨S16x8400, .f32⟩
  | 1 => ⟨S_, .f32⟩
  | 2 => ⟨S16x8400, .f32⟩
  | 3 => ⟨S16x8400, .f32⟩
  | 4 => ⟨S16x8400, .f32⟩
  | 5 => ⟨S_, .f32⟩
  | 6 => ⟨S16x8400, .f32⟩
  | 7 => ⟨S16x8400, .f32⟩
  | 8 => ⟨S16x8400, .f32⟩
  | 9 => ⟨S16x8400, .f32⟩
  | 10 => ⟨S_, .f32⟩
  | 11 => ⟨S16x8400, .f32⟩
  | 12 => ⟨S16x8400, .i1⟩
  | 13 => ⟨S_, .f32⟩
  | 14 => ⟨S16x8400, .f32⟩
  | 15 => ⟨S16x8400, .f32⟩
  | 16 => ⟨S16x8400, .f32⟩
  | 17 => ⟨S16x8400, .f32⟩
  | 18 => ⟨S_, .f32⟩
  | 19 => ⟨S16x8400, .f32⟩
  | 20 => ⟨S16x8400, .f32⟩
  | 21 => ⟨S_, .f32⟩
  | 22 => ⟨S16x8400, .f32⟩
  | 23 => ⟨S16x8400, .f32⟩
  | 24 => ⟨S16x8400, .f32⟩
  | 25 => ⟨S_, .f32⟩
  | 26 => ⟨S16x8400, .f32⟩
  | 27 => ⟨S16x8400, .f32⟩
  | 28 => ⟨S16x8400, .f32⟩
  | 29 => ⟨S_, .f32⟩
  | 30 => ⟨S16x8400, .f32⟩
  | 31 => ⟨S16x8400, .f32⟩
  | 32 => ⟨S16x8400, .f32⟩
  | 33 => ⟨S_, .f32⟩
  | 34 => ⟨S16x8400, .f32⟩
  | 35 => ⟨S16x8400, .f32⟩
  | 36 => ⟨S16x8400, .f32⟩
  | 37 => ⟨S_, .f32⟩
  | 38 => ⟨S16x8400, .f32⟩
  | 39 => ⟨S16x8400, .f32⟩
  | 40 => ⟨S16x8400, .f32⟩
  | 41 => ⟨S_, .f32⟩
  | 42 => ⟨S16x8400, .f32⟩
  | 43 => ⟨S16x8400, .f32⟩
  | 44 => ⟨S16x8400, .f32⟩
  | 45 => ⟨S_, .f32⟩
  | 46 => ⟨S16x8400, .f32⟩
  | 47 => ⟨S16x8400, .f32⟩
  | 48 => ⟨S16x8400, .f32⟩
  | 49 => ⟨S_, .f32⟩
  | 50 => ⟨S16x8400, .f32⟩
  | 51 => ⟨S16x8400, .f32⟩
  | 52 => ⟨S16x8400, .f32⟩
  | 53 => ⟨S16x8400, .f32⟩
  | 54 => ⟨S16x8400, .f32⟩
  | 55 => ⟨S_, .f32⟩
  | 56 => ⟨S16x8400, .f32⟩
  | 57 => ⟨S16x8400, .f32⟩
  | 58 => ⟨S_, .f32⟩
  | 59 => ⟨S16x8400, .f32⟩
  | 60 => ⟨S16x8400, .f32⟩
  | 61 => ⟨S16x8400, .f32⟩
  | 62 => ⟨S_, .f32⟩
  | 63 => ⟨S16x8400, .f32⟩
  | 64 => ⟨S16x8400, .f32⟩
  | 65 => ⟨S16x8400, .f32⟩
  | 66 => ⟨S16x8400, .f32⟩
  | 67 => ⟨S16x8400, .f32⟩
  | 68 => ⟨S16x8400, .f32⟩
  | 69 => ⟨S16x8400, .f32⟩
  | 70 => ⟨S8400x1, .f32⟩
  | 71 => ⟨S8400x2, .f32⟩
  | 72 => ⟨S8400x2, .f32⟩
  | 73 => ⟨S1x8400x2, .f32⟩
  | 74 => ⟨S16x8400x2, .f32⟩
  | 75 => ⟨S16x8400x2, .f32⟩
  | 76 => ⟨S16x8400x2, .f32⟩
  | 77 => ⟨S16x8400x2, .f32⟩
  | 78 => ⟨S16x8400x2, .f32⟩
  | 79 => ⟨S16x8400x2, .f32⟩
  | 80 => ⟨S16x8400x4, .f32⟩
  | 81 => ⟨S_, .f32⟩
  | 82 => ⟨S16x8400x4, .f32⟩
  | 83 => ⟨S16x8400x4, .f32⟩
  | 84 => ⟨S_, .f32⟩
  | 85 => ⟨S16x8400x4, .f32⟩
  | 86 => ⟨S16x8400x4, .f32⟩
  | 87 => ⟨S16x8400x4, .f32⟩
  | 88 => ⟨S_, .f32⟩
  | 89 => ⟨S16x8400x4, .f32⟩
  | 90 => ⟨S_, .f32⟩
  | 91 => ⟨S16x8400x4, .f32⟩
  | 92 => ⟨S16x8400x4, .f32⟩
  | 93 => ⟨S16x8400x4x1, .f32⟩
  | 94 => ⟨S16x8400x4x16, .f32⟩
  | 95 => ⟨S16x8400x4x16, .f32⟩
  | 96 => ⟨S16x8400x4x16, .f32⟩
  | 97 => ⟨S_, .f32⟩
  | 98 => ⟨S16x8400x4, .f32⟩
  | 99 => ⟨S16x8400x4x1, .f32⟩
  | 100 => ⟨S16x8400x4x1, .f32⟩
  | 101 => ⟨S16x8400x4x16, .f32⟩
  | 102 => ⟨S16x8400x4x16, .f32⟩
  | 103 => ⟨S16x8400x4, .i32⟩
  | 104 => ⟨S16x8400x4x1, .i32⟩
  | 105 => ⟨S_, .i32⟩
  | 106 => ⟨S16x8400x4x1, .i32⟩
  | 107 => ⟨S16x8400x4x1, .i1⟩
  | 108 => ⟨S_, .i32⟩
  | 109 => ⟨S16x8400x4x1, .i32⟩
  | 110 => ⟨S16x8400x4x1, .i32⟩
  | 111 => ⟨S16x8400x4x1, .i32⟩
  | 112 => ⟨S16x8400x4x1x1, .i32⟩
  | 113 => ⟨S16x8400x4x1, .f32⟩
  | 114 => ⟨S16x8400x4, .f32⟩
  | 115 => ⟨S16x8400x4, .f32⟩
  | 116 => ⟨S_, .f32⟩
  | 117 => ⟨S16x8400x4, .f32⟩
  | 118 => ⟨S16x8400x4, .f32⟩
  | 119 => ⟨S16x8400x4, .i32⟩
  | 120 => ⟨S16x8400x4x1, .i32⟩
  | 121 => ⟨S_, .i32⟩
  | 122 => ⟨S16x8400x4x1, .i32⟩
  | 123 => ⟨S16x8400x4x1, .i1⟩
  | 124 => ⟨S_, .i32⟩
  | 125 => ⟨S16x8400x4x1, .i32⟩
  | 126 => ⟨S16x8400x4x1, .i32⟩
  | 127 => ⟨S16x8400x4x1, .i32⟩
  | _ => ⟨S16x8400x80, .f32⟩

abbrev hbmTy0_6 (i : Nat) : BufTy := match i % 128 with
  | 0 => ⟨S16x8400x4x1x1, .i32⟩
  | 1 => ⟨S16x8400x4x1, .f32⟩
  | 2 => ⟨S16x8400x4, .f32⟩
  | 3 => ⟨S16x8400x4, .f32⟩
  | 4 => ⟨S_, .f32⟩
  | 5 => ⟨S16x8400x4, .f32⟩
  | 6 => ⟨S16x8400x4, .f32⟩
  | 7 => ⟨S16x8400x4, .f32⟩
  | 8 => ⟨S16x8400x4, .f32⟩
  | 9 => ⟨S16x8400x4, .f32⟩
  | 10 => ⟨S16x8400x4, .f32⟩
  | 11 => ⟨S16x8400x4, .f32⟩
  | 12 => ⟨S_, .f32⟩
  | 13 => ⟨S16x8400, .f32⟩
  | 14 => ⟨S_, .f32⟩
  | 15 => ⟨S16x8400, .f32⟩
  | 16 => ⟨S16x8400, .f32⟩
  | 17 => ⟨S_, .f32⟩
  | 18 => ⟨S16x8400, .f32⟩
  | 19 => ⟨S_, .f32⟩
  | 20 => ⟨S16, .f32⟩
  | 21 => ⟨S_, .f32⟩
  | 22 => ⟨S16x8400, .f32⟩
  | 23 => ⟨S_, .f32⟩
  | 24 => ⟨S16, .f32⟩
  | 25 => ⟨S16x8400x80, .f32⟩
  | 26 => ⟨S_, .f32⟩
  | 27 => ⟨S16x8400, .f32⟩
  | 28 => ⟨S_, .f32⟩
  | 29 => ⟨S16, .f32⟩
  | 30 => ⟨S_, .f32⟩
  | 31 => ⟨S16x8400, .f32⟩
  | 32 => ⟨S16x8400, .f32⟩
  | 33 => ⟨S16x8400, .f32⟩
  | 34 => ⟨S16x8400, .f32⟩
  | 35 => ⟨S_, .f32⟩
  | 36 => ⟨S16, .f32⟩
  | 37 => ⟨S16x8400, .f32⟩
  | 38 => ⟨S16x8400, .f32⟩
  | 39 => ⟨S_, .f32⟩
  | 40 => ⟨S16, .f32⟩
  | 41 => ⟨S16x8x128, .i32⟩
  | 42 => ⟨S_, .f32⟩
  | 43 => ⟨S16x8x128, .f32⟩
  | 44 => ⟨S_, .i32⟩
  | 45 => ⟨S16x8x128, .i32⟩
  | 46 => ⟨S16x8x128, .i1⟩
  | 47 => ⟨S16x1x1, .f32⟩
  | 48 => ⟨S16x8x128, .f32⟩
  | 49 => ⟨S16x8x128, .f32⟩
  | 50 => ⟨S_, .i32⟩
  | 51 => ⟨S16x8x128, .i32⟩
  | 52 => ⟨S16x8x128, .i1⟩
  | 53 => ⟨S16x1x1, .f32⟩
  | 54 => ⟨S16x8x128, .f32⟩
  | 55 => ⟨S16x8x128, .f32⟩
  | 56 => ⟨S_, .i32⟩
  | 57 => ⟨S16x8x128, .i32⟩
  | 58 => ⟨S16x8x128, .i1⟩
  | 59 => ⟨S16x1x1, .f32⟩
  | 60 => ⟨S16x8x128, .f32⟩
  | 61 => ⟨S16x8x128, .f32⟩
  | 62 => ⟨S_, .i32⟩
  | 63 => ⟨S16x8x128, .i32⟩
  | 64 => ⟨S16x8x128, .i1⟩
  | 65 => ⟨S16x1x1, .f32⟩
  | 66 => ⟨S16x8x128, .f32⟩
  | 67 => ⟨S16x8x128, .f32⟩
  | 68 => ⟨S_, .i32⟩
  | 69 => ⟨S16x8x128, .i32⟩
  | 70 => ⟨S16x8x128, .i1⟩
  | 71 => ⟨S16x1x1, .f32⟩
  | 72 => ⟨S16x8x128, .f32⟩
  | 73 => ⟨S16x8x128, .f32⟩
  | _ => ⟨S16x8400x80, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S16x8400x80, .f32⟩

abbrev bufTy : (tb : Table) → Fin (tcTables nBuf tb) → BufTy
  | .hbm, ⟨i, _⟩ => hbmTy i
  | _, _ => ⟨S16x8400x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_cst : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_cst_0 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_cst_1 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_cst_2 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_cst_3 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_cst_4 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_cst_5 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_cst_6 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_cst_7 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_cst_8 : Ref sig .tc := ⟨.hbm, 218, rfl⟩
abbrev main_v202 : Ref sig .tc := ⟨.hbm, 219, rfl⟩
abbrev main_v203 : Ref sig .tc := ⟨.hbm, 220, rfl⟩
abbrev main_cst_9 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_cst_10 : Ref sig .tc := ⟨.hbm, 226, rfl⟩
abbrev main_v208 : Ref sig .tc := ⟨.hbm, 227, rfl⟩
abbrev main_v209 : Ref sig .tc := ⟨.hbm, 228, rfl⟩
abbrev main_cst_11 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_cst_12 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_cst_13 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_cst_14 : Ref sig .tc := ⟨.hbm, 241, rfl⟩
abbrev main_v219 : Ref sig .tc := ⟨.hbm, 242, rfl⟩
abbrev main_v220 : Ref sig .tc := ⟨.hbm, 243, rfl⟩
abbrev main_v221 : Ref sig .tc := ⟨.hbm, 244, rfl⟩
abbrev main_cst_15 : Ref sig .tc := ⟨.hbm, 245, rfl⟩
abbrev main_v222 : Ref sig .tc := ⟨.hbm, 246, rfl⟩
abbrev main_v223 : Ref sig .tc := ⟨.hbm, 247, rfl⟩
abbrev main_v224 : Ref sig .tc := ⟨.hbm, 248, rfl⟩
abbrev main_cst_16 : Ref sig .tc := ⟨.hbm, 249, rfl⟩
abbrev main_v225 : Ref sig .tc := ⟨.hbm, 250, rfl⟩
abbrev main_v226 : Ref sig .tc := ⟨.hbm, 251, rfl⟩
abbrev main_v227 : Ref sig .tc := ⟨.hbm, 252, rfl⟩
abbrev main_cst_17 : Ref sig .tc := ⟨.hbm, 253, rfl⟩
abbrev main_v228 : Ref sig .tc := ⟨.hbm, 254, rfl⟩
abbrev main_v229 : Ref sig .tc := ⟨.hbm, 255, rfl⟩
abbrev main_v230 : Ref sig .tc := ⟨.hbm, 256, rfl⟩
abbrev main_cst_18 : Ref sig .tc := ⟨.hbm, 257, rfl⟩
abbrev main_v231 : Ref sig .tc := ⟨.hbm, 258, rfl⟩
abbrev main_v232 : Ref sig .tc := ⟨.hbm, 259, rfl⟩
abbrev main_v233 : Ref sig .tc := ⟨.hbm, 260, rfl⟩
abbrev main_v234 : Ref sig .tc := ⟨.hbm, 261, rfl⟩
abbrev main_cst_19 : Ref sig .tc := ⟨.hbm, 262, rfl⟩
abbrev main_v235 : Ref sig .tc := ⟨.hbm, 263, rfl⟩
abbrev main_v236 : Ref sig .tc := ⟨.hbm, 264, rfl⟩
abbrev main_cst_20 : Ref sig .tc := ⟨.hbm, 265, rfl⟩
abbrev main_v237 : Ref sig .tc := ⟨.hbm, 266, rfl⟩
abbrev main_v238 : Ref sig .tc := ⟨.hbm, 267, rfl⟩
abbrev main_v239 : Ref sig .tc := ⟨.hbm, 268, rfl⟩
abbrev main_v240 : Ref sig .tc := ⟨.hbm, 269, rfl⟩
abbrev main_cst_21 : Ref sig .tc := ⟨.hbm, 270, rfl⟩
abbrev main_v241 : Ref sig .tc := ⟨.hbm, 271, rfl⟩
abbrev main_v242 : Ref sig .tc := ⟨.hbm, 272, rfl⟩
abbrev main_cst_22 : Ref sig .tc := ⟨.hbm, 273, rfl⟩
abbrev main_v243 : Ref sig .tc := ⟨.hbm, 274, rfl⟩
abbrev main_v244 : Ref sig .tc := ⟨.hbm, 275, rfl⟩
abbrev main_v245 : Ref sig .tc := ⟨.hbm, 276, rfl⟩
abbrev main_cst_23 : Ref sig .tc := ⟨.hbm, 277, rfl⟩
abbrev main_v246 : Ref sig .tc := ⟨.hbm, 278, rfl⟩
abbrev main_v247 : Ref sig .tc := ⟨.hbm, 279, rfl⟩
abbrev main_v248 : Ref sig .tc := ⟨.hbm, 280, rfl⟩
abbrev main_cst_24 : Ref sig .tc := ⟨.hbm, 281, rfl⟩
abbrev main_v249 : Ref sig .tc := ⟨.hbm, 282, rfl⟩
abbrev main_v250 : Ref sig .tc := ⟨.hbm, 283, rfl⟩
abbrev main_v251 : Ref sig .tc := ⟨.hbm, 284, rfl⟩
abbrev main_cst_25 : Ref sig .tc := ⟨.hbm, 285, rfl⟩
abbrev main_v252 : Ref sig .tc := ⟨.hbm, 286, rfl⟩
abbrev main_v253 : Ref sig .tc := ⟨.hbm, 287, rfl⟩
abbrev main_v254 : Ref sig .tc := ⟨.hbm, 288, rfl⟩
abbrev main_cst_26 : Ref sig .tc := ⟨.hbm, 289, rfl⟩
abbrev main_v255 : Ref sig .tc := ⟨.hbm, 290, rfl⟩
abbrev main_v256 : Ref sig .tc := ⟨.hbm, 291, rfl⟩
abbrev main_v257 : Ref sig .tc := ⟨.hbm, 292, rfl⟩
abbrev main_cst_27 : Ref sig .tc := ⟨.hbm, 293, rfl⟩
abbrev main_v258 : Ref sig .tc := ⟨.hbm, 294, rfl⟩
abbrev main_v259 : Ref sig .tc := ⟨.hbm, 295, rfl⟩
abbrev main_v260 : Ref sig .tc := ⟨.hbm, 296, rfl⟩
abbrev main_cst_28 : Ref sig .tc := ⟨.hbm, 297, rfl⟩
abbrev main_v261 : Ref sig .tc := ⟨.hbm, 298, rfl⟩
abbrev main_v262 : Ref sig .tc := ⟨.hbm, 299, rfl⟩
abbrev main_v263 : Ref sig .tc := ⟨.hbm, 300, rfl⟩
abbrev main_cst_29 : Ref sig .tc := ⟨.hbm, 301, rfl⟩
abbrev main_v264 : Ref sig .tc := ⟨.hbm, 302, rfl⟩
abbrev main_v265 : Ref sig .tc := ⟨.hbm, 303, rfl⟩
abbrev main_v266 : Ref sig .tc := ⟨.hbm, 304, rfl⟩
abbrev main_v267 : Ref sig .tc := ⟨.hbm, 305, rfl⟩
abbrev main_v268 : Ref sig .tc := ⟨.hbm, 306, rfl⟩
abbrev main_v269 : Ref sig .tc := ⟨.hbm, 307, rfl⟩
abbrev main_v270 : Ref sig .tc := ⟨.hbm, 308, rfl⟩
abbrev main_cst_30 : Ref sig .tc := ⟨.hbm, 309, rfl⟩
abbrev main_v271 : Ref sig .tc := ⟨.hbm, 310, rfl⟩
abbrev main_v272 : Ref sig .tc := ⟨.hbm, 311, rfl⟩
abbrev main_cst_31 : Ref sig .tc := ⟨.hbm, 312, rfl⟩
abbrev main_v273 : Ref sig .tc := ⟨.hbm, 313, rfl⟩
abbrev main_v274 : Ref sig .tc := ⟨.hbm, 314, rfl⟩
abbrev main_v275 : Ref sig .tc := ⟨.hbm, 315, rfl⟩
abbrev main_cst_32 : Ref sig .tc := ⟨.hbm, 316, rfl⟩
abbrev main_v276 : Ref sig .tc := ⟨.hbm, 317, rfl⟩
abbrev main_v277 : Ref sig .tc := ⟨.hbm, 318, rfl⟩
abbrev main_v278 : Ref sig .tc := ⟨.hbm, 319, rfl⟩
abbrev main_v279 : Ref sig .tc := ⟨.hbm, 320, rfl⟩
abbrev main_v280 : Ref sig .tc := ⟨.hbm, 321, rfl⟩
abbrev main_v281 : Ref sig .tc := ⟨.hbm, 322, rfl⟩
abbrev main_v282 : Ref sig .tc := ⟨.hbm, 323, rfl⟩
abbrev main_cst_33 : Ref sig .tc := ⟨.hbm, 324, rfl⟩
abbrev main_v283 : Ref sig .tc := ⟨.hbm, 325, rfl⟩
abbrev main_v284 : Ref sig .tc := ⟨.hbm, 326, rfl⟩
abbrev main_cst_34 : Ref sig .tc := ⟨.hbm, 327, rfl⟩
abbrev main_v285 : Ref sig .tc := ⟨.hbm, 328, rfl⟩
abbrev main_v286 : Ref sig .tc := ⟨.hbm, 329, rfl⟩
abbrev main_v287 : Ref sig .tc := ⟨.hbm, 330, rfl⟩
abbrev main_v288 : Ref sig .tc := ⟨.hbm, 331, rfl⟩
abbrev main_cst_35 : Ref sig .tc := ⟨.hbm, 332, rfl⟩
abbrev main_v289 : Ref sig .tc := ⟨.hbm, 333, rfl⟩
abbrev main_v290 : Ref sig .tc := ⟨.hbm, 334, rfl⟩
abbrev main_cst_36 : Ref sig .tc := ⟨.hbm, 335, rfl⟩
abbrev main_v291 : Ref sig .tc := ⟨.hbm, 336, rfl⟩
abbrev main_v292 : Ref sig .tc := ⟨.hbm, 337, rfl⟩
abbrev main_v293 : Ref sig .tc := ⟨.hbm, 338, rfl⟩
abbrev main_v294 : Ref sig .tc := ⟨.hbm, 339, rfl⟩
abbrev main_v295 : Ref sig .tc := ⟨.hbm, 340, rfl⟩
abbrev main_call4_c : Ref sig .tc := ⟨.hbm, 341, rfl⟩
abbrev main_call4_v0 : Ref sig .tc := ⟨.hbm, 342, rfl⟩
abbrev main_call4_v1 : Ref sig .tc := ⟨.hbm, 343, rfl⟩
abbrev main_call4_c_0 : Ref sig .tc := ⟨.hbm, 344, rfl⟩
abbrev main_call4_v2 : Ref sig .tc := ⟨.hbm, 345, rfl⟩
abbrev main_call4_v3 : Ref sig .tc := ⟨.hbm, 346, rfl⟩
abbrev main_call4_v4 : Ref sig .tc := ⟨.hbm, 347, rfl⟩
abbrev main_call4_v5 : Ref sig .tc := ⟨.hbm, 348, rfl⟩
abbrev main_v296 : Ref sig .tc := ⟨.hbm, 349, rfl⟩
abbrev main_v297 : Ref sig .tc := ⟨.hbm, 350, rfl⟩
abbrev main_v298 : Ref sig .tc := ⟨.hbm, 351, rfl⟩
abbrev main_v299 : Ref sig .tc := ⟨.hbm, 352, rfl⟩
abbrev main_v300 : Ref sig .tc := ⟨.hbm, 353, rfl⟩
abbrev main_v301 : Ref sig .tc := ⟨.hbm, 354, rfl⟩
abbrev main_v302 : Ref sig .tc := ⟨.hbm, 355, rfl⟩
abbrev main_v303 : Ref sig .tc := ⟨.hbm, 356, rfl⟩
abbrev main_v304 : Ref sig .tc := ⟨.hbm, 357, rfl⟩
abbrev main_v305 : Ref sig .tc := ⟨.hbm, 358, rfl⟩
abbrev main_v306 : Ref sig .tc := ⟨.hbm, 359, rfl⟩
abbrev main_v307 : Ref sig .tc := ⟨.hbm, 360, rfl⟩
abbrev main_c_37 : Ref sig .tc := ⟨.hbm, 361, rfl⟩
abbrev main_v308 : Ref sig .tc := ⟨.hbm, 362, rfl⟩
abbrev main_v309 : Ref sig .tc := ⟨.hbm, 363, rfl⟩
abbrev main_values : Ref sig .tc := ⟨.hbm, 364, rfl⟩
abbrev main_indices : Ref sig .tc := ⟨.hbm, 365, rfl⟩
abbrev main_v310 : Ref sig .tc := ⟨.hbm, 366, rfl⟩
abbrev main_v311 : Ref sig .tc := ⟨.hbm, 367, rfl⟩
abbrev main_v312 : Ref sig .tc := ⟨.hbm, 368, rfl⟩
abbrev main_cst_38 : Ref sig .tc := ⟨.hbm, 369, rfl⟩
abbrev main_call5_v0 : Ref sig .tc := ⟨.hbm, 370, rfl⟩
abbrev main_call5_v1 : Ref sig .tc := ⟨.hbm, 371, rfl⟩
abbrev main_v313 : Ref sig .tc := ⟨.hbm, 372, rfl⟩
abbrev main_cst_39 : Ref sig .tc := ⟨.hbm, 373, rfl⟩
abbrev main_v314 : Ref sig .tc := ⟨.hbm, 374, rfl⟩
abbrev main_v315 : Ref sig .tc := ⟨.hbm, 375, rfl⟩
abbrev main_v316 : Ref sig .tc := ⟨.hbm, 376, rfl⟩
abbrev main_v317 : Ref sig .tc := ⟨.hbm, 377, rfl⟩
abbrev main_values_40 : Ref sig .tc := ⟨.hbm, 378, rfl⟩
abbrev main_indices_41 : Ref sig .tc := ⟨.hbm, 379, rfl⟩
abbrev main_v318 : Ref sig .tc := ⟨.hbm, 380, rfl⟩
abbrev main_cst_42 : Ref sig .tc := ⟨.hbm, 381, rfl⟩
abbrev main_v319 : Ref sig .tc := ⟨.hbm, 382, rfl⟩
abbrev main_cst_43 : Ref sig .tc := ⟨.hbm, 383, rfl⟩
abbrev main_v320 : Ref sig .tc := ⟨.hbm, 384, rfl⟩
abbrev main_v321 : Ref sig .tc := ⟨.hbm, 385, rfl⟩
abbrev main_cst_44 : Ref sig .tc := ⟨.hbm, 386, rfl⟩
abbrev main_v322 : Ref sig .tc := ⟨.hbm, 387, rfl⟩
abbrev main_v323 : Ref sig .tc := ⟨.hbm, 388, rfl⟩
abbrev main_v324 : Ref sig .tc := ⟨.hbm, 389, rfl⟩
abbrev main_cst_45 : Ref sig .tc := ⟨.hbm, 390, rfl⟩
abbrev main_v325 : Ref sig .tc := ⟨.hbm, 391, rfl⟩
abbrev main_v326 : Ref sig .tc := ⟨.hbm, 392, rfl⟩
abbrev main_cst_46 : Ref sig .tc := ⟨.hbm, 393, rfl⟩
abbrev main_v327 : Ref sig .tc := ⟨.hbm, 394, rfl⟩
abbrev main_v328 : Ref sig .tc := ⟨.hbm, 395, rfl⟩
abbrev main_v329 : Ref sig .tc := ⟨.hbm, 396, rfl⟩
abbrev main_v330 : Ref sig .tc := ⟨.hbm, 397, rfl⟩
abbrev main_cst_47 : Ref sig .tc := ⟨.hbm, 398, rfl⟩
abbrev main_v331 : Ref sig .tc := ⟨.hbm, 399, rfl⟩
abbrev main_v332 : Ref sig .tc := ⟨.hbm, 400, rfl⟩
abbrev main_v333 : Ref sig .tc := ⟨.hbm, 401, rfl⟩
abbrev main_v334 : Ref sig .tc := ⟨.hbm, 402, rfl⟩
abbrev main_v335 : Ref sig .tc := ⟨.hbm, 403, rfl⟩
abbrev main_v336 : Ref sig .tc := ⟨.hbm, 404, rfl⟩
abbrev main_call6_c : Ref sig .tc := ⟨.hbm, 405, rfl⟩
abbrev main_call6_v0 : Ref sig .tc := ⟨.hbm, 406, rfl⟩
abbrev main_call6_v1 : Ref sig .tc := ⟨.hbm, 407, rfl⟩
abbrev main_call6_c_0 : Ref sig .tc := ⟨.hbm, 408, rfl⟩
abbrev main_call6_v2 : Ref sig .tc := ⟨.hbm, 409, rfl⟩
abbrev main_call6_v3 : Ref sig .tc := ⟨.hbm, 410, rfl⟩
abbrev main_call6_v4 : Ref sig .tc := ⟨.hbm, 411, rfl⟩
abbrev main_call6_v5 : Ref sig .tc := ⟨.hbm, 412, rfl⟩
abbrev main_v337 : Ref sig .tc := ⟨.hbm, 413, rfl⟩
abbrev main_v338 : Ref sig .tc := ⟨.hbm, 414, rfl⟩
abbrev main_v339 : Ref sig .tc := ⟨.hbm, 415, rfl⟩
abbrev main_call7_c : Ref sig .tc := ⟨.hbm, 416, rfl⟩
abbrev main_call7_v0 : Ref sig .tc := ⟨.hbm, 417, rfl⟩
abbrev main_call7_v1 : Ref sig .tc := ⟨.hbm, 418, rfl⟩
abbrev main_call7_c_0 : Ref sig .tc := ⟨.hbm, 419, rfl⟩
abbrev main_call7_v2 : Ref sig .tc := ⟨.hbm, 420, rfl⟩
abbrev main_call7_v3 : Ref sig .tc := ⟨.hbm, 421, rfl⟩
abbrev main_call7_v4 : Ref sig .tc := ⟨.hbm, 422, rfl⟩
abbrev main_v340 : Ref sig .tc := ⟨.hbm, 423, rfl⟩
abbrev main_call8_c : Ref sig .tc := ⟨.hbm, 424, rfl⟩
abbrev main_call8_v0 : Ref sig .tc := ⟨.hbm, 425, rfl⟩
abbrev main_call8_v1 : Ref sig .tc := ⟨.hbm, 426, rfl⟩
abbrev main_call8_c_0 : Ref sig .tc := ⟨.hbm, 427, rfl⟩
abbrev main_call8_v2 : Ref sig .tc := ⟨.hbm, 428, rfl⟩
abbrev main_call8_v3 : Ref sig .tc := ⟨.hbm, 429, rfl⟩
abbrev main_call8_v4 : Ref sig .tc := ⟨.hbm, 430, rfl⟩
abbrev main_call8_v5 : Ref sig .tc := ⟨.hbm, 431, rfl⟩
abbrev main_v341 : Ref sig .tc := ⟨.hbm, 432, rfl⟩
abbrev main_call9_v0 : Ref sig .tc := ⟨.hbm, 433, rfl⟩
abbrev main_call9_v1 : Ref sig .tc := ⟨.hbm, 434, rfl⟩
abbrev main_call9_v2 : Ref sig .tc := ⟨.hbm, 435, rfl⟩
abbrev main_call9_v3 : Ref sig .tc := ⟨.hbm, 436, rfl⟩
abbrev main_call9_v4 : Ref sig .tc := ⟨.hbm, 437, rfl⟩
abbrev main_v342 : Ref sig .tc := ⟨.hbm, 438, rfl⟩
abbrev main_v343 : Ref sig .tc := ⟨.hbm, 439, rfl⟩
abbrev main_v344 : Ref sig .tc := ⟨.hbm, 440, rfl⟩
abbrev main_v345 : Ref sig .tc := ⟨.hbm, 441, rfl⟩
abbrev main_v346 : Ref sig .tc := ⟨.hbm, 442, rfl⟩
abbrev main_v347 : Ref sig .tc := ⟨.hbm, 443, rfl⟩
abbrev main_cst_48 : Ref sig .tc := ⟨.hbm, 444, rfl⟩
abbrev main_v348 : Ref sig .tc := ⟨.hbm, 445, rfl⟩
abbrev main_v349 : Ref sig .tc := ⟨.hbm, 446, rfl⟩
abbrev main_v350 : Ref sig .tc := ⟨.hbm, 447, rfl⟩
abbrev main_v351 : Ref sig .tc := ⟨.hbm, 448, rfl⟩
abbrev main_v352 : Ref sig .tc := ⟨.hbm, 449, rfl⟩
abbrev main_v353 : Ref sig .tc := ⟨.hbm, 450, rfl⟩
abbrev main_v354 : Ref sig .tc := ⟨.hbm, 451, rfl⟩
abbrev main_v355 : Ref sig .tc := ⟨.hbm, 452, rfl⟩
abbrev main_v356 : Ref sig .tc := ⟨.hbm, 453, rfl⟩
abbrev main_v357 : Ref sig .tc := ⟨.hbm, 454, rfl⟩
abbrev main_v358 : Ref sig .tc := ⟨.hbm, 455, rfl⟩
abbrev main_v359 : Ref sig .tc := ⟨.hbm, 456, rfl⟩
abbrev main_v360 : Ref sig .tc := ⟨.hbm, 457, rfl⟩
abbrev main_cst_49 : Ref sig .tc := ⟨.hbm, 458, rfl⟩
abbrev main_v361 : Ref sig .tc := ⟨.hbm, 459, rfl⟩
abbrev main_v362 : Ref sig .tc := ⟨.hbm, 460, rfl⟩
abbrev main_v363 : Ref sig .tc := ⟨.hbm, 461, rfl⟩
abbrev main_v364 : Ref sig .tc := ⟨.hbm, 462, rfl⟩
abbrev main_v365 : Ref sig .tc := ⟨.hbm, 463, rfl⟩
abbrev main_v366 : Ref sig .tc := ⟨.hbm, 464, rfl⟩
abbrev main_v367 : Ref sig .tc := ⟨.hbm, 465, rfl⟩
abbrev main_v368 : Ref sig .tc := ⟨.hbm, 466, rfl⟩
abbrev main_v369 : Ref sig .tc := ⟨.hbm, 467, rfl⟩
abbrev main_v370 : Ref sig .tc := ⟨.hbm, 468, rfl⟩
abbrev main_v371 : Ref sig .tc := ⟨.hbm, 469, rfl⟩
abbrev main_v372 : Ref sig .tc := ⟨.hbm, 470, rfl⟩
abbrev main_v373 : Ref sig .tc := ⟨.hbm, 471, rfl⟩
abbrev main_v374 : Ref sig .tc := ⟨.hbm, 472, rfl⟩
abbrev main_v375 : Ref sig .tc := ⟨.hbm, 473, rfl⟩
abbrev main_v376 : Ref sig .tc := ⟨.hbm, 474, rfl⟩
abbrev main_v377 : Ref sig .tc := ⟨.hbm, 475, rfl⟩
abbrev main_v378 : Ref sig .tc := ⟨.hbm, 476, rfl⟩
abbrev main_v379 : Ref sig .tc := ⟨.hbm, 477, rfl⟩
abbrev main_v380 : Ref sig .tc := ⟨.hbm, 478, rfl⟩
abbrev main_v381 : Ref sig .tc := ⟨.hbm, 479, rfl⟩
abbrev main_v382 : Ref sig .tc := ⟨.hbm, 480, rfl⟩
abbrev main_cst_50 : Ref sig .tc := ⟨.hbm, 481, rfl⟩
abbrev main_v383 : Ref sig .tc := ⟨.hbm, 482, rfl⟩
abbrev main_v384 : Ref sig .tc := ⟨.hbm, 483, rfl⟩
abbrev main_v385 : Ref sig .tc := ⟨.hbm, 484, rfl⟩
abbrev main_cst_51 : Ref sig .tc := ⟨.hbm, 485, rfl⟩
abbrev main_v386 : Ref sig .tc := ⟨.hbm, 486, rfl⟩
abbrev main_v387 : Ref sig .tc := ⟨.hbm, 487, rfl⟩
abbrev main_v388 : Ref sig .tc := ⟨.hbm, 488, rfl⟩
abbrev main_v389 : Ref sig .tc := ⟨.hbm, 489, rfl⟩
abbrev main_v390 : Ref sig .tc := ⟨.hbm, 490, rfl⟩
abbrev main_v391 : Ref sig .tc := ⟨.hbm, 491, rfl⟩
abbrev main_v392 : Ref sig .tc := ⟨.hbm, 492, rfl⟩
abbrev main_v393 : Ref sig .tc := ⟨.hbm, 493, rfl⟩
abbrev main_v394 : Ref sig .tc := ⟨.hbm, 494, rfl⟩
abbrev main_v395 : Ref sig .tc := ⟨.hbm, 495, rfl⟩
abbrev main_v396 : Ref sig .tc := ⟨.hbm, 496, rfl⟩
abbrev main_v397 : Ref sig .tc := ⟨.hbm, 497, rfl⟩
abbrev main_v398 : Ref sig .tc := ⟨.hbm, 498, rfl⟩
abbrev main_v399 : Ref sig .tc := ⟨.hbm, 499, rfl⟩
abbrev main_v400 : Ref sig .tc := ⟨.hbm, 500, rfl⟩
abbrev main_v401 : Ref sig .tc := ⟨.hbm, 501, rfl⟩
abbrev main_v402 : Ref sig .tc := ⟨.hbm, 502, rfl⟩
abbrev main_v403 : Ref sig .tc := ⟨.hbm, 503, rfl⟩
abbrev main_v404 : Ref sig .tc := ⟨.hbm, 504, rfl⟩
abbrev main_v405 : Ref sig .tc := ⟨.hbm, 505, rfl⟩
abbrev main_v406 : Ref sig .tc := ⟨.hbm, 506, rfl⟩
abbrev main_v407 : Ref sig .tc := ⟨.hbm, 507, rfl⟩
abbrev main_v408 : Ref sig .tc := ⟨.hbm, 508, rfl⟩
abbrev main_v409 : Ref sig .tc := ⟨.hbm, 509, rfl⟩
abbrev main_v410 : Ref sig .tc := ⟨.hbm, 510, rfl⟩
abbrev main_v411 : Ref sig .tc := ⟨.hbm, 511, rfl⟩
abbrev main_v412 : Ref sig .tc := ⟨.hbm, 512, rfl⟩
abbrev main_cst_52 : Ref sig .tc := ⟨.hbm, 513, rfl⟩
abbrev main_v413 : Ref sig .tc := ⟨.hbm, 514, rfl⟩
abbrev main_v414 : Ref sig .tc := ⟨.hbm, 515, rfl⟩
abbrev main_v415 : Ref sig .tc := ⟨.hbm, 516, rfl⟩
abbrev main_v416 : Ref sig .tc := ⟨.hbm, 517, rfl⟩
abbrev main_v417 : Ref sig .tc := ⟨.hbm, 518, rfl⟩
abbrev main_v418 : Ref sig .tc := ⟨.hbm, 519, rfl⟩
abbrev main_v419 : Ref sig .tc := ⟨.hbm, 520, rfl⟩
abbrev main_v420 : Ref sig .tc := ⟨.hbm, 521, rfl⟩
abbrev main_v421 : Ref sig .tc := ⟨.hbm, 522, rfl⟩
abbrev main_v422 : Ref sig .tc := ⟨.hbm, 523, rfl⟩
abbrev main_v423 : Ref sig .tc := ⟨.hbm, 524, rfl⟩
abbrev main_v424 : Ref sig .tc := ⟨.hbm, 525, rfl⟩
abbrev main_v425 : Ref sig .tc := ⟨.hbm, 526, rfl⟩
abbrev main_v426 : Ref sig .tc := ⟨.hbm, 527, rfl⟩
abbrev main_v427 : Ref sig .tc := ⟨.hbm, 528, rfl⟩
abbrev main_v428 : Ref sig .tc := ⟨.hbm, 529, rfl⟩
abbrev main_v429 : Ref sig .tc := ⟨.hbm, 530, rfl⟩
abbrev main_v430 : Ref sig .tc := ⟨.hbm, 531, rfl⟩
abbrev main_v431 : Ref sig .tc := ⟨.hbm, 532, rfl⟩
abbrev main_v432 : Ref sig .tc := ⟨.hbm, 533, rfl⟩
abbrev main_v433 : Ref sig .tc := ⟨.hbm, 534, rfl⟩
abbrev main_v434 : Ref sig .tc := ⟨.hbm, 535, rfl⟩
abbrev main_v435 : Ref sig .tc := ⟨.hbm, 536, rfl⟩
abbrev main_v436 : Ref sig .tc := ⟨.hbm, 537, rfl⟩
abbrev main_v437 : Ref sig .tc := ⟨.hbm, 538, rfl⟩
abbrev main_v438 : Ref sig .tc := ⟨.hbm, 539, rfl⟩
abbrev main_v439 : Ref sig .tc := ⟨.hbm, 540, rfl⟩
abbrev main_v440 : Ref sig .tc := ⟨.hbm, 541, rfl⟩
abbrev main_cst_53 : Ref sig .tc := ⟨.hbm, 542, rfl⟩
abbrev main_v441 : Ref sig .tc := ⟨.hbm, 543, rfl⟩
abbrev main_v442 : Ref sig .tc := ⟨.hbm, 544, rfl⟩
abbrev main_v443 : Ref sig .tc := ⟨.hbm, 545, rfl⟩
abbrev main_v444 : Ref sig .tc := ⟨.hbm, 546, rfl⟩
abbrev main_v445 : Ref sig .tc := ⟨.hbm, 547, rfl⟩
abbrev main_v446 : Ref sig .tc := ⟨.hbm, 548, rfl⟩
abbrev main_v447 : Ref sig .tc := ⟨.hbm, 549, rfl⟩
abbrev main_v448 : Ref sig .tc := ⟨.hbm, 550, rfl⟩
abbrev main_v449 : Ref sig .tc := ⟨.hbm, 551, rfl⟩
abbrev main_v450 : Ref sig .tc := ⟨.hbm, 552, rfl⟩
abbrev main_v451 : Ref sig .tc := ⟨.hbm, 553, rfl⟩
abbrev main_v452 : Ref sig .tc := ⟨.hbm, 554, rfl⟩
abbrev main_v453 : Ref sig .tc := ⟨.hbm, 555, rfl⟩
abbrev main_v454 : Ref sig .tc := ⟨.hbm, 556, rfl⟩
abbrev main_v455 : Ref sig .tc := ⟨.hbm, 557, rfl⟩
abbrev main_v456 : Ref sig .tc := ⟨.hbm, 558, rfl⟩
abbrev main_v457 : Ref sig .tc := ⟨.hbm, 559, rfl⟩
abbrev main_v458 : Ref sig .tc := ⟨.hbm, 560, rfl⟩
abbrev main_v459 : Ref sig .tc := ⟨.hbm, 561, rfl⟩
abbrev main_v460 : Ref sig .tc := ⟨.hbm, 562, rfl⟩
abbrev main_v461 : Ref sig .tc := ⟨.hbm, 563, rfl⟩
abbrev main_v462 : Ref sig .tc := ⟨.hbm, 564, rfl⟩
abbrev main_v463 : Ref sig .tc := ⟨.hbm, 565, rfl⟩
abbrev main_v464 : Ref sig .tc := ⟨.hbm, 566, rfl⟩
abbrev main_v465 : Ref sig .tc := ⟨.hbm, 567, rfl⟩
abbrev main_v466 : Ref sig .tc := ⟨.hbm, 568, rfl⟩
abbrev main_v467 : Ref sig .tc := ⟨.hbm, 569, rfl⟩
abbrev main_cst_54 : Ref sig .tc := ⟨.hbm, 570, rfl⟩
abbrev main_v468 : Ref sig .tc := ⟨.hbm, 571, rfl⟩
abbrev main_v469 : Ref sig .tc := ⟨.hbm, 572, rfl⟩
abbrev main_v470 : Ref sig .tc := ⟨.hbm, 573, rfl⟩
abbrev main_v471 : Ref sig .tc := ⟨.hbm, 574, rfl⟩
abbrev main_v472 : Ref sig .tc := ⟨.hbm, 575, rfl⟩
abbrev main_v473 : Ref sig .tc := ⟨.hbm, 576, rfl⟩
abbrev main_v474 : Ref sig .tc := ⟨.hbm, 577, rfl⟩
abbrev main_cst_55 : Ref sig .tc := ⟨.hbm, 578, rfl⟩
abbrev main_v475 : Ref sig .tc := ⟨.hbm, 579, rfl⟩
abbrev main_v476 : Ref sig .tc := ⟨.hbm, 580, rfl⟩
abbrev main_v477 : Ref sig .tc := ⟨.hbm, 581, rfl⟩
abbrev main_v478 : Ref sig .tc := ⟨.hbm, 582, rfl⟩
abbrev main_v479 : Ref sig .tc := ⟨.hbm, 583, rfl⟩
abbrev main_v480 : Ref sig .tc := ⟨.hbm, 584, rfl⟩
abbrev main_v481 : Ref sig .tc := ⟨.hbm, 585, rfl⟩
abbrev main_cst_56 : Ref sig .tc := ⟨.hbm, 586, rfl⟩
abbrev main_v482 : Ref sig .tc := ⟨.hbm, 587, rfl⟩
abbrev main_v483 : Ref sig .tc := ⟨.hbm, 588, rfl⟩
abbrev main_v484 : Ref sig .tc := ⟨.hbm, 589, rfl⟩
abbrev main_v485 : Ref sig .tc := ⟨.hbm, 590, rfl⟩
abbrev main_v486 : Ref sig .tc := ⟨.hbm, 591, rfl⟩
abbrev main_v487 : Ref sig .tc := ⟨.hbm, 592, rfl⟩
abbrev main_v488 : Ref sig .tc := ⟨.hbm, 593, rfl⟩
abbrev main_cst_57 : Ref sig .tc := ⟨.hbm, 594, rfl⟩
abbrev main_v489 : Ref sig .tc := ⟨.hbm, 595, rfl⟩
abbrev main_v490 : Ref sig .tc := ⟨.hbm, 596, rfl⟩
abbrev main_v491 : Ref sig .tc := ⟨.hbm, 597, rfl⟩
abbrev main_v492 : Ref sig .tc := ⟨.hbm, 598, rfl⟩
abbrev main_v493 : Ref sig .tc := ⟨.hbm, 599, rfl⟩
abbrev main_v494 : Ref sig .tc := ⟨.hbm, 600, rfl⟩
abbrev main_v495 : Ref sig .tc := ⟨.hbm, 601, rfl⟩
abbrev main_cst_58 : Ref sig .tc := ⟨.hbm, 602, rfl⟩
abbrev main_v496 : Ref sig .tc := ⟨.hbm, 603, rfl⟩
abbrev main_v497 : Ref sig .tc := ⟨.hbm, 604, rfl⟩
abbrev main_v498 : Ref sig .tc := ⟨.hbm, 605, rfl⟩
abbrev main_cst_59 : Ref sig .tc := ⟨.hbm, 606, rfl⟩
abbrev main_v499 : Ref sig .tc := ⟨.hbm, 607, rfl⟩
abbrev main_v500 : Ref sig .tc := ⟨.hbm, 608, rfl⟩
abbrev main_cst_60 : Ref sig .tc := ⟨.hbm, 609, rfl⟩
abbrev main_v501 : Ref sig .tc := ⟨.hbm, 610, rfl⟩
abbrev main_v502 : Ref sig .tc := ⟨.hbm, 611, rfl⟩
abbrev main_v503 : Ref sig .tc := ⟨.hbm, 612, rfl⟩
abbrev main_v504 : Ref sig .tc := ⟨.hbm, 613, rfl⟩
abbrev main_cst_61 : Ref sig .tc := ⟨.hbm, 614, rfl⟩
abbrev main_v505 : Ref sig .tc := ⟨.hbm, 615, rfl⟩
abbrev main_v506 : Ref sig .tc := ⟨.hbm, 616, rfl⟩
abbrev main_cst_62 : Ref sig .tc := ⟨.hbm, 617, rfl⟩
abbrev main_v507 : Ref sig .tc := ⟨.hbm, 618, rfl⟩
abbrev main_v508 : Ref sig .tc := ⟨.hbm, 619, rfl⟩
abbrev main_v509 : Ref sig .tc := ⟨.hbm, 620, rfl⟩
abbrev main_cst_63 : Ref sig .tc := ⟨.hbm, 621, rfl⟩
abbrev main_v510 : Ref sig .tc := ⟨.hbm, 622, rfl⟩
abbrev main_v511 : Ref sig .tc := ⟨.hbm, 623, rfl⟩
abbrev main_v512 : Ref sig .tc := ⟨.hbm, 624, rfl⟩
abbrev main_cst_64 : Ref sig .tc := ⟨.hbm, 625, rfl⟩
abbrev main_v513 : Ref sig .tc := ⟨.hbm, 626, rfl⟩
abbrev main_v514 : Ref sig .tc := ⟨.hbm, 627, rfl⟩
abbrev main_v515 : Ref sig .tc := ⟨.hbm, 628, rfl⟩
abbrev main_cst_65 : Ref sig .tc := ⟨.hbm, 629, rfl⟩
abbrev main_v516 : Ref sig .tc := ⟨.hbm, 630, rfl⟩
abbrev main_v517 : Ref sig .tc := ⟨.hbm, 631, rfl⟩
abbrev main_v518 : Ref sig .tc := ⟨.hbm, 632, rfl⟩
abbrev main_cst_66 : Ref sig .tc := ⟨.hbm, 633, rfl⟩
abbrev main_v519 : Ref sig .tc := ⟨.hbm, 634, rfl⟩
abbrev main_v520 : Ref sig .tc := ⟨.hbm, 635, rfl⟩
abbrev main_v521 : Ref sig .tc := ⟨.hbm, 636, rfl⟩
abbrev main_cst_67 : Ref sig .tc := ⟨.hbm, 637, rfl⟩
abbrev main_v522 : Ref sig .tc := ⟨.hbm, 638, rfl⟩
abbrev main_v523 : Ref sig .tc := ⟨.hbm, 639, rfl⟩
abbrev main_v524 : Ref sig .tc := ⟨.hbm, 640, rfl⟩
abbrev main_cst_68 : Ref sig .tc := ⟨.hbm, 641, rfl⟩
abbrev main_v525 : Ref sig .tc := ⟨.hbm, 642, rfl⟩
abbrev main_v526 : Ref sig .tc := ⟨.hbm, 643, rfl⟩
abbrev main_v527 : Ref sig .tc := ⟨.hbm, 644, rfl⟩
abbrev main_cst_69 : Ref sig .tc := ⟨.hbm, 645, rfl⟩
abbrev main_v528 : Ref sig .tc := ⟨.hbm, 646, rfl⟩
abbrev main_v529 : Ref sig .tc := ⟨.hbm, 647, rfl⟩
abbrev main_v530 : Ref sig .tc := ⟨.hbm, 648, rfl⟩
abbrev main_v531 : Ref sig .tc := ⟨.hbm, 649, rfl⟩
abbrev main_cst_70 : Ref sig .tc := ⟨.hbm, 650, rfl⟩
abbrev main_v532 : Ref sig .tc := ⟨.hbm, 651, rfl⟩
abbrev main_v533 : Ref sig .tc := ⟨.hbm, 652, rfl⟩
abbrev main_cst_71 : Ref sig .tc := ⟨.hbm, 653, rfl⟩
abbrev main_v534 : Ref sig .tc := ⟨.hbm, 654, rfl⟩
abbrev main_v535 : Ref sig .tc := ⟨.hbm, 655, rfl⟩
abbrev main_v536 : Ref sig .tc := ⟨.hbm, 656, rfl⟩
abbrev main_v537 : Ref sig .tc := ⟨.hbm, 657, rfl⟩
abbrev main_cst_72 : Ref sig .tc := ⟨.hbm, 658, rfl⟩
abbrev main_v538 : Ref sig .tc := ⟨.hbm, 659, rfl⟩
abbrev main_v539 : Ref sig .tc := ⟨.hbm, 660, rfl⟩
abbrev main_cst_73 : Ref sig .tc := ⟨.hbm, 661, rfl⟩
abbrev main_v540 : Ref sig .tc := ⟨.hbm, 662, rfl⟩
abbrev main_v541 : Ref sig .tc := ⟨.hbm, 663, rfl⟩
abbrev main_v542 : Ref sig .tc := ⟨.hbm, 664, rfl⟩
abbrev main_cst_74 : Ref sig .tc := ⟨.hbm, 665, rfl⟩
abbrev main_v543 : Ref sig .tc := ⟨.hbm, 666, rfl⟩
abbrev main_v544 : Ref sig .tc := ⟨.hbm, 667, rfl⟩
abbrev main_v545 : Ref sig .tc := ⟨.hbm, 668, rfl⟩
abbrev main_cst_75 : Ref sig .tc := ⟨.hbm, 669, rfl⟩
abbrev main_v546 : Ref sig .tc := ⟨.hbm, 670, rfl⟩
abbrev main_v547 : Ref sig .tc := ⟨.hbm, 671, rfl⟩
abbrev main_v548 : Ref sig .tc := ⟨.hbm, 672, rfl⟩
abbrev main_cst_76 : Ref sig .tc := ⟨.hbm, 673, rfl⟩
abbrev main_v549 : Ref sig .tc := ⟨.hbm, 674, rfl⟩
abbrev main_v550 : Ref sig .tc := ⟨.hbm, 675, rfl⟩
abbrev main_v551 : Ref sig .tc := ⟨.hbm, 676, rfl⟩
abbrev main_cst_77 : Ref sig .tc := ⟨.hbm, 677, rfl⟩
abbrev main_v552 : Ref sig .tc := ⟨.hbm, 678, rfl⟩
abbrev main_v553 : Ref sig .tc := ⟨.hbm, 679, rfl⟩
abbrev main_v554 : Ref sig .tc := ⟨.hbm, 680, rfl⟩
abbrev main_cst_78 : Ref sig .tc := ⟨.hbm, 681, rfl⟩
abbrev main_v555 : Ref sig .tc := ⟨.hbm, 682, rfl⟩
abbrev main_v556 : Ref sig .tc := ⟨.hbm, 683, rfl⟩
abbrev main_v557 : Ref sig .tc := ⟨.hbm, 684, rfl⟩
abbrev main_cst_79 : Ref sig .tc := ⟨.hbm, 685, rfl⟩
abbrev main_v558 : Ref sig .tc := ⟨.hbm, 686, rfl⟩
abbrev main_v559 : Ref sig .tc := ⟨.hbm, 687, rfl⟩
abbrev main_v560 : Ref sig .tc := ⟨.hbm, 688, rfl⟩
abbrev main_cst_80 : Ref sig .tc := ⟨.hbm, 689, rfl⟩
abbrev main_v561 : Ref sig .tc := ⟨.hbm, 690, rfl⟩
abbrev main_v562 : Ref sig .tc := ⟨.hbm, 691, rfl⟩
abbrev main_v563 : Ref sig .tc := ⟨.hbm, 692, rfl⟩
abbrev main_v564 : Ref sig .tc := ⟨.hbm, 693, rfl⟩
abbrev main_v565 : Ref sig .tc := ⟨.hbm, 694, rfl⟩
abbrev main_cst_81 : Ref sig .tc := ⟨.hbm, 695, rfl⟩
abbrev main_v566 : Ref sig .tc := ⟨.hbm, 696, rfl⟩
abbrev main_v567 : Ref sig .tc := ⟨.hbm, 697, rfl⟩
abbrev main_cst_82 : Ref sig .tc := ⟨.hbm, 698, rfl⟩
abbrev main_v568 : Ref sig .tc := ⟨.hbm, 699, rfl⟩
abbrev main_v569 : Ref sig .tc := ⟨.hbm, 700, rfl⟩
abbrev main_v570 : Ref sig .tc := ⟨.hbm, 701, rfl⟩
abbrev main_cst_83 : Ref sig .tc := ⟨.hbm, 702, rfl⟩
abbrev main_v571 : Ref sig .tc := ⟨.hbm, 703, rfl⟩
abbrev main_v572 : Ref sig .tc := ⟨.hbm, 704, rfl⟩
abbrev main_v573 : Ref sig .tc := ⟨.hbm, 705, rfl⟩
abbrev main_v574 : Ref sig .tc := ⟨.hbm, 706, rfl⟩
abbrev main_v575 : Ref sig .tc := ⟨.hbm, 707, rfl⟩
abbrev main_v576 : Ref sig .tc := ⟨.hbm, 708, rfl⟩
abbrev main_v577 : Ref sig .tc := ⟨.hbm, 709, rfl⟩
abbrev main_v578 : Ref sig .tc := ⟨.hbm, 710, rfl⟩
abbrev main_v579 : Ref sig .tc := ⟨.hbm, 711, rfl⟩
abbrev main_v580 : Ref sig .tc := ⟨.hbm, 712, rfl⟩
abbrev main_v581 : Ref sig .tc := ⟨.hbm, 713, rfl⟩
abbrev main_v582 : Ref sig .tc := ⟨.hbm, 714, rfl⟩
abbrev main_v583 : Ref sig .tc := ⟨.hbm, 715, rfl⟩
abbrev main_v584 : Ref sig .tc := ⟨.hbm, 716, rfl⟩
abbrev main_v585 : Ref sig .tc := ⟨.hbm, 717, rfl⟩
abbrev main_v586 : Ref sig .tc := ⟨.hbm, 718, rfl⟩
abbrev main_v587 : Ref sig .tc := ⟨.hbm, 719, rfl⟩
abbrev main_v588 : Ref sig .tc := ⟨.hbm, 720, rfl⟩
abbrev main_cst_84 : Ref sig .tc := ⟨.hbm, 721, rfl⟩
abbrev main_v589 : Ref sig .tc := ⟨.hbm, 722, rfl⟩
abbrev main_v590 : Ref sig .tc := ⟨.hbm, 723, rfl⟩
abbrev main_cst_85 : Ref sig .tc := ⟨.hbm, 724, rfl⟩
abbrev main_v591 : Ref sig .tc := ⟨.hbm, 725, rfl⟩
abbrev main_v592 : Ref sig .tc := ⟨.hbm, 726, rfl⟩
abbrev main_v593 : Ref sig .tc := ⟨.hbm, 727, rfl⟩
abbrev main_call14_cst : Ref sig .tc := ⟨.hbm, 728, rfl⟩
abbrev main_call14_v0 : Ref sig .tc := ⟨.hbm, 729, rfl⟩
abbrev main_call14_cst_0 : Ref sig .tc := ⟨.hbm, 730, rfl⟩
abbrev main_call14_v1 : Ref sig .tc := ⟨.hbm, 731, rfl⟩
abbrev main_call14_v2 : Ref sig .tc := ⟨.hbm, 732, rfl⟩
abbrev main_call14_v3 : Ref sig .tc := ⟨.hbm, 733, rfl⟩
abbrev main_call14_v4 : Ref sig .tc := ⟨.hbm, 734, rfl⟩
abbrev main_call14_v5 : Ref sig .tc := ⟨.hbm, 735, rfl⟩
abbrev main_call14_v6 : Ref sig .tc := ⟨.hbm, 736, rfl⟩
abbrev main_call14_cst_1 : Ref sig .tc := ⟨.hbm, 737, rfl⟩
abbrev main_call14_v7 : Ref sig .tc := ⟨.hbm, 738, rfl⟩
abbrev main_call14_v8 : Ref sig .tc := ⟨.hbm, 739, rfl⟩
abbrev main_call14_v9 : Ref sig .tc := ⟨.hbm, 740, rfl⟩
abbrev main_call14_v10 : Ref sig .tc := ⟨.hbm, 741, rfl⟩
abbrev main_v594 : Ref sig .tc := ⟨.hbm, 742, rfl⟩
abbrev main_v595 : Ref sig .tc := ⟨.hbm, 743, rfl⟩
abbrev main_v596 : Ref sig .tc := ⟨.hbm, 744, rfl⟩
abbrev main_call15_c : Ref sig .tc := ⟨.hbm, 745, rfl⟩
abbrev main_call15_v0 : Ref sig .tc := ⟨.hbm, 746, rfl⟩
abbrev main_call15_v1 : Ref sig .tc := ⟨.hbm, 747, rfl⟩
abbrev main_call15_c_0 : Ref sig .tc := ⟨.hbm, 748, rfl⟩
abbrev main_call15_v2 : Ref sig .tc := ⟨.hbm, 749, rfl⟩
abbrev main_call15_v3 : Ref sig .tc := ⟨.hbm, 750, rfl⟩
abbrev main_call15_v4 : Ref sig .tc := ⟨.hbm, 751, rfl⟩
abbrev main_call15_v5 : Ref sig .tc := ⟨.hbm, 752, rfl⟩
abbrev main_v597 : Ref sig .tc := ⟨.hbm, 753, rfl⟩
abbrev main_v598 : Ref sig .tc := ⟨.hbm, 754, rfl⟩
abbrev main_v599 : Ref sig .tc := ⟨.hbm, 755, rfl⟩
abbrev main_cst_86 : Ref sig .tc := ⟨.hbm, 756, rfl⟩
abbrev main_v600 : Ref sig .tc := ⟨.hbm, 757, rfl⟩
abbrev main_v601 : Ref sig .tc := ⟨.hbm, 758, rfl⟩
abbrev main_v602 : Ref sig .tc := ⟨.hbm, 759, rfl⟩
abbrev main_v603 : Ref sig .tc := ⟨.hbm, 760, rfl⟩
abbrev main_call16_c : Ref sig .tc := ⟨.hbm, 761, rfl⟩
abbrev main_call16_v0 : Ref sig .tc := ⟨.hbm, 762, rfl⟩
abbrev main_call16_v1 : Ref sig .tc := ⟨.hbm, 763, rfl⟩
abbrev main_call16_c_0 : Ref sig .tc := ⟨.hbm, 764, rfl⟩
abbrev main_call16_v2 : Ref sig .tc := ⟨.hbm, 765, rfl⟩
abbrev main_call16_v3 : Ref sig .tc := ⟨.hbm, 766, rfl⟩
abbrev main_call16_v4 : Ref sig .tc := ⟨.hbm, 767, rfl⟩
abbrev main_call16_v5 : Ref sig .tc := ⟨.hbm, 768, rfl⟩
abbrev main_v604 : Ref sig .tc := ⟨.hbm, 769, rfl⟩
abbrev main_v605 : Ref sig .tc := ⟨.hbm, 770, rfl⟩
abbrev main_v606 : Ref sig .tc := ⟨.hbm, 771, rfl⟩
abbrev main_cst_87 : Ref sig .tc := ⟨.hbm, 772, rfl⟩
abbrev main_v607 : Ref sig .tc := ⟨.hbm, 773, rfl⟩
abbrev main_v608 : Ref sig .tc := ⟨.hbm, 774, rfl⟩
abbrev main_v609 : Ref sig .tc := ⟨.hbm, 775, rfl⟩
abbrev main_v610 : Ref sig .tc := ⟨.hbm, 776, rfl⟩
abbrev main_v611 : Ref sig .tc := ⟨.hbm, 777, rfl⟩
abbrev main_v612 : Ref sig .tc := ⟨.hbm, 778, rfl⟩
abbrev main_v613 : Ref sig .tc := ⟨.hbm, 779, rfl⟩
abbrev main_cst_88 : Ref sig .tc := ⟨.hbm, 780, rfl⟩
abbrev main_v614 : Ref sig .tc := ⟨.hbm, 781, rfl⟩
abbrev main_cst_89 : Ref sig .tc := ⟨.hbm, 782, rfl⟩
abbrev main_v615 : Ref sig .tc := ⟨.hbm, 783, rfl⟩
abbrev main_v616 : Ref sig .tc := ⟨.hbm, 784, rfl⟩
abbrev main_cst_90 : Ref sig .tc := ⟨.hbm, 785, rfl⟩
abbrev main_v617 : Ref sig .tc := ⟨.hbm, 786, rfl⟩
abbrev main_cst_91 : Ref sig .tc := ⟨.hbm, 787, rfl⟩
abbrev main_v618 : Ref sig .tc := ⟨.hbm, 788, rfl⟩
abbrev main_cst_92 : Ref sig .tc := ⟨.hbm, 789, rfl⟩
abbrev main_v619 : Ref sig .tc := ⟨.hbm, 790, rfl⟩
abbrev main_cst_93 : Ref sig .tc := ⟨.hbm, 791, rfl⟩
abbrev main_v620 : Ref sig .tc := ⟨.hbm, 792, rfl⟩
abbrev main_v621 : Ref sig .tc := ⟨.hbm, 793, rfl⟩
abbrev main_cst_94 : Ref sig .tc := ⟨.hbm, 794, rfl⟩
abbrev main_v622 : Ref sig .tc := ⟨.hbm, 795, rfl⟩
abbrev main_cst_95 : Ref sig .tc := ⟨.hbm, 796, rfl⟩
abbrev main_v623 : Ref sig .tc := ⟨.hbm, 797, rfl⟩
abbrev main_cst_96 : Ref sig .tc := ⟨.hbm, 798, rfl⟩
abbrev main_v624 : Ref sig .tc := ⟨.hbm, 799, rfl⟩
abbrev main_v625 : Ref sig .tc := ⟨.hbm, 800, rfl⟩
abbrev main_v626 : Ref sig .tc := ⟨.hbm, 801, rfl⟩
abbrev main_v627 : Ref sig .tc := ⟨.hbm, 802, rfl⟩
abbrev main_cst_97 : Ref sig .tc := ⟨.hbm, 803, rfl⟩
abbrev main_v628 : Ref sig .tc := ⟨.hbm, 804, rfl⟩
abbrev main_v629 : Ref sig .tc := ⟨.hbm, 805, rfl⟩
abbrev main_v630 : Ref sig .tc := ⟨.hbm, 806, rfl⟩
abbrev main_cst_98 : Ref sig .tc := ⟨.hbm, 807, rfl⟩
abbrev main_v631 : Ref sig .tc := ⟨.hbm, 808, rfl⟩
abbrev main_v632 : Ref sig .tc := ⟨.hbm, 809, rfl⟩
abbrev main_cst_99 : Ref sig .tc := ⟨.hbm, 810, rfl⟩
abbrev main_v633 : Ref sig .tc := ⟨.hbm, 811, rfl⟩
abbrev main_c_100 : Ref sig .tc := ⟨.hbm, 812, rfl⟩
abbrev main_v634 : Ref sig .tc := ⟨.hbm, 813, rfl⟩
abbrev main_v635 : Ref sig .tc := ⟨.hbm, 814, rfl⟩
abbrev main_v636 : Ref sig .tc := ⟨.hbm, 815, rfl⟩
abbrev main_call17_v0 : Ref sig .tc := ⟨.hbm, 816, rfl⟩
abbrev main_v637 : Ref sig .tc := ⟨.hbm, 817, rfl⟩
abbrev main_c_101 : Ref sig .tc := ⟨.hbm, 818, rfl⟩
abbrev main_v638 : Ref sig .tc := ⟨.hbm, 819, rfl⟩
abbrev main_v639 : Ref sig .tc := ⟨.hbm, 820, rfl⟩
abbrev main_v640 : Ref sig .tc := ⟨.hbm, 821, rfl⟩
abbrev main_call18_v0 : Ref sig .tc := ⟨.hbm, 822, rfl⟩
abbrev main_v641 : Ref sig .tc := ⟨.hbm, 823, rfl⟩
abbrev main_c_102 : Ref sig .tc := ⟨.hbm, 824, rfl⟩
abbrev main_v642 : Ref sig .tc := ⟨.hbm, 825, rfl⟩
abbrev main_v643 : Ref sig .tc := ⟨.hbm, 826, rfl⟩
abbrev main_v644 : Ref sig .tc := ⟨.hbm, 827, rfl⟩
abbrev main_call19_v0 : Ref sig .tc := ⟨.hbm, 828, rfl⟩
abbrev main_v645 : Ref sig .tc := ⟨.hbm, 829, rfl⟩
abbrev main_c_103 : Ref sig .tc := ⟨.hbm, 830, rfl⟩
abbrev main_v646 : Ref sig .tc := ⟨.hbm, 831, rfl⟩
abbrev main_v647 : Ref sig .tc := ⟨.hbm, 832, rfl⟩
abbrev main_v648 : Ref sig .tc := ⟨.hbm, 833, rfl⟩
abbrev main_call20_v0 : Ref sig .tc := ⟨.hbm, 834, rfl⟩
abbrev main_v649 : Ref sig .tc := ⟨.hbm, 835, rfl⟩
abbrev main_c_104 : Ref sig .tc := ⟨.hbm, 836, rfl⟩
abbrev main_v650 : Ref sig .tc := ⟨.hbm, 837, rfl⟩
abbrev main_v651 : Ref sig .tc := ⟨.hbm, 838, rfl⟩
abbrev main_v652 : Ref sig .tc := ⟨.hbm, 839, rfl⟩
abbrev main_call21_v0 : Ref sig .tc := ⟨.hbm, 840, rfl⟩
abbrev main_v653 : Ref sig .tc := ⟨.hbm, 841, rfl⟩

abbrev nD : Nat := 1
abbrev τ : Topo := Topo.v7x

variable {F : FTy → Type} [FloatOps F]
-- ==== Proof.KVals.lean ====
/-
  The values the kernel's body passes from each of its printed parts to the next, named: every one is a function of the
  five blocks the body loads.
-/
module

public import proofs.«01_k».proof.Proof.Gen.KernelIdeal.Skeleton

@[expose] public section

noncomputable section

namespace Cert.KernelIdeal.Vals

open Idealize.ShloMosaic Cert.KernelIdeal Cert.KernelIdeal.Gen

variable {F : FTy → Type} [FloatOps F]

/-- The five blocks a grid point loads: an image's class logits, distance logits, boxes and targets, and the anchors with their scale. -/
structure Ins (F : FTy → Type) where
  cls : Vec F S1x80x8400 .f32
  anc : Vec F S1x64x8400 .f32
  box : Vec F S1x4x8400 .f32
  tgt : Vec F S1x32x5 .f32
  pts : Vec F S3x8400 .f32

/-! Part 1. -/
def v1 (X : Ins F) : FVec F S80x8400 .f32 := k0_pay2 X.cls
def v3 (X : Ins F) : FVec F S64x8400 .f32 := k0_pay3 X.anc
def v13 (X : Ins F) : IVec S32x1 32 := k0_pay7 X.tgt
def v14 (X : Ins F) : FVec F S32x1 .f32 := k0_pay8 X.tgt
def v15 (X : Ins F) : FVec F S32x1 .f32 := k0_pay9 X.tgt
def v16 (X : Ins F) : FVec F S32x1 .f32 := k0_pay10 X.tgt
def v17 (X : Ins F) : FVec F S32x1 .f32 := k0_pay11 X.tgt
def v18 (X : Ins F) : FVec F S1x8400 .f32 := k0_pay12 X.pts
def v19 (X : Ins F) : FVec F S1x8400 .f32 := k0_pay13 X.pts
def v20 (X : Ins F) : FVec F S1x8400 .f32 := k0_pay14 X.pts
def v21 (X : Ins F) : FVec F S1x8400 .f32 := k0_pay15 X.box
def v22 (X : Ins F) : FVec F S1x8400 .f32 := k0_pay16 X.box
def v23 (X : Ins F) : FVec F S1x8400 .f32 := k0_pay17 X.box
def v24 (X : Ins F) : FVec F S1x8400 .f32 := k0_pay18 X.box
def v41 (X : Ins F) : FVec F S32x8400 .f32 := k0_pay19 X.tgt X.pts
def v42 (X : Ins F) : FVec F S32x8400 .f32 := k0_pay20 X.tgt
def v43 (X : Ins F) : FVec F S32x8400 .f32 := k0_pay21 X.box

/-! Part 2. -/
def v73 (X : Ins F) : FVec F S32x8400 .f32 := k0_pay22 (v14 X) (v15 X) (v16 X) (v17 X) (v21 X) (v22 X) (v23 X) (v24 X) (v42 X) (v43 X)
def v92 (X : Ins F) : FVec F S32x8400 .f32 := k0_pay23 (v14 X) (v15 X) (v16 X) (v17 X) (v21 X) (v22 X) (v23 X) (v24 X)
def v98 (X : Ins F) : FVec F S32x8400 .f32 := k0_pay24 (v14 X) (v16 X) (v21 X) (v23 X)
def v99 (X : Ins F) : FVec F S32x1 .f32 := k0_pay25 (v15 X) (v17 X)

/-! Part 3. -/
def v109 (X : Ins F) : FVec F S32x8400 .f32 := k0_pay26 (v22 X) (v24 X) (v98 X) (v99 X)
def v118 (X : Ins F) : FVec F S1x8400 .f32 := k0_pay27 (v21 X) (v23 X)
def v121 (X : Ins F) : FVec F S1x8400 .f32 := k0_pay28 (v22 X) (v24 X)
def v124 (X : Ins F) : IVec S32x1 1 := k0_pay30 (v14 X) (v15 X) (v16 X) (v17 X)
def v127 (X : Ins F) : FVec F S32x1 .f32 := k0_pay31 (v14 X) (v15 X) (v16 X) (v17 X)
def v128 (X : Ins F) : FVec F S32x1 .f32 := k0_pay32 (v14 X) (v15 X) (v16 X) (v17 X)
def v145 (X : Ins F) : FVec F S32x1 .f32 := k0_pay33 (v14 X) (v15 X) (v16 X) (v17 X)
def cst_30 (X : Ins F) : F .f32 := Scalar.ofBits .f32 0xBEAAA697#32

/-! Part 4. -/
def v190 (X : Ins F) : FVec F S32x8400 .f32 := k0_pay34 (v118 X) (v121 X) (v124 X) (v127 X) (v128 X) (v145 X) (cst_30 X)
def v191 (X : Ins F) : FVec F S32x8400 .f32 := k0_pay35 (F := F)

/-! Part 5. -/
def v221 (X : Ins F) : FVec F S32x8400 .f32 := k0_pay38 (v1 X) (v13 X)
def v227 (X : Ins F) : FVec F S32x8400 .f32 := k0_pay39 (v1 X) (v13 X) (v41 X) (v73 X) (v92 X) (v109 X) (v190 X) (v191 X)
def v229 (X : Ins F) : FVec F S32x1 .f32 := k0_pay40 (v73 X) (v92 X) (v109 X) (v190 X) (v191 X)
def v231 (X : Ins F) : FVec F S32x8448 .f32 := k0_pay41 (v1 X) (v13 X) (v41 X) (v73 X) (v92 X) (v109 X) (v190 X) (v191 X)
def v232 (X : Ins F) : FVec F S32x128 .f32 := k0_pay42 (F := F)
def v233 (X : Ins F) : FVec F S32x128 .f32 := k0_pay43 (F := F)
def v234 (X : Ins F) : FVec F S32x128 .f32 := k0_pay44 (F := F)
def v235 (X : Ins F) : FVec F S32x128 .f32 := k0_pay45 (F := F)
def cst_60 (X : Ins F) : F .f32 := Scalar.ofBits .f32 0xBF800000#32

/-! Part 6. -/
def v271 (X : Ins F) : FVec F S32x128 .f32 := k0_pay78 (v231 X) (v232 X) (v233 X) (v234 X) (v235 X) (cst_60 X)
def v273 (X : Ins F) : FVec F S32x128 .f32 := k0_pay80 (v231 X) (v232 X) (v233 X) (v234 X) (v235 X) (cst_60 X)
def v275 (X : Ins F) : FVec F S32x128 .f32 := k0_pay82 (v231 X) (v232 X) (v233 X) (v234 X) (v235 X) (cst_60 X)
def v277 (X : Ins F) : FVec F S32x128 .f32 := k0_pay84 (v231 X) (v232 X) (v233 X) (v234 X) (v235 X) (cst_60 X)
def v279 (X : Ins F) : FVec F S32x128 .f32 := k0_pay86 (v231 X) (v232 X) (v233 X) (v234 X) (v235 X) (cst_60 X)
def v281 (X : Ins F) : FVec F S32x128 .f32 := k0_pay87 (v231 X) (v232 X) (v233 X) (v234 X) (v235 X) (cst_60 X)
def v283 (X : Ins F) : FVec F S32x128 .f32 := k0_pay89 (v231 X) (v232 X)
def v285 (X : Ins F) : FVec F S32x128 .f32 := k0_pay91 (v231 X) (v232 X) (v233 X)
def v287 (X : Ins F) : FVec F S32x128 .f32 := k0_pay93 (v231 X) (v232 X) (v233 X) (v234 X)
def v289 (X : Ins F) : FVec F S32x128 .f32 := k0_pay95 (v231 X) (v232 X) (v233 X) (v234 X) (v235 X)
def v290 (X : Ins F) : FVec F S32x128 .f32 := k0_pay96 (v231 X) (v232 X) (v233 X) (v234 X) (v235 X)

/-! Part 7. -/
def v331 (X : Ins F) : FVec F S32x128 .f32 := k0_pay133 (v231 X) (v271 X) (v283 X) (v285 X) (v287 X) (v289 X) (v290 X)
def v333 (X : Ins F) : FVec F S32x128 .f32 := k0_pay135 (v231 X) (v271 X) (v273 X) (v283 X) (v285 X) (v287 X) (v289 X) (v290 X)
def v335 (X : Ins F) : FVec F S32x128 .f32 := k0_pay137 (v231 X) (v271 X) (v273 X) (v275 X) (v283 X) (v285 X) (v287 X) (v289 X) (v290 X)
def v337 (X : Ins F) : FVec F S32x128 .f32 := k0_pay139 (v231 X) (v271 X) (v273 X) (v275 X) (v277 X) (v283 X) (v285 X) (v287 X) (v289 X) (v290 X)
def v339 (X : Ins F) : FVec F S32x128 .f32 := k0_pay141 (v231 X) (v271 X) (v273 X) (v275 X) (v277 X) (v279 X) (v283 X) (v285 X) (v287 X) (v289 X) (v290 X)
def v341 (X : Ins F) : FVec F S32x128 .f32 := k0_pay142 (v231 X) (v271 X) (v273 X) (v275 X) (v277 X) (v279 X) (v281 X) (v283 X) (v285 X) (v287 X) (v289 X) (v290 X)
def v343 (X : Ins F) : FVec F S32x128 .f32 := k0_pay144 (v231 X) (v283 X)
def v345 (X : Ins F) : FVec F S32x128 .f32 := k0_pay146 (v231 X) (v283 X) (v285 X)
def v347 (X : Ins F) : FVec F S32x128 .f32 := k0_pay148 (v231 X) (v283 X) (v285 X) (v287 X)
def v349 (X : Ins F) : FVec F S32x128 .f32 := k0_pay150 (v231 X) (v283 X) (v285 X) (v287 X) (v289 X)
def v350 (X : Ins F) : FVec F S32x128 .f32 := k0_pay151 (v231 X) (v283 X) (v285 X) (v287 X) (v289 X)

/-! Part 8. -/
def v391 (X : Ins F) : FVec F S32x128 .f32 := k0_pay188 (v231 X) (v331 X) (v343 X) (v345 X) (v347 X) (v349 X) (v350 X)
def v393 (X : Ins F) : FVec F S32x128 .f32 := k0_pay190 (v231 X) (v331 X) (v333 X) (v343 X) (v345 X) (v347 X) (v349 X) (v350 X)
def v395 (X : Ins F) : FVec F S32x128 .f32 := k0_pay192 (v231 X) (v331 X) (v333 X) (v335 X) (v343 X) (v345 X) (v347 X) (v349 X) (v350 X)
def v397 (X : Ins F) : FVec F S32x128 .f32 := k0_pay194 (v231 X) (v331 X) (v333 X) (v335 X) (v337 X) (v343 X) (v345 X) (v347 X) (v349 X) (v350 X)
def v399 (X : Ins F) : FVec F S32x128 .f32 := k0_pay196 (v231 X) (v331 X) (v333 X) (v335 X) (v337 X) (v339 X) (v343 X) (v345 X) (v347 X) (v349 X) (v350 X)
def v401 (X : Ins F) : FVec F S32x128 .f32 := k0_pay197 (v231 X) (v331 X) (v333 X) (v335 X) (v337 X) (v339 X) (v341 X) (v343 X) (v345 X) (v347 X) (v349 X) (v350 X)
def v403 (X : Ins F) : FVec F S32x128 .f32 := k0_pay199 (v231 X) (v343 X)
def v405 (X : Ins F) : FVec F S32x128 .f32 := k0_pay201 (v231 X) (v343 X) (v345 X)
def v407 (X : Ins F) : FVec F S32x128 .f32 := k0_pay203 (v231 X) (v343 X) (v345 X) (v347 X)
def v409 (X : Ins F) : FVec F S32x128 .f32 := k0_pay205 (v231 X) (v343 X) (v345 X) (v347 X) (v349 X)
def v410 (X : Ins F) : FVec F S32x128 .f32 := k0_pay206 (v231 X) (v343 X) (v345 X) (v347 X) (v349 X)

/-! Part 9. -/
def v451 (X : Ins F) : FVec F S32x128 .f32 := k0_pay243 (v231 X) (v391 X) (v403 X) (v405 X) (v407 X) (v409 X) (v410 X)
def v453 (X : Ins F) : FVec F S32x128 .f32 := k0_pay245 (v231 X) (v391 X) (v393 X) (v403 X) (v405 X) (v407 X) (v409 X) (v410 X)
def v455 (X : Ins F) : FVec F S32x128 .f32 := k0_pay247 (v231 X) (v391 X) (v393 X) (v395 X) (v403 X) (v405 X) (v407 X) (v409 X) (v410 X)
def v457 (X : Ins F) : FVec F S32x128 .f32 := k0_pay249 (v231 X) (v391 X) (v393 X) (v395 X) (v397 X) (v403 X) (v405 X) (v407 X) (v409 X) (v410 X)
def v459 (X : Ins F) : FVec F S32x128 .f32 := k0_pay251 (v231 X) (v391 X) (v393 X) (v395 X) (v397 X) (v399 X) (v403 X) (v405 X) (v407 X) (v409 X) (v410 X)
def v461 (X : Ins F) : FVec F S32x128 .f32 := k0_pay252 (v231 X) (v391 X) (v393 X) (v395 X) (v397 X) (v399 X) (v401 X) (v403 X) (v405 X) (v407 X) (v409 X) (v410 X)
def v463 (X : Ins F) : FVec F S32x128 .f32 := k0_pay254 (v231 X) (v403 X)
def v465 (X : Ins F) : FVec F S32x128 .f32 := k0_pay256 (v231 X) (v403 X) (v405 X)
def v467 (X : Ins F) : FVec F S32x128 .f32 := k0_pay258 (v231 X) (v403 X) (v405 X) (v407 X)
def v469 (X : Ins F) : FVec F S32x128 .f32 := k0_pay260 (v231 X) (v403 X) (v405 X) (v407 X) (v409 X)
def v470 (X : Ins F) : FVec F S32x128 .f32 := k0_pay261 (v231 X) (v403 X) (v405 X) (v407 X) (v409 X)

/-! Part 10. -/
def v511 (X : Ins F) : FVec F S32x128 .f32 := k0_pay298 (v231 X) (v451 X) (v463 X) (v465 X) (v467 X) (v469 X) (v470 X)
def v513 (X : Ins F) : FVec F S32x128 .f32 := k0_pay300 (v231 X) (v451 X) (v453 X) (v463 X) (v465 X) (v467 X) (v469 X) (v470 X)
def v515 (X : Ins F) : FVec F S32x128 .f32 := k0_pay302 (v231 X) (v451 X) (v453 X) (v455 X) (v463 X) (v465 X) (v467 X) (v469 X) (v470 X)
def v517 (X : Ins F) : FVec F S32x128 .f32 := k0_pay304 (v231 X) (v451 X) (v453 X) (v455 X) (v457 X) (v463 X) (v465 X) (v467 X) (v469 X) (v470 X)
def v519 (X : Ins F) : FVec F S32x128 .f32 := k0_pay306 (v231 X) (v451 X) (v453 X) (v455 X) (v457 X) (v459 X) (v463 X) (v465 X) (v467 X) (v469 X) (v470 X)
def v521 (X : Ins F) : FVec F S32x128 .f32 := k0_pay307 (v231 X) (v451 X) (v453 X) (v455 X) (v457 X) (v459 X) (v461 X) (v463 X) (v465 X) (v467 X) (v469 X) (v470 X)
def v523 (X : Ins F) : FVec F S32x128 .f32 := k0_pay309 (v231 X) (v463 X)
def v525 (X : Ins F) : FVec F S32x128 .f32 := k0_pay311 (v231 X) (v463 X) (v465 X)
def v527 (X : Ins F) : FVec F S32x128 .f32 := k0_pay313 (v231 X) (v463 X) (v465 X) (v467 X)
def v529 (X : Ins F) : FVec F S32x128 .f32 := k0_pay315 (v231 X) (v463 X) (v465 X) (v467 X) (v469 X)
def v530 (X : Ins F) : FVec F S32x128 .f32 := k0_pay316 (v231 X) (v463 X) (v465 X) (v467 X) (v469 X)

/-! Part 11. -/
def v571 (X : Ins F) : FVec F S32x128 .f32 := k0_pay353 (v231 X) (v511 X) (v523 X) (v525 X) (v527 X) (v529 X) (v530 X)
def v573 (X : Ins F) : FVec F S32x128 .f32 := k0_pay355 (v231 X) (v511 X) (v513 X) (v523 X) (v525 X) (v527 X) (v529 X) (v530 X)
def v575 (X : Ins F) : FVec F S32x128 .f32 := k0_pay357 (v231 X) (v511 X) (v513 X) (v515 X) (v523 X) (v525 X) (v527 X) (v529 X) (v530 X)
def v577 (X : Ins F) : FVec F S32x128 .f32 := k0_pay359 (v231 X) (v511 X) (v513 X) (v515 X) (v517 X) (v523 X) (v525 X) (v527 X) (v529 X) (v530 X)
def v579 (X : Ins F) : FVec F S32x128 .f32 := k0_pay361 (v231 X) (v511 X) (v513 X) (v515 X) (v517 X) (v519 X) (v523 X) (v525 X) (v527 X) (v529 X) (v530 X)
def v581 (X : Ins F) : FVec F S32x128 .f32 := k0_pay362 (v231 X) (v511 X) (v513 X) (v515 X) (v517 X) (v519 X) (v521 X) (v523 X) (v525 X) (v527 X) (v529 X) (v530 X)
def v583 (X : Ins F) : FVec F S32x128 .f32 := k0_pay364 (v231 X) (v523 X)
def v585 (X : Ins F) : FVec F S32x128 .f32 := k0_pay366 (v231 X) (v523 X) (v525 X)
def v587 (X : Ins F) : FVec F S32x128 .f32 := k0_pay368 (v231 X) (v523 X) (v525 X) (v527 X)
def v589 (X : Ins F) : FVec F S32x128 .f32 := k0_pay370 (v231 X) (v523 X) (v525 X) (v527 X) (v529 X)
def v590 (X : Ins F) : FVec F S32x128 .f32 := k0_pay371 (v231 X) (v523 X) (v525 X) (v527 X) (v529 X)

/-! Part 12. -/
def v631 (X : Ins F) : FVec F S32x128 .f32 := k0_pay408 (v231 X) (v571 X) (v583 X) (v585 X) (v587 X) (v589 X) (v590 X)
def v633 (X : Ins F) : FVec F S32x128 .f32 := k0_pay410 (v231 X) (v571 X) (v573 X) (v583 X) (v585 X) (v587 X) (v589 X) (v590 X)
def v635 (X : Ins F) : FVec F S32x128 .f32 := k0_pay412 (v231 X) (v571 X) (v573 X) (v575 X) (v583 X) (v585 X) (v587 X) (v589 X) (v590 X)
def v637 (X : Ins F) : FVec F S32x128 .f32 := k0_pay414 (v231 X) (v571 X) (v573 X) (v575 X) (v577 X) (v583 X) (v585 X) (v587 X) (v589 X) (v590 X)
def v639 (X : Ins F) : FVec F S32x128 .f32 := k0_pay416 (v231 X) (v571 X) (v573 X) (v575 X) (v577 X) (v579 X) (v583 X) (v585 X) (v587 X) (v589 X) (v590 X)
def v641 (X : Ins F) : FVec F S32x128 .f32 := k0_pay417 (v231 X) (v571 X) (v573 X) (v575 X) (v577 X) (v579 X) (v581 X) (v583 X) (v585 X) (v587 X) (v589 X) (v590 X)
def v643 (X : Ins F) : FVec F S32x128 .f32 := k0_pay419 (v231 X) (v583 X)
def v645 (X : Ins F) : FVec F S32x128 .f32 := k0_pay421 (v231 X) (v583 X) (v585 X)
def v647 (X : Ins F) : FVec F S32x128 .f32 := k0_pay423 (v231 X) (v583 X) (v585 X) (v587 X)
def v649 (X : Ins F) : FVec F S32x128 .f32 := k0_pay425 (v231 X) (v583 X) (v585 X) (v587 X) (v589 X)
def v650 (X : Ins F) : FVec F S32x128 .f32 := k0_pay426 (v231 X) (v583 X) (v585 X) (v587 X) (v589 X)

/-! Part 13. -/
def v691 (X : Ins F) : FVec F S32x128 .f32 := k0_pay463 (v231 X) (v631 X) (v643 X) (v645 X) (v647 X) (v649 X) (v650 X)
def v693 (X : Ins F) : FVec F S32x128 .f32 := k0_pay465 (v231 X) (v631 X) (v633 X) (v643 X) (v645 X) (v647 X) (v649 X) (v650 X)
def v695 (X : Ins F) : FVec F S32x128 .f32 := k0_pay467 (v231 X) (v631 X) (v633 X) (v635 X) (v643 X) (v645 X) (v647 X) (v649 X) (v650 X)
def v697 (X : Ins F) : FVec F S32x128 .f32 := k0_pay469 (v231 X) (v631 X) (v633 X) (v635 X) (v637 X) (v643 X) (v645 X) (v647 X) (v649 X) (v650 X)
def v699 (X : Ins F) : FVec F S32x128 .f32 := k0_pay471 (v231 X) (v631 X) (v633 X) (v635 X) (v637 X) (v639 X) (v643 X) (v645 X) (v647 X) (v649 X) (v650 X)
def v701 (X : Ins F) : FVec F S32x128 .f32 := k0_pay472 (v231 X) (v631 X) (v633 X) (v635 X) (v637 X) (v639 X) (v641 X) (v643 X) (v645 X) (v647 X) (v649 X) (v650 X)
def v703 (X : Ins F) : FVec F S32x128 .f32 := k0_pay474 (v231 X) (v643 X)
def v705 (X : Ins F) : FVec F S32x128 .f32 := k0_pay476 (v231 X) (v643 X) (v645 X)
def v707 (X : Ins F) : FVec F S32x128 .f32 := k0_pay478 (v231 X) (v643 X) (v645 X) (v647 X)
def v709 (X : Ins F) : FVec F S32x128 .f32 := k0_pay480 (v231 X) (v643 X) (v645 X) (v647 X) (v649 X)
def v710 (X : Ins F) : FVec F S32x128 .f32 := k0_pay481 (v231 X) (v643 X) (v645 X) (v647 X) (v649 X)

/-! Part 14. -/
def v751 (X : Ins F) : FVec F S32x128 .f32 := k0_pay518 (v231 X) (v691 X) (v703 X) (v705 X) (v707 X) (v709 X) (v710 X)
def v753 (X : Ins F) : FVec F S32x128 .f32 := k0_pay520 (v231 X) (v691 X) (v693 X) (v703 X) (v705 X) (v707 X) (v709 X) (v710 X)
def v755 (X : Ins F) : FVec F S32x128 .f32 := k0_pay522 (v231 X) (v691 X) (v693 X) (v695 X) (v703 X) (v705 X) (v707 X) (v709 X) (v710 X)
def v757 (X : Ins F) : FVec F S32x128 .f32 := k0_pay524 (v231 X) (v691 X) (v693 X) (v695 X) (v697 X) (v703 X) (v705 X) (v707 X) (v709 X) (v710 X)
def v759 (X : Ins F) : FVec F S32x128 .f32 := k0_pay526 (v231 X) (v691 X) (v693 X) (v695 X) (v697 X) (v699 X) (v703 X) (v705 X) (v707 X) (v709 X) (v710 X)
def v761 (X : Ins F) : FVec F S32x128 .f32 := k0_pay527 (v231 X) (v691 X) (v693 X) (v695 X) (v697 X) (v699 X) (v701 X) (v703 X) (v705 X) (v707 X) (v709 X) (v710 X)
def v763 (X : Ins F) : FVec F S32x128 .f32 := k0_pay529 (v231 X) (v703 X)
def v765 (X : Ins F) : FVec F S32x128 .f32 := k0_pay531 (v231 X) (v703 X) (v705 X)
def v767 (X : Ins F) : FVec F S32x128 .f32 := k0_pay533 (v231 X) (v703 X) (v705 X) (v707 X)
def v769 (X : Ins F) : FVec F S32x128 .f32 := k0_pay535 (v231 X) (v703 X) (v705 X) (v707 X) (v709 X)
def v770 (X : Ins F) : FVec F S32x128 .f32 := k0_pay536 (v231 X) (v703 X) (v705 X) (v707 X) (v709 X)

/-! Part 15. -/
def v811 (X : Ins F) : FVec F S32x128 .f32 := k0_pay573 (v231 X) (v751 X) (v763 X) (v765 X) (v767 X) (v769 X) (v770 X)
def v813 (X : Ins F) : FVec F S32x128 .f32 := k0_pay575 (v231 X) (v751 X) (v753 X) (v763 X) (v765 X) (v767 X) (v769 X) (v770 X)
def v815 (X : Ins F) : FVec F S32x128 .f32 := k0_pay577 (v231 X) (v751 X) (v753 X) (v755 X) (v763 X) (v765 X) (v767 X) (v769 X) (v770 X)
def v817 (X : Ins F) : FVec F S32x128 .f32 := k0_pay579 (v231 X) (v751 X) (v753 X) (v755 X) (v757 X) (v763 X) (v765 X) (v767 X) (v769 X) (v770 X)
def v819 (X : Ins F) : FVec F S32x128 .f32 := k0_pay581 (v231 X) (v751 X) (v753 X) (v755 X) (v757 X) (v759 X) (v763 X) (v765 X) (v767 X) (v769 X) (v770 X)
def v821 (X : Ins F) : FVec F S32x128 .f32 := k0_pay582 (v231 X) (v751 X) (v753 X) (v755 X) (v757 X) (v759 X) (v761 X) (v763 X) (v765 X) (v767 X) (v769 X) (v770 X)
def v823 (X : Ins F) : FVec F S32x128 .f32 := k0_pay584 (v231 X) (v763 X)
def v825 (X : Ins F) : FVec F S32x128 .f32 := k0_pay586 (v231 X) (v763 X) (v765 X)
def v827 (X : Ins F) : FVec F S32x128 .f32 := k0_pay588 (v231 X) (v763 X) (v765 X) (v767 X)
def v829 (X : Ins F) : FVec F S32x128 .f32 := k0_pay590 (v231 X) (v763 X) (v765 X) (v767 X) (v769 X)
def v830 (X : Ins F) : FVec F S32x128 .f32 := k0_pay591 (v231 X) (v763 X) (v765 X) (v767 X) (v769 X)

/-! Part 16. -/
def v871 (X : Ins F) : FVec F S32x128 .f32 := k0_pay628 (v231 X) (v811 X) (v823 X) (v825 X) (v827 X) (v829 X) (v830 X)
def v873 (X : Ins F) : FVec F S32x128 .f32 := k0_pay630 (v231 X) (v811 X) (v813 X) (v823 X) (v825 X) (v827 X) (v829 X) (v830 X)
def v875 (X : Ins F) : FVec F S32x128 .f32 := k0_pay632 (v231 X) (v811 X) (v813 X) (v815 X) (v823 X) (v825 X) (v827 X) (v829 X) (v830 X)
def v877 (X : Ins F) : FVec F S32x128 .f32 := k0_pay634 (v231 X) (v811 X) (v813 X) (v815 X) (v817 X) (v823 X) (v825 X) (v827 X) (v829 X) (v830 X)
def v879 (X : Ins F) : FVec F S32x128 .f32 := k0_pay636 (v231 X) (v811 X) (v813 X) (v815 X) (v817 X) (v819 X) (v823 X) (v825 X) (v827 X) (v829 X) (v830 X)
def v881 (X : Ins F) : FVec F S32x128 .f32 := k0_pay637 (v231 X) (v811 X) (v813 X) (v815 X) (v817 X) (v819 X) (v821 X) (v823 X) (v825 X) (v827 X) (v829 X) (v830 X)
def v883 (X : Ins F) : FVec F S32x128 .f32 := k0_pay639 (v231 X) (v823 X)
def v885 (X : Ins F) : FVec F S32x128 .f32 := k0_pay641 (v231 X) (v823 X) (v825 X)
def v887 (X : Ins F) : FVec F S32x128 .f32 := k0_pay643 (v231 X) (v823 X) (v825 X) (v827 X)
def v889 (X : Ins F) : FVec F S32x128 .f32 := k0_pay645 (v231 X) (v823 X) (v825 X) (v827 X) (v829 X)
def v890 (X : Ins F) : FVec F S32x128 .f32 := k0_pay646 (v231 X) (v823 X) (v825 X) (v827 X) (v829 X)

/-! Part 17. -/
def v931 (X : Ins F) : FVec F S32x128 .f32 := k0_pay683 (v231 X) (v871 X) (v883 X) (v885 X) (v887 X) (v889 X) (v890 X)
def v933 (X : Ins F) : FVec F S32x128 .f32 := k0_pay685 (v231 X) (v871 X) (v873 X) (v883 X) (v885 X) (v887 X) (v889 X) (v890 X)
def v935 (X : Ins F) : FVec F S32x128 .f32 := k0_pay687 (v231 X) (v871 X) (v873 X) (v875 X) (v883 X) (v885 X) (v887 X) (v889 X) (v890 X)
def v937 (X : Ins F) : FVec F S32x128 .f32 := k0_pay689 (v231 X) (v871 X) (v873 X) (v875 X) (v877 X) (v883 X) (v885 X) (v887 X) (v889 X) (v890 X)
def v939 (X : Ins F) : FVec F S32x128 .f32 := k0_pay691 (v231 X) (v871 X) (v873 X) (v875 X) (v877 X) (v879 X) (v883 X) (v885 X) (v887 X) (v889 X) (v890 X)
def v941 (X : Ins F) : FVec F S32x128 .f32 := k0_pay692 (v231 X) (v871 X) (v873 X) (v875 X) (v877 X) (v879 X) (v881 X) (v883 X) (v885 X) (v887 X) (v889 X) (v890 X)
def v943 (X : Ins F) : FVec F S32x128 .f32 := k0_pay694 (v231 X) (v883 X)
def v945 (X : Ins F) : FVec F S32x128 .f32 := k0_pay696 (v231 X) (v883 X) (v885 X)
def v947 (X : Ins F) : FVec F S32x128 .f32 := k0_pay698 (v231 X) (v883 X) (v885 X) (v887 X)
def v949 (X : Ins F) : FVec F S32x128 .f32 := k0_pay700 (v231 X) (v883 X) (v885 X) (v887 X) (v889 X)
def v950 (X : Ins F) : FVec F S32x128 .f32 := k0_pay701 (v231 X) (v883 X) (v885 X) (v887 X) (v889 X)

/-! Part 18. -/
def v991 (X : Ins F) : FVec F S32x128 .f32 := k0_pay738 (v231 X) (v931 X) (v943 X) (v945 X) (v947 X) (v949 X) (v950 X)
def v993 (X : Ins F) : FVec F S32x128 .f32 := k0_pay740 (v231 X) (v931 X) (v933 X) (v943 X) (v945 X) (v947 X) (v949 X) (v950 X)
def v995 (X : Ins F) : FVec F S32x128 .f32 := k0_pay742 (v231 X) (v931 X) (v933 X) (v935 X) (v943 X) (v945 X) (v947 X) (v949 X) (v950 X)
def v997 (X : Ins F) : FVec F S32x128 .f32 := k0_pay744 (v231 X) (v931 X) (v933 X) (v935 X) (v937 X) (v943 X) (v945 X) (v947 X) (v949 X) (v950 X)
def v999 (X : Ins F) : FVec F S32x128 .f32 := k0_pay746 (v231 X) (v931 X) (v933 X) (v935 X) (v937 X) (v939 X) (v943 X) (v945 X) (v947 X) (v949 X) (v950 X)
def v1001 (X : Ins F) : FVec F S32x128 .f32 := k0_pay747 (v231 X) (v931 X) (v933 X) (v935 X) (v937 X) (v939 X) (v941 X) (v943 X) (v945 X) (v947 X) (v949 X) (v950 X)
def v1003 (X : Ins F) : FVec F S32x128 .f32 := k0_pay749 (v231 X) (v943 X)
def v1005 (X : Ins F) : FVec F S32x128 .f32 := k0_pay751 (v231 X) (v943 X) (v945 X)
def v1007 (X : Ins F) : FVec F S32x128 .f32 := k0_pay753 (v231 X) (v943 X) (v945 X) (v947 X)
def v1009 (X : Ins F) : FVec F S32x128 .f32 := k0_pay755 (v231 X) (v943 X) (v945 X) (v947 X) (v949 X)
def v1010 (X : Ins F) : FVec F S32x128 .f32 := k0_pay756 (v231 X) (v943 X) (v945 X) (v947 X) (v949 X)

/-! Part 19. -/
def v1051 (X : Ins F) : FVec F S32x128 .f32 := k0_pay793 (v231 X) (v991 X) (v1003 X) (v1005 X) (v1007 X) (v1009 X) (v1010 X)
def v1053 (X : Ins F) : FVec F S32x128 .f32 := k0_pay795 (v231 X) (v991 X) (v993 X) (v1003 X) (v1005 X) (v1007 X) (v1009 X) (v1010 X)
def v1055 (X : Ins F) : FVec F S32x128 .f32 := k0_pay797 (v231 X) (v991 X) (v993 X) (v995 X) (v1003 X) (v1005 X) (v1007 X) (v1009 X) (v1010 X)
def v1057 (X : Ins F) : FVec F S32x128 .f32 := k0_pay799 (v231 X) (v991 X) (v993 X) (v995 X) (v997 X) (v1003 X) (v1005 X) (v1007 X) (v1009 X) (v1010 X)
def v1059 (X : Ins F) : FVec F S32x128 .f32 := k0_pay801 (v231 X) (v991 X) (v993 X) (v995 X) (v997 X) (v999 X) (v1003 X) (v1005 X) (v1007 X) (v1009 X) (v1010 X)
def v1061 (X : Ins F) : FVec F S32x128 .f32 := k0_pay802 (v231 X) (v991 X) (v993 X) (v995 X) (v997 X) (v999 X) (v1001 X) (v1003 X) (v1005 X) (v1007 X) (v1009 X) (v1010 X)
def v1063 (X : Ins F) : FVec F S32x128 .f32 := k0_pay804 (v231 X) (v1003 X)
def v1065 (X : Ins F) : FVec F S32x128 .f32 := k0_pay806 (v231 X) (v1003 X) (v1005 X)
def v1067 (X : Ins F) : FVec F S32x128 .f32 := k0_pay808 (v231 X) (v1003 X) (v1005 X) (v1007 X)
def v1069 (X : Ins F) : FVec F S32x128 .f32 := k0_pay810 (v231 X) (v1003 X) (v1005 X) (v1007 X) (v1009 X)
def v1070 (X : Ins F) : FVec F S32x128 .f32 := k0_pay811 (v231 X) (v1003 X) (v1005 X) (v1007 X) (v1009 X)

/-! Part 20. -/
def v1111 (X : Ins F) : FVec F S32x128 .f32 := k0_pay848 (v231 X) (v1051 X) (v1063 X) (v1065 X) (v1067 X) (v1069 X) (v1070 X)
def v1113 (X : Ins F) : FVec F S32x128 .f32 := k0_pay850 (v231 X) (v1051 X) (v1053 X) (v1063 X) (v1065 X) (v1067 X) (v1069 X) (v1070 X)
def v1115 (X : Ins F) : FVec F S32x128 .f32 := k0_pay852 (v231 X) (v1051 X) (v1053 X) (v1055 X) (v1063 X) (v1065 X) (v1067 X) (v1069 X) (v1070 X)
def v1117 (X : Ins F) : FVec F S32x128 .f32 := k0_pay854 (v231 X) (v1051 X) (v1053 X) (v1055 X) (v1057 X) (v1063 X) (v1065 X) (v1067 X) (v1069 X) (v1070 X)
def v1119 (X : Ins F) : FVec F S32x128 .f32 := k0_pay856 (v231 X) (v1051 X) (v1053 X) (v1055 X) (v1057 X) (v1059 X) (v1063 X) (v1065 X) (v1067 X) (v1069 X) (v1070 X)
def v1121 (X : Ins F) : FVec F S32x128 .f32 := k0_pay857 (v231 X) (v1051 X) (v1053 X) (v1055 X) (v1057 X) (v1059 X) (v1061 X) (v1063 X) (v1065 X) (v1067 X) (v1069 X) (v1070 X)
def v1123 (X : Ins F) : FVec F S32x128 .f32 := k0_pay859 (v231 X) (v1063 X)
def v1125 (X : Ins F) : FVec F S32x128 .f32 := k0_pay861 (v231 X) (v1063 X) (v1065 X)
def v1127 (X : Ins F) : FVec F S32x128 .f32 := k0_pay863 (v231 X) (v1063 X) (v1065 X) (v1067 X)
def v1129 (X : Ins F) : FVec F S32x128 .f32 := k0_pay865 (v231 X) (v1063 X) (v1065 X) (v1067 X) (v1069 X)
def v1130 (X : Ins F) : FVec F S32x128 .f32 := k0_pay866 (v231 X) (v1063 X) (v1065 X) (v1067 X) (v1069 X)

/-! Part 21. -/
def v1171 (X : Ins F) : FVec F S32x128 .f32 := k0_pay903 (v231 X) (v1111 X) (v1123 X) (v1125 X) (v1127 X) (v1129 X) (v1130 X)
def v1173 (X : Ins F) : FVec F S32x128 .f32 := k0_pay905 (v231 X) (v1111 X) (v1113 X) (v1123 X) (v1125 X) (v1127 X) (v1129 X) (v1130 X)
def v1175 (X : Ins F) : FVec F S32x128 .f32 := k0_pay907 (v231 X) (v1111 X) (v1113 X) (v1115 X) (v1123 X) (v1125 X) (v1127 X) (v1129 X) (v1130 X)
def v1177 (X : Ins F) : FVec F S32x128 .f32 := k0_pay909 (v231 X) (v1111 X) (v1113 X) (v1115 X) (v1117 X) (v1123 X) (v1125 X) (v1127 X) (v1129 X) (v1130 X)
def v1179 (X : Ins F) : FVec F S32x128 .f32 := k0_pay911 (v231 X) (v1111 X) (v1113 X) (v1115 X) (v1117 X) (v1119 X) (v1123 X) (v1125 X) (v1127 X) (v1129 X) (v1130 X)
def v1181 (X : Ins F) : FVec F S32x128 .f32 := k0_pay912 (v231 X) (v1111 X) (v1113 X) (v1115 X) (v1117 X) (v1119 X) (v1121 X) (v1123 X) (v1125 X) (v1127 X) (v1129 X) (v1130 X)
def v1183 (X : Ins F) : FVec F S32x128 .f32 := k0_pay914 (v231 X) (v1123 X)
def v1185 (X : Ins F) : FVec F S32x128 .f32 := k0_pay916 (v231 X) (v1123 X) (v1125 X)
def v1187 (X : Ins F) : FVec F S32x128 .f32 := k0_pay918 (v231 X) (v1123 X) (v1125 X) (v1127 X)
def v1189 (X : Ins F) : FVec F S32x128 .f32 := k0_pay920 (v231 X) (v1123 X) (v1125 X) (v1127 X) (v1129 X)
def v1190 (X : Ins F) : FVec F S32x128 .f32 := k0_pay921 (v231 X) (v1123 X) (v1125 X) (v1127 X) (v1129 X)

/-! Part 22. -/
def v1231 (X : Ins F) : FVec F S32x128 .f32 := k0_pay958 (v231 X) (v1171 X) (v1183 X) (v1185 X) (v1187 X) (v1189 X) (v1190 X)
def v1233 (X : Ins F) : FVec F S32x128 .f32 := k0_pay960 (v231 X) (v1171 X) (v1173 X) (v1183 X) (v1185 X) (v1187 X) (v1189 X) (v1190 X)
def v1235 (X : Ins F) : FVec F S32x128 .f32 := k0_pay962 (v231 X) (v1171 X) (v1173 X) (v1175 X) (v1183 X) (v1185 X) (v1187 X) (v1189 X) (v1190 X)
def v1237 (X : Ins F) : FVec F S32x128 .f32 := k0_pay964 (v231 X) (v1171 X) (v1173 X) (v1175 X) (v1177 X) (v1183 X) (v1185 X) (v1187 X) (v1189 X) (v1190 X)
def v1239 (X : Ins F) : FVec F S32x128 .f32 := k0_pay966 (v231 X) (v1171 X) (v1173 X) (v1175 X) (v1177 X) (v1179 X) (v1183 X) (v1185 X) (v1187 X) (v1189 X) (v1190 X)
def v1241 (X : Ins F) : FVec F S32x128 .f32 := k0_pay967 (v231 X) (v1171 X) (v1173 X) (v1175 X) (v1177 X) (v1179 X) (v1181 X) (v1183 X) (v1185 X) (v1187 X) (v1189 X) (v1190 X)
def v1243 (X : Ins F) : FVec F S32x128 .f32 := k0_pay969 (v231 X) (v1183 X)
def v1245 (X : Ins F) : FVec F S32x128 .f32 := k0_pay971 (v231 X) (v1183 X) (v1185 X)
def v1247 (X : Ins F) : FVec F S32x128 .f32 := k0_pay973 (v231 X) (v1183 X) (v1185 X) (v1187 X)
def v1249 (X : Ins F) : FVec F S32x128 .f32 := k0_pay975 (v231 X) (v1183 X) (v1185 X) (v1187 X) (v1189 X)
def v1250 (X : Ins F) : FVec F S32x128 .f32 := k0_pay976 (v231 X) (v1183 X) (v1185 X) (v1187 X) (v1189 X)

/-! Part 23. -/
def v1291 (X : Ins F) : FVec F S32x128 .f32 := k0_pay1013 (v231 X) (v1231 X) (v1243 X) (v1245 X) (v1247 X) (v1249 X) (v1250 X)
def v1293 (X : Ins F) : FVec F S32x128 .f32 := k0_pay1015 (v231 X) (v1231 X) (v1233 X) (v1243 X) (v1245 X) (v1247 X) (v1249 X) (v1250 X)
def v1295 (X : Ins F) : FVec F S32x128 .f32 := k0_pay1017 (v231 X) (v1231 X) (v1233 X) (v1235 X) (v1243 X) (v1245 X) (v1247 X) (v1249 X) (v1250 X)
def v1297 (X : Ins F) : FVec F S32x128 .f32 := k0_pay1019 (v231 X) (v1231 X) (v1233 X) (v1235 X) (v1237 X) (v1243 X) (v1245 X) (v1247 X) (v1249 X) (v1250 X)
def v1299 (X : Ins F) : FVec F S32x128 .f32 := k0_pay1021 (v231 X) (v1231 X) (v1233 X) (v1235 X) (v1237 X) (v1239 X) (v1243 X) (v1245 X) (v1247 X) (v1249 X) (v1250 X)
def v1301 (X : Ins F) : FVec F S32x128 .f32 := k0_pay1022 (v231 X) (v1231 X) (v1233 X) (v1235 X) (v1237 X) (v1239 X) (v1241 X) (v1243 X) (v1245 X) (v1247 X) (v1249 X) (v1250 X)
def v1303 (X : Ins F) : FVec F S32x128 .f32 := k0_pay1024 (v231 X) (v1243 X)
def v1305 (X : Ins F) : FVec F S32x128 .f32 := k0_pay1026 (v231 X) (v1243 X) (v1245 X)
def v1307 (X : Ins F) : FVec F S32x128 .f32 := k0_pay1028 (v231 X) (v1243 X) (v1245 X) (v1247 X)
def v1309 (X : Ins F) : FVec F S32x128 .f32 := k0_pay1030 (v231 X) (v1243 X) (v1245 X) (v1247 X) (v1249 X)
def v1310 (X : Ins F) : FVec F S32x128 .f32 := k0_pay1031 (v231 X) (v1243 X) (v1245 X) (v1247 X) (v1249 X)

/-! Part 24. -/
def v1351 (X : Ins F) : FVec F S32x128 .f32 := k0_pay1068 (v231 X) (v1291 X) (v1303 X) (v1305 X) (v1307 X) (v1309 X) (v1310 X)
def v1353 (X : Ins F) : FVec F S32x128 .f32 := k0_pay1070 (v231 X) (v1291 X) (v1293 X) (v1303 X) (v1305 X) (v1307 X) (v1309 X) (v1310 X)
def v1355 (X : Ins F) : FVec F S32x128 .f32 := k0_pay1072 (v231 X) (v1291 X) (v1293 X) (v1295 X) (v1303 X) (v1305 X) (v1307 X) (v1309 X) (v1310 X)
def v1357 (X : Ins F) : FVec F S32x128 .f32 := k0_pay1074 (v231 X) (v1291 X) (v1293 X) (v1295 X) (v1297 X) (v1303 X) (v1305 X) (v1307 X) (v1309 X) (v1310 X)
def v1359 (X : Ins F) : FVec F S32x128 .f32 := k0_pay1076 (v231 X) (v1291 X) (v1293 X) (v1295 X) (v1297 X) (v1299 X) (v1303 X) (v1305 X) (v1307 X) (v1309 X) (v1310 X)
def v1361 (X : Ins F) : FVec F S32x128 .f32 := k0_pay1077 (v231 X) (v1291 X) (v1293 X) (v1295 X) (v1297 X) (v1299 X) (v1301 X) (v1303 X) (v1305 X) (v1307 X) (v1309 X) (v1310 X)
def v1363 (X : Ins F) : FVec F S32x128 .f32 := k0_pay1079 (v231 X) (v1303 X)
def v1365 (X : Ins F) : FVec F S32x128 .f32 := k0_pay1081 (v231 X) (v1303 X) (v1305 X)
def v1367 (X : Ins F) : FVec F S32x128 .f32 := k0_pay1083 (v231 X) (v1303 X) (v1305 X) (v1307 X)
def v1369 (X : Ins F) : FVec F S32x128 .f32 := k0_pay1085 (v231 X) (v1303 X) (v1305 X) (v1307 X) (v1309 X)
def v1370 (X : Ins F) : FVec F S32x128 .f32 := k0_pay1086 (v231 X) (v1303 X) (v1305 X) (v1307 X) (v1309 X)

/-! Part 25. -/
def v1411 (X : Ins F) : FVec F S32x128 .f32 := k0_pay1123 (v231 X) (v1351 X) (v1363 X) (v1365 X) (v1367 X) (v1369 X) (v1370 X)
def v1413 (X : Ins F) : FVec F S32x128 .f32 := k0_pay1125 (v231 X) (v1351 X) (v1353 X) (v1363 X) (v1365 X) (v1367 X) (v1369 X) (v1370 X)
def v1415 (X : Ins F) : FVec F S32x128 .f32 := k0_pay1127 (v231 X) (v1351 X) (v1353 X) (v1355 X) (v1363 X) (v1365 X) (v1367 X) (v1369 X) (v1370 X)
def v1417 (X : Ins F) : FVec F S32x128 .f32 := k0_pay1129 (v231 X) (v1351 X) (v1353 X) (v1355 X) (v1357 X) (v1363 X) (v1365 X) (v1367 X) (v1369 X) (v1370 X)
def v1419 (X : Ins F) : FVec F S32x128 .f32 := k0_pay1131 (v231 X) (v1351 X) (v1353 X) (v1355 X) (v1357 X) (v1359 X) (v1363 X) (v1365 X) (v1367 X) (v1369 X) (v1370 X)
def v1421 (X : Ins F) : FVec F S32x128 .f32 := k0_pay1132 (v231 X) (v1351 X) (v1353 X) (v1355 X) (v1357 X) (v1359 X) (v1361 X) (v1363 X) (v1365 X) (v1367 X) (v1369 X) (v1370 X)
def v1423 (X : Ins F) : FVec F S32x128 .f32 := k0_pay1134 (v231 X) (v1363 X)
def v1425 (X : Ins F) : FVec F S32x128 .f32 := k0_pay1136 (v231 X) (v1363 X) (v1365 X)
def v1427 (X : Ins F) : FVec F S32x128 .f32 := k0_pay1138 (v231 X) (v1363 X) (v1365 X) (v1367 X)
def v1429 (X : Ins F) : FVec F S32x128 .f32 := k0_pay1140 (v231 X) (v1363 X) (v1365 X) (v1367 X) (v1369 X)
def v1430 (X : Ins F) : FVec F S32x128 .f32 := k0_pay1141 (v231 X) (v1363 X) (v1365 X) (v1367 X) (v1369 X)

/-! Part 26. -/
def v1471 (X : Ins F) : FVec F S32x128 .f32 := k0_pay1178 (v231 X) (v1411 X) (v1423 X) (v1425 X) (v1427 X) (v1429 X) (v1430 X)
def v1473 (X : Ins F) : FVec F S32x128 .f32 := k0_pay1180 (v231 X) (v1411 X) (v1413 X) (v1423 X) (v1425 X) (v1427 X) (v1429 X) (v1430 X)
def v1475 (X : Ins F) : FVec F S32x128 .f32 := k0_pay1182 (v231 X) (v1411 X) (v1413 X) (v1415 X) (v1423 X) (v1425 X) (v1427 X) (v1429 X) (v1430 X)
def v1477 (X : Ins F) : FVec F S32x128 .f32 := k0_pay1184 (v231 X) (v1411 X) (v1413 X) (v1415 X) (v1417 X) (v1423 X) (v1425 X) (v1427 X) (v1429 X) (v1430 X)
def v1479 (X : Ins F) : FVec F S32x128 .f32 := k0_pay1186 (v231 X) (v1411 X) (v1413 X) (v1415 X) (v1417 X) (v1419 X) (v1423 X) (v1425 X) (v1427 X) (v1429 X) (v1430 X)
def v1481 (X : Ins F) : FVec F S32x128 .f32 := k0_pay1187 (v231 X) (v1411 X) (v1413 X) (v1415 X) (v1417 X) (v1419 X) (v1421 X) (v1423 X) (v1425 X) (v1427 X) (v1429 X) (v1430 X)
def v1483 (X : Ins F) : FVec F S32x128 .f32 := k0_pay1189 (v231 X) (v1423 X)
def v1485 (X : Ins F) : FVec F S32x128 .f32 := k0_pay1191 (v231 X) (v1423 X) (v1425 X)
def v1487 (X : Ins F) : FVec F S32x128 .f32 := k0_pay1193 (v231 X) (v1423 X) (v1425 X) (v1427 X)
def v1489 (X : Ins F) : FVec F S32x128 .f32 := k0_pay1195 (v231 X) (v1423 X) (v1425 X) (v1427 X) (v1429 X)
def v1490 (X : Ins F) : FVec F S32x128 .f32 := k0_pay1196 (v231 X) (v1423 X) (v1425 X) (v1427 X) (v1429 X)

/-! Part 27. -/
def v1531 (X : Ins F) : FVec F S32x128 .f32 := k0_pay1233 (v231 X) (v1471 X) (v1483 X) (v1485 X) (v1487 X) (v1489 X) (v1490 X)
def v1533 (X : Ins F) : FVec F S32x128 .f32 := k0_pay1235 (v231 X) (v1471 X) (v1473 X) (v1483 X) (v1485 X) (v1487 X) (v1489 X) (v1490 X)
def v1535 (X : Ins F) : FVec F S32x128 .f32 := k0_pay1237 (v231 X) (v1471 X) (v1473 X) (v1475 X) (v1483 X) (v1485 X) (v1487 X) (v1489 X) (v1490 X)
def v1537 (X : Ins F) : FVec F S32x128 .f32 := k0_pay1239 (v231 X) (v1471 X) (v1473 X) (v1475 X) (v1477 X) (v1483 X) (v1485 X) (v1487 X) (v1489 X) (v1490 X)
def v1539 (X : Ins F) : FVec F S32x128 .f32 := k0_pay1241 (v231 X) (v1471 X) (v1473 X) (v1475 X) (v1477 X) (v1479 X) (v1483 X) (v1485 X) (v1487 X) (v1489 X) (v1490 X)
def v1541 (X : Ins F) : FVec F S32x128 .f32 := k0_pay1242 (v231 X) (v1471 X) (v1473 X) (v1475 X) (v1477 X) (v1479 X) (v1481 X) (v1483 X) (v1485 X) (v1487 X) (v1489 X) (v1490 X)
def v1543 (X : Ins F) : FVec F S32x128 .f32 := k0_pay1244 (v231 X) (v1483 X)
def v1545 (X : Ins F) : FVec F S32x128 .f32 := k0_pay1246 (v231 X) (v1483 X) (v1485 X)
def v1547 (X : Ins F) : FVec F S32x128 .f32 := k0_pay1248 (v231 X) (v1483 X) (v1485 X) (v1487 X)
def v1549 (X : Ins F) : FVec F S32x128 .f32 := k0_pay1250 (v231 X) (v1483 X) (v1485 X) (v1487 X) (v1489 X)
def v1550 (X : Ins F) : FVec F S32x128 .f32 := k0_pay1251 (v231 X) (v1483 X) (v1485 X) (v1487 X) (v1489 X)

/-! Part 28. -/
def v1557 (X : Ins F) : FVec F S32x128 .f32 := k0_pay1258 (v1531 X) (v1533 X) (v1535 X) (v1537 X) (v1550 X)
def v1559 (X : Ins F) : FVec F S32x128 .f32 := k0_pay1260 (v1531 X) (v1533 X) (v1535 X) (v1537 X) (v1539 X) (v1550 X)
def v1561 (X : Ins F) : FVec F S32x128 .f32 := k0_pay1261 (v1531 X) (v1533 X) (v1535 X) (v1537 X) (v1539 X) (v1541 X) (v1550 X)
def v1572 (X : Ins F) : FVec F S32x1 .f32 := k0_pay1262 (v1531 X) (v1533 X) (v1535 X) (v1537 X) (v1539 X) (v1541 X) (v1543 X) (v1545 X) (v1547 X) (v1549 X) (v1550 X)
def v1576 (X : Ins F) : FVec F S32x128 .f32 := k0_pay1263 (v1531 X) (v1533 X) (v1535 X) (v1537 X) (v1539 X) (v1541 X) (v1543 X) (v1545 X) (v1547 X) (v1549 X) (v1550 X)
def v1580 (X : Ins F) : FVec F S32x128 .f32 := k0_pay1264 (v1531 X) (v1533 X) (v1535 X) (v1537 X) (v1539 X) (v1541 X) (v1543 X) (v1545 X) (v1547 X) (v1549 X) (v1550 X)
def v1584 (X : Ins F) : FVec F S32x128 .f32 := k0_pay1265 (v1531 X) (v1533 X) (v1535 X) (v1537 X) (v1539 X) (v1541 X) (v1543 X) (v1545 X) (v1547 X) (v1549 X) (v1550 X)
def v1588 (X : Ins F) : FVec F S32x128 .f32 := k0_pay1266 (v1531 X) (v1533 X) (v1535 X) (v1537 X) (v1539 X) (v1541 X) (v1543 X) (v1545 X) (v1547 X) (v1549 X) (v1550 X)
def v1592 (X : Ins F) : FVec F S32x128 .f32 := k0_pay1267 (v1531 X) (v1533 X) (v1535 X) (v1537 X) (v1539 X) (v1541 X) (v1543 X) (v1545 X) (v1547 X) (v1549 X) (v1550 X)
def v1596 (X : Ins F) : FVec F S32x128 .f32 := k0_pay1268 (v1531 X) (v1533 X) (v1535 X) (v1537 X) (v1539 X) (v1541 X) (v1543 X) (v1545 X) (v1547 X) (v1549 X) (v1550 X)
def v1600 (X : Ins F) : FVec F S32x128 .f32 := k0_pay1269 (v1531 X) (v1533 X) (v1535 X) (v1537 X) (v1539 X) (v1541 X) (v1543 X) (v1545 X) (v1547 X) (v1549 X) (v1550 X)
def v1602 (X : Ins F) : IVec S32x128 1 := k0_pay1270 (v1531 X) (v1533 X) (v1535 X) (v1537 X) (v1539 X) (v1541 X) (v1543 X) (v1545 X) (v1547 X) (v1549 X) (v1550 X)

/-! Part 29. -/
def v1604 (X : Ins F) : FVec F S32x128 .f32 := k0_pay1271 (v1557 X) (v1602 X)
def v1608 (X : Ins F) : FVec F S32x128 .f32 := k0_pay1272 (v1559 X) (v1572 X)
def v1612 (X : Ins F) : FVec F S32x128 .f32 := k0_pay1273 (v1561 X) (v1572 X)
def v1623 (X : Ins F) : FVec F S32x1 .f32 := k0_pay1274 (v1557 X) (v1559 X) (v1561 X) (v1572 X) (v1576 X) (v1580 X) (v1584 X) (v1588 X) (v1592 X) (v1596 X) (v1600 X) (v1602 X)
def v1627 (X : Ins F) : FVec F S32x128 .f32 := k0_pay1275 (v1557 X) (v1559 X) (v1561 X) (v1572 X) (v1576 X) (v1580 X) (v1584 X) (v1588 X) (v1592 X) (v1596 X) (v1600 X) (v1602 X)
def v1631 (X : Ins F) : FVec F S32x128 .f32 := k0_pay1276 (v1557 X) (v1559 X) (v1561 X) (v1572 X) (v1576 X) (v1580 X) (v1584 X) (v1588 X) (v1592 X) (v1596 X) (v1600 X) (v1602 X)
def v1635 (X : Ins F) : FVec F S32x128 .f32 := k0_pay1277 (v1557 X) (v1559 X) (v1561 X) (v1572 X) (v1576 X) (v1580 X) (v1584 X) (v1588 X) (v1592 X) (v1596 X) (v1600 X) (v1602 X)
def v1639 (X : Ins F) : FVec F S32x128 .f32 := k0_pay1278 (v1557 X) (v1559 X) (v1561 X) (v1572 X) (v1576 X) (v1580 X) (v1584 X) (v1588 X) (v1592 X) (v1596 X) (v1600 X) (v1602 X)
def v1643 (X : Ins F) : FVec F S32x128 .f32 := k0_pay1279 (v1557 X) (v1559 X) (v1561 X) (v1572 X) (v1576 X) (v1580 X) (v1584 X) (v1588 X) (v1592 X) (v1596 X) (v1600 X) (v1602 X)
def v1647 (X : Ins F) : FVec F S32x128 .f32 := k0_pay1280 (v1557 X) (v1559 X) (v1561 X) (v1572 X) (v1576 X) (v1580 X) (v1584 X) (v1588 X) (v1592 X) (v1596 X) (v1600 X) (v1602 X)
def v1651 (X : Ins F) : FVec F S32x128 .f32 := k0_pay1281 (v1557 X) (v1559 X) (v1561 X) (v1572 X) (v1576 X) (v1580 X) (v1584 X) (v1588 X) (v1592 X) (v1596 X) (v1600 X) (v1602 X)

/-! Part 30. -/
def v1655 (X : Ins F) : FVec F S32x128 .f32 := k0_pay1282 (v1604 X) (v1623 X)
def v1659 (X : Ins F) : FVec F S32x128 .f32 := k0_pay1283 (v1608 X) (v1623 X)
def v1663 (X : Ins F) : FVec F S32x128 .f32 := k0_pay1284 (v1612 X) (v1623 X)
def v1674 (X : Ins F) : FVec F S32x1 .f32 := k0_pay1285 (v1604 X) (v1608 X) (v1612 X) (v1623 X) (v1627 X) (v1631 X) (v1635 X) (v1639 X) (v1643 X) (v1647 X) (v1651 X)
def v1678 (X : Ins F) : FVec F S32x128 .f32 := k0_pay1286 (v1604 X) (v1608 X) (v1612 X) (v1623 X) (v1627 X) (v1631 X) (v1635 X) (v1639 X) (v1643 X) (v1647 X) (v1651 X)
def v1682 (X : Ins F) : FVec F S32x128 .f32 := k0_pay1287 (v1604 X) (v1608 X) (v1612 X) (v1623 X) (v1627 X) (v1631 X) (v1635 X) (v1639 X) (v1643 X) (v1647 X) (v1651 X)
def v1686 (X : Ins F) : FVec F S32x128 .f32 := k0_pay1288 (v1604 X) (v1608 X) (v1612 X) (v1623 X) (v1627 X) (v1631 X) (v1635 X) (v1639 X) (v1643 X) (v1647 X) (v1651 X)
def v1690 (X : Ins F) : FVec F S32x128 .f32 := k0_pay1289 (v1604 X) (v1608 X) (v1612 X) (v1623 X) (v1627 X) (v1631 X) (v1635 X) (v1639 X) (v1643 X) (v1647 X) (v1651 X)
def v1694 (X : Ins F) : FVec F S32x128 .f32 := k0_pay1290 (v1604 X) (v1608 X) (v1612 X) (v1623 X) (v1627 X) (v1631 X) (v1635 X) (v1639 X) (v1643 X) (v1647 X) (v1651 X)
def v1698 (X : Ins F) : FVec F S32x128 .f32 := k0_pay1291 (v1604 X) (v1608 X) (v1612 X) (v1623 X) (v1627 X) (v1631 X) (v1635 X) (v1639 X) (v1643 X) (v1647 X) (v1651 X)
def v1700 (X : Ins F) : IVec S32x128 1 := k0_pay1292 (v1604 X) (v1608 X) (v1612 X) (v1623 X) (v1627 X) (v1631 X) (v1635 X) (v1639 X) (v1643 X) (v1647 X) (v1651 X)
def cst_95 (X : Ins F) : F .f32 := Scalar.ofBits .f32 0xBF800000#32

/-! Part 31. -/
def v1702 (X : Ins F) : FVec F S32x128 .f32 := k0_pay1293 (v1651 X) (v1700 X) (cst_95 X)
def v1706 (X : Ins F) : FVec F S32x128 .f32 := k0_pay1294 (v1655 X) (v1674 X)
def v1710 (X : Ins F) : FVec F S32x128 .f32 := k0_pay1295 (v1659 X) (v1674 X)
def v1714 (X : Ins F) : FVec F S32x128 .f32 := k0_pay1296 (v1663 X) (v1674 X)
def v1725 (X : Ins F) : FVec F S32x1 .f32 := k0_pay1297 (v1651 X) (v1655 X) (v1659 X) (v1663 X) (v1674 X) (v1678 X) (v1682 X) (v1686 X) (v1690 X) (v1694 X) (v1698 X) (v1700 X) (cst_95 X)
def v1729 (X : Ins F) : FVec F S32x128 .f32 := k0_pay1298 (v1651 X) (v1655 X) (v1659 X) (v1663 X) (v1674 X) (v1678 X) (v1682 X) (v1686 X) (v1690 X) (v1694 X) (v1698 X) (v1700 X) (cst_95 X)
def v1733 (X : Ins F) : FVec F S32x128 .f32 := k0_pay1299 (v1651 X) (v1655 X) (v1659 X) (v1663 X) (v1674 X) (v1678 X) (v1682 X) (v1686 X) (v1690 X) (v1694 X) (v1698 X) (v1700 X) (cst_95 X)
def v1737 (X : Ins F) : FVec F S32x128 .f32 := k0_pay1300 (v1651 X) (v1655 X) (v1659 X) (v1663 X) (v1674 X) (v1678 X) (v1682 X) (v1686 X) (v1690 X) (v1694 X) (v1698 X) (v1700 X) (cst_95 X)
def v1741 (X : Ins F) : FVec F S32x128 .f32 := k0_pay1301 (v1651 X) (v1655 X) (v1659 X) (v1663 X) (v1674 X) (v1678 X) (v1682 X) (v1686 X) (v1690 X) (v1694 X) (v1698 X) (v1700 X) (cst_95 X)
def v1745 (X : Ins F) : FVec F S32x128 .f32 := k0_pay1302 (v1651 X) (v1655 X) (v1659 X) (v1663 X) (v1674 X) (v1678 X) (v1682 X) (v1686 X) (v1690 X) (v1694 X) (v1698 X) (v1700 X) (cst_95 X)
def v1749 (X : Ins F) : FVec F S32x128 .f32 := k0_pay1303 (v1651 X) (v1655 X) (v1659 X) (v1663 X) (v1674 X) (v1678 X) (v1682 X) (v1686 X) (v1690 X) (v1694 X) (v1698 X) (v1700 X) (cst_95 X)
def v1750 (X : Ins F) : FVec F S32x128 .f32 := k0_pay1304 (v1651 X) (v1655 X) (v1659 X) (v1663 X) (v1674 X) (v1678 X) (v1682 X) (v1686 X) (v1690 X) (v1694 X) (v1698 X) (v1700 X) (cst_95 X)

/-! Part 32. -/
def v1753 (X : Ins F) : FVec F S32x128 .f32 := k0_pay1305 (v1702 X) (v1750 X)
def v1757 (X : Ins F) : FVec F S32x128 .f32 := k0_pay1306 (v1706 X) (v1725 X)
def v1761 (X : Ins F) : FVec F S32x128 .f32 := k0_pay1307 (v1710 X) (v1725 X)
def v1765 (X : Ins F) : FVec F S32x128 .f32 := k0_pay1308 (v1714 X) (v1725 X)
def v1776 (X : Ins F) : FVec F S32x1 .f32 := k0_pay1309 (v1702 X) (v1706 X) (v1710 X) (v1714 X) (v1725 X) (v1729 X) (v1733 X) (v1737 X) (v1741 X) (v1745 X) (v1749 X) (v1750 X)
def v1780 (X : Ins F) : FVec F S32x128 .f32 := k0_pay1310 (v1702 X) (v1706 X) (v1710 X) (v1714 X) (v1725 X) (v1729 X) (v1733 X) (v1737 X) (v1741 X) (v1745 X) (v1749 X) (v1750 X)
def v1784 (X : Ins F) : FVec F S32x128 .f32 := k0_pay1311 (v1702 X) (v1706 X) (v1710 X) (v1714 X) (v1725 X) (v1729 X) (v1733 X) (v1737 X) (v1741 X) (v1745 X) (v1749 X) (v1750 X)
def v1788 (X : Ins F) : FVec F S32x128 .f32 := k0_pay1312 (v1702 X) (v1706 X) (v1710 X) (v1714 X) (v1725 X) (v1729 X) (v1733 X) (v1737 X) (v1741 X) (v1745 X) (v1749 X) (v1750 X)
def v1792 (X : Ins F) : FVec F S32x128 .f32 := k0_pay1313 (v1702 X) (v1706 X) (v1710 X) (v1714 X) (v1725 X) (v1729 X) (v1733 X) (v1737 X) (v1741 X) (v1745 X) (v1749 X) (v1750 X)
def v1796 (X : Ins F) : FVec F S32x128 .f32 := k0_pay1314 (v1702 X) (v1706 X) (v1710 X) (v1714 X) (v1725 X) (v1729 X) (v1733 X) (v1737 X) (v1741 X) (v1745 X) (v1749 X) (v1750 X)
def v1798 (X : Ins F) : IVec S32x128 1 := k0_pay1315 (v1702 X) (v1706 X) (v1710 X) (v1714 X) (v1725 X) (v1729 X) (v1733 X) (v1737 X) (v1741 X) (v1745 X) (v1749 X) (v1750 X)
def v1799 (X : Ins F) : FVec F S32x128 .f32 := k0_pay1316 (F := F)

/-! Part 33. -/
def v1800 (X : Ins F) : FVec F S32x128 .f32 := k0_pay1317 (v1749 X) (v1798 X) (v1799 X)
def v1804 (X : Ins F) : FVec F S32x128 .f32 := k0_pay1318 (v1753 X) (v1776 X)
def v1808 (X : Ins F) : FVec F S32x128 .f32 := k0_pay1319 (v1757 X) (v1776 X)
def v1812 (X : Ins F) : FVec F S32x128 .f32 := k0_pay1320 (v1761 X) (v1776 X)
def v1816 (X : Ins F) : FVec F S32x128 .f32 := k0_pay1321 (v1765 X) (v1776 X)
def v1827 (X : Ins F) : FVec F S32x1 .f32 := k0_pay1322 (v1749 X) (v1753 X) (v1757 X) (v1761 X) (v1765 X) (v1776 X) (v1780 X) (v1784 X) (v1788 X) (v1792 X) (v1796 X) (v1798 X) (v1799 X)
def v1831 (X : Ins F) : FVec F S32x128 .f32 := k0_pay1323 (v1749 X) (v1753 X) (v1757 X) (v1761 X) (v1765 X) (v1776 X) (v1780 X) (v1784 X) (v1788 X) (v1792 X) (v1796 X) (v1798 X) (v1799 X)
def v1835 (X : Ins F) : FVec F S32x128 .f32 := k0_pay1324 (v1749 X) (v1753 X) (v1757 X) (v1761 X) (v1765 X) (v1776 X) (v1780 X) (v1784 X) (v1788 X) (v1792 X) (v1796 X) (v1798 X) (v1799 X)
def v1839 (X : Ins F) : FVec F S32x128 .f32 := k0_pay1325 (v1749 X) (v1753 X) (v1757 X) (v1761 X) (v1765 X) (v1776 X) (v1780 X) (v1784 X) (v1788 X) (v1792 X) (v1796 X) (v1798 X) (v1799 X)
def v1843 (X : Ins F) : FVec F S32x128 .f32 := k0_pay1326 (v1749 X) (v1753 X) (v1757 X) (v1761 X) (v1765 X) (v1776 X) (v1780 X) (v1784 X) (v1788 X) (v1792 X) (v1796 X) (v1798 X) (v1799 X)
def v1847 (X : Ins F) : FVec F S32x128 .f32 := k0_pay1327 (v1749 X) (v1753 X) (v1757 X) (v1761 X) (v1765 X) (v1776 X) (v1780 X) (v1784 X) (v1788 X) (v1792 X) (v1796 X) (v1798 X) (v1799 X)
def v1849 (X : Ins F) : IVec S32x128 1 := k0_pay1328 (v1749 X) (v1753 X) (v1757 X) (v1761 X) (v1765 X) (v1776 X) (v1780 X) (v1784 X) (v1788 X) (v1792 X) (v1796 X) (v1798 X) (v1799 X)

/-! Part 34. -/
def v1851 (X : Ins F) : FVec F S32x128 .f32 := k0_pay1329 (v1800 X) (v1849 X)
def v1855 (X : Ins F) : FVec F S32x128 .f32 := k0_pay1330 (v1804 X) (v1827 X)
def v1859 (X : Ins F) : FVec F S32x128 .f32 := k0_pay1331 (v1808 X) (v1827 X)
def v1863 (X : Ins F) : FVec F S32x128 .f32 := k0_pay1332 (v1812 X) (v1827 X)
def v1867 (X : Ins F) : FVec F S32x128 .f32 := k0_pay1333 (v1816 X) (v1827 X)
def v1878 (X : Ins F) : FVec F S32x1 .f32 := k0_pay1334 (v1800 X) (v1804 X) (v1808 X) (v1812 X) (v1816 X) (v1827 X) (v1831 X) (v1835 X) (v1839 X) (v1843 X) (v1847 X) (v1849 X)
def v1882 (X : Ins F) : FVec F S32x128 .f32 := k0_pay1335 (v1800 X) (v1804 X) (v1808 X) (v1812 X) (v1816 X) (v1827 X) (v1831 X) (v1835 X) (v1839 X) (v1843 X) (v1847 X) (v1849 X)
def v1886 (X : Ins F) : FVec F S32x128 .f32 := k0_pay1336 (v1800 X) (v1804 X) (v1808 X) (v1812 X) (v1816 X) (v1827 X) (v1831 X) (v1835 X) (v1839 X) (v1843 X) (v1847 X) (v1849 X)
def v1890 (X : Ins F) : FVec F S32x128 .f32 := k0_pay1337 (v1800 X) (v1804 X) (v1808 X) (v1812 X) (v1816 X) (v1827 X) (v1831 X) (v1835 X) (v1839 X) (v1843 X) (v1847 X) (v1849 X)
def v1894 (X : Ins F) : FVec F S32x128 .f32 := k0_pay1338 (v1800 X) (v1804 X) (v1808 X) (v1812 X) (v1816 X) (v1827 X) (v1831 X) (v1835 X) (v1839 X) (v1843 X) (v1847 X) (v1849 X)
def v1898 (X : Ins F) : FVec F S32x128 .f32 := k0_pay1339 (v1800 X) (v1804 X) (v1808 X) (v1812 X) (v1816 X) (v1827 X) (v1831 X) (v1835 X) (v1839 X) (v1843 X) (v1847 X) (v1849 X)

/-! Part 35. -/
def v1902 (X : Ins F) : FVec F S32x128 .f32 := k0_pay1340 (v1851 X) (v1878 X)
def v1906 (X : Ins F) : FVec F S32x128 .f32 := k0_pay1341 (v1855 X) (v1878 X)
def v1910 (X : Ins F) : FVec F S32x128 .f32 := k0_pay1342 (v1859 X) (v1878 X)
def v1914 (X : Ins F) : FVec F S32x128 .f32 := k0_pay1343 (v1863 X) (v1878 X)
def v1918 (X : Ins F) : FVec F S32x128 .f32 := k0_pay1344 (v1867 X) (v1878 X)
def v1929 (X : Ins F) : FVec F S32x1 .f32 := k0_pay1345 (v1851 X) (v1855 X) (v1859 X) (v1863 X) (v1867 X) (v1878 X) (v1882 X) (v1886 X) (v1890 X) (v1894 X) (v1898 X)
def v1933 (X : Ins F) : FVec F S32x128 .f32 := k0_pay1346 (v1851 X) (v1855 X) (v1859 X) (v1863 X) (v1867 X) (v1878 X) (v1882 X) (v1886 X) (v1890 X) (v1894 X) (v1898 X)
def v1937 (X : Ins F) : FVec F S32x128 .f32 := k0_pay1347 (v1851 X) (v1855 X) (v1859 X) (v1863 X) (v1867 X) (v1878 X) (v1882 X) (v1886 X) (v1890 X) (v1894 X) (v1898 X)
def v1941 (X : Ins F) : FVec F S32x128 .f32 := k0_pay1348 (v1851 X) (v1855 X) (v1859 X) (v1863 X) (v1867 X) (v1878 X) (v1882 X) (v1886 X) (v1890 X) (v1894 X) (v1898 X)
def v1945 (X : Ins F) : FVec F S32x128 .f32 := k0_pay1349 (v1851 X) (v1855 X) (v1859 X) (v1863 X) (v1867 X) (v1878 X) (v1882 X) (v1886 X) (v1890 X) (v1894 X) (v1898 X)
def v1947 (X : Ins F) : IVec S32x128 1 := k0_pay1350 (v1851 X) (v1855 X) (v1859 X) (v1863 X) (v1867 X) (v1878 X) (v1882 X) (v1886 X) (v1890 X) (v1894 X) (v1898 X)
def cst_148 (X : Ins F) : F .f32 := Scalar.ofBits .f32 0xBF800000#32

/-! Part 36. -/
def v1949 (X : Ins F) : FVec F S32x128 .f32 := k0_pay1351 (v1898 X) (v1947 X) (cst_148 X)
def v1953 (X : Ins F) : FVec F S32x128 .f32 := k0_pay1352 (v1902 X) (v1929 X)
def v1957 (X : Ins F) : FVec F S32x128 .f32 := k0_pay1353 (v1906 X) (v1929 X)
def v1961 (X : Ins F) : FVec F S32x128 .f32 := k0_pay1354 (v1910 X) (v1929 X)
def v1965 (X : Ins F) : FVec F S32x128 .f32 := k0_pay1355 (v1914 X) (v1929 X)
def v1969 (X : Ins F) : FVec F S32x128 .f32 := k0_pay1356 (v1918 X) (v1929 X)
def v1980 (X : Ins F) : FVec F S32x1 .f32 := k0_pay1357 (v1898 X) (v1902 X) (v1906 X) (v1910 X) (v1914 X) (v1918 X) (v1929 X) (v1933 X) (v1937 X) (v1941 X) (v1945 X) (v1947 X) (cst_148 X)
def v1984 (X : Ins F) : FVec F S32x128 .f32 := k0_pay1358 (v1898 X) (v1902 X) (v1906 X) (v1910 X) (v1914 X) (v1918 X) (v1929 X) (v1933 X) (v1937 X) (v1941 X) (v1945 X) (v1947 X) (cst_148 X)
def v1988 (X : Ins F) : FVec F S32x128 .f32 := k0_pay1359 (v1898 X) (v1902 X) (v1906 X) (v1910 X) (v1914 X) (v1918 X) (v1929 X) (v1933 X) (v1937 X) (v1941 X) (v1945 X) (v1947 X) (cst_148 X)
def v1992 (X : Ins F) : FVec F S32x128 .f32 := k0_pay1360 (v1898 X) (v1902 X) (v1906 X) (v1910 X) (v1914 X) (v1918 X) (v1929 X) (v1933 X) (v1937 X) (v1941 X) (v1945 X) (v1947 X) (cst_148 X)
def v1996 (X : Ins F) : FVec F S32x128 .f32 := k0_pay1361 (v1898 X) (v1902 X) (v1906 X) (v1910 X) (v1914 X) (v1918 X) (v1929 X) (v1933 X) (v1937 X) (v1941 X) (v1945 X) (v1947 X) (cst_148 X)
def v1997 (X : Ins F) : FVec F S32x128 .f32 := k0_pay1362 (v1898 X) (v1902 X) (v1906 X) (v1910 X) (v1914 X) (v1918 X) (v1929 X) (v1933 X) (v1937 X) (v1941 X) (v1945 X) (v1947 X) (cst_148 X)

/-! Part 37. -/
def v2038 (X : Ins F) : FVec F S32x8400 .f32 := k0_pay1363 (v227 X) (v1949 X) (v1953 X) (v1957 X) (v1961 X) (v1965 X) (v1969 X) (v1980 X) (v1984 X) (v1988 X) (v1992 X) (v1996 X) (v1997 X)
def v2044 (X : Ins F) : FVec F S1x8400 .f32 := k0_pay1364 (v227 X) (v1949 X) (v1953 X) (v1957 X) (v1961 X) (v1965 X) (v1969 X) (v1980 X) (v1984 X) (v1988 X) (v1992 X) (v1996 X) (v1997 X)
def v2045 (X : Ins F) : FVec F S8400 .f32 := k0_pay1365 (v41 X)

/-! Part 38. -/
def v2067 (X : Ins F) : FVec F S32x8400 .f32 := k0_pay1366 (v2038 X)
def v2076 (X : Ins F) : FVec F S1x8400 .f32 := k0_pay1367 (v227 X) (v229 X) (v1572 X) (v2038 X) (v2044 X) (v2045 X)
def v2080 (X : Ins F) : FVec F S1x8400 .f32 := k0_pay1368 (v14 X) (v2038 X)
def v2084 (X : Ins F) : FVec F S1x8400 .f32 := k0_pay1369 (v15 X) (v2038 X)
def v2088 (X : Ins F) : FVec F S1x8400 .f32 := k0_pay1370 (v16 X) (v2038 X)
def v2092 (X : Ins F) : FVec F S1x8400 .f32 := k0_pay1371 (v17 X) (v2038 X)
def v2094 (X : Ins F) : FVec F S1 .f32 := k0_pay1372 (v227 X) (v229 X) (v1572 X) (v2038 X) (v2044 X) (v2045 X)

/-! Part 39. -/
def v2096 (X : Ins F) : F .f32 := k0_pay1373 (v2094 X)
def v2103 (X : Ins F) : F .f32 := k0_pay1374 (v221 X) (v2067 X) (v2076 X)
def v2115 (X : Ins F) : F .f32 := k0_pay1375 (v1 X)
def v2117 (X : Ins F) : FVec F S1x8400 .f32 := k0_pay1376 (v20 X)
def v2118 (X : Ins F) : FVec F S1x8400 .f32 := k0_pay1377 (v20 X) (v21 X)
def v2119 (X : Ins F) : FVec F S1x8400 .f32 := k0_pay1378 (v20 X) (v22 X)
def v2120 (X : Ins F) : FVec F S1x8400 .f32 := k0_pay1379 (v20 X) (v23 X)
def v2121 (X : Ins F) : FVec F S1x8400 .f32 := k0_pay1380 (v20 X) (v24 X)
def v2122 (X : Ins F) : FVec F S1x8400 .f32 := k0_pay1381 (v20 X) (v2080 X)
def v2123 (X : Ins F) : FVec F S1x8400 .f32 := k0_pay1382 (v20 X) (v2084 X)
def v2124 (X : Ins F) : FVec F S1x8400 .f32 := k0_pay1383 (v20 X) (v2088 X)
def v2125 (X : Ins F) : FVec F S1x8400 .f32 := k0_pay1384 (v20 X) (v2092 X)
def v2136 (X : Ins F) : FVec F S1x8400 .f32 := k0_pay1385 (v20 X) (v21 X) (v22 X) (v23 X) (v24 X) (v2080 X) (v2084 X) (v2088 X) (v2092 X)
def v2146 (X : Ins F) : FVec F S1x8400 .f32 := k0_pay1386 (v20 X) (v21 X) (v22 X) (v23 X) (v24 X) (v2080 X) (v2084 X) (v2088 X) (v2092 X)

/-! Part 40. -/
def v2147 (X : Ins F) : FVec F S1x8400 .f32 := k0_pay1387 (v2136 X) (v2146 X)
def v2158 (X : Ins F) : FVec F S1x8400 .f32 := k0_pay1388 (v2118 X) (v2119 X) (v2120 X) (v2121 X) (v2122 X) (v2123 X) (v2124 X) (v2125 X)
def v2169 (X : Ins F) : FVec F S1x8400 .f32 := k0_pay1389 (v2118 X) (v2119 X) (v2120 X) (v2121 X) (v2122 X) (v2123 X) (v2124 X) (v2125 X)
def v2178 (X : Ins F) : FVec F S1x8400 .f32 := k0_pay1390 (v2122 X) (v2124 X)
def v2181 (X : Ins F) : FVec F S1x8400 .f32 := k0_pay1391 (v2123 X) (v2125 X)
def v2184 (X : Ins F) : IVec S1x8400 1 := k0_pay1393 (v2118 X) (v2119 X) (v2120 X) (v2121 X)
def v2187 (X : Ins F) : FVec F S1x8400 .f32 := k0_pay1394 (v2118 X) (v2119 X) (v2120 X) (v2121 X)
def v2188 (X : Ins F) : FVec F S1x8400 .f32 := k0_pay1395 (v2118 X) (v2119 X) (v2120 X) (v2121 X)
def v2195 (X : Ins F) : FVec F S1x8400 .f32 := k0_pay1396 (v2118 X) (v2119 X) (v2120 X) (v2121 X)

/-! Part 41. -/
def v2214 (X : Ins F) : FVec F S1x8400 .f32 := k0_pay1397 (v2184 X) (v2187 X) (v2188 X) (v2195 X)
def v2217 (X : Ins F) : IVec S1x8400 1 := k0_pay1399 (v2178 X) (v2181 X)
def v2220 (X : Ins F) : FVec F S1x8400 .f32 := k0_pay1400 (v2178 X) (v2181 X)
def v2221 (X : Ins F) : FVec F S1x8400 .f32 := k0_pay1401 (v2178 X) (v2181 X)
def v2240 (X : Ins F) : FVec F S1x8400 .f32 := k0_pay1402 (v2178 X) (v2181 X)

/-! Part 42. -/
def v2268 (X : Ins F) : F .f32 := k0_pay1403 (v2076 X) (v2147 X) (v2158 X) (v2169 X) (v2214 X) (v2217 X) (v2220 X) (v2221 X) (v2240 X)
def v2270 (X : Ins F) : FVec F S1x8400 .f32 := k0_pay1405 (v19 X) (v2117 X)
def v2276 (X : Ins F) : FVec F S1x8400 .f32 := k0_pay1406 (v18 X) (v2080 X) (v2117 X)
def v2282 (X : Ins F) : FVec F S1x8400 .f32 := k0_pay1407 (v19 X) (v2084 X) (v2117 X)
def v2286 (X : Ins F) : FVec F S1x8400 .f32 := k0_pay1408 (v18 X) (v2088 X) (v2117 X)
def v2287 (X : Ins F) : FVec F S1x8400 .f32 := k0_pay1409 (F := F)

/-! Part 43. -/
def v2288 (X : Ins F) : FVec F S1x8400 .f32 := k0_pay1410 (v2286 X) (v2287 X)
def v2294 (X : Ins F) : FVec F S1x8400 .f32 := k0_pay1411 (v2092 X) (v2117 X) (v2270 X)
def v2296 (X : Ins F) : FVec F S16x1 .f32 := k0_pay1412 (F := F)
def v2320 (X : Ins F) : FVec F S1x8400 .f32 := k0_pay1413 (v3 X) (v2276 X)
def v2321 (X : Ins F) : FVec F S16x8400 .f32 := k0_pay1414 (v3 X)
def v2330 (X : Ins F) : FVec F S1x8400 .f32 := k0_pay1415 (v3 X)
def v2336 (X : Ins F) : FVec F S16x8400 .f32 := k0_pay1416 (v2282 X)

/-! Part 44. -/
def v2366 (X : Ins F) : FVec F S1x8400 .f32 := k0_pay1417 (v3 X) (v2288 X) (v2296 X) (v2320 X) (v2321 X) (v2330 X) (v2336 X)
def v2376 (X : Ins F) : FVec F S1x8400 .f32 := k0_pay1419 (v3 X)
def v2385 (X : Ins F) : FVec F S16x8400 .f32 := k0_pay1420 (v3 X) (v2294 X) (v2296 X)

/-! Part 45. -/
def v2428 (X : Ins F) : FVec F S8x128 .f32 := k0_pay1421 (v2076 X) (v2096 X) (v2103 X) (v2115 X) (v2268 X) (v2366 X) (v2376 X) (v2385 X)

end Cert.KernelIdeal.Vals

end
-- ==== Proof.KOut.lean ====
/-
  What a grid point of the kernel leaves in its output block: the stored value, at the five blocks the point loads.
-/
module

public import proofs.«01_k».proof.Proof.Gen.KernelIdeal.Value
public import proofs.«01_k».proof.Proof.KVals

@[expose] public section

noncomputable section

namespace Cert.KernelIdeal.Vals

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

theorem zero3 : (![0, 0, 0] : Fin 3 → Nat) = fun _ => 0 := by decide
theorem zero2 : (![0, 0] : Fin 2 → Nat) = fun _ => 0 := by decide

/-- The blocks point `t` loads. -/
def insAt (c : Dev nD) (t : Fin cfg0.N) : Ins F :=
  ⟨iblk m c 0 t, iblk m c 1 t, iblk m c 2 t, iblk m c 3 t, iblk m c 4 t⟩

/-- The same blocks, as the body's loads through the whole of each. -/
def insLd (c : Dev nD) (t : Fin cfg0.N) : Ins F :=
  ⟨View.ld (S := S1x80x8400) (iblk m c 0 t) (Rect.unit ![0, 0, 0] ![1, 80, 8400] inb_S1x80x8400_S1x80x8400_0_0_0),
   View.ld (S := S1x64x8400) (iblk m c 1 t) (Rect.unit ![0, 0, 0] ![1, 64, 8400] inb_S1x64x8400_S1x64x8400_0_0_0),
   View.ld (S := S1x4x8400) (iblk m c 2 t) (Rect.unit ![0, 0, 0] ![1, 4, 8400] inb_S1x4x8400_S1x4x8400_0_0_0),
   View.ld (S := S1x32x5) (iblk m c 3 t) (Rect.unit ![0, 0, 0] ![1, 32, 5] inb_S1x32x5_S1x32x5_0_0_0),
   View.ld (S := S3x8400) (iblk m c 4 t) (Rect.unit ![0, 0] ![3, 8400] inb_S3x8400_S3x8400_0_0)⟩

/-- One store through the whole of a whole slice leaves its payload. -/
theorem canon_within (h₀) (w : S1x8x128.Idx → Elt F .f32) (L : List (View.Piece (Elt F) S1x8x128 .f32)) :
    View.canon ((⟨(Rect.unit (s := S1x8x128) ![0, 0, 0] ![1, 8, 128] inb_S1x8x128_S1x8x128_0_0_0).within
      (Rect.unit ![0, 0, 0] ![1, 8, 128] inb_S1x8x128_S1x8x128_0_0_0) h₀, w⟩ : View.Piece (Elt F) S1x8x128 .f32) :: L) = w := by
  funext y
  have e := View.canon_cons_emb (Val := Elt F) ((Rect.unit (s := S1x8x128) ![0, 0, 0] ![1, 8, 128] inb_S1x8x128_S1x8x128_0_0_0).within
      (Rect.unit ![0, 0, 0] ![1, 8, 128] inb_S1x8x128_S1x8x128_0_0_0) h₀) w L y
  have hy : ((Rect.unit (s := S1x8x128) ![0, 0, 0] ![1, 8, 128] inb_S1x8x128_S1x8x128_0_0_0).within
      (Rect.unit ![0, 0, 0] ![1, 8, 128] inb_S1x8x128_S1x8x128_0_0_0) h₀).emb y = y := by
    funext a
    apply Fin.ext
    fin_cases a
    · show (0 + 0) + 1 * (y 0).val = (y 0).val; omega
    · show (0 + 0) + 1 * (y 1).val = (y 1).val; omega
    · show (0 + 0) + 1 * (y 2).val = (y 2).val; omega
  rw [hy] at e
  exact e

theorem Ins.eq_of {a a' : Vec F S1x80x8400 .f32} {b b' : Vec F S1x64x8400 .f32} {d d' : Vec F S1x4x8400 .f32}
    {e e' : Vec F S1x32x5 .f32} {f f' : Vec F S3x8400 .f32} (h0 : a = a') (h1 : b = b') (h2 : d = d') (h3 : e = e') (h4 : f = f') :
    (⟨a, b, d, e, f⟩ : Ins F) = ⟨a', b', d', e', f'⟩ := by
  subst h0 h1 h2 h3 h4; rfl

theorem insLd_eq (c : Dev nD) (t : Fin cfg0.N) : insLd m c t = insAt m c t :=
  Ins.eq_of (View.ld_unit_zero (S := S1x80x8400) zero3 _ _) (View.ld_unit_zero (S := S1x64x8400) zero3 _ _)
    (View.ld_unit_zero (S := S1x4x8400) zero3 _ _) (View.ld_unit_zero (S := S1x32x5) zero3 _ _)
    (View.ld_unit_zero (S := S3x8400) zero2 _ _)

set_option maxRecDepth 100000 in
set_option maxHeartbeats 4000000 in
/-- The block a point leaves is the body's stored value at the blocks it loads. -/
theorem outsAt_eq (c : Dev nD) (t : Fin cfg0.N) :
    outsAt0 m c t = k0_pay1 (v2428 (insAt m c t)) := by
  rw [← insLd_eq]
  unfold outsAt0 out0_A_5
  rw [View.read_writes_eq_canon _ _ _ (cover0_A_5 c _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread]
  refine (canon_within _ _ _).trans ?_
  sl_kernel_rfl

end Cert.KernelIdeal.Vals

end
-- ==== Proof.KArr.lean ====
/-
  The kernel's result array, index by index: at image `b` it holds the stored value at that image's blocks, and the
  blocks are the arguments with their coordinates exchanged.
-/
module

public import proofs.«01_k».proof.Proof.KOut
public import Idealize.ShloMosaic.Lib.Pointwise
public import Idealize.ShloMosaic.Lib.StableHlo.Run

@[expose] public section

noncomputable section

namespace Cert.KernelIdeal.Vals

open Idealize.ShloMosaic Idealize.ShloMosaic.TcCoe Idealize.SL.Sem Cert.KernelIdeal Cert.KernelIdeal.Gen
open Idealize.ShloMosaic.StableHlo

variable {F : FTy → Type} [FloatOps F]
variable (m : (ℓ : Loc nD τ sig) → Buf (Elt F) ℓ)

theorem index0 : ∀ t : Fin cfg0.N, win0_0.index t = ![t.val, 0, 0] :=
  (by decide +kernel : ∀ t : Fin grid0.N, win0_0.index t = ![t.val, 0, 0])
theorem index1 : ∀ t : Fin cfg0.N, win0_1.index t = ![t.val, 0, 0] :=
  (by decide +kernel : ∀ t : Fin grid0.N, win0_1.index t = ![t.val, 0, 0])
theorem index2 : ∀ t : Fin cfg0.N, win0_2.index t = ![t.val, 0, 0] :=
  (by decide +kernel : ∀ t : Fin grid0.N, win0_2.index t = ![t.val, 0, 0])
theorem index3 : ∀ t : Fin cfg0.N, win0_3.index t = ![t.val, 0, 0] :=
  (by decide +kernel : ∀ t : Fin grid0.N, win0_3.index t = ![t.val, 0, 0])
theorem index4 : ∀ t : Fin cfg0.N, win0_4.index t = ![0, 0] :=
  (by decide +kernel : ∀ t : Fin grid0.N, win0_4.index t = ![0, 0])
theorem index5 : ∀ t : Fin cfg0.N, win0_5.index t = ![t.val, 0, 0] :=
  (by decide +kernel : ∀ t : Fin grid0.N, win0_5.index t = ![t.val, 0, 0])

/-- Image `b`'s grid point. -/
def pt (b : Fin 16) : Fin cfg0.N := ⟨b.val, b.isLt⟩

theorem emb0 (b : Fin 16) (k : Fin 80) (a : Fin 8400) :
    (((cfg0.win 0).blk (pt b)).view.emb (ix3 (0 : Fin 1) k a) : S16x80x8400.Idx) = ix3 b k a :=
  funext fun x => Fin.ext <| match x with
  | ⟨0, _⟩ => by show win0_0.index (pt b) (0 : Fin 3) * 1 + 1 * 0 = b.val; rw [index0]; simp [pt]
  | ⟨1, _⟩ => by show win0_0.index (pt b) (1 : Fin 3) * 80 + 1 * k.val = k.val; rw [index0]; simp
  | ⟨2, _⟩ => by show win0_0.index (pt b) (2 : Fin 3) * 8400 + 1 * a.val = a.val; rw [index0]; simp

theorem emb1 (b : Fin 16) (k : Fin 64) (a : Fin 8400) :
    (((cfg0.win 1).blk (pt b)).view.emb (ix3 (0 : Fin 1) k a) : S16x64x8400.Idx) = ix3 b k a :=
  funext fun x => Fin.ext <| match x with
  | ⟨0, _⟩ => by show win0_1.index (pt b) (0 : Fin 3) * 1 + 1 * 0 = b.val; rw [index1]; simp [pt]
  | ⟨1, _⟩ => by show win0_1.index (pt b) (1 : Fin 3) * 64 + 1 * k.val = k.val; rw [index1]; simp
  | ⟨2, _⟩ => by show win0_1.index (pt b) (2 : Fin 3) * 8400 + 1 * a.val = a.val; rw [index1]; simp

theorem emb2 (b : Fin 16) (k : Fin 4) (a : Fin 8400) :
    (((cfg0.win 2).blk (pt b)).view.emb (ix3 (0 : Fin 1) k a) : S16x4x8400.Idx) = ix3 b k a :=
  funext fun x => Fin.ext <| match x with
  | ⟨0, _⟩ => by show win0_2.index (pt b) (0 : Fin 3) * 1 + 1 * 0 = b.val; rw [index2]; simp [pt]
  | ⟨1, _⟩ => by show win0_2.index (pt b) (1 : Fin 3) * 4 + 1 * k.val = k.val; rw [index2]; simp
  | ⟨2, _⟩ => by show win0_2.index (pt b) (2 : Fin 3) * 8400 + 1 * a.val = a.val; rw [index2]; simp

theorem emb3 (b : Fin 16) (k : Fin 32) (a : Fin 5) :
    (((cfg0.win 3).blk (pt b)).view.emb (ix3 (0 : Fin 1) k a) : S16x32x5.Idx) = ix3 b k a :=
  funext fun x => Fin.ext <| match x with
  | ⟨0, _⟩ => by show win0_3.index (pt b) (0 : Fin 3) * 1 + 1 * 0 = b.val; rw [index3]; simp [pt]
  | ⟨1, _⟩ => by show win0_3.index (pt b) (1 : Fin 3) * 32 + 1 * k.val = k.val; rw [index3]; simp
  | ⟨2, _⟩ => by show win0_3.index (pt b) (2 : Fin 3) * 5 + 1 * a.val = a.val; rw [index3]; simp

theorem emb4 (b : Fin 16) (k : Fin 3) (a : Fin 8400) :
    (((cfg0.win 4).blk (pt b)).view.emb (ix2 k a) : S3x8400.Idx) = ix2 k a :=
  funext fun x => Fin.ext <| match x with
  | ⟨0, _⟩ => by show win0_4.index (pt b) (0 : Fin 2) * 3 + 1 * k.val = k.val; rw [index4]; simp
  | ⟨1, _⟩ => by show win0_4.index (pt b) (1 : Fin 2) * 8400 + 1 * a.val = a.val; rw [index4]; simp

theorem emb5 (b : Fin 16) (r : Fin 8) (l : Fin 128) :
    (((cfg0.win 5).blk (pt b)).view.emb (ix3 (0 : Fin 1) r l) : S16x8x128.Idx) = ix3 b r l :=
  funext fun x => Fin.ext <| match x with
  | ⟨0, _⟩ => by show win0_5.index (pt b) (0 : Fin 3) * 1 + 1 * 0 = b.val; rw [index5]; simp [pt]
  | ⟨1, _⟩ => by show win0_5.index (pt b) (1 : Fin 3) * 8 + 1 * r.val = r.val; rw [index5]; simp
  | ⟨2, _⟩ => by show win0_5.index (pt b) (2 : Fin 3) * 128 + 1 * l.val = l.val; rw [index5]; simp

/-- The result array at image `b` holds that image's stored value. -/
theorem arr_apply (c : Dev nD) (b : Fin 16) (r : Fin 8) (l : Fin 128) :
    ((dats m 0 c).arrAt 5 cfg0.N : S16x8x128.Idx → F .f32) (ix3 b r l) = k0_pay1 (v2428 (insAt m c (pt b))) (ix3 0 r l) := by
  have h := congrFun (Cert.KernelIdeal.Value.blocks5 m c (pt b) (flush0_5 _)) (ix3 (0 : Fin 1) r l)
  rw [Cert.KernelIdeal.Value.flushed5, outsAt_eq] at h
  have e : ((cfg0.win 5).blk (pt b)).view.read (Elt F) ((dats m 0 c).arrAt 5 cfg0.N) (ix3 (0 : Fin 1) r l)
      = ((dats m 0 c).arrAt 5 cfg0.N : S16x8x128.Idx → F .f32) (((cfg0.win 5).blk (pt b)).view.emb (ix3 (0 : Fin 1) r l)) := rfl
  rw [e, emb5] at h
  exact h

theorem V_cls (c : Dev nD) : (V m c main_call0_v0 : S16x80x8400.Idx → F .f32)
    = transpose S16x80x8400 [0, 2, 1] (m ((c : Thread nD τ).loc main_arg0)) transposes_S16x8400x80_S16x80x8400_0_2_1 := by
  show StableHlo.after hostOps0 _ _ = _
  after_results
  rfl

theorem V_anc (c : Dev nD) : (V m c main_call0_v2 : S16x64x8400.Idx → F .f32)
    = transpose S16x64x8400 [0, 2, 1] (shapeCast S16x8400x64 (m ((c : Thread nD τ).loc main_arg1)) shapeCasts_S16x8400x4x16_S16x8400x64) transposes_S16x8400x64_S16x64x8400_0_2_1 := by
  show StableHlo.after hostOps0 _ _ = _
  after_results
  rfl

theorem V_box (c : Dev nD) : (V m c main_call0_v3 : S16x4x8400.Idx → F .f32)
    = transpose S16x4x8400 [0, 2, 1] (m ((c : Thread nD τ).loc main_arg2)) transposes_S16x8400x4_S16x4x8400_0_2_1 := by
  show StableHlo.after hostOps0 _ _ = _
  after_results
  rfl

theorem V_pts (c : Dev nD) : (V m c main_call0_v6 : S3x8400.Idx → F .f32)
    = concatenate S3x8400 0 [⟨S2x8400, transpose S2x8400 [1, 0] (m ((c : Thread nD τ).loc main_arg4)) transposes_S8400x2_S2x8400_1_0⟩,
        ⟨S1x8400, broadcastInDim S1x8400 ![1] bcast_S8400_S1x8400_1 (m ((c : Thread nD τ).loc main_arg5))⟩] concatenates_S2x8400_S1x8400_S3x8400_d0 := by
  show StableHlo.after hostOps0 _ _ = _
  after_results
  rfl

theorem iblk_apply {w} (c : Dev nD) (t : Fin cfg0.N) (j) :
    iblk m c w t j = ((cfg0.win w).blk t).view.read (Elt F) (V m c (Pipeline.arrRef spec0 w)) j := rfl

/-- The class logits of image `b` at a point. -/
theorem ins_cls (c : Dev nD) (b : Fin 16) (k : Fin 80) (a : Fin 8400) :
    (insAt m c (pt b)).cls (ix3 0 k a) = (m ((c : Thread nD τ).loc main_arg0) : S16x8400x80.Idx → F .f32) (ix3 b a k) := by
  have e : (insAt m c (pt b)).cls (ix3 0 k a)
      = (V m c main_call0_v0 : S16x80x8400.Idx → F .f32) (((cfg0.win 0).blk (pt b)).view.emb (ix3 (0 : Fin 1) k a)) := rfl
  rw [e, emb0, V_cls]
  generalize (m ((c : Thread nD τ).loc main_arg0) : S16x8400x80.Idx → F .f32) = x
  pointwise

theorem ins_box (c : Dev nD) (b : Fin 16) (k : Fin 4) (a : Fin 8400) :
    (insAt m c (pt b)).box (ix3 0 k a) = (m ((c : Thread nD τ).loc main_arg2) : S16x8400x4.Idx → F .f32) (ix3 b a k) := by
  have e : (insAt m c (pt b)).box (ix3 0 k a)
      = (V m c main_call0_v3 : S16x4x8400.Idx → F .f32) (((cfg0.win 2).blk (pt b)).view.emb (ix3 (0 : Fin 1) k a)) := rfl
  rw [e, emb2, V_box]
  generalize (m ((c : Thread nD τ).loc main_arg2) : S16x8400x4.Idx → F .f32) = x
  pointwise

theorem ins_tgt (c : Dev nD) (b : Fin 16) (k : Fin 32) (a : Fin 5) :
    (insAt m c (pt b)).tgt (ix3 0 k a) = (m ((c : Thread nD τ).loc main_arg3) : S16x32x5.Idx → F .f32) (ix3 b k a) := by
  have e : (insAt m c (pt b)).tgt (ix3 0 k a)
      = (V m c main_arg3 : S16x32x5.Idx → F .f32) (((cfg0.win 3).blk (pt b)).view.emb (ix3 (0 : Fin 1) k a)) := rfl
  rw [e, emb3, V_main_arg3]

theorem ins_anc (c : Dev nD) (b : Fin 16) (j : Fin 4) (k : Fin 16) (a : Fin 8400) :
    (insAt m c (pt b)).anc (ix3 0 ⟨16 * j.val + k.val, by omega⟩ a)
      = (m ((c : Thread nD τ).loc main_arg1) : S16x8400x4x16.Idx → F .f32) (ix4 b a j k) := by
  have e : (insAt m c (pt b)).anc (ix3 0 ⟨16 * j.val + k.val, by omega⟩ a)
      = (V m c main_call0_v2 : S16x64x8400.Idx → F .f32) (((cfg0.win 1).blk (pt b)).view.emb (ix3 (0 : Fin 1) ⟨16 * j.val + k.val, by omega⟩ a)) := rfl
  rw [e, emb1, V_anc]
  generalize (m ((c : Thread nD τ).loc main_arg1) : S16x8400x4x16.Idx → F .f32) = x
  rw [show transpose S16x64x8400 [0, 2, 1] (shapeCast S16x8400x64 x shapeCasts_S16x8400x4x16_S16x8400x64) transposes_S16x8400x64_S16x64x8400_0_2_1
      (ix3 b ⟨16 * j.val + k.val, by omega⟩ a) = shapeCast S16x8400x64 x shapeCasts_S16x8400x4x16_S16x8400x64 (ix3 b a ⟨16 * j.val + k.val, by omega⟩) by
    generalize shapeCast S16x8400x64 x shapeCasts_S16x8400x4x16_S16x8400x64 = y
    pointwise]
  have e1 : (16 * j.val + k.val) / 16 = j.val := by omega
  have e2 : (16 * j.val + k.val) % 16 = k.val := by omega
  pointwise [e1, e2]

theorem ins_px (c : Dev nD) (b : Fin 16) (a : Fin 8400) :
    (insAt m c (pt b)).pts (ix2 0 a) = (m ((c : Thread nD τ).loc main_arg4) : S8400x2.Idx → F .f32) (ix2 a 0)
    ∧ (insAt m c (pt b)).pts (ix2 1 a) = (m ((c : Thread nD τ).loc main_arg4) : S8400x2.Idx → F .f32) (ix2 a 1)
    ∧ (insAt m c (pt b)).pts (ix2 2 a) = (m ((c : Thread nD τ).loc main_arg5) : S8400.Idx → F .f32) (ix1 a) := by
  have e (k : Fin 3) : (insAt m c (pt b)).pts (ix2 k a)
      = (V m c main_call0_v6 : S3x8400.Idx → F .f32) (((cfg0.win 4).blk (pt b)).view.emb (ix2 k a)) := rfl
  rw [e, e, e, emb4, emb4, emb4, V_pts]
  generalize (m ((c : Thread nD τ).loc main_arg4) : S8400x2.Idx → F .f32) = x
  generalize (m ((c : Thread nD τ).loc main_arg5) : S8400.Idx → F .f32) = y
  refine ⟨?_, ?_, ?_⟩ <;> pointwise

end Cert.KernelIdeal.Vals

end
-- ==== Proof.Spec.lean ====
/-
  What both programs put in an image's output block: five numbers in lanes 0 to 4, zero elsewhere.
-/
module

public import Idealize.ShloMosaic.Lib.Pointwise
public import Idealize.ShloMosaic.PureOps.Ideal.Laws

@[expose] public section

noncomputable section

namespace Cert.Spec

open Idealize.ShloMosaic

/-- Lane `l` of a block whose lanes 0 to 4 hold the five sums. -/
def lanes (p0 p1 p2 p3 p4 : Ideal .f32) (l : Fin 128) : Ideal .f32 :=
  if l.val = 4 then p4 else if l.val = 3 then p3 else if l.val = 2 then p2 else if l.val = 1 then p1
  else if l.val = 0 then p0 else 0

/-- Choosing by "this lane's number is `k`". -/
theorem select_lane (l : Fin 128) (k : BitVec 32) (x y : Ideal .f32) :
    (Scalar.select (IntOp.cmpi .eq (BitVec.ofNat 32 l.val) k) x y : Ideal .f32)
      = if l.val = k.toNat then x else y := by
  have h : (BitVec.ofNat 32 l.val = k) ↔ l.val = k.toNat := by
    constructor
    · intro h; rw [← h, BitVec.toNat_ofNat]; omega
    · intro h; rw [h]; exact BitVec.ofNat_toNat (x := k) 32 |>.trans (by simp)
  by_cases hk : BitVec.ofNat 32 l.val = k
  · rw [if_pos (h.1 hk)]
    simp [Scalar.select, IntOp.cmpi, hk]
  · rw [if_neg (fun e => hk (h.2 e))]
    have hb : (BitVec.ofNat 32 l.val == k) = false := by simpa using hk
    simp only [Scalar.select, IntOp.cmpi, hb]
    rfl

/-- The five choices added up are the block's lane. -/
theorem sum_lanes (p0 p1 p2 p3 p4 : Ideal .f32) (l : Fin 128) :
    (((((if l.val = 0 then p0 else 0) + (if l.val = 1 then p1 else 0)) + (if l.val = 2 then p2 else 0))
      + (if l.val = 3 then p3 else 0)) + (if l.val = 4 then p4 else 0) : Ideal .f32)
      = lanes p0 p1 p2 p3 p4 l := by
  unfold lanes
  have e0 : (0 : Ideal .f32) + 0 = 0 := add_zero _
  by_cases h0 : l.val = 0
  · simp [h0]
  by_cases h1 : l.val = 1
  · simp [h1]
  by_cases h2 : l.val = 2
  · simp [h2]
  by_cases h3 : l.val = 3
  · simp [h3]
  by_cases h4 : l.val = 4
  · simp [h4]
  simp [h0, h1, h2, h3, h4]

/-- One logit's loss against a target of zero. -/
def bce (x : Ideal .f32) : Ideal .f32 := max x 0 + Ideal.log1p (Ideal.exp (0 - FloatOps.absf x))

end Cert.Spec
-- ==== Proof.KLast.lean ====
/-
  The kernel's block as five lanes, and its second lane as a plain double sum.
-/
module

public import proofs.«01_k».proof.Proof.KVals
public import proofs.«01_k».proof.Proof.Spec

@[expose] public section

noncomputable section

namespace Cert.KernelIdeal.Vals

open Idealize.ShloMosaic Idealize.ShloMosaic.TcCoe Idealize.SL.Sem Cert.KernelIdeal Cert.KernelIdeal.Gen Cert.Spec

/-- The last lane's sum, over any operands. -/
def sumDfl (s v2366 v2376 : FVec Ideal S1x8400 .f32) (v2385 : FVec Ideal S16x8400 .f32) : Ideal .f32 :=
  ∑ _x : Fin 1, ∑ a : Fin 8400, Ideal.ofBits .f32 1048576000#32 * (v2366 (ix2 0 a) + (v2376 (ix2 0 a) - ∑ k : Fin 16, v2385 (ix2 k a))) * s (ix2 0 a)

theorem k0_pay1_rows (v2076 : FVec Ideal S1x8400 .f32) (v2096 v2103 v2115 v2268 : Ideal .f32)
    (v2366 v2376 : FVec Ideal S1x8400 .f32) (v2385 : FVec Ideal S16x8400 .f32) (r : Fin 8) (l : Fin 128) :
    k0_pay1 (k0_pay1421 v2076 v2096 v2103 v2115 v2268 v2366 v2376 v2385) (ix3 0 r l)
      = lanes v2096 v2115 v2103 v2268 (sumDfl v2076 v2366 v2376 v2385) l := by
  rw [← sum_lanes]
  unfold_payloads
  pointwise
  simp only [select_lane]
  rfl

theorem v2115_sum (x : FVec Ideal S1x80x8400 .f32) :
    k0_pay1375 (k0_pay2 x) = ∑ k : Fin 80, ∑ a : Fin 8400, bce (x (ix3 0 k a)) := by
  unfold bce
  unfold_payloads
  pointwise

end Cert.KernelIdeal.Vals
-- ==== Proof.RIdx.lean ====
/-
  The index maps of the reference's layout operations, at an index given by its coordinates.
-/
module

public import proofs.«01_k».proof.Proof.Gen.ReferenceIdeal.Read
public import Idealize.ShloMosaic.Lib.Pointwise

@[expose] public section

noncomputable section

namespace Cert.ReferenceIdeal.Read

open Idealize.ShloMosaic Idealize.ShloMosaic.TcCoe Idealize.SL.Sem Cert.ReferenceIdeal
open Idealize.ShloMosaic (ix0 ix1 ix2 ix3 ix4)

theorem g0 (i0 : Fin 16) (i1 : Fin 32) (i2 : Fin 1) :
    idx_main_v0 (ix3 i0 i1 i2) = ix3 i0 i1 0 :=
  funext fun a => Fin.ext (match a with
    | ⟨0, _⟩ => rfl
    | ⟨1, _⟩ => rfl
    | ⟨2, _⟩ => by show i2.val = 0; omega)

theorem g1 (i0 : Fin 16) (i1 : Fin 32) :
    idx_main_v1 (ix2 i0 i1) = ix3 i0 i1 0 :=
  funext fun a => Fin.ext (match a with
    | ⟨0, _⟩ => by show (i0.val * 32 + i1.val) / 32 = i0.val; omega
    | ⟨1, _⟩ => by show (i0.val * 32 + i1.val) / 1 % 32 = i1.val; omega
    | ⟨2, _⟩ => rfl)

theorem g3 (i0 : Fin 16) (i1 : Fin 32) (i2 : Fin 4) :
    idx_main_v5 (ix3 i0 i1 i2) = ix3 i0 i1 (Fin.succ i2) :=
  funext fun a => Fin.ext (match a with
    | ⟨0, _⟩ => rfl
    | ⟨1, _⟩ => rfl
    | ⟨2, _⟩ => by show 1 + i2.val = i2.val + 1; omega)

theorem g4 (i0 : Fin 16) (i1 : Fin 32) (i2 : Fin 1) :
    idx_main_v6 (ix3 i0 i1 i2) = ix3 i0 i1 0 :=
  funext fun a => Fin.ext (match a with
    | ⟨0, _⟩ => rfl
    | ⟨1, _⟩ => rfl
    | ⟨2, _⟩ => by show i2.val = 0; omega)

theorem g5 (i0 : Fin 16) (i1 : Fin 32) (i2 : Fin 1) :
    idx_main_v8 (ix3 i0 i1 i2) = ix2 i0 i1 :=
  funext fun a => Fin.ext (match a with
    | ⟨0, _⟩ => rfl
    | ⟨1, _⟩ => rfl)

theorem g6 (i0 : Fin 16) (i1 : Fin 32) (i2 : Fin 1) :
    idx_main_v9 (ix3 i0 i1 i2) = ix3 i0 i1 1 :=
  funext fun a => Fin.ext (match a with
    | ⟨0, _⟩ => rfl
    | ⟨1, _⟩ => rfl
    | ⟨2, _⟩ => by show 1 + i2.val = 1; omega)

theorem g7 (i0 : Fin 16) (i1 : Fin 32) (i2 : Fin 1) :
    idx_main_v12 (ix3 i0 i1 i2) = ix3 i0 i1 2 :=
  funext fun a => Fin.ext (match a with
    | ⟨0, _⟩ => rfl
    | ⟨1, _⟩ => rfl
    | ⟨2, _⟩ => by show 2 + i2.val = 2; omega)

theorem g8 (i0 : Fin 16) (i1 : Fin 32) (i2 : Fin 1) :
    idx_main_v15 (ix3 i0 i1 i2) = ix3 i0 i1 3 :=
  funext fun a => Fin.ext (match a with
    | ⟨0, _⟩ => rfl
    | ⟨1, _⟩ => rfl
    | ⟨2, _⟩ => by show 3 + i2.val = 3; omega)

theorem g9 (i0 : Fin 8400) (i1 : Fin 1) :
    idx_main_v18 (ix2 i0 i1) = ix2 i0 0 :=
  funext fun a => Fin.ext (match a with
    | ⟨0, _⟩ => rfl
    | ⟨1, _⟩ => by show i1.val = 0; omega)

theorem g10 (i0 : Fin 8400) :
    idx_main_v19 (ix1 i0) = ix2 i0 0 :=
  funext fun a => Fin.ext (match a with
    | ⟨0, _⟩ => by show (i0.val) / 1 = i0.val; omega
    | ⟨1, _⟩ => rfl)

theorem g11 (i0 : Fin 1) (i1 : Fin 1) (i2 : Fin 8400) :
    idx_main_v20 (ix3 i0 i1 i2) = ix1 i2 :=
  funext fun a => Fin.ext (match a with
    | ⟨0, _⟩ => rfl)

theorem g12 (i0 : Fin 8400) (i1 : Fin 1) :
    idx_main_v21 (ix2 i0 i1) = ix2 i0 1 :=
  funext fun a => Fin.ext (match a with
    | ⟨0, _⟩ => rfl
    | ⟨1, _⟩ => by show 1 + i1.val = 1; omega)

theorem g13 (i0 : Fin 16) (i1 : Fin 32) (i2 : Fin 8400) :
    idx_main_v24 (ix3 i0 i1 i2) = ix3 i0 i1 0 :=
  funext fun a => Fin.ext (match a with
    | ⟨0, _⟩ => rfl
    | ⟨1, _⟩ => rfl
    | ⟨2, _⟩ => rfl)

theorem g14 (i0 : Fin 16) (i1 : Fin 32) (i2 : Fin 8400) :
    idx_main_v25 (ix3 i0 i1 i2) = ix3 0 0 i2 :=
  funext fun a => Fin.ext (match a with
    | ⟨0, _⟩ => rfl
    | ⟨1, _⟩ => rfl
    | ⟨2, _⟩ => rfl)

theorem g15 (i0 : Fin 16) (i1 : Fin 32) (i2 : Fin 1) (i3 : Fin 4) :
    idx_main_v39 (ix4 i0 i1 i2 i3) = ix3 i0 i1 i3 :=
  funext fun a => Fin.ext (match a with
    | ⟨0, _⟩ => rfl
    | ⟨1, _⟩ => rfl
    | ⟨2, _⟩ => rfl)

theorem g16 (i0 : Fin 16) (i1 : Fin 1) (i2 : Fin 8400) (i3 : Fin 4) :
    idx_main_v40 (ix4 i0 i1 i2 i3) = ix3 i0 i2 i3 :=
  funext fun a => Fin.ext (match a with
    | ⟨0, _⟩ => rfl
    | ⟨1, _⟩ => rfl
    | ⟨2, _⟩ => rfl)

theorem g17 (i0 : Fin 16) (i1 : Fin 32) (i2 : Fin 1) (i3 : Fin 1) :
    idx_main_v41 (ix4 i0 i1 i2 i3) = ix4 i0 i1 0 0 :=
  funext fun a => Fin.ext (match a with
    | ⟨0, _⟩ => rfl
    | ⟨1, _⟩ => rfl
    | ⟨2, _⟩ => by show i2.val = 0; omega
    | ⟨3, _⟩ => by show i3.val = 0; omega)

theorem g18 (i0 : Fin 16) (i1 : Fin 32) (i2 : Fin 1) :
    idx_main_v42 (ix3 i0 i1 i2) = ix4 i0 i1 0 0 :=
  funext fun a => Fin.ext (match a with
    | ⟨0, _⟩ => by show ((i0.val * 32 + i1.val) * 1 + i2.val) / 32 = i0.val; omega
    | ⟨1, _⟩ => by show ((i0.val * 32 + i1.val) * 1 + i2.val) / 1 % 32 = i1.val; omega
    | ⟨2, _⟩ => rfl
    | ⟨3, _⟩ => rfl)

theorem g19 (i0 : Fin 16) (i1 : Fin 1) (i2 : Fin 8400) (i3 : Fin 1) :
    idx_main_v43 (ix4 i0 i1 i2 i3) = ix4 i0 0 i2 0 :=
  funext fun a => Fin.ext (match a with
    | ⟨0, _⟩ => rfl
    | ⟨1, _⟩ => by show i1.val = 0; omega
    | ⟨2, _⟩ => rfl
    | ⟨3, _⟩ => by show i3.val = 0; omega)

theorem g20 (i0 : Fin 16) (i1 : Fin 1) (i2 : Fin 8400) :
    idx_main_v44 (ix3 i0 i1 i2) = ix4 i0 0 i2 0 :=
  funext fun a => Fin.ext (match a with
    | ⟨0, _⟩ => by show ((i0.val * 1 + i1.val) * 8400 + i2.val) / 8400 = i0.val; omega
    | ⟨1, _⟩ => rfl
    | ⟨2, _⟩ => by show ((i0.val * 1 + i1.val) * 8400 + i2.val) / 1 % 8400 = i2.val; omega
    | ⟨3, _⟩ => rfl)

theorem g21 (i0 : Fin 16) (i1 : Fin 32) (i2 : Fin 8400) :
    idx_main_v46 (ix3 i0 i1 i2) = ix3 i0 0 i2 :=
  funext fun a => Fin.ext (match a with
    | ⟨0, _⟩ => rfl
    | ⟨1, _⟩ => rfl
    | ⟨2, _⟩ => rfl)

theorem g22 (i0 : Fin 16) (i1 : Fin 32) (i2 : Fin 1) (i3 : Fin 1) :
    idx_main_v48 (ix4 i0 i1 i2 i3) = ix4 i0 i1 0 1 :=
  funext fun a => Fin.ext (match a with
    | ⟨0, _⟩ => rfl
    | ⟨1, _⟩ => rfl
    | ⟨2, _⟩ => by show i2.val = 0; omega
    | ⟨3, _⟩ => by show 1 + i3.val = 1; omega)

theorem g23 (i0 : Fin 16) (i1 : Fin 1) (i2 : Fin 8400) (i3 : Fin 1) :
    idx_main_v50 (ix4 i0 i1 i2 i3) = ix4 i0 0 i2 1 :=
  funext fun a => Fin.ext (match a with
    | ⟨0, _⟩ => rfl
    | ⟨1, _⟩ => by show i1.val = 0; omega
    | ⟨2, _⟩ => rfl
    | ⟨3, _⟩ => by show 1 + i3.val = 1; omega)

theorem g24 (i0 : Fin 16) (i1 : Fin 32) (i2 : Fin 1) (i3 : Fin 1) :
    idx_main_v55 (ix4 i0 i1 i2 i3) = ix4 i0 i1 0 2 :=
  funext fun a => Fin.ext (match a with
    | ⟨0, _⟩ => rfl
    | ⟨1, _⟩ => rfl
    | ⟨2, _⟩ => by show i2.val = 0; omega
    | ⟨3, _⟩ => by show 2 + i3.val = 2; omega)

theorem g25 (i0 : Fin 16) (i1 : Fin 1) (i2 : Fin 8400) (i3 : Fin 1) :
    idx_main_v57 (ix4 i0 i1 i2 i3) = ix4 i0 0 i2 2 :=
  funext fun a => Fin.ext (match a with
    | ⟨0, _⟩ => rfl
    | ⟨1, _⟩ => by show i1.val = 0; omega
    | ⟨2, _⟩ => rfl
    | ⟨3, _⟩ => by show 2 + i3.val = 2; omega)

theorem g26 (i0 : Fin 16) (i1 : Fin 32) (i2 : Fin 1) (i3 : Fin 1) :
    idx_main_v62 (ix4 i0 i1 i2 i3) = ix4 i0 i1 0 3 :=
  funext fun a => Fin.ext (match a with
    | ⟨0, _⟩ => rfl
    | ⟨1, _⟩ => rfl
    | ⟨2, _⟩ => by show i2.val = 0; omega
    | ⟨3, _⟩ => by show 3 + i3.val = 3; omega)

theorem g27 (i0 : Fin 16) (i1 : Fin 1) (i2 : Fin 8400) (i3 : Fin 1) :
    idx_main_v64 (ix4 i0 i1 i2 i3) = ix4 i0 0 i2 3 :=
  funext fun a => Fin.ext (match a with
    | ⟨0, _⟩ => rfl
    | ⟨1, _⟩ => by show i1.val = 0; omega
    | ⟨2, _⟩ => rfl
    | ⟨3, _⟩ => by show 3 + i3.val = 3; omega)

theorem g32 (i0 : Fin 16) (i1 : Fin 80) (i2 : Fin 8400) :
    idx_main_v293 (ix3 i0 i1 i2) = ix3 i0 i2 i1 :=
  funext fun a => Fin.ext (match a with
    | ⟨0, _⟩ => rfl
    | ⟨1, _⟩ => rfl
    | ⟨2, _⟩ => rfl)

theorem g33 (i0 : Fin 16) (i1 : Fin 32) (i2 : Fin 8400) (i3 : Fin 1) :
    idx_main_call4_v5 (ix4 i0 i1 i2 i3) = ix3 i0 i1 i2 :=
  funext fun a => Fin.ext (match a with
    | ⟨0, _⟩ => by show (((i0.val * 32 + i1.val) * 8400 + i2.val) * 1 + i3.val) / 268800 = i0.val; omega
    | ⟨1, _⟩ => by show (((i0.val * 32 + i1.val) * 8400 + i2.val) * 1 + i3.val) / 8400 % 32 = i1.val; omega
    | ⟨2, _⟩ => by show (((i0.val * 32 + i1.val) * 8400 + i2.val) * 1 + i3.val) % 8400 = i2.val; omega)

theorem g34 (i0 : Fin 16) (i1 : Fin 32) (i2 : Fin 1) :
    idx_main_v310 (ix3 i0 i1 i2) = ix3 i0 i1 9 :=
  funext fun a => Fin.ext (match a with
    | ⟨0, _⟩ => rfl
    | ⟨1, _⟩ => rfl
    | ⟨2, _⟩ => by show 9 + i2.val = 9; omega)

theorem g35 (i0 : Fin 16) (i1 : Fin 8400) (i2 : Fin 32) :
    idx_main_v317 (ix3 i0 i1 i2) = ix3 i0 i2 i1 :=
  funext fun a => Fin.ext (match a with
    | ⟨0, _⟩ => rfl
    | ⟨1, _⟩ => rfl
    | ⟨2, _⟩ => rfl)

theorem g36 (i0 : Fin 16) (i1 : Fin 8400) :
    idx_main_v318 (ix2 i0 i1) = ix3 i0 i1 0 :=
  funext fun a => Fin.ext (match a with
    | ⟨0, _⟩ => by show (i0.val * 8400 + i1.val) / 8400 = i0.val; omega
    | ⟨1, _⟩ => by show (i0.val * 8400 + i1.val) / 1 % 8400 = i1.val; omega
    | ⟨2, _⟩ => rfl)

theorem g37 (i0 : Fin 16) (i1 : Fin 8400) (k : Fin 32) :
    idx_main_v319 (ix2 i0 i1) k = ix3 i0 k i1 :=
  funext fun a => Fin.ext (match a with
    | ⟨0, _⟩ => rfl
    | ⟨1, _⟩ => rfl
    | ⟨2, _⟩ => rfl)

theorem g39 (i0 : Fin 16) (i1 : Fin 8400) (i2 : Fin 1) :
    idx_main_v336 (ix3 i0 i1 i2) = ix2 i0 i1 :=
  funext fun a => Fin.ext (match a with
    | ⟨0, _⟩ => rfl
    | ⟨1, _⟩ => rfl)

theorem g41 (i0 : Fin 16) (i1 : Fin 8400) (i2 : Fin 1) (i3 : Fin 1) :
    idx_main_call6_v5 (ix4 i0 i1 i2 i3) = ix3 i0 i1 0 :=
  funext fun a => Fin.ext (match a with
    | ⟨0, _⟩ => by show (((i0.val * 8400 + i1.val) * 1 + i2.val) * 1 + i3.val) / 8400 = i0.val; omega
    | ⟨1, _⟩ => by show (((i0.val * 8400 + i1.val) * 1 + i2.val) * 1 + i3.val) / 1 % 8400 = i1.val; omega
    | ⟨2, _⟩ => rfl)

theorem g42 (i0 : Fin 16) (i1 : Fin 8400) (i2 : Fin 1) :
    idx_main_call8_v5 (ix3 i0 i1 i2) = ix2 i0 i1 :=
  funext fun a => Fin.ext (match a with
    | ⟨0, _⟩ => by show ((i0.val * 8400 + i1.val) * 1 + i2.val) / 8400 = i0.val; omega
    | ⟨1, _⟩ => by show ((i0.val * 8400 + i1.val) * 1 + i2.val) % 8400 = i1.val; omega)

theorem g43 (i0 : Fin 16) (i1 : Fin 8400) (i2 : Fin 80) :
    idx_main_call9_v2 (ix3 i0 i1 i2) = ix3 i0 i1 0 :=
  funext fun a => Fin.ext (match a with
    | ⟨0, _⟩ => rfl
    | ⟨1, _⟩ => rfl
    | ⟨2, _⟩ => rfl)

theorem g44 (i0 : Fin 16) (i1 : Fin 8400) (i2 : Fin 80) :
    idx_main_call9_v3 (ix3 i0 i1 i2) = ix3 0 0 i2 :=
  funext fun a => Fin.ext (match a with
    | ⟨0, _⟩ => rfl
    | ⟨1, _⟩ => rfl
    | ⟨2, _⟩ => rfl)

theorem g45 (i0 : Fin 1) (i1 : Fin 8400) (i2 : Fin 1) :
    idx_main_v355 (ix3 i0 i1 i2) = ix1 i1 :=
  funext fun a => Fin.ext (match a with
    | ⟨0, _⟩ => rfl)

theorem g46 (i0 : Fin 16) (i1 : Fin 8400) (i2 : Fin 4) :
    idx_main_v356 (ix3 i0 i1 i2) = ix3 0 i1 0 :=
  funext fun a => Fin.ext (match a with
    | ⟨0, _⟩ => rfl
    | ⟨1, _⟩ => rfl
    | ⟨2, _⟩ => rfl)

theorem g47 (i0 : Fin 16) (i1 : Fin 8400) (k : Fin 80) :
    idx_main_v361 (ix2 i0 i1) k = ix3 i0 i1 k :=
  funext fun a => Fin.ext (match a with
    | ⟨0, _⟩ => rfl
    | ⟨1, _⟩ => rfl
    | ⟨2, _⟩ => rfl)

theorem g48 (i0 : Fin 16) (i1 : Fin 8400) (i2 : Fin 1) :
    idx_main_v362 (ix3 i0 i1 i2) = ix3 i0 i1 0 :=
  funext fun a => Fin.ext (match a with
    | ⟨0, _⟩ => rfl
    | ⟨1, _⟩ => rfl
    | ⟨2, _⟩ => by show i2.val = 0; omega)

theorem g49 (i0 : Fin 16) (i1 : Fin 8400) (i2 : Fin 1) :
    idx_main_v367 (ix3 i0 i1 i2) = ix3 i0 i1 1 :=
  funext fun a => Fin.ext (match a with
    | ⟨0, _⟩ => rfl
    | ⟨1, _⟩ => rfl
    | ⟨2, _⟩ => by show 1 + i2.val = 1; omega)

theorem g50 (i0 : Fin 16) (i1 : Fin 8400) (i2 : Fin 1) :
    idx_main_v372 (ix3 i0 i1 i2) = ix3 i0 i1 2 :=
  funext fun a => Fin.ext (match a with
    | ⟨0, _⟩ => rfl
    | ⟨1, _⟩ => rfl
    | ⟨2, _⟩ => by show 2 + i2.val = 2; omega)

theorem g51 (i0 : Fin 16) (i1 : Fin 8400) (i2 : Fin 1) :
    idx_main_v377 (ix3 i0 i1 i2) = ix3 i0 i1 3 :=
  funext fun a => Fin.ext (match a with
    | ⟨0, _⟩ => rfl
    | ⟨1, _⟩ => rfl
    | ⟨2, _⟩ => by show 3 + i2.val = 3; omega)

theorem g52 (i0 : Fin 8400) (i1 : Fin 1) :
    idx_main_v578 (ix2 i0 i1) = ix1 i0 :=
  funext fun a => Fin.ext (match a with
    | ⟨0, _⟩ => rfl)

theorem g53 (i0 : Fin 8400) (i1 : Fin 2) :
    idx_main_v579 (ix2 i0 i1) = ix2 i0 0 :=
  funext fun a => Fin.ext (match a with
    | ⟨0, _⟩ => rfl
    | ⟨1, _⟩ => rfl)

theorem g54 (i0 : Fin 1) (i1 : Fin 8400) (i2 : Fin 2) :
    idx_main_v581 (ix3 i0 i1 i2) = ix2 i1 i2 :=
  funext fun a => Fin.ext (match a with
    | ⟨0, _⟩ => rfl
    | ⟨1, _⟩ => rfl)

theorem g55 (i0 : Fin 16) (i1 : Fin 8400) (i2 : Fin 2) :
    idx_main_v582 (ix3 i0 i1 i2) = ix3 i0 i1 (Fin.castLE (by decide : 2 ≤ 4) i2) :=
  funext fun a => Fin.ext (match a with
    | ⟨0, _⟩ => rfl
    | ⟨1, _⟩ => rfl
    | ⟨2, _⟩ => rfl)

theorem g56 (i0 : Fin 16) (i1 : Fin 8400) (i2 : Fin 2) :
    idx_main_v583 (ix3 i0 i1 i2) = ix3 0 i1 i2 :=
  funext fun a => Fin.ext (match a with
    | ⟨0, _⟩ => rfl
    | ⟨1, _⟩ => rfl
    | ⟨2, _⟩ => rfl)

theorem g57 (i0 : Fin 16) (i1 : Fin 8400) (i2 : Fin 2) :
    idx_main_v585 (ix3 i0 i1 i2) = ix3 i0 i1 (Fin.natAdd 2 i2 : Fin 4) :=
  funext fun a => Fin.ext (match a with
    | ⟨0, _⟩ => rfl
    | ⟨1, _⟩ => rfl
    | ⟨2, _⟩ => rfl)

theorem g59 (i0 : Fin 16) (i1 : Fin 8400) (i2 : Fin 4) (i3 : Fin 1) :
    idx_main_call14_v3 (ix4 i0 i1 i2 i3) = ix3 i0 i1 i2 :=
  funext fun a => Fin.ext (match a with
    | ⟨0, _⟩ => rfl
    | ⟨1, _⟩ => rfl
    | ⟨2, _⟩ => rfl)

theorem g60 (i0 : Fin 16) (i1 : Fin 8400) (i2 : Fin 4) (i3 : Fin 16) :
    idx_main_call14_v4 (ix4 i0 i1 i2 i3) = ix4 i0 i1 i2 0 :=
  funext fun a => Fin.ext (match a with
    | ⟨0, _⟩ => rfl
    | ⟨1, _⟩ => rfl
    | ⟨2, _⟩ => rfl
    | ⟨3, _⟩ => rfl)

theorem g61 (i0 : Fin 16) (i1 : Fin 8400) (i2 : Fin 4) (k : Fin 16) :
    idx_main_call14_v7 (ix3 i0 i1 i2) k = ix4 i0 i1 i2 k :=
  funext fun a => Fin.ext (match a with
    | ⟨0, _⟩ => rfl
    | ⟨1, _⟩ => rfl
    | ⟨2, _⟩ => rfl
    | ⟨3, _⟩ => rfl)

theorem g63 (i0 : Fin 16) (i1 : Fin 8400) (i2 : Fin 4) (i3 : Fin 1) (i4 : Fin 1) :
    idx_main_call15_v5 (ix5 i0 i1 i2 i3 i4) = ix4 i0 i1 i2 0 :=
  funext fun a => Fin.ext (match a with
    | ⟨0, _⟩ => by show ((((i0.val * 8400 + i1.val) * 4 + i2.val) * 1 + i3.val) * 1 + i4.val) / 33600 = i0.val; omega
    | ⟨1, _⟩ => by show ((((i0.val * 8400 + i1.val) * 4 + i2.val) * 1 + i3.val) * 1 + i4.val) / 4 % 8400 = i1.val; omega
    | ⟨2, _⟩ => by show ((((i0.val * 8400 + i1.val) * 4 + i2.val) * 1 + i3.val) * 1 + i4.val) / 1 % 4 = i2.val; omega
    | ⟨3, _⟩ => rfl)

theorem g64 (i0 : Fin 16) (i1 : Fin 8400) (i2 : Fin 4) :
    idx_main_v598 (ix3 i0 i1 i2) = ix4 i0 i1 i2 0 :=
  funext fun a => Fin.ext (match a with
    | ⟨0, _⟩ => by show ((i0.val * 8400 + i1.val) * 4 + i2.val) / 33600 = i0.val; omega
    | ⟨1, _⟩ => by show ((i0.val * 8400 + i1.val) * 4 + i2.val) / 4 % 8400 = i1.val; omega
    | ⟨2, _⟩ => by show ((i0.val * 8400 + i1.val) * 4 + i2.val) / 1 % 4 = i2.val; omega
    | ⟨3, _⟩ => rfl)

theorem g65 (i0 : Fin 16) (i1 : Fin 8400) (k : Fin 4) :
    idx_main_v614 (ix2 i0 i1) k = ix3 i0 i1 k :=
  funext fun a => Fin.ext (match a with
    | ⟨0, _⟩ => rfl
    | ⟨1, _⟩ => rfl
    | ⟨2, _⟩ => rfl)

theorem g66 (i0 : Fin 16) (k : Fin 8400) :
    idx_main_v618 (ix1 i0) k = ix2 i0 k :=
  funext fun a => Fin.ext (match a with
    | ⟨0, _⟩ => rfl
    | ⟨1, _⟩ => rfl)

theorem g68 (i0 : Fin 16) (i1 : Fin 1) (i2 : Fin 1) :
    idx_main_v636 (ix3 i0 i1 i2) = ix1 i0 :=
  funext fun a => Fin.ext (match a with
    | ⟨0, _⟩ => rfl)

theorem g69 (i0 : Fin 16) (i1 : Fin 8) (i2 : Fin 128) :
    idx_main_call17_v0 (ix3 i0 i1 i2) = ix3 i0 0 0 :=
  funext fun a => Fin.ext (match a with
    | ⟨0, _⟩ => rfl
    | ⟨1, _⟩ => rfl
    | ⟨2, _⟩ => rfl)

end Cert.ReferenceIdeal.Read
-- ==== Proof.RRead.lean ====
/-
  The reference's layout operations and sums, read at an index given by its coordinates.
-/
module

public import proofs.«01_k».proof.Proof.RIdx
public import Idealize.ShloMosaic.Lib.Pointwise

@[expose] public section

noncomputable section

namespace Cert.ReferenceIdeal.Read

open Idealize.ShloMosaic Idealize.ShloMosaic.TcCoe Idealize.SL.Sem Cert.ReferenceIdeal
open Idealize.ShloMosaic (ix0 ix1 ix2 ix3 ix4)

variable (x0 : (⟨S16x8400x80, .f32⟩ : BufTy).Contents (Elt Ideal))
  (x1 : (⟨S16x8400x4x16, .f32⟩ : BufTy).Contents (Elt Ideal))
  (x2 : (⟨S16x8400x4, .f32⟩ : BufTy).Contents (Elt Ideal))
  (x3 : (⟨S16x32x5, .f32⟩ : BufTy).Contents (Elt Ideal))
  (x4 : (⟨S8400x2, .f32⟩ : BufTy).Contents (Elt Ideal))
  (x5 : (⟨S8400, .f32⟩ : BufTy).Contents (Elt Ideal))

theorem a_v0 (i0 : Fin 16) (i1 : Fin 32) (i2 : Fin 1) : val_main_v0 (F := Ideal) x3 (ix3 i0 i1 i2) = x3 (ix3 i0 i1 0) := (val_main_v0_apply x3 (ix3 i0 i1 i2)).trans (congrArg _ (g0 i0 i1 i2))

theorem a_v1 (i0 : Fin 16) (i1 : Fin 32) : val_main_v1 (F := Ideal) x3 (ix2 i0 i1) = val_main_v0 (F := Ideal) x3 (ix3 i0 i1 0) := (val_main_v1_apply x3 (ix2 i0 i1)).trans (congrArg _ (g1 i0 i1))

theorem a_v3 (i0 : Fin 16) (i1 : Fin 32) : val_main_v3 (F := Ideal) (ix2 i0 i1) = val_main_c (F := Ideal) ix0 := (val_main_v3_apply (ix2 i0 i1)).trans (congrArg _ (ix0_eta _).symm)

theorem a_v5 (i0 : Fin 16) (i1 : Fin 32) (i2 : Fin 4) : val_main_v5 (F := Ideal) x3 (ix3 i0 i1 i2) = x3 (ix3 i0 i1 (Fin.succ i2)) := (val_main_v5_apply x3 (ix3 i0 i1 i2)).trans (congrArg _ (g3 i0 i1 i2))

theorem a_v6 (i0 : Fin 16) (i1 : Fin 32) (i2 : Fin 1) : val_main_v6 (F := Ideal) x3 (ix3 i0 i1 i2) = val_main_v5 (F := Ideal) x3 (ix3 i0 i1 0) := (val_main_v6_apply x3 (ix3 i0 i1 i2)).trans (congrArg _ (g4 i0 i1 i2))

theorem a_v7 (i0 : Fin 16) (i1 : Fin 32) : val_main_v7 (F := Ideal) x3 (ix2 i0 i1) = val_main_v6 (F := Ideal) x3 (ix3 i0 i1 0) := (val_main_v7_apply x3 (ix2 i0 i1)).trans (congrArg _ (g1 i0 i1))

theorem a_v8 (i0 : Fin 16) (i1 : Fin 32) (i2 : Fin 1) : val_main_v8 (F := Ideal) x3 (ix3 i0 i1 i2) = val_main_v7 (F := Ideal) x3 (ix2 i0 i1) := (val_main_v8_apply x3 (ix3 i0 i1 i2)).trans (congrArg _ (g5 i0 i1 i2))

theorem a_v9 (i0 : Fin 16) (i1 : Fin 32) (i2 : Fin 1) : val_main_v9 (F := Ideal) x3 (ix3 i0 i1 i2) = val_main_v5 (F := Ideal) x3 (ix3 i0 i1 1) := (val_main_v9_apply x3 (ix3 i0 i1 i2)).trans (congrArg _ (g6 i0 i1 i2))

theorem a_v10 (i0 : Fin 16) (i1 : Fin 32) : val_main_v10 (F := Ideal) x3 (ix2 i0 i1) = val_main_v9 (F := Ideal) x3 (ix3 i0 i1 0) := (val_main_v10_apply x3 (ix2 i0 i1)).trans (congrArg _ (g1 i0 i1))

theorem a_v11 (i0 : Fin 16) (i1 : Fin 32) (i2 : Fin 1) : val_main_v11 (F := Ideal) x3 (ix3 i0 i1 i2) = val_main_v10 (F := Ideal) x3 (ix2 i0 i1) := (val_main_v11_apply x3 (ix3 i0 i1 i2)).trans (congrArg _ (g5 i0 i1 i2))

theorem a_v12 (i0 : Fin 16) (i1 : Fin 32) (i2 : Fin 1) : val_main_v12 (F := Ideal) x3 (ix3 i0 i1 i2) = val_main_v5 (F := Ideal) x3 (ix3 i0 i1 2) := (val_main_v12_apply x3 (ix3 i0 i1 i2)).trans (congrArg _ (g7 i0 i1 i2))

theorem a_v13 (i0 : Fin 16) (i1 : Fin 32) : val_main_v13 (F := Ideal) x3 (ix2 i0 i1) = val_main_v12 (F := Ideal) x3 (ix3 i0 i1 0) := (val_main_v13_apply x3 (ix2 i0 i1)).trans (congrArg _ (g1 i0 i1))

theorem a_v14 (i0 : Fin 16) (i1 : Fin 32) (i2 : Fin 1) : val_main_v14 (F := Ideal) x3 (ix3 i0 i1 i2) = val_main_v13 (F := Ideal) x3 (ix2 i0 i1) := (val_main_v14_apply x3 (ix3 i0 i1 i2)).trans (congrArg _ (g5 i0 i1 i2))

theorem a_v15 (i0 : Fin 16) (i1 : Fin 32) (i2 : Fin 1) : val_main_v15 (F := Ideal) x3 (ix3 i0 i1 i2) = val_main_v5 (F := Ideal) x3 (ix3 i0 i1 3) := (val_main_v15_apply x3 (ix3 i0 i1 i2)).trans (congrArg _ (g8 i0 i1 i2))

theorem a_v16 (i0 : Fin 16) (i1 : Fin 32) : val_main_v16 (F := Ideal) x3 (ix2 i0 i1) = val_main_v15 (F := Ideal) x3 (ix3 i0 i1 0) := (val_main_v16_apply x3 (ix2 i0 i1)).trans (congrArg _ (g1 i0 i1))

theorem a_v17 (i0 : Fin 16) (i1 : Fin 32) (i2 : Fin 1) : val_main_v17 (F := Ideal) x3 (ix3 i0 i1 i2) = val_main_v16 (F := Ideal) x3 (ix2 i0 i1) := (val_main_v17_apply x3 (ix3 i0 i1 i2)).trans (congrArg _ (g5 i0 i1 i2))

theorem a_v18 (i0 : Fin 8400) (i1 : Fin 1) : val_main_v18 (F := Ideal) x4 (ix2 i0 i1) = x4 (ix2 i0 0) := (val_main_v18_apply x4 (ix2 i0 i1)).trans (congrArg _ (g9 i0 i1))

theorem a_v19 (i0 : Fin 8400) : val_main_v19 (F := Ideal) x4 (ix1 i0) = val_main_v18 (F := Ideal) x4 (ix2 i0 0) := (val_main_v19_apply x4 (ix1 i0)).trans (congrArg _ (g10 i0))

theorem a_v20 (i0 : Fin 1) (i1 : Fin 1) (i2 : Fin 8400) : val_main_v20 (F := Ideal) x4 (ix3 i0 i1 i2) = val_main_v19 (F := Ideal) x4 (ix1 i2) := (val_main_v20_apply x4 (ix3 i0 i1 i2)).trans (congrArg _ (g11 i0 i1 i2))

theorem a_v21 (i0 : Fin 8400) (i1 : Fin 1) : val_main_v21 (F := Ideal) x4 (ix2 i0 i1) = x4 (ix2 i0 1) := (val_main_v21_apply x4 (ix2 i0 i1)).trans (congrArg _ (g12 i0 i1))

theorem a_v22 (i0 : Fin 8400) : val_main_v22 (F := Ideal) x4 (ix1 i0) = val_main_v21 (F := Ideal) x4 (ix2 i0 0) := (val_main_v22_apply x4 (ix1 i0)).trans (congrArg _ (g10 i0))

theorem a_v23 (i0 : Fin 1) (i1 : Fin 1) (i2 : Fin 8400) : val_main_v23 (F := Ideal) x4 (ix3 i0 i1 i2) = val_main_v22 (F := Ideal) x4 (ix1 i2) := (val_main_v23_apply x4 (ix3 i0 i1 i2)).trans (congrArg _ (g11 i0 i1 i2))

theorem a_v24 (i0 : Fin 16) (i1 : Fin 32) (i2 : Fin 8400) : val_main_v24 (F := Ideal) x3 (ix3 i0 i1 i2) = val_main_v8 (F := Ideal) x3 (ix3 i0 i1 0) := (val_main_v24_apply x3 (ix3 i0 i1 i2)).trans (congrArg _ (g13 i0 i1 i2))

theorem a_v25 (i0 : Fin 16) (i1 : Fin 32) (i2 : Fin 8400) : val_main_v25 (F := Ideal) x4 (ix3 i0 i1 i2) = val_main_v20 (F := Ideal) x4 (ix3 0 0 i2) := (val_main_v25_apply x4 (ix3 i0 i1 i2)).trans (congrArg _ (g14 i0 i1 i2))

theorem a_v27 (i0 : Fin 16) (i1 : Fin 32) (i2 : Fin 8400) : val_main_v27 (F := Ideal) x4 (ix3 i0 i1 i2) = val_main_v20 (F := Ideal) x4 (ix3 0 0 i2) := (val_main_v27_apply x4 (ix3 i0 i1 i2)).trans (congrArg _ (g14 i0 i1 i2))

theorem a_v28 (i0 : Fin 16) (i1 : Fin 32) (i2 : Fin 8400) : val_main_v28 (F := Ideal) x3 (ix3 i0 i1 i2) = val_main_v14 (F := Ideal) x3 (ix3 i0 i1 0) := (val_main_v28_apply x3 (ix3 i0 i1 i2)).trans (congrArg _ (g13 i0 i1 i2))

theorem a_v31 (i0 : Fin 16) (i1 : Fin 32) (i2 : Fin 8400) : val_main_v31 (F := Ideal) x3 (ix3 i0 i1 i2) = val_main_v11 (F := Ideal) x3 (ix3 i0 i1 0) := (val_main_v31_apply x3 (ix3 i0 i1 i2)).trans (congrArg _ (g13 i0 i1 i2))

theorem a_v32 (i0 : Fin 16) (i1 : Fin 32) (i2 : Fin 8400) : val_main_v32 (F := Ideal) x4 (ix3 i0 i1 i2) = val_main_v23 (F := Ideal) x4 (ix3 0 0 i2) := (val_main_v32_apply x4 (ix3 i0 i1 i2)).trans (congrArg _ (g14 i0 i1 i2))

theorem a_v35 (i0 : Fin 16) (i1 : Fin 32) (i2 : Fin 8400) : val_main_v35 (F := Ideal) x4 (ix3 i0 i1 i2) = val_main_v23 (F := Ideal) x4 (ix3 0 0 i2) := (val_main_v35_apply x4 (ix3 i0 i1 i2)).trans (congrArg _ (g14 i0 i1 i2))

theorem a_v36 (i0 : Fin 16) (i1 : Fin 32) (i2 : Fin 8400) : val_main_v36 (F := Ideal) x3 (ix3 i0 i1 i2) = val_main_v17 (F := Ideal) x3 (ix3 i0 i1 0) := (val_main_v36_apply x3 (ix3 i0 i1 i2)).trans (congrArg _ (g13 i0 i1 i2))

theorem a_v39 (i0 : Fin 16) (i1 : Fin 32) (i2 : Fin 1) (i3 : Fin 4) : val_main_v39 (F := Ideal) x3 (ix4 i0 i1 i2 i3) = val_main_v5 (F := Ideal) x3 (ix3 i0 i1 i3) := (val_main_v39_apply x3 (ix4 i0 i1 i2 i3)).trans (congrArg _ (g15 i0 i1 i2 i3))

theorem a_v40 (i0 : Fin 16) (i1 : Fin 1) (i2 : Fin 8400) (i3 : Fin 4) : val_main_v40 (F := Ideal) x2 (ix4 i0 i1 i2 i3) = x2 (ix3 i0 i2 i3) := (val_main_v40_apply x2 (ix4 i0 i1 i2 i3)).trans (congrArg _ (g16 i0 i1 i2 i3))

theorem a_v41 (i0 : Fin 16) (i1 : Fin 32) (i2 : Fin 1) (i3 : Fin 1) : val_main_v41 (F := Ideal) x3 (ix4 i0 i1 i2 i3) = val_main_v39 (F := Ideal) x3 (ix4 i0 i1 0 0) := (val_main_v41_apply x3 (ix4 i0 i1 i2 i3)).trans (congrArg _ (g17 i0 i1 i2 i3))

theorem a_v42 (i0 : Fin 16) (i1 : Fin 32) (i2 : Fin 1) : val_main_v42 (F := Ideal) x3 (ix3 i0 i1 i2) = val_main_v41 (F := Ideal) x3 (ix4 i0 i1 0 0) := (val_main_v42_apply x3 (ix3 i0 i1 i2)).trans (congrArg _ (g18 i0 i1 i2))

theorem a_v43 (i0 : Fin 16) (i1 : Fin 1) (i2 : Fin 8400) (i3 : Fin 1) : val_main_v43 (F := Ideal) x2 (ix4 i0 i1 i2 i3) = val_main_v40 (F := Ideal) x2 (ix4 i0 0 i2 0) := (val_main_v43_apply x2 (ix4 i0 i1 i2 i3)).trans (congrArg _ (g19 i0 i1 i2 i3))

theorem a_v44 (i0 : Fin 16) (i1 : Fin 1) (i2 : Fin 8400) : val_main_v44 (F := Ideal) x2 (ix3 i0 i1 i2) = val_main_v43 (F := Ideal) x2 (ix4 i0 0 i2 0) := (val_main_v44_apply x2 (ix3 i0 i1 i2)).trans (congrArg _ (g20 i0 i1 i2))

theorem a_v45 (i0 : Fin 16) (i1 : Fin 32) (i2 : Fin 8400) : val_main_v45 (F := Ideal) x3 (ix3 i0 i1 i2) = val_main_v42 (F := Ideal) x3 (ix3 i0 i1 0) := (val_main_v45_apply x3 (ix3 i0 i1 i2)).trans (congrArg _ (g13 i0 i1 i2))

theorem a_v46 (i0 : Fin 16) (i1 : Fin 32) (i2 : Fin 8400) : val_main_v46 (F := Ideal) x2 (ix3 i0 i1 i2) = val_main_v44 (F := Ideal) x2 (ix3 i0 0 i2) := (val_main_v46_apply x2 (ix3 i0 i1 i2)).trans (congrArg _ (g21 i0 i1 i2))

theorem a_v48 (i0 : Fin 16) (i1 : Fin 32) (i2 : Fin 1) (i3 : Fin 1) : val_main_v48 (F := Ideal) x3 (ix4 i0 i1 i2 i3) = val_main_v39 (F := Ideal) x3 (ix4 i0 i1 0 1) := (val_main_v48_apply x3 (ix4 i0 i1 i2 i3)).trans (congrArg _ (g22 i0 i1 i2 i3))

theorem a_v49 (i0 : Fin 16) (i1 : Fin 32) (i2 : Fin 1) : val_main_v49 (F := Ideal) x3 (ix3 i0 i1 i2) = val_main_v48 (F := Ideal) x3 (ix4 i0 i1 0 0) := (val_main_v49_apply x3 (ix3 i0 i1 i2)).trans (congrArg _ (g18 i0 i1 i2))

theorem a_v50 (i0 : Fin 16) (i1 : Fin 1) (i2 : Fin 8400) (i3 : Fin 1) : val_main_v50 (F := Ideal) x2 (ix4 i0 i1 i2 i3) = val_main_v40 (F := Ideal) x2 (ix4 i0 0 i2 1) := (val_main_v50_apply x2 (ix4 i0 i1 i2 i3)).trans (congrArg _ (g23 i0 i1 i2 i3))

theorem a_v51 (i0 : Fin 16) (i1 : Fin 1) (i2 : Fin 8400) : val_main_v51 (F := Ideal) x2 (ix3 i0 i1 i2) = val_main_v50 (F := Ideal) x2 (ix4 i0 0 i2 0) := (val_main_v51_apply x2 (ix3 i0 i1 i2)).trans (congrArg _ (g20 i0 i1 i2))

theorem a_v52 (i0 : Fin 16) (i1 : Fin 32) (i2 : Fin 8400) : val_main_v52 (F := Ideal) x3 (ix3 i0 i1 i2) = val_main_v49 (F := Ideal) x3 (ix3 i0 i1 0) := (val_main_v52_apply x3 (ix3 i0 i1 i2)).trans (congrArg _ (g13 i0 i1 i2))

theorem a_v53 (i0 : Fin 16) (i1 : Fin 32) (i2 : Fin 8400) : val_main_v53 (F := Ideal) x2 (ix3 i0 i1 i2) = val_main_v51 (F := Ideal) x2 (ix3 i0 0 i2) := (val_main_v53_apply x2 (ix3 i0 i1 i2)).trans (congrArg _ (g21 i0 i1 i2))

theorem a_v55 (i0 : Fin 16) (i1 : Fin 32) (i2 : Fin 1) (i3 : Fin 1) : val_main_v55 (F := Ideal) x3 (ix4 i0 i1 i2 i3) = val_main_v39 (F := Ideal) x3 (ix4 i0 i1 0 2) := (val_main_v55_apply x3 (ix4 i0 i1 i2 i3)).trans (congrArg _ (g24 i0 i1 i2 i3))

theorem a_v56 (i0 : Fin 16) (i1 : Fin 32) (i2 : Fin 1) : val_main_v56 (F := Ideal) x3 (ix3 i0 i1 i2) = val_main_v55 (F := Ideal) x3 (ix4 i0 i1 0 0) := (val_main_v56_apply x3 (ix3 i0 i1 i2)).trans (congrArg _ (g18 i0 i1 i2))

theorem a_v57 (i0 : Fin 16) (i1 : Fin 1) (i2 : Fin 8400) (i3 : Fin 1) : val_main_v57 (F := Ideal) x2 (ix4 i0 i1 i2 i3) = val_main_v40 (F := Ideal) x2 (ix4 i0 0 i2 2) := (val_main_v57_apply x2 (ix4 i0 i1 i2 i3)).trans (congrArg _ (g25 i0 i1 i2 i3))

theorem a_v58 (i0 : Fin 16) (i1 : Fin 1) (i2 : Fin 8400) : val_main_v58 (F := Ideal) x2 (ix3 i0 i1 i2) = val_main_v57 (F := Ideal) x2 (ix4 i0 0 i2 0) := (val_main_v58_apply x2 (ix3 i0 i1 i2)).trans (congrArg _ (g20 i0 i1 i2))

theorem a_v59 (i0 : Fin 16) (i1 : Fin 32) (i2 : Fin 8400) : val_main_v59 (F := Ideal) x3 (ix3 i0 i1 i2) = val_main_v56 (F := Ideal) x3 (ix3 i0 i1 0) := (val_main_v59_apply x3 (ix3 i0 i1 i2)).trans (congrArg _ (g13 i0 i1 i2))

theorem a_v60 (i0 : Fin 16) (i1 : Fin 32) (i2 : Fin 8400) : val_main_v60 (F := Ideal) x2 (ix3 i0 i1 i2) = val_main_v58 (F := Ideal) x2 (ix3 i0 0 i2) := (val_main_v60_apply x2 (ix3 i0 i1 i2)).trans (congrArg _ (g21 i0 i1 i2))

theorem a_v62 (i0 : Fin 16) (i1 : Fin 32) (i2 : Fin 1) (i3 : Fin 1) : val_main_v62 (F := Ideal) x3 (ix4 i0 i1 i2 i3) = val_main_v39 (F := Ideal) x3 (ix4 i0 i1 0 3) := (val_main_v62_apply x3 (ix4 i0 i1 i2 i3)).trans (congrArg _ (g26 i0 i1 i2 i3))

theorem a_v63 (i0 : Fin 16) (i1 : Fin 32) (i2 : Fin 1) : val_main_v63 (F := Ideal) x3 (ix3 i0 i1 i2) = val_main_v62 (F := Ideal) x3 (ix4 i0 i1 0 0) := (val_main_v63_apply x3 (ix3 i0 i1 i2)).trans (congrArg _ (g18 i0 i1 i2))

theorem a_v64 (i0 : Fin 16) (i1 : Fin 1) (i2 : Fin 8400) (i3 : Fin 1) : val_main_v64 (F := Ideal) x2 (ix4 i0 i1 i2 i3) = val_main_v40 (F := Ideal) x2 (ix4 i0 0 i2 3) := (val_main_v64_apply x2 (ix4 i0 i1 i2 i3)).trans (congrArg _ (g27 i0 i1 i2 i3))

theorem a_v65 (i0 : Fin 16) (i1 : Fin 1) (i2 : Fin 8400) : val_main_v65 (F := Ideal) x2 (ix3 i0 i1 i2) = val_main_v64 (F := Ideal) x2 (ix4 i0 0 i2 0) := (val_main_v65_apply x2 (ix3 i0 i1 i2)).trans (congrArg _ (g20 i0 i1 i2))

theorem a_v66 (i0 : Fin 16) (i1 : Fin 32) (i2 : Fin 8400) : val_main_v66 (F := Ideal) x3 (ix3 i0 i1 i2) = val_main_v63 (F := Ideal) x3 (ix3 i0 i1 0) := (val_main_v66_apply x3 (ix3 i0 i1 i2)).trans (congrArg _ (g13 i0 i1 i2))

theorem a_v67 (i0 : Fin 16) (i1 : Fin 32) (i2 : Fin 8400) : val_main_v67 (F := Ideal) x2 (ix3 i0 i1 i2) = val_main_v65 (F := Ideal) x2 (ix3 i0 0 i2) := (val_main_v67_apply x2 (ix3 i0 i1 i2)).trans (congrArg _ (g21 i0 i1 i2))

theorem a_v70 (i0 : Fin 16) (i1 : Fin 32) (i2 : Fin 8400) : val_main_v70 (F := Ideal) (ix3 i0 i1 i2) = val_main_cst (F := Ideal) ix0 := (val_main_v70_apply (ix3 i0 i1 i2)).trans (congrArg _ (ix0_eta _).symm)

theorem a_v73 (i0 : Fin 16) (i1 : Fin 32) (i2 : Fin 8400) : val_main_v73 (F := Ideal) (ix3 i0 i1 i2) = val_main_cst_0 (F := Ideal) ix0 := (val_main_v73_apply (ix3 i0 i1 i2)).trans (congrArg _ (ix0_eta _).symm)

theorem a_v76 (i0 : Fin 16) (i1 : Fin 32) (i2 : Fin 1) (i3 : Fin 1) : val_main_v76 (F := Ideal) x3 (ix4 i0 i1 i2 i3) = val_main_v39 (F := Ideal) x3 (ix4 i0 i1 0 2) := (val_main_v76_apply x3 (ix4 i0 i1 i2 i3)).trans (congrArg _ (g24 i0 i1 i2 i3))

theorem a_v77 (i0 : Fin 16) (i1 : Fin 32) (i2 : Fin 1) : val_main_v77 (F := Ideal) x3 (ix3 i0 i1 i2) = val_main_v76 (F := Ideal) x3 (ix4 i0 i1 0 0) := (val_main_v77_apply x3 (ix3 i0 i1 i2)).trans (congrArg _ (g18 i0 i1 i2))

theorem a_v78 (i0 : Fin 16) (i1 : Fin 32) (i2 : Fin 1) (i3 : Fin 1) : val_main_v78 (F := Ideal) x3 (ix4 i0 i1 i2 i3) = val_main_v39 (F := Ideal) x3 (ix4 i0 i1 0 0) := (val_main_v78_apply x3 (ix4 i0 i1 i2 i3)).trans (congrArg _ (g17 i0 i1 i2 i3))

theorem a_v79 (i0 : Fin 16) (i1 : Fin 32) (i2 : Fin 1) : val_main_v79 (F := Ideal) x3 (ix3 i0 i1 i2) = val_main_v78 (F := Ideal) x3 (ix4 i0 i1 0 0) := (val_main_v79_apply x3 (ix3 i0 i1 i2)).trans (congrArg _ (g18 i0 i1 i2))

theorem a_v81 (i0 : Fin 16) (i1 : Fin 32) (i2 : Fin 1) (i3 : Fin 1) : val_main_v81 (F := Ideal) x3 (ix4 i0 i1 i2 i3) = val_main_v39 (F := Ideal) x3 (ix4 i0 i1 0 3) := (val_main_v81_apply x3 (ix4 i0 i1 i2 i3)).trans (congrArg _ (g26 i0 i1 i2 i3))

theorem a_v82 (i0 : Fin 16) (i1 : Fin 32) (i2 : Fin 1) : val_main_v82 (F := Ideal) x3 (ix3 i0 i1 i2) = val_main_v81 (F := Ideal) x3 (ix4 i0 i1 0 0) := (val_main_v82_apply x3 (ix3 i0 i1 i2)).trans (congrArg _ (g18 i0 i1 i2))

theorem a_v83 (i0 : Fin 16) (i1 : Fin 32) (i2 : Fin 1) (i3 : Fin 1) : val_main_v83 (F := Ideal) x3 (ix4 i0 i1 i2 i3) = val_main_v39 (F := Ideal) x3 (ix4 i0 i1 0 1) := (val_main_v83_apply x3 (ix4 i0 i1 i2 i3)).trans (congrArg _ (g22 i0 i1 i2 i3))

theorem a_v84 (i0 : Fin 16) (i1 : Fin 32) (i2 : Fin 1) : val_main_v84 (F := Ideal) x3 (ix3 i0 i1 i2) = val_main_v83 (F := Ideal) x3 (ix4 i0 i1 0 0) := (val_main_v84_apply x3 (ix3 i0 i1 i2)).trans (congrArg _ (g18 i0 i1 i2))

theorem a_v87 (i0 : Fin 16) (i1 : Fin 1) (i2 : Fin 8400) (i3 : Fin 1) : val_main_v87 (F := Ideal) x2 (ix4 i0 i1 i2 i3) = val_main_v40 (F := Ideal) x2 (ix4 i0 0 i2 2) := (val_main_v87_apply x2 (ix4 i0 i1 i2 i3)).trans (congrArg _ (g25 i0 i1 i2 i3))

theorem a_v88 (i0 : Fin 16) (i1 : Fin 1) (i2 : Fin 8400) : val_main_v88 (F := Ideal) x2 (ix3 i0 i1 i2) = val_main_v87 (F := Ideal) x2 (ix4 i0 0 i2 0) := (val_main_v88_apply x2 (ix3 i0 i1 i2)).trans (congrArg _ (g20 i0 i1 i2))

theorem a_v89 (i0 : Fin 16) (i1 : Fin 1) (i2 : Fin 8400) (i3 : Fin 1) : val_main_v89 (F := Ideal) x2 (ix4 i0 i1 i2 i3) = val_main_v40 (F := Ideal) x2 (ix4 i0 0 i2 0) := (val_main_v89_apply x2 (ix4 i0 i1 i2 i3)).trans (congrArg _ (g19 i0 i1 i2 i3))

theorem a_v90 (i0 : Fin 16) (i1 : Fin 1) (i2 : Fin 8400) : val_main_v90 (F := Ideal) x2 (ix3 i0 i1 i2) = val_main_v89 (F := Ideal) x2 (ix4 i0 0 i2 0) := (val_main_v90_apply x2 (ix3 i0 i1 i2)).trans (congrArg _ (g20 i0 i1 i2))

theorem a_v92 (i0 : Fin 16) (i1 : Fin 1) (i2 : Fin 8400) (i3 : Fin 1) : val_main_v92 (F := Ideal) x2 (ix4 i0 i1 i2 i3) = val_main_v40 (F := Ideal) x2 (ix4 i0 0 i2 3) := (val_main_v92_apply x2 (ix4 i0 i1 i2 i3)).trans (congrArg _ (g27 i0 i1 i2 i3))

theorem a_v93 (i0 : Fin 16) (i1 : Fin 1) (i2 : Fin 8400) : val_main_v93 (F := Ideal) x2 (ix3 i0 i1 i2) = val_main_v92 (F := Ideal) x2 (ix4 i0 0 i2 0) := (val_main_v93_apply x2 (ix3 i0 i1 i2)).trans (congrArg _ (g20 i0 i1 i2))

theorem a_v94 (i0 : Fin 16) (i1 : Fin 1) (i2 : Fin 8400) (i3 : Fin 1) : val_main_v94 (F := Ideal) x2 (ix4 i0 i1 i2 i3) = val_main_v40 (F := Ideal) x2 (ix4 i0 0 i2 1) := (val_main_v94_apply x2 (ix4 i0 i1 i2 i3)).trans (congrArg _ (g23 i0 i1 i2 i3))

theorem a_v95 (i0 : Fin 16) (i1 : Fin 1) (i2 : Fin 8400) : val_main_v95 (F := Ideal) x2 (ix3 i0 i1 i2) = val_main_v94 (F := Ideal) x2 (ix4 i0 0 i2 0) := (val_main_v95_apply x2 (ix3 i0 i1 i2)).trans (congrArg _ (g20 i0 i1 i2))

theorem a_v98 (i0 : Fin 16) (i1 : Fin 32) (i2 : Fin 8400) : val_main_v98 (F := Ideal) x3 (ix3 i0 i1 i2) = val_main_v86 (F := Ideal) x3 (ix3 i0 i1 0) := (val_main_v98_apply x3 (ix3 i0 i1 i2)).trans (congrArg _ (g13 i0 i1 i2))

theorem a_v99 (i0 : Fin 16) (i1 : Fin 32) (i2 : Fin 8400) : val_main_v99 (F := Ideal) x2 (ix3 i0 i1 i2) = val_main_v97 (F := Ideal) x2 (ix3 i0 0 i2) := (val_main_v99_apply x2 (ix3 i0 i1 i2)).trans (congrArg _ (g21 i0 i1 i2))

theorem a_v102 (i0 : Fin 16) (i1 : Fin 32) (i2 : Fin 8400) : val_main_v102 (F := Ideal) (ix3 i0 i1 i2) = val_main_cst_1 (F := Ideal) ix0 := (val_main_v102_apply (ix3 i0 i1 i2)).trans (congrArg _ (ix0_eta _).symm)

theorem a_v105 (i0 : Fin 16) (i1 : Fin 32) (i2 : Fin 1) (i3 : Fin 1) : val_main_v105 (F := Ideal) x3 (ix4 i0 i1 i2 i3) = val_main_v39 (F := Ideal) x3 (ix4 i0 i1 0 2) := (val_main_v105_apply x3 (ix4 i0 i1 i2 i3)).trans (congrArg _ (g24 i0 i1 i2 i3))

theorem a_v106 (i0 : Fin 16) (i1 : Fin 32) (i2 : Fin 1) : val_main_v106 (F := Ideal) x3 (ix3 i0 i1 i2) = val_main_v105 (F := Ideal) x3 (ix4 i0 i1 0 0) := (val_main_v106_apply x3 (ix3 i0 i1 i2)).trans (congrArg _ (g18 i0 i1 i2))

theorem a_v107 (i0 : Fin 16) (i1 : Fin 1) (i2 : Fin 8400) (i3 : Fin 1) : val_main_v107 (F := Ideal) x2 (ix4 i0 i1 i2 i3) = val_main_v40 (F := Ideal) x2 (ix4 i0 0 i2 2) := (val_main_v107_apply x2 (ix4 i0 i1 i2 i3)).trans (congrArg _ (g25 i0 i1 i2 i3))

theorem a_v108 (i0 : Fin 16) (i1 : Fin 1) (i2 : Fin 8400) : val_main_v108 (F := Ideal) x2 (ix3 i0 i1 i2) = val_main_v107 (F := Ideal) x2 (ix4 i0 0 i2 0) := (val_main_v108_apply x2 (ix3 i0 i1 i2)).trans (congrArg _ (g20 i0 i1 i2))

theorem a_v109 (i0 : Fin 16) (i1 : Fin 32) (i2 : Fin 8400) : val_main_v109 (F := Ideal) x3 (ix3 i0 i1 i2) = val_main_v106 (F := Ideal) x3 (ix3 i0 i1 0) := (val_main_v109_apply x3 (ix3 i0 i1 i2)).trans (congrArg _ (g13 i0 i1 i2))

theorem a_v110 (i0 : Fin 16) (i1 : Fin 32) (i2 : Fin 8400) : val_main_v110 (F := Ideal) x2 (ix3 i0 i1 i2) = val_main_v108 (F := Ideal) x2 (ix3 i0 0 i2) := (val_main_v110_apply x2 (ix3 i0 i1 i2)).trans (congrArg _ (g21 i0 i1 i2))

theorem a_v112 (i0 : Fin 16) (i1 : Fin 32) (i2 : Fin 1) (i3 : Fin 1) : val_main_v112 (F := Ideal) x3 (ix4 i0 i1 i2 i3) = val_main_v39 (F := Ideal) x3 (ix4 i0 i1 0 0) := (val_main_v112_apply x3 (ix4 i0 i1 i2 i3)).trans (congrArg _ (g17 i0 i1 i2 i3))

theorem a_v113 (i0 : Fin 16) (i1 : Fin 32) (i2 : Fin 1) : val_main_v113 (F := Ideal) x3 (ix3 i0 i1 i2) = val_main_v112 (F := Ideal) x3 (ix4 i0 i1 0 0) := (val_main_v113_apply x3 (ix3 i0 i1 i2)).trans (congrArg _ (g18 i0 i1 i2))

theorem a_v114 (i0 : Fin 16) (i1 : Fin 1) (i2 : Fin 8400) (i3 : Fin 1) : val_main_v114 (F := Ideal) x2 (ix4 i0 i1 i2 i3) = val_main_v40 (F := Ideal) x2 (ix4 i0 0 i2 0) := (val_main_v114_apply x2 (ix4 i0 i1 i2 i3)).trans (congrArg _ (g19 i0 i1 i2 i3))

theorem a_v115 (i0 : Fin 16) (i1 : Fin 1) (i2 : Fin 8400) : val_main_v115 (F := Ideal) x2 (ix3 i0 i1 i2) = val_main_v114 (F := Ideal) x2 (ix4 i0 0 i2 0) := (val_main_v115_apply x2 (ix3 i0 i1 i2)).trans (congrArg _ (g20 i0 i1 i2))

theorem a_v116 (i0 : Fin 16) (i1 : Fin 32) (i2 : Fin 8400) : val_main_v116 (F := Ideal) x3 (ix3 i0 i1 i2) = val_main_v113 (F := Ideal) x3 (ix3 i0 i1 0) := (val_main_v116_apply x3 (ix3 i0 i1 i2)).trans (congrArg _ (g13 i0 i1 i2))

theorem a_v117 (i0 : Fin 16) (i1 : Fin 32) (i2 : Fin 8400) : val_main_v117 (F := Ideal) x2 (ix3 i0 i1 i2) = val_main_v115 (F := Ideal) x2 (ix3 i0 0 i2) := (val_main_v117_apply x2 (ix3 i0 i1 i2)).trans (congrArg _ (g21 i0 i1 i2))

theorem a_v120 (i0 : Fin 16) (i1 : Fin 32) (i2 : Fin 1) (i3 : Fin 1) : val_main_v120 (F := Ideal) x3 (ix4 i0 i1 i2 i3) = val_main_v39 (F := Ideal) x3 (ix4 i0 i1 0 3) := (val_main_v120_apply x3 (ix4 i0 i1 i2 i3)).trans (congrArg _ (g26 i0 i1 i2 i3))

theorem a_v121 (i0 : Fin 16) (i1 : Fin 32) (i2 : Fin 1) : val_main_v121 (F := Ideal) x3 (ix3 i0 i1 i2) = val_main_v120 (F := Ideal) x3 (ix4 i0 i1 0 0) := (val_main_v121_apply x3 (ix3 i0 i1 i2)).trans (congrArg _ (g18 i0 i1 i2))

theorem a_v122 (i0 : Fin 16) (i1 : Fin 1) (i2 : Fin 8400) (i3 : Fin 1) : val_main_v122 (F := Ideal) x2 (ix4 i0 i1 i2 i3) = val_main_v40 (F := Ideal) x2 (ix4 i0 0 i2 3) := (val_main_v122_apply x2 (ix4 i0 i1 i2 i3)).trans (congrArg _ (g27 i0 i1 i2 i3))

theorem a_v123 (i0 : Fin 16) (i1 : Fin 1) (i2 : Fin 8400) : val_main_v123 (F := Ideal) x2 (ix3 i0 i1 i2) = val_main_v122 (F := Ideal) x2 (ix4 i0 0 i2 0) := (val_main_v123_apply x2 (ix3 i0 i1 i2)).trans (congrArg _ (g20 i0 i1 i2))

theorem a_v124 (i0 : Fin 16) (i1 : Fin 32) (i2 : Fin 8400) : val_main_v124 (F := Ideal) x3 (ix3 i0 i1 i2) = val_main_v121 (F := Ideal) x3 (ix3 i0 i1 0) := (val_main_v124_apply x3 (ix3 i0 i1 i2)).trans (congrArg _ (g13 i0 i1 i2))

theorem a_v125 (i0 : Fin 16) (i1 : Fin 32) (i2 : Fin 8400) : val_main_v125 (F := Ideal) x2 (ix3 i0 i1 i2) = val_main_v123 (F := Ideal) x2 (ix3 i0 0 i2) := (val_main_v125_apply x2 (ix3 i0 i1 i2)).trans (congrArg _ (g21 i0 i1 i2))

theorem a_v127 (i0 : Fin 16) (i1 : Fin 32) (i2 : Fin 1) (i3 : Fin 1) : val_main_v127 (F := Ideal) x3 (ix4 i0 i1 i2 i3) = val_main_v39 (F := Ideal) x3 (ix4 i0 i1 0 1) := (val_main_v127_apply x3 (ix4 i0 i1 i2 i3)).trans (congrArg _ (g22 i0 i1 i2 i3))

theorem a_v128 (i0 : Fin 16) (i1 : Fin 32) (i2 : Fin 1) : val_main_v128 (F := Ideal) x3 (ix3 i0 i1 i2) = val_main_v127 (F := Ideal) x3 (ix4 i0 i1 0 0) := (val_main_v128_apply x3 (ix3 i0 i1 i2)).trans (congrArg _ (g18 i0 i1 i2))

theorem a_v129 (i0 : Fin 16) (i1 : Fin 1) (i2 : Fin 8400) (i3 : Fin 1) : val_main_v129 (F := Ideal) x2 (ix4 i0 i1 i2 i3) = val_main_v40 (F := Ideal) x2 (ix4 i0 0 i2 1) := (val_main_v129_apply x2 (ix4 i0 i1 i2 i3)).trans (congrArg _ (g23 i0 i1 i2 i3))

theorem a_v130 (i0 : Fin 16) (i1 : Fin 1) (i2 : Fin 8400) : val_main_v130 (F := Ideal) x2 (ix3 i0 i1 i2) = val_main_v129 (F := Ideal) x2 (ix4 i0 0 i2 0) := (val_main_v130_apply x2 (ix3 i0 i1 i2)).trans (congrArg _ (g20 i0 i1 i2))

theorem a_v131 (i0 : Fin 16) (i1 : Fin 32) (i2 : Fin 8400) : val_main_v131 (F := Ideal) x3 (ix3 i0 i1 i2) = val_main_v128 (F := Ideal) x3 (ix3 i0 i1 0) := (val_main_v131_apply x3 (ix3 i0 i1 i2)).trans (congrArg _ (g13 i0 i1 i2))

theorem a_v132 (i0 : Fin 16) (i1 : Fin 32) (i2 : Fin 8400) : val_main_v132 (F := Ideal) x2 (ix3 i0 i1 i2) = val_main_v130 (F := Ideal) x2 (ix3 i0 0 i2) := (val_main_v132_apply x2 (ix3 i0 i1 i2)).trans (congrArg _ (g21 i0 i1 i2))

theorem a_v138 (i0 : Fin 16) (i1 : Fin 32) (i2 : Fin 8400) : val_main_v138 (F := Ideal) (ix3 i0 i1 i2) = val_main_cst_2 (F := Ideal) ix0 := (val_main_v138_apply (ix3 i0 i1 i2)).trans (congrArg _ (ix0_eta _).symm)

theorem a_v140 (i0 : Fin 16) (i1 : Fin 32) (i2 : Fin 1) (i3 : Fin 1) : val_main_v140 (F := Ideal) x3 (ix4 i0 i1 i2 i3) = val_main_v39 (F := Ideal) x3 (ix4 i0 i1 0 0) := (val_main_v140_apply x3 (ix4 i0 i1 i2 i3)).trans (congrArg _ (g17 i0 i1 i2 i3))

theorem a_v141 (i0 : Fin 16) (i1 : Fin 32) (i2 : Fin 1) : val_main_v141 (F := Ideal) x3 (ix3 i0 i1 i2) = val_main_v140 (F := Ideal) x3 (ix4 i0 i1 0 0) := (val_main_v141_apply x3 (ix3 i0 i1 i2)).trans (congrArg _ (g18 i0 i1 i2))

theorem a_v142 (i0 : Fin 16) (i1 : Fin 32) (i2 : Fin 1) (i3 : Fin 1) : val_main_v142 (F := Ideal) x3 (ix4 i0 i1 i2 i3) = val_main_v39 (F := Ideal) x3 (ix4 i0 i1 0 2) := (val_main_v142_apply x3 (ix4 i0 i1 i2 i3)).trans (congrArg _ (g24 i0 i1 i2 i3))

theorem a_v143 (i0 : Fin 16) (i1 : Fin 32) (i2 : Fin 1) : val_main_v143 (F := Ideal) x3 (ix3 i0 i1 i2) = val_main_v142 (F := Ideal) x3 (ix4 i0 i1 0 0) := (val_main_v143_apply x3 (ix3 i0 i1 i2)).trans (congrArg _ (g18 i0 i1 i2))

theorem a_v145 (i0 : Fin 16) (i1 : Fin 1) (i2 : Fin 8400) (i3 : Fin 1) : val_main_v145 (F := Ideal) x2 (ix4 i0 i1 i2 i3) = val_main_v40 (F := Ideal) x2 (ix4 i0 0 i2 0) := (val_main_v145_apply x2 (ix4 i0 i1 i2 i3)).trans (congrArg _ (g19 i0 i1 i2 i3))

theorem a_v146 (i0 : Fin 16) (i1 : Fin 1) (i2 : Fin 8400) : val_main_v146 (F := Ideal) x2 (ix3 i0 i1 i2) = val_main_v145 (F := Ideal) x2 (ix4 i0 0 i2 0) := (val_main_v146_apply x2 (ix3 i0 i1 i2)).trans (congrArg _ (g20 i0 i1 i2))

theorem a_v147 (i0 : Fin 16) (i1 : Fin 32) (i2 : Fin 8400) : val_main_v147 (F := Ideal) x3 (ix3 i0 i1 i2) = val_main_v144 (F := Ideal) x3 (ix3 i0 i1 0) := (val_main_v147_apply x3 (ix3 i0 i1 i2)).trans (congrArg _ (g13 i0 i1 i2))

theorem a_v148 (i0 : Fin 16) (i1 : Fin 32) (i2 : Fin 8400) : val_main_v148 (F := Ideal) x2 (ix3 i0 i1 i2) = val_main_v146 (F := Ideal) x2 (ix3 i0 0 i2) := (val_main_v148_apply x2 (ix3 i0 i1 i2)).trans (congrArg _ (g21 i0 i1 i2))

theorem a_v150 (i0 : Fin 16) (i1 : Fin 1) (i2 : Fin 8400) (i3 : Fin 1) : val_main_v150 (F := Ideal) x2 (ix4 i0 i1 i2 i3) = val_main_v40 (F := Ideal) x2 (ix4 i0 0 i2 2) := (val_main_v150_apply x2 (ix4 i0 i1 i2 i3)).trans (congrArg _ (g25 i0 i1 i2 i3))

theorem a_v151 (i0 : Fin 16) (i1 : Fin 1) (i2 : Fin 8400) : val_main_v151 (F := Ideal) x2 (ix3 i0 i1 i2) = val_main_v150 (F := Ideal) x2 (ix4 i0 0 i2 0) := (val_main_v151_apply x2 (ix3 i0 i1 i2)).trans (congrArg _ (g20 i0 i1 i2))

theorem a_v152 (i0 : Fin 16) (i1 : Fin 32) (i2 : Fin 8400) : val_main_v152 (F := Ideal) x2 (ix3 i0 i1 i2) = val_main_v151 (F := Ideal) x2 (ix3 i0 0 i2) := (val_main_v152_apply x2 (ix3 i0 i1 i2)).trans (congrArg _ (g21 i0 i1 i2))

theorem a_v155 (i0 : Fin 16) (i1 : Fin 32) (i2 : Fin 1) (i3 : Fin 1) : val_main_v155 (F := Ideal) x3 (ix4 i0 i1 i2 i3) = val_main_v39 (F := Ideal) x3 (ix4 i0 i1 0 1) := (val_main_v155_apply x3 (ix4 i0 i1 i2 i3)).trans (congrArg _ (g22 i0 i1 i2 i3))

theorem a_v156 (i0 : Fin 16) (i1 : Fin 32) (i2 : Fin 1) : val_main_v156 (F := Ideal) x3 (ix3 i0 i1 i2) = val_main_v155 (F := Ideal) x3 (ix4 i0 i1 0 0) := (val_main_v156_apply x3 (ix3 i0 i1 i2)).trans (congrArg _ (g18 i0 i1 i2))

theorem a_v157 (i0 : Fin 16) (i1 : Fin 32) (i2 : Fin 1) (i3 : Fin 1) : val_main_v157 (F := Ideal) x3 (ix4 i0 i1 i2 i3) = val_main_v39 (F := Ideal) x3 (ix4 i0 i1 0 3) := (val_main_v157_apply x3 (ix4 i0 i1 i2 i3)).trans (congrArg _ (g26 i0 i1 i2 i3))

theorem a_v158 (i0 : Fin 16) (i1 : Fin 32) (i2 : Fin 1) : val_main_v158 (F := Ideal) x3 (ix3 i0 i1 i2) = val_main_v157 (F := Ideal) x3 (ix4 i0 i1 0 0) := (val_main_v158_apply x3 (ix3 i0 i1 i2)).trans (congrArg _ (g18 i0 i1 i2))

theorem a_v160 (i0 : Fin 16) (i1 : Fin 1) (i2 : Fin 8400) (i3 : Fin 1) : val_main_v160 (F := Ideal) x2 (ix4 i0 i1 i2 i3) = val_main_v40 (F := Ideal) x2 (ix4 i0 0 i2 1) := (val_main_v160_apply x2 (ix4 i0 i1 i2 i3)).trans (congrArg _ (g23 i0 i1 i2 i3))

theorem a_v161 (i0 : Fin 16) (i1 : Fin 1) (i2 : Fin 8400) : val_main_v161 (F := Ideal) x2 (ix3 i0 i1 i2) = val_main_v160 (F := Ideal) x2 (ix4 i0 0 i2 0) := (val_main_v161_apply x2 (ix3 i0 i1 i2)).trans (congrArg _ (g20 i0 i1 i2))

theorem a_v162 (i0 : Fin 16) (i1 : Fin 32) (i2 : Fin 8400) : val_main_v162 (F := Ideal) x3 (ix3 i0 i1 i2) = val_main_v159 (F := Ideal) x3 (ix3 i0 i1 0) := (val_main_v162_apply x3 (ix3 i0 i1 i2)).trans (congrArg _ (g13 i0 i1 i2))

theorem a_v163 (i0 : Fin 16) (i1 : Fin 32) (i2 : Fin 8400) : val_main_v163 (F := Ideal) x2 (ix3 i0 i1 i2) = val_main_v161 (F := Ideal) x2 (ix3 i0 0 i2) := (val_main_v163_apply x2 (ix3 i0 i1 i2)).trans (congrArg _ (g21 i0 i1 i2))

theorem a_v165 (i0 : Fin 16) (i1 : Fin 1) (i2 : Fin 8400) (i3 : Fin 1) : val_main_v165 (F := Ideal) x2 (ix4 i0 i1 i2 i3) = val_main_v40 (F := Ideal) x2 (ix4 i0 0 i2 3) := (val_main_v165_apply x2 (ix4 i0 i1 i2 i3)).trans (congrArg _ (g27 i0 i1 i2 i3))

theorem a_v166 (i0 : Fin 16) (i1 : Fin 1) (i2 : Fin 8400) : val_main_v166 (F := Ideal) x2 (ix3 i0 i1 i2) = val_main_v165 (F := Ideal) x2 (ix4 i0 0 i2 0) := (val_main_v166_apply x2 (ix3 i0 i1 i2)).trans (congrArg _ (g20 i0 i1 i2))

theorem a_v167 (i0 : Fin 16) (i1 : Fin 32) (i2 : Fin 8400) : val_main_v167 (F := Ideal) x2 (ix3 i0 i1 i2) = val_main_v166 (F := Ideal) x2 (ix3 i0 0 i2) := (val_main_v167_apply x2 (ix3 i0 i1 i2)).trans (congrArg _ (g21 i0 i1 i2))

theorem a_v171 (i0 : Fin 16) (i1 : Fin 32) (i2 : Fin 8400) : val_main_v171 (F := Ideal) (ix3 i0 i1 i2) = val_main_cst_3 (F := Ideal) ix0 := (val_main_v171_apply (ix3 i0 i1 i2)).trans (congrArg _ (ix0_eta _).symm)

theorem a_v173 (i0 : Fin 16) (i1 : Fin 32) (i2 : Fin 1) (i3 : Fin 1) : val_main_v173 (F := Ideal) x3 (ix4 i0 i1 i2 i3) = val_main_v39 (F := Ideal) x3 (ix4 i0 i1 0 2) := (val_main_v173_apply x3 (ix4 i0 i1 i2 i3)).trans (congrArg _ (g24 i0 i1 i2 i3))

theorem a_v174 (i0 : Fin 16) (i1 : Fin 32) (i2 : Fin 1) : val_main_v174 (F := Ideal) x3 (ix3 i0 i1 i2) = val_main_v173 (F := Ideal) x3 (ix4 i0 i1 0 0) := (val_main_v174_apply x3 (ix3 i0 i1 i2)).trans (congrArg _ (g18 i0 i1 i2))

theorem a_v175 (i0 : Fin 16) (i1 : Fin 32) (i2 : Fin 1) (i3 : Fin 1) : val_main_v175 (F := Ideal) x3 (ix4 i0 i1 i2 i3) = val_main_v39 (F := Ideal) x3 (ix4 i0 i1 0 0) := (val_main_v175_apply x3 (ix4 i0 i1 i2 i3)).trans (congrArg _ (g17 i0 i1 i2 i3))

theorem a_v176 (i0 : Fin 16) (i1 : Fin 32) (i2 : Fin 1) : val_main_v176 (F := Ideal) x3 (ix3 i0 i1 i2) = val_main_v175 (F := Ideal) x3 (ix4 i0 i1 0 0) := (val_main_v176_apply x3 (ix3 i0 i1 i2)).trans (congrArg _ (g18 i0 i1 i2))

theorem a_v178 (i0 : Fin 16) (i1 : Fin 32) (i2 : Fin 1) : val_main_v178 (F := Ideal) (ix3 i0 i1 i2) = val_main_cst_4 (F := Ideal) ix0 := (val_main_v178_apply (ix3 i0 i1 i2)).trans (congrArg _ (ix0_eta _).symm)

theorem a_v180 (i0 : Fin 16) (i1 : Fin 32) (i2 : Fin 1) (i3 : Fin 1) : val_main_v180 (F := Ideal) x3 (ix4 i0 i1 i2 i3) = val_main_v39 (F := Ideal) x3 (ix4 i0 i1 0 3) := (val_main_v180_apply x3 (ix4 i0 i1 i2 i3)).trans (congrArg _ (g26 i0 i1 i2 i3))

theorem a_v181 (i0 : Fin 16) (i1 : Fin 32) (i2 : Fin 1) : val_main_v181 (F := Ideal) x3 (ix3 i0 i1 i2) = val_main_v180 (F := Ideal) x3 (ix4 i0 i1 0 0) := (val_main_v181_apply x3 (ix3 i0 i1 i2)).trans (congrArg _ (g18 i0 i1 i2))

theorem a_v182 (i0 : Fin 16) (i1 : Fin 32) (i2 : Fin 1) (i3 : Fin 1) : val_main_v182 (F := Ideal) x3 (ix4 i0 i1 i2 i3) = val_main_v39 (F := Ideal) x3 (ix4 i0 i1 0 1) := (val_main_v182_apply x3 (ix4 i0 i1 i2 i3)).trans (congrArg _ (g22 i0 i1 i2 i3))

theorem a_v183 (i0 : Fin 16) (i1 : Fin 32) (i2 : Fin 1) : val_main_v183 (F := Ideal) x3 (ix3 i0 i1 i2) = val_main_v182 (F := Ideal) x3 (ix4 i0 i1 0 0) := (val_main_v183_apply x3 (ix3 i0 i1 i2)).trans (congrArg _ (g18 i0 i1 i2))

theorem a_v185 (i0 : Fin 16) (i1 : Fin 32) (i2 : Fin 1) : val_main_v185 (F := Ideal) (ix3 i0 i1 i2) = val_main_cst_5 (F := Ideal) ix0 := (val_main_v185_apply (ix3 i0 i1 i2)).trans (congrArg _ (ix0_eta _).symm)

theorem a_v187 (i0 : Fin 16) (i1 : Fin 1) (i2 : Fin 8400) (i3 : Fin 1) : val_main_v187 (F := Ideal) x2 (ix4 i0 i1 i2 i3) = val_main_v40 (F := Ideal) x2 (ix4 i0 0 i2 2) := (val_main_v187_apply x2 (ix4 i0 i1 i2 i3)).trans (congrArg _ (g25 i0 i1 i2 i3))

theorem a_v188 (i0 : Fin 16) (i1 : Fin 1) (i2 : Fin 8400) : val_main_v188 (F := Ideal) x2 (ix3 i0 i1 i2) = val_main_v187 (F := Ideal) x2 (ix4 i0 0 i2 0) := (val_main_v188_apply x2 (ix3 i0 i1 i2)).trans (congrArg _ (g20 i0 i1 i2))

theorem a_v189 (i0 : Fin 16) (i1 : Fin 1) (i2 : Fin 8400) (i3 : Fin 1) : val_main_v189 (F := Ideal) x2 (ix4 i0 i1 i2 i3) = val_main_v40 (F := Ideal) x2 (ix4 i0 0 i2 0) := (val_main_v189_apply x2 (ix4 i0 i1 i2 i3)).trans (congrArg _ (g19 i0 i1 i2 i3))

theorem a_v190 (i0 : Fin 16) (i1 : Fin 1) (i2 : Fin 8400) : val_main_v190 (F := Ideal) x2 (ix3 i0 i1 i2) = val_main_v189 (F := Ideal) x2 (ix4 i0 0 i2 0) := (val_main_v190_apply x2 (ix3 i0 i1 i2)).trans (congrArg _ (g20 i0 i1 i2))

theorem a_v192 (i0 : Fin 16) (i1 : Fin 1) (i2 : Fin 8400) : val_main_v192 (F := Ideal) (ix3 i0 i1 i2) = val_main_cst_6 (F := Ideal) ix0 := (val_main_v192_apply (ix3 i0 i1 i2)).trans (congrArg _ (ix0_eta _).symm)

theorem a_v194 (i0 : Fin 16) (i1 : Fin 1) (i2 : Fin 8400) (i3 : Fin 1) : val_main_v194 (F := Ideal) x2 (ix4 i0 i1 i2 i3) = val_main_v40 (F := Ideal) x2 (ix4 i0 0 i2 3) := (val_main_v194_apply x2 (ix4 i0 i1 i2 i3)).trans (congrArg _ (g27 i0 i1 i2 i3))

theorem a_v195 (i0 : Fin 16) (i1 : Fin 1) (i2 : Fin 8400) : val_main_v195 (F := Ideal) x2 (ix3 i0 i1 i2) = val_main_v194 (F := Ideal) x2 (ix4 i0 0 i2 0) := (val_main_v195_apply x2 (ix3 i0 i1 i2)).trans (congrArg _ (g20 i0 i1 i2))

theorem a_v196 (i0 : Fin 16) (i1 : Fin 1) (i2 : Fin 8400) (i3 : Fin 1) : val_main_v196 (F := Ideal) x2 (ix4 i0 i1 i2 i3) = val_main_v40 (F := Ideal) x2 (ix4 i0 0 i2 1) := (val_main_v196_apply x2 (ix4 i0 i1 i2 i3)).trans (congrArg _ (g23 i0 i1 i2 i3))

theorem a_v197 (i0 : Fin 16) (i1 : Fin 1) (i2 : Fin 8400) : val_main_v197 (F := Ideal) x2 (ix3 i0 i1 i2) = val_main_v196 (F := Ideal) x2 (ix4 i0 0 i2 0) := (val_main_v197_apply x2 (ix3 i0 i1 i2)).trans (congrArg _ (g20 i0 i1 i2))

theorem a_v199 (i0 : Fin 16) (i1 : Fin 1) (i2 : Fin 8400) : val_main_v199 (F := Ideal) (ix3 i0 i1 i2) = val_main_cst_7 (F := Ideal) ix0 := (val_main_v199_apply (ix3 i0 i1 i2)).trans (congrArg _ (ix0_eta _).symm)

theorem a_v202 (i0 : Fin 16) (i1 : Fin 32) (i2 : Fin 1) : val_main_v202 (F := Ideal) (ix3 i0 i1 i2) = val_main_cst_8 (F := Ideal) ix0 := (val_main_v202_apply (ix3 i0 i1 i2)).trans (congrArg _ (ix0_eta _).symm)

theorem a_v204 (i0 : Fin 16) (i1 : Fin 32) (i2 : Fin 1) : val_main_v204 (F := Ideal) (ix3 i0 i1 i2) = val_main_cst_9 (F := Ideal) ix0 := (val_main_v204_apply (ix3 i0 i1 i2)).trans (congrArg _ (ix0_eta _).symm)

theorem a_v208 (i0 : Fin 16) (i1 : Fin 32) (i2 : Fin 1) : val_main_v208 (F := Ideal) (ix3 i0 i1 i2) = val_main_cst_10 (F := Ideal) ix0 := (val_main_v208_apply (ix3 i0 i1 i2)).trans (congrArg _ (ix0_eta _).symm)

theorem a_v210 (i0 : Fin 16) (i1 : Fin 32) (i2 : Fin 1) : val_main_v210 (F := Ideal) (ix3 i0 i1 i2) = val_main_cst_11 (F := Ideal) ix0 := (val_main_v210_apply (ix3 i0 i1 i2)).trans (congrArg _ (ix0_eta _).symm)

theorem a_v213 (i0 : Fin 16) (i1 : Fin 32) (i2 : Fin 1) : val_main_v213 (F := Ideal) (ix3 i0 i1 i2) = val_main_cst_12 (F := Ideal) ix0 := (val_main_v213_apply (ix3 i0 i1 i2)).trans (congrArg _ (ix0_eta _).symm)

theorem a_v216 (i0 : Fin 16) (i1 : Fin 32) (i2 : Fin 1) : val_main_v216 (F := Ideal) (ix3 i0 i1 i2) = val_main_cst_13 (F := Ideal) ix0 := (val_main_v216_apply (ix3 i0 i1 i2)).trans (congrArg _ (ix0_eta _).symm)

theorem a_v219 (i0 : Fin 16) (i1 : Fin 32) (i2 : Fin 1) : val_main_v219 (F := Ideal) (ix3 i0 i1 i2) = val_main_cst_14 (F := Ideal) ix0 := (val_main_v219_apply (ix3 i0 i1 i2)).trans (congrArg _ (ix0_eta _).symm)

theorem a_v222 (i0 : Fin 16) (i1 : Fin 32) (i2 : Fin 1) : val_main_v222 (F := Ideal) (ix3 i0 i1 i2) = val_main_cst_15 (F := Ideal) ix0 := (val_main_v222_apply (ix3 i0 i1 i2)).trans (congrArg _ (ix0_eta _).symm)

theorem a_v225 (i0 : Fin 16) (i1 : Fin 32) (i2 : Fin 1) : val_main_v225 (F := Ideal) (ix3 i0 i1 i2) = val_main_cst_16 (F := Ideal) ix0 := (val_main_v225_apply (ix3 i0 i1 i2)).trans (congrArg _ (ix0_eta _).symm)

theorem a_v228 (i0 : Fin 16) (i1 : Fin 32) (i2 : Fin 1) : val_main_v228 (F := Ideal) (ix3 i0 i1 i2) = val_main_cst_17 (F := Ideal) ix0 := (val_main_v228_apply (ix3 i0 i1 i2)).trans (congrArg _ (ix0_eta _).symm)

theorem a_v231 (i0 : Fin 16) (i1 : Fin 32) (i2 : Fin 1) : val_main_v231 (F := Ideal) (ix3 i0 i1 i2) = val_main_cst_18 (F := Ideal) ix0 := (val_main_v231_apply (ix3 i0 i1 i2)).trans (congrArg _ (ix0_eta _).symm)

theorem a_v235 (i0 : Fin 16) (i1 : Fin 1) (i2 : Fin 8400) : val_main_v235 (F := Ideal) (ix3 i0 i1 i2) = val_main_cst_19 (F := Ideal) ix0 := (val_main_v235_apply (ix3 i0 i1 i2)).trans (congrArg _ (ix0_eta _).symm)

theorem a_v237 (i0 : Fin 16) (i1 : Fin 1) (i2 : Fin 8400) : val_main_v237 (F := Ideal) (ix3 i0 i1 i2) = val_main_cst_20 (F := Ideal) ix0 := (val_main_v237_apply (ix3 i0 i1 i2)).trans (congrArg _ (ix0_eta _).symm)

theorem a_v241 (i0 : Fin 16) (i1 : Fin 1) (i2 : Fin 8400) : val_main_v241 (F := Ideal) (ix3 i0 i1 i2) = val_main_cst_21 (F := Ideal) ix0 := (val_main_v241_apply (ix3 i0 i1 i2)).trans (congrArg _ (ix0_eta _).symm)

theorem a_v243 (i0 : Fin 16) (i1 : Fin 1) (i2 : Fin 8400) : val_main_v243 (F := Ideal) (ix3 i0 i1 i2) = val_main_cst_22 (F := Ideal) ix0 := (val_main_v243_apply (ix3 i0 i1 i2)).trans (congrArg _ (ix0_eta _).symm)

theorem a_v246 (i0 : Fin 16) (i1 : Fin 1) (i2 : Fin 8400) : val_main_v246 (F := Ideal) (ix3 i0 i1 i2) = val_main_cst_23 (F := Ideal) ix0 := (val_main_v246_apply (ix3 i0 i1 i2)).trans (congrArg _ (ix0_eta _).symm)

theorem a_v249 (i0 : Fin 16) (i1 : Fin 1) (i2 : Fin 8400) : val_main_v249 (F := Ideal) (ix3 i0 i1 i2) = val_main_cst_24 (F := Ideal) ix0 := (val_main_v249_apply (ix3 i0 i1 i2)).trans (congrArg _ (ix0_eta _).symm)

theorem a_v252 (i0 : Fin 16) (i1 : Fin 1) (i2 : Fin 8400) : val_main_v252 (F := Ideal) (ix3 i0 i1 i2) = val_main_cst_25 (F := Ideal) ix0 := (val_main_v252_apply (ix3 i0 i1 i2)).trans (congrArg _ (ix0_eta _).symm)

theorem a_v255 (i0 : Fin 16) (i1 : Fin 1) (i2 : Fin 8400) : val_main_v255 (F := Ideal) (ix3 i0 i1 i2) = val_main_cst_26 (F := Ideal) ix0 := (val_main_v255_apply (ix3 i0 i1 i2)).trans (congrArg _ (ix0_eta _).symm)

theorem a_v258 (i0 : Fin 16) (i1 : Fin 1) (i2 : Fin 8400) : val_main_v258 (F := Ideal) (ix3 i0 i1 i2) = val_main_cst_27 (F := Ideal) ix0 := (val_main_v258_apply (ix3 i0 i1 i2)).trans (congrArg _ (ix0_eta _).symm)

theorem a_v261 (i0 : Fin 16) (i1 : Fin 1) (i2 : Fin 8400) : val_main_v261 (F := Ideal) (ix3 i0 i1 i2) = val_main_cst_28 (F := Ideal) ix0 := (val_main_v261_apply (ix3 i0 i1 i2)).trans (congrArg _ (ix0_eta _).symm)

theorem a_v264 (i0 : Fin 16) (i1 : Fin 1) (i2 : Fin 8400) : val_main_v264 (F := Ideal) (ix3 i0 i1 i2) = val_main_cst_29 (F := Ideal) ix0 := (val_main_v264_apply (ix3 i0 i1 i2)).trans (congrArg _ (ix0_eta _).symm)

theorem a_v267 (i0 : Fin 16) (i1 : Fin 32) (i2 : Fin 8400) : val_main_v267 (F := Ideal) x3 (ix3 i0 i1 i2) = val_main_v233 (F := Ideal) x3 (ix3 i0 i1 0) := (val_main_v267_apply x3 (ix3 i0 i1 i2)).trans (congrArg _ (g13 i0 i1 i2))

theorem a_v268 (i0 : Fin 16) (i1 : Fin 32) (i2 : Fin 8400) : val_main_v268 (F := Ideal) x2 (ix3 i0 i1 i2) = val_main_v266 (F := Ideal) x2 (ix3 i0 0 i2) := (val_main_v268_apply x2 (ix3 i0 i1 i2)).trans (congrArg _ (g21 i0 i1 i2))

theorem a_v271 (i0 : Fin 16) (i1 : Fin 32) (i2 : Fin 8400) : val_main_v271 (F := Ideal) (ix3 i0 i1 i2) = val_main_cst_30 (F := Ideal) ix0 := (val_main_v271_apply (ix3 i0 i1 i2)).trans (congrArg _ (ix0_eta _).symm)

theorem a_v273 (i0 : Fin 16) (i1 : Fin 32) (i2 : Fin 8400) : val_main_v273 (F := Ideal) (ix3 i0 i1 i2) = val_main_cst_31 (F := Ideal) ix0 := (val_main_v273_apply (ix3 i0 i1 i2)).trans (congrArg _ (ix0_eta _).symm)

theorem a_v276 (i0 : Fin 16) (i1 : Fin 32) (i2 : Fin 8400) : val_main_v276 (F := Ideal) (ix3 i0 i1 i2) = val_main_cst_32 (F := Ideal) ix0 := (val_main_v276_apply (ix3 i0 i1 i2)).trans (congrArg _ (ix0_eta _).symm)

theorem a_v283 (i0 : Fin 16) (i1 : Fin 32) (i2 : Fin 8400) : val_main_v283 (F := Ideal) (ix3 i0 i1 i2) = val_main_cst_33 (F := Ideal) ix0 := (val_main_v283_apply (ix3 i0 i1 i2)).trans (congrArg _ (ix0_eta _).symm)

theorem a_v285 (i0 : Fin 16) (i1 : Fin 32) (i2 : Fin 8400) : val_main_v285 (F := Ideal) (ix3 i0 i1 i2) = val_main_cst_34 (F := Ideal) ix0 := (val_main_v285_apply (ix3 i0 i1 i2)).trans (congrArg _ (ix0_eta _).symm)

theorem a_v289 (i0 : Fin 16) (i1 : Fin 8400) (i2 : Fin 80) : val_main_v289 (F := Ideal) (ix3 i0 i1 i2) = val_main_cst_35 (F := Ideal) ix0 := (val_main_v289_apply (ix3 i0 i1 i2)).trans (congrArg _ (ix0_eta _).symm)

theorem a_v291 (i0 : Fin 16) (i1 : Fin 8400) (i2 : Fin 80) : val_main_v291 (F := Ideal) (ix3 i0 i1 i2) = val_main_cst_36 (F := Ideal) ix0 := (val_main_v291_apply (ix3 i0 i1 i2)).trans (congrArg _ (ix0_eta _).symm)

theorem a_v293 (i0 : Fin 16) (i1 : Fin 80) (i2 : Fin 8400) : val_main_v293 (F := Ideal) x0 (ix3 i0 i1 i2) = val_main_v292 (F := Ideal) x0 (ix3 i0 i2 i1) := (val_main_v293_apply x0 (ix3 i0 i1 i2)).trans (congrArg _ (g32 i0 i1 i2))

theorem a_v294 (i0 : Fin 16) (i1 : Fin 32) (i2 : Fin 1) : val_main_v294 (F := Ideal) x3 (ix3 i0 i1 i2) = val_main_v4 (F := Ideal) x3 (ix2 i0 i1) := (val_main_v294_apply x3 (ix3 i0 i1 i2)).trans (congrArg _ (g5 i0 i1 i2))

theorem a_v295 (i0 : Fin 16) (i1 : Fin 32) (i2 : Fin 8400) : val_main_v295 (F := Ideal) x3 (ix3 i0 i1 i2) = val_main_v294 (F := Ideal) x3 (ix3 i0 i1 0) := (val_main_v295_apply x3 (ix3 i0 i1 i2)).trans (congrArg _ (g13 i0 i1 i2))

theorem a_call4_v0 (i0 : Fin 16) (i1 : Fin 32) (i2 : Fin 8400) : val_main_call4_v0 (F := Ideal) (ix3 i0 i1 i2) = val_main_call4_c (F := Ideal) ix0 := (val_main_call4_v0_apply (ix3 i0 i1 i2)).trans (congrArg _ (ix0_eta _).symm)

theorem a_call4_v2 (i0 : Fin 16) (i1 : Fin 32) (i2 : Fin 8400) : val_main_call4_v2 (F := Ideal) (ix3 i0 i1 i2) = val_main_call4_c_0 (F := Ideal) ix0 := (val_main_call4_v2_apply (ix3 i0 i1 i2)).trans (congrArg _ (ix0_eta _).symm)

theorem a_call4_v5 (i0 : Fin 16) (i1 : Fin 32) (i2 : Fin 8400) (i3 : Fin 1) : val_main_call4_v5 (F := Ideal) x3 (ix4 i0 i1 i2 i3) = val_main_call4_v4 (F := Ideal) x3 (ix3 i0 i1 i2) := (val_main_call4_v5_apply x3 (ix4 i0 i1 i2 i3)).trans (congrArg _ (g33 i0 i1 i2 i3))

theorem a_v305 (i0 : Fin 16) (i1 : Fin 32) (i2 : Fin 1) : val_main_v305 (F := Ideal) x3 (ix3 i0 i1 i2) = x3 (ix3 i0 i1 0) := (val_main_v305_apply x3 (ix3 i0 i1 i2)).trans (congrArg _ (g0 i0 i1 i2))

theorem a_v306 (i0 : Fin 16) (i1 : Fin 32) : val_main_v306 (F := Ideal) x3 (ix2 i0 i1) = val_main_v305 (F := Ideal) x3 (ix3 i0 i1 0) := (val_main_v306_apply x3 (ix2 i0 i1)).trans (congrArg _ (g1 i0 i1))

theorem a_v308 (i0 : Fin 16) (i1 : Fin 32) : val_main_v308 (F := Ideal) (ix2 i0 i1) = val_main_c_37 (F := Ideal) ix0 := (val_main_v308_apply (ix2 i0 i1)).trans (congrArg _ (ix0_eta _).symm)

theorem a_v310 (i0 : Fin 16) (i1 : Fin 32) (i2 : Fin 1) : val_main_v310 (F := Ideal) x0 x2 x3 x4 (ix3 i0 i1 i2) = val_main_values (F := Ideal) x0 x2 x3 x4 (ix3 i0 i1 9) := (val_main_v310_apply x0 x2 x3 x4 (ix3 i0 i1 i2)).trans (congrArg _ (g34 i0 i1 i2))

theorem a_v311 (i0 : Fin 16) (i1 : Fin 32) (i2 : Fin 8400) : val_main_v311 (F := Ideal) x0 x2 x3 x4 (ix3 i0 i1 i2) = val_main_v310 (F := Ideal) x0 x2 x3 x4 (ix3 i0 i1 0) := (val_main_v311_apply x0 x2 x3 x4 (ix3 i0 i1 i2)).trans (congrArg _ (g13 i0 i1 i2))

theorem a_call5_v1 (i0 : Fin 16) (i1 : Fin 32) (i2 : Fin 8400) : val_main_call5_v1 (F := Ideal) (ix3 i0 i1 i2) = val_main_call5_v0 (F := Ideal) ix0 := (val_main_call5_v1_apply (ix3 i0 i1 i2)).trans (congrArg _ (ix0_eta _).symm)

theorem a_v314 (i0 : Fin 16) (i1 : Fin 32) (i2 : Fin 8400) : val_main_v314 (F := Ideal) (ix3 i0 i1 i2) = val_main_cst_39 (F := Ideal) ix0 := (val_main_v314_apply (ix3 i0 i1 i2)).trans (congrArg _ (ix0_eta _).symm)

theorem a_v317 (i0 : Fin 16) (i1 : Fin 8400) (i2 : Fin 32) : val_main_v317 (F := Ideal) x0 x2 x3 x4 (ix3 i0 i1 i2) = val_main_v313 (F := Ideal) x0 x2 x3 x4 (ix3 i0 i2 i1) := (val_main_v317_apply x0 x2 x3 x4 (ix3 i0 i1 i2)).trans (congrArg _ (g35 i0 i1 i2))

theorem a_v318 (i0 : Fin 16) (i1 : Fin 8400) : val_main_v318 (F := Ideal) x0 x2 x3 x4 (ix2 i0 i1) = val_main_indices_41 (F := Ideal) x0 x2 x3 x4 (ix3 i0 i1 0) := (val_main_v318_apply x0 x2 x3 x4 (ix2 i0 i1)).trans (congrArg _ (g36 i0 i1))

theorem a_v319 (i0 : Fin 16) (i1 : Fin 8400) : val_main_v319 (F := Ideal) x3 x4 (ix2 i0 i1) = ∑ k : Fin 32, val_main_v304 (F := Ideal) x3 x4 (ix3 i0 k i1) := by
  rw [val_main_v319_apply x3 x4 (ix2 i0 i1), val_main_cst_42_apply]
  exact (congrArg (· + _) Ideal.ofBits_zero_f32).trans ((zero_add _).trans (Finset.sum_congr rfl fun k _ => congrArg _ (g37 i0 i1 k)))

theorem a_v320 (i0 : Fin 16) (i1 : Fin 8400) : val_main_v320 (F := Ideal) x0 x2 x3 x4 (ix2 i0 i1) = ∑ k : Fin 32, val_main_v316 (F := Ideal) x0 x2 x3 x4 (ix3 i0 k i1) := by
  rw [val_main_v320_apply x0 x2 x3 x4 (ix2 i0 i1), val_main_cst_43_apply]
  exact (congrArg (· + _) Ideal.ofBits_zero_f32).trans ((zero_add _).trans (Finset.sum_congr rfl fun k _ => congrArg _ (g37 i0 i1 k)))

theorem a_v322 (i0 : Fin 16) (i1 : Fin 8400) : val_main_v322 (F := Ideal) (ix2 i0 i1) = val_main_cst_44 (F := Ideal) ix0 := (val_main_v322_apply (ix2 i0 i1)).trans (congrArg _ (ix0_eta _).symm)

theorem a_v326 (i0 : Fin 16) (i1 : Fin 32) (i2 : Fin 1) : val_main_v326 (F := Ideal) x0 x2 x3 x4 (ix3 i0 i1 i2) = val_main_v325 (F := Ideal) x0 x2 x3 x4 (ix2 i0 i1) := (val_main_v326_apply x0 x2 x3 x4 (ix3 i0 i1 i2)).trans (congrArg _ (g5 i0 i1 i2))

theorem a_v327 (i0 : Fin 16) (i1 : Fin 32) (i2 : Fin 1) : val_main_v327 (F := Ideal) (ix3 i0 i1 i2) = val_main_cst_46 (F := Ideal) ix0 := (val_main_v327_apply (ix3 i0 i1 i2)).trans (congrArg _ (ix0_eta _).symm)

theorem a_v329 (i0 : Fin 16) (i1 : Fin 32) (i2 : Fin 8400) : val_main_v329 (F := Ideal) x0 x2 x3 x4 (ix3 i0 i1 i2) = val_main_v328 (F := Ideal) x0 x2 x3 x4 (ix3 i0 i1 0) := (val_main_v329_apply x0 x2 x3 x4 (ix3 i0 i1 i2)).trans (congrArg _ (g13 i0 i1 i2))

theorem a_v332 (i0 : Fin 16) (i1 : Fin 32) (i2 : Fin 1) : val_main_v332 (F := Ideal) x2 x3 (ix3 i0 i1 i2) = val_main_v331 (F := Ideal) x2 x3 (ix2 i0 i1) := (val_main_v332_apply x2 x3 (ix3 i0 i1 i2)).trans (congrArg _ (g5 i0 i1 i2))

theorem a_v333 (i0 : Fin 16) (i1 : Fin 32) (i2 : Fin 8400) : val_main_v333 (F := Ideal) x2 x3 (ix3 i0 i1 i2) = val_main_v332 (F := Ideal) x2 x3 (ix3 i0 i1 0) := (val_main_v333_apply x2 x3 (ix3 i0 i1 i2)).trans (congrArg _ (g13 i0 i1 i2))

theorem a_v335 (i0 : Fin 16) (i1 : Fin 8400) (i2 : Fin 32) : val_main_v335 (F := Ideal) x0 x2 x3 x4 (ix3 i0 i1 i2) = val_main_v334 (F := Ideal) x0 x2 x3 x4 (ix3 i0 i2 i1) := (val_main_v335_apply x0 x2 x3 x4 (ix3 i0 i1 i2)).trans (congrArg _ (g35 i0 i1 i2))

theorem a_v336 (i0 : Fin 16) (i1 : Fin 8400) (i2 : Fin 1) : val_main_v336 (F := Ideal) x0 x2 x3 x4 (ix3 i0 i1 i2) = val_main_v318 (F := Ideal) x0 x2 x3 x4 (ix2 i0 i1) := (val_main_v336_apply x0 x2 x3 x4 (ix3 i0 i1 i2)).trans (congrArg _ (g39 i0 i1 i2))

theorem a_call6_v0 (i0 : Fin 16) (i1 : Fin 8400) (i2 : Fin 1) : val_main_call6_v0 (F := Ideal) (ix3 i0 i1 i2) = val_main_call6_c (F := Ideal) ix0 := (val_main_call6_v0_apply (ix3 i0 i1 i2)).trans (congrArg _ (ix0_eta _).symm)

theorem a_call6_v2 (i0 : Fin 16) (i1 : Fin 8400) (i2 : Fin 1) : val_main_call6_v2 (F := Ideal) (ix3 i0 i1 i2) = val_main_call6_c_0 (F := Ideal) ix0 := (val_main_call6_v2_apply (ix3 i0 i1 i2)).trans (congrArg _ (ix0_eta _).symm)

theorem a_call6_v5 (i0 : Fin 16) (i1 : Fin 8400) (i2 : Fin 1) (i3 : Fin 1) : val_main_call6_v5 (F := Ideal) x0 x2 x3 x4 (ix4 i0 i1 i2 i3) = val_main_call6_v4 (F := Ideal) x0 x2 x3 x4 (ix3 i0 i1 0) := (val_main_call6_v5_apply x0 x2 x3 x4 (ix4 i0 i1 i2 i3)).trans (congrArg _ (g41 i0 i1 i2 i3))

theorem a_v338 (i0 : Fin 16) (i1 : Fin 32) (i2 : Fin 4) : val_main_v338 (F := Ideal) x3 (ix3 i0 i1 i2) = x3 (ix3 i0 i1 (Fin.succ i2)) := (val_main_v338_apply x3 (ix3 i0 i1 i2)).trans (congrArg _ (g3 i0 i1 i2))

theorem a_v339 (i0 : Fin 16) (i1 : Fin 8400) (i2 : Fin 1) : val_main_v339 (F := Ideal) x0 x2 x3 x4 (ix3 i0 i1 i2) = val_main_v318 (F := Ideal) x0 x2 x3 x4 (ix2 i0 i1) := (val_main_v339_apply x0 x2 x3 x4 (ix3 i0 i1 i2)).trans (congrArg _ (g39 i0 i1 i2))

theorem a_call7_v0 (i0 : Fin 16) (i1 : Fin 8400) (i2 : Fin 1) : val_main_call7_v0 (F := Ideal) (ix3 i0 i1 i2) = val_main_call7_c (F := Ideal) ix0 := (val_main_call7_v0_apply (ix3 i0 i1 i2)).trans (congrArg _ (ix0_eta _).symm)

theorem a_call7_v2 (i0 : Fin 16) (i1 : Fin 8400) (i2 : Fin 1) : val_main_call7_v2 (F := Ideal) (ix3 i0 i1 i2) = val_main_call7_c_0 (F := Ideal) ix0 := (val_main_call7_v2_apply (ix3 i0 i1 i2)).trans (congrArg _ (ix0_eta _).symm)

theorem a_call8_v0 (i0 : Fin 16) (i1 : Fin 8400) : val_main_call8_v0 (F := Ideal) (ix2 i0 i1) = val_main_call8_c (F := Ideal) ix0 := (val_main_call8_v0_apply (ix2 i0 i1)).trans (congrArg _ (ix0_eta _).symm)

theorem a_call8_v2 (i0 : Fin 16) (i1 : Fin 8400) : val_main_call8_v2 (F := Ideal) (ix2 i0 i1) = val_main_call8_c_0 (F := Ideal) ix0 := (val_main_call8_v2_apply (ix2 i0 i1)).trans (congrArg _ (ix0_eta _).symm)

theorem a_call8_v5 (i0 : Fin 16) (i1 : Fin 8400) (i2 : Fin 1) : val_main_call8_v5 (F := Ideal) x0 x2 x3 x4 (ix3 i0 i1 i2) = val_main_call8_v4 (F := Ideal) x0 x2 x3 x4 (ix2 i0 i1) := (val_main_call8_v5_apply x0 x2 x3 x4 (ix3 i0 i1 i2)).trans (congrArg _ (g42 i0 i1 i2))

theorem a_call9_v0 (i0 : Fin 16) (i1 : Fin 8400) (i2 : Fin 1) : val_main_call9_v0 (F := Ideal) x0 x2 x3 x4 (ix3 i0 i1 i2) = val_main_v341 (F := Ideal) x0 x2 x3 x4 (ix2 i0 i1) := (val_main_call9_v0_apply x0 x2 x3 x4 (ix3 i0 i1 i2)).trans (congrArg _ (g39 i0 i1 i2))

theorem a_call9_v2 (i0 : Fin 16) (i1 : Fin 8400) (i2 : Fin 80) : val_main_call9_v2 (F := Ideal) x0 x2 x3 x4 (ix3 i0 i1 i2) = val_main_call9_v0 (F := Ideal) x0 x2 x3 x4 (ix3 i0 i1 0) := (val_main_call9_v2_apply x0 x2 x3 x4 (ix3 i0 i1 i2)).trans (congrArg _ (g43 i0 i1 i2))

theorem a_call9_v3 (i0 : Fin 16) (i1 : Fin 8400) (i2 : Fin 80) : val_main_call9_v3 (F := Ideal) (ix3 i0 i1 i2) = val_main_call9_v1 (F := Ideal) (ix3 0 0 i2) := (val_main_call9_v3_apply (ix3 i0 i1 i2)).trans (congrArg _ (g44 i0 i1 i2))

theorem a_v343 (i0 : Fin 16) (i1 : Fin 8400) (i2 : Fin 80) : val_main_v343 (F := Ideal) x0 x2 x3 x4 (ix3 i0 i1 i2) = val_main_v337 (F := Ideal) x0 x2 x3 x4 (ix3 i0 i1 0) := (val_main_v343_apply x0 x2 x3 x4 (ix3 i0 i1 i2)).trans (congrArg _ (g43 i0 i1 i2))

theorem a_v345 (i0 : Fin 16) (i1 : Fin 8400) (i2 : Fin 1) : val_main_v345 (F := Ideal) x0 x2 x3 x4 (ix3 i0 i1 i2) = val_main_v324 (F := Ideal) x0 x2 x3 x4 (ix2 i0 i1) := (val_main_v345_apply x0 x2 x3 x4 (ix3 i0 i1 i2)).trans (congrArg _ (g39 i0 i1 i2))

theorem a_v346 (i0 : Fin 16) (i1 : Fin 8400) (i2 : Fin 80) : val_main_v346 (F := Ideal) x0 x2 x3 x4 (ix3 i0 i1 i2) = val_main_v345 (F := Ideal) x0 x2 x3 x4 (ix3 i0 i1 0) := (val_main_v346_apply x0 x2 x3 x4 (ix3 i0 i1 i2)).trans (congrArg _ (g43 i0 i1 i2))

theorem a_v348 (i0 : Fin 16) (i1 : Fin 8400) (i2 : Fin 80) : val_main_v348 (F := Ideal) (ix3 i0 i1 i2) = val_main_cst_48 (F := Ideal) ix0 := (val_main_v348_apply (ix3 i0 i1 i2)).trans (congrArg _ (ix0_eta _).symm)

theorem a_v355 (i0 : Fin 1) (i1 : Fin 8400) (i2 : Fin 1) : val_main_v355 (F := Ideal) x5 (ix3 i0 i1 i2) = x5 (ix1 i1) := (val_main_v355_apply x5 (ix3 i0 i1 i2)).trans (congrArg _ (g45 i0 i1 i2))

theorem a_v356 (i0 : Fin 16) (i1 : Fin 8400) (i2 : Fin 4) : val_main_v356 (F := Ideal) x5 (ix3 i0 i1 i2) = val_main_v355 (F := Ideal) x5 (ix3 0 i1 0) := (val_main_v356_apply x5 (ix3 i0 i1 i2)).trans (congrArg _ (g46 i0 i1 i2))

theorem a_v358 (i0 : Fin 1) (i1 : Fin 8400) (i2 : Fin 1) : val_main_v358 (F := Ideal) x5 (ix3 i0 i1 i2) = x5 (ix1 i1) := (val_main_v358_apply x5 (ix3 i0 i1 i2)).trans (congrArg _ (g45 i0 i1 i2))

theorem a_v359 (i0 : Fin 16) (i1 : Fin 8400) (i2 : Fin 4) : val_main_v359 (F := Ideal) x5 (ix3 i0 i1 i2) = val_main_v358 (F := Ideal) x5 (ix3 0 i1 0) := (val_main_v359_apply x5 (ix3 i0 i1 i2)).trans (congrArg _ (g46 i0 i1 i2))

theorem a_v361 (i0 : Fin 16) (i1 : Fin 8400) : val_main_v361 (F := Ideal) x0 x2 x3 x4 (ix2 i0 i1) = ∑ k : Fin 80, val_main_v347 (F := Ideal) x0 x2 x3 x4 (ix3 i0 i1 k) := by
  rw [val_main_v361_apply x0 x2 x3 x4 (ix2 i0 i1), val_main_cst_49_apply]
  exact (congrArg (· + _) Ideal.ofBits_zero_f32).trans ((zero_add _).trans (Finset.sum_congr rfl fun k _ => congrArg _ (g47 i0 i1 k)))

theorem a_v362 (i0 : Fin 16) (i1 : Fin 8400) (i2 : Fin 1) : val_main_v362 (F := Ideal) x2 x5 (ix3 i0 i1 i2) = val_main_v360 (F := Ideal) x2 x5 (ix3 i0 i1 0) := (val_main_v362_apply x2 x5 (ix3 i0 i1 i2)).trans (congrArg _ (g48 i0 i1 i2))

theorem a_v363 (i0 : Fin 16) (i1 : Fin 8400) : val_main_v363 (F := Ideal) x2 x5 (ix2 i0 i1) = val_main_v362 (F := Ideal) x2 x5 (ix3 i0 i1 0) := (val_main_v363_apply x2 x5 (ix2 i0 i1)).trans (congrArg _ (g36 i0 i1))

theorem a_v364 (i0 : Fin 16) (i1 : Fin 8400) (i2 : Fin 1) : val_main_v364 (F := Ideal) x0 x2 x3 x4 x5 (ix3 i0 i1 i2) = val_main_v357 (F := Ideal) x0 x2 x3 x4 x5 (ix3 i0 i1 0) := (val_main_v364_apply x0 x2 x3 x4 x5 (ix3 i0 i1 i2)).trans (congrArg _ (g48 i0 i1 i2))

theorem a_v365 (i0 : Fin 16) (i1 : Fin 8400) : val_main_v365 (F := Ideal) x0 x2 x3 x4 x5 (ix2 i0 i1) = val_main_v364 (F := Ideal) x0 x2 x3 x4 x5 (ix3 i0 i1 0) := (val_main_v365_apply x0 x2 x3 x4 x5 (ix2 i0 i1)).trans (congrArg _ (g36 i0 i1))

theorem a_v367 (i0 : Fin 16) (i1 : Fin 8400) (i2 : Fin 1) : val_main_v367 (F := Ideal) x2 x5 (ix3 i0 i1 i2) = val_main_v360 (F := Ideal) x2 x5 (ix3 i0 i1 1) := (val_main_v367_apply x2 x5 (ix3 i0 i1 i2)).trans (congrArg _ (g49 i0 i1 i2))

theorem a_v368 (i0 : Fin 16) (i1 : Fin 8400) : val_main_v368 (F := Ideal) x2 x5 (ix2 i0 i1) = val_main_v367 (F := Ideal) x2 x5 (ix3 i0 i1 0) := (val_main_v368_apply x2 x5 (ix2 i0 i1)).trans (congrArg _ (g36 i0 i1))

theorem a_v369 (i0 : Fin 16) (i1 : Fin 8400) (i2 : Fin 1) : val_main_v369 (F := Ideal) x0 x2 x3 x4 x5 (ix3 i0 i1 i2) = val_main_v357 (F := Ideal) x0 x2 x3 x4 x5 (ix3 i0 i1 1) := (val_main_v369_apply x0 x2 x3 x4 x5 (ix3 i0 i1 i2)).trans (congrArg _ (g49 i0 i1 i2))

theorem a_v370 (i0 : Fin 16) (i1 : Fin 8400) : val_main_v370 (F := Ideal) x0 x2 x3 x4 x5 (ix2 i0 i1) = val_main_v369 (F := Ideal) x0 x2 x3 x4 x5 (ix3 i0 i1 0) := (val_main_v370_apply x0 x2 x3 x4 x5 (ix2 i0 i1)).trans (congrArg _ (g36 i0 i1))

theorem a_v372 (i0 : Fin 16) (i1 : Fin 8400) (i2 : Fin 1) : val_main_v372 (F := Ideal) x2 x5 (ix3 i0 i1 i2) = val_main_v360 (F := Ideal) x2 x5 (ix3 i0 i1 2) := (val_main_v372_apply x2 x5 (ix3 i0 i1 i2)).trans (congrArg _ (g50 i0 i1 i2))

theorem a_v373 (i0 : Fin 16) (i1 : Fin 8400) : val_main_v373 (F := Ideal) x2 x5 (ix2 i0 i1) = val_main_v372 (F := Ideal) x2 x5 (ix3 i0 i1 0) := (val_main_v373_apply x2 x5 (ix2 i0 i1)).trans (congrArg _ (g36 i0 i1))

theorem a_v374 (i0 : Fin 16) (i1 : Fin 8400) (i2 : Fin 1) : val_main_v374 (F := Ideal) x0 x2 x3 x4 x5 (ix3 i0 i1 i2) = val_main_v357 (F := Ideal) x0 x2 x3 x4 x5 (ix3 i0 i1 2) := (val_main_v374_apply x0 x2 x3 x4 x5 (ix3 i0 i1 i2)).trans (congrArg _ (g50 i0 i1 i2))

theorem a_v375 (i0 : Fin 16) (i1 : Fin 8400) : val_main_v375 (F := Ideal) x0 x2 x3 x4 x5 (ix2 i0 i1) = val_main_v374 (F := Ideal) x0 x2 x3 x4 x5 (ix3 i0 i1 0) := (val_main_v375_apply x0 x2 x3 x4 x5 (ix2 i0 i1)).trans (congrArg _ (g36 i0 i1))

theorem a_v377 (i0 : Fin 16) (i1 : Fin 8400) (i2 : Fin 1) : val_main_v377 (F := Ideal) x2 x5 (ix3 i0 i1 i2) = val_main_v360 (F := Ideal) x2 x5 (ix3 i0 i1 3) := (val_main_v377_apply x2 x5 (ix3 i0 i1 i2)).trans (congrArg _ (g51 i0 i1 i2))

theorem a_v378 (i0 : Fin 16) (i1 : Fin 8400) : val_main_v378 (F := Ideal) x2 x5 (ix2 i0 i1) = val_main_v377 (F := Ideal) x2 x5 (ix3 i0 i1 0) := (val_main_v378_apply x2 x5 (ix2 i0 i1)).trans (congrArg _ (g36 i0 i1))

theorem a_v379 (i0 : Fin 16) (i1 : Fin 8400) (i2 : Fin 1) : val_main_v379 (F := Ideal) x0 x2 x3 x4 x5 (ix3 i0 i1 i2) = val_main_v357 (F := Ideal) x0 x2 x3 x4 x5 (ix3 i0 i1 3) := (val_main_v379_apply x0 x2 x3 x4 x5 (ix3 i0 i1 i2)).trans (congrArg _ (g51 i0 i1 i2))

theorem a_v380 (i0 : Fin 16) (i1 : Fin 8400) : val_main_v380 (F := Ideal) x0 x2 x3 x4 x5 (ix2 i0 i1) = val_main_v379 (F := Ideal) x0 x2 x3 x4 x5 (ix3 i0 i1 0) := (val_main_v380_apply x0 x2 x3 x4 x5 (ix2 i0 i1)).trans (congrArg _ (g36 i0 i1))

theorem a_v383 (i0 : Fin 16) (i1 : Fin 8400) : val_main_v383 (F := Ideal) (ix2 i0 i1) = val_main_cst_50 (F := Ideal) ix0 := (val_main_v383_apply (ix2 i0 i1)).trans (congrArg _ (ix0_eta _).symm)

theorem a_v386 (i0 : Fin 16) (i1 : Fin 8400) : val_main_v386 (F := Ideal) (ix2 i0 i1) = val_main_cst_51 (F := Ideal) ix0 := (val_main_v386_apply (ix2 i0 i1)).trans (congrArg _ (ix0_eta _).symm)

theorem a_v389 (i0 : Fin 16) (i1 : Fin 8400) (i2 : Fin 1) : val_main_v389 (F := Ideal) x2 x5 (ix3 i0 i1 i2) = val_main_v360 (F := Ideal) x2 x5 (ix3 i0 i1 2) := (val_main_v389_apply x2 x5 (ix3 i0 i1 i2)).trans (congrArg _ (g50 i0 i1 i2))

theorem a_v390 (i0 : Fin 16) (i1 : Fin 8400) : val_main_v390 (F := Ideal) x2 x5 (ix2 i0 i1) = val_main_v389 (F := Ideal) x2 x5 (ix3 i0 i1 0) := (val_main_v390_apply x2 x5 (ix2 i0 i1)).trans (congrArg _ (g36 i0 i1))

theorem a_v391 (i0 : Fin 16) (i1 : Fin 8400) (i2 : Fin 1) : val_main_v391 (F := Ideal) x2 x5 (ix3 i0 i1 i2) = val_main_v360 (F := Ideal) x2 x5 (ix3 i0 i1 0) := (val_main_v391_apply x2 x5 (ix3 i0 i1 i2)).trans (congrArg _ (g48 i0 i1 i2))

theorem a_v392 (i0 : Fin 16) (i1 : Fin 8400) : val_main_v392 (F := Ideal) x2 x5 (ix2 i0 i1) = val_main_v391 (F := Ideal) x2 x5 (ix3 i0 i1 0) := (val_main_v392_apply x2 x5 (ix2 i0 i1)).trans (congrArg _ (g36 i0 i1))

theorem a_v394 (i0 : Fin 16) (i1 : Fin 8400) (i2 : Fin 1) : val_main_v394 (F := Ideal) x2 x5 (ix3 i0 i1 i2) = val_main_v360 (F := Ideal) x2 x5 (ix3 i0 i1 3) := (val_main_v394_apply x2 x5 (ix3 i0 i1 i2)).trans (congrArg _ (g51 i0 i1 i2))

theorem a_v395 (i0 : Fin 16) (i1 : Fin 8400) : val_main_v395 (F := Ideal) x2 x5 (ix2 i0 i1) = val_main_v394 (F := Ideal) x2 x5 (ix3 i0 i1 0) := (val_main_v395_apply x2 x5 (ix2 i0 i1)).trans (congrArg _ (g36 i0 i1))

theorem a_v396 (i0 : Fin 16) (i1 : Fin 8400) (i2 : Fin 1) : val_main_v396 (F := Ideal) x2 x5 (ix3 i0 i1 i2) = val_main_v360 (F := Ideal) x2 x5 (ix3 i0 i1 1) := (val_main_v396_apply x2 x5 (ix3 i0 i1 i2)).trans (congrArg _ (g49 i0 i1 i2))

theorem a_v397 (i0 : Fin 16) (i1 : Fin 8400) : val_main_v397 (F := Ideal) x2 x5 (ix2 i0 i1) = val_main_v396 (F := Ideal) x2 x5 (ix3 i0 i1 0) := (val_main_v397_apply x2 x5 (ix2 i0 i1)).trans (congrArg _ (g36 i0 i1))

theorem a_v400 (i0 : Fin 16) (i1 : Fin 8400) (i2 : Fin 1) : val_main_v400 (F := Ideal) x0 x2 x3 x4 x5 (ix3 i0 i1 i2) = val_main_v357 (F := Ideal) x0 x2 x3 x4 x5 (ix3 i0 i1 2) := (val_main_v400_apply x0 x2 x3 x4 x5 (ix3 i0 i1 i2)).trans (congrArg _ (g50 i0 i1 i2))

theorem a_v401 (i0 : Fin 16) (i1 : Fin 8400) : val_main_v401 (F := Ideal) x0 x2 x3 x4 x5 (ix2 i0 i1) = val_main_v400 (F := Ideal) x0 x2 x3 x4 x5 (ix3 i0 i1 0) := (val_main_v401_apply x0 x2 x3 x4 x5 (ix2 i0 i1)).trans (congrArg _ (g36 i0 i1))

theorem a_v402 (i0 : Fin 16) (i1 : Fin 8400) (i2 : Fin 1) : val_main_v402 (F := Ideal) x0 x2 x3 x4 x5 (ix3 i0 i1 i2) = val_main_v357 (F := Ideal) x0 x2 x3 x4 x5 (ix3 i0 i1 0) := (val_main_v402_apply x0 x2 x3 x4 x5 (ix3 i0 i1 i2)).trans (congrArg _ (g48 i0 i1 i2))

theorem a_v403 (i0 : Fin 16) (i1 : Fin 8400) : val_main_v403 (F := Ideal) x0 x2 x3 x4 x5 (ix2 i0 i1) = val_main_v402 (F := Ideal) x0 x2 x3 x4 x5 (ix3 i0 i1 0) := (val_main_v403_apply x0 x2 x3 x4 x5 (ix2 i0 i1)).trans (congrArg _ (g36 i0 i1))

theorem a_v405 (i0 : Fin 16) (i1 : Fin 8400) (i2 : Fin 1) : val_main_v405 (F := Ideal) x0 x2 x3 x4 x5 (ix3 i0 i1 i2) = val_main_v357 (F := Ideal) x0 x2 x3 x4 x5 (ix3 i0 i1 3) := (val_main_v405_apply x0 x2 x3 x4 x5 (ix3 i0 i1 i2)).trans (congrArg _ (g51 i0 i1 i2))

theorem a_v406 (i0 : Fin 16) (i1 : Fin 8400) : val_main_v406 (F := Ideal) x0 x2 x3 x4 x5 (ix2 i0 i1) = val_main_v405 (F := Ideal) x0 x2 x3 x4 x5 (ix3 i0 i1 0) := (val_main_v406_apply x0 x2 x3 x4 x5 (ix2 i0 i1)).trans (congrArg _ (g36 i0 i1))

theorem a_v407 (i0 : Fin 16) (i1 : Fin 8400) (i2 : Fin 1) : val_main_v407 (F := Ideal) x0 x2 x3 x4 x5 (ix3 i0 i1 i2) = val_main_v357 (F := Ideal) x0 x2 x3 x4 x5 (ix3 i0 i1 1) := (val_main_v407_apply x0 x2 x3 x4 x5 (ix3 i0 i1 i2)).trans (congrArg _ (g49 i0 i1 i2))

theorem a_v408 (i0 : Fin 16) (i1 : Fin 8400) : val_main_v408 (F := Ideal) x0 x2 x3 x4 x5 (ix2 i0 i1) = val_main_v407 (F := Ideal) x0 x2 x3 x4 x5 (ix3 i0 i1 0) := (val_main_v408_apply x0 x2 x3 x4 x5 (ix2 i0 i1)).trans (congrArg _ (g36 i0 i1))

theorem a_v413 (i0 : Fin 16) (i1 : Fin 8400) : val_main_v413 (F := Ideal) (ix2 i0 i1) = val_main_cst_52 (F := Ideal) ix0 := (val_main_v413_apply (ix2 i0 i1)).trans (congrArg _ (ix0_eta _).symm)

theorem a_v416 (i0 : Fin 16) (i1 : Fin 8400) (i2 : Fin 1) : val_main_v416 (F := Ideal) x2 x5 (ix3 i0 i1 i2) = val_main_v360 (F := Ideal) x2 x5 (ix3 i0 i1 2) := (val_main_v416_apply x2 x5 (ix3 i0 i1 i2)).trans (congrArg _ (g50 i0 i1 i2))

theorem a_v417 (i0 : Fin 16) (i1 : Fin 8400) : val_main_v417 (F := Ideal) x2 x5 (ix2 i0 i1) = val_main_v416 (F := Ideal) x2 x5 (ix3 i0 i1 0) := (val_main_v417_apply x2 x5 (ix2 i0 i1)).trans (congrArg _ (g36 i0 i1))

theorem a_v418 (i0 : Fin 16) (i1 : Fin 8400) (i2 : Fin 1) : val_main_v418 (F := Ideal) x0 x2 x3 x4 x5 (ix3 i0 i1 i2) = val_main_v357 (F := Ideal) x0 x2 x3 x4 x5 (ix3 i0 i1 2) := (val_main_v418_apply x0 x2 x3 x4 x5 (ix3 i0 i1 i2)).trans (congrArg _ (g50 i0 i1 i2))

theorem a_v419 (i0 : Fin 16) (i1 : Fin 8400) : val_main_v419 (F := Ideal) x0 x2 x3 x4 x5 (ix2 i0 i1) = val_main_v418 (F := Ideal) x0 x2 x3 x4 x5 (ix3 i0 i1 0) := (val_main_v419_apply x0 x2 x3 x4 x5 (ix2 i0 i1)).trans (congrArg _ (g36 i0 i1))

theorem a_v421 (i0 : Fin 16) (i1 : Fin 8400) (i2 : Fin 1) : val_main_v421 (F := Ideal) x2 x5 (ix3 i0 i1 i2) = val_main_v360 (F := Ideal) x2 x5 (ix3 i0 i1 0) := (val_main_v421_apply x2 x5 (ix3 i0 i1 i2)).trans (congrArg _ (g48 i0 i1 i2))

theorem a_v422 (i0 : Fin 16) (i1 : Fin 8400) : val_main_v422 (F := Ideal) x2 x5 (ix2 i0 i1) = val_main_v421 (F := Ideal) x2 x5 (ix3 i0 i1 0) := (val_main_v422_apply x2 x5 (ix2 i0 i1)).trans (congrArg _ (g36 i0 i1))

theorem a_v423 (i0 : Fin 16) (i1 : Fin 8400) (i2 : Fin 1) : val_main_v423 (F := Ideal) x0 x2 x3 x4 x5 (ix3 i0 i1 i2) = val_main_v357 (F := Ideal) x0 x2 x3 x4 x5 (ix3 i0 i1 0) := (val_main_v423_apply x0 x2 x3 x4 x5 (ix3 i0 i1 i2)).trans (congrArg _ (g48 i0 i1 i2))

theorem a_v424 (i0 : Fin 16) (i1 : Fin 8400) : val_main_v424 (F := Ideal) x0 x2 x3 x4 x5 (ix2 i0 i1) = val_main_v423 (F := Ideal) x0 x2 x3 x4 x5 (ix3 i0 i1 0) := (val_main_v424_apply x0 x2 x3 x4 x5 (ix2 i0 i1)).trans (congrArg _ (g36 i0 i1))

theorem a_v427 (i0 : Fin 16) (i1 : Fin 8400) (i2 : Fin 1) : val_main_v427 (F := Ideal) x2 x5 (ix3 i0 i1 i2) = val_main_v360 (F := Ideal) x2 x5 (ix3 i0 i1 3) := (val_main_v427_apply x2 x5 (ix3 i0 i1 i2)).trans (congrArg _ (g51 i0 i1 i2))

theorem a_v428 (i0 : Fin 16) (i1 : Fin 8400) : val_main_v428 (F := Ideal) x2 x5 (ix2 i0 i1) = val_main_v427 (F := Ideal) x2 x5 (ix3 i0 i1 0) := (val_main_v428_apply x2 x5 (ix2 i0 i1)).trans (congrArg _ (g36 i0 i1))

theorem a_v429 (i0 : Fin 16) (i1 : Fin 8400) (i2 : Fin 1) : val_main_v429 (F := Ideal) x0 x2 x3 x4 x5 (ix3 i0 i1 i2) = val_main_v357 (F := Ideal) x0 x2 x3 x4 x5 (ix3 i0 i1 3) := (val_main_v429_apply x0 x2 x3 x4 x5 (ix3 i0 i1 i2)).trans (congrArg _ (g51 i0 i1 i2))

theorem a_v430 (i0 : Fin 16) (i1 : Fin 8400) : val_main_v430 (F := Ideal) x0 x2 x3 x4 x5 (ix2 i0 i1) = val_main_v429 (F := Ideal) x0 x2 x3 x4 x5 (ix3 i0 i1 0) := (val_main_v430_apply x0 x2 x3 x4 x5 (ix2 i0 i1)).trans (congrArg _ (g36 i0 i1))

theorem a_v432 (i0 : Fin 16) (i1 : Fin 8400) (i2 : Fin 1) : val_main_v432 (F := Ideal) x2 x5 (ix3 i0 i1 i2) = val_main_v360 (F := Ideal) x2 x5 (ix3 i0 i1 1) := (val_main_v432_apply x2 x5 (ix3 i0 i1 i2)).trans (congrArg _ (g49 i0 i1 i2))

theorem a_v433 (i0 : Fin 16) (i1 : Fin 8400) : val_main_v433 (F := Ideal) x2 x5 (ix2 i0 i1) = val_main_v432 (F := Ideal) x2 x5 (ix3 i0 i1 0) := (val_main_v433_apply x2 x5 (ix2 i0 i1)).trans (congrArg _ (g36 i0 i1))

theorem a_v434 (i0 : Fin 16) (i1 : Fin 8400) (i2 : Fin 1) : val_main_v434 (F := Ideal) x0 x2 x3 x4 x5 (ix3 i0 i1 i2) = val_main_v357 (F := Ideal) x0 x2 x3 x4 x5 (ix3 i0 i1 1) := (val_main_v434_apply x0 x2 x3 x4 x5 (ix3 i0 i1 i2)).trans (congrArg _ (g49 i0 i1 i2))

theorem a_v435 (i0 : Fin 16) (i1 : Fin 8400) : val_main_v435 (F := Ideal) x0 x2 x3 x4 x5 (ix2 i0 i1) = val_main_v434 (F := Ideal) x0 x2 x3 x4 x5 (ix3 i0 i1 0) := (val_main_v435_apply x0 x2 x3 x4 x5 (ix2 i0 i1)).trans (congrArg _ (g36 i0 i1))

theorem a_v441 (i0 : Fin 16) (i1 : Fin 8400) : val_main_v441 (F := Ideal) (ix2 i0 i1) = val_main_cst_53 (F := Ideal) ix0 := (val_main_v441_apply (ix2 i0 i1)).trans (congrArg _ (ix0_eta _).symm)

theorem a_v443 (i0 : Fin 16) (i1 : Fin 8400) (i2 : Fin 1) : val_main_v443 (F := Ideal) x2 x5 (ix3 i0 i1 i2) = val_main_v360 (F := Ideal) x2 x5 (ix3 i0 i1 0) := (val_main_v443_apply x2 x5 (ix3 i0 i1 i2)).trans (congrArg _ (g48 i0 i1 i2))

theorem a_v444 (i0 : Fin 16) (i1 : Fin 8400) : val_main_v444 (F := Ideal) x2 x5 (ix2 i0 i1) = val_main_v443 (F := Ideal) x2 x5 (ix3 i0 i1 0) := (val_main_v444_apply x2 x5 (ix2 i0 i1)).trans (congrArg _ (g36 i0 i1))

theorem a_v445 (i0 : Fin 16) (i1 : Fin 8400) (i2 : Fin 1) : val_main_v445 (F := Ideal) x2 x5 (ix3 i0 i1 i2) = val_main_v360 (F := Ideal) x2 x5 (ix3 i0 i1 2) := (val_main_v445_apply x2 x5 (ix3 i0 i1 i2)).trans (congrArg _ (g50 i0 i1 i2))

theorem a_v446 (i0 : Fin 16) (i1 : Fin 8400) : val_main_v446 (F := Ideal) x2 x5 (ix2 i0 i1) = val_main_v445 (F := Ideal) x2 x5 (ix3 i0 i1 0) := (val_main_v446_apply x2 x5 (ix2 i0 i1)).trans (congrArg _ (g36 i0 i1))

theorem a_v448 (i0 : Fin 16) (i1 : Fin 8400) (i2 : Fin 1) : val_main_v448 (F := Ideal) x0 x2 x3 x4 x5 (ix3 i0 i1 i2) = val_main_v357 (F := Ideal) x0 x2 x3 x4 x5 (ix3 i0 i1 0) := (val_main_v448_apply x0 x2 x3 x4 x5 (ix3 i0 i1 i2)).trans (congrArg _ (g48 i0 i1 i2))

theorem a_v449 (i0 : Fin 16) (i1 : Fin 8400) : val_main_v449 (F := Ideal) x0 x2 x3 x4 x5 (ix2 i0 i1) = val_main_v448 (F := Ideal) x0 x2 x3 x4 x5 (ix3 i0 i1 0) := (val_main_v449_apply x0 x2 x3 x4 x5 (ix2 i0 i1)).trans (congrArg _ (g36 i0 i1))

theorem a_v451 (i0 : Fin 16) (i1 : Fin 8400) (i2 : Fin 1) : val_main_v451 (F := Ideal) x0 x2 x3 x4 x5 (ix3 i0 i1 i2) = val_main_v357 (F := Ideal) x0 x2 x3 x4 x5 (ix3 i0 i1 2) := (val_main_v451_apply x0 x2 x3 x4 x5 (ix3 i0 i1 i2)).trans (congrArg _ (g50 i0 i1 i2))

theorem a_v452 (i0 : Fin 16) (i1 : Fin 8400) : val_main_v452 (F := Ideal) x0 x2 x3 x4 x5 (ix2 i0 i1) = val_main_v451 (F := Ideal) x0 x2 x3 x4 x5 (ix3 i0 i1 0) := (val_main_v452_apply x0 x2 x3 x4 x5 (ix2 i0 i1)).trans (congrArg _ (g36 i0 i1))

theorem a_v455 (i0 : Fin 16) (i1 : Fin 8400) (i2 : Fin 1) : val_main_v455 (F := Ideal) x2 x5 (ix3 i0 i1 i2) = val_main_v360 (F := Ideal) x2 x5 (ix3 i0 i1 1) := (val_main_v455_apply x2 x5 (ix3 i0 i1 i2)).trans (congrArg _ (g49 i0 i1 i2))

theorem a_v456 (i0 : Fin 16) (i1 : Fin 8400) : val_main_v456 (F := Ideal) x2 x5 (ix2 i0 i1) = val_main_v455 (F := Ideal) x2 x5 (ix3 i0 i1 0) := (val_main_v456_apply x2 x5 (ix2 i0 i1)).trans (congrArg _ (g36 i0 i1))

theorem a_v457 (i0 : Fin 16) (i1 : Fin 8400) (i2 : Fin 1) : val_main_v457 (F := Ideal) x2 x5 (ix3 i0 i1 i2) = val_main_v360 (F := Ideal) x2 x5 (ix3 i0 i1 3) := (val_main_v457_apply x2 x5 (ix3 i0 i1 i2)).trans (congrArg _ (g51 i0 i1 i2))

theorem a_v458 (i0 : Fin 16) (i1 : Fin 8400) : val_main_v458 (F := Ideal) x2 x5 (ix2 i0 i1) = val_main_v457 (F := Ideal) x2 x5 (ix3 i0 i1 0) := (val_main_v458_apply x2 x5 (ix2 i0 i1)).trans (congrArg _ (g36 i0 i1))

theorem a_v460 (i0 : Fin 16) (i1 : Fin 8400) (i2 : Fin 1) : val_main_v460 (F := Ideal) x0 x2 x3 x4 x5 (ix3 i0 i1 i2) = val_main_v357 (F := Ideal) x0 x2 x3 x4 x5 (ix3 i0 i1 1) := (val_main_v460_apply x0 x2 x3 x4 x5 (ix3 i0 i1 i2)).trans (congrArg _ (g49 i0 i1 i2))

theorem a_v461 (i0 : Fin 16) (i1 : Fin 8400) : val_main_v461 (F := Ideal) x0 x2 x3 x4 x5 (ix2 i0 i1) = val_main_v460 (F := Ideal) x0 x2 x3 x4 x5 (ix3 i0 i1 0) := (val_main_v461_apply x0 x2 x3 x4 x5 (ix2 i0 i1)).trans (congrArg _ (g36 i0 i1))

theorem a_v463 (i0 : Fin 16) (i1 : Fin 8400) (i2 : Fin 1) : val_main_v463 (F := Ideal) x0 x2 x3 x4 x5 (ix3 i0 i1 i2) = val_main_v357 (F := Ideal) x0 x2 x3 x4 x5 (ix3 i0 i1 3) := (val_main_v463_apply x0 x2 x3 x4 x5 (ix3 i0 i1 i2)).trans (congrArg _ (g51 i0 i1 i2))

theorem a_v464 (i0 : Fin 16) (i1 : Fin 8400) : val_main_v464 (F := Ideal) x0 x2 x3 x4 x5 (ix2 i0 i1) = val_main_v463 (F := Ideal) x0 x2 x3 x4 x5 (ix3 i0 i1 0) := (val_main_v464_apply x0 x2 x3 x4 x5 (ix2 i0 i1)).trans (congrArg _ (g36 i0 i1))

theorem a_v468 (i0 : Fin 16) (i1 : Fin 8400) : val_main_v468 (F := Ideal) (ix2 i0 i1) = val_main_cst_54 (F := Ideal) ix0 := (val_main_v468_apply (ix2 i0 i1)).trans (congrArg _ (ix0_eta _).symm)

theorem a_v470 (i0 : Fin 16) (i1 : Fin 8400) (i2 : Fin 1) : val_main_v470 (F := Ideal) x2 x5 (ix3 i0 i1 i2) = val_main_v360 (F := Ideal) x2 x5 (ix3 i0 i1 2) := (val_main_v470_apply x2 x5 (ix3 i0 i1 i2)).trans (congrArg _ (g50 i0 i1 i2))

theorem a_v471 (i0 : Fin 16) (i1 : Fin 8400) : val_main_v471 (F := Ideal) x2 x5 (ix2 i0 i1) = val_main_v470 (F := Ideal) x2 x5 (ix3 i0 i1 0) := (val_main_v471_apply x2 x5 (ix2 i0 i1)).trans (congrArg _ (g36 i0 i1))

theorem a_v472 (i0 : Fin 16) (i1 : Fin 8400) (i2 : Fin 1) : val_main_v472 (F := Ideal) x2 x5 (ix3 i0 i1 i2) = val_main_v360 (F := Ideal) x2 x5 (ix3 i0 i1 0) := (val_main_v472_apply x2 x5 (ix3 i0 i1 i2)).trans (congrArg _ (g48 i0 i1 i2))

theorem a_v473 (i0 : Fin 16) (i1 : Fin 8400) : val_main_v473 (F := Ideal) x2 x5 (ix2 i0 i1) = val_main_v472 (F := Ideal) x2 x5 (ix3 i0 i1 0) := (val_main_v473_apply x2 x5 (ix2 i0 i1)).trans (congrArg _ (g36 i0 i1))

theorem a_v475 (i0 : Fin 16) (i1 : Fin 8400) : val_main_v475 (F := Ideal) (ix2 i0 i1) = val_main_cst_55 (F := Ideal) ix0 := (val_main_v475_apply (ix2 i0 i1)).trans (congrArg _ (ix0_eta _).symm)

theorem a_v477 (i0 : Fin 16) (i1 : Fin 8400) (i2 : Fin 1) : val_main_v477 (F := Ideal) x2 x5 (ix3 i0 i1 i2) = val_main_v360 (F := Ideal) x2 x5 (ix3 i0 i1 3) := (val_main_v477_apply x2 x5 (ix3 i0 i1 i2)).trans (congrArg _ (g51 i0 i1 i2))

theorem a_v478 (i0 : Fin 16) (i1 : Fin 8400) : val_main_v478 (F := Ideal) x2 x5 (ix2 i0 i1) = val_main_v477 (F := Ideal) x2 x5 (ix3 i0 i1 0) := (val_main_v478_apply x2 x5 (ix2 i0 i1)).trans (congrArg _ (g36 i0 i1))

theorem a_v479 (i0 : Fin 16) (i1 : Fin 8400) (i2 : Fin 1) : val_main_v479 (F := Ideal) x2 x5 (ix3 i0 i1 i2) = val_main_v360 (F := Ideal) x2 x5 (ix3 i0 i1 1) := (val_main_v479_apply x2 x5 (ix3 i0 i1 i2)).trans (congrArg _ (g49 i0 i1 i2))

theorem a_v480 (i0 : Fin 16) (i1 : Fin 8400) : val_main_v480 (F := Ideal) x2 x5 (ix2 i0 i1) = val_main_v479 (F := Ideal) x2 x5 (ix3 i0 i1 0) := (val_main_v480_apply x2 x5 (ix2 i0 i1)).trans (congrArg _ (g36 i0 i1))

theorem a_v482 (i0 : Fin 16) (i1 : Fin 8400) : val_main_v482 (F := Ideal) (ix2 i0 i1) = val_main_cst_56 (F := Ideal) ix0 := (val_main_v482_apply (ix2 i0 i1)).trans (congrArg _ (ix0_eta _).symm)

theorem a_v484 (i0 : Fin 16) (i1 : Fin 8400) (i2 : Fin 1) : val_main_v484 (F := Ideal) x0 x2 x3 x4 x5 (ix3 i0 i1 i2) = val_main_v357 (F := Ideal) x0 x2 x3 x4 x5 (ix3 i0 i1 2) := (val_main_v484_apply x0 x2 x3 x4 x5 (ix3 i0 i1 i2)).trans (congrArg _ (g50 i0 i1 i2))

theorem a_v485 (i0 : Fin 16) (i1 : Fin 8400) : val_main_v485 (F := Ideal) x0 x2 x3 x4 x5 (ix2 i0 i1) = val_main_v484 (F := Ideal) x0 x2 x3 x4 x5 (ix3 i0 i1 0) := (val_main_v485_apply x0 x2 x3 x4 x5 (ix2 i0 i1)).trans (congrArg _ (g36 i0 i1))

theorem a_v486 (i0 : Fin 16) (i1 : Fin 8400) (i2 : Fin 1) : val_main_v486 (F := Ideal) x0 x2 x3 x4 x5 (ix3 i0 i1 i2) = val_main_v357 (F := Ideal) x0 x2 x3 x4 x5 (ix3 i0 i1 0) := (val_main_v486_apply x0 x2 x3 x4 x5 (ix3 i0 i1 i2)).trans (congrArg _ (g48 i0 i1 i2))

theorem a_v487 (i0 : Fin 16) (i1 : Fin 8400) : val_main_v487 (F := Ideal) x0 x2 x3 x4 x5 (ix2 i0 i1) = val_main_v486 (F := Ideal) x0 x2 x3 x4 x5 (ix3 i0 i1 0) := (val_main_v487_apply x0 x2 x3 x4 x5 (ix2 i0 i1)).trans (congrArg _ (g36 i0 i1))

theorem a_v489 (i0 : Fin 16) (i1 : Fin 8400) : val_main_v489 (F := Ideal) (ix2 i0 i1) = val_main_cst_57 (F := Ideal) ix0 := (val_main_v489_apply (ix2 i0 i1)).trans (congrArg _ (ix0_eta _).symm)

theorem a_v491 (i0 : Fin 16) (i1 : Fin 8400) (i2 : Fin 1) : val_main_v491 (F := Ideal) x0 x2 x3 x4 x5 (ix3 i0 i1 i2) = val_main_v357 (F := Ideal) x0 x2 x3 x4 x5 (ix3 i0 i1 3) := (val_main_v491_apply x0 x2 x3 x4 x5 (ix3 i0 i1 i2)).trans (congrArg _ (g51 i0 i1 i2))

theorem a_v492 (i0 : Fin 16) (i1 : Fin 8400) : val_main_v492 (F := Ideal) x0 x2 x3 x4 x5 (ix2 i0 i1) = val_main_v491 (F := Ideal) x0 x2 x3 x4 x5 (ix3 i0 i1 0) := (val_main_v492_apply x0 x2 x3 x4 x5 (ix2 i0 i1)).trans (congrArg _ (g36 i0 i1))

theorem a_v493 (i0 : Fin 16) (i1 : Fin 8400) (i2 : Fin 1) : val_main_v493 (F := Ideal) x0 x2 x3 x4 x5 (ix3 i0 i1 i2) = val_main_v357 (F := Ideal) x0 x2 x3 x4 x5 (ix3 i0 i1 1) := (val_main_v493_apply x0 x2 x3 x4 x5 (ix3 i0 i1 i2)).trans (congrArg _ (g49 i0 i1 i2))

theorem a_v494 (i0 : Fin 16) (i1 : Fin 8400) : val_main_v494 (F := Ideal) x0 x2 x3 x4 x5 (ix2 i0 i1) = val_main_v493 (F := Ideal) x0 x2 x3 x4 x5 (ix3 i0 i1 0) := (val_main_v494_apply x0 x2 x3 x4 x5 (ix2 i0 i1)).trans (congrArg _ (g36 i0 i1))

theorem a_v496 (i0 : Fin 16) (i1 : Fin 8400) : val_main_v496 (F := Ideal) (ix2 i0 i1) = val_main_cst_58 (F := Ideal) ix0 := (val_main_v496_apply (ix2 i0 i1)).trans (congrArg _ (ix0_eta _).symm)

theorem a_v499 (i0 : Fin 16) (i1 : Fin 8400) : val_main_v499 (F := Ideal) (ix2 i0 i1) = val_main_cst_59 (F := Ideal) ix0 := (val_main_v499_apply (ix2 i0 i1)).trans (congrArg _ (ix0_eta _).symm)

theorem a_v501 (i0 : Fin 16) (i1 : Fin 8400) : val_main_v501 (F := Ideal) (ix2 i0 i1) = val_main_cst_60 (F := Ideal) ix0 := (val_main_v501_apply (ix2 i0 i1)).trans (congrArg _ (ix0_eta _).symm)

theorem a_v505 (i0 : Fin 16) (i1 : Fin 8400) : val_main_v505 (F := Ideal) (ix2 i0 i1) = val_main_cst_61 (F := Ideal) ix0 := (val_main_v505_apply (ix2 i0 i1)).trans (congrArg _ (ix0_eta _).symm)

theorem a_v507 (i0 : Fin 16) (i1 : Fin 8400) : val_main_v507 (F := Ideal) (ix2 i0 i1) = val_main_cst_62 (F := Ideal) ix0 := (val_main_v507_apply (ix2 i0 i1)).trans (congrArg _ (ix0_eta _).symm)

theorem a_v510 (i0 : Fin 16) (i1 : Fin 8400) : val_main_v510 (F := Ideal) (ix2 i0 i1) = val_main_cst_63 (F := Ideal) ix0 := (val_main_v510_apply (ix2 i0 i1)).trans (congrArg _ (ix0_eta _).symm)

theorem a_v513 (i0 : Fin 16) (i1 : Fin 8400) : val_main_v513 (F := Ideal) (ix2 i0 i1) = val_main_cst_64 (F := Ideal) ix0 := (val_main_v513_apply (ix2 i0 i1)).trans (congrArg _ (ix0_eta _).symm)

theorem a_v516 (i0 : Fin 16) (i1 : Fin 8400) : val_main_v516 (F := Ideal) (ix2 i0 i1) = val_main_cst_65 (F := Ideal) ix0 := (val_main_v516_apply (ix2 i0 i1)).trans (congrArg _ (ix0_eta _).symm)

theorem a_v519 (i0 : Fin 16) (i1 : Fin 8400) : val_main_v519 (F := Ideal) (ix2 i0 i1) = val_main_cst_66 (F := Ideal) ix0 := (val_main_v519_apply (ix2 i0 i1)).trans (congrArg _ (ix0_eta _).symm)

theorem a_v522 (i0 : Fin 16) (i1 : Fin 8400) : val_main_v522 (F := Ideal) (ix2 i0 i1) = val_main_cst_67 (F := Ideal) ix0 := (val_main_v522_apply (ix2 i0 i1)).trans (congrArg _ (ix0_eta _).symm)

theorem a_v525 (i0 : Fin 16) (i1 : Fin 8400) : val_main_v525 (F := Ideal) (ix2 i0 i1) = val_main_cst_68 (F := Ideal) ix0 := (val_main_v525_apply (ix2 i0 i1)).trans (congrArg _ (ix0_eta _).symm)

theorem a_v528 (i0 : Fin 16) (i1 : Fin 8400) : val_main_v528 (F := Ideal) (ix2 i0 i1) = val_main_cst_69 (F := Ideal) ix0 := (val_main_v528_apply (ix2 i0 i1)).trans (congrArg _ (ix0_eta _).symm)

theorem a_v532 (i0 : Fin 16) (i1 : Fin 8400) : val_main_v532 (F := Ideal) (ix2 i0 i1) = val_main_cst_70 (F := Ideal) ix0 := (val_main_v532_apply (ix2 i0 i1)).trans (congrArg _ (ix0_eta _).symm)

theorem a_v534 (i0 : Fin 16) (i1 : Fin 8400) : val_main_v534 (F := Ideal) (ix2 i0 i1) = val_main_cst_71 (F := Ideal) ix0 := (val_main_v534_apply (ix2 i0 i1)).trans (congrArg _ (ix0_eta _).symm)

theorem a_v538 (i0 : Fin 16) (i1 : Fin 8400) : val_main_v538 (F := Ideal) (ix2 i0 i1) = val_main_cst_72 (F := Ideal) ix0 := (val_main_v538_apply (ix2 i0 i1)).trans (congrArg _ (ix0_eta _).symm)

theorem a_v540 (i0 : Fin 16) (i1 : Fin 8400) : val_main_v540 (F := Ideal) (ix2 i0 i1) = val_main_cst_73 (F := Ideal) ix0 := (val_main_v540_apply (ix2 i0 i1)).trans (congrArg _ (ix0_eta _).symm)

theorem a_v543 (i0 : Fin 16) (i1 : Fin 8400) : val_main_v543 (F := Ideal) (ix2 i0 i1) = val_main_cst_74 (F := Ideal) ix0 := (val_main_v543_apply (ix2 i0 i1)).trans (congrArg _ (ix0_eta _).symm)

theorem a_v546 (i0 : Fin 16) (i1 : Fin 8400) : val_main_v546 (F := Ideal) (ix2 i0 i1) = val_main_cst_75 (F := Ideal) ix0 := (val_main_v546_apply (ix2 i0 i1)).trans (congrArg _ (ix0_eta _).symm)

theorem a_v549 (i0 : Fin 16) (i1 : Fin 8400) : val_main_v549 (F := Ideal) (ix2 i0 i1) = val_main_cst_76 (F := Ideal) ix0 := (val_main_v549_apply (ix2 i0 i1)).trans (congrArg _ (ix0_eta _).symm)

theorem a_v552 (i0 : Fin 16) (i1 : Fin 8400) : val_main_v552 (F := Ideal) (ix2 i0 i1) = val_main_cst_77 (F := Ideal) ix0 := (val_main_v552_apply (ix2 i0 i1)).trans (congrArg _ (ix0_eta _).symm)

theorem a_v555 (i0 : Fin 16) (i1 : Fin 8400) : val_main_v555 (F := Ideal) (ix2 i0 i1) = val_main_cst_78 (F := Ideal) ix0 := (val_main_v555_apply (ix2 i0 i1)).trans (congrArg _ (ix0_eta _).symm)

theorem a_v558 (i0 : Fin 16) (i1 : Fin 8400) : val_main_v558 (F := Ideal) (ix2 i0 i1) = val_main_cst_79 (F := Ideal) ix0 := (val_main_v558_apply (ix2 i0 i1)).trans (congrArg _ (ix0_eta _).symm)

theorem a_v561 (i0 : Fin 16) (i1 : Fin 8400) : val_main_v561 (F := Ideal) (ix2 i0 i1) = val_main_cst_80 (F := Ideal) ix0 := (val_main_v561_apply (ix2 i0 i1)).trans (congrArg _ (ix0_eta _).symm)

theorem a_v566 (i0 : Fin 16) (i1 : Fin 8400) : val_main_v566 (F := Ideal) (ix2 i0 i1) = val_main_cst_81 (F := Ideal) ix0 := (val_main_v566_apply (ix2 i0 i1)).trans (congrArg _ (ix0_eta _).symm)

theorem a_v568 (i0 : Fin 16) (i1 : Fin 8400) : val_main_v568 (F := Ideal) (ix2 i0 i1) = val_main_cst_82 (F := Ideal) ix0 := (val_main_v568_apply (ix2 i0 i1)).trans (congrArg _ (ix0_eta _).symm)

theorem a_v571 (i0 : Fin 16) (i1 : Fin 8400) : val_main_v571 (F := Ideal) (ix2 i0 i1) = val_main_cst_83 (F := Ideal) ix0 := (val_main_v571_apply (ix2 i0 i1)).trans (congrArg _ (ix0_eta _).symm)

theorem a_v578 (i0 : Fin 8400) (i1 : Fin 1) : val_main_v578 (F := Ideal) x5 (ix2 i0 i1) = x5 (ix1 i0) := (val_main_v578_apply x5 (ix2 i0 i1)).trans (congrArg _ (g52 i0 i1))

theorem a_v579 (i0 : Fin 8400) (i1 : Fin 2) : val_main_v579 (F := Ideal) x5 (ix2 i0 i1) = val_main_v578 (F := Ideal) x5 (ix2 i0 0) := (val_main_v579_apply x5 (ix2 i0 i1)).trans (congrArg _ (g53 i0 i1))

theorem a_v581 (i0 : Fin 1) (i1 : Fin 8400) (i2 : Fin 2) : val_main_v581 (F := Ideal) x4 x5 (ix3 i0 i1 i2) = val_main_v580 (F := Ideal) x4 x5 (ix2 i1 i2) := (val_main_v581_apply x4 x5 (ix3 i0 i1 i2)).trans (congrArg _ (g54 i0 i1 i2))

theorem a_v582 (i0 : Fin 16) (i1 : Fin 8400) (i2 : Fin 2) : val_main_v582 (F := Ideal) x0 x2 x3 x4 x5 (ix3 i0 i1 i2) = val_main_v357 (F := Ideal) x0 x2 x3 x4 x5 (ix3 i0 i1 (Fin.castLE (by decide : 2 ≤ 4) i2)) := (val_main_v582_apply x0 x2 x3 x4 x5 (ix3 i0 i1 i2)).trans (congrArg _ (g55 i0 i1 i2))

theorem a_v583 (i0 : Fin 16) (i1 : Fin 8400) (i2 : Fin 2) : val_main_v583 (F := Ideal) x4 x5 (ix3 i0 i1 i2) = val_main_v581 (F := Ideal) x4 x5 (ix3 0 i1 i2) := (val_main_v583_apply x4 x5 (ix3 i0 i1 i2)).trans (congrArg _ (g56 i0 i1 i2))

theorem a_v585 (i0 : Fin 16) (i1 : Fin 8400) (i2 : Fin 2) : val_main_v585 (F := Ideal) x0 x2 x3 x4 x5 (ix3 i0 i1 i2) = val_main_v357 (F := Ideal) x0 x2 x3 x4 x5 (ix3 i0 i1 (Fin.natAdd 2 i2 : Fin 4)) := (val_main_v585_apply x0 x2 x3 x4 x5 (ix3 i0 i1 i2)).trans (congrArg _ (g57 i0 i1 i2))

theorem a_v586 (i0 : Fin 16) (i1 : Fin 8400) (i2 : Fin 2) : val_main_v586 (F := Ideal) x4 x5 (ix3 i0 i1 i2) = val_main_v581 (F := Ideal) x4 x5 (ix3 0 i1 i2) := (val_main_v586_apply x4 x5 (ix3 i0 i1 i2)).trans (congrArg _ (g56 i0 i1 i2))

theorem a_v589 (i0 : Fin 16) (i1 : Fin 8400) (i2 : Fin 4) : val_main_v589 (F := Ideal) (ix3 i0 i1 i2) = val_main_cst_84 (F := Ideal) ix0 := (val_main_v589_apply (ix3 i0 i1 i2)).trans (congrArg _ (ix0_eta _).symm)

theorem a_v591 (i0 : Fin 16) (i1 : Fin 8400) (i2 : Fin 4) : val_main_v591 (F := Ideal) (ix3 i0 i1 i2) = val_main_cst_85 (F := Ideal) ix0 := (val_main_v591_apply (ix3 i0 i1 i2)).trans (congrArg _ (ix0_eta _).symm)

theorem a_call14_v1 (i0 : Fin 16) (i1 : Fin 8400) (i2 : Fin 4) : val_main_call14_v1 (F := Ideal) (ix3 i0 i1 i2) = val_main_call14_cst_0 (F := Ideal) ix0 := (val_main_call14_v1_apply (ix3 i0 i1 i2)).trans (congrArg _ (ix0_eta _).symm)

theorem a_call14_v3 (i0 : Fin 16) (i1 : Fin 8400) (i2 : Fin 4) (i3 : Fin 1) : val_main_call14_v3 (F := Ideal) x1 (ix4 i0 i1 i2 i3) = val_main_call14_v2 (F := Ideal) x1 (ix3 i0 i1 i2) := (val_main_call14_v3_apply x1 (ix4 i0 i1 i2 i3)).trans (congrArg _ (g59 i0 i1 i2 i3))

theorem a_call14_v4 (i0 : Fin 16) (i1 : Fin 8400) (i2 : Fin 4) (i3 : Fin 16) : val_main_call14_v4 (F := Ideal) x1 (ix4 i0 i1 i2 i3) = val_main_call14_v3 (F := Ideal) x1 (ix4 i0 i1 i2 0) := (val_main_call14_v4_apply x1 (ix4 i0 i1 i2 i3)).trans (congrArg _ (g60 i0 i1 i2 i3))

theorem a_call14_v7 (i0 : Fin 16) (i1 : Fin 8400) (i2 : Fin 4) : val_main_call14_v7 (F := Ideal) x1 (ix3 i0 i1 i2) = ∑ k : Fin 16, val_main_call14_v6 (F := Ideal) x1 (ix4 i0 i1 i2 k) := by
  rw [val_main_call14_v7_apply x1 (ix3 i0 i1 i2), val_main_call14_cst_1_apply]
  exact (congrArg (· + _) Ideal.ofBits_zero_f32).trans ((zero_add _).trans (Finset.sum_congr rfl fun k _ => congrArg _ (g61 i0 i1 i2 k)))

theorem a_call14_v8 (i0 : Fin 16) (i1 : Fin 8400) (i2 : Fin 4) (i3 : Fin 1) : val_main_call14_v8 (F := Ideal) x1 (ix4 i0 i1 i2 i3) = val_main_call14_v7 (F := Ideal) x1 (ix3 i0 i1 i2) := (val_main_call14_v8_apply x1 (ix4 i0 i1 i2 i3)).trans (congrArg _ (g59 i0 i1 i2 i3))

theorem a_call14_v10 (i0 : Fin 16) (i1 : Fin 8400) (i2 : Fin 4) (i3 : Fin 16) : val_main_call14_v10 (F := Ideal) x1 (ix4 i0 i1 i2 i3) = val_main_call14_v9 (F := Ideal) x1 (ix4 i0 i1 i2 0) := (val_main_call14_v10_apply x1 (ix4 i0 i1 i2 i3)).trans (congrArg _ (g60 i0 i1 i2 i3))

theorem a_v596 (i0 : Fin 16) (i1 : Fin 8400) (i2 : Fin 4) (i3 : Fin 1) : val_main_v596 (F := Ideal) x0 x2 x3 x4 x5 (ix4 i0 i1 i2 i3) = val_main_v595 (F := Ideal) x0 x2 x3 x4 x5 (ix3 i0 i1 i2) := (val_main_v596_apply x0 x2 x3 x4 x5 (ix4 i0 i1 i2 i3)).trans (congrArg _ (g59 i0 i1 i2 i3))

theorem a_call15_v0 (i0 : Fin 16) (i1 : Fin 8400) (i2 : Fin 4) (i3 : Fin 1) : val_main_call15_v0 (F := Ideal) (ix4 i0 i1 i2 i3) = val_main_call15_c (F := Ideal) ix0 := (val_main_call15_v0_apply (ix4 i0 i1 i2 i3)).trans (congrArg _ (ix0_eta _).symm)

theorem a_call15_v2 (i0 : Fin 16) (i1 : Fin 8400) (i2 : Fin 4) (i3 : Fin 1) : val_main_call15_v2 (F := Ideal) (ix4 i0 i1 i2 i3) = val_main_call15_c_0 (F := Ideal) ix0 := (val_main_call15_v2_apply (ix4 i0 i1 i2 i3)).trans (congrArg _ (ix0_eta _).symm)

theorem a_call15_v5 (i0 : Fin 16) (i1 : Fin 8400) (i2 : Fin 4) (i3 : Fin 1) (i4 : Fin 1) : val_main_call15_v5 (F := Ideal) x0 x2 x3 x4 x5 (ix5 i0 i1 i2 i3 i4) = val_main_call15_v4 (F := Ideal) x0 x2 x3 x4 x5 (ix4 i0 i1 i2 0) := (val_main_call15_v5_apply x0 x2 x3 x4 x5 (ix5 i0 i1 i2 i3 i4)).trans (congrArg _ (g63 i0 i1 i2 i3 i4))

theorem a_v598 (i0 : Fin 16) (i1 : Fin 8400) (i2 : Fin 4) : val_main_v598 (F := Ideal) x0 x1 x2 x3 x4 x5 (ix3 i0 i1 i2) = val_main_v597 (F := Ideal) x0 x1 x2 x3 x4 x5 (ix4 i0 i1 i2 0) := (val_main_v598_apply x0 x1 x2 x3 x4 x5 (ix3 i0 i1 i2)).trans (congrArg _ (g64 i0 i1 i2))

theorem a_v600 (i0 : Fin 16) (i1 : Fin 8400) (i2 : Fin 4) : val_main_v600 (F := Ideal) (ix3 i0 i1 i2) = val_main_cst_86 (F := Ideal) ix0 := (val_main_v600_apply (ix3 i0 i1 i2)).trans (congrArg _ (ix0_eta _).symm)

theorem a_v603 (i0 : Fin 16) (i1 : Fin 8400) (i2 : Fin 4) (i3 : Fin 1) : val_main_v603 (F := Ideal) x0 x2 x3 x4 x5 (ix4 i0 i1 i2 i3) = val_main_v602 (F := Ideal) x0 x2 x3 x4 x5 (ix3 i0 i1 i2) := (val_main_v603_apply x0 x2 x3 x4 x5 (ix4 i0 i1 i2 i3)).trans (congrArg _ (g59 i0 i1 i2 i3))

theorem a_call16_v0 (i0 : Fin 16) (i1 : Fin 8400) (i2 : Fin 4) (i3 : Fin 1) : val_main_call16_v0 (F := Ideal) (ix4 i0 i1 i2 i3) = val_main_call16_c (F := Ideal) ix0 := (val_main_call16_v0_apply (ix4 i0 i1 i2 i3)).trans (congrArg _ (ix0_eta _).symm)

theorem a_call16_v2 (i0 : Fin 16) (i1 : Fin 8400) (i2 : Fin 4) (i3 : Fin 1) : val_main_call16_v2 (F := Ideal) (ix4 i0 i1 i2 i3) = val_main_call16_c_0 (F := Ideal) ix0 := (val_main_call16_v2_apply (ix4 i0 i1 i2 i3)).trans (congrArg _ (ix0_eta _).symm)

theorem a_call16_v5 (i0 : Fin 16) (i1 : Fin 8400) (i2 : Fin 4) (i3 : Fin 1) (i4 : Fin 1) : val_main_call16_v5 (F := Ideal) x0 x2 x3 x4 x5 (ix5 i0 i1 i2 i3 i4) = val_main_call16_v4 (F := Ideal) x0 x2 x3 x4 x5 (ix4 i0 i1 i2 0) := (val_main_call16_v5_apply x0 x2 x3 x4 x5 (ix5 i0 i1 i2 i3 i4)).trans (congrArg _ (g63 i0 i1 i2 i3 i4))

theorem a_v605 (i0 : Fin 16) (i1 : Fin 8400) (i2 : Fin 4) : val_main_v605 (F := Ideal) x0 x1 x2 x3 x4 x5 (ix3 i0 i1 i2) = val_main_v604 (F := Ideal) x0 x1 x2 x3 x4 x5 (ix4 i0 i1 i2 0) := (val_main_v605_apply x0 x1 x2 x3 x4 x5 (ix3 i0 i1 i2)).trans (congrArg _ (g64 i0 i1 i2))

theorem a_v607 (i0 : Fin 16) (i1 : Fin 8400) (i2 : Fin 4) : val_main_v607 (F := Ideal) (ix3 i0 i1 i2) = val_main_cst_87 (F := Ideal) ix0 := (val_main_v607_apply (ix3 i0 i1 i2)).trans (congrArg _ (ix0_eta _).symm)

theorem a_v614 (i0 : Fin 16) (i1 : Fin 8400) : val_main_v614 (F := Ideal) x0 x1 x2 x3 x4 x5 (ix2 i0 i1) = ∑ k : Fin 4, val_main_v613 (F := Ideal) x0 x1 x2 x3 x4 x5 (ix3 i0 i1 k) := by
  rw [val_main_v614_apply x0 x1 x2 x3 x4 x5 (ix2 i0 i1), val_main_cst_88_apply]
  exact (congrArg (· + _) Ideal.ofBits_zero_f32).trans ((zero_add _).trans (Finset.sum_congr rfl fun k _ => congrArg _ (g65 i0 i1 k)))

theorem a_v615 (i0 : Fin 16) (i1 : Fin 8400) : val_main_v615 (F := Ideal) (ix2 i0 i1) = val_main_cst_89 (F := Ideal) ix0 := (val_main_v615_apply (ix2 i0 i1)).trans (congrArg _ (ix0_eta _).symm)

theorem a_v617 (i0 : Fin 16) (i1 : Fin 8400) : val_main_v617 (F := Ideal) x0 x2 x3 x4 (ix2 i0 i1) = ∑ k : Fin 80, val_main_v347 (F := Ideal) x0 x2 x3 x4 (ix3 i0 i1 k) := by
  rw [val_main_v617_apply x0 x2 x3 x4 (ix2 i0 i1), val_main_cst_90_apply]
  exact (congrArg (· + _) Ideal.ofBits_zero_f32).trans ((zero_add _).trans (Finset.sum_congr rfl fun k _ => congrArg _ (g47 i0 i1 k)))

theorem a_v618 (i0 : Fin 16) : val_main_v618 (F := Ideal) x0 x2 x3 x4 (ix1 i0) = ∑ k : Fin 8400, val_main_v617 (F := Ideal) x0 x2 x3 x4 (ix2 i0 k) := by
  rw [val_main_v618_apply x0 x2 x3 x4 (ix1 i0), val_main_cst_91_apply]
  exact (congrArg (· + _) Ideal.ofBits_zero_f32).trans ((zero_add _).trans (Finset.sum_congr rfl fun k _ => congrArg _ (g66 i0 k)))

theorem a_v619 (i0 : Fin 16) (i1 : Fin 8400) : val_main_v619 (F := Ideal) x0 (ix2 i0 i1) = ∑ k : Fin 80, val_main_v354 (F := Ideal) x0 (ix3 i0 i1 k) := by
  rw [val_main_v619_apply x0 (ix2 i0 i1), val_main_cst_92_apply]
  exact (congrArg (· + _) Ideal.ofBits_zero_f32).trans ((zero_add _).trans (Finset.sum_congr rfl fun k _ => congrArg _ (g47 i0 i1 k)))

theorem a_v620 (i0 : Fin 16) : val_main_v620 (F := Ideal) x0 (ix1 i0) = ∑ k : Fin 8400, val_main_v619 (F := Ideal) x0 (ix2 i0 k) := by
  rw [val_main_v620_apply x0 (ix1 i0), val_main_cst_93_apply]
  exact (congrArg (· + _) Ideal.ofBits_zero_f32).trans ((zero_add _).trans (Finset.sum_congr rfl fun k _ => congrArg _ (g66 i0 k)))

theorem a_v622 (i0 : Fin 16) (i1 : Fin 8400) : val_main_v622 (F := Ideal) x0 x2 x3 x4 (ix2 i0 i1) = ∑ k : Fin 80, val_main_v621 (F := Ideal) x0 x2 x3 x4 (ix3 i0 i1 k) := by
  rw [val_main_v622_apply x0 x2 x3 x4 (ix2 i0 i1), val_main_cst_94_apply]
  exact (congrArg (· + _) Ideal.ofBits_zero_f32).trans ((zero_add _).trans (Finset.sum_congr rfl fun k _ => congrArg _ (g47 i0 i1 k)))

theorem a_v623 (i0 : Fin 16) : val_main_v623 (F := Ideal) x0 x2 x3 x4 (ix1 i0) = ∑ k : Fin 8400, val_main_v622 (F := Ideal) x0 x2 x3 x4 (ix2 i0 k) := by
  rw [val_main_v623_apply x0 x2 x3 x4 (ix1 i0), val_main_cst_95_apply]
  exact (congrArg (· + _) Ideal.ofBits_zero_f32).trans ((zero_add _).trans (Finset.sum_congr rfl fun k _ => congrArg _ (g66 i0 k)))

theorem a_v624 (i0 : Fin 16) (i1 : Fin 8400) : val_main_v624 (F := Ideal) (ix2 i0 i1) = val_main_cst_96 (F := Ideal) ix0 := (val_main_v624_apply (ix2 i0 i1)).trans (congrArg _ (ix0_eta _).symm)

theorem a_v628 (i0 : Fin 16) : val_main_v628 (F := Ideal) x0 x2 x3 x4 x5 (ix1 i0) = ∑ k : Fin 8400, val_main_v627 (F := Ideal) x0 x2 x3 x4 x5 (ix2 i0 k) := by
  rw [val_main_v628_apply x0 x2 x3 x4 x5 (ix1 i0), val_main_cst_97_apply]
  exact (congrArg (· + _) Ideal.ofBits_zero_f32).trans ((zero_add _).trans (Finset.sum_congr rfl fun k _ => congrArg _ (g66 i0 k)))

theorem a_v631 (i0 : Fin 16) : val_main_v631 (F := Ideal) x0 x1 x2 x3 x4 x5 (ix1 i0) = ∑ k : Fin 8400, val_main_v630 (F := Ideal) x0 x1 x2 x3 x4 x5 (ix2 i0 k) := by
  rw [val_main_v631_apply x0 x1 x2 x3 x4 x5 (ix1 i0), val_main_cst_98_apply]
  exact (congrArg (· + _) Ideal.ofBits_zero_f32).trans ((zero_add _).trans (Finset.sum_congr rfl fun k _ => congrArg _ (g66 i0 k)))

theorem a_v633 (i0 : Fin 16) (i1 : Fin 8) (i2 : Fin 128) : val_main_v633 (F := Ideal) (ix3 i0 i1 i2) = val_main_cst_99 (F := Ideal) ix0 := (val_main_v633_apply (ix3 i0 i1 i2)).trans (congrArg _ (ix0_eta _).symm)

theorem a_v634 (i0 : Fin 16) (i1 : Fin 8) (i2 : Fin 128) : val_main_v634 (F := Ideal) (ix3 i0 i1 i2) = val_main_c_100 (F := Ideal) ix0 := (val_main_v634_apply (ix3 i0 i1 i2)).trans (congrArg _ (ix0_eta _).symm)

theorem a_v636 (i0 : Fin 16) (i1 : Fin 1) (i2 : Fin 1) : val_main_v636 (F := Ideal) x0 x2 x3 x4 (ix3 i0 i1 i2) = val_main_v618 (F := Ideal) x0 x2 x3 x4 (ix1 i0) := (val_main_v636_apply x0 x2 x3 x4 (ix3 i0 i1 i2)).trans (congrArg _ (g68 i0 i1 i2))

theorem a_call17_v0 (i0 : Fin 16) (i1 : Fin 8) (i2 : Fin 128) : val_main_call17_v0 (F := Ideal) x0 x2 x3 x4 (ix3 i0 i1 i2) = val_main_v636 (F := Ideal) x0 x2 x3 x4 (ix3 i0 0 0) := (val_main_call17_v0_apply x0 x2 x3 x4 (ix3 i0 i1 i2)).trans (congrArg _ (g69 i0 i1 i2))

theorem a_v638 (i0 : Fin 16) (i1 : Fin 8) (i2 : Fin 128) : val_main_v638 (F := Ideal) (ix3 i0 i1 i2) = val_main_c_101 (F := Ideal) ix0 := (val_main_v638_apply (ix3 i0 i1 i2)).trans (congrArg _ (ix0_eta _).symm)

theorem a_v640 (i0 : Fin 16) (i1 : Fin 1) (i2 : Fin 1) : val_main_v640 (F := Ideal) x0 (ix3 i0 i1 i2) = val_main_v620 (F := Ideal) x0 (ix1 i0) := (val_main_v640_apply x0 (ix3 i0 i1 i2)).trans (congrArg _ (g68 i0 i1 i2))

theorem a_call18_v0 (i0 : Fin 16) (i1 : Fin 8) (i2 : Fin 128) : val_main_call18_v0 (F := Ideal) x0 (ix3 i0 i1 i2) = val_main_v640 (F := Ideal) x0 (ix3 i0 0 0) := (val_main_call18_v0_apply x0 (ix3 i0 i1 i2)).trans (congrArg _ (g69 i0 i1 i2))

theorem a_v642 (i0 : Fin 16) (i1 : Fin 8) (i2 : Fin 128) : val_main_v642 (F := Ideal) (ix3 i0 i1 i2) = val_main_c_102 (F := Ideal) ix0 := (val_main_v642_apply (ix3 i0 i1 i2)).trans (congrArg _ (ix0_eta _).symm)

theorem a_v644 (i0 : Fin 16) (i1 : Fin 1) (i2 : Fin 1) : val_main_v644 (F := Ideal) x0 x2 x3 x4 (ix3 i0 i1 i2) = val_main_v623 (F := Ideal) x0 x2 x3 x4 (ix1 i0) := (val_main_v644_apply x0 x2 x3 x4 (ix3 i0 i1 i2)).trans (congrArg _ (g68 i0 i1 i2))

theorem a_call19_v0 (i0 : Fin 16) (i1 : Fin 8) (i2 : Fin 128) : val_main_call19_v0 (F := Ideal) x0 x2 x3 x4 (ix3 i0 i1 i2) = val_main_v644 (F := Ideal) x0 x2 x3 x4 (ix3 i0 0 0) := (val_main_call19_v0_apply x0 x2 x3 x4 (ix3 i0 i1 i2)).trans (congrArg _ (g69 i0 i1 i2))

theorem a_v646 (i0 : Fin 16) (i1 : Fin 8) (i2 : Fin 128) : val_main_v646 (F := Ideal) (ix3 i0 i1 i2) = val_main_c_103 (F := Ideal) ix0 := (val_main_v646_apply (ix3 i0 i1 i2)).trans (congrArg _ (ix0_eta _).symm)

theorem a_v648 (i0 : Fin 16) (i1 : Fin 1) (i2 : Fin 1) : val_main_v648 (F := Ideal) x0 x2 x3 x4 x5 (ix3 i0 i1 i2) = val_main_v628 (F := Ideal) x0 x2 x3 x4 x5 (ix1 i0) := (val_main_v648_apply x0 x2 x3 x4 x5 (ix3 i0 i1 i2)).trans (congrArg _ (g68 i0 i1 i2))

theorem a_call20_v0 (i0 : Fin 16) (i1 : Fin 8) (i2 : Fin 128) : val_main_call20_v0 (F := Ideal) x0 x2 x3 x4 x5 (ix3 i0 i1 i2) = val_main_v648 (F := Ideal) x0 x2 x3 x4 x5 (ix3 i0 0 0) := (val_main_call20_v0_apply x0 x2 x3 x4 x5 (ix3 i0 i1 i2)).trans (congrArg _ (g69 i0 i1 i2))

theorem a_v650 (i0 : Fin 16) (i1 : Fin 8) (i2 : Fin 128) : val_main_v650 (F := Ideal) (ix3 i0 i1 i2) = val_main_c_104 (F := Ideal) ix0 := (val_main_v650_apply (ix3 i0 i1 i2)).trans (congrArg _ (ix0_eta _).symm)

theorem a_v652 (i0 : Fin 16) (i1 : Fin 1) (i2 : Fin 1) : val_main_v652 (F := Ideal) x0 x1 x2 x3 x4 x5 (ix3 i0 i1 i2) = val_main_v631 (F := Ideal) x0 x1 x2 x3 x4 x5 (ix1 i0) := (val_main_v652_apply x0 x1 x2 x3 x4 x5 (ix3 i0 i1 i2)).trans (congrArg _ (g68 i0 i1 i2))

theorem a_call21_v0 (i0 : Fin 16) (i1 : Fin 8) (i2 : Fin 128) : val_main_call21_v0 (F := Ideal) x0 x1 x2 x3 x4 x5 (ix3 i0 i1 i2) = val_main_v652 (F := Ideal) x0 x1 x2 x3 x4 x5 (ix3 i0 0 0) := (val_main_call21_v0_apply x0 x1 x2 x3 x4 x5 (ix3 i0 i1 i2)).trans (congrArg _ (g69 i0 i1 i2))

end Cert.ReferenceIdeal.Read
-- ==== Proof.RTop.lean ====
/-
  The reference's result as five lanes, and its second lane as a plain double sum.
-/
module

public import proofs.«01_k».proof.Proof.RRead
public import proofs.«01_k».proof.Proof.Spec

@[expose] public section

noncomputable section

namespace Cert.ReferenceIdeal.Read

open Idealize.ShloMosaic Idealize.ShloMosaic.TcCoe Idealize.SL.Sem Cert.ReferenceIdeal Cert.Spec
open Idealize.ShloMosaic (ix0 ix1 ix2 ix3 ix4)

variable (x0 : (⟨S16x8400x80, .f32⟩ : BufTy).Contents (Elt Ideal))
  (x1 : (⟨S16x8400x4x16, .f32⟩ : BufTy).Contents (Elt Ideal))
  (x2 : (⟨S16x8400x4, .f32⟩ : BufTy).Contents (Elt Ideal)) (x3 : (⟨S16x32x5, .f32⟩ : BufTy).Contents (Elt Ideal))
  (x4 : (⟨S8400x2, .f32⟩ : BufTy).Contents (Elt Ideal)) (x5 : (⟨S8400, .f32⟩ : BufTy).Contents (Elt Ideal))

theorem result_lanes (b : Fin 16) (r : Fin 8) (l : Fin 128) :
    val_main_v653 (F := Ideal) x0 x1 x2 x3 x4 x5 (ix3 b r l)
      = lanes (val_main_v618 (F := Ideal) x0 x2 x3 x4 (ix1 b)) (val_main_v620 (F := Ideal) x0 (ix1 b))
          (val_main_v623 (F := Ideal) x0 x2 x3 x4 (ix1 b)) (val_main_v628 (F := Ideal) x0 x2 x3 x4 x5 (ix1 b))
          (val_main_v631 (F := Ideal) x0 x1 x2 x3 x4 x5 (ix1 b)) l := by
  simp only [
    val_main_v632_apply, val_main_cst_99_apply, a_v633, val_main_c_100_apply, a_v634, val_main_v635_apply,
    a_v636, a_call17_v0, val_main_v637_apply, val_main_c_101_apply, a_v638, val_main_v639_apply, a_v640,
    a_call18_v0, val_main_v641_apply, val_main_c_102_apply, a_v642, val_main_v643_apply, a_v644, a_call19_v0,
    val_main_v645_apply, val_main_c_103_apply, a_v646, val_main_v647_apply, a_v648, a_call20_v0,
    val_main_v649_apply, val_main_c_104_apply, a_v650, val_main_v651_apply, a_v652, a_call21_v0,
    val_main_v653_apply,
    select_lane, ix3_2]
  exact congrArg _ (congrArg _ (congrArg _ (congrArg _ (congrArg _ Ideal.ofBits_zero_f32))))

theorem bce_sum (b : Fin 16) :
    val_main_v620 (F := Ideal) x0 (ix1 b)
      = ∑ a : Fin 8400, ∑ k : Fin 80, bce (x0 (ix3 b a k)) := by
  simp only [
    val_main_cst_48_apply, a_v348, val_main_v349_apply, val_main_v350_apply, val_main_v351_apply,
    val_main_v352_apply, val_main_v353_apply, val_main_v354_apply, a_v619, a_v620]
  refine Finset.sum_congr rfl fun a _ => Finset.sum_congr rfl fun k _ => ?_
  show max (x0 (ix3 b a k)) (Ideal.ofBits .f32 0x00000000#32)
    + Ideal.log1p (Ideal.exp (-(FloatOps.absf (F := Ideal) (φ := .f32) (x0 (ix3 b a k))))) = _
  rw [Ideal.ofBits_zero_f32]
  unfold bce
  rw [zero_sub]

end Cert.ReferenceIdeal.Read
-- ==== Proof.SCiou.lean ====
/-
  The overlap of two boxes, and the arctangent's polynomial, as functions of numbers.
-/
module

public import Idealize.ShloMosaic.PureOps.Ideal.Laws

@[expose] public section

noncomputable section

namespace Cert.Spec

open Idealize.ShloMosaic

/-- The small constant under the quotients. -/
def eps : Ideal .f32 := Ideal.ofBits .f32 0x3089705F#32

/-- A quotient brought into the polynomial's range. -/
def inner (x : Ideal .f32) : Ideal .f32 := if 1 < x then Ideal.div 1 x else x

/-- The odd polynomial's six outer coefficients, in the square. -/
def poly6 (u : Ideal .f32) : Ideal .f32 :=
  ((((Ideal.ofBits .f32 0xBB8B852F#32 * u + Ideal.ofBits .f32 0x3CB8E0FC#32) * u + Ideal.ofBits .f32 0xBD68FDE7#32) * u
    + Ideal.ofBits .f32 0x3DC6D9A1#32) * u + Ideal.ofBits .f32 0xBE0EAD3F#32) * u + Ideal.ofBits .f32 0x3E4C4CA9#32

/-- The polynomial. -/
def poly (t : Ideal .f32) : Ideal .f32 :=
  ((poly6 (t * t) * (t * t) + Ideal.ofBits .f32 0xBEAAA697#32) * (t * t) + Ideal.ofBits .f32 0x3F7FFFF6#32) * t

/-- The arctangent. -/
def atan (x : Ideal .f32) : Ideal .f32 :=
  if 1 < x then Ideal.ofBits .f32 0x3FC90FDB#32 - poly (inner x) else poly (inner x)

variable (ax1 ay1 ax2 ay2 bx1 by1 bx2 by2 : Ideal .f32)

/-- The common area of two boxes. -/
def inter : Ideal .f32 := max (min ax2 bx2 - max ax1 bx1) 0 * max (min ay2 by2 - max ay1 by1) 0

/-- The common area over the union. -/
def iou : Ideal .f32 :=
  Ideal.div (inter ax1 ay1 ax2 ay2 bx1 by1 bx2 by2)
    ((ax2 - ax1) * (ay2 - ay1) + (bx2 - bx1) * (by2 - by1) - inter ax1 ay1 ax2 ay2 bx1 by1 bx2 by2 + eps)

/-- The squared diagonal of the box around both. -/
def diag : Ideal .f32 :=
  (max ax2 bx2 - min ax1 bx1) * (max ax2 bx2 - min ax1 bx1) + (max ay2 by2 - min ay1 by1) * (max ay2 by2 - min ay1 by1) + eps

/-- The squared distance of the centres. -/
def rho : Ideal .f32 :=
  ((ax1 + ax2 - bx1 - bx2) * (ax1 + ax2 - bx1 - bx2) + (ay1 + ay2 - by1 - by2) * (ay1 + ay2 - by1 - by2))
    * Ideal.ofBits .f32 0x3E800000#32

/-- The difference of the two boxes' angles. -/
def angle : Ideal .f32 :=
  atan (Ideal.div (ax2 - ax1 + eps) (ay2 - ay1 + eps)) - atan (Ideal.div (bx2 - bx1 + eps) (by2 - by1 + eps))

/-- The overlap from its parts, `g` the weighted square of the angles' difference. -/
def assemble (i c r g : Ideal .f32) : Ideal .f32 :=
  i - Ideal.div r c - Ideal.div g (1 - i + g + eps) * g

/-- The overlap. -/
def ciou : Ideal .f32 :=
  assemble (iou ax1 ay1 ax2 ay2 bx1 by1 bx2 by2) (diag ax1 ay1 ax2 ay2 bx1 by1 bx2 by2) (rho ax1 ay1 ax2 ay2 bx1 by1 bx2 by2)
    (Ideal.ofBits .f32 0x3ECF817B#32 * (angle ax1 ay1 ax2 ay2 bx1 by1 bx2 by2 * angle ax1 ay1 ax2 ay2 bx1 by1 bx2 by2))

/-- A number held between zero and one. -/
def clip (x : Ideal .f32) : Ideal .f32 := min 1 (max 0 x)

/-- One where the anchor lies inside the box. -/
def inside (x1 y1 x2 y2 px py : Ideal .f32) : Ideal .f32 :=
  if x1 < px ∧ px < x2 ∧ y1 < py ∧ py < y2 then 1 else 0

end Cert.Spec
-- ==== Proof.RIou.lean ====
/-
  The reference's overlap of every target with every prediction.
-/
module

public import proofs.«01_k».proof.Proof.RRead
public import proofs.«01_k».proof.Proof.SCiou
public import Idealize.ShloMosaic.Lib.IdealHost

@[expose] public section

noncomputable section

namespace Cert.ReferenceIdeal.Read

open Idealize.ShloMosaic Idealize.ShloMosaic.TcCoe Idealize.SL.Sem Cert.ReferenceIdeal Cert.Spec
open Idealize.ShloMosaic (ix0 ix1 ix2 ix3 ix4)

section
variable (x y : Ideal .f32)
theorem o_mul : FloatOps.mulf x y = x * y := rfl
theorem o_add : FloatOps.addf x y = x + y := rfl
theorem o_sub : FloatOps.subf x y = x - y := rfl
theorem o_max : FloatOps.maximumf x y = max x y := rfl
theorem o_min : FloatOps.minimumf x y = min x y := rfl
theorem o_div : FloatOps.hostDivf x y = Ideal.div x y := rfl
theorem o_gt : FloatOps.cmpf .ogt x y = BitVec.ofBool (decide (y < x)) := rfl
theorem o_lt : FloatOps.cmpf .olt x y = BitVec.ofBool (decide (x < y)) := rfl
theorem o_ge : FloatOps.cmpf .oge x y = BitVec.ofBool (decide (y ≤ x)) := rfl
theorem o_zero : (FloatOps.ofBits .f32 0x00000000#32 : Ideal .f32) = 0 := Ideal.ofBits_zero_f32
theorem o_one : (FloatOps.ofBits .f32 0x3F800000#32 : Ideal .f32) = 1 := Ideal.ofBits_one_f32
theorem o_bits (b : BitVec 32) : (FloatOps.ofBits .f32 b : Ideal .f32) = Ideal.ofBits .f32 b := rfl

/-- Choosing by a decided condition. -/
theorem select_dec (p : Prop) [Decidable p] :
    (Scalar.select (BitVec.ofBool (decide p)) x y : Ideal .f32) = if p then x else y := by
  by_cases p <;> simp [*, Scalar.select]

/-- A quarter of a number. -/
theorem div_four : Ideal.div x (Ideal.ofBits .f32 0x40800000#32) = x * Ideal.ofBits .f32 0x3E800000#32 := by
  have h4 : (Ideal.ofBits .f32 0x40800000#32 : EReal) = ((4 : ℝ) : EReal) := by
    simp [Ideal.ofBits, Ideal.ieee, -EReal.coe_mul]; norm_num
  have hq : (Ideal.ofBits .f32 0x3E800000#32 : EReal) = ((1/4 : ℝ) : EReal) := by
    simp [Ideal.ofBits, Ideal.ieee, -EReal.coe_mul]; norm_num
  rw [h4, hq]
  unfold Ideal.div
  rw [if_neg (by norm_num), ← EReal.coe_inv]
  norm_num
end

variable (x0 : (⟨S16x8400x80, .f32⟩ : BufTy).Contents (Elt Ideal))
  (x2 : (⟨S16x8400x4, .f32⟩ : BufTy).Contents (Elt Ideal)) (x3 : (⟨S16x32x5, .f32⟩ : BufTy).Contents (Elt Ideal))
  (x4 : (⟨S8400x2, .f32⟩ : BufTy).Contents (Elt Ideal)) (x5 : (⟨S8400, .f32⟩ : BufTy).Contents (Elt Ideal))
  (b : Fin 16) (t : Fin 32) (a : Fin 8400)

theorem r_v104 : val_main_v104 (F := Ideal) x2 x3 (ix3 b t a)
    = iou (x3 (ix3 b t 1)) (x3 (ix3 b t 2)) (x3 (ix3 b t 3)) (x3 (ix3 b t 4)) (x2 (ix3 b a 0)) (x2 (ix3 b a 1)) (x2 (ix3 b a 2)) (x2 (ix3 b a 3)) := by
  simp only [
    a_v5, a_v39, a_v40, a_v41, a_v42, a_v43, a_v44, a_v45, a_v46, val_main_v47_apply, a_v48, a_v49, a_v50,
    a_v51, a_v52, a_v53, val_main_v54_apply, a_v55, a_v56, a_v57, a_v58, a_v59, a_v60, val_main_v61_apply,
    a_v62, a_v63, a_v64, a_v65, a_v66, a_v67, val_main_v68_apply, val_main_v69_apply, val_main_cst_apply,
    a_v70, val_main_v71_apply, val_main_v72_apply, val_main_cst_0_apply, a_v73, val_main_v74_apply,
    val_main_v75_apply, a_v76, a_v77, a_v78, a_v79, val_main_v80_apply, a_v81, a_v82, a_v83, a_v84,
    val_main_v85_apply, val_main_v86_apply, a_v87, a_v88, a_v89, a_v90, val_main_v91_apply, a_v92, a_v93,
    a_v94, a_v95, val_main_v96_apply, val_main_v97_apply, a_v98, a_v99, val_main_v100_apply,
    val_main_v101_apply, val_main_cst_1_apply, a_v102, val_main_v103_apply, val_main_v104_apply,
    o_mul, o_add, o_sub, o_max, o_min, o_div, o_gt, o_lt, o_ge, o_bits, Ideal.ofBits_zero_f32, Ideal.ofBits_one_f32, select_dec]
  rfl

theorem r_v139 : val_main_v139 (F := Ideal) x2 x3 (ix3 b t a)
    = diag (x3 (ix3 b t 1)) (x3 (ix3 b t 2)) (x3 (ix3 b t 3)) (x3 (ix3 b t 4)) (x2 (ix3 b a 0)) (x2 (ix3 b a 1)) (x2 (ix3 b a 2)) (x2 (ix3 b a 3)) := by
  simp only [
    a_v5, a_v39, a_v40, a_v105, a_v106, a_v107, a_v108, a_v109, a_v110, val_main_v111_apply, a_v112, a_v113,
    a_v114, a_v115, a_v116, a_v117, val_main_v118_apply, val_main_v119_apply, a_v120, a_v121, a_v122, a_v123,
    a_v124, a_v125, val_main_v126_apply, a_v127, a_v128, a_v129, a_v130, a_v131, a_v132, val_main_v133_apply,
    val_main_v134_apply, val_main_v135_apply, val_main_v136_apply, val_main_v137_apply, val_main_cst_2_apply,
    a_v138, val_main_v139_apply,
    o_mul, o_add, o_sub, o_max, o_min, o_div, o_gt, o_lt, o_ge, o_bits, Ideal.ofBits_zero_f32, Ideal.ofBits_one_f32, select_dec]
  rfl

theorem r_v172 : val_main_v172 (F := Ideal) x2 x3 (ix3 b t a)
    = rho (x3 (ix3 b t 1)) (x3 (ix3 b t 2)) (x3 (ix3 b t 3)) (x3 (ix3 b t 4)) (x2 (ix3 b a 0)) (x2 (ix3 b a 1)) (x2 (ix3 b a 2)) (x2 (ix3 b a 3)) := by
  simp only [
    a_v5, a_v39, a_v40, a_v140, a_v141, a_v142, a_v143, val_main_v144_apply, a_v145, a_v146, a_v147, a_v148,
    val_main_v149_apply, a_v150, a_v151, a_v152, val_main_v153_apply, val_main_v154_apply, a_v155, a_v156,
    a_v157, a_v158, val_main_v159_apply, a_v160, a_v161, a_v162, a_v163, val_main_v164_apply, a_v165, a_v166,
    a_v167, val_main_v168_apply, val_main_v169_apply, val_main_v170_apply, val_main_cst_3_apply, a_v171,
    val_main_v172_apply,
    o_mul, o_add, o_sub, o_max, o_min, o_div, o_gt, o_lt, o_ge, o_bits, Ideal.ofBits_zero_f32, Ideal.ofBits_one_f32, select_dec, div_four]
  rfl

theorem r_v201 : val_main_v201 (F := Ideal) x3 (ix3 b t 0)
    = Ideal.div (x3 (ix3 b t 3) - x3 (ix3 b t 1) + eps) (x3 (ix3 b t 4) - x3 (ix3 b t 2) + eps) := by
  simp only [
    a_v5, a_v39, a_v173, a_v174, a_v175, a_v176, val_main_v177_apply, val_main_cst_4_apply, a_v178,
    val_main_v179_apply, a_v180, a_v181, a_v182, a_v183, val_main_v184_apply, val_main_cst_5_apply, a_v185,
    val_main_v186_apply, val_main_v201_apply,
    o_mul, o_add, o_sub, o_max, o_min, o_div, o_gt, o_lt, o_ge, o_bits, Ideal.ofBits_zero_f32, Ideal.ofBits_one_f32, select_dec]
  rfl

theorem r_v233 : val_main_v233 (F := Ideal) x3 (ix3 b t 0)
    = atan (val_main_v201 (F := Ideal) x3 (ix3 b t 0)) := by
  simp only [
    val_main_cst_8_apply, a_v202, val_main_v203_apply, val_main_cst_9_apply, a_v204, val_main_v205_apply,
    val_main_v206_apply, val_main_v207_apply, val_main_cst_10_apply, a_v208, val_main_v209_apply,
    val_main_cst_11_apply, a_v210, val_main_v211_apply, val_main_v212_apply, val_main_cst_12_apply, a_v213,
    val_main_v214_apply, val_main_v215_apply, val_main_cst_13_apply, a_v216, val_main_v217_apply,
    val_main_v218_apply, val_main_cst_14_apply, a_v219, val_main_v220_apply, val_main_v221_apply,
    val_main_cst_15_apply, a_v222, val_main_v223_apply, val_main_v224_apply, val_main_cst_16_apply, a_v225,
    val_main_v226_apply, val_main_v227_apply, val_main_cst_17_apply, a_v228, val_main_v229_apply,
    val_main_v230_apply, val_main_cst_18_apply, a_v231, val_main_v232_apply, val_main_v233_apply,
    o_mul, o_add, o_sub, o_max, o_min, o_div, o_gt, o_lt, o_ge, o_bits, Ideal.ofBits_zero_f32, Ideal.ofBits_one_f32, select_dec]
  rfl

theorem r_v234 : val_main_v234 (F := Ideal) x2 (ix3 b 0 a)
    = Ideal.div (x2 (ix3 b a 2) - x2 (ix3 b a 0) + eps) (x2 (ix3 b a 3) - x2 (ix3 b a 1) + eps) := by
  simp only [
    a_v40, a_v187, a_v188, a_v189, a_v190, val_main_v191_apply, val_main_cst_6_apply, a_v192,
    val_main_v193_apply, a_v194, a_v195, a_v196, a_v197, val_main_v198_apply, val_main_cst_7_apply, a_v199,
    val_main_v200_apply, val_main_v234_apply,
    o_mul, o_add, o_sub, o_max, o_min, o_div, o_gt, o_lt, o_ge, o_bits, Ideal.ofBits_zero_f32, Ideal.ofBits_one_f32, select_dec]
  rfl

theorem r_v266 : val_main_v266 (F := Ideal) x2 (ix3 b 0 a)
    = atan (val_main_v234 (F := Ideal) x2 (ix3 b 0 a)) := by
  simp only [
    val_main_cst_19_apply, a_v235, val_main_v236_apply, val_main_cst_20_apply, a_v237, val_main_v238_apply,
    val_main_v239_apply, val_main_v240_apply, val_main_cst_21_apply, a_v241, val_main_v242_apply,
    val_main_cst_22_apply, a_v243, val_main_v244_apply, val_main_v245_apply, val_main_cst_23_apply, a_v246,
    val_main_v247_apply, val_main_v248_apply, val_main_cst_24_apply, a_v249, val_main_v250_apply,
    val_main_v251_apply, val_main_cst_25_apply, a_v252, val_main_v253_apply, val_main_v254_apply,
    val_main_cst_26_apply, a_v255, val_main_v256_apply, val_main_v257_apply, val_main_cst_27_apply, a_v258,
    val_main_v259_apply, val_main_v260_apply, val_main_cst_28_apply, a_v261, val_main_v262_apply,
    val_main_v263_apply, val_main_cst_29_apply, a_v264, val_main_v265_apply, val_main_v266_apply,
    o_mul, o_add, o_sub, o_max, o_min, o_div, o_gt, o_lt, o_ge, o_bits, Ideal.ofBits_zero_f32, Ideal.ofBits_one_f32, select_dec]
  rfl

theorem r_v272 : val_main_v272 (F := Ideal) x2 x3 (ix3 b t a)
    = Ideal.ofBits .f32 0x3ECF817B#32 * (angle (x3 (ix3 b t 1)) (x3 (ix3 b t 2)) (x3 (ix3 b t 3)) (x3 (ix3 b t 4)) (x2 (ix3 b a 0)) (x2 (ix3 b a 1)) (x2 (ix3 b a 2)) (x2 (ix3 b a 3)) * angle (x3 (ix3 b t 1)) (x3 (ix3 b t 2)) (x3 (ix3 b t 3)) (x3 (ix3 b t 4)) (x2 (ix3 b a 0)) (x2 (ix3 b a 1)) (x2 (ix3 b a 2)) (x2 (ix3 b a 3))) := by
  simp only [
    a_v267, a_v268, val_main_v269_apply, val_main_v270_apply, val_main_cst_30_apply, a_v271,
    val_main_v272_apply,
    o_mul, o_add, o_sub, o_max, o_min, o_div, o_gt, o_lt, o_ge, o_bits, Ideal.ofBits_zero_f32, Ideal.ofBits_one_f32, select_dec, r_v233, r_v266, r_v201, r_v234]
  rfl

theorem r_v286 : val_main_v286 (F := Ideal) x2 x3 (ix3 b t a)
    = clip (ciou (x3 (ix3 b t 1)) (x3 (ix3 b t 2)) (x3 (ix3 b t 3)) (x3 (ix3 b t 4)) (x2 (ix3 b a 0)) (x2 (ix3 b a 1)) (x2 (ix3 b a 2)) (x2 (ix3 b a 3))) := by
  simp only [
    val_main_cst_31_apply, a_v273, val_main_v274_apply, val_main_v275_apply, val_main_cst_32_apply, a_v276,
    val_main_v277_apply, val_main_v278_apply, val_main_v279_apply, val_main_v280_apply, val_main_v281_apply,
    val_main_v282_apply, val_main_cst_33_apply, a_v283, val_main_v284_apply, val_main_cst_34_apply, a_v285,
    val_main_v286_apply,
    o_mul, o_add, o_sub, o_max, o_min, o_div, o_gt, o_lt, o_ge, o_bits, Ideal.ofBits_zero_f32, Ideal.ofBits_one_f32, select_dec, r_v104, r_v139, r_v172, r_v272]
  unfold clip ciou assemble
  rw [min_comm, max_comm]
  rfl

end Cert.ReferenceIdeal.Read
-- ==== Proof.RGather.lean ====
/-
  The reference's gathers, read at an index: the operand at the start index, held within the axis.
-/
module

public import proofs.«01_k».proof.Proof.RRead
public import Idealize.ShloMosaic.Lib.ValueIdxCore

@[expose] public section

noncomputable section

namespace Cert.ReferenceIdeal.Read

open Idealize.ShloMosaic Idealize.ShloMosaic.TcCoe Idealize.SL.Sem Cert.ReferenceIdeal
open Idealize.ShloMosaic (ix0 ix1 ix2 ix3 ix4 ix5)

theorem gather296 {α : Type} (x : S16x80x8400.Idx → α) (idx : IVec S16x32x8400x1 32) (b : Fin 16) (t : Fin 32) (a : Fin 8400) :
    Host.gather gather_S16x80x8400_S16x32x8400x1_S16x32x8400_n_1_02_02_1_3_111 x idx (ix3 b t a)
      = x (ix3 b ⟨min (idx (ix4 b t a 0)).toInt.toNat 79, by omega⟩ a) := by
  unfold Host.gather
  congr 1
  funext i
  refine Fin.ext ?_
  match i with
  | ⟨0, _⟩ =>
    show (gather_S16x80x8400_S16x32x8400x1_S16x32x8400_n_1_02_02_1_3_111).start (ix3 b t a) idx 0 + (gather_S16x80x8400_S16x32x8400x1_S16x32x8400_n_1_02_02_1_3_111).batchCoord (ix3 b t a) 0 + (gather_S16x80x8400_S16x32x8400x1_S16x32x8400_n_1_02_02_1_3_111).offCoord (ix3 b t a) 0 = _
    rw [GatherDims.start_batching _ _ _ _ (by decide), GatherDims.offCoord_eq_zero _ _ _ (by decide)]
    unfold GatherDims.batchCoord
    rw [dif_pos (by decide), Nat.zero_add, Nat.add_zero]
    rfl
  | ⟨1, _⟩ =>
    show (gather_S16x80x8400_S16x32x8400x1_S16x32x8400_n_1_02_02_1_3_111).start (ix3 b t a) idx 1 + (gather_S16x80x8400_S16x32x8400x1_S16x32x8400_n_1_02_02_1_3_111).batchCoord (ix3 b t a) 1 + (gather_S16x80x8400_S16x32x8400x1_S16x32x8400_n_1_02_02_1_3_111).offCoord (ix3 b t a) 1 = _
    rw [GatherDims.batchCoord_eq_zero _ _ _ (by decide), GatherDims.offCoord_eq_zero _ _ _ (by decide)]
    unfold GatherDims.start
    rw [dif_pos (by decide)]
    have hsi : (gather_S16x80x8400_S16x32x8400x1_S16x32x8400_n_1_02_02_1_3_111).siIdx (ix3 b t a) ⟨List.idxOf (1 : Fin 3) (gather_S16x80x8400_S16x32x8400x1_S16x32x8400_n_1_02_02_1_3_111).startIndexMap,
        List.idxOf_lt_length_iff.2 (by decide)⟩ = (ix4 b t a 0) := by
      funext b'; refine Fin.ext ?_
      match b' with
      | ⟨0, _⟩ => rfl
      | ⟨1, _⟩ => rfl
      | ⟨2, _⟩ => rfl
      | ⟨3, _⟩ => rfl
    rw [hsi]
    rfl
  | ⟨2, _⟩ =>
    show (gather_S16x80x8400_S16x32x8400x1_S16x32x8400_n_1_02_02_1_3_111).start (ix3 b t a) idx 2 + (gather_S16x80x8400_S16x32x8400x1_S16x32x8400_n_1_02_02_1_3_111).batchCoord (ix3 b t a) 2 + (gather_S16x80x8400_S16x32x8400x1_S16x32x8400_n_1_02_02_1_3_111).offCoord (ix3 b t a) 2 = _
    rw [GatherDims.start_batching _ _ _ _ (by decide), GatherDims.offCoord_eq_zero _ _ _ (by decide)]
    unfold GatherDims.batchCoord
    rw [dif_pos (by decide), Nat.zero_add, Nat.add_zero]
    rfl

theorem gather337 {α : Type} (x : S16x8400x32.Idx → α) (idx : IVec S16x8400x1x1 32) (b : Fin 16) (a : Fin 8400) (z : Fin 1) :
    Host.gather gather_S16x8400x32_S16x8400x1x1_S16x8400x1_n_2_01_01_2_3_111 x idx (ix3 b a z)
      = x (ix3 b a ⟨min (idx (ix4 b a z 0)).toInt.toNat 31, by omega⟩) := by
  unfold Host.gather
  congr 1
  funext i
  refine Fin.ext ?_
  match i with
  | ⟨0, _⟩ =>
    show (gather_S16x8400x32_S16x8400x1x1_S16x8400x1_n_2_01_01_2_3_111).start (ix3 b a z) idx 0 + (gather_S16x8400x32_S16x8400x1x1_S16x8400x1_n_2_01_01_2_3_111).batchCoord (ix3 b a z) 0 + (gather_S16x8400x32_S16x8400x1x1_S16x8400x1_n_2_01_01_2_3_111).offCoord (ix3 b a z) 0 = _
    rw [GatherDims.start_batching _ _ _ _ (by decide), GatherDims.offCoord_eq_zero _ _ _ (by decide)]
    unfold GatherDims.batchCoord
    rw [dif_pos (by decide), Nat.zero_add, Nat.add_zero]
    rfl
  | ⟨1, _⟩ =>
    show (gather_S16x8400x32_S16x8400x1x1_S16x8400x1_n_2_01_01_2_3_111).start (ix3 b a z) idx 1 + (gather_S16x8400x32_S16x8400x1x1_S16x8400x1_n_2_01_01_2_3_111).batchCoord (ix3 b a z) 1 + (gather_S16x8400x32_S16x8400x1x1_S16x8400x1_n_2_01_01_2_3_111).offCoord (ix3 b a z) 1 = _
    rw [GatherDims.start_batching _ _ _ _ (by decide), GatherDims.offCoord_eq_zero _ _ _ (by decide)]
    unfold GatherDims.batchCoord
    rw [dif_pos (by decide), Nat.zero_add, Nat.add_zero]
    rfl
  | ⟨2, _⟩ =>
    show (gather_S16x8400x32_S16x8400x1x1_S16x8400x1_n_2_01_01_2_3_111).start (ix3 b a z) idx 2 + (gather_S16x8400x32_S16x8400x1x1_S16x8400x1_n_2_01_01_2_3_111).batchCoord (ix3 b a z) 2 + (gather_S16x8400x32_S16x8400x1x1_S16x8400x1_n_2_01_01_2_3_111).offCoord (ix3 b a z) 2 = _
    rw [GatherDims.batchCoord_eq_zero _ _ _ (by decide), GatherDims.offCoord_eq_zero _ _ _ (by decide)]
    unfold GatherDims.start
    rw [dif_pos (by decide)]
    have hsi : (gather_S16x8400x32_S16x8400x1x1_S16x8400x1_n_2_01_01_2_3_111).siIdx (ix3 b a z) ⟨List.idxOf (2 : Fin 3) (gather_S16x8400x32_S16x8400x1x1_S16x8400x1_n_2_01_01_2_3_111).startIndexMap,
        List.idxOf_lt_length_iff.2 (by decide)⟩ = (ix4 b a z 0) := by
      funext b'; refine Fin.ext ?_
      match b' with
      | ⟨0, _⟩ => rfl
      | ⟨1, _⟩ => rfl
      | ⟨2, _⟩ => rfl
      | ⟨3, _⟩ => rfl
    rw [hsi]
    rfl

theorem gather340 {α : Type} (x : S16x32x4.Idx → α) (idx : IVec S16x8400x1 32) (b : Fin 16) (a : Fin 8400) (j : Fin 4) :
    Host.gather gather_S16x32x4_S16x8400x1_S16x8400x4_2_1_0_0_1_2_114 x idx (ix3 b a j)
      = x (ix3 b ⟨min (idx (ix3 b a 0)).toInt.toNat 31, by omega⟩ j) := by
  unfold Host.gather
  congr 1
  funext i
  refine Fin.ext ?_
  match i with
  | ⟨0, _⟩ =>
    show (gather_S16x32x4_S16x8400x1_S16x8400x4_2_1_0_0_1_2_114).start (ix3 b a j) idx 0 + (gather_S16x32x4_S16x8400x1_S16x8400x4_2_1_0_0_1_2_114).batchCoord (ix3 b a j) 0 + (gather_S16x32x4_S16x8400x1_S16x8400x4_2_1_0_0_1_2_114).offCoord (ix3 b a j) 0 = _
    rw [GatherDims.start_batching _ _ _ _ (by decide), GatherDims.offCoord_eq_zero _ _ _ (by decide)]
    unfold GatherDims.batchCoord
    rw [dif_pos (by decide), Nat.zero_add, Nat.add_zero]
    rfl
  | ⟨1, _⟩ =>
    show (gather_S16x32x4_S16x8400x1_S16x8400x4_2_1_0_0_1_2_114).start (ix3 b a j) idx 1 + (gather_S16x32x4_S16x8400x1_S16x8400x4_2_1_0_0_1_2_114).batchCoord (ix3 b a j) 1 + (gather_S16x32x4_S16x8400x1_S16x8400x4_2_1_0_0_1_2_114).offCoord (ix3 b a j) 1 = _
    rw [GatherDims.batchCoord_eq_zero _ _ _ (by decide), GatherDims.offCoord_eq_zero _ _ _ (by decide)]
    unfold GatherDims.start
    rw [dif_pos (by decide)]
    have hsi : (gather_S16x32x4_S16x8400x1_S16x8400x4_2_1_0_0_1_2_114).siIdx (ix3 b a j) ⟨List.idxOf (1 : Fin 3) (gather_S16x32x4_S16x8400x1_S16x8400x4_2_1_0_0_1_2_114).startIndexMap,
        List.idxOf_lt_length_iff.2 (by decide)⟩ = (ix3 b a 0) := by
      funext b'; refine Fin.ext ?_
      match b' with
      | ⟨0, _⟩ => rfl
      | ⟨1, _⟩ => rfl
      | ⟨2, _⟩ => rfl
    rw [hsi]
    rfl
  | ⟨2, _⟩ =>
    show (gather_S16x32x4_S16x8400x1_S16x8400x4_2_1_0_0_1_2_114).start (ix3 b a j) idx 2 + (gather_S16x32x4_S16x8400x1_S16x8400x4_2_1_0_0_1_2_114).batchCoord (ix3 b a j) 2 + (gather_S16x32x4_S16x8400x1_S16x8400x4_2_1_0_0_1_2_114).offCoord (ix3 b a j) 2 = _
    rw [GatherDims.batchCoord_eq_zero _ _ _ (by decide)]
    unfold GatherDims.start GatherDims.offCoord
    rw [dif_neg (by decide), dif_pos (by decide), Nat.zero_add]
    rfl

theorem gather341 {α : Type} (x : S16x32.Idx → α) (idx : IVec S16x8400x1 32) (b : Fin 16) (a : Fin 8400) :
    Host.gather gather_S16x32_S16x8400x1_S16x8400_n_1_0_0_1_2_11 x idx (ix2 b a)
      = x (ix2 b ⟨min (idx (ix3 b a 0)).toInt.toNat 31, by omega⟩) := by
  unfold Host.gather
  congr 1
  funext i
  refine Fin.ext ?_
  match i with
  | ⟨0, _⟩ =>
    show (gather_S16x32_S16x8400x1_S16x8400_n_1_0_0_1_2_11).start (ix2 b a) idx 0 + (gather_S16x32_S16x8400x1_S16x8400_n_1_0_0_1_2_11).batchCoord (ix2 b a) 0 + (gather_S16x32_S16x8400x1_S16x8400_n_1_0_0_1_2_11).offCoord (ix2 b a) 0 = _
    rw [GatherDims.start_batching _ _ _ _ (by decide), GatherDims.offCoord_eq_zero _ _ _ (by decide)]
    unfold GatherDims.batchCoord
    rw [dif_pos (by decide), Nat.zero_add, Nat.add_zero]
    rfl
  | ⟨1, _⟩ =>
    show (gather_S16x32_S16x8400x1_S16x8400_n_1_0_0_1_2_11).start (ix2 b a) idx 1 + (gather_S16x32_S16x8400x1_S16x8400_n_1_0_0_1_2_11).batchCoord (ix2 b a) 1 + (gather_S16x32_S16x8400x1_S16x8400_n_1_0_0_1_2_11).offCoord (ix2 b a) 1 = _
    rw [GatherDims.batchCoord_eq_zero _ _ _ (by decide), GatherDims.offCoord_eq_zero _ _ _ (by decide)]
    unfold GatherDims.start
    rw [dif_pos (by decide)]
    have hsi : (gather_S16x32_S16x8400x1_S16x8400_n_1_0_0_1_2_11).siIdx (ix2 b a) ⟨List.idxOf (1 : Fin 2) (gather_S16x32_S16x8400x1_S16x8400_n_1_0_0_1_2_11).startIndexMap,
        List.idxOf_lt_length_iff.2 (by decide)⟩ = (ix3 b a 0) := by
      funext b'; refine Fin.ext ?_
      match b' with
      | ⟨0, _⟩ => rfl
      | ⟨1, _⟩ => rfl
      | ⟨2, _⟩ => rfl
    rw [hsi]
    rfl

theorem gather597 {α : Type} (x : S16x8400x4x16.Idx → α) (idx : IVec S16x8400x4x1x1 32) (b : Fin 16) (a : Fin 8400) (j : Fin 4) (z : Fin 1) :
    Host.gather gather_S16x8400x4x16_S16x8400x4x1x1_S16x8400x4x1_n_3_012_012_3_4_1111 x idx (ix4 b a j z)
      = x (ix4 b a j ⟨min (idx (ix5 b a j z 0)).toInt.toNat 15, by omega⟩) := by
  unfold Host.gather
  congr 1
  funext i
  refine Fin.ext ?_
  match i with
  | ⟨0, _⟩ =>
    show (gather_S16x8400x4x16_S16x8400x4x1x1_S16x8400x4x1_n_3_012_012_3_4_1111).start (ix4 b a j z) idx 0 + (gather_S16x8400x4x16_S16x8400x4x1x1_S16x8400x4x1_n_3_012_012_3_4_1111).batchCoord (ix4 b a j z) 0 + (gather_S16x8400x4x16_S16x8400x4x1x1_S16x8400x4x1_n_3_012_012_3_4_1111).offCoord (ix4 b a j z) 0 = _
    rw [GatherDims.start_batching _ _ _ _ (by decide), GatherDims.offCoord_eq_zero _ _ _ (by decide)]
    unfold GatherDims.batchCoord
    rw [dif_pos (by decide), Nat.zero_add, Nat.add_zero]
    rfl
  | ⟨1, _⟩ =>
    show (gather_S16x8400x4x16_S16x8400x4x1x1_S16x8400x4x1_n_3_012_012_3_4_1111).start (ix4 b a j z) idx 1 + (gather_S16x8400x4x16_S16x8400x4x1x1_S16x8400x4x1_n_3_012_012_3_4_1111).batchCoord (ix4 b a j z) 1 + (gather_S16x8400x4x16_S16x8400x4x1x1_S16x8400x4x1_n_3_012_012_3_4_1111).offCoord (ix4 b a j z) 1 = _
    rw [GatherDims.start_batching _ _ _ _ (by decide), GatherDims.offCoord_eq_zero _ _ _ (by decide)]
    unfold GatherDims.batchCoord
    rw [dif_pos (by decide), Nat.zero_add, Nat.add_zero]
    rfl
  | ⟨2, _⟩ =>
    show (gather_S16x8400x4x16_S16x8400x4x1x1_S16x8400x4x1_n_3_012_012_3_4_1111).start (ix4 b a j z) idx 2 + (gather_S16x8400x4x16_S16x8400x4x1x1_S16x8400x4x1_n_3_012_012_3_4_1111).batchCoord (ix4 b a j z) 2 + (gather_S16x8400x4x16_S16x8400x4x1x1_S16x8400x4x1_n_3_012_012_3_4_1111).offCoord (ix4 b a j z) 2 = _
    rw [GatherDims.start_batching _ _ _ _ (by decide), GatherDims.offCoord_eq_zero _ _ _ (by decide)]
    unfold GatherDims.batchCoord
    rw [dif_pos (by decide), Nat.zero_add, Nat.add_zero]
    rfl
  | ⟨3, _⟩ =>
    show (gather_S16x8400x4x16_S16x8400x4x1x1_S16x8400x4x1_n_3_012_012_3_4_1111).start (ix4 b a j z) idx 3 + (gather_S16x8400x4x16_S16x8400x4x1x1_S16x8400x4x1_n_3_012_012_3_4_1111).batchCoord (ix4 b a j z) 3 + (gather_S16x8400x4x16_S16x8400x4x1x1_S16x8400x4x1_n_3_012_012_3_4_1111).offCoord (ix4 b a j z) 3 = _
    rw [GatherDims.batchCoord_eq_zero _ _ _ (by decide), GatherDims.offCoord_eq_zero _ _ _ (by decide)]
    unfold GatherDims.start
    rw [dif_pos (by decide)]
    have hsi : (gather_S16x8400x4x16_S16x8400x4x1x1_S16x8400x4x1_n_3_012_012_3_4_1111).siIdx (ix4 b a j z) ⟨List.idxOf (3 : Fin 4) (gather_S16x8400x4x16_S16x8400x4x1x1_S16x8400x4x1_n_3_012_012_3_4_1111).startIndexMap,
        List.idxOf_lt_length_iff.2 (by decide)⟩ = (ix5 b a j z 0) := by
      funext b'; refine Fin.ext ?_
      match b' with
      | ⟨0, _⟩ => rfl
      | ⟨1, _⟩ => rfl
      | ⟨2, _⟩ => rfl
      | ⟨3, _⟩ => rfl
      | ⟨4, _⟩ => rfl
    rw [hsi]
    rfl

end Cert.ReferenceIdeal.Read
-- ==== Proof.RSort.lean ====
/-
  The reference's two selections, read at an index: the sorted positions of a row of extended reals, greater first and
  equal values in index order.
-/
module

public import proofs.«01_k».proof.Proof.RRead
public import Idealize.ShloMosaic.Lib.SortPrefix
public import Idealize.ShloMosaic.Lib.ValueIdxCore

@[expose] public section

noncomputable section

namespace Cert.Sort

open Idealize.ShloMosaic

/-- Position `k` sorts strictly before position `k'`: its value is greater. -/
def before {n : ℕ} (y : Fin n → EReal) (k k' : Fin n) : Bool := decide (y k' < y k)

/-- The same, equal values in index order. -/
def before' {n : ℕ} (y : Fin n → EReal) (k k' : Fin n) : Bool :=
  decide (y k' < y k) || (decide (y k = y k') && decide (k < k'))

theorem total' {n : ℕ} (y : Fin n → EReal) : StrictTotalBefore (before' y) :=
  StrictTotalBefore.of_key_then_position (fun a b : EReal => decide (b < a)) y (fun a => by simp)
    (fun a b c h1 h2 => by simp only [decide_eq_true_eq] at *; exact h2.trans h1)
    (fun a b => by simp only [decide_eq_true_eq]; rcases lt_trichotomy a b with h | h | h <;> simp [h])

theorem insert_eq {n : ℕ} (y : Fin n → EReal) (a : Fin n) (l : List (Fin n)) (h : ∀ b ∈ l, a < b) :
    insertBefore (before y) a l = insertBefore (before' y) a l := by
  induction l with
  | nil => rfl
  | cons b l ih =>
    have hb : before y b a = before' y b a := by
      unfold before before'
      rw [decide_eq_false (not_lt.2 (h b (by simp)).le), Bool.and_false, Bool.or_false]
    unfold insertBefore
    rw [hb, ih fun c hc => h c (by simp [hc])]

theorem sort_eq {n : ℕ} (y : Fin n → EReal) (l : List (Fin n)) (h : l.Pairwise (· < ·)) :
    stableSort (before y) l = stableSort (before' y) l := by
  induction l with
  | nil => rfl
  | cons a l ih =>
    rw [List.pairwise_cons] at h
    unfold stableSort
    rw [ih h.2]
    exact insert_eq y a _ fun b hb => h.1 b ((perm_stableSort _ l).mem_iff.1 hb)

theorem from_eq {n : ℕ} (y : Fin n → EReal) (k : Fin n) : sortedFrom (before y) k = sortedFrom (before' y) k := by
  have e : sortPositions n (before y) = sortPositions n (before' y) := sort_eq y _ (List.pairwise_lt_finRange n)
  unfold sortedFrom
  simp only [List.get_eq_getElem, e, Fin.val_cast]

/-- Sorted positions: the values do not rise. -/
theorem from_le {n : ℕ} (y : Fin n → EReal) {i j : Fin n} (h : i < j) :
    y (sortedFrom (before y) j) ≤ y (sortedFrom (before y) i)
      ∧ (y (sortedFrom (before y) j) = y (sortedFrom (before y) i) → sortedFrom (before y) i < sortedFrom (before y) j) := by
  have hT := total' y
  have hno := sortedFrom_noInversion (before' y) (before' y) (fun a b h => hT.asymm a b h) (fun _ _ h => h) hT.negTrans i j h
  have hne : sortedFrom (before' y) i ≠ sortedFrom (before' y) j := fun e => h.ne (sortedFrom_injective _ e)
  rw [from_eq, from_eq]
  unfold before' at hno
  rw [Bool.or_eq_false_iff, Bool.and_eq_false_iff] at hno
  simp only [decide_eq_false_iff_not] at hno
  refine ⟨not_lt.1 hno.1, fun e => ?_⟩
  rcases hno.2 with h1 | h1
  · exact absurd e h1
  · exact lt_of_le_of_ne (not_lt.1 h1) hne

/-- Value `k` of the selection exceeds `v` exactly when more than `k` of the row do. -/
theorem lt_from {n : ℕ} (y : Fin n → EReal) (k : Fin n) (v : EReal) :
    v < y (sortedFrom (before y) k) ↔ k.val < (Finset.univ.filter fun i => v < y i).card := by
  classical
  set σ := sortedFrom (before y) with hσ
  have hanti : ∀ i j : Fin n, i ≤ j → y (σ j) ≤ y (σ i) := fun i j h => by
    rcases h.eq_or_lt with rfl | h
    · exact le_rfl
    · exact (from_le y h).1
  have hinj : Function.Injective σ := sortedFrom_injective _
  constructor
  · intro h
    have hsub : (Finset.univ.filter fun i : Fin n => i ≤ k).image σ ⊆ Finset.univ.filter fun i => v < y i := by
      intro p hp
      simp only [Finset.mem_image, Finset.mem_filter, Finset.mem_univ, true_and] at hp ⊢
      obtain ⟨i, hi, rfl⟩ := hp
      exact h.trans_le (hanti i k hi)
    have hc := Finset.card_le_card hsub
    rw [Finset.card_image_of_injective _ hinj] at hc
    have : (Finset.univ.filter fun i : Fin n => i ≤ k).card = k.val + 1 := by
      have : (Finset.univ.filter fun i : Fin n => i ≤ k) = Finset.Iic k := by ext; simp
      rw [this, Fin.card_Iic]
    omega
  · intro h
    by_contra hv
    have hsub : (Finset.univ.filter fun i => v < y i) ⊆ (Finset.univ.filter fun i : Fin n => i < k).image σ := by
      intro p hp
      simp only [Finset.mem_image, Finset.mem_filter, Finset.mem_univ, true_and] at hp ⊢
      obtain ⟨i, rfl⟩ := sortedFrom_surjective (before y) p
      refine ⟨i, ?_, rfl⟩
      by_contra hi
      exact hv (hp.trans_le (hanti k i (not_lt.1 hi)))
    have hc := Finset.card_le_card hsub
    rw [Finset.card_image_of_injective _ hinj] at hc
    have : (Finset.univ.filter fun i : Fin n => i < k).card = k.val := by
      have : (Finset.univ.filter fun i : Fin n => i < k) = Finset.Iio k := by ext; simp
      rw [this, Fin.card_Iio]
    omega

/-- The first selected position is the first position of the row's maximum. -/
theorem from_zero {n : ℕ} (y : Fin (n + 1) → EReal) (i : Fin (n + 1)) :
    y i ≤ y (sortedFrom (before y) 0) ∧ (y i = y (sortedFrom (before y) 0) → sortedFrom (before y) 0 ≤ i) := by
  obtain ⟨j, rfl⟩ := sortedFrom_surjective (before y) i
  rcases (Fin.zero_le j).eq_or_lt with rfl | h
  · exact ⟨le_rfl, fun _ => le_rfl⟩
  · exact ⟨(from_le y h).1, fun e => ((from_le y h).2 e).le⟩

end Cert.Sort

namespace Cert.ReferenceIdeal.Read

open Idealize.ShloMosaic Idealize.ShloMosaic.TcCoe Idealize.SL.Sem Cert.ReferenceIdeal
open Idealize.ShloMosaic (ix0 ix1 ix2 ix3 ix4)

theorem gt_eq (x y : Ideal .f32) : (FloatOps.cmpfTotal (F := Ideal) (φ := .f32) .gt x y == 1#1) = decide (y < x) := by
  show (BitVec.ofBool (decide (y < x)) == 1#1) = decide (y < x)
  by_cases h : y < x <;> simp [h]

theorem along10 (j : S16x32x8400.Idx) (k : Fin 8400) : j.along 2 k = ix3 (j 0) (j 1) k := by
  funext i
  match i with
  | ⟨0, _⟩ => rfl
  | ⟨1, _⟩ => rfl
  | ⟨2, _⟩ => rfl

theorem along1 (j : S16x8400x32.Idx) (k : Fin 32) : j.along 2 k = ix3 (j 0) (j 1) k := by
  funext i
  match i with
  | ⟨0, _⟩ => rfl
  | ⟨1, _⟩ => rfl
  | ⟨2, _⟩ => rfl

theorem top10 (x : S16x32x8400.Idx → Ideal .f32) (h : S16x32x8400.Slices (fun _ => 0) S16x32x10) (b : Fin 16) (t : Fin 32) (k : Fin 10) :
    (Host.topK S16x32x10 2 (FloatOps.cmpfTotal (F := Ideal) (φ := .f32) .gt) x h).1 (ix3 b t k)
      = x (ix3 b t (sortedFrom (Sort.before fun a => x (ix3 b t a)) (k.castLE (by decide)))) := by
  unfold Host.topK extractStridedSlice
  dsimp only
  unfold Host.sort2
  rw [dif_pos (by decide)]
  dsimp only
  simp only [gt_eq]
  have e : ∀ j : S16x32x8400.Idx, (fun k k' : Fin 8400 => decide (x (j.along 2 k') < x (j.along 2 k)))
      = Sort.before fun a => x (ix3 (j 0) (j 1) a) := fun j => by
    funext k k'; unfold Sort.before; rw [along10, along10]; rfl
  have hk : ∀ (j : S16x32x8400.Idx) (m : Fin 8400), j 0 = b → j 1 = t → j 2 = m →
      x (j.along 2 (sortedFrom (fun k k' : Fin 8400 => decide (x (j.along 2 k') < x (j.along 2 k))) (j 2)))
        = x (ix3 b t (sortedFrom (Sort.before fun a => x (ix3 b t a)) m)) := fun j m h0 h1 h2 => by
    refine (congrArg x (along10 j _)).trans ?_
    rw [e, h0, h1, h2]
    rfl
  exact hk _ _ (Fin.ext (Nat.zero_add _)) (Fin.ext (Nat.zero_add _)) (Fin.ext (Nat.zero_add _))

theorem top1 (x : S16x8400x32.Idx → Ideal .f32) (h : S16x8400x32.Slices (fun _ => 0) S16x8400x1) (b : Fin 16) (a : Fin 8400) :
    (Host.topK S16x8400x1 2 (FloatOps.cmpfTotal (F := Ideal) (φ := .f32) .gt) x h).2 (ix3 b a 0)
      = BitVec.ofNat 32 (sortedFrom (Sort.before fun t => x (ix3 b a t)) 0).val := by
  unfold Host.topK extractStridedSlice
  dsimp only
  unfold Host.sort2
  rw [dif_pos (by decide)]
  dsimp only
  simp only [gt_eq]
  rw [dif_pos (by decide)]
  have e : ∀ j : S16x8400x32.Idx, (fun k k' : Fin 32 => decide (x (j.along 2 k') < x (j.along 2 k)))
      = Sort.before fun a => x (ix3 (j 0) (j 1) a) := fun j => by
    funext k k'; unfold Sort.before; rw [along1, along1]; rfl
  have hk : ∀ (j : S16x8400x32.Idx) (m : Fin 32), j 0 = b → j 1 = a → j 2 = m →
      BitVec.ofNat 32 (sortedFrom (fun k k' : Fin 32 => decide (x (j.along 2 k') < x (j.along 2 k))) (j 2)).val
        = BitVec.ofNat 32 (sortedFrom (Sort.before fun t => x (ix3 b a t)) m).val := fun j m h0 h1 h2 => by
    rw [e, h0, h1, h2]
  have hi : ∀ (j : S16x8400x32.Idx) (m : Fin 32), iotaInDim S16x8400x32 32 ⟨2, by decide⟩ (j.along 2 m) = BitVec.ofNat 32 m.val := fun j m => by
    rw [along1]; rfl
  exact (hi _ _).trans (hk _ _ (Fin.ext (Nat.zero_add _)) (Fin.ext (Nat.zero_add _)) (Fin.ext (Nat.zero_add _)))

end Cert.ReferenceIdeal.Read
-- ==== Proof.SMetric.lean ====
/-
  The alignment metric's ingredients as functions of numbers: the logistic function in its two writings, a sum over a
  one-hot row, and the bounds that make the metric non-negative.
-/
module

public import proofs.«01_k».proof.Proof.SCiou
public import Idealize.ShloMosaic.Lib.Pointwise

@[expose] public section

noncomputable section

namespace Cert.Spec

open Idealize.ShloMosaic

/-- The logistic function. -/
def sigm (x : Ideal .f32) : Ideal .f32 := Ideal.div 1 (1 + Ideal.exp (-x))

theorem half : (Ideal.ofBits .f32 0x3F000000#32 : EReal) = ((1 / 2 : ℝ) : EReal) := by
  simp [Ideal.ofBits, Ideal.ieee, -EReal.coe_mul]
  norm_num

/-- By the hyperbolic tangent of the half. -/
theorem sigm_tanh (x : Ideal .f32) :
    Ideal.ofBits .f32 0x3F000000#32 * Ideal.tanh (Ideal.ofBits .f32 0x3F000000#32 * x) + Ideal.ofBits .f32 0x3F000000#32 = sigm x := by
  unfold sigm
  change EReal at x
  show (_ : EReal) = _
  rw [half]
  induction x with
  | bot =>
    rw [EReal.coe_mul_bot_of_pos (by norm_num)]
    show ((1 / 2 : ℝ) : EReal) * (-1) + _ = Ideal.div 1 (1 + Ideal.exp (-⊥))
    rw [EReal.neg_bot]
    show ((1 / 2 : ℝ) : EReal) * (-1) + _ = Ideal.div 1 (1 + ⊤)
    rw [show (1 : EReal) + ⊤ = ⊤ from rfl, Ideal.div, if_neg (by simp)]
    rw [EReal.inv_top, mul_zero, show (-1 : EReal) = ((-1 : ℝ) : EReal) from rfl, ← EReal.coe_mul, ← EReal.coe_add]
    norm_num
  | top =>
    rw [EReal.coe_mul_top_of_pos (by norm_num)]
    show ((1 / 2 : ℝ) : EReal) * 1 + _ = Ideal.div 1 (1 + Ideal.exp (-⊤))
    rw [EReal.neg_top]
    show ((1 / 2 : ℝ) : EReal) * 1 + _ = Ideal.div 1 (1 + 0)
    rw [add_zero, mul_one, ← EReal.coe_add, show (1 : EReal) = ((1 : ℝ) : EReal) from rfl, Ideal.div_coe (by norm_num), ← EReal.coe_mul]
    norm_num
  | coe r =>
    rw [← EReal.coe_mul, ← EReal.coe_neg]
    show ((1 / 2 : ℝ) : EReal) * (Real.tanh (1 / 2 * r) : EReal) + _ = Ideal.div 1 (1 + (Real.exp (-r) : EReal))
    have hp : 0 < 1 + Real.exp (-r) := by positivity
    rw [show (1 : EReal) + (Real.exp (-r) : EReal) = ((1 + Real.exp (-r) : ℝ) : EReal) from rfl, Ideal.div_coe hp.ne',
      one_mul, ← EReal.coe_mul, ← EReal.coe_add]
    congr 1
    have h1 : Real.tanh (1 / 2 * r) = (1 - Real.exp (-r)) / (1 + Real.exp (-r)) := by
      rw [Real.tanh_eq_sinh_div_cosh, Real.sinh_eq, Real.cosh_eq]
      have e : Real.exp (-r) = Real.exp (-(1 / 2 * r)) * Real.exp (-(1 / 2 * r)) := by rw [← Real.exp_add]; ring_nf
      have e2 : Real.exp (1 / 2 * r) * Real.exp (-(1 / 2 * r)) = 1 := by rw [← Real.exp_add]; simp
      have p1 := Real.exp_pos (1 / 2 * r)
      have p2 := Real.exp_pos (-(1 / 2 * r))
      rw [e]
      rw [div_div_div_cancel_right₀ (by norm_num), div_eq_div_iff (by positivity) (by positivity)]
      linear_combination (2 * Real.exp (-(1 / 2 * r))) * e2
    rw [h1]
    field_simp
    ring

theorem sigm_nonneg (x : Ideal .f32) : (0 : EReal) ≤ sigm x := by
  unfold sigm
  change EReal at x
  have h0 : (0 : EReal) ≤ Ideal.exp (-x) := by
    generalize -x = y
    induction y with
    | bot => exact le_rfl
    | top => exact le_top
    | coe r =>
      show (0 : EReal) ≤ (Real.exp r : EReal)
      exact_mod_cast (Real.exp_pos r).le
  have h1 : (1 : EReal) ≤ 1 + Ideal.exp (-x) := le_add_of_nonneg_right h0
  have hz : 0 < 1 + Ideal.exp (-x) := lt_of_lt_of_le (by norm_num) h1
  show (0 : EReal) ≤ Ideal.div 1 (1 + Ideal.exp (-x))
  rw [Ideal.div, if_neg hz.ne', one_mul]
  exact EReal.inv_nonneg_of_nonneg hz.le

theorem sqrt_nonneg (x : Ideal .f32) (h : (0 : EReal) ≤ x) : (0 : EReal) ≤ Ideal.sqrt x := by
  change EReal at x
  induction x with
  | bot => exact absurd h (by simp)
  | top => exact le_top
  | coe r =>
    have hr : 0 ≤ r := by exact_mod_cast h
    show (0 : EReal) ≤ if r < 0 then ⊥ else (Real.sqrt r : EReal)
    rw [if_neg hr.not_gt]
    exact_mod_cast Real.sqrt_nonneg r

theorem clip_nonneg (x : Ideal .f32) : (0 : EReal) ≤ clip x := le_min (by norm_num) (le_max_left _ _)
theorem clip_le (x : Ideal .f32) : clip x ≤ (1 : EReal) := min_le_left _ _

/-- The metric of one target and one anchor: inside or not, the overlap's sixth power, the root of the score. -/
def metric (g i s : Ideal .f32) : Ideal .f32 := g * (i * i * (i * i) * (i * i)) * Ideal.sqrt s

theorem metric_nonneg (x1 y1 x2 y2 px py i s : Ideal .f32) (hi : (0 : EReal) ≤ i) (hs : (0 : EReal) ≤ s) :
    (0 : EReal) ≤ metric (inside x1 y1 x2 y2 px py) i s := by
  have hg : (0 : EReal) ≤ inside x1 y1 x2 y2 px py := by
    unfold inside; split
    · exact zero_le_one
    · exact le_rfl
  unfold metric
  have h2 : (0 : EReal) ≤ i * i := mul_nonneg hi hi
  exact mul_nonneg (mul_nonneg hg (mul_nonneg (mul_nonneg h2 h2) h2)) (sqrt_nonneg s hs)

/-- A class number below eighty, cut to a whole number. -/
theorem class_nat (x : Ideal .f32) (h : x < ((80 : ℝ) : EReal)) :
    ∃ κ : Fin 80, (FloatOps.fptosi 32 (max x 0 : Ideal .f32) : BitVec 32) = BitVec.ofNat 32 κ.val ∧
      IntOp.maxsi (FloatOps.fptosi 32 x : BitVec 32) 0#32 = BitVec.ofNat 32 κ.val := by
  change EReal at x
  show ∃ κ : Fin 80, Ideal.fptosi 32 (max x 0) = _ ∧ IntOp.maxsi (Ideal.fptosi 32 x) 0#32 = _
  rcases le_or_gt 0 x with h0 | h0
  · rw [max_eq_left h0]
    induction x with
    | bot => exact absurd h0 (by simp)
    | top => exact absurd h (by simp)
    | coe r =>
      have hr0 : 0 ≤ r := by exact_mod_cast h0
      have hr : r < 80 := by exact_mod_cast h
      have f0 : 0 ≤ ⌊r⌋ := Int.floor_nonneg.2 hr0
      have f1 : ⌊r⌋ < 80 := Int.floor_lt.2 (by exact_mod_cast hr)
      have e : Ideal.fptosi 32 (r : EReal) = BitVec.ofNat 32 ⌊r⌋.toNat := by
        unfold Ideal.fptosi
        rw [Ideal.toIntClamped_coe, if_pos hr0, min_eq_right (by norm_num; omega), max_eq_right (by norm_num; omega)]
        conv_lhs => rw [← Int.toNat_of_nonneg f0]
        exact BitVec.ofInt_natCast 32 _
      refine ⟨⟨⌊r⌋.toNat, by omega⟩, e, ?_⟩
      rw [e]
      have : ∀ κ : Fin 80, IntOp.maxsi (BitVec.ofNat 32 κ.val) 0#32 = BitVec.ofNat 32 κ.val := by decide
      exact this ⟨⌊r⌋.toNat, by omega⟩
  · rw [max_eq_right h0.le]
    have e0 : Ideal.fptosi 32 0 = 0#32 := by
      unfold Ideal.fptosi
      rw [show (0 : EReal) = ((0 : ℝ) : EReal) from rfl, Ideal.toIntClamped_coe]
      simp
    refine ⟨0, e0, ?_⟩
    have hi : ∃ i : ℤ, -(2 ^ 31) ≤ i ∧ i ≤ 0 ∧ Ideal.fptosi 32 x = BitVec.ofInt 32 i := by
      induction x with
      | bot => exact ⟨-(2 ^ 31), by norm_num, by norm_num, by unfold Ideal.fptosi; simp⟩
      | top => exact absurd h0 (by simp)
      | coe r =>
        have hr : r < 0 := by exact_mod_cast h0
        refine ⟨max (-(2 ^ 31)) ⌈r⌉, le_max_left _ _, max_le (by norm_num) (Int.ceil_le.2 (by simpa using hr.le)), ?_⟩
        unfold Ideal.fptosi
        have hc : ⌈r⌉ ≤ 0 := Int.ceil_le.2 (by simpa using hr.le)
        rw [Ideal.toIntClamped_coe, if_neg hr.not_ge, min_eq_right (by norm_num; omega)]
        norm_num
    obtain ⟨i, h1, h2, e⟩ := hi
    rw [e]
    have hs : (BitVec.ofInt 32 i).toInt = i := by
      rw [BitVec.toInt_ofInt, Int.bmod_eq_of_le] <;> omega
    unfold IntOp.maxsi
    rw [if_neg]
    · rfl
    · rw [BitVec.slt, hs]
      simpa using h2

/-- One bit as a number. -/
theorem bit_cmp (m : ℕ) (hm : m < 2 ^ 32) (k : ℕ) (hk : k < 2 ^ 32) :
    (FloatOps.sitofp .f32 (BitVec.setWidth 32 (IntOp.cmpi .eq (BitVec.ofNat 32 m) (BitVec.ofNat 32 k))) : Ideal .f32)
      = if m = k then 1 else 0 := by
  have : (BitVec.ofNat 32 m == BitVec.ofNat 32 k) = decide (m = k) := by
    by_cases h : m = k
    · simp [h]
    · rw [decide_eq_false h, beq_eq_false_iff_ne]
      intro e
      apply h
      have := congrArg BitVec.toNat e
      rwa [BitVec.toNat_ofNat, BitVec.toNat_ofNat, Nat.mod_eq_of_lt hm, Nat.mod_eq_of_lt hk] at this
  show (FloatOps.sitofp .f32 (BitVec.setWidth 32 (BitVec.ofBool (BitVec.ofNat 32 m == BitVec.ofNat 32 k))) : Ideal .f32) = _
  rw [this]
  by_cases h : m = k <;> simp [h, FloatOps.sitofp]

/-- A one-hot row picks its entry. -/
theorem sum_hot {n : ℕ} (hn : n < 2 ^ 32) (κ : Fin n) (f : Fin n → Ideal .f32) :
    (∑ c : Fin n, (FloatOps.sitofp .f32 (BitVec.setWidth 32 (IntOp.cmpi .eq (BitVec.ofNat 32 c.val) (BitVec.ofNat 32 κ.val))) : Ideal .f32) * f c)
      = f κ := by
  rw [Finset.sum_eq_single κ]
  · rw [bit_cmp _ (by omega) _ (by omega), if_pos rfl]; exact one_mul _
  · intro c _ hc
    rw [bit_cmp _ (by omega) _ (by omega), if_neg (fun e => hc (Fin.ext e))]; exact zero_mul _
  · intro h; exact absurd (Finset.mem_univ _) h

end Cert.Spec
-- ==== Proof.RTm.lean ====
/-
  The reference's score and alignment metric at a target and an anchor, and the largest of a row.
-/
module

public import proofs.«01_k».proof.Proof.RIou
public import proofs.«01_k».proof.Proof.RGather
public import proofs.«01_k».proof.Proof.RSort
public import proofs.«01_k».proof.Proof.SMetric

@[expose] public section

noncomputable section

namespace Cert.ReferenceIdeal.Read

open Idealize.ShloMosaic Idealize.ShloMosaic.TcCoe Idealize.SL.Sem Cert.ReferenceIdeal Cert.Spec
open Idealize.ShloMosaic (ix0 ix1 ix2 ix3 ix4)

section
variable (x0 : (⟨S16x8400x80, .f32⟩ : BufTy).Contents (Elt Ideal))
  (x2 : (⟨S16x8400x4, .f32⟩ : BufTy).Contents (Elt Ideal)) (x3 : (⟨S16x32x5, .f32⟩ : BufTy).Contents (Elt Ideal))
  (x4 : (⟨S8400x2, .f32⟩ : BufTy).Contents (Elt Ideal)) (b : Fin 16) (t : Fin 32) (a : Fin 8400)

theorem r_v4 : val_main_v4 (F := Ideal) x3 (ix2 b t) = IntOp.maxsi (FloatOps.fptosi (F := Ideal) (φ := .f32) 32 (x3 (ix3 b t 0))) 0#32 := by
  simp only [
  a_v0, a_v1, val_main_v2_apply, val_main_c_apply, a_v3, val_main_v4_apply] <;> rfl

theorem r_v309 : val_main_v309 (F := Ideal) x3 (ix2 b t) = val_main_v4 (F := Ideal) x3 (ix2 b t) := by
  rw [r_v4]
  simp only [
  a_v305, a_v306, val_main_v307_apply, val_main_c_37_apply, a_v308, val_main_v309_apply] <;> rfl

/-- Small indices are not negative, so they are not wrapped. -/
theorem wrap80 (κ : Fin 80) : Scalar.select (IntOp.cmpi .slt (BitVec.ofNat 32 κ.val) 0#32) (IntOp.addi (BitVec.ofNat 32 κ.val) 80#32) (BitVec.ofNat 32 κ.val)
    = BitVec.ofNat 32 κ.val := by
  revert κ; decide
theorem wrap32 (κ : Fin 32) : Scalar.select (IntOp.cmpi .slt (BitVec.ofNat 32 κ.val) 0#32) (IntOp.addi (BitVec.ofNat 32 κ.val) 32#32) (BitVec.ofNat 32 κ.val)
    = BitVec.ofNat 32 κ.val := by
  revert κ; decide
theorem held80 (κ : Fin 80) : min (BitVec.ofNat 32 κ.val).toInt.toNat 79 = κ.val := by revert κ; decide
theorem held32 (κ : Fin 32) : min (BitVec.ofNat 32 κ.val).toInt.toNat 31 = κ.val := by revert κ; decide

theorem r_call4 (κ : Fin 80) (h : val_main_v4 (F := Ideal) x3 (ix2 b t) = BitVec.ofNat 32 κ.val) :
    val_main_call4_v5 (F := Ideal) x3 (ix4 b t a 0) = BitVec.ofNat 32 κ.val := by
  simp only [
  a_v294, a_v295, val_main_call4_c_apply, a_call4_v0, val_main_call4_v1_apply, val_main_call4_c_0_apply,
    a_call4_v2, val_main_call4_v3_apply, val_main_call4_v4_apply, a_call4_v5, h]
  exact wrap80 κ

theorem r_v292 (κ : Fin 80) : val_main_v292 (F := Ideal) x0 (ix3 b a κ) = sigm (x0 (ix3 b a κ)) := by
  simp only [
  val_main_v287_apply, val_main_v288_apply, val_main_cst_35_apply, a_v289, val_main_v290_apply,
    val_main_cst_36_apply, a_v291, val_main_v292_apply,
    o_mul, o_add, o_sub, o_max, o_min, o_div, o_gt, o_lt, o_ge, o_bits, Ideal.ofBits_zero_f32, Ideal.ofBits_one_f32]
  rfl

theorem r_v296 (κ : Fin 80) (h : val_main_v4 (F := Ideal) x3 (ix2 b t) = BitVec.ofNat 32 κ.val) :
    val_main_v296 (F := Ideal) x0 x3 (ix3 b t a) = sigm (x0 (ix3 b a κ)) := by
  unfold val_main_v296
  refine (gather296 _ _ b t a).trans ((a_v293 x0 b _ a).trans ?_)
  rw [← r_v292]
  refine congrArg (fun k => val_main_v292 (F := Ideal) x0 (ix3 b a k)) (Fin.ext ?_)
  show min (BitVec.toInt (val_main_call4_v5 (F := Ideal) x3 (ix4 b t a 0))).toNat 79 = κ.val
  rw [r_call4 x3 b t a κ h]
  exact held80 κ

/-- One where four conditions hold, in the reference's grouping. -/
theorem bits4 (p q r s : Prop) [Decidable p] [Decidable q] [Decidable r] [Decidable s] :
    (FloatOps.uitofp .f32 (IntOp.andi (IntOp.andi (IntOp.andi (BitVec.ofBool (decide p))
      (BitVec.ofBool (decide q))) (BitVec.ofBool (decide r))) (BitVec.ofBool (decide s))) : Ideal .f32)
      = if p ∧ q ∧ r ∧ s then 1 else 0 := by
  by_cases p <;> by_cases q <;> by_cases r <;> by_cases s <;> simp [*, IntOp.andi, FloatOps.uitofp]

theorem r_grid : (FloatOps.uitofp .f32 (val_main_v38 (F := Ideal) x3 x4 (ix3 b t a)) : Ideal .f32)
    = inside (x3 (ix3 b t 1)) (x3 (ix3 b t 2)) (x3 (ix3 b t 3)) (x3 (ix3 b t 4)) (x4 (ix2 a 0)) (x4 (ix2 a 1)) := by
  simp only [
  a_v5, a_v6, a_v7, a_v8, a_v9, a_v10, a_v11, a_v12, a_v13, a_v14, a_v15, a_v16, a_v17, a_v18, a_v19, a_v20,
    a_v21, a_v22, a_v23, a_v24, a_v25, val_main_v26_apply, a_v27, a_v28, val_main_v29_apply,
    val_main_v30_apply, a_v31, a_v32, val_main_v33_apply, val_main_v34_apply, a_v35, a_v36,
    val_main_v37_apply, val_main_v38_apply,
    o_mul, o_add, o_sub, o_max, o_min, o_div, o_gt, o_lt, o_ge, o_bits, Ideal.ofBits_zero_f32, Ideal.ofBits_one_f32]
  refine (bits4 _ _ _ _).trans ?_
  unfold inside
  refine if_congr ?_ rfl rfl
  rfl

theorem r_v304 : val_main_v304 (F := Ideal) x3 x4 (ix3 b t a)
    = inside (x3 (ix3 b t 1)) (x3 (ix3 b t 2)) (x3 (ix3 b t 3)) (x3 (ix3 b t 4)) (x4 (ix2 a 0)) (x4 (ix2 a 1)) := r_grid x3 x4 b t a

theorem r_v303 (κ : Fin 80) (h : val_main_v4 (F := Ideal) x3 (ix2 b t) = BitVec.ofNat 32 κ.val) :
    val_main_v303 (F := Ideal) x0 x2 x3 x4 (ix3 b t a)
      = metric (inside (x3 (ix3 b t 1)) (x3 (ix3 b t 2)) (x3 (ix3 b t 3)) (x3 (ix3 b t 4)) (x4 (ix2 a 0)) (x4 (ix2 a 1)))
          (val_main_v286 (F := Ideal) x2 x3 (ix3 b t a)) (sigm (x0 (ix3 b a κ))) := by
  simp only [
  val_main_v297_apply, val_main_v298_apply, val_main_v299_apply, val_main_v300_apply, val_main_v301_apply,
    val_main_v302_apply, val_main_v303_apply,
    o_mul, o_add, o_sub, o_max, o_min, o_div, o_gt, o_lt, o_ge, o_bits, Ideal.ofBits_zero_f32, Ideal.ofBits_one_f32, r_grid, r_v296 x0 x3 b t a κ h]
  unfold metric
  generalize val_main_v286 (F := Ideal) x2 x3 (ix3 b t a) = i
  have e : (i * i) * ((i * i) * (i * i)) = i * i * (i * i) * (i * i) := (mul_assoc (i * i) (i * i) (i * i)).symm
  rw [e]
  rfl
end

/-- The largest of each row. -/
theorem rowMax (x : S16x32x8400.Idx → Ideal .f32) (y : S_.Idx → Ideal .f32) (h : S16x32x8400.ReducesTo [2] S16x32) (hu : 0 < S_.numel)
    (hy : ∀ i, y i = Ideal.ofBits .f32 0xFF800000#32) (b : Fin 16) (t : Fin 32) :
    Host.reduce (FloatOps.maximumf (F := Ideal) (φ := .f32)) x y h hu (ix2 b t)
      = Finset.fold max (Ideal.ofBits .f32 0xFF800000#32) (fun a => x (ix3 b t a)) Finset.univ := by
  pointwise
  rw [hy]

end Cert.ReferenceIdeal.Read
-- ==== Proof.Count.lean ====
/-
  Counting facts behind the matching: a register that keeps its place in an insertion network, a maximum taken out of a
  family of registers, and the tenth value that is left after nine such rounds.
-/
module

public import Mathlib.Data.EReal.Operations
public import Mathlib.Data.Finset.Card
public import Mathlib.Algebra.BigOperators.Group.Finset.Basic
public import Mathlib.Algebra.Order.BigOperators.Group.Finset
public import Mathlib.Data.Fintype.Prod
public import Mathlib.Data.Fintype.BigOperators
public import Mathlib.Data.Finset.Max

@[expose] public section

noncomputable section

namespace Cert.Count

open Classical

/-- How many of the first `n` entries of `x` exceed `w`. -/
def cnt (x : ℕ → EReal) (n : ℕ) (w : EReal) : ℕ := ((Finset.range n).filter fun c => w < x c).card

theorem cnt_succ (x : ℕ → EReal) (n : ℕ) (w : EReal) :
    cnt x (n + 1) w = cnt x n w + if w < x n then 1 else 0 := by
  unfold cnt
  rw [Finset.range_add_one, Finset.filter_insert]
  by_cases h : w < x n
  · rw [if_pos h, if_pos h, Finset.card_insert_of_notMem (by simp)]
  · rw [if_neg h, if_neg h, Nat.add_zero]

/-- Register `k` after `n` entries: above `w` exactly when more than `k` entries are. -/
def Reg (x : ℕ → EReal) (k n : ℕ) (r : EReal) : Prop := ∀ w, -1 ≤ w → (w < r ↔ k < cnt x n w)

/-- Entry `n` on its way past register `k`. -/
def Pend (x : ℕ → EReal) (k n : ℕ) (r : EReal) : Prop := ∀ w, -1 ≤ w → (w < r ↔ w < x n ∧ k ≤ cnt x n w)

theorem Reg.init (x : ℕ → EReal) (k : ℕ) : Reg x k 0 (-1) := fun w hw =>
  ⟨fun h => absurd h (not_lt.2 hw), fun h => by simp [cnt] at h⟩

theorem Pend.init (x : ℕ → EReal) (n : ℕ) : Pend x 0 n (x n) := fun w _ => by simp

theorem Reg.step {x : ℕ → EReal} {k n : ℕ} {r e : EReal} (hr : Reg x k n r) (he : Pend x k n e) :
    Reg x k (n + 1) (max r e) := fun w hw => by
  rw [lt_max_iff, hr w hw, he w hw, cnt_succ]
  by_cases h : w < x n
  · simp only [h, true_and, if_true]; omega
  · simp only [h, false_and, or_false, if_false, Nat.add_zero]

theorem Pend.step {x : ℕ → EReal} {k n : ℕ} {r e : EReal} (hr : Reg x k n r) (he : Pend x k n e) :
    Pend x (k + 1) n (min r e) := fun w hw => by
  rw [lt_min_iff, hr w hw, he w hw]
  constructor
  · rintro ⟨h1, h2, -⟩; exact ⟨h2, h1⟩
  · rintro ⟨h1, h2⟩; exact ⟨h2, h1, by omega⟩

/-- The number of different values above `v`. -/
def dis {ι : Type} [Fintype ι] (f : ι → EReal) (v : EReal) : ℕ := ((Finset.univ.image f).filter fun y => v < y).card

/-- Taking the maximum `m` out of a family. -/
def drop {ι : Type} (m : EReal) (f : ι → EReal) : ι → EReal := fun i => if m ≤ f i then -1 else f i

/-- `m` is the maximum of the family, said by what lies below it. -/
def IsSup {ι : Type} (f : ι → EReal) (m : EReal) : Prop := ∀ w, w < m ↔ ∃ i, w < f i

theorem dis_drop {ι : Type} [Fintype ι] [Nonempty ι] (f : ι → EReal) (m v : EReal) (hm : IsSup f m) (hv : -1 ≤ v) :
    dis (drop m f) v = dis f v - 1 := by
  have hle : ∀ i, f i ≤ m := fun i => not_lt.1 fun h => lt_irrefl m ((hm m).2 ⟨i, h⟩)
  have e : ((Finset.univ.image (drop m f)).filter fun y => v < y)
      = ((Finset.univ.image f).filter fun y => v < y).erase m := by
    ext y
    simp only [Finset.mem_filter, Finset.mem_image, Finset.mem_univ, true_and, Finset.mem_erase]
    constructor
    · rintro ⟨⟨i, rfl⟩, h⟩
      unfold drop at h ⊢
      by_cases c : m ≤ f i
      · rw [if_pos c] at h; exact absurd h (not_lt.2 hv)
      · rw [if_neg c] at h ⊢
        exact ⟨(not_le.1 c).ne, ⟨i, rfl⟩, h⟩
    · rintro ⟨hne, ⟨i, rfl⟩, h⟩
      exact ⟨⟨i, if_neg fun c => hne (le_antisymm (hle i) c)⟩, h⟩
  unfold dis
  rw [e]
  by_cases h0 : ((Finset.univ.image f).filter fun y => v < y) = ∅
  · rw [h0]; simp
  · obtain ⟨j, -, hj⟩ := Finset.exists_max_image Finset.univ f Finset.univ_nonempty
    have hmj : m = f j := le_antisymm (not_lt.1 fun h => by
      obtain ⟨i, hi⟩ := (hm (f j)).1 h
      exact absurd (hj i (Finset.mem_univ i)) (not_le.2 hi)) (hle j)
    rw [Finset.card_erase_of_mem]
    obtain ⟨y, hy⟩ := Finset.nonempty_iff_ne_empty.2 h0
    simp only [Finset.mem_filter, Finset.mem_image, Finset.mem_univ, true_and] at hy ⊢
    obtain ⟨⟨i, rfl⟩, h⟩ := hy
    exact ⟨⟨j, hmj.symm⟩, lt_of_lt_of_le h (hle i)⟩

theorem lt_sup_iff {ι : Type} [Fintype ι] (f : ι → EReal) (m v : EReal) (hm : IsSup f m) :
    v < m ↔ 1 ≤ dis f v := by
  rw [hm v]
  unfold dis
  rw [Finset.one_le_card]
  constructor
  · rintro ⟨i, h⟩; exact ⟨f i, Finset.mem_filter.2 ⟨Finset.mem_image_of_mem f (Finset.mem_univ i), h⟩⟩
  · rintro ⟨y, hy⟩
    simp only [Finset.mem_filter, Finset.mem_image, Finset.mem_univ, true_and] at hy
    obtain ⟨⟨i, rfl⟩, h⟩ := hy
    exact ⟨i, h⟩

/-- How many entries of a whole row exceed `w`. -/
def num {n : ℕ} (x : Fin n → EReal) (w : EReal) : ℕ := (Finset.univ.filter fun j => w < x j).card

/-- A row of 66 × 128 entries, its lane `l`. -/
def lane (x : Fin 8448 → EReal) (l : Fin 128) (c : ℕ) : EReal :=
  if h : 128 * c + l.val < 8448 then x ⟨128 * c + l.val, h⟩ else 0

theorem num_lanes (x : Fin 8448 → EReal) (w : EReal) : ∑ l : Fin 128, cnt (lane x l) 66 w = num x w := by
  unfold cnt num
  rw [← Finset.card_sigma]
  refine Finset.card_bij (fun p _ => if h : 128 * p.2 + p.1.val < 8448 then ⟨128 * p.2 + p.1.val, h⟩ else ⟨0, by omega⟩) ?_ ?_ ?_
  · rintro ⟨l, c⟩ h
    simp only [Finset.mem_sigma, Finset.mem_univ, true_and, Finset.mem_filter, Finset.mem_range] at h ⊢
    have hb : 128 * c + l.val < 8448 := by have := l.isLt; omega
    have h2 := h.2
    unfold lane at h2
    rw [dif_pos hb] at h2 ⊢
    exact h2
  · rintro ⟨l, c⟩ h ⟨l', c'⟩ h' e
    simp only [Finset.mem_sigma, Finset.mem_univ, true_and, Finset.mem_filter, Finset.mem_range] at h h'
    have hb : 128 * c + l.val < 8448 := by have := l.isLt; omega
    have hb' : 128 * c' + l'.val < 8448 := by have := l'.isLt; omega
    simp only [dif_pos hb, dif_pos hb', Fin.mk.injEq] at e
    have := l.isLt
    have := l'.isLt
    have e1 : l = l' := Fin.ext (by omega)
    have e2 : c = c' := by omega
    subst e1 e2
    rfl
  · intro j hj
    have hjl := j.isLt
    have hb : 128 * (j.val / 128) + j.val % 128 < 8448 := by omega
    refine ⟨⟨⟨j.val % 128, by omega⟩, j.val / 128⟩, ?_, ?_⟩
    · simp only [Finset.mem_sigma, Finset.mem_univ, true_and, Finset.mem_filter, Finset.mem_range] at hj ⊢
      refine ⟨by omega, ?_⟩
      unfold lane
      rw [dif_pos hb]
      have : (⟨128 * (j.val / 128) + j.val % 128, hb⟩ : Fin 8448) = j := Fin.ext (by show 128 * (j.val / 128) + j.val % 128 = j.val; omega)
      rw [this]; exact hj
    · rw [dif_pos hb]; exact Fin.ext (by show 128 * (j.val / 128) + j.val % 128 = j.val; omega)

variable (x : Fin 8448 → EReal) (f : Fin 10 × Fin 128 → EReal)

/-- With at most nine entries above `v`, the registers hold at most nine values above `v`. -/
theorem dis_le (hf : ∀ k l, Reg (lane x l) k.val 66 (f (k, l))) (v : EReal) (hv : -1 ≤ v) :
    dis f v ≤ num x v := by
  rw [← num_lanes]
  unfold dis
  rw [Finset.filter_image]
  refine Finset.card_image_le.trans ?_
  have e : (Finset.univ.filter fun p : Fin 10 × Fin 128 => v < f p)
      = Finset.univ.biUnion fun l : Fin 128 => (Finset.univ.filter fun k : Fin 10 => k.val < cnt (lane x l) 66 v).image fun k => (k, l) := by
    ext ⟨k, l⟩
    simp only [Finset.mem_filter, Finset.mem_univ, true_and, Finset.mem_biUnion, Finset.mem_image, Prod.mk.injEq]
    rw [hf k l v hv]
    constructor
    · intro h; exact ⟨l, k, h, rfl, rfl⟩
    · rintro ⟨l', k', h, rfl, rfl⟩; exact h
  rw [e]
  refine Finset.card_biUnion_le.trans (Finset.sum_le_sum fun l _ => Finset.card_image_le.trans ?_)
  calc (Finset.univ.filter fun k : Fin 10 => k.val < cnt (lane x l) 66 v).card
      = ((Finset.univ.filter fun k : Fin 10 => k.val < cnt (lane x l) 66 v).image fun k => k.val).card :=
        (Finset.card_image_of_injective _ Fin.val_injective).symm
    _ ≤ (Finset.range (cnt (lane x l) 66 v)).card := Finset.card_le_card fun y hy => by
        simp only [Finset.mem_image, Finset.mem_filter, Finset.mem_univ, true_and] at hy
        obtain ⟨k, hk, rfl⟩ := hy
        exact Finset.mem_range.2 hk
    _ = _ := Finset.card_range _

/-- An entry with at most nine entries above it is in a register. -/
theorem mem_regs (hf : ∀ k l, Reg (lane x l) k.val 66 (f (k, l))) (j : Fin 8448) (h0 : 0 < x j)
    (hj : num x (x j) ≤ 9) : ∃ p, f p = x j := by
  have hjl := j.isLt
  let l : Fin 128 := ⟨j.val % 128, by omega⟩
  have hb : 128 * (j.val / 128) + j.val % 128 < 8448 := by omega
  have hx : lane x l (j.val / 128) = x j := by
    unfold lane
    rw [dif_pos hb]
    exact congrArg x (Fin.ext (by show 128 * (j.val / 128) + j.val % 128 = j.val; omega))
  have hc : cnt (lane x l) 66 (x j) ≤ 9 := by
    refine le_trans ?_ hj
    rw [← num_lanes]
    exact Finset.single_le_sum (f := fun l => cnt (lane x l) 66 (x j)) (fun _ _ => Nat.zero_le _) (Finset.mem_univ l)
  have hm1 : (-1 : EReal) < 0 := by
    have : ((-1 : ℝ) : EReal) < ((0 : ℝ) : EReal) := EReal.coe_lt_coe_iff.2 (by norm_num)
    simpa using this
  refine ⟨(⟨cnt (lane x l) 66 (x j), by omega⟩, l), le_antisymm (not_lt.1 fun h => ?_) (not_lt.1 fun h => ?_)⟩
  · exact lt_irrefl _ ((hf _ l (x j) (hm1.le.trans h0.le)).1 h)
  · have hw : max (f (⟨cnt (lane x l) 66 (x j), by omega⟩, l)) (-1) < x j := max_lt h (hm1.trans h0)
    have hlt : cnt (lane x l) 66 (x j) < cnt (lane x l) 66 (max (f (⟨cnt (lane x l) 66 (x j), by omega⟩, l)) (-1)) := by
      unfold cnt at hw ⊢
      refine Finset.card_lt_card (Finset.ssubset_iff_of_subset ?_ |>.2 ⟨j.val / 128, ?_, ?_⟩)
      · intro c hc'
        simp only [Finset.mem_filter] at hc' ⊢
        exact ⟨hc'.1, hw.trans hc'.2⟩
      · simp only [Finset.mem_filter, Finset.mem_range]
        exact ⟨by omega, by rw [hx]; exact hw⟩
      · simp only [Finset.mem_filter, not_and]
        intro _; rw [hx]; exact lt_irrefl _
    have := (hf ⟨cnt (lane x l) 66 (x j), by omega⟩ l _ (le_max_right _ _)).2 hlt
    exact absurd this (not_lt.2 (le_max_left _ _))

/-- Ten different entries above `v`, each with at most nine entries above it, are ten values of the registers. -/
theorem ten_le_dis (hf : ∀ k l, Reg (lane x l) k.val 66 (f (k, l))) (v : EReal) (hv : 0 ≤ v)
    (j : Fin 10 → Fin 8448) (hinj : Function.Injective fun i => x (j i)) (hgt : ∀ i, v < x (j i))
    (h9 : ∀ i, num x (x (j i)) ≤ 9) : 10 ≤ dis f v := by
  unfold dis
  have : (Finset.univ.image fun i => x (j i)).card = 10 := by
    rw [Finset.card_image_of_injective _ hinj]; simp
  refine this.symm.le.trans (Finset.card_le_card fun y hy => ?_)
  simp only [Finset.mem_image, Finset.mem_univ, true_and, Finset.mem_filter] at hy ⊢
  obtain ⟨i, rfl⟩ := hy
  obtain ⟨p, hp⟩ := mem_regs x f hf (j i) (lt_of_le_of_lt hv (hgt i)) (h9 i)
  exact ⟨⟨p, hp⟩, hgt i⟩

end Cert.Count
-- ==== Proof.RMatch.lean ====
/-
  The reference's matching: which entries of the metric it keeps, the target it gives each anchor, and the normalised
  score it writes there.
-/
module

public import proofs.«01_k».proof.Proof.RTm
public import proofs.«01_k».proof.Proof.Count

@[expose] public section

noncomputable section

namespace Cert.ReferenceIdeal.Read

open Idealize.ShloMosaic Idealize.ShloMosaic.TcCoe Idealize.SL.Sem Cert.ReferenceIdeal Cert.Spec
open Idealize.ShloMosaic (ix0 ix1 ix2 ix3 ix4)

variable (x0 : (⟨S16x8400x80, .f32⟩ : BufTy).Contents (Elt Ideal))
  (x2 : (⟨S16x8400x4, .f32⟩ : BufTy).Contents (Elt Ideal)) (x3 : (⟨S16x32x5, .f32⟩ : BufTy).Contents (Elt Ideal))
  (x4 : (⟨S8400x2, .f32⟩ : BufTy).Contents (Elt Ideal)) (b : Fin 16) (t : Fin 32) (a : Fin 8400)

/-- Row `t` of image `b`'s metric. -/
def rowT : Fin 8400 → EReal := fun a => val_main_v303 (F := Ideal) x0 x2 x3 x4 (ix3 b t a)

theorem r_values (k : Fin 10) : val_main_values (F := Ideal) x0 x2 x3 x4 (ix3 b t k)
    = rowT x0 x2 x3 x4 b t (sortedFrom (Sort.before (rowT x0 x2 x3 x4 b t)) (Fin.castLE (by decide) k)) := top10 _ _ b t k

/-- The kept entries: those with fewer than ten greater ones in their row. -/
theorem r_v313 : val_main_v313 (F := Ideal) x0 x2 x3 x4 (ix3 b t a)
    = if Count.num (rowT x0 x2 x3 x4 b t) (rowT x0 x2 x3 x4 b t a) ≤ 9 then rowT x0 x2 x3 x4 b t a else 0 := by
  simp only [
  a_v310, a_v311, val_main_v312_apply, val_main_cst_38_apply, val_main_call5_v0_apply, a_call5_v1,
    val_main_v313_apply,
    o_mul, o_add, o_sub, o_max, o_min, o_div, o_gt, o_lt, o_ge, o_bits, Ideal.ofBits_zero_f32, Ideal.ofBits_one_f32, select_dec]
  rw [r_values]
  refine if_congr ?_ rfl rfl
  have h := Sort.lt_from (rowT x0 x2 x3 x4 b t) (Fin.castLE (by decide) (9 : Fin 10)) (rowT x0 x2 x3 x4 b t a)
  rw [← not_lt]
  refine (not_congr h).trans ?_
  exact not_lt

/-- The target given to an anchor. -/
def tgtOf : Fin 32 := sortedFrom (Sort.before fun t => val_main_v313 (F := Ideal) x0 x2 x3 x4 (ix3 b t a)) 0

theorem r_v318 : val_main_v318 (F := Ideal) x0 x2 x3 x4 (ix2 b a) = BitVec.ofNat 32 (tgtOf x0 x2 x3 x4 b a).val := by
  rw [a_v318]
  unfold val_main_indices_41 tgtOf
  have e : (fun t => val_main_v313 (F := Ideal) x0 x2 x3 x4 (ix3 b t a)) = fun t => val_main_v317 (F := Ideal) x0 x2 x3 x4 (ix3 b a t) :=
    funext fun t => (a_v317 x0 x2 x3 x4 b a t).symm
  rw [e]
  exact top1 _ _ b a

/-- The row's largest metric and largest overlap. -/
def maxT : EReal := Finset.fold max (Ideal.ofBits .f32 0xFF800000#32) (rowT x0 x2 x3 x4 b t) Finset.univ
@[inherit_doc maxT]
def maxO : EReal := Finset.fold max (Ideal.ofBits .f32 0xFF800000#32) (fun a => val_main_v286 (F := Ideal) x2 x3 (ix3 b t a)) Finset.univ

theorem r_v325 : val_main_v325 (F := Ideal) x0 x2 x3 x4 (ix2 b t) = maxT x0 x2 x3 x4 b t := by
  have h := rowMax (val_main_v303 (F := Ideal) x0 x2 x3 x4) (val_main_cst_45 (F := Ideal)) Gen.reducesTo_S16x32x8400_S16x32_d2 Gen.h_S_ val_main_cst_45_apply b t
  unfold val_main_v325 maxT rowT
  exact h

theorem r_v331 : val_main_v331 (F := Ideal) x2 x3 (ix2 b t) = maxO x2 x3 b t := by
  have h := rowMax (val_main_v286 (F := Ideal) x2 x3) (val_main_cst_47 (F := Ideal)) Gen.reducesTo_S16x32x8400_S16x32_d2 Gen.h_S_ val_main_cst_47_apply b t
  unfold val_main_v331 maxO
  exact h

theorem r_v334 : val_main_v334 (F := Ideal) x0 x2 x3 x4 (ix3 b t a)
    = Ideal.div (rowT x0 x2 x3 x4 b t a) (maxT x0 x2 x3 x4 b t + eps) * maxO x2 x3 b t := by
  rw [val_main_v334_apply, val_main_v330_apply, a_v333, a_v332, a_v329, val_main_v328_apply, a_v327, a_v326,
    val_main_cst_46_apply, o_mul, r_v325, r_v331]
  unfold rowT
  generalize val_main_v303 (F := Ideal) x0 x2 x3 x4 (ix3 b t a) = u
  generalize maxT x0 x2 x3 x4 b t = v
  generalize maxO x2 x3 b t = w
  rfl

theorem r_call6 : val_main_call6_v4 (F := Ideal) x0 x2 x3 x4 (ix3 b a 0) = BitVec.ofNat 32 (tgtOf x0 x2 x3 x4 b a).val := by
  simp only [
  a_v336, val_main_call6_c_apply, a_call6_v0, val_main_call6_v1_apply, val_main_call6_c_0_apply, a_call6_v2,
    val_main_call6_v3_apply, val_main_call6_v4_apply, r_v318]
  exact wrap32 _

theorem r_call8 : val_main_call8_v4 (F := Ideal) x0 x2 x3 x4 (ix2 b a) = BitVec.ofNat 32 (tgtOf x0 x2 x3 x4 b a).val := by
  simp only [
  val_main_call8_c_apply, a_call8_v0, val_main_call8_v1_apply, val_main_call8_c_0_apply, a_call8_v2,
    val_main_call8_v3_apply, val_main_call8_v4_apply, r_v318]
  exact wrap32 _

theorem r_v337 : val_main_v337 (F := Ideal) x0 x2 x3 x4 (ix3 b a 0)
    = val_main_v334 (F := Ideal) x0 x2 x3 x4 (ix3 b (tgtOf x0 x2 x3 x4 b a) a) := by
  unfold val_main_v337
  refine (gather337 _ _ b a 0).trans ((a_v335 x0 x2 x3 x4 b a _).trans ?_)
  refine congrArg (fun k => val_main_v334 (F := Ideal) x0 x2 x3 x4 (ix3 b k a)) (Fin.ext ?_)
  show min (BitVec.toInt (val_main_call6_v5 (F := Ideal) x0 x2 x3 x4 (ix4 b a 0 0))).toNat 31 = _
  rw [a_call6_v5, r_call6]
  exact held32 _

theorem r_v341 : val_main_v341 (F := Ideal) x0 x2 x3 x4 (ix2 b a)
    = val_main_v4 (F := Ideal) x3 (ix2 b (tgtOf x0 x2 x3 x4 b a)) := by
  unfold val_main_v341
  rw [← r_v309]
  refine (gather341 _ _ b a).trans ?_
  refine congrArg (fun k => val_main_v309 (F := Ideal) x3 (ix2 b k)) (Fin.ext ?_)
  show min (BitVec.toInt (val_main_call8_v5 (F := Ideal) x0 x2 x3 x4 (ix3 b a 0))).toNat 31 = _
  rw [a_call8_v5, r_call8]
  exact held32 _

/-- Whether any target may use the anchor. -/
theorem r_v324 : val_main_v324 (F := Ideal) x0 x2 x3 x4 (ix2 b a)
    = FloatOps.uitofp (F := Ideal) .f32 (BitVec.ofBool (decide ((0 : EReal) < (∑ t : Fin 32, val_main_v304 (F := Ideal) x3 x4 (ix3 b t a))
        * ∑ t : Fin 32, (FloatOps.uitofp .f32 (BitVec.ofBool (decide ((0 : EReal) < val_main_v313 (F := Ideal) x0 x2 x3 x4 (ix3 b t a)))) : Ideal .f32)))) := by
  simp only [
  val_main_cst_39_apply, a_v314, val_main_v315_apply, val_main_v316_apply, a_v319, a_v320,
    val_main_v321_apply, val_main_cst_44_apply, a_v322, val_main_v323_apply, val_main_v324_apply,
    o_mul, o_add, o_sub, o_max, o_min, o_div, o_gt, o_lt, o_ge, o_bits, Ideal.ofBits_zero_f32, Ideal.ofBits_one_f32]

/-- The normalised metric. -/
def normT : EReal := Ideal.div (rowT x0 x2 x3 x4 b t a) (maxT x0 x2 x3 x4 b t + eps) * maxO x2 x3 b t

/-- Whether any target may use the anchor, as a number. -/
def okA : EReal := val_main_v324 (F := Ideal) x0 x2 x3 x4 (ix2 b a)

/-- Whether class `c` is that of the anchor's target. -/
def hotA (c : Fin 80) : EReal :=
  FloatOps.uitofp (F := Ideal) .f32 (IntOp.cmpi .eq (val_main_v4 (F := Ideal) x3 (ix2 b (tgtOf x0 x2 x3 x4 b a))) (BitVec.ofNat 32 c.val))

theorem r_v342 (c : Fin 80) : val_main_v342 (F := Ideal) x0 x2 x3 x4 (ix3 b a c) = hotA x0 x2 x3 x4 b a c := by
  rw [val_main_v342_apply, val_main_call9_v4_apply, a_call9_v2, a_call9_v3, a_call9_v0, val_main_call9_v1_apply, r_v341]
  unfold hotA
  exact congrArg (fun z => FloatOps.uitofp (F := Ideal) .f32 (IntOp.cmpi .eq _ (BitVec.ofNat 32 (Fin.val z)))) (show (ix3 0 0 c : S1x1x80.Idx) 2 = c from rfl)

theorem r_v343 (c : Fin 80) : val_main_v343 (F := Ideal) x0 x2 x3 x4 (ix3 b a c) = normT x0 x2 x3 x4 b (tgtOf x0 x2 x3 x4 b a) a := by
  rw [a_v343, r_v337, r_v334]
  rfl

theorem r_v346 (c : Fin 80) : val_main_v346 (F := Ideal) x0 x2 x3 x4 (ix3 b a c) = okA x0 x2 x3 x4 b a := by
  rw [a_v346, a_v345]
  rfl

/-- The score the reference writes for class `c`. -/
theorem r_v347 (c : Fin 80) : val_main_v347 (F := Ideal) x0 x2 x3 x4 (ix3 b a c)
    = hotA x0 x2 x3 x4 b a c * normT x0 x2 x3 x4 b (tgtOf x0 x2 x3 x4 b a) a * okA x0 x2 x3 x4 b a := by
  rw [val_main_v347_apply, val_main_v344_apply, r_v342, r_v343, r_v346]
  have h : ∀ u v w : Ideal .f32, FloatOps.mulf (FloatOps.mulf u v) w = u * v * w := fun _ _ _ => rfl
  exact h _ _ _

end Cert.ReferenceIdeal.Read
-- ==== Proof.RBox.lean ====
/-
  The reference's overlap of every prediction with its target, both divided by the anchor's scale.
-/
module

public import proofs.«01_k».proof.Proof.RMatch

@[expose] public section

noncomputable section

namespace Cert.ReferenceIdeal.Read

open Idealize.ShloMosaic Idealize.ShloMosaic.TcCoe Idealize.SL.Sem Cert.ReferenceIdeal Cert.Spec
open Idealize.ShloMosaic (ix0 ix1 ix2 ix3 ix4)

variable (x0 : (⟨S16x8400x80, .f32⟩ : BufTy).Contents (Elt Ideal))
  (x2 : (⟨S16x8400x4, .f32⟩ : BufTy).Contents (Elt Ideal)) (x3 : (⟨S16x32x5, .f32⟩ : BufTy).Contents (Elt Ideal))
  (x4 : (⟨S8400x2, .f32⟩ : BufTy).Contents (Elt Ideal)) (x5 : (⟨S8400, .f32⟩ : BufTy).Contents (Elt Ideal))
  (b : Fin 16) (a : Fin 8400)

theorem r_v415 : val_main_v415 (F := Ideal) x0 x2 x3 x4 x5 (ix2 b a)
    = iou (val_main_v360 (F := Ideal) x2 x5 (ix3 b a 0)) (val_main_v360 (F := Ideal) x2 x5 (ix3 b a 1)) (val_main_v360 (F := Ideal) x2 x5 (ix3 b a 2)) (val_main_v360 (F := Ideal) x2 x5 (ix3 b a 3))
      (val_main_v357 (F := Ideal) x0 x2 x3 x4 x5 (ix3 b a 0)) (val_main_v357 (F := Ideal) x0 x2 x3 x4 x5 (ix3 b a 1)) (val_main_v357 (F := Ideal) x0 x2 x3 x4 x5 (ix3 b a 2)) (val_main_v357 (F := Ideal) x0 x2 x3 x4 x5 (ix3 b a 3)) := by
  simp only [
    a_v362, a_v363, a_v364, a_v365, val_main_v366_apply, a_v367, a_v368, a_v369, a_v370, val_main_v371_apply,
    a_v372, a_v373, a_v374, a_v375, val_main_v376_apply, a_v377, a_v378, a_v379, a_v380, val_main_v381_apply,
    val_main_v382_apply, val_main_cst_50_apply, a_v383, val_main_v384_apply, val_main_v385_apply,
    val_main_cst_51_apply, a_v386, val_main_v387_apply, val_main_v388_apply, a_v389, a_v390, a_v391, a_v392,
    val_main_v393_apply, a_v394, a_v395, a_v396, a_v397, val_main_v398_apply, val_main_v399_apply, a_v400,
    a_v401, a_v402, a_v403, val_main_v404_apply, a_v405, a_v406, a_v407, a_v408, val_main_v409_apply,
    val_main_v410_apply, val_main_v411_apply, val_main_v412_apply, val_main_cst_52_apply, a_v413,
    val_main_v414_apply, val_main_v415_apply,
    o_mul, o_add, o_sub, o_max, o_min, o_div, o_gt, o_lt, o_ge, o_bits, Ideal.ofBits_zero_f32, Ideal.ofBits_one_f32, select_dec]
  rfl

theorem r_v442 : val_main_v442 (F := Ideal) x0 x2 x3 x4 x5 (ix2 b a)
    = diag (val_main_v360 (F := Ideal) x2 x5 (ix3 b a 0)) (val_main_v360 (F := Ideal) x2 x5 (ix3 b a 1)) (val_main_v360 (F := Ideal) x2 x5 (ix3 b a 2)) (val_main_v360 (F := Ideal) x2 x5 (ix3 b a 3))
      (val_main_v357 (F := Ideal) x0 x2 x3 x4 x5 (ix3 b a 0)) (val_main_v357 (F := Ideal) x0 x2 x3 x4 x5 (ix3 b a 1)) (val_main_v357 (F := Ideal) x0 x2 x3 x4 x5 (ix3 b a 2)) (val_main_v357 (F := Ideal) x0 x2 x3 x4 x5 (ix3 b a 3)) := by
  simp only [
    a_v416, a_v417, a_v418, a_v419, val_main_v420_apply, a_v421, a_v422, a_v423, a_v424, val_main_v425_apply,
    val_main_v426_apply, a_v427, a_v428, a_v429, a_v430, val_main_v431_apply, a_v432, a_v433, a_v434, a_v435,
    val_main_v436_apply, val_main_v437_apply, val_main_v438_apply, val_main_v439_apply, val_main_v440_apply,
    val_main_cst_53_apply, a_v441, val_main_v442_apply,
    o_mul, o_add, o_sub, o_max, o_min, o_div, o_gt, o_lt, o_ge, o_bits, Ideal.ofBits_zero_f32, Ideal.ofBits_one_f32, select_dec]
  rfl

theorem r_v469 : val_main_v469 (F := Ideal) x0 x2 x3 x4 x5 (ix2 b a)
    = rho (val_main_v360 (F := Ideal) x2 x5 (ix3 b a 0)) (val_main_v360 (F := Ideal) x2 x5 (ix3 b a 1)) (val_main_v360 (F := Ideal) x2 x5 (ix3 b a 2)) (val_main_v360 (F := Ideal) x2 x5 (ix3 b a 3))
      (val_main_v357 (F := Ideal) x0 x2 x3 x4 x5 (ix3 b a 0)) (val_main_v357 (F := Ideal) x0 x2 x3 x4 x5 (ix3 b a 1)) (val_main_v357 (F := Ideal) x0 x2 x3 x4 x5 (ix3 b a 2)) (val_main_v357 (F := Ideal) x0 x2 x3 x4 x5 (ix3 b a 3)) := by
  simp only [
    a_v443, a_v444, a_v445, a_v446, val_main_v447_apply, a_v448, a_v449, val_main_v450_apply, a_v451, a_v452,
    val_main_v453_apply, val_main_v454_apply, a_v455, a_v456, a_v457, a_v458, val_main_v459_apply, a_v460,
    a_v461, val_main_v462_apply, a_v463, a_v464, val_main_v465_apply, val_main_v466_apply,
    val_main_v467_apply, val_main_cst_54_apply, a_v468, val_main_v469_apply,
    o_mul, o_add, o_sub, o_max, o_min, o_div, o_gt, o_lt, o_ge, o_bits, Ideal.ofBits_zero_f32, Ideal.ofBits_one_f32, select_dec, div_four]
  rfl

theorem r_v498 : val_main_v498 (F := Ideal) x2 x5 (ix2 b a)
    = Ideal.div ((val_main_v360 (F := Ideal) x2 x5 (ix3 b a 2)) - (val_main_v360 (F := Ideal) x2 x5 (ix3 b a 0)) + eps) ((val_main_v360 (F := Ideal) x2 x5 (ix3 b a 3)) - (val_main_v360 (F := Ideal) x2 x5 (ix3 b a 1)) + eps) := by
  simp only [
    a_v470, a_v471, a_v472, a_v473, val_main_v474_apply, val_main_cst_55_apply, a_v475, val_main_v476_apply,
    a_v477, a_v478, a_v479, a_v480, val_main_v481_apply, val_main_cst_56_apply, a_v482, val_main_v483_apply,
    val_main_v498_apply,
    o_mul, o_add, o_sub, o_max, o_min, o_div, o_gt, o_lt, o_ge, o_bits, Ideal.ofBits_zero_f32, Ideal.ofBits_one_f32, select_dec]
  rfl

theorem r_v530 : val_main_v530 (F := Ideal) x2 x5 (ix2 b a)
    = atan (val_main_v498 (F := Ideal) x2 x5 (ix2 b a)) := by
  simp only [
    val_main_cst_59_apply, a_v499, val_main_v500_apply, val_main_cst_60_apply, a_v501, val_main_v502_apply,
    val_main_v503_apply, val_main_v504_apply, val_main_cst_61_apply, a_v505, val_main_v506_apply,
    val_main_cst_62_apply, a_v507, val_main_v508_apply, val_main_v509_apply, val_main_cst_63_apply, a_v510,
    val_main_v511_apply, val_main_v512_apply, val_main_cst_64_apply, a_v513, val_main_v514_apply,
    val_main_v515_apply, val_main_cst_65_apply, a_v516, val_main_v517_apply, val_main_v518_apply,
    val_main_cst_66_apply, a_v519, val_main_v520_apply, val_main_v521_apply, val_main_cst_67_apply, a_v522,
    val_main_v523_apply, val_main_v524_apply, val_main_cst_68_apply, a_v525, val_main_v526_apply,
    val_main_v527_apply, val_main_cst_69_apply, a_v528, val_main_v529_apply, val_main_v530_apply,
    o_mul, o_add, o_sub, o_max, o_min, o_div, o_gt, o_lt, o_ge, o_bits, Ideal.ofBits_zero_f32, Ideal.ofBits_one_f32, select_dec]
  rfl

theorem r_v531 : val_main_v531 (F := Ideal) x0 x2 x3 x4 x5 (ix2 b a)
    = Ideal.div ((val_main_v357 (F := Ideal) x0 x2 x3 x4 x5 (ix3 b a 2)) - (val_main_v357 (F := Ideal) x0 x2 x3 x4 x5 (ix3 b a 0)) + eps) ((val_main_v357 (F := Ideal) x0 x2 x3 x4 x5 (ix3 b a 3)) - (val_main_v357 (F := Ideal) x0 x2 x3 x4 x5 (ix3 b a 1)) + eps) := by
  simp only [
    a_v484, a_v485, a_v486, a_v487, val_main_v488_apply, val_main_cst_57_apply, a_v489, val_main_v490_apply,
    a_v491, a_v492, a_v493, a_v494, val_main_v495_apply, val_main_cst_58_apply, a_v496, val_main_v497_apply,
    val_main_v531_apply,
    o_mul, o_add, o_sub, o_max, o_min, o_div, o_gt, o_lt, o_ge, o_bits, Ideal.ofBits_zero_f32, Ideal.ofBits_one_f32, select_dec]
  rfl

theorem r_v563 : val_main_v563 (F := Ideal) x0 x2 x3 x4 x5 (ix2 b a)
    = atan (val_main_v531 (F := Ideal) x0 x2 x3 x4 x5 (ix2 b a)) := by
  simp only [
    val_main_cst_70_apply, a_v532, val_main_v533_apply, val_main_cst_71_apply, a_v534, val_main_v535_apply,
    val_main_v536_apply, val_main_v537_apply, val_main_cst_72_apply, a_v538, val_main_v539_apply,
    val_main_cst_73_apply, a_v540, val_main_v541_apply, val_main_v542_apply, val_main_cst_74_apply, a_v543,
    val_main_v544_apply, val_main_v545_apply, val_main_cst_75_apply, a_v546, val_main_v547_apply,
    val_main_v548_apply, val_main_cst_76_apply, a_v549, val_main_v550_apply, val_main_v551_apply,
    val_main_cst_77_apply, a_v552, val_main_v553_apply, val_main_v554_apply, val_main_cst_78_apply, a_v555,
    val_main_v556_apply, val_main_v557_apply, val_main_cst_79_apply, a_v558, val_main_v559_apply,
    val_main_v560_apply, val_main_cst_80_apply, a_v561, val_main_v562_apply, val_main_v563_apply,
    o_mul, o_add, o_sub, o_max, o_min, o_div, o_gt, o_lt, o_ge, o_bits, Ideal.ofBits_zero_f32, Ideal.ofBits_one_f32, select_dec]
  rfl

theorem r_v567 : val_main_v567 (F := Ideal) x0 x2 x3 x4 x5 (ix2 b a)
    = Ideal.ofBits .f32 0x3ECF817B#32 * (angle (val_main_v360 (F := Ideal) x2 x5 (ix3 b a 0)) (val_main_v360 (F := Ideal) x2 x5 (ix3 b a 1)) (val_main_v360 (F := Ideal) x2 x5 (ix3 b a 2)) (val_main_v360 (F := Ideal) x2 x5 (ix3 b a 3))
      (val_main_v357 (F := Ideal) x0 x2 x3 x4 x5 (ix3 b a 0)) (val_main_v357 (F := Ideal) x0 x2 x3 x4 x5 (ix3 b a 1)) (val_main_v357 (F := Ideal) x0 x2 x3 x4 x5 (ix3 b a 2)) (val_main_v357 (F := Ideal) x0 x2 x3 x4 x5 (ix3 b a 3)) * angle (val_main_v360 (F := Ideal) x2 x5 (ix3 b a 0)) (val_main_v360 (F := Ideal) x2 x5 (ix3 b a 1)) (val_main_v360 (F := Ideal) x2 x5 (ix3 b a 2)) (val_main_v360 (F := Ideal) x2 x5 (ix3 b a 3))
      (val_main_v357 (F := Ideal) x0 x2 x3 x4 x5 (ix3 b a 0)) (val_main_v357 (F := Ideal) x0 x2 x3 x4 x5 (ix3 b a 1)) (val_main_v357 (F := Ideal) x0 x2 x3 x4 x5 (ix3 b a 2)) (val_main_v357 (F := Ideal) x0 x2 x3 x4 x5 (ix3 b a 3))) := by
  simp only [
    val_main_v564_apply, val_main_v565_apply, val_main_cst_81_apply, a_v566, val_main_v567_apply,
    o_mul, o_add, o_sub, o_max, o_min, o_div, o_gt, o_lt, o_ge, o_bits, Ideal.ofBits_zero_f32, Ideal.ofBits_one_f32, select_dec, r_v530, r_v563, r_v498, r_v531]
  rfl

theorem r_v577 : val_main_v577 (F := Ideal) x0 x2 x3 x4 x5 (ix2 b a)
    = ciou (val_main_v360 (F := Ideal) x2 x5 (ix3 b a 0)) (val_main_v360 (F := Ideal) x2 x5 (ix3 b a 1)) (val_main_v360 (F := Ideal) x2 x5 (ix3 b a 2)) (val_main_v360 (F := Ideal) x2 x5 (ix3 b a 3))
      (val_main_v357 (F := Ideal) x0 x2 x3 x4 x5 (ix3 b a 0)) (val_main_v357 (F := Ideal) x0 x2 x3 x4 x5 (ix3 b a 1)) (val_main_v357 (F := Ideal) x0 x2 x3 x4 x5 (ix3 b a 2)) (val_main_v357 (F := Ideal) x0 x2 x3 x4 x5 (ix3 b a 3)) := by
  simp only [
    val_main_cst_82_apply, a_v568, val_main_v569_apply, val_main_v570_apply, val_main_cst_83_apply, a_v571,
    val_main_v572_apply, val_main_v573_apply, val_main_v574_apply, val_main_v575_apply, val_main_v576_apply,
    val_main_v577_apply,
    o_mul, o_add, o_sub, o_max, o_min, o_div, o_gt, o_lt, o_ge, o_bits, Ideal.ofBits_zero_f32, Ideal.ofBits_one_f32, select_dec, r_v415, r_v442, r_v469, r_v567]
  rfl

theorem r_v340 (j : Fin 4) : val_main_v340 (F := Ideal) x0 x2 x3 x4 (ix3 b a j) = x3 (ix3 b (tgtOf x0 x2 x3 x4 b a) j.succ) := by
  unfold val_main_v340
  refine (gather340 _ _ b a j).trans ((a_v338 x3 b _ j).trans ?_)
  refine congrArg (fun k => x3 (ix3 b k j.succ)) (Fin.ext ?_)
  show min (BitVec.toInt (val_main_call7_v4 (F := Ideal) x0 x2 x3 x4 (ix3 b a 0))).toNat 31 = _
  have e : val_main_call7_v4 (F := Ideal) x0 x2 x3 x4 (ix3 b a 0) = BitVec.ofNat 32 (tgtOf x0 x2 x3 x4 b a).val := by
    simp only [
      a_v339, val_main_call7_c_apply, a_call7_v0, val_main_call7_v1_apply, val_main_call7_c_0_apply, a_call7_v2,
    val_main_call7_v3_apply, val_main_call7_v4_apply, r_v318]
    exact wrap32 _
  rw [e]
  exact held32 _

theorem r_v357 (j : Fin 4) : val_main_v357 (F := Ideal) x0 x2 x3 x4 x5 (ix3 b a j)
    = Ideal.div (x3 (ix3 b (tgtOf x0 x2 x3 x4 b a) j.succ)) (x5 (ix1 a)) := by
  rw [val_main_v357_apply, r_v340]
  simp only [  a_v355, a_v356, o_div]

theorem r_v360 (j : Fin 4) : val_main_v360 (F := Ideal) x2 x5 (ix3 b a j) = Ideal.div (x2 (ix3 b a j)) (x5 (ix1 a)) := by
  rw [val_main_v360_apply]
  simp only [  a_v358, a_v359, o_div]

/-- The reference's fourth sum. -/
theorem r_v627 : val_main_v627 (F := Ideal) x0 x2 x3 x4 x5 (ix2 b a)
    = (1 - val_main_v577 (F := Ideal) x0 x2 x3 x4 x5 (ix2 b a)) * (∑ c : Fin 80, val_main_v347 (F := Ideal) x0 x2 x3 x4 (ix3 b a c))
      * val_main_v324 (F := Ideal) x0 x2 x3 x4 (ix2 b a) := by
  rw [val_main_v627_apply, val_main_v626_apply, val_main_v625_apply, a_v624, val_main_cst_96_apply, a_v361, o_bits, Ideal.ofBits_one_f32]
  generalize val_main_v577 (F := Ideal) x0 x2 x3 x4 x5 (ix2 b a) = u
  generalize val_main_v324 (F := Ideal) x0 x2 x3 x4 (ix2 b a) = w
  generalize (∑ c : Fin 80, val_main_v347 (F := Ideal) x0 x2 x3 x4 (ix3 b a c)) = v
  rfl

end Cert.ReferenceIdeal.Read

end
-- ==== Proof.SDfl.lean ====
/-
  One side of a box's distance loss.  Over sixteen logits of finite maximum the kernel has the logarithm of the summed exponentials
  less the logit interpolated at the distance; the reference has the two neighbouring log-probabilities, weighted.
-/
module

public import proofs.«01_k».proof.Proof.Spec
public import Idealize.ShloMosaic.PureOps.Ideal.Laws

@[expose] public section

noncomputable section

namespace Cert.Spec

open Idealize.ShloMosaic

/-- The greatest of sixteen logits. -/
def maxOf (x : Fin 16 → EReal) : EReal := Finset.fold max (Ideal.ofBits .f32 0xFF800000#32) x Finset.univ

/-- The sum of the exponentials of the logits less their greatest. -/
def expSum (x : Fin 16 → EReal) : EReal := ∑ k, Ideal.exp (x k - maxOf x)

/-- The weight of bin `k` at the distance `d`: one less how far apart they are, if that is positive. -/
def hat (k : Fin 16) (d : EReal) : EReal := max (1 - max (((k.val : ℝ) : EReal) - d) (-(((k.val : ℝ) : EReal) - d))) 0

/-- The kernel's loss of one side. -/
def sideK (x : Fin 16 → EReal) (d : EReal) : EReal := maxOf x + Ideal.log (expSum x) - ∑ k, x k * hat k d

/-- The log-probability of a bin. -/
def logp (x : Fin 16 → EReal) (k : Fin 16) : EReal := x k - maxOf x - Ideal.log (expSum x)

/-- A distance held between zero and 14.99. -/
def held (z : EReal) : EReal := min (Ideal.ofBits .f32 0x416FD70A#32) (max 0 z)

theorem most : ∃ c : ℝ, (Ideal.ofBits .f32 0x416FD70A#32 : EReal) = (c : EReal) ∧ 0 ≤ c ∧ c < 15 := by
  refine ⟨15718154 / 1048576, ?_, by norm_num, by norm_num⟩
  simp [Ideal.ofBits, Ideal.ieee]
  rw [← EReal.coe_mul]
  norm_num

theorem coe_mono : Monotone (fun r : ℝ => (r : EReal)) := EReal.coe_strictMono.monotone

theorem coe_max' (x y : ℝ) : max (x : EReal) (y : EReal) = ((max x y : ℝ) : EReal) := (coe_mono.map_max (a := x) (b := y)).symm

theorem coe_min' (x y : ℝ) : min (x : EReal) (y : EReal) = ((min x y : ℝ) : EReal) := (coe_mono.map_min (a := x) (b := y)).symm

theorem coe_sum' {ι : Type} (s : Finset ι) (f : ι → ℝ) : (∑ i ∈ s, (f i : EReal)) = ((∑ i ∈ s, f i : ℝ) : EReal) := by
  classical
  induction s using Finset.induction_on with
  | empty => simp
  | insert i s h ih => rw [Finset.sum_insert h, Finset.sum_insert h, ih, EReal.coe_add]

/-- A held distance is a number from zero to below fifteen. -/
theorem held_real (z : EReal) : ∃ d : ℝ, held z = (d : EReal) ∧ 0 ≤ d ∧ d < 15 := by
  obtain ⟨c, hc, h0, h1⟩ := most
  unfold held
  rw [hc]
  induction z with
  | bot => exact ⟨0, by rw [max_eq_left bot_le, min_eq_right (by exact_mod_cast h0)]; rfl, le_refl _, by norm_num⟩
  | top => exact ⟨c, by rw [max_eq_right le_top, min_eq_left le_top], h0, h1⟩
  | coe r =>
    refine ⟨min c (max 0 r), ?_, le_min h0 (le_max_left _ _), lt_of_le_of_lt (min_le_left _ _) h1⟩
    rw [← EReal.coe_zero, coe_max', coe_min']

/-- The left bin of a distance. -/
def leftBin (d : ℝ) : ℕ := ⌊d⌋.toNat

theorem left_val {d : ℝ} (h0 : 0 ≤ d) : ((leftBin d : ℕ) : ℤ) = ⌊d⌋ := Int.toNat_of_nonneg (Int.floor_nonneg.2 h0)

theorem left_lt {d : ℝ} (h0 : 0 ≤ d) (h1 : d < 15) : leftBin d < 15 := by
  have h2 : ⌊d⌋ < 15 := Int.floor_lt.2 (by exact_mod_cast h1)
  have h3 := left_val h0
  omega

theorem left_le {d : ℝ} (h0 : 0 ≤ d) : (leftBin d : ℝ) ≤ d := by
  have h := Int.floor_le d
  rw [← left_val h0] at h
  exact_mod_cast h

theorem lt_right {d : ℝ} (h0 : 0 ≤ d) : d < (leftBin d : ℝ) + 1 := by
  have h := Int.lt_floor_add_one d
  rw [← left_val h0] at h
  exact_mod_cast h

theorem hat_coe (k : Fin 16) (d : ℝ) : hat k (d : EReal) = ((max (1 - max ((k.val : ℝ) - d) (-((k.val : ℝ) - d))) 0 : ℝ) : EReal) := by
  unfold hat
  rw [← EReal.coe_sub, ← EReal.coe_neg, coe_max', ← EReal.coe_one, ← EReal.coe_sub, ← EReal.coe_zero, coe_max']

/-- The interpolated value: only the two bins about the distance count. -/
theorem interp (x : Fin 16 → EReal) {d : ℝ} (h0 : 0 ≤ d) (l r : Fin 16) (hl : l.val = leftBin d) (hr : r.val = leftBin d + 1) :
    (∑ k : Fin 16, x k * hat k (d : EReal)) = x l * (((leftBin d : ℝ) + 1 - d : ℝ) : EReal) + x r * ((d - leftBin d : ℝ) : EReal) := by
  have a1 := left_le h0
  have a2 := lt_right h0
  simp only [hat_coe]
  rw [Finset.sum_eq_add l r (fun e => by have := congrArg Fin.val e; omega) ?_ (fun h => absurd (Finset.mem_univ _) h)
    (fun h => absurd (Finset.mem_univ _) h)]
  · congr 3
    · rw [hl, max_eq_right (a := (leftBin d : ℝ) - d) (by linarith), max_eq_left (by linarith)]; ring
    · rw [hr]; push_cast
      rw [max_eq_left (a := (leftBin d : ℝ) + 1 - d) (by linarith), max_eq_left (by linarith)]; ring
  · rintro k - ⟨hk1, hk2⟩
    rcases lt_or_ge k.val (leftBin d) with h | h
    · have h' : (k.val : ℝ) + 1 ≤ leftBin d := by exact_mod_cast h
      rw [max_eq_right (a := 1 - _), EReal.coe_zero, mul_zero]
      have := le_max_right ((k.val : ℝ) - d) (-((k.val : ℝ) - d))
      linarith
    · have h2 : leftBin d + 2 ≤ k.val := by
        have n1 : k.val ≠ leftBin d := fun e => hk1 (Fin.ext (by omega))
        have n2 : k.val ≠ leftBin d + 1 := fun e => hk2 (Fin.ext (by omega))
        omega
      have h' : (leftBin d : ℝ) + 2 ≤ k.val := by exact_mod_cast h2
      rw [max_eq_right (a := 1 - _), EReal.coe_zero, mul_zero]
      have := le_max_left ((k.val : ℝ) - d) (-((k.val : ℝ) - d))
      linarith

/-- Under a finite largest logit none is infinite upwards, and one is finite. -/
theorem logit_facts (x : Fin 16 → EReal) (hx : maxOf x ≠ ⊤ ∧ maxOf x ≠ ⊥) : (∀ k, x k ≠ ⊤) ∧ ∃ k, x k ≠ ⊥ := by
  have hb : (Ideal.ofBits .f32 0xFF800000#32 : EReal) = ⊥ := by simp [Ideal.ofBits, Ideal.ieee]
  have h1 := lt_top_iff_ne_top.2 hx.1
  have h2 := bot_lt_iff_ne_bot.2 hx.2
  unfold maxOf at h1 h2
  rw [Finset.fold_max_lt] at h1
  rw [Finset.lt_fold_max, hb] at h2
  refine ⟨fun k => (h1.2 k (Finset.mem_univ _)).ne, ?_⟩
  rcases h2 with h | ⟨k, -, h⟩
  · exact absurd h (lt_irrefl _)
  · exact ⟨k, h.ne'⟩

/-- The logarithm of the summed exponentials is a number. -/
theorem log_real (x : Fin 16 → EReal) (hx : maxOf x ≠ ⊤ ∧ maxOf x ≠ ⊥) : ∃ L : ℝ, Ideal.log (expSum x) = (L : EReal) := by
  obtain ⟨h1, k0, h2⟩ := logit_facts x hx
  obtain ⟨M, hM⟩ : ∃ M : ℝ, maxOf x = (M : EReal) := ⟨_, (EReal.coe_toReal hx.1 hx.2).symm⟩
  have e : ∀ k, ∃ r : ℝ, Ideal.exp (x k - maxOf x) = (r : EReal) ∧ 0 ≤ r ∧ (x k ≠ ⊥ → 0 < r) := fun k => by
    rw [hM]
    have hk := h1 k
    generalize x k = z at hk ⊢
    induction z with
    | bot => exact ⟨0, by rw [EReal.bot_sub]; rfl, le_refl _, fun h => absurd rfl h⟩
    | top => exact absurd rfl hk
    | coe y => exact ⟨Real.exp (y - M), by rw [← EReal.coe_sub]; rfl, (Real.exp_pos _).le, fun _ => Real.exp_pos _⟩
  choose r hr h3 h4 using e
  have hpos : 0 < ∑ k, r k := Finset.sum_pos' (fun k _ => h3 k) ⟨k0, Finset.mem_univ _, h4 k0 h2⟩
  refine ⟨Real.log (∑ k, r k), ?_⟩
  unfold expSum
  rw [Finset.sum_congr rfl fun k _ => hr k, coe_sum']
  show (if _ ≤ (0 : ℝ) then (⊥ : EReal) else _) = _
  rw [if_neg (not_le.2 hpos)]

/-- A log-probability's negative, weighted by a nonnegative number, is not infinite downwards. -/
theorem weighted (x : EReal) (h : x ≠ ⊤) (M L w : ℝ) (hw : 0 ≤ w) : -(x - (M : EReal) - (L : EReal)) * (w : EReal) ≠ ⊥ := by
  induction x with
  | bot =>
    rw [EReal.bot_sub, EReal.bot_sub, EReal.neg_bot]
    rcases hw.eq_or_lt with rfl | hw
    · simp
    · rw [EReal.top_mul_coe_of_pos hw]; exact top_ne_bot
  | top => exact absurd rfl h
  | coe y =>
    simp only [← EReal.coe_sub, ← EReal.coe_neg, ← EReal.coe_mul]
    exact EReal.coe_ne_bot _

/-- Two weighted logits taken from a number are the two log-probabilities weighted. -/
theorem weigh (x y : EReal) (hx : x ≠ ⊤) (hy : y ≠ ⊤) (M L w v : ℝ) (hw : 0 < w) (hv : 0 ≤ v) (hs : w + v = 1) :
    (M : EReal) + (L : EReal) - (x * (w : EReal) + y * (v : EReal))
      = -(x - (M : EReal) - (L : EReal)) * (w : EReal) + -(y - (M : EReal) - (L : EReal)) * (v : EReal) := by
  induction x with
  | bot =>
    have h := weighted y hy M L v hv
    rw [EReal.bot_mul_coe_of_pos hw, EReal.bot_add, EReal.bot_sub, EReal.bot_sub, EReal.neg_bot, EReal.top_mul_coe_of_pos hw,
      EReal.top_add_of_ne_bot h, ← EReal.coe_add]
    exact EReal.coe_sub_bot _
  | top => exact absurd rfl hx
  | coe x =>
    induction y with
    | bot =>
      rcases hv.eq_or_lt with rfl | hv
      · rw [add_zero] at hs
        subst hs
        simp only [EReal.coe_zero, mul_zero, add_zero, EReal.coe_one, mul_one, ← EReal.coe_sub, ← EReal.coe_neg, ← EReal.coe_add]
        congr 1; ring
      · rw [EReal.bot_mul_coe_of_pos hv, EReal.add_bot, EReal.bot_sub, EReal.bot_sub, EReal.neg_bot, EReal.top_mul_coe_of_pos hv]
        simp only [← EReal.coe_sub, ← EReal.coe_neg, ← EReal.coe_mul, ← EReal.coe_add]
        rw [EReal.coe_add_top]
        exact EReal.coe_sub_bot _
    | top => exact absurd rfl hy
    | coe y =>
      simp only [← EReal.coe_add, ← EReal.coe_sub, ← EReal.coe_neg, ← EReal.coe_mul]
      congr 1
      linear_combination (-(M + L)) * hs

/-- The two losses of a side are the same number. -/
theorem side_eq (x : Fin 16 → EReal) (hx : maxOf x ≠ ⊤ ∧ maxOf x ≠ ⊥) {d : ℝ} (h0 : 0 ≤ d) (l r : Fin 16)
    (hl : l.val = leftBin d) (hr : r.val = leftBin d + 1) :
    sideK x (d : EReal) = -(logp x l) * ((((leftBin d : ℝ) : EReal) + 1) - (d : EReal)) + -(logp x r) * ((d : EReal) - ((leftBin d : ℝ) : EReal)) := by
  obtain ⟨h1, -⟩ := logit_facts x hx
  obtain ⟨M, hM⟩ : ∃ M : ℝ, maxOf x = (M : EReal) := ⟨_, (EReal.coe_toReal hx.1 hx.2).symm⟩
  obtain ⟨L, hL⟩ := log_real x hx
  have a1 := left_le h0
  have a2 := lt_right h0
  unfold sideK logp
  rw [interp x h0 l r hl hr, hL, hM, weigh _ _ (h1 l) (h1 r) M L _ _ (by linarith) (by linarith) (by ring)]
  rfl

/-- The left bin as the reference numbers it. -/
theorem left_bits {d : ℝ} (h0 : 0 ≤ d) (h1 : d < 15) : Ideal.fptosi 32 (Ideal.liftRound Int.floor (d : EReal)) = BitVec.ofNat 32 (leftBin d) := by
  have hf := left_val h0
  have hlt := left_lt h0 h1
  have e : Ideal.toIntClamped (-(2 ^ (32 - 1) : Nat)) ((2 ^ (32 - 1) : Nat) - 1) (((⌊d⌋ : ℝ)) : EReal) = (leftBin d : ℤ) := by
    show max _ (min _ (if (0 : ℝ) ≤ (⌊d⌋ : ℝ) then ⌊(⌊d⌋ : ℝ)⌋ else _)) = _
    rw [if_pos (by exact_mod_cast Int.floor_nonneg.2 h0), Int.floor_intCast, ← hf]
    norm_num
    omega
  show BitVec.ofInt 32 (Ideal.toIntClamped _ _ _) = _
  rw [show Ideal.liftRound Int.floor (d : EReal) = (((⌊d⌋ : ℝ)) : EReal) from rfl, e, BitVec.ofInt_natCast]

theorem left_floor {d : ℝ} (h0 : 0 ≤ d) : Ideal.liftRound Int.floor (d : EReal) = (((leftBin d : ℕ) : ℝ) : EReal) := by
  show (((⌊d⌋ : ℝ)) : EReal) = _
  rw [← left_val h0]
  norm_cast

theorem right_bits {d : ℝ} (h0 : 0 ≤ d) (h1 : d < 15) : Ideal.fptosi 32 (Ideal.liftRound Int.floor (d : EReal) + 1) = BitVec.ofNat 32 (leftBin d + 1) := by
  have hlt := left_lt h0 h1
  have e : Ideal.toIntClamped (-(2 ^ (32 - 1) : Nat)) ((2 ^ (32 - 1) : Nat) - 1) ((((leftBin d + 1 : ℕ) : ℝ)) : EReal) = ((leftBin d + 1 : ℕ) : ℤ) := by
    show max _ (min _ (if (0 : ℝ) ≤ ((leftBin d + 1 : ℕ) : ℝ) then ⌊((leftBin d + 1 : ℕ) : ℝ)⌋ else _)) = _
    rw [if_pos (Nat.cast_nonneg _), Int.floor_natCast]
    norm_num
    omega
  show BitVec.ofInt 32 (Ideal.toIntClamped _ _ _) = _
  rw [left_floor h0, show ((((leftBin d : ℕ) : ℝ) : EReal) + 1) = ((((leftBin d + 1 : ℕ) : ℝ)) : EReal) by push_cast; rfl, e, BitVec.ofInt_natCast]

end Cert.Spec

end
-- ==== Proof.RDfl.lean ====
/-
  The reference's fifth sum, value by value: the four distances of an anchor, the log-probabilities of the sixteen bins of
  each, the two bins about a distance, and the four losses' mean.
-/
module

public import proofs.«01_k».proof.Proof.RBox
public import proofs.«01_k».proof.Proof.SDfl
public import Idealize.ShloMosaic.Lib.Pipeline.Value

@[expose] public section

noncomputable section

namespace Cert.ReferenceIdeal.Read

open Idealize.ShloMosaic Idealize.ShloMosaic.TcCoe Idealize.SL.Sem Cert.ReferenceIdeal Cert.Spec
open Idealize.ShloMosaic (ix0 ix1 ix2 ix3 ix4 ix5)

variable (x0 : (⟨S16x8400x80, .f32⟩ : BufTy).Contents (Elt Ideal)) (x1 : (⟨S16x8400x4x16, .f32⟩ : BufTy).Contents (Elt Ideal))
  (x2 : (⟨S16x8400x4, .f32⟩ : BufTy).Contents (Elt Ideal)) (x3 : (⟨S16x32x5, .f32⟩ : BufTy).Contents (Elt Ideal))
  (x4 : (⟨S8400x2, .f32⟩ : BufTy).Contents (Elt Ideal)) (x5 : (⟨S8400, .f32⟩ : BufTy).Contents (Elt Ideal))
  (b : Fin 16) (a : Fin 8400)

/-- The anchor's two coordinates over its scale. -/
theorem r_v581 (i : Fin 2) : val_main_v581 (F := Ideal) x4 x5 (ix3 0 a i) = Ideal.div (x4 (ix2 a i)) (x5 (ix1 a)) := by
  rw [a_v581, val_main_v580_apply, a_v579, a_v578]
  rfl

theorem r_v584 (i : Fin 2) : val_main_v584 (F := Ideal) x0 x2 x3 x4 x5 (ix3 b a i)
    = (Ideal.div (x4 (ix2 a i)) (x5 (ix1 a)) - Ideal.div (x3 (ix3 b (tgtOf x0 x2 x3 x4 b a) (Fin.castLE (by decide : 2 ≤ 4) i).succ)) (x5 (ix1 a)) : Ideal .f32) := by
  rw [val_main_v584_apply, a_v583, a_v582, r_v581, r_v357]
  rfl

theorem r_v587 (i : Fin 2) : val_main_v587 (F := Ideal) x0 x2 x3 x4 x5 (ix3 b a i)
    = (Ideal.div (x3 (ix3 b (tgtOf x0 x2 x3 x4 b a) (Fin.natAdd 2 i : Fin 4).succ)) (x5 (ix1 a)) - Ideal.div (x4 (ix2 a i)) (x5 (ix1 a)) : Ideal .f32) := by
  rw [val_main_v587_apply, a_v586, a_v585, r_v581, r_v357]
  rfl

/-- The first two distances. -/
theorem r_v588_left (i : Fin 2) : val_main_v588 (F := Ideal) x0 x2 x3 x4 x5 (ix3 b a (Fin.castLE (by decide : 2 ≤ 4) i))
    = val_main_v584 (F := Ideal) x0 x2 x3 x4 x5 (ix3 b a i) := by
  unfold val_main_v588
  generalize val_main_v584 (F := Ideal) x0 x2 x3 x4 x5 = u
  generalize val_main_v587 (F := Ideal) x0 x2 x3 x4 x5 = w
  exact concatenate_pair_apply_left (t := S16x8400x4) (s₁ := S16x8400x2) (s₂ := S16x8400x2) 2 u w _ _ rfl (ix3 b a i)
    (fun k => match k with | ⟨0, _⟩ => rfl | ⟨1, _⟩ => rfl | ⟨2, _⟩ => rfl)

/-- The last two distances. -/
theorem r_v588_right (i : Fin 2) : val_main_v588 (F := Ideal) x0 x2 x3 x4 x5 (ix3 b a (Fin.natAdd 2 i : Fin 4))
    = val_main_v587 (F := Ideal) x0 x2 x3 x4 x5 (ix3 b a i) := by
  unfold val_main_v588
  generalize val_main_v584 (F := Ideal) x0 x2 x3 x4 x5 = u
  generalize val_main_v587 (F := Ideal) x0 x2 x3 x4 x5 = w
  exact concatenate_pair_apply_right (t := S16x8400x4) (s₁ := S16x8400x2) (s₂ := S16x8400x2) 2 u w _ _ rfl rfl (ix3 b a i)
    (fun k => match k with | ⟨0, _⟩ => fun _ => rfl | ⟨1, _⟩ => fun _ => rfl | ⟨2, _⟩ => fun h => absurd rfl h)
    (Nat.add_comm _ _)

/-- A distance, held. -/
theorem r_v592 (j : Fin 4) : val_main_v592 (F := Ideal) x0 x2 x3 x4 x5 (ix3 b a j) = held (val_main_v588 (F := Ideal) x0 x2 x3 x4 x5 (ix3 b a j)) := by
  rw [val_main_v592_apply, val_main_v590_apply, a_v589, a_v591, val_main_cst_84_apply, val_main_cst_85_apply, o_bits, o_bits, Ideal.ofBits_zero_f32]
  generalize val_main_v588 (F := Ideal) x0 x2 x3 x4 x5 (ix3 b a j) = z
  unfold held
  rw [max_comm, min_comm]
  rfl

/-- The sixteen logits of side `j` at an anchor. -/
def binsR (x1 : (⟨S16x8400x4x16, .f32⟩ : BufTy).Contents (Elt Ideal)) (b : Fin 16) (a : Fin 8400) (j : Fin 4) : Fin 16 → EReal :=
  fun k => x1 (ix4 b a j k)

/-- The largest of sixteen. -/
theorem binMax (x : S16x8400x4x16.Idx → Ideal .f32) (y : S_.Idx → Ideal .f32) (h : S16x8400x4x16.ReducesTo [3] S16x8400x4) (hu : 0 < S_.numel)
    (hy : ∀ i, y i = Ideal.ofBits .f32 0xFF800000#32) (b : Fin 16) (a : Fin 8400) (j : Fin 4) :
    Host.reduce (FloatOps.maximumf (F := Ideal) (φ := .f32)) x y h hu (ix3 b a j)
      = Finset.fold max (Ideal.ofBits .f32 0xFF800000#32) (fun k => x (ix4 b a j k)) Finset.univ := by
  pointwise
  rw [hy]

theorem r_max (j : Fin 4) : val_main_call14_v2 (F := Ideal) x1 (ix3 b a j) = maxOf (binsR x1 b a j) := by
  rw [val_main_call14_v2_apply, a_call14_v1, val_main_call14_cst_0_apply, o_bits]
  have e : val_main_call14_v0 (F := Ideal) x1 (ix3 b a j) = maxOf (binsR x1 b a j) := by
    unfold val_main_call14_v0
    exact binMax _ _ _ _ (fun i => rfl) b a j
  rw [e]
  have hb : (Ideal.ofBits .f32 0xFF800000#32 : EReal) = ⊥ := by simp [Ideal.ofBits, Ideal.ieee]
  show max (Ideal.ofBits .f32 0xFF800000#32 : EReal) _ = _
  rw [hb, max_eq_right bot_le]

theorem r_v594 (j : Fin 4) (k : Fin 16) : val_main_v594 (F := Ideal) x1 (ix4 b a j k) = logp (binsR x1 b a j) k := by
  have e5 : ∀ k : Fin 16, val_main_call14_v5 (F := Ideal) x1 (ix4 b a j k) = binsR x1 b a j k - maxOf (binsR x1 b a j) := fun k => by
    rw [val_main_call14_v5_apply, a_call14_v4, a_call14_v3, r_max]; rfl
  rw [val_main_v594_apply, a_call14_v10, val_main_call14_v9_apply, a_call14_v8, a_call14_v7, e5]
  have e6 : (∑ k : Fin 16, val_main_call14_v6 (F := Ideal) x1 (ix4 b a j k) : EReal) = expSum (binsR x1 b a j) := by
    unfold expSum
    refine Finset.sum_congr rfl fun k _ => ?_
    rw [val_main_call14_v6_apply, e5]; rfl
  rw [e6]
  rfl

theorem wrap16 (κ : Fin 16) : Scalar.select (IntOp.cmpi .slt (BitVec.ofNat 32 κ.val) 0#32) (IntOp.addi (BitVec.ofNat 32 κ.val) 16#32) (BitVec.ofNat 32 κ.val)
    = BitVec.ofNat 32 κ.val := by
  revert κ; decide
theorem held16 (κ : Fin 16) : min (BitVec.ofNat 32 κ.val).toInt.toNat 15 = κ.val := by revert κ; decide

section
variable (j : Fin 4) (d : ℝ) (hd : val_main_v592 (F := Ideal) x0 x2 x3 x4 x5 (ix3 b a j) = (d : EReal)) (h0 : 0 ≤ d) (h1 : d < 15)
  (l r : Fin 16) (hl : l.val = leftBin d) (hr : r.val = leftBin d + 1)
include hd h0 h1

theorem r_v593 : val_main_v593 (F := Ideal) x0 x2 x3 x4 x5 (ix3 b a j) = (((leftBin d : ℕ) : ℝ) : EReal) := by
  rw [val_main_v593_apply, hd]
  exact left_floor h0

include hl in
theorem r_v598 : val_main_v598 (F := Ideal) x0 x1 x2 x3 x4 x5 (ix3 b a j) = logp (binsR x1 b a j) l := by
  rw [a_v598]
  unfold val_main_v597
  refine (gather597 _ _ b a j 0).trans ((r_v594 x1 b a j _).trans ?_)
  refine congrArg (logp (binsR x1 b a j)) (Fin.ext ?_)
  show min (BitVec.toInt (val_main_call15_v5 (F := Ideal) x0 x2 x3 x4 x5 (ix5 b a j 0 0))).toNat 15 = _
  have e0 : val_main_v595 (F := Ideal) x0 x2 x3 x4 x5 (ix3 b a j) = BitVec.ofNat 32 l.val := by
    rw [val_main_v595_apply, val_main_v593_apply, hd, hl]
    exact left_bits h0 h1
  have e : val_main_call15_v5 (F := Ideal) x0 x2 x3 x4 x5 (ix5 b a j 0 0) = BitVec.ofNat 32 l.val := by
    simp only [val_main_call15_c_apply, a_call15_v0, val_main_call15_v1_apply, val_main_call15_c_0_apply, a_call15_v2,
      val_main_call15_v3_apply, val_main_call15_v4_apply, a_call15_v5, a_v596, e0]
    exact wrap16 _
  rw [e]
  exact held16 _

include hr in
theorem r_v605 : val_main_v605 (F := Ideal) x0 x1 x2 x3 x4 x5 (ix3 b a j) = logp (binsR x1 b a j) r := by
  rw [a_v605]
  unfold val_main_v604
  refine (gather597 _ _ b a j 0).trans ((r_v594 x1 b a j _).trans ?_)
  refine congrArg (logp (binsR x1 b a j)) (Fin.ext ?_)
  show min (BitVec.toInt (val_main_call16_v5 (F := Ideal) x0 x2 x3 x4 x5 (ix5 b a j 0 0))).toNat 15 = _
  have e0 : val_main_v602 (F := Ideal) x0 x2 x3 x4 x5 (ix3 b a j) = BitVec.ofNat 32 r.val := by
    rw [val_main_v602_apply, val_main_v601_apply, val_main_v593_apply, hd, a_v600, val_main_cst_86_apply, o_bits, Ideal.ofBits_one_f32, hr]
    exact right_bits h0 h1
  have e : val_main_call16_v5 (F := Ideal) x0 x2 x3 x4 x5 (ix5 b a j 0 0) = BitVec.ofNat 32 r.val := by
    simp only [val_main_call16_c_apply, a_call16_v0, val_main_call16_v1_apply, val_main_call16_c_0_apply, a_call16_v2,
      val_main_call16_v3_apply, val_main_call16_v4_apply, a_call16_v5, a_v603, e0]
    exact wrap16 _
  rw [e]
  exact held16 _

include hl hr in
theorem r_v613' : val_main_v613 (F := Ideal) x0 x1 x2 x3 x4 x5 (ix3 b a j)
    = -(logp (binsR x1 b a j) l) * ((((leftBin d : ℝ) : EReal) + 1) - (d : EReal)) + -(logp (binsR x1 b a j) r) * ((d : EReal) - ((leftBin d : ℝ) : EReal)) := by
  rw [val_main_v613_apply, val_main_v610_apply, val_main_v612_apply, val_main_v599_apply, val_main_v606_apply, val_main_v609_apply,
    val_main_v611_apply, val_main_v608_apply, a_v607, val_main_cst_87_apply, o_bits, Ideal.ofBits_one_f32,
    r_v598 x0 x1 x2 x3 x4 x5 b a j d hd h0 h1 l hl, r_v605 x0 x1 x2 x3 x4 x5 b a j d hd h0 h1 r hr, r_v593 x0 x2 x3 x4 x5 b a j d hd h0 h1, hd]
  rfl
end

/-- The reference's loss of one side is the kernel's, where the greatest logit is finite. -/
theorem r_v613 (j : Fin 4) (hx : maxOf (binsR x1 b a j) ≠ ⊤ ∧ maxOf (binsR x1 b a j) ≠ ⊥) : val_main_v613 (F := Ideal) x0 x1 x2 x3 x4 x5 (ix3 b a j)
    = sideK (binsR x1 b a j) (held (val_main_v588 (F := Ideal) x0 x2 x3 x4 x5 (ix3 b a j))) := by
  obtain ⟨d, hd, h0, h1⟩ := held_real (val_main_v588 (F := Ideal) x0 x2 x3 x4 x5 (ix3 b a j))
  have hlt := left_lt h0 h1
  rw [hd, side_eq _ hx h0 ⟨leftBin d, by omega⟩ ⟨leftBin d + 1, by omega⟩ rfl rfl]
  exact r_v613' x0 x1 x2 x3 x4 x5 b a j d ((r_v592 x0 x2 x3 x4 x5 b a j).trans hd) h0 h1 _ _ rfl rfl

/-- The reference's fifth sum. -/
theorem r_v630 : val_main_v630 (F := Ideal) x0 x1 x2 x3 x4 x5 (ix2 b a)
    = (∑ j : Fin 4, (val_main_v613 (F := Ideal) x0 x1 x2 x3 x4 x5 (ix3 b a j) : EReal)) * Ideal.ofBits .f32 0x3E800000#32
      * (∑ c : Fin 80, (val_main_v347 (F := Ideal) x0 x2 x3 x4 (ix3 b a c) : EReal)) * (val_main_v324 (F := Ideal) x0 x2 x3 x4 (ix2 b a) : EReal) := by
  rw [val_main_v630_apply, val_main_v629_apply, val_main_v616_apply, a_v615, val_main_cst_89_apply, a_v361, a_v614, o_bits]
  generalize (∑ j : Fin 4, (val_main_v613 (F := Ideal) x0 x1 x2 x3 x4 x5 (ix3 b a j) : EReal)) = u
  generalize val_main_v324 (F := Ideal) x0 x2 x3 x4 (ix2 b a) = w
  generalize (∑ c : Fin 80, val_main_v347 (F := Ideal) x0 x2 x3 x4 (ix3 b a c)) = v
  rw [← div_four]
  rfl

end Cert.ReferenceIdeal.Read

end
-- ==== Proof.RPre.lean ====
/-
  The precondition, read: every class number is below the number of classes, and of a target's ten largest metrics each is
  either greater than the next or has only nonpositive ones after it; no scale is zero; each distance has a finite greatest
  logit.  Its metric is the reference's, term by term.
-/
module

public import proofs.«01_k».proof.Pre_regular_inputs
public import proofs.«01_k».proof.Proof.RDfl
public import Idealize.ShloMosaic.Lib.ReduceAll
public import Idealize.ShloMosaic.Lib.Affine
public import Idealize.ShloMosaic.Lib.Pipeline.Value

@[expose] public section

noncomputable section

namespace Cert.ReferenceIdeal.Read

open Idealize.ShloMosaic Idealize.ShloMosaic.TcCoe Idealize.SL.Sem Cert.ReferenceIdeal Cert.Spec
open Idealize.ShloMosaic (ix0 ix1 ix2 ix3 ix4)

instance preFacts : Pre_regular_inputs.Facts where
  slices_S16x32x5_S16x32x1_0_0_0 := Gen.slices_S16x32x5_S16x32x1_0_0_0
  shapeCasts_S16x32x1_S16x32 := Gen.shapeCasts_S16x32x1_S16x32
  bcast_S_S16x32 := Gen.bcast_S_S16x32
  slices_S16x32x5_S16x32x4_0_0_1 := Gen.slices_S16x32x5_S16x32x4_0_0_1
  slices_S16x32x4_S16x32x1_0_0_0 := Gen.slices_S16x32x4_S16x32x1_0_0_0
  bcast_S16x32_S16x32x1_0_1 := Gen.bcast_S16x32_S16x32x1_0_1
  slices_S16x32x4_S16x32x1_0_0_1 := Gen.slices_S16x32x4_S16x32x1_0_0_1
  slices_S16x32x4_S16x32x1_0_0_2 := Gen.slices_S16x32x4_S16x32x1_0_0_2
  slices_S16x32x4_S16x32x1_0_0_3 := Gen.slices_S16x32x4_S16x32x1_0_0_3
  slices_S8400x2_S8400x1_0_0 := Gen.slices_S8400x2_S8400x1_0_0
  shapeCasts_S8400x1_S8400 := Gen.shapeCasts_S8400x1_S8400
  bcast_S8400_S1x1x8400_2 := Gen.bcast_S8400_S1x1x8400_2
  slices_S8400x2_S8400x1_0_1 := Gen.slices_S8400x2_S8400x1_0_1
  bcast_S16x32x1_S16x32x8400_0_1_2 := Gen.bcast_S16x32x1_S16x32x8400_0_1_2
  bcast_S1x1x8400_S16x32x8400_0_1_2 := Gen.bcast_S1x1x8400_S16x32x8400_0_1_2
  bcast_S16x32x4_S16x32x1x4_0_1_3 := Gen.bcast_S16x32x4_S16x32x1x4_0_1_3
  bcast_S16x8400x4_S16x1x8400x4_0_2_3 := Gen.bcast_S16x8400x4_S16x1x8400x4_0_2_3
  slices_S16x32x1x4_S16x32x1x1_0_0_0_0 := Gen.slices_S16x32x1x4_S16x32x1x1_0_0_0_0
  shapeCasts_S16x32x1x1_S16x32x1 := Gen.shapeCasts_S16x32x1x1_S16x32x1
  slices_S16x1x8400x4_S16x1x8400x1_0_0_0_0 := Gen.slices_S16x1x8400x4_S16x1x8400x1_0_0_0_0
  shapeCasts_S16x1x8400x1_S16x1x8400 := Gen.shapeCasts_S16x1x8400x1_S16x1x8400
  bcast_S16x1x8400_S16x32x8400_0_1_2 := Gen.bcast_S16x1x8400_S16x32x8400_0_1_2
  slices_S16x32x1x4_S16x32x1x1_0_0_0_1 := Gen.slices_S16x32x1x4_S16x32x1x1_0_0_0_1
  slices_S16x1x8400x4_S16x1x8400x1_0_0_0_1 := Gen.slices_S16x1x8400x4_S16x1x8400x1_0_0_0_1
  slices_S16x32x1x4_S16x32x1x1_0_0_0_2 := Gen.slices_S16x32x1x4_S16x32x1x1_0_0_0_2
  slices_S16x1x8400x4_S16x1x8400x1_0_0_0_2 := Gen.slices_S16x1x8400x4_S16x1x8400x1_0_0_0_2
  slices_S16x32x1x4_S16x32x1x1_0_0_0_3 := Gen.slices_S16x32x1x4_S16x32x1x1_0_0_0_3
  slices_S16x1x8400x4_S16x1x8400x1_0_0_0_3 := Gen.slices_S16x1x8400x4_S16x1x8400x1_0_0_0_3
  bcast_S_S16x32x8400 := Gen.bcast_S_S16x32x8400
  bcast_S_S16x32x1 := Gen.bcast_S_S16x32x1
  bcast_S_S16x1x8400 := Gen.bcast_S_S16x1x8400
  bcast_S_S16x8400x80 := Gen.bcast_S_S16x8400x80
  transposes_S16x8400x80_S16x80x8400_0_2_1 := Gen.transposes_S16x8400x80_S16x80x8400_0_2_1
  shapeCasts_S16x32x8400_S16x32x8400x1 := Gen.shapeCasts_S16x32x8400_S16x32x8400x1
  sliceFits_S16x32x8400_S16x32x10 := Gen.sliceFits_S16x32x8400_S16x32x10
  slices_S16x32x10_S16x32x9_0_0_0 := by decide
  slices_S16x32x10_S16x32x9_0_0_1 := by decide
  bcast_S_S16x32x9 := by decide
  reducesTo_S16x32_S_d0_1 := by decide
  h_S_ := Gen.h_S_
  reducesTo_S16x32x9_S_d0_1_2 := by decide
  bcast_S_S8400 := by decide
  reducesTo_S8400_S_d0 := by decide
  reducesTo_S16x8400x4x16_S16x8400x4_d3 := by decide
  bcast_S_S16x8400x4 := by decide
  reducesTo_S16x8400x4_S_d0_1_2 := by decide
  gather_S16x80x8400_S16x32x8400x1_S16x32x8400_n_1_02_02_1_3_111_wf := Gen.gather_S16x80x8400_S16x32x8400x1_S16x32x8400_n_1_02_02_1_3_111_wf

variable (x0 : (⟨S16x8400x80, .f32⟩ : BufTy).Contents (Elt Ideal)) (x1 : (⟨S16x8400x4x16, .f32⟩ : BufTy).Contents (Elt Ideal))
  (x2 : (⟨S16x8400x4, .f32⟩ : BufTy).Contents (Elt Ideal)) (x3 : (⟨S16x32x5, .f32⟩ : BufTy).Contents (Elt Ideal))
  (x4 : (⟨S8400x2, .f32⟩ : BufTy).Contents (Elt Ideal)) (x5 : (⟨S8400, .f32⟩ : BufTy).Contents (Elt Ideal))

theorem pre_part0 : Pre_regular_inputs.fn (F := Ideal) x0 x1 x2 x3 x4 x5
    = Pre_regular_inputs.fn_part1 (F := Ideal) x0 x1 x2 x3 x5 (val_main_v4 x3) (val_main_v5 x3) (val_main_v8 x3) (val_main_v11 x3) (val_main_v14 x3) (val_main_v17 x3) (val_main_v20 x4) (val_main_v22 x4) := rfl

theorem pre_part1 : Pre_regular_inputs.fn_part1 (F := Ideal) x0 x1 x2 x3 x5 (val_main_v4 x3) (val_main_v5 x3) (val_main_v8 x3) (val_main_v11 x3) (val_main_v14 x3) (val_main_v17 x3) (val_main_v20 x4) (val_main_v22 x4)
    = Pre_regular_inputs.fn_part2 (F := Ideal) x0 x1 x3 x5 (val_main_v4 x3) (val_main_v38 x3 x4) (val_main_v39 x3) (val_main_v40 x2) (val_main_v45 x3) (val_main_v46 x2) := rfl

theorem pre_part2 : Pre_regular_inputs.fn_part2 (F := Ideal) x0 x1 x3 x5 (val_main_v4 x3) (val_main_v38 x3 x4) (val_main_v39 x3) (val_main_v40 x2) (val_main_v45 x3) (val_main_v46 x2)
    = Pre_regular_inputs.fn_part3 (F := Ideal) x0 x1 x3 x5 (val_main_v4 x3) (val_main_v38 x3 x4) (val_main_v39 x3) (val_main_v40 x2) (val_main_v54 x2 x3) (val_main_v68 x2 x3) (val_main_v69 x2 x3) (val_main_cst (F := Ideal)) := rfl

theorem pre_part3 : Pre_regular_inputs.fn_part3 (F := Ideal) x0 x1 x3 x5 (val_main_v4 x3) (val_main_v38 x3 x4) (val_main_v39 x3) (val_main_v40 x2) (val_main_v54 x2 x3) (val_main_v68 x2 x3) (val_main_v69 x2 x3) (val_main_cst (F := Ideal))
    = Pre_regular_inputs.fn_part4 (F := Ideal) x0 x1 x3 x5 (val_main_v4 x3) (val_main_v38 x3 x4) (val_main_v39 x3) (val_main_v40 x2) (val_main_v75 x2 x3) (val_main_v86 x3) (val_main_v91 x2) (val_main_v92 x2) := rfl

theorem pre_part4 : Pre_regular_inputs.fn_part4 (F := Ideal) x0 x1 x3 x5 (val_main_v4 x3) (val_main_v38 x3 x4) (val_main_v39 x3) (val_main_v40 x2) (val_main_v75 x2 x3) (val_main_v86 x3) (val_main_v91 x2) (val_main_v92 x2)
    = Pre_regular_inputs.fn_part5 (F := Ideal) x0 x1 x3 x5 (val_main_v4 x3) (val_main_v38 x3 x4) (val_main_v39 x3) (val_main_v40 x2) (val_main_v104 x2 x3) (val_main_v111 x2 x3) (val_main_v113 x3) (val_main_v115 x2) := rfl

theorem pre_part5 : Pre_regular_inputs.fn_part5 (F := Ideal) x0 x1 x3 x5 (val_main_v4 x3) (val_main_v38 x3 x4) (val_main_v39 x3) (val_main_v40 x2) (val_main_v104 x2 x3) (val_main_v111 x2 x3) (val_main_v113 x3) (val_main_v115 x2)
    = Pre_regular_inputs.fn_part6 (F := Ideal) x0 x1 x3 x5 (val_main_v4 x3) (val_main_v38 x3 x4) (val_main_v39 x3) (val_main_v40 x2) (val_main_v104 x2 x3) (val_main_v137 x2 x3) (val_main_v138 (F := Ideal)) := rfl

theorem pre_part6 : Pre_regular_inputs.fn_part6 (F := Ideal) x0 x1 x3 x5 (val_main_v4 x3) (val_main_v38 x3 x4) (val_main_v39 x3) (val_main_v40 x2) (val_main_v104 x2 x3) (val_main_v137 x2 x3) (val_main_v138 (F := Ideal))
    = Pre_regular_inputs.fn_part7 (F := Ideal) x0 x1 x3 x5 (val_main_v4 x3) (val_main_v38 x3 x4) (val_main_v39 x3) (val_main_v40 x2) (val_main_v104 x2 x3) (val_main_v139 x2 x3) (val_main_v154 x2 x3) (val_main_v161 x2) (val_main_v162 x3) := rfl

theorem pre_part7 : Pre_regular_inputs.fn_part7 (F := Ideal) x0 x1 x3 x5 (val_main_v4 x3) (val_main_v38 x3 x4) (val_main_v39 x3) (val_main_v40 x2) (val_main_v104 x2 x3) (val_main_v139 x2 x3) (val_main_v154 x2 x3) (val_main_v161 x2) (val_main_v162 x3)
    = Pre_regular_inputs.fn_part8 (F := Ideal) x0 x1 x3 x5 (val_main_v4 x3) (val_main_v38 x3 x4) (val_main_v40 x2) (val_main_v104 x2 x3) (val_main_v139 x2 x3) (val_main_v172 x2 x3) (val_main_v179 x3) (val_main_v184 x3) := rfl

theorem pre_part8 : Pre_regular_inputs.fn_part8 (F := Ideal) x0 x1 x3 x5 (val_main_v4 x3) (val_main_v38 x3 x4) (val_main_v40 x2) (val_main_v104 x2 x3) (val_main_v139 x2 x3) (val_main_v172 x2 x3) (val_main_v179 x3) (val_main_v184 x3)
    = Pre_regular_inputs.fn_part9 (F := Ideal) x0 x1 x3 x5 (val_main_v4 x3) (val_main_v38 x3 x4) (val_main_v104 x2 x3) (val_main_v139 x2 x3) (val_main_v172 x2 x3) (val_main_v193 x2) (val_main_v200 x2) (val_main_v201 x3) (val_main_v203 x3) (val_main_cst_9 (F := Ideal)) := rfl

theorem pre_part9 : Pre_regular_inputs.fn_part9 (F := Ideal) x0 x1 x3 x5 (val_main_v4 x3) (val_main_v38 x3 x4) (val_main_v104 x2 x3) (val_main_v139 x2 x3) (val_main_v172 x2 x3) (val_main_v193 x2) (val_main_v200 x2) (val_main_v201 x3) (val_main_v203 x3) (val_main_cst_9 (F := Ideal))
    = Pre_regular_inputs.fn_part10 (F := Ideal) x0 x1 x3 x5 (val_main_v4 x3) (val_main_v38 x3 x4) (val_main_v104 x2 x3) (val_main_v139 x2 x3) (val_main_v172 x2 x3) (val_main_v193 x2) (val_main_v200 x2) (val_main_v203 x3) (val_main_v206 x3) (val_main_v207 x3) (val_main_v221 x3) (val_main_cst_15 (F := Ideal)) := rfl

theorem pre_part10 : Pre_regular_inputs.fn_part10 (F := Ideal) x0 x1 x3 x5 (val_main_v4 x3) (val_main_v38 x3 x4) (val_main_v104 x2 x3) (val_main_v139 x2 x3) (val_main_v172 x2 x3) (val_main_v193 x2) (val_main_v200 x2) (val_main_v203 x3) (val_main_v206 x3) (val_main_v207 x3) (val_main_v221 x3) (val_main_cst_15 (F := Ideal))
    = Pre_regular_inputs.fn_part11 (F := Ideal) x0 x1 x3 x5 (val_main_v4 x3) (val_main_v38 x3 x4) (val_main_v104 x2 x3) (val_main_v139 x2 x3) (val_main_v172 x2 x3) (val_main_v233 x3) (val_main_v236 x2) (val_main_v239 x2) (val_main_v240 x2) := rfl

theorem pre_part11 : Pre_regular_inputs.fn_part11 (F := Ideal) x0 x1 x3 x5 (val_main_v4 x3) (val_main_v38 x3 x4) (val_main_v104 x2 x3) (val_main_v139 x2 x3) (val_main_v172 x2 x3) (val_main_v233 x3) (val_main_v236 x2) (val_main_v239 x2) (val_main_v240 x2)
    = Pre_regular_inputs.fn_part12 (F := Ideal) x0 x1 x3 x5 (val_main_v4 x3) (val_main_v38 x3 x4) (val_main_v104 x2 x3) (val_main_v139 x2 x3) (val_main_v172 x2 x3) (val_main_v233 x3) (val_main_v236 x2) (val_main_v239 x2) (val_main_v240 x2) (val_main_v257 x2) (val_main_cst_27 (F := Ideal)) := rfl

theorem pre_part12 : Pre_regular_inputs.fn_part12 (F := Ideal) x0 x1 x3 x5 (val_main_v4 x3) (val_main_v38 x3 x4) (val_main_v104 x2 x3) (val_main_v139 x2 x3) (val_main_v172 x2 x3) (val_main_v233 x3) (val_main_v236 x2) (val_main_v239 x2) (val_main_v240 x2) (val_main_v257 x2) (val_main_cst_27 (F := Ideal))
    = Pre_regular_inputs.fn_part13 (F := Ideal) x0 x1 x3 x5 (val_main_v4 x3) (val_main_v38 x3 x4) (val_main_v104 x2 x3) (val_main_v139 x2 x3) (val_main_v172 x2 x3) (val_main_v272 x2 x3) (val_main_v275 x2 x3) (val_main_v276 (F := Ideal)) := rfl

theorem pre_part13 : Pre_regular_inputs.fn_part13 (F := Ideal) x0 x1 x3 x5 (val_main_v4 x3) (val_main_v38 x3 x4) (val_main_v104 x2 x3) (val_main_v139 x2 x3) (val_main_v172 x2 x3) (val_main_v272 x2 x3) (val_main_v275 x2 x3) (val_main_v276 (F := Ideal))
    = Pre_regular_inputs.fn_part14 (F := Ideal) x1 x3 x5 (val_main_v38 x3 x4) (val_main_v286 x2 x3) (val_main_v296 x0 x3) := rfl

/-- The precondition's metric is the reference's. -/
theorem pre_metric : Pre_regular_inputs.fn (F := Ideal) x0 x1 x2 x3 x4 x5
    = Pre_regular_inputs.fn_part14 (F := Ideal) x1 x3 x5 (val_main_v38 x3 x4) (val_main_v286 x2 x3) (val_main_v296 x0 x3) := by
  rw [pre_part0, pre_part1, pre_part2, pre_part3, pre_part4, pre_part5, pre_part6, pre_part7, pre_part8, pre_part9, pre_part10, pre_part11, pre_part12, pre_part13]

theorem eighty : (Ideal.ofBits .f32 0x42A00000#32 : EReal) = ((80 : ℝ) : EReal) := by
  simp [Ideal.ofBits, Ideal.ieee]
  norm_num
  rw [← EReal.coe_mul]
  norm_num

theorem bit_one {p : Prop} [Decidable p] (h : BitVec.ofBool (decide p) = 1#1) : p := by
  by_contra hp
  rw [decide_eq_false hp] at h
  exact absurd h (by decide)

theorem slice_first (y : S16x32x10.Idx → Ideal .f32) (hs : S16x32x10.Slices ![0, 0, 0] Pre_regular_inputs.S16x32x9)
    {b : Fin 16} {t : Fin 32} {k : Fin 9} :
    extractStridedSlice Pre_regular_inputs.S16x32x9 ![0, 0, 0] y hs (ix3 b t k) = y (ix3 b t k.castSucc) :=
  extractStridedSlice_apply _ _ _ _ _ (by intro i; fin_cases i <;> simp [ix3])

theorem slice_rest (y : S16x32x10.Idx → Ideal .f32) (hs : S16x32x10.Slices ![0, 0, 1] Pre_regular_inputs.S16x32x9)
    {b : Fin 16} {t : Fin 32} {k : Fin 9} :
    extractStridedSlice Pre_regular_inputs.S16x32x9 ![0, 0, 1] y hs (ix3 b t k) = y (ix3 b t k.succ) :=
  extractStridedSlice_apply _ _ _ _ _ (by intro i; fin_cases i <;> simp [ix3, Nat.add_comm])

theorem top_bits : (Ideal.ofBits .f32 0x7F800000#32 : EReal) = ⊤ := by
  simp [Ideal.ofBits, Ideal.ieee]

theorem abs_bit (y : FVec Ideal Pre_regular_inputs.S16x8400x4 .f32) {i} (h : cmpf .olt (Host.absf y) (broadcastInDim Pre_regular_inputs.S16x8400x4 ![]
    preFacts.bcast_S_S16x8400x4 (constant Pre_regular_inputs.S_ .f32 0x7F800000#32)) i = 1#1) : (y i : EReal) ≠ ⊤ ∧ (y i : EReal) ≠ ⊥ := by
  have h4 : BitVec.ofBool (decide (max (y i : EReal) (-(y i : EReal)) < (Ideal.ofBits .f32 0x7F800000#32 : EReal))) = 1#1 := h
  have h5 := bit_one h4
  rw [top_bits] at h5
  generalize (y i : EReal) = x at h5
  constructor
  · rintro rfl; simp at h5
  · rintro rfl; simp at h5

/-- What the precondition says of the class numbers and of the ranked metrics, of the scales, and of the greatest logit
of each distance. -/
theorem pre_facts (h : Pre_regular_inputs.fn (F := Ideal) x0 x1 x2 x3 x4 x5 = fun _ => 1#1) :
    (∀ (b : Fin 16) (t : Fin 32), ((x3 (ix3 b t 0) : Ideal .f32) : EReal) < ((80 : ℝ) : EReal)
      ∧ ∀ k : Fin 9, (val_main_values (F := Ideal) x0 x2 x3 x4 (ix3 b t k.succ) : EReal) < val_main_values (F := Ideal) x0 x2 x3 x4 (ix3 b t k.castSucc)
        ∨ (val_main_values (F := Ideal) x0 x2 x3 x4 (ix3 b t k.succ) : EReal) ≤ 0)
      ∧ (∀ a : Fin 8400, ((x5 (ix1 a) : Ideal .f32) : EReal) ≠ 0)
      ∧ ∀ (b : Fin 16) (a : Fin 8400) (j : Fin 4), maxOf (binsR x1 b a j) ≠ ⊤ ∧ maxOf (binsR x1 b a j) ≠ ⊥ := by
  rw [pre_metric] at h
  have h0 := congrFun h ix0
  unfold Pre_regular_inputs.fn_part14 Pre_regular_inputs.fn_part15 at h0
  obtain ⟨hb, hanc⟩ := IntOp.andi_eq_one.1 h0
  obtain ⟨hc, hsc⟩ := IntOp.andi_eq_one.1 hb
  obtain ⟨h1, h2⟩ := IntOp.andi_eq_one.1 hc
  haveI : Subsingleton Pre_regular_inputs.S_.Idx := ⟨fun i j => funext fun k => k.elim0⟩
  refine ⟨fun b t => ⟨?_, ?_⟩, fun a => ?_, fun b a j => ?_⟩
  · have h3 := Host.reduce_andi_all _ _ _ _ _ h1 (ix2 b t)
    have h4 : BitVec.ofBool (decide ((val_main_v1 (F := Ideal) x3 (ix2 b t) : EReal) < (Ideal.ofBits .f32 0x42A00000#32 : EReal))) = 1#1 := h3
    have h5 := bit_one h4
    rw [eighty, a_v1, a_v0] at h5
    exact h5
  · intro k
    have h3 := Host.reduce_andi_all _ _ _ _ _ h2 (ix3 b t k)
    rw [← slice_first (val_main_values (F := Ideal) x0 x2 x3 x4) preFacts.slices_S16x32x10_S16x32x9_0_0_0,
      ← slice_rest (val_main_values (F := Ideal) x0 x2 x3 x4) preFacts.slices_S16x32x10_S16x32x9_0_0_1]
    have h4 : IntOp.ori (BitVec.ofBool (decide _)) (BitVec.ofBool (decide (_ ≤ Ideal.ofBits .f32 0x00000000#32))) = 1#1 := h3
    rcases IntOp.ori_eq_one.1 h4 with h5 | h5
    · exact .inl (bit_one h5)
    · have h6 := bit_one h5
      rw [Ideal.ofBits_zero_f32] at h6
      exact .inr h6
  · have h3 := Host.reduce_andi_all _ _ _ _ _ hsc (ix1 a)
    have h4 : IntOp.ori (BitVec.ofBool (decide (Ideal.ofBits .f32 0x00000000#32 < ((x5 (ix1 a) : Ideal .f32) : EReal))))
      (BitVec.ofBool (decide (((x5 (ix1 a) : Ideal .f32) : EReal) < Ideal.ofBits .f32 0x00000000#32))) = 1#1 := h3
    rw [Ideal.ofBits_zero_f32] at h4
    rcases IntOp.ori_eq_one.1 h4 with h5 | h5
    · exact (bit_one h5).ne'
    · exact (bit_one h5).ne
  · have h3 := Host.reduce_andi_all _ _ _ _ _ hanc (ix3 b a j)
    have h4 := abs_bit _ h3
    beta_reduce at h4
    erw [binMax x1 _ _ _ (fun _ => rfl) b a j] at h4
    exact h4

end Cert.ReferenceIdeal.Read

end
-- ==== Proof.KIns0.lean ====
/-
  The insertion network's steps, on whole arrays: every lane of every row is an insertion of its own.
-/
module

public import proofs.«01_k».proof.Proof.KVals
public import proofs.«01_k».proof.Proof.Count
public import Idealize.ShloMosaic.Lib.Pointwise

@[expose] public section

noncomputable section

namespace Cert.KernelIdeal.Vals

open Idealize.ShloMosaic Idealize.ShloMosaic.TcCoe Idealize.SL.Sem Cert.KernelIdeal Cert.KernelIdeal.Gen Cert.Count

/-- Three registers the last insertion leaves inside one stretch. -/
def v1551 {F : FTy → Type} [FloatOps F] (X : Ins F) : FVec F S32x128 .f32 := k0_pay1252 (v1531 X) (v1550 X)
@[inherit_doc v1551]
def v1553 {F : FTy → Type} [FloatOps F] (X : Ins F) : FVec F S32x128 .f32 := k0_pay1254 (v1531 X) (v1533 X) (v1550 X)
@[inherit_doc v1551]
def v1555 {F : FTy → Type} [FloatOps F] (X : Ins F) : FVec F S32x128 .f32 := k0_pay1256 (v1531 X) (v1533 X) (v1535 X) (v1550 X)

/-- Row `t` of the padded metric. -/
def row (T : FVec Ideal S32x8448 .f32) (t : Fin 32) : Fin 8448 → EReal := fun j => T (ix2 t j)

/-- `r` is register `k` after `n` chunks. -/
def IsReg (T : FVec Ideal S32x8448 .f32) (k n : ℕ) (r : FVec Ideal S32x128 .f32) : Prop :=
  ∀ (t : Fin 32) (l : Fin 128), Reg (lane (row T t) l) k n (r (ix2 t l))

/-- `r` is chunk `n` on its way past register `k`. -/
def IsPend (T : FVec Ideal S32x8448 .f32) (k n : ℕ) (r : FVec Ideal S32x128 .f32) : Prop :=
  ∀ (t : Fin 32) (l : Fin 128), Pend (lane (row T t) l) k n (r (ix2 t l))

variable {T : FVec Ideal S32x8448 .f32} {k n : ℕ} {r e : FVec Ideal S32x128 .f32}

theorem regStep (hr : IsReg T k n r) (he : IsPend T k n e) : IsReg T k (n + 1) (maximumf r e) :=
  fun t l => Reg.step (hr t l) (he t l)

theorem pendStep (hr : IsReg T k n r) (he : IsPend T k n e) : IsPend T (k + 1) n (minimumf r e) :=
  fun t l => Pend.step (hr t l) (he t l)

theorem minus_one : (FloatOps.ofBits .f32 0xBF800000#32 : Ideal .f32) = (-1 : EReal) := by
  show Ideal.ofBits .f32 0xBF800000#32 = _
  simp [Ideal.ofBits, Ideal.ieee, -EReal.coe_mul]
  norm_num

theorem regInit (T : FVec Ideal S32x8448 .f32) (k : ℕ) :
    IsReg T k 0 (broadcast S32x128 (Scalar.ofBits (F := Ideal) .f32 0xBF800000#32)) := fun t l => by
  show Reg _ k 0 (FloatOps.ofBits .f32 0xBF800000#32 : Ideal .f32)
  rw [minus_one]
  exact Reg.init _ k

theorem pendInit (T : FVec Ideal S32x8448 .f32) (n : ℕ) (hn : n < 66) (h : S32x8448.Slices ![0, 128 * n] S32x128) :
    IsPend T 0 n (extractStridedSlice S32x128 ![0, 128 * n] T h) := fun t l => by
  have hb : 128 * n + l.val < 8448 := by have := l.isLt; omega
  have e : extractStridedSlice S32x128 ![0, 128 * n] T h (ix2 t l) = lane (row T t) l n := by
    unfold lane
    rw [dif_pos hb]
    unfold extractStridedSlice row
    exact congrArg T (funext fun a => match a with
      | ⟨0, _⟩ => Fin.ext (Nat.zero_add _)
      | ⟨1, _⟩ => rfl)
  rw [e]
  exact Pend.init _ n

end Cert.KernelIdeal.Vals
-- ==== Proof.KIns1.lean ====
/-
  The insertion network, value by value: which register after how many chunks, or which chunk on its way past which register (the first half).
-/
module

public import proofs.«01_k».proof.Proof.KIns0

@[expose] public section

noncomputable section

namespace Cert.KernelIdeal.Vals

open Idealize.ShloMosaic Idealize.ShloMosaic.TcCoe Idealize.SL.Sem Cert.KernelIdeal Cert.KernelIdeal.Gen Cert.Count

theorem v232_is (X : Ins Ideal) : IsReg (v231 X) 0 0 (v232 X) := regInit _ 0

theorem v233_is (X : Ins Ideal) : IsReg (v231 X) 1 0 (v233 X) := regInit _ 1

theorem v234_is (X : Ins Ideal) : IsReg (v231 X) 2 0 (v234 X) := regInit _ 2

theorem v235_is (X : Ins Ideal) : IsReg (v231 X) 3 0 (v235 X) := regInit _ 3

theorem part6_is (X : Ins Ideal) : IsReg (v231 X) 4 2 (v271 X) ∧ IsReg (v231 X) 5 2 (v273 X) ∧ IsReg (v231 X) 6 2 (v275 X) ∧ IsReg (v231 X) 7 2 (v277 X) ∧ IsReg (v231 X) 8 2 (v279 X) ∧ IsReg (v231 X) 9 2 (v281 X) ∧ IsReg (v231 X) 0 3 (v283 X) ∧ IsReg (v231 X) 1 3 (v285 X) ∧ IsReg (v231 X) 2 3 (v287 X) ∧ IsReg (v231 X) 3 3 (v289 X) ∧ IsPend (v231 X) 4 2 (v290 X) := by
  have h0 : IsPend (v231 X) 0 1 (k0_pay69 (v231 X)) := pendInit (v231 X) 1 (by decide) (by decide)
  have h1 : IsPend (v231 X) 0 0 (k0_pay51 (v231 X)) := pendInit (v231 X) 0 (by decide) (by decide)
  have h2 : IsReg (v231 X) 0 1 (k0_pay52 (v231 X) (v232 X)) := regStep (v232_is X) h1
  have h3 : IsPend (v231 X) 1 1 (k0_pay71 (v231 X) (v232 X)) := pendStep h2 h0
  have h4 : IsPend (v231 X) 1 0 (k0_pay53 (v231 X) (v232 X)) := pendStep (v232_is X) h1
  have h5 : IsReg (v231 X) 1 1 (k0_pay54 (v231 X) (v232 X) (v233 X)) := regStep (v233_is X) h4
  have h6 : IsPend (v231 X) 2 1 (k0_pay73 (v231 X) (v232 X) (v233 X)) := pendStep h5 h3
  have h7 : IsPend (v231 X) 2 0 (k0_pay55 (v231 X) (v232 X) (v233 X)) := pendStep (v233_is X) h4
  have h8 : IsReg (v231 X) 2 1 (k0_pay56 (v231 X) (v232 X) (v233 X) (v234 X)) := regStep (v234_is X) h7
  have h9 : IsPend (v231 X) 3 1 (k0_pay75 (v231 X) (v232 X) (v233 X) (v234 X)) := pendStep h8 h6
  have h10 : IsPend (v231 X) 3 0 (k0_pay57 (v231 X) (v232 X) (v233 X) (v234 X)) := pendStep (v234_is X) h7
  have h11 : IsReg (v231 X) 3 1 (k0_pay58 (v231 X) (v232 X) (v233 X) (v234 X) (v235 X)) := regStep (v235_is X) h10
  have h12 : IsPend (v231 X) 4 1 (k0_pay77 (v231 X) (v232 X) (v233 X) (v234 X) (v235 X)) := pendStep h11 h9
  have h13 : IsPend (v231 X) 4 0 (k0_pay59 (v231 X) (v232 X) (v233 X) (v234 X) (v235 X)) := pendStep (v235_is X) h10
  have h14 : IsReg (v231 X) 4 0 (k0_pay46 (cst_60 X)) := regInit (v231 X) _
  have h15 : IsReg (v231 X) 4 1 (k0_pay60 (v231 X) (v232 X) (v233 X) (v234 X) (v235 X) (cst_60 X)) := regStep h14 h13
  have h16 : IsReg (v231 X) 4 2 (k0_pay78 (v231 X) (v232 X) (v233 X) (v234 X) (v235 X) (cst_60 X)) := regStep h15 h12
  have h17 : IsPend (v231 X) 5 1 (k0_pay79 (v231 X) (v232 X) (v233 X) (v234 X) (v235 X) (cst_60 X)) := pendStep h15 h12
  have h18 : IsPend (v231 X) 5 0 (k0_pay61 (v231 X) (v232 X) (v233 X) (v234 X) (v235 X) (cst_60 X)) := pendStep h14 h13
  have h19 : IsReg (v231 X) 5 0 (k0_pay47) := regInit (v231 X) _
  have h20 : IsReg (v231 X) 5 1 (k0_pay62 (v231 X) (v232 X) (v233 X) (v234 X) (v235 X) (cst_60 X)) := regStep h19 h18
  have h21 : IsReg (v231 X) 5 2 (k0_pay80 (v231 X) (v232 X) (v233 X) (v234 X) (v235 X) (cst_60 X)) := regStep h20 h17
  have h22 : IsPend (v231 X) 6 1 (k0_pay81 (v231 X) (v232 X) (v233 X) (v234 X) (v235 X) (cst_60 X)) := pendStep h20 h17
  have h23 : IsPend (v231 X) 6 0 (k0_pay63 (v231 X) (v232 X) (v233 X) (v234 X) (v235 X) (cst_60 X)) := pendStep h19 h18
  have h24 : IsReg (v231 X) 6 0 (k0_pay48) := regInit (v231 X) _
  have h25 : IsReg (v231 X) 6 1 (k0_pay64 (v231 X) (v232 X) (v233 X) (v234 X) (v235 X) (cst_60 X)) := regStep h24 h23
  have h26 : IsReg (v231 X) 6 2 (k0_pay82 (v231 X) (v232 X) (v233 X) (v234 X) (v235 X) (cst_60 X)) := regStep h25 h22
  have h27 : IsPend (v231 X) 7 1 (k0_pay83 (v231 X) (v232 X) (v233 X) (v234 X) (v235 X) (cst_60 X)) := pendStep h25 h22
  have h28 : IsPend (v231 X) 7 0 (k0_pay65 (v231 X) (v232 X) (v233 X) (v234 X) (v235 X) (cst_60 X)) := pendStep h24 h23
  have h29 : IsReg (v231 X) 7 0 (k0_pay49) := regInit (v231 X) _
  have h30 : IsReg (v231 X) 7 1 (k0_pay66 (v231 X) (v232 X) (v233 X) (v234 X) (v235 X) (cst_60 X)) := regStep h29 h28
  have h31 : IsReg (v231 X) 7 2 (k0_pay84 (v231 X) (v232 X) (v233 X) (v234 X) (v235 X) (cst_60 X)) := regStep h30 h27
  have h32 : IsPend (v231 X) 8 1 (k0_pay85 (v231 X) (v232 X) (v233 X) (v234 X) (v235 X) (cst_60 X)) := pendStep h30 h27
  have h33 : IsPend (v231 X) 8 0 (k0_pay67 (v231 X) (v232 X) (v233 X) (v234 X) (v235 X) (cst_60 X)) := pendStep h29 h28
  have h34 : IsReg (v231 X) 8 0 (k0_pay50) := regInit (v231 X) _
  have h35 : IsReg (v231 X) 8 1 (k0_pay68 (v231 X) (v232 X) (v233 X) (v234 X) (v235 X) (cst_60 X)) := regStep h34 h33
  have h36 : IsReg (v231 X) 8 2 (k0_pay86 (v231 X) (v232 X) (v233 X) (v234 X) (v235 X) (cst_60 X)) := regStep h35 h32
  have h37 : IsPend (v231 X) 9 1 (minimumf (k0_pay68 (v231 X) (v232 X) (v233 X) (v234 X) (v235 X) (cst_60 X)) (k0_pay85 (v231 X) (v232 X) (v233 X) (v234 X) (v235 X) (cst_60 X))) := pendStep h35 h32
  have h38 : IsPend (v231 X) 9 0 (minimumf (k0_pay50) (k0_pay67 (v231 X) (v232 X) (v233 X) (v234 X) (v235 X) (cst_60 X))) := pendStep h34 h33
  have h39 : IsReg (v231 X) 9 0 (broadcast S32x128 (Scalar.ofBits .f32 0xBF800000#32)) := regInit (v231 X) _
  have h40 : IsReg (v231 X) 9 1 (maximumf (broadcast S32x128 (Scalar.ofBits .f32 0xBF800000#32)) (minimumf (k0_pay50) (k0_pay67 (v231 X) (v232 X) (v233 X) (v234 X) (v235 X) (cst_60 X)))) := regStep h39 h38
  have h41 : IsReg (v231 X) 9 2 (k0_pay87 (v231 X) (v232 X) (v233 X) (v234 X) (v235 X) (cst_60 X)) := regStep h40 h37
  have h42 : IsPend (v231 X) 0 2 (k0_pay88 (v231 X)) := pendInit (v231 X) 2 (by decide) (by decide)
  have h43 : IsReg (v231 X) 0 2 (k0_pay70 (v231 X) (v232 X)) := regStep h2 h0
  have h44 : IsReg (v231 X) 0 3 (k0_pay89 (v231 X) (v232 X)) := regStep h43 h42
  have h45 : IsPend (v231 X) 1 2 (k0_pay90 (v231 X) (v232 X)) := pendStep h43 h42
  have h46 : IsReg (v231 X) 1 2 (k0_pay72 (v231 X) (v232 X) (v233 X)) := regStep h5 h3
  have h47 : IsReg (v231 X) 1 3 (k0_pay91 (v231 X) (v232 X) (v233 X)) := regStep h46 h45
  have h48 : IsPend (v231 X) 2 2 (k0_pay92 (v231 X) (v232 X) (v233 X)) := pendStep h46 h45
  have h49 : IsReg (v231 X) 2 2 (k0_pay74 (v231 X) (v232 X) (v233 X) (v234 X)) := regStep h8 h6
  have h50 : IsReg (v231 X) 2 3 (k0_pay93 (v231 X) (v232 X) (v233 X) (v234 X)) := regStep h49 h48
  have h51 : IsPend (v231 X) 3 2 (k0_pay94 (v231 X) (v232 X) (v233 X) (v234 X)) := pendStep h49 h48
  have h52 : IsReg (v231 X) 3 2 (k0_pay76 (v231 X) (v232 X) (v233 X) (v234 X) (v235 X)) := regStep h11 h9
  have h53 : IsReg (v231 X) 3 3 (k0_pay95 (v231 X) (v232 X) (v233 X) (v234 X) (v235 X)) := regStep h52 h51
  have h54 : IsPend (v231 X) 4 2 (k0_pay96 (v231 X) (v232 X) (v233 X) (v234 X) (v235 X)) := pendStep h52 h51
  exact ⟨h16, h21, h26, h31, h36, h41, h44, h47, h50, h53, h54⟩

theorem v271_is (X : Ins Ideal) : IsReg (v231 X) 4 2 (v271 X) := (part6_is X).1

theorem v273_is (X : Ins Ideal) : IsReg (v231 X) 5 2 (v273 X) := (part6_is X).2.1

theorem v275_is (X : Ins Ideal) : IsReg (v231 X) 6 2 (v275 X) := (part6_is X).2.2.1

theorem v277_is (X : Ins Ideal) : IsReg (v231 X) 7 2 (v277 X) := (part6_is X).2.2.2.1

theorem v279_is (X : Ins Ideal) : IsReg (v231 X) 8 2 (v279 X) := (part6_is X).2.2.2.2.1

theorem v281_is (X : Ins Ideal) : IsReg (v231 X) 9 2 (v281 X) := (part6_is X).2.2.2.2.2.1

theorem v283_is (X : Ins Ideal) : IsReg (v231 X) 0 3 (v283 X) := (part6_is X).2.2.2.2.2.2.1

theorem v285_is (X : Ins Ideal) : IsReg (v231 X) 1 3 (v285 X) := (part6_is X).2.2.2.2.2.2.2.1

theorem v287_is (X : Ins Ideal) : IsReg (v231 X) 2 3 (v287 X) := (part6_is X).2.2.2.2.2.2.2.2.1

theorem v289_is (X : Ins Ideal) : IsReg (v231 X) 3 3 (v289 X) := (part6_is X).2.2.2.2.2.2.2.2.2.1

theorem v290_is (X : Ins Ideal) : IsPend (v231 X) 4 2 (v290 X) := (part6_is X).2.2.2.2.2.2.2.2.2.2

theorem part7_is (X : Ins Ideal) : IsReg (v231 X) 4 5 (v331 X) ∧ IsReg (v231 X) 5 5 (v333 X) ∧ IsReg (v231 X) 6 5 (v335 X) ∧ IsReg (v231 X) 7 5 (v337 X) ∧ IsReg (v231 X) 8 5 (v339 X) ∧ IsReg (v231 X) 9 5 (v341 X) ∧ IsReg (v231 X) 0 6 (v343 X) ∧ IsReg (v231 X) 1 6 (v345 X) ∧ IsReg (v231 X) 2 6 (v347 X) ∧ IsReg (v231 X) 3 6 (v349 X) ∧ IsPend (v231 X) 4 5 (v350 X) := by
  have h0 : IsPend (v231 X) 0 4 (k0_pay124 (v231 X)) := pendInit (v231 X) 4 (by decide) (by decide)
  have h1 : IsPend (v231 X) 0 3 (k0_pay106 (v231 X)) := pendInit (v231 X) 3 (by decide) (by decide)
  have h2 : IsReg (v231 X) 0 4 (k0_pay107 (v231 X) (v283 X)) := regStep (v283_is X) h1
  have h3 : IsPend (v231 X) 1 4 (k0_pay126 (v231 X) (v283 X)) := pendStep h2 h0
  have h4 : IsPend (v231 X) 1 3 (k0_pay108 (v231 X) (v283 X)) := pendStep (v283_is X) h1
  have h5 : IsReg (v231 X) 1 4 (k0_pay109 (v231 X) (v283 X) (v285 X)) := regStep (v285_is X) h4
  have h6 : IsPend (v231 X) 2 4 (k0_pay128 (v231 X) (v283 X) (v285 X)) := pendStep h5 h3
  have h7 : IsPend (v231 X) 2 3 (k0_pay110 (v231 X) (v283 X) (v285 X)) := pendStep (v285_is X) h4
  have h8 : IsReg (v231 X) 2 4 (k0_pay111 (v231 X) (v283 X) (v285 X) (v287 X)) := regStep (v287_is X) h7
  have h9 : IsPend (v231 X) 3 4 (k0_pay130 (v231 X) (v283 X) (v285 X) (v287 X)) := pendStep h8 h6
  have h10 : IsPend (v231 X) 3 3 (k0_pay112 (v231 X) (v283 X) (v285 X) (v287 X)) := pendStep (v287_is X) h7
  have h11 : IsReg (v231 X) 3 4 (k0_pay113 (v231 X) (v283 X) (v285 X) (v287 X) (v289 X)) := regStep (v289_is X) h10
  have h12 : IsPend (v231 X) 4 4 (k0_pay132 (v231 X) (v283 X) (v285 X) (v287 X) (v289 X)) := pendStep h11 h9
  have h13 : IsPend (v231 X) 4 3 (k0_pay114 (v231 X) (v283 X) (v285 X) (v287 X) (v289 X)) := pendStep (v289_is X) h10
  have h14 : IsReg (v231 X) 4 3 (k0_pay97 (v271 X) (v290 X)) := regStep (v271_is X) (v290_is X)
  have h15 : IsReg (v231 X) 4 4 (k0_pay115 (v231 X) (v271 X) (v283 X) (v285 X) (v287 X) (v289 X) (v290 X)) := regStep h14 h13
  have h16 : IsReg (v231 X) 4 5 (k0_pay133 (v231 X) (v271 X) (v283 X) (v285 X) (v287 X) (v289 X) (v290 X)) := regStep h15 h12
  have h17 : IsPend (v231 X) 5 4 (k0_pay134 (v231 X) (v271 X) (v283 X) (v285 X) (v287 X) (v289 X) (v290 X)) := pendStep h15 h12
  have h18 : IsPend (v231 X) 5 3 (k0_pay116 (v231 X) (v271 X) (v283 X) (v285 X) (v287 X) (v289 X) (v290 X)) := pendStep h14 h13
  have h19 : IsPend (v231 X) 5 2 (k0_pay98 (v271 X) (v290 X)) := pendStep (v271_is X) (v290_is X)
  have h20 : IsReg (v231 X) 5 3 (k0_pay99 (v271 X) (v273 X) (v290 X)) := regStep (v273_is X) h19
  have h21 : IsReg (v231 X) 5 4 (k0_pay117 (v231 X) (v271 X) (v273 X) (v283 X) (v285 X) (v287 X) (v289 X) (v290 X)) := regStep h20 h18
  have h22 : IsReg (v231 X) 5 5 (k0_pay135 (v231 X) (v271 X) (v273 X) (v283 X) (v285 X) (v287 X) (v289 X) (v290 X)) := regStep h21 h17
  have h23 : IsPend (v231 X) 6 4 (k0_pay136 (v231 X) (v271 X) (v273 X) (v283 X) (v285 X) (v287 X) (v289 X) (v290 X)) := pendStep h21 h17
  have h24 : IsPend (v231 X) 6 3 (k0_pay118 (v231 X) (v271 X) (v273 X) (v283 X) (v285 X) (v287 X) (v289 X) (v290 X)) := pendStep h20 h18
  have h25 : IsPend (v231 X) 6 2 (k0_pay100 (v271 X) (v273 X) (v290 X)) := pendStep (v273_is X) h19
  have h26 : IsReg (v231 X) 6 3 (k0_pay101 (v271 X) (v273 X) (v275 X) (v290 X)) := regStep (v275_is X) h25
  have h27 : IsReg (v231 X) 6 4 (k0_pay119 (v231 X) (v271 X) (v273 X) (v275 X) (v283 X) (v285 X) (v287 X) (v289 X) (v290 X)) := regStep h26 h24
  have h28 : IsReg (v231 X) 6 5 (k0_pay137 (v231 X) (v271 X) (v273 X) (v275 X) (v283 X) (v285 X) (v287 X) (v289 X) (v290 X)) := regStep h27 h23
  have h29 : IsPend (v231 X) 7 4 (k0_pay138 (v231 X) (v271 X) (v273 X) (v275 X) (v283 X) (v285 X) (v287 X) (v289 X) (v290 X)) := pendStep h27 h23
  have h30 : IsPend (v231 X) 7 3 (k0_pay120 (v231 X) (v271 X) (v273 X) (v275 X) (v283 X) (v285 X) (v287 X) (v289 X) (v290 X)) := pendStep h26 h24
  have h31 : IsPend (v231 X) 7 2 (k0_pay102 (v271 X) (v273 X) (v275 X) (v290 X)) := pendStep (v275_is X) h25
  have h32 : IsReg (v231 X) 7 3 (k0_pay103 (v271 X) (v273 X) (v275 X) (v277 X) (v290 X)) := regStep (v277_is X) h31
  have h33 : IsReg (v231 X) 7 4 (k0_pay121 (v231 X) (v271 X) (v273 X) (v275 X) (v277 X) (v283 X) (v285 X) (v287 X) (v289 X) (v290 X)) := regStep h32 h30
  have h34 : IsReg (v231 X) 7 5 (k0_pay139 (v231 X) (v271 X) (v273 X) (v275 X) (v277 X) (v283 X) (v285 X) (v287 X) (v289 X) (v290 X)) := regStep h33 h29
  have h35 : IsPend (v231 X) 8 4 (k0_pay140 (v231 X) (v271 X) (v273 X) (v275 X) (v277 X) (v283 X) (v285 X) (v287 X) (v289 X) (v290 X)) := pendStep h33 h29
  have h36 : IsPend (v231 X) 8 3 (k0_pay122 (v231 X) (v271 X) (v273 X) (v275 X) (v277 X) (v283 X) (v285 X) (v287 X) (v289 X) (v290 X)) := pendStep h32 h30
  have h37 : IsPend (v231 X) 8 2 (k0_pay104 (v271 X) (v273 X) (v275 X) (v277 X) (v290 X)) := pendStep (v277_is X) h31
  have h38 : IsReg (v231 X) 8 3 (k0_pay105 (v271 X) (v273 X) (v275 X) (v277 X) (v279 X) (v290 X)) := regStep (v279_is X) h37
  have h39 : IsReg (v231 X) 8 4 (k0_pay123 (v231 X) (v271 X) (v273 X) (v275 X) (v277 X) (v279 X) (v283 X) (v285 X) (v287 X) (v289 X) (v290 X)) := regStep h38 h36
  have h40 : IsReg (v231 X) 8 5 (k0_pay141 (v231 X) (v271 X) (v273 X) (v275 X) (v277 X) (v279 X) (v283 X) (v285 X) (v287 X) (v289 X) (v290 X)) := regStep h39 h35
  have h41 : IsPend (v231 X) 9 4 (minimumf (k0_pay123 (v231 X) (v271 X) (v273 X) (v275 X) (v277 X) (v279 X) (v283 X) (v285 X) (v287 X) (v289 X) (v290 X)) (k0_pay140 (v231 X) (v271 X) (v273 X) (v275 X) (v277 X) (v283 X) (v285 X) (v287 X) (v289 X) (v290 X))) := pendStep h39 h35
  have h42 : IsPend (v231 X) 9 3 (minimumf (k0_pay105 (v271 X) (v273 X) (v275 X) (v277 X) (v279 X) (v290 X)) (k0_pay122 (v231 X) (v271 X) (v273 X) (v275 X) (v277 X) (v283 X) (v285 X) (v287 X) (v289 X) (v290 X))) := pendStep h38 h36
  have h43 : IsPend (v231 X) 9 2 (minimumf (v279 X) (k0_pay104 (v271 X) (v273 X) (v275 X) (v277 X) (v290 X))) := pendStep (v279_is X) h37
  have h44 : IsReg (v231 X) 9 3 (maximumf (v281 X) (minimumf (v279 X) (k0_pay104 (v271 X) (v273 X) (v275 X) (v277 X) (v290 X)))) := regStep (v281_is X) h43
  have h45 : IsReg (v231 X) 9 4 (maximumf (maximumf (v281 X) (minimumf (v279 X) (k0_pay104 (v271 X) (v273 X) (v275 X) (v277 X) (v290 X)))) (minimumf (k0_pay105 (v271 X) (v273 X) (v275 X) (v277 X) (v279 X) (v290 X)) (k0_pay122 (v231 X) (v271 X) (v273 X) (v275 X) (v277 X) (v283 X) (v285 X) (v287 X) (v289 X) (v290 X)))) := regStep h44 h42
  have h46 : IsReg (v231 X) 9 5 (k0_pay142 (v231 X) (v271 X) (v273 X) (v275 X) (v277 X) (v279 X) (v281 X) (v283 X) (v285 X) (v287 X) (v289 X) (v290 X)) := regStep h45 h41
  have h47 : IsPend (v231 X) 0 5 (k0_pay143 (v231 X)) := pendInit (v231 X) 5 (by decide) (by decide)
  have h48 : IsReg (v231 X) 0 5 (k0_pay125 (v231 X) (v283 X)) := regStep h2 h0
  have h49 : IsReg (v231 X) 0 6 (k0_pay144 (v231 X) (v283 X)) := regStep h48 h47
  have h50 : IsPend (v231 X) 1 5 (k0_pay145 (v231 X) (v283 X)) := pendStep h48 h47
  have h51 : IsReg (v231 X) 1 5 (k0_pay127 (v231 X) (v283 X) (v285 X)) := regStep h5 h3
  have h52 : IsReg (v231 X) 1 6 (k0_pay146 (v231 X) (v283 X) (v285 X)) := regStep h51 h50
  have h53 : IsPend (v231 X) 2 5 (k0_pay147 (v231 X) (v283 X) (v285 X)) := pendStep h51 h50
  have h54 : IsReg (v231 X) 2 5 (k0_pay129 (v231 X) (v283 X) (v285 X) (v287 X)) := regStep h8 h6
  have h55 : IsReg (v231 X) 2 6 (k0_pay148 (v231 X) (v283 X) (v285 X) (v287 X)) := regStep h54 h53
  have h56 : IsPend (v231 X) 3 5 (k0_pay149 (v231 X) (v283 X) (v285 X) (v287 X)) := pendStep h54 h53
  have h57 : IsReg (v231 X) 3 5 (k0_pay131 (v231 X) (v283 X) (v285 X) (v287 X) (v289 X)) := regStep h11 h9
  have h58 : IsReg (v231 X) 3 6 (k0_pay150 (v231 X) (v283 X) (v285 X) (v287 X) (v289 X)) := regStep h57 h56
  have h59 : IsPend (v231 X) 4 5 (k0_pay151 (v231 X) (v283 X) (v285 X) (v287 X) (v289 X)) := pendStep h57 h56
  exact ⟨h16, h22, h28, h34, h40, h46, h49, h52, h55, h58, h59⟩

theorem v331_is (X : Ins Ideal) : IsReg (v231 X) 4 5 (v331 X) := (part7_is X).1

theorem v333_is (X : Ins Ideal) : IsReg (v231 X) 5 5 (v333 X) := (part7_is X).2.1

theorem v335_is (X : Ins Ideal) : IsReg (v231 X) 6 5 (v335 X) := (part7_is X).2.2.1

theorem v337_is (X : Ins Ideal) : IsReg (v231 X) 7 5 (v337 X) := (part7_is X).2.2.2.1

theorem v339_is (X : Ins Ideal) : IsReg (v231 X) 8 5 (v339 X) := (part7_is X).2.2.2.2.1

theorem v341_is (X : Ins Ideal) : IsReg (v231 X) 9 5 (v341 X) := (part7_is X).2.2.2.2.2.1

theorem v343_is (X : Ins Ideal) : IsReg (v231 X) 0 6 (v343 X) := (part7_is X).2.2.2.2.2.2.1

theorem v345_is (X : Ins Ideal) : IsReg (v231 X) 1 6 (v345 X) := (part7_is X).2.2.2.2.2.2.2.1

theorem v347_is (X : Ins Ideal) : IsReg (v231 X) 2 6 (v347 X) := (part7_is X).2.2.2.2.2.2.2.2.1

theorem v349_is (X : Ins Ideal) : IsReg (v231 X) 3 6 (v349 X) := (part7_is X).2.2.2.2.2.2.2.2.2.1

theorem v350_is (X : Ins Ideal) : IsPend (v231 X) 4 5 (v350 X) := (part7_is X).2.2.2.2.2.2.2.2.2.2

theorem part8_is (X : Ins Ideal) : IsReg (v231 X) 4 8 (v391 X) ∧ IsReg (v231 X) 5 8 (v393 X) ∧ IsReg (v231 X) 6 8 (v395 X) ∧ IsReg (v231 X) 7 8 (v397 X) ∧ IsReg (v231 X) 8 8 (v399 X) ∧ IsReg (v231 X) 9 8 (v401 X) ∧ IsReg (v231 X) 0 9 (v403 X) ∧ IsReg (v231 X) 1 9 (v405 X) ∧ IsReg (v231 X) 2 9 (v407 X) ∧ IsReg (v231 X) 3 9 (v409 X) ∧ IsPend (v231 X) 4 8 (v410 X) := by
  have h0 : IsPend (v231 X) 0 7 (k0_pay179 (v231 X)) := pendInit (v231 X) 7 (by decide) (by decide)
  have h1 : IsPend (v231 X) 0 6 (k0_pay161 (v231 X)) := pendInit (v231 X) 6 (by decide) (by decide)
  have h2 : IsReg (v231 X) 0 7 (k0_pay162 (v231 X) (v343 X)) := regStep (v343_is X) h1
  have h3 : IsPend (v231 X) 1 7 (k0_pay181 (v231 X) (v343 X)) := pendStep h2 h0
  have h4 : IsPend (v231 X) 1 6 (k0_pay163 (v231 X) (v343 X)) := pendStep (v343_is X) h1
  have h5 : IsReg (v231 X) 1 7 (k0_pay164 (v231 X) (v343 X) (v345 X)) := regStep (v345_is X) h4
  have h6 : IsPend (v231 X) 2 7 (k0_pay183 (v231 X) (v343 X) (v345 X)) := pendStep h5 h3
  have h7 : IsPend (v231 X) 2 6 (k0_pay165 (v231 X) (v343 X) (v345 X)) := pendStep (v345_is X) h4
  have h8 : IsReg (v231 X) 2 7 (k0_pay166 (v231 X) (v343 X) (v345 X) (v347 X)) := regStep (v347_is X) h7
  have h9 : IsPend (v231 X) 3 7 (k0_pay185 (v231 X) (v343 X) (v345 X) (v347 X)) := pendStep h8 h6
  have h10 : IsPend (v231 X) 3 6 (k0_pay167 (v231 X) (v343 X) (v345 X) (v347 X)) := pendStep (v347_is X) h7
  have h11 : IsReg (v231 X) 3 7 (k0_pay168 (v231 X) (v343 X) (v345 X) (v347 X) (v349 X)) := regStep (v349_is X) h10
  have h12 : IsPend (v231 X) 4 7 (k0_pay187 (v231 X) (v343 X) (v345 X) (v347 X) (v349 X)) := pendStep h11 h9
  have h13 : IsPend (v231 X) 4 6 (k0_pay169 (v231 X) (v343 X) (v345 X) (v347 X) (v349 X)) := pendStep (v349_is X) h10
  have h14 : IsReg (v231 X) 4 6 (k0_pay152 (v331 X) (v350 X)) := regStep (v331_is X) (v350_is X)
  have h15 : IsReg (v231 X) 4 7 (k0_pay170 (v231 X) (v331 X) (v343 X) (v345 X) (v347 X) (v349 X) (v350 X)) := regStep h14 h13
  have h16 : IsReg (v231 X) 4 8 (k0_pay188 (v231 X) (v331 X) (v343 X) (v345 X) (v347 X) (v349 X) (v350 X)) := regStep h15 h12
  have h17 : IsPend (v231 X) 5 7 (k0_pay189 (v231 X) (v331 X) (v343 X) (v345 X) (v347 X) (v349 X) (v350 X)) := pendStep h15 h12
  have h18 : IsPend (v231 X) 5 6 (k0_pay171 (v231 X) (v331 X) (v343 X) (v345 X) (v347 X) (v349 X) (v350 X)) := pendStep h14 h13
  have h19 : IsPend (v231 X) 5 5 (k0_pay153 (v331 X) (v350 X)) := pendStep (v331_is X) (v350_is X)
  have h20 : IsReg (v231 X) 5 6 (k0_pay154 (v331 X) (v333 X) (v350 X)) := regStep (v333_is X) h19
  have h21 : IsReg (v231 X) 5 7 (k0_pay172 (v231 X) (v331 X) (v333 X) (v343 X) (v345 X) (v347 X) (v349 X) (v350 X)) := regStep h20 h18
  have h22 : IsReg (v231 X) 5 8 (k0_pay190 (v231 X) (v331 X) (v333 X) (v343 X) (v345 X) (v347 X) (v349 X) (v350 X)) := regStep h21 h17
  have h23 : IsPend (v231 X) 6 7 (k0_pay191 (v231 X) (v331 X) (v333 X) (v343 X) (v345 X) (v347 X) (v349 X) (v350 X)) := pendStep h21 h17
  have h24 : IsPend (v231 X) 6 6 (k0_pay173 (v231 X) (v331 X) (v333 X) (v343 X) (v345 X) (v347 X) (v349 X) (v350 X)) := pendStep h20 h18
  have h25 : IsPend (v231 X) 6 5 (k0_pay155 (v331 X) (v333 X) (v350 X)) := pendStep (v333_is X) h19
  have h26 : IsReg (v231 X) 6 6 (k0_pay156 (v331 X) (v333 X) (v335 X) (v350 X)) := regStep (v335_is X) h25
  have h27 : IsReg (v231 X) 6 7 (k0_pay174 (v231 X) (v331 X) (v333 X) (v335 X) (v343 X) (v345 X) (v347 X) (v349 X) (v350 X)) := regStep h26 h24
  have h28 : IsReg (v231 X) 6 8 (k0_pay192 (v231 X) (v331 X) (v333 X) (v335 X) (v343 X) (v345 X) (v347 X) (v349 X) (v350 X)) := regStep h27 h23
  have h29 : IsPend (v231 X) 7 7 (k0_pay193 (v231 X) (v331 X) (v333 X) (v335 X) (v343 X) (v345 X) (v347 X) (v349 X) (v350 X)) := pendStep h27 h23
  have h30 : IsPend (v231 X) 7 6 (k0_pay175 (v231 X) (v331 X) (v333 X) (v335 X) (v343 X) (v345 X) (v347 X) (v349 X) (v350 X)) := pendStep h26 h24
  have h31 : IsPend (v231 X) 7 5 (k0_pay157 (v331 X) (v333 X) (v335 X) (v350 X)) := pendStep (v335_is X) h25
  have h32 : IsReg (v231 X) 7 6 (k0_pay158 (v331 X) (v333 X) (v335 X) (v337 X) (v350 X)) := regStep (v337_is X) h31
  have h33 : IsReg (v231 X) 7 7 (k0_pay176 (v231 X) (v331 X) (v333 X) (v335 X) (v337 X) (v343 X) (v345 X) (v347 X) (v349 X) (v350 X)) := regStep h32 h30
  have h34 : IsReg (v231 X) 7 8 (k0_pay194 (v231 X) (v331 X) (v333 X) (v335 X) (v337 X) (v343 X) (v345 X) (v347 X) (v349 X) (v350 X)) := regStep h33 h29
  have h35 : IsPend (v231 X) 8 7 (k0_pay195 (v231 X) (v331 X) (v333 X) (v335 X) (v337 X) (v343 X) (v345 X) (v347 X) (v349 X) (v350 X)) := pendStep h33 h29
  have h36 : IsPend (v231 X) 8 6 (k0_pay177 (v231 X) (v331 X) (v333 X) (v335 X) (v337 X) (v343 X) (v345 X) (v347 X) (v349 X) (v350 X)) := pendStep h32 h30
  have h37 : IsPend (v231 X) 8 5 (k0_pay159 (v331 X) (v333 X) (v335 X) (v337 X) (v350 X)) := pendStep (v337_is X) h31
  have h38 : IsReg (v231 X) 8 6 (k0_pay160 (v331 X) (v333 X) (v335 X) (v337 X) (v339 X) (v350 X)) := regStep (v339_is X) h37
  have h39 : IsReg (v231 X) 8 7 (k0_pay178 (v231 X) (v331 X) (v333 X) (v335 X) (v337 X) (v339 X) (v343 X) (v345 X) (v347 X) (v349 X) (v350 X)) := regStep h38 h36
  have h40 : IsReg (v231 X) 8 8 (k0_pay196 (v231 X) (v331 X) (v333 X) (v335 X) (v337 X) (v339 X) (v343 X) (v345 X) (v347 X) (v349 X) (v350 X)) := regStep h39 h35
  have h41 : IsPend (v231 X) 9 7 (minimumf (k0_pay178 (v231 X) (v331 X) (v333 X) (v335 X) (v337 X) (v339 X) (v343 X) (v345 X) (v347 X) (v349 X) (v350 X)) (k0_pay195 (v231 X) (v331 X) (v333 X) (v335 X) (v337 X) (v343 X) (v345 X) (v347 X) (v349 X) (v350 X))) := pendStep h39 h35
  have h42 : IsPend (v231 X) 9 6 (minimumf (k0_pay160 (v331 X) (v333 X) (v335 X) (v337 X) (v339 X) (v350 X)) (k0_pay177 (v231 X) (v331 X) (v333 X) (v335 X) (v337 X) (v343 X) (v345 X) (v347 X) (v349 X) (v350 X))) := pendStep h38 h36
  have h43 : IsPend (v231 X) 9 5 (minimumf (v339 X) (k0_pay159 (v331 X) (v333 X) (v335 X) (v337 X) (v350 X))) := pendStep (v339_is X) h37
  have h44 : IsReg (v231 X) 9 6 (maximumf (v341 X) (minimumf (v339 X) (k0_pay159 (v331 X) (v333 X) (v335 X) (v337 X) (v350 X)))) := regStep (v341_is X) h43
  have h45 : IsReg (v231 X) 9 7 (maximumf (maximumf (v341 X) (minimumf (v339 X) (k0_pay159 (v331 X) (v333 X) (v335 X) (v337 X) (v350 X)))) (minimumf (k0_pay160 (v331 X) (v333 X) (v335 X) (v337 X) (v339 X) (v350 X)) (k0_pay177 (v231 X) (v331 X) (v333 X) (v335 X) (v337 X) (v343 X) (v345 X) (v347 X) (v349 X) (v350 X)))) := regStep h44 h42
  have h46 : IsReg (v231 X) 9 8 (k0_pay197 (v231 X) (v331 X) (v333 X) (v335 X) (v337 X) (v339 X) (v341 X) (v343 X) (v345 X) (v347 X) (v349 X) (v350 X)) := regStep h45 h41
  have h47 : IsPend (v231 X) 0 8 (k0_pay198 (v231 X)) := pendInit (v231 X) 8 (by decide) (by decide)
  have h48 : IsReg (v231 X) 0 8 (k0_pay180 (v231 X) (v343 X)) := regStep h2 h0
  have h49 : IsReg (v231 X) 0 9 (k0_pay199 (v231 X) (v343 X)) := regStep h48 h47
  have h50 : IsPend (v231 X) 1 8 (k0_pay200 (v231 X) (v343 X)) := pendStep h48 h47
  have h51 : IsReg (v231 X) 1 8 (k0_pay182 (v231 X) (v343 X) (v345 X)) := regStep h5 h3
  have h52 : IsReg (v231 X) 1 9 (k0_pay201 (v231 X) (v343 X) (v345 X)) := regStep h51 h50
  have h53 : IsPend (v231 X) 2 8 (k0_pay202 (v231 X) (v343 X) (v345 X)) := pendStep h51 h50
  have h54 : IsReg (v231 X) 2 8 (k0_pay184 (v231 X) (v343 X) (v345 X) (v347 X)) := regStep h8 h6
  have h55 : IsReg (v231 X) 2 9 (k0_pay203 (v231 X) (v343 X) (v345 X) (v347 X)) := regStep h54 h53
  have h56 : IsPend (v231 X) 3 8 (k0_pay204 (v231 X) (v343 X) (v345 X) (v347 X)) := pendStep h54 h53
  have h57 : IsReg (v231 X) 3 8 (k0_pay186 (v231 X) (v343 X) (v345 X) (v347 X) (v349 X)) := regStep h11 h9
  have h58 : IsReg (v231 X) 3 9 (k0_pay205 (v231 X) (v343 X) (v345 X) (v347 X) (v349 X)) := regStep h57 h56
  have h59 : IsPend (v231 X) 4 8 (k0_pay206 (v231 X) (v343 X) (v345 X) (v347 X) (v349 X)) := pendStep h57 h56
  exact ⟨h16, h22, h28, h34, h40, h46, h49, h52, h55, h58, h59⟩

theorem v391_is (X : Ins Ideal) : IsReg (v231 X) 4 8 (v391 X) := (part8_is X).1

theorem v393_is (X : Ins Ideal) : IsReg (v231 X) 5 8 (v393 X) := (part8_is X).2.1

theorem v395_is (X : Ins Ideal) : IsReg (v231 X) 6 8 (v395 X) := (part8_is X).2.2.1

theorem v397_is (X : Ins Ideal) : IsReg (v231 X) 7 8 (v397 X) := (part8_is X).2.2.2.1

theorem v399_is (X : Ins Ideal) : IsReg (v231 X) 8 8 (v399 X) := (part8_is X).2.2.2.2.1

theorem v401_is (X : Ins Ideal) : IsReg (v231 X) 9 8 (v401 X) := (part8_is X).2.2.2.2.2.1

theorem v403_is (X : Ins Ideal) : IsReg (v231 X) 0 9 (v403 X) := (part8_is X).2.2.2.2.2.2.1

theorem v405_is (X : Ins Ideal) : IsReg (v231 X) 1 9 (v405 X) := (part8_is X).2.2.2.2.2.2.2.1

theorem v407_is (X : Ins Ideal) : IsReg (v231 X) 2 9 (v407 X) := (part8_is X).2.2.2.2.2.2.2.2.1

theorem v409_is (X : Ins Ideal) : IsReg (v231 X) 3 9 (v409 X) := (part8_is X).2.2.2.2.2.2.2.2.2.1

theorem v410_is (X : Ins Ideal) : IsPend (v231 X) 4 8 (v410 X) := (part8_is X).2.2.2.2.2.2.2.2.2.2

theorem part9_is (X : Ins Ideal) : IsReg (v231 X) 4 11 (v451 X) ∧ IsReg (v231 X) 5 11 (v453 X) ∧ IsReg (v231 X) 6 11 (v455 X) ∧ IsReg (v231 X) 7 11 (v457 X) ∧ IsReg (v231 X) 8 11 (v459 X) ∧ IsReg (v231 X) 9 11 (v461 X) ∧ IsReg (v231 X) 0 12 (v463 X) ∧ IsReg (v231 X) 1 12 (v465 X) ∧ IsReg (v231 X) 2 12 (v467 X) ∧ IsReg (v231 X) 3 12 (v469 X) ∧ IsPend (v231 X) 4 11 (v470 X) := by
  have h0 : IsPend (v231 X) 0 10 (k0_pay234 (v231 X)) := pendInit (v231 X) 10 (by decide) (by decide)
  have h1 : IsPend (v231 X) 0 9 (k0_pay216 (v231 X)) := pendInit (v231 X) 9 (by decide) (by decide)
  have h2 : IsReg (v231 X) 0 10 (k0_pay217 (v231 X) (v403 X)) := regStep (v403_is X) h1
  have h3 : IsPend (v231 X) 1 10 (k0_pay236 (v231 X) (v403 X)) := pendStep h2 h0
  have h4 : IsPend (v231 X) 1 9 (k0_pay218 (v231 X) (v403 X)) := pendStep (v403_is X) h1
  have h5 : IsReg (v231 X) 1 10 (k0_pay219 (v231 X) (v403 X) (v405 X)) := regStep (v405_is X) h4
  have h6 : IsPend (v231 X) 2 10 (k0_pay238 (v231 X) (v403 X) (v405 X)) := pendStep h5 h3
  have h7 : IsPend (v231 X) 2 9 (k0_pay220 (v231 X) (v403 X) (v405 X)) := pendStep (v405_is X) h4
  have h8 : IsReg (v231 X) 2 10 (k0_pay221 (v231 X) (v403 X) (v405 X) (v407 X)) := regStep (v407_is X) h7
  have h9 : IsPend (v231 X) 3 10 (k0_pay240 (v231 X) (v403 X) (v405 X) (v407 X)) := pendStep h8 h6
  have h10 : IsPend (v231 X) 3 9 (k0_pay222 (v231 X) (v403 X) (v405 X) (v407 X)) := pendStep (v407_is X) h7
  have h11 : IsReg (v231 X) 3 10 (k0_pay223 (v231 X) (v403 X) (v405 X) (v407 X) (v409 X)) := regStep (v409_is X) h10
  have h12 : IsPend (v231 X) 4 10 (k0_pay242 (v231 X) (v403 X) (v405 X) (v407 X) (v409 X)) := pendStep h11 h9
  have h13 : IsPend (v231 X) 4 9 (k0_pay224 (v231 X) (v403 X) (v405 X) (v407 X) (v409 X)) := pendStep (v409_is X) h10
  have h14 : IsReg (v231 X) 4 9 (k0_pay207 (v391 X) (v410 X)) := regStep (v391_is X) (v410_is X)
  have h15 : IsReg (v231 X) 4 10 (k0_pay225 (v231 X) (v391 X) (v403 X) (v405 X) (v407 X) (v409 X) (v410 X)) := regStep h14 h13
  have h16 : IsReg (v231 X) 4 11 (k0_pay243 (v231 X) (v391 X) (v403 X) (v405 X) (v407 X) (v409 X) (v410 X)) := regStep h15 h12
  have h17 : IsPend (v231 X) 5 10 (k0_pay244 (v231 X) (v391 X) (v403 X) (v405 X) (v407 X) (v409 X) (v410 X)) := pendStep h15 h12
  have h18 : IsPend (v231 X) 5 9 (k0_pay226 (v231 X) (v391 X) (v403 X) (v405 X) (v407 X) (v409 X) (v410 X)) := pendStep h14 h13
  have h19 : IsPend (v231 X) 5 8 (k0_pay208 (v391 X) (v410 X)) := pendStep (v391_is X) (v410_is X)
  have h20 : IsReg (v231 X) 5 9 (k0_pay209 (v391 X) (v393 X) (v410 X)) := regStep (v393_is X) h19
  have h21 : IsReg (v231 X) 5 10 (k0_pay227 (v231 X) (v391 X) (v393 X) (v403 X) (v405 X) (v407 X) (v409 X) (v410 X)) := regStep h20 h18
  have h22 : IsReg (v231 X) 5 11 (k0_pay245 (v231 X) (v391 X) (v393 X) (v403 X) (v405 X) (v407 X) (v409 X) (v410 X)) := regStep h21 h17
  have h23 : IsPend (v231 X) 6 10 (k0_pay246 (v231 X) (v391 X) (v393 X) (v403 X) (v405 X) (v407 X) (v409 X) (v410 X)) := pendStep h21 h17
  have h24 : IsPend (v231 X) 6 9 (k0_pay228 (v231 X) (v391 X) (v393 X) (v403 X) (v405 X) (v407 X) (v409 X) (v410 X)) := pendStep h20 h18
  have h25 : IsPend (v231 X) 6 8 (k0_pay210 (v391 X) (v393 X) (v410 X)) := pendStep (v393_is X) h19
  have h26 : IsReg (v231 X) 6 9 (k0_pay211 (v391 X) (v393 X) (v395 X) (v410 X)) := regStep (v395_is X) h25
  have h27 : IsReg (v231 X) 6 10 (k0_pay229 (v231 X) (v391 X) (v393 X) (v395 X) (v403 X) (v405 X) (v407 X) (v409 X) (v410 X)) := regStep h26 h24
  have h28 : IsReg (v231 X) 6 11 (k0_pay247 (v231 X) (v391 X) (v393 X) (v395 X) (v403 X) (v405 X) (v407 X) (v409 X) (v410 X)) := regStep h27 h23
  have h29 : IsPend (v231 X) 7 10 (k0_pay248 (v231 X) (v391 X) (v393 X) (v395 X) (v403 X) (v405 X) (v407 X) (v409 X) (v410 X)) := pendStep h27 h23
  have h30 : IsPend (v231 X) 7 9 (k0_pay230 (v231 X) (v391 X) (v393 X) (v395 X) (v403 X) (v405 X) (v407 X) (v409 X) (v410 X)) := pendStep h26 h24
  have h31 : IsPend (v231 X) 7 8 (k0_pay212 (v391 X) (v393 X) (v395 X) (v410 X)) := pendStep (v395_is X) h25
  have h32 : IsReg (v231 X) 7 9 (k0_pay213 (v391 X) (v393 X) (v395 X) (v397 X) (v410 X)) := regStep (v397_is X) h31
  have h33 : IsReg (v231 X) 7 10 (k0_pay231 (v231 X) (v391 X) (v393 X) (v395 X) (v397 X) (v403 X) (v405 X) (v407 X) (v409 X) (v410 X)) := regStep h32 h30
  have h34 : IsReg (v231 X) 7 11 (k0_pay249 (v231 X) (v391 X) (v393 X) (v395 X) (v397 X) (v403 X) (v405 X) (v407 X) (v409 X) (v410 X)) := regStep h33 h29
  have h35 : IsPend (v231 X) 8 10 (k0_pay250 (v231 X) (v391 X) (v393 X) (v395 X) (v397 X) (v403 X) (v405 X) (v407 X) (v409 X) (v410 X)) := pendStep h33 h29
  have h36 : IsPend (v231 X) 8 9 (k0_pay232 (v231 X) (v391 X) (v393 X) (v395 X) (v397 X) (v403 X) (v405 X) (v407 X) (v409 X) (v410 X)) := pendStep h32 h30
  have h37 : IsPend (v231 X) 8 8 (k0_pay214 (v391 X) (v393 X) (v395 X) (v397 X) (v410 X)) := pendStep (v397_is X) h31
  have h38 : IsReg (v231 X) 8 9 (k0_pay215 (v391 X) (v393 X) (v395 X) (v397 X) (v399 X) (v410 X)) := regStep (v399_is X) h37
  have h39 : IsReg (v231 X) 8 10 (k0_pay233 (v231 X) (v391 X) (v393 X) (v395 X) (v397 X) (v399 X) (v403 X) (v405 X) (v407 X) (v409 X) (v410 X)) := regStep h38 h36
  have h40 : IsReg (v231 X) 8 11 (k0_pay251 (v231 X) (v391 X) (v393 X) (v395 X) (v397 X) (v399 X) (v403 X) (v405 X) (v407 X) (v409 X) (v410 X)) := regStep h39 h35
  have h41 : IsPend (v231 X) 9 10 (minimumf (k0_pay233 (v231 X) (v391 X) (v393 X) (v395 X) (v397 X) (v399 X) (v403 X) (v405 X) (v407 X) (v409 X) (v410 X)) (k0_pay250 (v231 X) (v391 X) (v393 X) (v395 X) (v397 X) (v403 X) (v405 X) (v407 X) (v409 X) (v410 X))) := pendStep h39 h35
  have h42 : IsPend (v231 X) 9 9 (minimumf (k0_pay215 (v391 X) (v393 X) (v395 X) (v397 X) (v399 X) (v410 X)) (k0_pay232 (v231 X) (v391 X) (v393 X) (v395 X) (v397 X) (v403 X) (v405 X) (v407 X) (v409 X) (v410 X))) := pendStep h38 h36
  have h43 : IsPend (v231 X) 9 8 (minimumf (v399 X) (k0_pay214 (v391 X) (v393 X) (v395 X) (v397 X) (v410 X))) := pendStep (v399_is X) h37
  have h44 : IsReg (v231 X) 9 9 (maximumf (v401 X) (minimumf (v399 X) (k0_pay214 (v391 X) (v393 X) (v395 X) (v397 X) (v410 X)))) := regStep (v401_is X) h43
  have h45 : IsReg (v231 X) 9 10 (maximumf (maximumf (v401 X) (minimumf (v399 X) (k0_pay214 (v391 X) (v393 X) (v395 X) (v397 X) (v410 X)))) (minimumf (k0_pay215 (v391 X) (v393 X) (v395 X) (v397 X) (v399 X) (v410 X)) (k0_pay232 (v231 X) (v391 X) (v393 X) (v395 X) (v397 X) (v403 X) (v405 X) (v407 X) (v409 X) (v410 X)))) := regStep h44 h42
  have h46 : IsReg (v231 X) 9 11 (k0_pay252 (v231 X) (v391 X) (v393 X) (v395 X) (v397 X) (v399 X) (v401 X) (v403 X) (v405 X) (v407 X) (v409 X) (v410 X)) := regStep h45 h41
  have h47 : IsPend (v231 X) 0 11 (k0_pay253 (v231 X)) := pendInit (v231 X) 11 (by decide) (by decide)
  have h48 : IsReg (v231 X) 0 11 (k0_pay235 (v231 X) (v403 X)) := regStep h2 h0
  have h49 : IsReg (v231 X) 0 12 (k0_pay254 (v231 X) (v403 X)) := regStep h48 h47
  have h50 : IsPend (v231 X) 1 11 (k0_pay255 (v231 X) (v403 X)) := pendStep h48 h47
  have h51 : IsReg (v231 X) 1 11 (k0_pay237 (v231 X) (v403 X) (v405 X)) := regStep h5 h3
  have h52 : IsReg (v231 X) 1 12 (k0_pay256 (v231 X) (v403 X) (v405 X)) := regStep h51 h50
  have h53 : IsPend (v231 X) 2 11 (k0_pay257 (v231 X) (v403 X) (v405 X)) := pendStep h51 h50
  have h54 : IsReg (v231 X) 2 11 (k0_pay239 (v231 X) (v403 X) (v405 X) (v407 X)) := regStep h8 h6
  have h55 : IsReg (v231 X) 2 12 (k0_pay258 (v231 X) (v403 X) (v405 X) (v407 X)) := regStep h54 h53
  have h56 : IsPend (v231 X) 3 11 (k0_pay259 (v231 X) (v403 X) (v405 X) (v407 X)) := pendStep h54 h53
  have h57 : IsReg (v231 X) 3 11 (k0_pay241 (v231 X) (v403 X) (v405 X) (v407 X) (v409 X)) := regStep h11 h9
  have h58 : IsReg (v231 X) 3 12 (k0_pay260 (v231 X) (v403 X) (v405 X) (v407 X) (v409 X)) := regStep h57 h56
  have h59 : IsPend (v231 X) 4 11 (k0_pay261 (v231 X) (v403 X) (v405 X) (v407 X) (v409 X)) := pendStep h57 h56
  exact ⟨h16, h22, h28, h34, h40, h46, h49, h52, h55, h58, h59⟩

theorem v451_is (X : Ins Ideal) : IsReg (v231 X) 4 11 (v451 X) := (part9_is X).1

theorem v453_is (X : Ins Ideal) : IsReg (v231 X) 5 11 (v453 X) := (part9_is X).2.1

theorem v455_is (X : Ins Ideal) : IsReg (v231 X) 6 11 (v455 X) := (part9_is X).2.2.1

theorem v457_is (X : Ins Ideal) : IsReg (v231 X) 7 11 (v457 X) := (part9_is X).2.2.2.1

theorem v459_is (X : Ins Ideal) : IsReg (v231 X) 8 11 (v459 X) := (part9_is X).2.2.2.2.1

theorem v461_is (X : Ins Ideal) : IsReg (v231 X) 9 11 (v461 X) := (part9_is X).2.2.2.2.2.1

theorem v463_is (X : Ins Ideal) : IsReg (v231 X) 0 12 (v463 X) := (part9_is X).2.2.2.2.2.2.1

theorem v465_is (X : Ins Ideal) : IsReg (v231 X) 1 12 (v465 X) := (part9_is X).2.2.2.2.2.2.2.1

theorem v467_is (X : Ins Ideal) : IsReg (v231 X) 2 12 (v467 X) := (part9_is X).2.2.2.2.2.2.2.2.1

theorem v469_is (X : Ins Ideal) : IsReg (v231 X) 3 12 (v469 X) := (part9_is X).2.2.2.2.2.2.2.2.2.1

theorem v470_is (X : Ins Ideal) : IsPend (v231 X) 4 11 (v470 X) := (part9_is X).2.2.2.2.2.2.2.2.2.2

theorem part10_is (X : Ins Ideal) : IsReg (v231 X) 4 14 (v511 X) ∧ IsReg (v231 X) 5 14 (v513 X) ∧ IsReg (v231 X) 6 14 (v515 X) ∧ IsReg (v231 X) 7 14 (v517 X) ∧ IsReg (v231 X) 8 14 (v519 X) ∧ IsReg (v231 X) 9 14 (v521 X) ∧ IsReg (v231 X) 0 15 (v523 X) ∧ IsReg (v231 X) 1 15 (v525 X) ∧ IsReg (v231 X) 2 15 (v527 X) ∧ IsReg (v231 X) 3 15 (v529 X) ∧ IsPend (v231 X) 4 14 (v530 X) := by
  have h0 : IsPend (v231 X) 0 13 (k0_pay289 (v231 X)) := pendInit (v231 X) 13 (by decide) (by decide)
  have h1 : IsPend (v231 X) 0 12 (k0_pay271 (v231 X)) := pendInit (v231 X) 12 (by decide) (by decide)
  have h2 : IsReg (v231 X) 0 13 (k0_pay272 (v231 X) (v463 X)) := regStep (v463_is X) h1
  have h3 : IsPend (v231 X) 1 13 (k0_pay291 (v231 X) (v463 X)) := pendStep h2 h0
  have h4 : IsPend (v231 X) 1 12 (k0_pay273 (v231 X) (v463 X)) := pendStep (v463_is X) h1
  have h5 : IsReg (v231 X) 1 13 (k0_pay274 (v231 X) (v463 X) (v465 X)) := regStep (v465_is X) h4
  have h6 : IsPend (v231 X) 2 13 (k0_pay293 (v231 X) (v463 X) (v465 X)) := pendStep h5 h3
  have h7 : IsPend (v231 X) 2 12 (k0_pay275 (v231 X) (v463 X) (v465 X)) := pendStep (v465_is X) h4
  have h8 : IsReg (v231 X) 2 13 (k0_pay276 (v231 X) (v463 X) (v465 X) (v467 X)) := regStep (v467_is X) h7
  have h9 : IsPend (v231 X) 3 13 (k0_pay295 (v231 X) (v463 X) (v465 X) (v467 X)) := pendStep h8 h6
  have h10 : IsPend (v231 X) 3 12 (k0_pay277 (v231 X) (v463 X) (v465 X) (v467 X)) := pendStep (v467_is X) h7
  have h11 : IsReg (v231 X) 3 13 (k0_pay278 (v231 X) (v463 X) (v465 X) (v467 X) (v469 X)) := regStep (v469_is X) h10
  have h12 : IsPend (v231 X) 4 13 (k0_pay297 (v231 X) (v463 X) (v465 X) (v467 X) (v469 X)) := pendStep h11 h9
  have h13 : IsPend (v231 X) 4 12 (k0_pay279 (v231 X) (v463 X) (v465 X) (v467 X) (v469 X)) := pendStep (v469_is X) h10
  have h14 : IsReg (v231 X) 4 12 (k0_pay262 (v451 X) (v470 X)) := regStep (v451_is X) (v470_is X)
  have h15 : IsReg (v231 X) 4 13 (k0_pay280 (v231 X) (v451 X) (v463 X) (v465 X) (v467 X) (v469 X) (v470 X)) := regStep h14 h13
  have h16 : IsReg (v231 X) 4 14 (k0_pay298 (v231 X) (v451 X) (v463 X) (v465 X) (v467 X) (v469 X) (v470 X)) := regStep h15 h12
  have h17 : IsPend (v231 X) 5 13 (k0_pay299 (v231 X) (v451 X) (v463 X) (v465 X) (v467 X) (v469 X) (v470 X)) := pendStep h15 h12
  have h18 : IsPend (v231 X) 5 12 (k0_pay281 (v231 X) (v451 X) (v463 X) (v465 X) (v467 X) (v469 X) (v470 X)) := pendStep h14 h13
  have h19 : IsPend (v231 X) 5 11 (k0_pay263 (v451 X) (v470 X)) := pendStep (v451_is X) (v470_is X)
  have h20 : IsReg (v231 X) 5 12 (k0_pay264 (v451 X) (v453 X) (v470 X)) := regStep (v453_is X) h19
  have h21 : IsReg (v231 X) 5 13 (k0_pay282 (v231 X) (v451 X) (v453 X) (v463 X) (v465 X) (v467 X) (v469 X) (v470 X)) := regStep h20 h18
  have h22 : IsReg (v231 X) 5 14 (k0_pay300 (v231 X) (v451 X) (v453 X) (v463 X) (v465 X) (v467 X) (v469 X) (v470 X)) := regStep h21 h17
  have h23 : IsPend (v231 X) 6 13 (k0_pay301 (v231 X) (v451 X) (v453 X) (v463 X) (v465 X) (v467 X) (v469 X) (v470 X)) := pendStep h21 h17
  have h24 : IsPend (v231 X) 6 12 (k0_pay283 (v231 X) (v451 X) (v453 X) (v463 X) (v465 X) (v467 X) (v469 X) (v470 X)) := pendStep h20 h18
  have h25 : IsPend (v231 X) 6 11 (k0_pay265 (v451 X) (v453 X) (v470 X)) := pendStep (v453_is X) h19
  have h26 : IsReg (v231 X) 6 12 (k0_pay266 (v451 X) (v453 X) (v455 X) (v470 X)) := regStep (v455_is X) h25
  have h27 : IsReg (v231 X) 6 13 (k0_pay284 (v231 X) (v451 X) (v453 X) (v455 X) (v463 X) (v465 X) (v467 X) (v469 X) (v470 X)) := regStep h26 h24
  have h28 : IsReg (v231 X) 6 14 (k0_pay302 (v231 X) (v451 X) (v453 X) (v455 X) (v463 X) (v465 X) (v467 X) (v469 X) (v470 X)) := regStep h27 h23
  have h29 : IsPend (v231 X) 7 13 (k0_pay303 (v231 X) (v451 X) (v453 X) (v455 X) (v463 X) (v465 X) (v467 X) (v469 X) (v470 X)) := pendStep h27 h23
  have h30 : IsPend (v231 X) 7 12 (k0_pay285 (v231 X) (v451 X) (v453 X) (v455 X) (v463 X) (v465 X) (v467 X) (v469 X) (v470 X)) := pendStep h26 h24
  have h31 : IsPend (v231 X) 7 11 (k0_pay267 (v451 X) (v453 X) (v455 X) (v470 X)) := pendStep (v455_is X) h25
  have h32 : IsReg (v231 X) 7 12 (k0_pay268 (v451 X) (v453 X) (v455 X) (v457 X) (v470 X)) := regStep (v457_is X) h31
  have h33 : IsReg (v231 X) 7 13 (k0_pay286 (v231 X) (v451 X) (v453 X) (v455 X) (v457 X) (v463 X) (v465 X) (v467 X) (v469 X) (v470 X)) := regStep h32 h30
  have h34 : IsReg (v231 X) 7 14 (k0_pay304 (v231 X) (v451 X) (v453 X) (v455 X) (v457 X) (v463 X) (v465 X) (v467 X) (v469 X) (v470 X)) := regStep h33 h29
  have h35 : IsPend (v231 X) 8 13 (k0_pay305 (v231 X) (v451 X) (v453 X) (v455 X) (v457 X) (v463 X) (v465 X) (v467 X) (v469 X) (v470 X)) := pendStep h33 h29
  have h36 : IsPend (v231 X) 8 12 (k0_pay287 (v231 X) (v451 X) (v453 X) (v455 X) (v457 X) (v463 X) (v465 X) (v467 X) (v469 X) (v470 X)) := pendStep h32 h30
  have h37 : IsPend (v231 X) 8 11 (k0_pay269 (v451 X) (v453 X) (v455 X) (v457 X) (v470 X)) := pendStep (v457_is X) h31
  have h38 : IsReg (v231 X) 8 12 (k0_pay270 (v451 X) (v453 X) (v455 X) (v457 X) (v459 X) (v470 X)) := regStep (v459_is X) h37
  have h39 : IsReg (v231 X) 8 13 (k0_pay288 (v231 X) (v451 X) (v453 X) (v455 X) (v457 X) (v459 X) (v463 X) (v465 X) (v467 X) (v469 X) (v470 X)) := regStep h38 h36
  have h40 : IsReg (v231 X) 8 14 (k0_pay306 (v231 X) (v451 X) (v453 X) (v455 X) (v457 X) (v459 X) (v463 X) (v465 X) (v467 X) (v469 X) (v470 X)) := regStep h39 h35
  have h41 : IsPend (v231 X) 9 13 (minimumf (k0_pay288 (v231 X) (v451 X) (v453 X) (v455 X) (v457 X) (v459 X) (v463 X) (v465 X) (v467 X) (v469 X) (v470 X)) (k0_pay305 (v231 X) (v451 X) (v453 X) (v455 X) (v457 X) (v463 X) (v465 X) (v467 X) (v469 X) (v470 X))) := pendStep h39 h35
  have h42 : IsPend (v231 X) 9 12 (minimumf (k0_pay270 (v451 X) (v453 X) (v455 X) (v457 X) (v459 X) (v470 X)) (k0_pay287 (v231 X) (v451 X) (v453 X) (v455 X) (v457 X) (v463 X) (v465 X) (v467 X) (v469 X) (v470 X))) := pendStep h38 h36
  have h43 : IsPend (v231 X) 9 11 (minimumf (v459 X) (k0_pay269 (v451 X) (v453 X) (v455 X) (v457 X) (v470 X))) := pendStep (v459_is X) h37
  have h44 : IsReg (v231 X) 9 12 (maximumf (v461 X) (minimumf (v459 X) (k0_pay269 (v451 X) (v453 X) (v455 X) (v457 X) (v470 X)))) := regStep (v461_is X) h43
  have h45 : IsReg (v231 X) 9 13 (maximumf (maximumf (v461 X) (minimumf (v459 X) (k0_pay269 (v451 X) (v453 X) (v455 X) (v457 X) (v470 X)))) (minimumf (k0_pay270 (v451 X) (v453 X) (v455 X) (v457 X) (v459 X) (v470 X)) (k0_pay287 (v231 X) (v451 X) (v453 X) (v455 X) (v457 X) (v463 X) (v465 X) (v467 X) (v469 X) (v470 X)))) := regStep h44 h42
  have h46 : IsReg (v231 X) 9 14 (k0_pay307 (v231 X) (v451 X) (v453 X) (v455 X) (v457 X) (v459 X) (v461 X) (v463 X) (v465 X) (v467 X) (v469 X) (v470 X)) := regStep h45 h41
  have h47 : IsPend (v231 X) 0 14 (k0_pay308 (v231 X)) := pendInit (v231 X) 14 (by decide) (by decide)
  have h48 : IsReg (v231 X) 0 14 (k0_pay290 (v231 X) (v463 X)) := regStep h2 h0
  have h49 : IsReg (v231 X) 0 15 (k0_pay309 (v231 X) (v463 X)) := regStep h48 h47
  have h50 : IsPend (v231 X) 1 14 (k0_pay310 (v231 X) (v463 X)) := pendStep h48 h47
  have h51 : IsReg (v231 X) 1 14 (k0_pay292 (v231 X) (v463 X) (v465 X)) := regStep h5 h3
  have h52 : IsReg (v231 X) 1 15 (k0_pay311 (v231 X) (v463 X) (v465 X)) := regStep h51 h50
  have h53 : IsPend (v231 X) 2 14 (k0_pay312 (v231 X) (v463 X) (v465 X)) := pendStep h51 h50
  have h54 : IsReg (v231 X) 2 14 (k0_pay294 (v231 X) (v463 X) (v465 X) (v467 X)) := regStep h8 h6
  have h55 : IsReg (v231 X) 2 15 (k0_pay313 (v231 X) (v463 X) (v465 X) (v467 X)) := regStep h54 h53
  have h56 : IsPend (v231 X) 3 14 (k0_pay314 (v231 X) (v463 X) (v465 X) (v467 X)) := pendStep h54 h53
  have h57 : IsReg (v231 X) 3 14 (k0_pay296 (v231 X) (v463 X) (v465 X) (v467 X) (v469 X)) := regStep h11 h9
  have h58 : IsReg (v231 X) 3 15 (k0_pay315 (v231 X) (v463 X) (v465 X) (v467 X) (v469 X)) := regStep h57 h56
  have h59 : IsPend (v231 X) 4 14 (k0_pay316 (v231 X) (v463 X) (v465 X) (v467 X) (v469 X)) := pendStep h57 h56
  exact ⟨h16, h22, h28, h34, h40, h46, h49, h52, h55, h58, h59⟩

theorem v511_is (X : Ins Ideal) : IsReg (v231 X) 4 14 (v511 X) := (part10_is X).1

theorem v513_is (X : Ins Ideal) : IsReg (v231 X) 5 14 (v513 X) := (part10_is X).2.1

theorem v515_is (X : Ins Ideal) : IsReg (v231 X) 6 14 (v515 X) := (part10_is X).2.2.1

theorem v517_is (X : Ins Ideal) : IsReg (v231 X) 7 14 (v517 X) := (part10_is X).2.2.2.1

theorem v519_is (X : Ins Ideal) : IsReg (v231 X) 8 14 (v519 X) := (part10_is X).2.2.2.2.1

theorem v521_is (X : Ins Ideal) : IsReg (v231 X) 9 14 (v521 X) := (part10_is X).2.2.2.2.2.1

theorem v523_is (X : Ins Ideal) : IsReg (v231 X) 0 15 (v523 X) := (part10_is X).2.2.2.2.2.2.1

theorem v525_is (X : Ins Ideal) : IsReg (v231 X) 1 15 (v525 X) := (part10_is X).2.2.2.2.2.2.2.1

theorem v527_is (X : Ins Ideal) : IsReg (v231 X) 2 15 (v527 X) := (part10_is X).2.2.2.2.2.2.2.2.1

theorem v529_is (X : Ins Ideal) : IsReg (v231 X) 3 15 (v529 X) := (part10_is X).2.2.2.2.2.2.2.2.2.1

theorem v530_is (X : Ins Ideal) : IsPend (v231 X) 4 14 (v530 X) := (part10_is X).2.2.2.2.2.2.2.2.2.2

theorem part11_is (X : Ins Ideal) : IsReg (v231 X) 4 17 (v571 X) ∧ IsReg (v231 X) 5 17 (v573 X) ∧ IsReg (v231 X) 6 17 (v575 X) ∧ IsReg (v231 X) 7 17 (v577 X) ∧ IsReg (v231 X) 8 17 (v579 X) ∧ IsReg (v231 X) 9 17 (v581 X) ∧ IsReg (v231 X) 0 18 (v583 X) ∧ IsReg (v231 X) 1 18 (v585 X) ∧ IsReg (v231 X) 2 18 (v587 X) ∧ IsReg (v231 X) 3 18 (v589 X) ∧ IsPend (v231 X) 4 17 (v590 X) := by
  have h0 : IsPend (v231 X) 0 16 (k0_pay344 (v231 X)) := pendInit (v231 X) 16 (by decide) (by decide)
  have h1 : IsPend (v231 X) 0 15 (k0_pay326 (v231 X)) := pendInit (v231 X) 15 (by decide) (by decide)
  have h2 : IsReg (v231 X) 0 16 (k0_pay327 (v231 X) (v523 X)) := regStep (v523_is X) h1
  have h3 : IsPend (v231 X) 1 16 (k0_pay346 (v231 X) (v523 X)) := pendStep h2 h0
  have h4 : IsPend (v231 X) 1 15 (k0_pay328 (v231 X) (v523 X)) := pendStep (v523_is X) h1
  have h5 : IsReg (v231 X) 1 16 (k0_pay329 (v231 X) (v523 X) (v525 X)) := regStep (v525_is X) h4
  have h6 : IsPend (v231 X) 2 16 (k0_pay348 (v231 X) (v523 X) (v525 X)) := pendStep h5 h3
  have h7 : IsPend (v231 X) 2 15 (k0_pay330 (v231 X) (v523 X) (v525 X)) := pendStep (v525_is X) h4
  have h8 : IsReg (v231 X) 2 16 (k0_pay331 (v231 X) (v523 X) (v525 X) (v527 X)) := regStep (v527_is X) h7
  have h9 : IsPend (v231 X) 3 16 (k0_pay350 (v231 X) (v523 X) (v525 X) (v527 X)) := pendStep h8 h6
  have h10 : IsPend (v231 X) 3 15 (k0_pay332 (v231 X) (v523 X) (v525 X) (v527 X)) := pendStep (v527_is X) h7
  have h11 : IsReg (v231 X) 3 16 (k0_pay333 (v231 X) (v523 X) (v525 X) (v527 X) (v529 X)) := regStep (v529_is X) h10
  have h12 : IsPend (v231 X) 4 16 (k0_pay352 (v231 X) (v523 X) (v525 X) (v527 X) (v529 X)) := pendStep h11 h9
  have h13 : IsPend (v231 X) 4 15 (k0_pay334 (v231 X) (v523 X) (v525 X) (v527 X) (v529 X)) := pendStep (v529_is X) h10
  have h14 : IsReg (v231 X) 4 15 (k0_pay317 (v511 X) (v530 X)) := regStep (v511_is X) (v530_is X)
  have h15 : IsReg (v231 X) 4 16 (k0_pay335 (v231 X) (v511 X) (v523 X) (v525 X) (v527 X) (v529 X) (v530 X)) := regStep h14 h13
  have h16 : IsReg (v231 X) 4 17 (k0_pay353 (v231 X) (v511 X) (v523 X) (v525 X) (v527 X) (v529 X) (v530 X)) := regStep h15 h12
  have h17 : IsPend (v231 X) 5 16 (k0_pay354 (v231 X) (v511 X) (v523 X) (v525 X) (v527 X) (v529 X) (v530 X)) := pendStep h15 h12
  have h18 : IsPend (v231 X) 5 15 (k0_pay336 (v231 X) (v511 X) (v523 X) (v525 X) (v527 X) (v529 X) (v530 X)) := pendStep h14 h13
  have h19 : IsPend (v231 X) 5 14 (k0_pay318 (v511 X) (v530 X)) := pendStep (v511_is X) (v530_is X)
  have h20 : IsReg (v231 X) 5 15 (k0_pay319 (v511 X) (v513 X) (v530 X)) := regStep (v513_is X) h19
  have h21 : IsReg (v231 X) 5 16 (k0_pay337 (v231 X) (v511 X) (v513 X) (v523 X) (v525 X) (v527 X) (v529 X) (v530 X)) := regStep h20 h18
  have h22 : IsReg (v231 X) 5 17 (k0_pay355 (v231 X) (v511 X) (v513 X) (v523 X) (v525 X) (v527 X) (v529 X) (v530 X)) := regStep h21 h17
  have h23 : IsPend (v231 X) 6 16 (k0_pay356 (v231 X) (v511 X) (v513 X) (v523 X) (v525 X) (v527 X) (v529 X) (v530 X)) := pendStep h21 h17
  have h24 : IsPend (v231 X) 6 15 (k0_pay338 (v231 X) (v511 X) (v513 X) (v523 X) (v525 X) (v527 X) (v529 X) (v530 X)) := pendStep h20 h18
  have h25 : IsPend (v231 X) 6 14 (k0_pay320 (v511 X) (v513 X) (v530 X)) := pendStep (v513_is X) h19
  have h26 : IsReg (v231 X) 6 15 (k0_pay321 (v511 X) (v513 X) (v515 X) (v530 X)) := regStep (v515_is X) h25
  have h27 : IsReg (v231 X) 6 16 (k0_pay339 (v231 X) (v511 X) (v513 X) (v515 X) (v523 X) (v525 X) (v527 X) (v529 X) (v530 X)) := regStep h26 h24
  have h28 : IsReg (v231 X) 6 17 (k0_pay357 (v231 X) (v511 X) (v513 X) (v515 X) (v523 X) (v525 X) (v527 X) (v529 X) (v530 X)) := regStep h27 h23
  have h29 : IsPend (v231 X) 7 16 (k0_pay358 (v231 X) (v511 X) (v513 X) (v515 X) (v523 X) (v525 X) (v527 X) (v529 X) (v530 X)) := pendStep h27 h23
  have h30 : IsPend (v231 X) 7 15 (k0_pay340 (v231 X) (v511 X) (v513 X) (v515 X) (v523 X) (v525 X) (v527 X) (v529 X) (v530 X)) := pendStep h26 h24
  have h31 : IsPend (v231 X) 7 14 (k0_pay322 (v511 X) (v513 X) (v515 X) (v530 X)) := pendStep (v515_is X) h25
  have h32 : IsReg (v231 X) 7 15 (k0_pay323 (v511 X) (v513 X) (v515 X) (v517 X) (v530 X)) := regStep (v517_is X) h31
  have h33 : IsReg (v231 X) 7 16 (k0_pay341 (v231 X) (v511 X) (v513 X) (v515 X) (v517 X) (v523 X) (v525 X) (v527 X) (v529 X) (v530 X)) := regStep h32 h30
  have h34 : IsReg (v231 X) 7 17 (k0_pay359 (v231 X) (v511 X) (v513 X) (v515 X) (v517 X) (v523 X) (v525 X) (v527 X) (v529 X) (v530 X)) := regStep h33 h29
  have h35 : IsPend (v231 X) 8 16 (k0_pay360 (v231 X) (v511 X) (v513 X) (v515 X) (v517 X) (v523 X) (v525 X) (v527 X) (v529 X) (v530 X)) := pendStep h33 h29
  have h36 : IsPend (v231 X) 8 15 (k0_pay342 (v231 X) (v511 X) (v513 X) (v515 X) (v517 X) (v523 X) (v525 X) (v527 X) (v529 X) (v530 X)) := pendStep h32 h30
  have h37 : IsPend (v231 X) 8 14 (k0_pay324 (v511 X) (v513 X) (v515 X) (v517 X) (v530 X)) := pendStep (v517_is X) h31
  have h38 : IsReg (v231 X) 8 15 (k0_pay325 (v511 X) (v513 X) (v515 X) (v517 X) (v519 X) (v530 X)) := regStep (v519_is X) h37
  have h39 : IsReg (v231 X) 8 16 (k0_pay343 (v231 X) (v511 X) (v513 X) (v515 X) (v517 X) (v519 X) (v523 X) (v525 X) (v527 X) (v529 X) (v530 X)) := regStep h38 h36
  have h40 : IsReg (v231 X) 8 17 (k0_pay361 (v231 X) (v511 X) (v513 X) (v515 X) (v517 X) (v519 X) (v523 X) (v525 X) (v527 X) (v529 X) (v530 X)) := regStep h39 h35
  have h41 : IsPend (v231 X) 9 16 (minimumf (k0_pay343 (v231 X) (v511 X) (v513 X) (v515 X) (v517 X) (v519 X) (v523 X) (v525 X) (v527 X) (v529 X) (v530 X)) (k0_pay360 (v231 X) (v511 X) (v513 X) (v515 X) (v517 X) (v523 X) (v525 X) (v527 X) (v529 X) (v530 X))) := pendStep h39 h35
  have h42 : IsPend (v231 X) 9 15 (minimumf (k0_pay325 (v511 X) (v513 X) (v515 X) (v517 X) (v519 X) (v530 X)) (k0_pay342 (v231 X) (v511 X) (v513 X) (v515 X) (v517 X) (v523 X) (v525 X) (v527 X) (v529 X) (v530 X))) := pendStep h38 h36
  have h43 : IsPend (v231 X) 9 14 (minimumf (v519 X) (k0_pay324 (v511 X) (v513 X) (v515 X) (v517 X) (v530 X))) := pendStep (v519_is X) h37
  have h44 : IsReg (v231 X) 9 15 (maximumf (v521 X) (minimumf (v519 X) (k0_pay324 (v511 X) (v513 X) (v515 X) (v517 X) (v530 X)))) := regStep (v521_is X) h43
  have h45 : IsReg (v231 X) 9 16 (maximumf (maximumf (v521 X) (minimumf (v519 X) (k0_pay324 (v511 X) (v513 X) (v515 X) (v517 X) (v530 X)))) (minimumf (k0_pay325 (v511 X) (v513 X) (v515 X) (v517 X) (v519 X) (v530 X)) (k0_pay342 (v231 X) (v511 X) (v513 X) (v515 X) (v517 X) (v523 X) (v525 X) (v527 X) (v529 X) (v530 X)))) := regStep h44 h42
  have h46 : IsReg (v231 X) 9 17 (k0_pay362 (v231 X) (v511 X) (v513 X) (v515 X) (v517 X) (v519 X) (v521 X) (v523 X) (v525 X) (v527 X) (v529 X) (v530 X)) := regStep h45 h41
  have h47 : IsPend (v231 X) 0 17 (k0_pay363 (v231 X)) := pendInit (v231 X) 17 (by decide) (by decide)
  have h48 : IsReg (v231 X) 0 17 (k0_pay345 (v231 X) (v523 X)) := regStep h2 h0
  have h49 : IsReg (v231 X) 0 18 (k0_pay364 (v231 X) (v523 X)) := regStep h48 h47
  have h50 : IsPend (v231 X) 1 17 (k0_pay365 (v231 X) (v523 X)) := pendStep h48 h47
  have h51 : IsReg (v231 X) 1 17 (k0_pay347 (v231 X) (v523 X) (v525 X)) := regStep h5 h3
  have h52 : IsReg (v231 X) 1 18 (k0_pay366 (v231 X) (v523 X) (v525 X)) := regStep h51 h50
  have h53 : IsPend (v231 X) 2 17 (k0_pay367 (v231 X) (v523 X) (v525 X)) := pendStep h51 h50
  have h54 : IsReg (v231 X) 2 17 (k0_pay349 (v231 X) (v523 X) (v525 X) (v527 X)) := regStep h8 h6
  have h55 : IsReg (v231 X) 2 18 (k0_pay368 (v231 X) (v523 X) (v525 X) (v527 X)) := regStep h54 h53
  have h56 : IsPend (v231 X) 3 17 (k0_pay369 (v231 X) (v523 X) (v525 X) (v527 X)) := pendStep h54 h53
  have h57 : IsReg (v231 X) 3 17 (k0_pay351 (v231 X) (v523 X) (v525 X) (v527 X) (v529 X)) := regStep h11 h9
  have h58 : IsReg (v231 X) 3 18 (k0_pay370 (v231 X) (v523 X) (v525 X) (v527 X) (v529 X)) := regStep h57 h56
  have h59 : IsPend (v231 X) 4 17 (k0_pay371 (v231 X) (v523 X) (v525 X) (v527 X) (v529 X)) := pendStep h57 h56
  exact ⟨h16, h22, h28, h34, h40, h46, h49, h52, h55, h58, h59⟩

theorem v571_is (X : Ins Ideal) : IsReg (v231 X) 4 17 (v571 X) := (part11_is X).1

theorem v573_is (X : Ins Ideal) : IsReg (v231 X) 5 17 (v573 X) := (part11_is X).2.1

theorem v575_is (X : Ins Ideal) : IsReg (v231 X) 6 17 (v575 X) := (part11_is X).2.2.1

theorem v577_is (X : Ins Ideal) : IsReg (v231 X) 7 17 (v577 X) := (part11_is X).2.2.2.1

theorem v579_is (X : Ins Ideal) : IsReg (v231 X) 8 17 (v579 X) := (part11_is X).2.2.2.2.1

theorem v581_is (X : Ins Ideal) : IsReg (v231 X) 9 17 (v581 X) := (part11_is X).2.2.2.2.2.1

theorem v583_is (X : Ins Ideal) : IsReg (v231 X) 0 18 (v583 X) := (part11_is X).2.2.2.2.2.2.1

theorem v585_is (X : Ins Ideal) : IsReg (v231 X) 1 18 (v585 X) := (part11_is X).2.2.2.2.2.2.2.1

theorem v587_is (X : Ins Ideal) : IsReg (v231 X) 2 18 (v587 X) := (part11_is X).2.2.2.2.2.2.2.2.1

theorem v589_is (X : Ins Ideal) : IsReg (v231 X) 3 18 (v589 X) := (part11_is X).2.2.2.2.2.2.2.2.2.1

theorem v590_is (X : Ins Ideal) : IsPend (v231 X) 4 17 (v590 X) := (part11_is X).2.2.2.2.2.2.2.2.2.2

theorem part12_is (X : Ins Ideal) : IsReg (v231 X) 4 20 (v631 X) ∧ IsReg (v231 X) 5 20 (v633 X) ∧ IsReg (v231 X) 6 20 (v635 X) ∧ IsReg (v231 X) 7 20 (v637 X) ∧ IsReg (v231 X) 8 20 (v639 X) ∧ IsReg (v231 X) 9 20 (v641 X) ∧ IsReg (v231 X) 0 21 (v643 X) ∧ IsReg (v231 X) 1 21 (v645 X) ∧ IsReg (v231 X) 2 21 (v647 X) ∧ IsReg (v231 X) 3 21 (v649 X) ∧ IsPend (v231 X) 4 20 (v650 X) := by
  have h0 : IsPend (v231 X) 0 19 (k0_pay399 (v231 X)) := pendInit (v231 X) 19 (by decide) (by decide)
  have h1 : IsPend (v231 X) 0 18 (k0_pay381 (v231 X)) := pendInit (v231 X) 18 (by decide) (by decide)
  have h2 : IsReg (v231 X) 0 19 (k0_pay382 (v231 X) (v583 X)) := regStep (v583_is X) h1
  have h3 : IsPend (v231 X) 1 19 (k0_pay401 (v231 X) (v583 X)) := pendStep h2 h0
  have h4 : IsPend (v231 X) 1 18 (k0_pay383 (v231 X) (v583 X)) := pendStep (v583_is X) h1
  have h5 : IsReg (v231 X) 1 19 (k0_pay384 (v231 X) (v583 X) (v585 X)) := regStep (v585_is X) h4
  have h6 : IsPend (v231 X) 2 19 (k0_pay403 (v231 X) (v583 X) (v585 X)) := pendStep h5 h3
  have h7 : IsPend (v231 X) 2 18 (k0_pay385 (v231 X) (v583 X) (v585 X)) := pendStep (v585_is X) h4
  have h8 : IsReg (v231 X) 2 19 (k0_pay386 (v231 X) (v583 X) (v585 X) (v587 X)) := regStep (v587_is X) h7
  have h9 : IsPend (v231 X) 3 19 (k0_pay405 (v231 X) (v583 X) (v585 X) (v587 X)) := pendStep h8 h6
  have h10 : IsPend (v231 X) 3 18 (k0_pay387 (v231 X) (v583 X) (v585 X) (v587 X)) := pendStep (v587_is X) h7
  have h11 : IsReg (v231 X) 3 19 (k0_pay388 (v231 X) (v583 X) (v585 X) (v587 X) (v589 X)) := regStep (v589_is X) h10
  have h12 : IsPend (v231 X) 4 19 (k0_pay407 (v231 X) (v583 X) (v585 X) (v587 X) (v589 X)) := pendStep h11 h9
  have h13 : IsPend (v231 X) 4 18 (k0_pay389 (v231 X) (v583 X) (v585 X) (v587 X) (v589 X)) := pendStep (v589_is X) h10
  have h14 : IsReg (v231 X) 4 18 (k0_pay372 (v571 X) (v590 X)) := regStep (v571_is X) (v590_is X)
  have h15 : IsReg (v231 X) 4 19 (k0_pay390 (v231 X) (v571 X) (v583 X) (v585 X) (v587 X) (v589 X) (v590 X)) := regStep h14 h13
  have h16 : IsReg (v231 X) 4 20 (k0_pay408 (v231 X) (v571 X) (v583 X) (v585 X) (v587 X) (v589 X) (v590 X)) := regStep h15 h12
  have h17 : IsPend (v231 X) 5 19 (k0_pay409 (v231 X) (v571 X) (v583 X) (v585 X) (v587 X) (v589 X) (v590 X)) := pendStep h15 h12
  have h18 : IsPend (v231 X) 5 18 (k0_pay391 (v231 X) (v571 X) (v583 X) (v585 X) (v587 X) (v589 X) (v590 X)) := pendStep h14 h13
  have h19 : IsPend (v231 X) 5 17 (k0_pay373 (v571 X) (v590 X)) := pendStep (v571_is X) (v590_is X)
  have h20 : IsReg (v231 X) 5 18 (k0_pay374 (v571 X) (v573 X) (v590 X)) := regStep (v573_is X) h19
  have h21 : IsReg (v231 X) 5 19 (k0_pay392 (v231 X) (v571 X) (v573 X) (v583 X) (v585 X) (v587 X) (v589 X) (v590 X)) := regStep h20 h18
  have h22 : IsReg (v231 X) 5 20 (k0_pay410 (v231 X) (v571 X) (v573 X) (v583 X) (v585 X) (v587 X) (v589 X) (v590 X)) := regStep h21 h17
  have h23 : IsPend (v231 X) 6 19 (k0_pay411 (v231 X) (v571 X) (v573 X) (v583 X) (v585 X) (v587 X) (v589 X) (v590 X)) := pendStep h21 h17
  have h24 : IsPend (v231 X) 6 18 (k0_pay393 (v231 X) (v571 X) (v573 X) (v583 X) (v585 X) (v587 X) (v589 X) (v590 X)) := pendStep h20 h18
  have h25 : IsPend (v231 X) 6 17 (k0_pay375 (v571 X) (v573 X) (v590 X)) := pendStep (v573_is X) h19
  have h26 : IsReg (v231 X) 6 18 (k0_pay376 (v571 X) (v573 X) (v575 X) (v590 X)) := regStep (v575_is X) h25
  have h27 : IsReg (v231 X) 6 19 (k0_pay394 (v231 X) (v571 X) (v573 X) (v575 X) (v583 X) (v585 X) (v587 X) (v589 X) (v590 X)) := regStep h26 h24
  have h28 : IsReg (v231 X) 6 20 (k0_pay412 (v231 X) (v571 X) (v573 X) (v575 X) (v583 X) (v585 X) (v587 X) (v589 X) (v590 X)) := regStep h27 h23
  have h29 : IsPend (v231 X) 7 19 (k0_pay413 (v231 X) (v571 X) (v573 X) (v575 X) (v583 X) (v585 X) (v587 X) (v589 X) (v590 X)) := pendStep h27 h23
  have h30 : IsPend (v231 X) 7 18 (k0_pay395 (v231 X) (v571 X) (v573 X) (v575 X) (v583 X) (v585 X) (v587 X) (v589 X) (v590 X)) := pendStep h26 h24
  have h31 : IsPend (v231 X) 7 17 (k0_pay377 (v571 X) (v573 X) (v575 X) (v590 X)) := pendStep (v575_is X) h25
  have h32 : IsReg (v231 X) 7 18 (k0_pay378 (v571 X) (v573 X) (v575 X) (v577 X) (v590 X)) := regStep (v577_is X) h31
  have h33 : IsReg (v231 X) 7 19 (k0_pay396 (v231 X) (v571 X) (v573 X) (v575 X) (v577 X) (v583 X) (v585 X) (v587 X) (v589 X) (v590 X)) := regStep h32 h30
  have h34 : IsReg (v231 X) 7 20 (k0_pay414 (v231 X) (v571 X) (v573 X) (v575 X) (v577 X) (v583 X) (v585 X) (v587 X) (v589 X) (v590 X)) := regStep h33 h29
  have h35 : IsPend (v231 X) 8 19 (k0_pay415 (v231 X) (v571 X) (v573 X) (v575 X) (v577 X) (v583 X) (v585 X) (v587 X) (v589 X) (v590 X)) := pendStep h33 h29
  have h36 : IsPend (v231 X) 8 18 (k0_pay397 (v231 X) (v571 X) (v573 X) (v575 X) (v577 X) (v583 X) (v585 X) (v587 X) (v589 X) (v590 X)) := pendStep h32 h30
  have h37 : IsPend (v231 X) 8 17 (k0_pay379 (v571 X) (v573 X) (v575 X) (v577 X) (v590 X)) := pendStep (v577_is X) h31
  have h38 : IsReg (v231 X) 8 18 (k0_pay380 (v571 X) (v573 X) (v575 X) (v577 X) (v579 X) (v590 X)) := regStep (v579_is X) h37
  have h39 : IsReg (v231 X) 8 19 (k0_pay398 (v231 X) (v571 X) (v573 X) (v575 X) (v577 X) (v579 X) (v583 X) (v585 X) (v587 X) (v589 X) (v590 X)) := regStep h38 h36
  have h40 : IsReg (v231 X) 8 20 (k0_pay416 (v231 X) (v571 X) (v573 X) (v575 X) (v577 X) (v579 X) (v583 X) (v585 X) (v587 X) (v589 X) (v590 X)) := regStep h39 h35
  have h41 : IsPend (v231 X) 9 19 (minimumf (k0_pay398 (v231 X) (v571 X) (v573 X) (v575 X) (v577 X) (v579 X) (v583 X) (v585 X) (v587 X) (v589 X) (v590 X)) (k0_pay415 (v231 X) (v571 X) (v573 X) (v575 X) (v577 X) (v583 X) (v585 X) (v587 X) (v589 X) (v590 X))) := pendStep h39 h35
  have h42 : IsPend (v231 X) 9 18 (minimumf (k0_pay380 (v571 X) (v573 X) (v575 X) (v577 X) (v579 X) (v590 X)) (k0_pay397 (v231 X) (v571 X) (v573 X) (v575 X) (v577 X) (v583 X) (v585 X) (v587 X) (v589 X) (v590 X))) := pendStep h38 h36
  have h43 : IsPend (v231 X) 9 17 (minimumf (v579 X) (k0_pay379 (v571 X) (v573 X) (v575 X) (v577 X) (v590 X))) := pendStep (v579_is X) h37
  have h44 : IsReg (v231 X) 9 18 (maximumf (v581 X) (minimumf (v579 X) (k0_pay379 (v571 X) (v573 X) (v575 X) (v577 X) (v590 X)))) := regStep (v581_is X) h43
  have h45 : IsReg (v231 X) 9 19 (maximumf (maximumf (v581 X) (minimumf (v579 X) (k0_pay379 (v571 X) (v573 X) (v575 X) (v577 X) (v590 X)))) (minimumf (k0_pay380 (v571 X) (v573 X) (v575 X) (v577 X) (v579 X) (v590 X)) (k0_pay397 (v231 X) (v571 X) (v573 X) (v575 X) (v577 X) (v583 X) (v585 X) (v587 X) (v589 X) (v590 X)))) := regStep h44 h42
  have h46 : IsReg (v231 X) 9 20 (k0_pay417 (v231 X) (v571 X) (v573 X) (v575 X) (v577 X) (v579 X) (v581 X) (v583 X) (v585 X) (v587 X) (v589 X) (v590 X)) := regStep h45 h41
  have h47 : IsPend (v231 X) 0 20 (k0_pay418 (v231 X)) := pendInit (v231 X) 20 (by decide) (by decide)
  have h48 : IsReg (v231 X) 0 20 (k0_pay400 (v231 X) (v583 X)) := regStep h2 h0
  have h49 : IsReg (v231 X) 0 21 (k0_pay419 (v231 X) (v583 X)) := regStep h48 h47
  have h50 : IsPend (v231 X) 1 20 (k0_pay420 (v231 X) (v583 X)) := pendStep h48 h47
  have h51 : IsReg (v231 X) 1 20 (k0_pay402 (v231 X) (v583 X) (v585 X)) := regStep h5 h3
  have h52 : IsReg (v231 X) 1 21 (k0_pay421 (v231 X) (v583 X) (v585 X)) := regStep h51 h50
  have h53 : IsPend (v231 X) 2 20 (k0_pay422 (v231 X) (v583 X) (v585 X)) := pendStep h51 h50
  have h54 : IsReg (v231 X) 2 20 (k0_pay404 (v231 X) (v583 X) (v585 X) (v587 X)) := regStep h8 h6
  have h55 : IsReg (v231 X) 2 21 (k0_pay423 (v231 X) (v583 X) (v585 X) (v587 X)) := regStep h54 h53
  have h56 : IsPend (v231 X) 3 20 (k0_pay424 (v231 X) (v583 X) (v585 X) (v587 X)) := pendStep h54 h53
  have h57 : IsReg (v231 X) 3 20 (k0_pay406 (v231 X) (v583 X) (v585 X) (v587 X) (v589 X)) := regStep h11 h9
  have h58 : IsReg (v231 X) 3 21 (k0_pay425 (v231 X) (v583 X) (v585 X) (v587 X) (v589 X)) := regStep h57 h56
  have h59 : IsPend (v231 X) 4 20 (k0_pay426 (v231 X) (v583 X) (v585 X) (v587 X) (v589 X)) := pendStep h57 h56
  exact ⟨h16, h22, h28, h34, h40, h46, h49, h52, h55, h58, h59⟩

theorem v631_is (X : Ins Ideal) : IsReg (v231 X) 4 20 (v631 X) := (part12_is X).1

theorem v633_is (X : Ins Ideal) : IsReg (v231 X) 5 20 (v633 X) := (part12_is X).2.1

theorem v635_is (X : Ins Ideal) : IsReg (v231 X) 6 20 (v635 X) := (part12_is X).2.2.1

theorem v637_is (X : Ins Ideal) : IsReg (v231 X) 7 20 (v637 X) := (part12_is X).2.2.2.1

theorem v639_is (X : Ins Ideal) : IsReg (v231 X) 8 20 (v639 X) := (part12_is X).2.2.2.2.1

theorem v641_is (X : Ins Ideal) : IsReg (v231 X) 9 20 (v641 X) := (part12_is X).2.2.2.2.2.1

theorem v643_is (X : Ins Ideal) : IsReg (v231 X) 0 21 (v643 X) := (part12_is X).2.2.2.2.2.2.1

theorem v645_is (X : Ins Ideal) : IsReg (v231 X) 1 21 (v645 X) := (part12_is X).2.2.2.2.2.2.2.1

theorem v647_is (X : Ins Ideal) : IsReg (v231 X) 2 21 (v647 X) := (part12_is X).2.2.2.2.2.2.2.2.1

theorem v649_is (X : Ins Ideal) : IsReg (v231 X) 3 21 (v649 X) := (part12_is X).2.2.2.2.2.2.2.2.2.1

theorem v650_is (X : Ins Ideal) : IsPend (v231 X) 4 20 (v650 X) := (part12_is X).2.2.2.2.2.2.2.2.2.2

theorem part13_is (X : Ins Ideal) : IsReg (v231 X) 4 23 (v691 X) ∧ IsReg (v231 X) 5 23 (v693 X) ∧ IsReg (v231 X) 6 23 (v695 X) ∧ IsReg (v231 X) 7 23 (v697 X) ∧ IsReg (v231 X) 8 23 (v699 X) ∧ IsReg (v231 X) 9 23 (v701 X) ∧ IsReg (v231 X) 0 24 (v703 X) ∧ IsReg (v231 X) 1 24 (v705 X) ∧ IsReg (v231 X) 2 24 (v707 X) ∧ IsReg (v231 X) 3 24 (v709 X) ∧ IsPend (v231 X) 4 23 (v710 X) := by
  have h0 : IsPend (v231 X) 0 22 (k0_pay454 (v231 X)) := pendInit (v231 X) 22 (by decide) (by decide)
  have h1 : IsPend (v231 X) 0 21 (k0_pay436 (v231 X)) := pendInit (v231 X) 21 (by decide) (by decide)
  have h2 : IsReg (v231 X) 0 22 (k0_pay437 (v231 X) (v643 X)) := regStep (v643_is X) h1
  have h3 : IsPend (v231 X) 1 22 (k0_pay456 (v231 X) (v643 X)) := pendStep h2 h0
  have h4 : IsPend (v231 X) 1 21 (k0_pay438 (v231 X) (v643 X)) := pendStep (v643_is X) h1
  have h5 : IsReg (v231 X) 1 22 (k0_pay439 (v231 X) (v643 X) (v645 X)) := regStep (v645_is X) h4
  have h6 : IsPend (v231 X) 2 22 (k0_pay458 (v231 X) (v643 X) (v645 X)) := pendStep h5 h3
  have h7 : IsPend (v231 X) 2 21 (k0_pay440 (v231 X) (v643 X) (v645 X)) := pendStep (v645_is X) h4
  have h8 : IsReg (v231 X) 2 22 (k0_pay441 (v231 X) (v643 X) (v645 X) (v647 X)) := regStep (v647_is X) h7
  have h9 : IsPend (v231 X) 3 22 (k0_pay460 (v231 X) (v643 X) (v645 X) (v647 X)) := pendStep h8 h6
  have h10 : IsPend (v231 X) 3 21 (k0_pay442 (v231 X) (v643 X) (v645 X) (v647 X)) := pendStep (v647_is X) h7
  have h11 : IsReg (v231 X) 3 22 (k0_pay443 (v231 X) (v643 X) (v645 X) (v647 X) (v649 X)) := regStep (v649_is X) h10
  have h12 : IsPend (v231 X) 4 22 (k0_pay462 (v231 X) (v643 X) (v645 X) (v647 X) (v649 X)) := pendStep h11 h9
  have h13 : IsPend (v231 X) 4 21 (k0_pay444 (v231 X) (v643 X) (v645 X) (v647 X) (v649 X)) := pendStep (v649_is X) h10
  have h14 : IsReg (v231 X) 4 21 (k0_pay427 (v631 X) (v650 X)) := regStep (v631_is X) (v650_is X)
  have h15 : IsReg (v231 X) 4 22 (k0_pay445 (v231 X) (v631 X) (v643 X) (v645 X) (v647 X) (v649 X) (v650 X)) := regStep h14 h13
  have h16 : IsReg (v231 X) 4 23 (k0_pay463 (v231 X) (v631 X) (v643 X) (v645 X) (v647 X) (v649 X) (v650 X)) := regStep h15 h12
  have h17 : IsPend (v231 X) 5 22 (k0_pay464 (v231 X) (v631 X) (v643 X) (v645 X) (v647 X) (v649 X) (v650 X)) := pendStep h15 h12
  have h18 : IsPend (v231 X) 5 21 (k0_pay446 (v231 X) (v631 X) (v643 X) (v645 X) (v647 X) (v649 X) (v650 X)) := pendStep h14 h13
  have h19 : IsPend (v231 X) 5 20 (k0_pay428 (v631 X) (v650 X)) := pendStep (v631_is X) (v650_is X)
  have h20 : IsReg (v231 X) 5 21 (k0_pay429 (v631 X) (v633 X) (v650 X)) := regStep (v633_is X) h19
  have h21 : IsReg (v231 X) 5 22 (k0_pay447 (v231 X) (v631 X) (v633 X) (v643 X) (v645 X) (v647 X) (v649 X) (v650 X)) := regStep h20 h18
  have h22 : IsReg (v231 X) 5 23 (k0_pay465 (v231 X) (v631 X) (v633 X) (v643 X) (v645 X) (v647 X) (v649 X) (v650 X)) := regStep h21 h17
  have h23 : IsPend (v231 X) 6 22 (k0_pay466 (v231 X) (v631 X) (v633 X) (v643 X) (v645 X) (v647 X) (v649 X) (v650 X)) := pendStep h21 h17
  have h24 : IsPend (v231 X) 6 21 (k0_pay448 (v231 X) (v631 X) (v633 X) (v643 X) (v645 X) (v647 X) (v649 X) (v650 X)) := pendStep h20 h18
  have h25 : IsPend (v231 X) 6 20 (k0_pay430 (v631 X) (v633 X) (v650 X)) := pendStep (v633_is X) h19
  have h26 : IsReg (v231 X) 6 21 (k0_pay431 (v631 X) (v633 X) (v635 X) (v650 X)) := regStep (v635_is X) h25
  have h27 : IsReg (v231 X) 6 22 (k0_pay449 (v231 X) (v631 X) (v633 X) (v635 X) (v643 X) (v645 X) (v647 X) (v649 X) (v650 X)) := regStep h26 h24
  have h28 : IsReg (v231 X) 6 23 (k0_pay467 (v231 X) (v631 X) (v633 X) (v635 X) (v643 X) (v645 X) (v647 X) (v649 X) (v650 X)) := regStep h27 h23
  have h29 : IsPend (v231 X) 7 22 (k0_pay468 (v231 X) (v631 X) (v633 X) (v635 X) (v643 X) (v645 X) (v647 X) (v649 X) (v650 X)) := pendStep h27 h23
  have h30 : IsPend (v231 X) 7 21 (k0_pay450 (v231 X) (v631 X) (v633 X) (v635 X) (v643 X) (v645 X) (v647 X) (v649 X) (v650 X)) := pendStep h26 h24
  have h31 : IsPend (v231 X) 7 20 (k0_pay432 (v631 X) (v633 X) (v635 X) (v650 X)) := pendStep (v635_is X) h25
  have h32 : IsReg (v231 X) 7 21 (k0_pay433 (v631 X) (v633 X) (v635 X) (v637 X) (v650 X)) := regStep (v637_is X) h31
  have h33 : IsReg (v231 X) 7 22 (k0_pay451 (v231 X) (v631 X) (v633 X) (v635 X) (v637 X) (v643 X) (v645 X) (v647 X) (v649 X) (v650 X)) := regStep h32 h30
  have h34 : IsReg (v231 X) 7 23 (k0_pay469 (v231 X) (v631 X) (v633 X) (v635 X) (v637 X) (v643 X) (v645 X) (v647 X) (v649 X) (v650 X)) := regStep h33 h29
  have h35 : IsPend (v231 X) 8 22 (k0_pay470 (v231 X) (v631 X) (v633 X) (v635 X) (v637 X) (v643 X) (v645 X) (v647 X) (v649 X) (v650 X)) := pendStep h33 h29
  have h36 : IsPend (v231 X) 8 21 (k0_pay452 (v231 X) (v631 X) (v633 X) (v635 X) (v637 X) (v643 X) (v645 X) (v647 X) (v649 X) (v650 X)) := pendStep h32 h30
  have h37 : IsPend (v231 X) 8 20 (k0_pay434 (v631 X) (v633 X) (v635 X) (v637 X) (v650 X)) := pendStep (v637_is X) h31
  have h38 : IsReg (v231 X) 8 21 (k0_pay435 (v631 X) (v633 X) (v635 X) (v637 X) (v639 X) (v650 X)) := regStep (v639_is X) h37
  have h39 : IsReg (v231 X) 8 22 (k0_pay453 (v231 X) (v631 X) (v633 X) (v635 X) (v637 X) (v639 X) (v643 X) (v645 X) (v647 X) (v649 X) (v650 X)) := regStep h38 h36
  have h40 : IsReg (v231 X) 8 23 (k0_pay471 (v231 X) (v631 X) (v633 X) (v635 X) (v637 X) (v639 X) (v643 X) (v645 X) (v647 X) (v649 X) (v650 X)) := regStep h39 h35
  have h41 : IsPend (v231 X) 9 22 (minimumf (k0_pay453 (v231 X) (v631 X) (v633 X) (v635 X) (v637 X) (v639 X) (v643 X) (v645 X) (v647 X) (v649 X) (v650 X)) (k0_pay470 (v231 X) (v631 X) (v633 X) (v635 X) (v637 X) (v643 X) (v645 X) (v647 X) (v649 X) (v650 X))) := pendStep h39 h35
  have h42 : IsPend (v231 X) 9 21 (minimumf (k0_pay435 (v631 X) (v633 X) (v635 X) (v637 X) (v639 X) (v650 X)) (k0_pay452 (v231 X) (v631 X) (v633 X) (v635 X) (v637 X) (v643 X) (v645 X) (v647 X) (v649 X) (v650 X))) := pendStep h38 h36
  have h43 : IsPend (v231 X) 9 20 (minimumf (v639 X) (k0_pay434 (v631 X) (v633 X) (v635 X) (v637 X) (v650 X))) := pendStep (v639_is X) h37
  have h44 : IsReg (v231 X) 9 21 (maximumf (v641 X) (minimumf (v639 X) (k0_pay434 (v631 X) (v633 X) (v635 X) (v637 X) (v650 X)))) := regStep (v641_is X) h43
  have h45 : IsReg (v231 X) 9 22 (maximumf (maximumf (v641 X) (minimumf (v639 X) (k0_pay434 (v631 X) (v633 X) (v635 X) (v637 X) (v650 X)))) (minimumf (k0_pay435 (v631 X) (v633 X) (v635 X) (v637 X) (v639 X) (v650 X)) (k0_pay452 (v231 X) (v631 X) (v633 X) (v635 X) (v637 X) (v643 X) (v645 X) (v647 X) (v649 X) (v650 X)))) := regStep h44 h42
  have h46 : IsReg (v231 X) 9 23 (k0_pay472 (v231 X) (v631 X) (v633 X) (v635 X) (v637 X) (v639 X) (v641 X) (v643 X) (v645 X) (v647 X) (v649 X) (v650 X)) := regStep h45 h41
  have h47 : IsPend (v231 X) 0 23 (k0_pay473 (v231 X)) := pendInit (v231 X) 23 (by decide) (by decide)
  have h48 : IsReg (v231 X) 0 23 (k0_pay455 (v231 X) (v643 X)) := regStep h2 h0
  have h49 : IsReg (v231 X) 0 24 (k0_pay474 (v231 X) (v643 X)) := regStep h48 h47
  have h50 : IsPend (v231 X) 1 23 (k0_pay475 (v231 X) (v643 X)) := pendStep h48 h47
  have h51 : IsReg (v231 X) 1 23 (k0_pay457 (v231 X) (v643 X) (v645 X)) := regStep h5 h3
  have h52 : IsReg (v231 X) 1 24 (k0_pay476 (v231 X) (v643 X) (v645 X)) := regStep h51 h50
  have h53 : IsPend (v231 X) 2 23 (k0_pay477 (v231 X) (v643 X) (v645 X)) := pendStep h51 h50
  have h54 : IsReg (v231 X) 2 23 (k0_pay459 (v231 X) (v643 X) (v645 X) (v647 X)) := regStep h8 h6
  have h55 : IsReg (v231 X) 2 24 (k0_pay478 (v231 X) (v643 X) (v645 X) (v647 X)) := regStep h54 h53
  have h56 : IsPend (v231 X) 3 23 (k0_pay479 (v231 X) (v643 X) (v645 X) (v647 X)) := pendStep h54 h53
  have h57 : IsReg (v231 X) 3 23 (k0_pay461 (v231 X) (v643 X) (v645 X) (v647 X) (v649 X)) := regStep h11 h9
  have h58 : IsReg (v231 X) 3 24 (k0_pay480 (v231 X) (v643 X) (v645 X) (v647 X) (v649 X)) := regStep h57 h56
  have h59 : IsPend (v231 X) 4 23 (k0_pay481 (v231 X) (v643 X) (v645 X) (v647 X) (v649 X)) := pendStep h57 h56
  exact ⟨h16, h22, h28, h34, h40, h46, h49, h52, h55, h58, h59⟩

theorem v691_is (X : Ins Ideal) : IsReg (v231 X) 4 23 (v691 X) := (part13_is X).1

theorem v693_is (X : Ins Ideal) : IsReg (v231 X) 5 23 (v693 X) := (part13_is X).2.1

theorem v695_is (X : Ins Ideal) : IsReg (v231 X) 6 23 (v695 X) := (part13_is X).2.2.1

theorem v697_is (X : Ins Ideal) : IsReg (v231 X) 7 23 (v697 X) := (part13_is X).2.2.2.1

theorem v699_is (X : Ins Ideal) : IsReg (v231 X) 8 23 (v699 X) := (part13_is X).2.2.2.2.1

theorem v701_is (X : Ins Ideal) : IsReg (v231 X) 9 23 (v701 X) := (part13_is X).2.2.2.2.2.1

theorem v703_is (X : Ins Ideal) : IsReg (v231 X) 0 24 (v703 X) := (part13_is X).2.2.2.2.2.2.1

theorem v705_is (X : Ins Ideal) : IsReg (v231 X) 1 24 (v705 X) := (part13_is X).2.2.2.2.2.2.2.1

theorem v707_is (X : Ins Ideal) : IsReg (v231 X) 2 24 (v707 X) := (part13_is X).2.2.2.2.2.2.2.2.1

theorem v709_is (X : Ins Ideal) : IsReg (v231 X) 3 24 (v709 X) := (part13_is X).2.2.2.2.2.2.2.2.2.1

theorem v710_is (X : Ins Ideal) : IsPend (v231 X) 4 23 (v710 X) := (part13_is X).2.2.2.2.2.2.2.2.2.2

theorem part14_is (X : Ins Ideal) : IsReg (v231 X) 4 26 (v751 X) ∧ IsReg (v231 X) 5 26 (v753 X) ∧ IsReg (v231 X) 6 26 (v755 X) ∧ IsReg (v231 X) 7 26 (v757 X) ∧ IsReg (v231 X) 8 26 (v759 X) ∧ IsReg (v231 X) 9 26 (v761 X) ∧ IsReg (v231 X) 0 27 (v763 X) ∧ IsReg (v231 X) 1 27 (v765 X) ∧ IsReg (v231 X) 2 27 (v767 X) ∧ IsReg (v231 X) 3 27 (v769 X) ∧ IsPend (v231 X) 4 26 (v770 X) := by
  have h0 : IsPend (v231 X) 0 25 (k0_pay509 (v231 X)) := pendInit (v231 X) 25 (by decide) (by decide)
  have h1 : IsPend (v231 X) 0 24 (k0_pay491 (v231 X)) := pendInit (v231 X) 24 (by decide) (by decide)
  have h2 : IsReg (v231 X) 0 25 (k0_pay492 (v231 X) (v703 X)) := regStep (v703_is X) h1
  have h3 : IsPend (v231 X) 1 25 (k0_pay511 (v231 X) (v703 X)) := pendStep h2 h0
  have h4 : IsPend (v231 X) 1 24 (k0_pay493 (v231 X) (v703 X)) := pendStep (v703_is X) h1
  have h5 : IsReg (v231 X) 1 25 (k0_pay494 (v231 X) (v703 X) (v705 X)) := regStep (v705_is X) h4
  have h6 : IsPend (v231 X) 2 25 (k0_pay513 (v231 X) (v703 X) (v705 X)) := pendStep h5 h3
  have h7 : IsPend (v231 X) 2 24 (k0_pay495 (v231 X) (v703 X) (v705 X)) := pendStep (v705_is X) h4
  have h8 : IsReg (v231 X) 2 25 (k0_pay496 (v231 X) (v703 X) (v705 X) (v707 X)) := regStep (v707_is X) h7
  have h9 : IsPend (v231 X) 3 25 (k0_pay515 (v231 X) (v703 X) (v705 X) (v707 X)) := pendStep h8 h6
  have h10 : IsPend (v231 X) 3 24 (k0_pay497 (v231 X) (v703 X) (v705 X) (v707 X)) := pendStep (v707_is X) h7
  have h11 : IsReg (v231 X) 3 25 (k0_pay498 (v231 X) (v703 X) (v705 X) (v707 X) (v709 X)) := regStep (v709_is X) h10
  have h12 : IsPend (v231 X) 4 25 (k0_pay517 (v231 X) (v703 X) (v705 X) (v707 X) (v709 X)) := pendStep h11 h9
  have h13 : IsPend (v231 X) 4 24 (k0_pay499 (v231 X) (v703 X) (v705 X) (v707 X) (v709 X)) := pendStep (v709_is X) h10
  have h14 : IsReg (v231 X) 4 24 (k0_pay482 (v691 X) (v710 X)) := regStep (v691_is X) (v710_is X)
  have h15 : IsReg (v231 X) 4 25 (k0_pay500 (v231 X) (v691 X) (v703 X) (v705 X) (v707 X) (v709 X) (v710 X)) := regStep h14 h13
  have h16 : IsReg (v231 X) 4 26 (k0_pay518 (v231 X) (v691 X) (v703 X) (v705 X) (v707 X) (v709 X) (v710 X)) := regStep h15 h12
  have h17 : IsPend (v231 X) 5 25 (k0_pay519 (v231 X) (v691 X) (v703 X) (v705 X) (v707 X) (v709 X) (v710 X)) := pendStep h15 h12
  have h18 : IsPend (v231 X) 5 24 (k0_pay501 (v231 X) (v691 X) (v703 X) (v705 X) (v707 X) (v709 X) (v710 X)) := pendStep h14 h13
  have h19 : IsPend (v231 X) 5 23 (k0_pay483 (v691 X) (v710 X)) := pendStep (v691_is X) (v710_is X)
  have h20 : IsReg (v231 X) 5 24 (k0_pay484 (v691 X) (v693 X) (v710 X)) := regStep (v693_is X) h19
  have h21 : IsReg (v231 X) 5 25 (k0_pay502 (v231 X) (v691 X) (v693 X) (v703 X) (v705 X) (v707 X) (v709 X) (v710 X)) := regStep h20 h18
  have h22 : IsReg (v231 X) 5 26 (k0_pay520 (v231 X) (v691 X) (v693 X) (v703 X) (v705 X) (v707 X) (v709 X) (v710 X)) := regStep h21 h17
  have h23 : IsPend (v231 X) 6 25 (k0_pay521 (v231 X) (v691 X) (v693 X) (v703 X) (v705 X) (v707 X) (v709 X) (v710 X)) := pendStep h21 h17
  have h24 : IsPend (v231 X) 6 24 (k0_pay503 (v231 X) (v691 X) (v693 X) (v703 X) (v705 X) (v707 X) (v709 X) (v710 X)) := pendStep h20 h18
  have h25 : IsPend (v231 X) 6 23 (k0_pay485 (v691 X) (v693 X) (v710 X)) := pendStep (v693_is X) h19
  have h26 : IsReg (v231 X) 6 24 (k0_pay486 (v691 X) (v693 X) (v695 X) (v710 X)) := regStep (v695_is X) h25
  have h27 : IsReg (v231 X) 6 25 (k0_pay504 (v231 X) (v691 X) (v693 X) (v695 X) (v703 X) (v705 X) (v707 X) (v709 X) (v710 X)) := regStep h26 h24
  have h28 : IsReg (v231 X) 6 26 (k0_pay522 (v231 X) (v691 X) (v693 X) (v695 X) (v703 X) (v705 X) (v707 X) (v709 X) (v710 X)) := regStep h27 h23
  have h29 : IsPend (v231 X) 7 25 (k0_pay523 (v231 X) (v691 X) (v693 X) (v695 X) (v703 X) (v705 X) (v707 X) (v709 X) (v710 X)) := pendStep h27 h23
  have h30 : IsPend (v231 X) 7 24 (k0_pay505 (v231 X) (v691 X) (v693 X) (v695 X) (v703 X) (v705 X) (v707 X) (v709 X) (v710 X)) := pendStep h26 h24
  have h31 : IsPend (v231 X) 7 23 (k0_pay487 (v691 X) (v693 X) (v695 X) (v710 X)) := pendStep (v695_is X) h25
  have h32 : IsReg (v231 X) 7 24 (k0_pay488 (v691 X) (v693 X) (v695 X) (v697 X) (v710 X)) := regStep (v697_is X) h31
  have h33 : IsReg (v231 X) 7 25 (k0_pay506 (v231 X) (v691 X) (v693 X) (v695 X) (v697 X) (v703 X) (v705 X) (v707 X) (v709 X) (v710 X)) := regStep h32 h30
  have h34 : IsReg (v231 X) 7 26 (k0_pay524 (v231 X) (v691 X) (v693 X) (v695 X) (v697 X) (v703 X) (v705 X) (v707 X) (v709 X) (v710 X)) := regStep h33 h29
  have h35 : IsPend (v231 X) 8 25 (k0_pay525 (v231 X) (v691 X) (v693 X) (v695 X) (v697 X) (v703 X) (v705 X) (v707 X) (v709 X) (v710 X)) := pendStep h33 h29
  have h36 : IsPend (v231 X) 8 24 (k0_pay507 (v231 X) (v691 X) (v693 X) (v695 X) (v697 X) (v703 X) (v705 X) (v707 X) (v709 X) (v710 X)) := pendStep h32 h30
  have h37 : IsPend (v231 X) 8 23 (k0_pay489 (v691 X) (v693 X) (v695 X) (v697 X) (v710 X)) := pendStep (v697_is X) h31
  have h38 : IsReg (v231 X) 8 24 (k0_pay490 (v691 X) (v693 X) (v695 X) (v697 X) (v699 X) (v710 X)) := regStep (v699_is X) h37
  have h39 : IsReg (v231 X) 8 25 (k0_pay508 (v231 X) (v691 X) (v693 X) (v695 X) (v697 X) (v699 X) (v703 X) (v705 X) (v707 X) (v709 X) (v710 X)) := regStep h38 h36
  have h40 : IsReg (v231 X) 8 26 (k0_pay526 (v231 X) (v691 X) (v693 X) (v695 X) (v697 X) (v699 X) (v703 X) (v705 X) (v707 X) (v709 X) (v710 X)) := regStep h39 h35
  have h41 : IsPend (v231 X) 9 25 (minimumf (k0_pay508 (v231 X) (v691 X) (v693 X) (v695 X) (v697 X) (v699 X) (v703 X) (v705 X) (v707 X) (v709 X) (v710 X)) (k0_pay525 (v231 X) (v691 X) (v693 X) (v695 X) (v697 X) (v703 X) (v705 X) (v707 X) (v709 X) (v710 X))) := pendStep h39 h35
  have h42 : IsPend (v231 X) 9 24 (minimumf (k0_pay490 (v691 X) (v693 X) (v695 X) (v697 X) (v699 X) (v710 X)) (k0_pay507 (v231 X) (v691 X) (v693 X) (v695 X) (v697 X) (v703 X) (v705 X) (v707 X) (v709 X) (v710 X))) := pendStep h38 h36
  have h43 : IsPend (v231 X) 9 23 (minimumf (v699 X) (k0_pay489 (v691 X) (v693 X) (v695 X) (v697 X) (v710 X))) := pendStep (v699_is X) h37
  have h44 : IsReg (v231 X) 9 24 (maximumf (v701 X) (minimumf (v699 X) (k0_pay489 (v691 X) (v693 X) (v695 X) (v697 X) (v710 X)))) := regStep (v701_is X) h43
  have h45 : IsReg (v231 X) 9 25 (maximumf (maximumf (v701 X) (minimumf (v699 X) (k0_pay489 (v691 X) (v693 X) (v695 X) (v697 X) (v710 X)))) (minimumf (k0_pay490 (v691 X) (v693 X) (v695 X) (v697 X) (v699 X) (v710 X)) (k0_pay507 (v231 X) (v691 X) (v693 X) (v695 X) (v697 X) (v703 X) (v705 X) (v707 X) (v709 X) (v710 X)))) := regStep h44 h42
  have h46 : IsReg (v231 X) 9 26 (k0_pay527 (v231 X) (v691 X) (v693 X) (v695 X) (v697 X) (v699 X) (v701 X) (v703 X) (v705 X) (v707 X) (v709 X) (v710 X)) := regStep h45 h41
  have h47 : IsPend (v231 X) 0 26 (k0_pay528 (v231 X)) := pendInit (v231 X) 26 (by decide) (by decide)
  have h48 : IsReg (v231 X) 0 26 (k0_pay510 (v231 X) (v703 X)) := regStep h2 h0
  have h49 : IsReg (v231 X) 0 27 (k0_pay529 (v231 X) (v703 X)) := regStep h48 h47
  have h50 : IsPend (v231 X) 1 26 (k0_pay530 (v231 X) (v703 X)) := pendStep h48 h47
  have h51 : IsReg (v231 X) 1 26 (k0_pay512 (v231 X) (v703 X) (v705 X)) := regStep h5 h3
  have h52 : IsReg (v231 X) 1 27 (k0_pay531 (v231 X) (v703 X) (v705 X)) := regStep h51 h50
  have h53 : IsPend (v231 X) 2 26 (k0_pay532 (v231 X) (v703 X) (v705 X)) := pendStep h51 h50
  have h54 : IsReg (v231 X) 2 26 (k0_pay514 (v231 X) (v703 X) (v705 X) (v707 X)) := regStep h8 h6
  have h55 : IsReg (v231 X) 2 27 (k0_pay533 (v231 X) (v703 X) (v705 X) (v707 X)) := regStep h54 h53
  have h56 : IsPend (v231 X) 3 26 (k0_pay534 (v231 X) (v703 X) (v705 X) (v707 X)) := pendStep h54 h53
  have h57 : IsReg (v231 X) 3 26 (k0_pay516 (v231 X) (v703 X) (v705 X) (v707 X) (v709 X)) := regStep h11 h9
  have h58 : IsReg (v231 X) 3 27 (k0_pay535 (v231 X) (v703 X) (v705 X) (v707 X) (v709 X)) := regStep h57 h56
  have h59 : IsPend (v231 X) 4 26 (k0_pay536 (v231 X) (v703 X) (v705 X) (v707 X) (v709 X)) := pendStep h57 h56
  exact ⟨h16, h22, h28, h34, h40, h46, h49, h52, h55, h58, h59⟩

theorem v751_is (X : Ins Ideal) : IsReg (v231 X) 4 26 (v751 X) := (part14_is X).1

theorem v753_is (X : Ins Ideal) : IsReg (v231 X) 5 26 (v753 X) := (part14_is X).2.1

theorem v755_is (X : Ins Ideal) : IsReg (v231 X) 6 26 (v755 X) := (part14_is X).2.2.1

theorem v757_is (X : Ins Ideal) : IsReg (v231 X) 7 26 (v757 X) := (part14_is X).2.2.2.1

theorem v759_is (X : Ins Ideal) : IsReg (v231 X) 8 26 (v759 X) := (part14_is X).2.2.2.2.1

theorem v761_is (X : Ins Ideal) : IsReg (v231 X) 9 26 (v761 X) := (part14_is X).2.2.2.2.2.1

theorem v763_is (X : Ins Ideal) : IsReg (v231 X) 0 27 (v763 X) := (part14_is X).2.2.2.2.2.2.1

theorem v765_is (X : Ins Ideal) : IsReg (v231 X) 1 27 (v765 X) := (part14_is X).2.2.2.2.2.2.2.1

theorem v767_is (X : Ins Ideal) : IsReg (v231 X) 2 27 (v767 X) := (part14_is X).2.2.2.2.2.2.2.2.1

theorem v769_is (X : Ins Ideal) : IsReg (v231 X) 3 27 (v769 X) := (part14_is X).2.2.2.2.2.2.2.2.2.1

theorem v770_is (X : Ins Ideal) : IsPend (v231 X) 4 26 (v770 X) := (part14_is X).2.2.2.2.2.2.2.2.2.2

theorem part15_is (X : Ins Ideal) : IsReg (v231 X) 4 29 (v811 X) ∧ IsReg (v231 X) 5 29 (v813 X) ∧ IsReg (v231 X) 6 29 (v815 X) ∧ IsReg (v231 X) 7 29 (v817 X) ∧ IsReg (v231 X) 8 29 (v819 X) ∧ IsReg (v231 X) 9 29 (v821 X) ∧ IsReg (v231 X) 0 30 (v823 X) ∧ IsReg (v231 X) 1 30 (v825 X) ∧ IsReg (v231 X) 2 30 (v827 X) ∧ IsReg (v231 X) 3 30 (v829 X) ∧ IsPend (v231 X) 4 29 (v830 X) := by
  have h0 : IsPend (v231 X) 0 28 (k0_pay564 (v231 X)) := pendInit (v231 X) 28 (by decide) (by decide)
  have h1 : IsPend (v231 X) 0 27 (k0_pay546 (v231 X)) := pendInit (v231 X) 27 (by decide) (by decide)
  have h2 : IsReg (v231 X) 0 28 (k0_pay547 (v231 X) (v763 X)) := regStep (v763_is X) h1
  have h3 : IsPend (v231 X) 1 28 (k0_pay566 (v231 X) (v763 X)) := pendStep h2 h0
  have h4 : IsPend (v231 X) 1 27 (k0_pay548 (v231 X) (v763 X)) := pendStep (v763_is X) h1
  have h5 : IsReg (v231 X) 1 28 (k0_pay549 (v231 X) (v763 X) (v765 X)) := regStep (v765_is X) h4
  have h6 : IsPend (v231 X) 2 28 (k0_pay568 (v231 X) (v763 X) (v765 X)) := pendStep h5 h3
  have h7 : IsPend (v231 X) 2 27 (k0_pay550 (v231 X) (v763 X) (v765 X)) := pendStep (v765_is X) h4
  have h8 : IsReg (v231 X) 2 28 (k0_pay551 (v231 X) (v763 X) (v765 X) (v767 X)) := regStep (v767_is X) h7
  have h9 : IsPend (v231 X) 3 28 (k0_pay570 (v231 X) (v763 X) (v765 X) (v767 X)) := pendStep h8 h6
  have h10 : IsPend (v231 X) 3 27 (k0_pay552 (v231 X) (v763 X) (v765 X) (v767 X)) := pendStep (v767_is X) h7
  have h11 : IsReg (v231 X) 3 28 (k0_pay553 (v231 X) (v763 X) (v765 X) (v767 X) (v769 X)) := regStep (v769_is X) h10
  have h12 : IsPend (v231 X) 4 28 (k0_pay572 (v231 X) (v763 X) (v765 X) (v767 X) (v769 X)) := pendStep h11 h9
  have h13 : IsPend (v231 X) 4 27 (k0_pay554 (v231 X) (v763 X) (v765 X) (v767 X) (v769 X)) := pendStep (v769_is X) h10
  have h14 : IsReg (v231 X) 4 27 (k0_pay537 (v751 X) (v770 X)) := regStep (v751_is X) (v770_is X)
  have h15 : IsReg (v231 X) 4 28 (k0_pay555 (v231 X) (v751 X) (v763 X) (v765 X) (v767 X) (v769 X) (v770 X)) := regStep h14 h13
  have h16 : IsReg (v231 X) 4 29 (k0_pay573 (v231 X) (v751 X) (v763 X) (v765 X) (v767 X) (v769 X) (v770 X)) := regStep h15 h12
  have h17 : IsPend (v231 X) 5 28 (k0_pay574 (v231 X) (v751 X) (v763 X) (v765 X) (v767 X) (v769 X) (v770 X)) := pendStep h15 h12
  have h18 : IsPend (v231 X) 5 27 (k0_pay556 (v231 X) (v751 X) (v763 X) (v765 X) (v767 X) (v769 X) (v770 X)) := pendStep h14 h13
  have h19 : IsPend (v231 X) 5 26 (k0_pay538 (v751 X) (v770 X)) := pendStep (v751_is X) (v770_is X)
  have h20 : IsReg (v231 X) 5 27 (k0_pay539 (v751 X) (v753 X) (v770 X)) := regStep (v753_is X) h19
  have h21 : IsReg (v231 X) 5 28 (k0_pay557 (v231 X) (v751 X) (v753 X) (v763 X) (v765 X) (v767 X) (v769 X) (v770 X)) := regStep h20 h18
  have h22 : IsReg (v231 X) 5 29 (k0_pay575 (v231 X) (v751 X) (v753 X) (v763 X) (v765 X) (v767 X) (v769 X) (v770 X)) := regStep h21 h17
  have h23 : IsPend (v231 X) 6 28 (k0_pay576 (v231 X) (v751 X) (v753 X) (v763 X) (v765 X) (v767 X) (v769 X) (v770 X)) := pendStep h21 h17
  have h24 : IsPend (v231 X) 6 27 (k0_pay558 (v231 X) (v751 X) (v753 X) (v763 X) (v765 X) (v767 X) (v769 X) (v770 X)) := pendStep h20 h18
  have h25 : IsPend (v231 X) 6 26 (k0_pay540 (v751 X) (v753 X) (v770 X)) := pendStep (v753_is X) h19
  have h26 : IsReg (v231 X) 6 27 (k0_pay541 (v751 X) (v753 X) (v755 X) (v770 X)) := regStep (v755_is X) h25
  have h27 : IsReg (v231 X) 6 28 (k0_pay559 (v231 X) (v751 X) (v753 X) (v755 X) (v763 X) (v765 X) (v767 X) (v769 X) (v770 X)) := regStep h26 h24
  have h28 : IsReg (v231 X) 6 29 (k0_pay577 (v231 X) (v751 X) (v753 X) (v755 X) (v763 X) (v765 X) (v767 X) (v769 X) (v770 X)) := regStep h27 h23
  have h29 : IsPend (v231 X) 7 28 (k0_pay578 (v231 X) (v751 X) (v753 X) (v755 X) (v763 X) (v765 X) (v767 X) (v769 X) (v770 X)) := pendStep h27 h23
  have h30 : IsPend (v231 X) 7 27 (k0_pay560 (v231 X) (v751 X) (v753 X) (v755 X) (v763 X) (v765 X) (v767 X) (v769 X) (v770 X)) := pendStep h26 h24
  have h31 : IsPend (v231 X) 7 26 (k0_pay542 (v751 X) (v753 X) (v755 X) (v770 X)) := pendStep (v755_is X) h25
  have h32 : IsReg (v231 X) 7 27 (k0_pay543 (v751 X) (v753 X) (v755 X) (v757 X) (v770 X)) := regStep (v757_is X) h31
  have h33 : IsReg (v231 X) 7 28 (k0_pay561 (v231 X) (v751 X) (v753 X) (v755 X) (v757 X) (v763 X) (v765 X) (v767 X) (v769 X) (v770 X)) := regStep h32 h30
  have h34 : IsReg (v231 X) 7 29 (k0_pay579 (v231 X) (v751 X) (v753 X) (v755 X) (v757 X) (v763 X) (v765 X) (v767 X) (v769 X) (v770 X)) := regStep h33 h29
  have h35 : IsPend (v231 X) 8 28 (k0_pay580 (v231 X) (v751 X) (v753 X) (v755 X) (v757 X) (v763 X) (v765 X) (v767 X) (v769 X) (v770 X)) := pendStep h33 h29
  have h36 : IsPend (v231 X) 8 27 (k0_pay562 (v231 X) (v751 X) (v753 X) (v755 X) (v757 X) (v763 X) (v765 X) (v767 X) (v769 X) (v770 X)) := pendStep h32 h30
  have h37 : IsPend (v231 X) 8 26 (k0_pay544 (v751 X) (v753 X) (v755 X) (v757 X) (v770 X)) := pendStep (v757_is X) h31
  have h38 : IsReg (v231 X) 8 27 (k0_pay545 (v751 X) (v753 X) (v755 X) (v757 X) (v759 X) (v770 X)) := regStep (v759_is X) h37
  have h39 : IsReg (v231 X) 8 28 (k0_pay563 (v231 X) (v751 X) (v753 X) (v755 X) (v757 X) (v759 X) (v763 X) (v765 X) (v767 X) (v769 X) (v770 X)) := regStep h38 h36
  have h40 : IsReg (v231 X) 8 29 (k0_pay581 (v231 X) (v751 X) (v753 X) (v755 X) (v757 X) (v759 X) (v763 X) (v765 X) (v767 X) (v769 X) (v770 X)) := regStep h39 h35
  have h41 : IsPend (v231 X) 9 28 (minimumf (k0_pay563 (v231 X) (v751 X) (v753 X) (v755 X) (v757 X) (v759 X) (v763 X) (v765 X) (v767 X) (v769 X) (v770 X)) (k0_pay580 (v231 X) (v751 X) (v753 X) (v755 X) (v757 X) (v763 X) (v765 X) (v767 X) (v769 X) (v770 X))) := pendStep h39 h35
  have h42 : IsPend (v231 X) 9 27 (minimumf (k0_pay545 (v751 X) (v753 X) (v755 X) (v757 X) (v759 X) (v770 X)) (k0_pay562 (v231 X) (v751 X) (v753 X) (v755 X) (v757 X) (v763 X) (v765 X) (v767 X) (v769 X) (v770 X))) := pendStep h38 h36
  have h43 : IsPend (v231 X) 9 26 (minimumf (v759 X) (k0_pay544 (v751 X) (v753 X) (v755 X) (v757 X) (v770 X))) := pendStep (v759_is X) h37
  have h44 : IsReg (v231 X) 9 27 (maximumf (v761 X) (minimumf (v759 X) (k0_pay544 (v751 X) (v753 X) (v755 X) (v757 X) (v770 X)))) := regStep (v761_is X) h43
  have h45 : IsReg (v231 X) 9 28 (maximumf (maximumf (v761 X) (minimumf (v759 X) (k0_pay544 (v751 X) (v753 X) (v755 X) (v757 X) (v770 X)))) (minimumf (k0_pay545 (v751 X) (v753 X) (v755 X) (v757 X) (v759 X) (v770 X)) (k0_pay562 (v231 X) (v751 X) (v753 X) (v755 X) (v757 X) (v763 X) (v765 X) (v767 X) (v769 X) (v770 X)))) := regStep h44 h42
  have h46 : IsReg (v231 X) 9 29 (k0_pay582 (v231 X) (v751 X) (v753 X) (v755 X) (v757 X) (v759 X) (v761 X) (v763 X) (v765 X) (v767 X) (v769 X) (v770 X)) := regStep h45 h41
  have h47 : IsPend (v231 X) 0 29 (k0_pay583 (v231 X)) := pendInit (v231 X) 29 (by decide) (by decide)
  have h48 : IsReg (v231 X) 0 29 (k0_pay565 (v231 X) (v763 X)) := regStep h2 h0
  have h49 : IsReg (v231 X) 0 30 (k0_pay584 (v231 X) (v763 X)) := regStep h48 h47
  have h50 : IsPend (v231 X) 1 29 (k0_pay585 (v231 X) (v763 X)) := pendStep h48 h47
  have h51 : IsReg (v231 X) 1 29 (k0_pay567 (v231 X) (v763 X) (v765 X)) := regStep h5 h3
  have h52 : IsReg (v231 X) 1 30 (k0_pay586 (v231 X) (v763 X) (v765 X)) := regStep h51 h50
  have h53 : IsPend (v231 X) 2 29 (k0_pay587 (v231 X) (v763 X) (v765 X)) := pendStep h51 h50
  have h54 : IsReg (v231 X) 2 29 (k0_pay569 (v231 X) (v763 X) (v765 X) (v767 X)) := regStep h8 h6
  have h55 : IsReg (v231 X) 2 30 (k0_pay588 (v231 X) (v763 X) (v765 X) (v767 X)) := regStep h54 h53
  have h56 : IsPend (v231 X) 3 29 (k0_pay589 (v231 X) (v763 X) (v765 X) (v767 X)) := pendStep h54 h53
  have h57 : IsReg (v231 X) 3 29 (k0_pay571 (v231 X) (v763 X) (v765 X) (v767 X) (v769 X)) := regStep h11 h9
  have h58 : IsReg (v231 X) 3 30 (k0_pay590 (v231 X) (v763 X) (v765 X) (v767 X) (v769 X)) := regStep h57 h56
  have h59 : IsPend (v231 X) 4 29 (k0_pay591 (v231 X) (v763 X) (v765 X) (v767 X) (v769 X)) := pendStep h57 h56
  exact ⟨h16, h22, h28, h34, h40, h46, h49, h52, h55, h58, h59⟩

theorem v811_is (X : Ins Ideal) : IsReg (v231 X) 4 29 (v811 X) := (part15_is X).1

theorem v813_is (X : Ins Ideal) : IsReg (v231 X) 5 29 (v813 X) := (part15_is X).2.1

theorem v815_is (X : Ins Ideal) : IsReg (v231 X) 6 29 (v815 X) := (part15_is X).2.2.1

theorem v817_is (X : Ins Ideal) : IsReg (v231 X) 7 29 (v817 X) := (part15_is X).2.2.2.1

theorem v819_is (X : Ins Ideal) : IsReg (v231 X) 8 29 (v819 X) := (part15_is X).2.2.2.2.1

theorem v821_is (X : Ins Ideal) : IsReg (v231 X) 9 29 (v821 X) := (part15_is X).2.2.2.2.2.1

theorem v823_is (X : Ins Ideal) : IsReg (v231 X) 0 30 (v823 X) := (part15_is X).2.2.2.2.2.2.1

theorem v825_is (X : Ins Ideal) : IsReg (v231 X) 1 30 (v825 X) := (part15_is X).2.2.2.2.2.2.2.1

theorem v827_is (X : Ins Ideal) : IsReg (v231 X) 2 30 (v827 X) := (part15_is X).2.2.2.2.2.2.2.2.1

theorem v829_is (X : Ins Ideal) : IsReg (v231 X) 3 30 (v829 X) := (part15_is X).2.2.2.2.2.2.2.2.2.1

theorem v830_is (X : Ins Ideal) : IsPend (v231 X) 4 29 (v830 X) := (part15_is X).2.2.2.2.2.2.2.2.2.2

theorem part16_is (X : Ins Ideal) : IsReg (v231 X) 4 32 (v871 X) ∧ IsReg (v231 X) 5 32 (v873 X) ∧ IsReg (v231 X) 6 32 (v875 X) ∧ IsReg (v231 X) 7 32 (v877 X) ∧ IsReg (v231 X) 8 32 (v879 X) ∧ IsReg (v231 X) 9 32 (v881 X) ∧ IsReg (v231 X) 0 33 (v883 X) ∧ IsReg (v231 X) 1 33 (v885 X) ∧ IsReg (v231 X) 2 33 (v887 X) ∧ IsReg (v231 X) 3 33 (v889 X) ∧ IsPend (v231 X) 4 32 (v890 X) := by
  have h0 : IsPend (v231 X) 0 31 (k0_pay619 (v231 X)) := pendInit (v231 X) 31 (by decide) (by decide)
  have h1 : IsPend (v231 X) 0 30 (k0_pay601 (v231 X)) := pendInit (v231 X) 30 (by decide) (by decide)
  have h2 : IsReg (v231 X) 0 31 (k0_pay602 (v231 X) (v823 X)) := regStep (v823_is X) h1
  have h3 : IsPend (v231 X) 1 31 (k0_pay621 (v231 X) (v823 X)) := pendStep h2 h0
  have h4 : IsPend (v231 X) 1 30 (k0_pay603 (v231 X) (v823 X)) := pendStep (v823_is X) h1
  have h5 : IsReg (v231 X) 1 31 (k0_pay604 (v231 X) (v823 X) (v825 X)) := regStep (v825_is X) h4
  have h6 : IsPend (v231 X) 2 31 (k0_pay623 (v231 X) (v823 X) (v825 X)) := pendStep h5 h3
  have h7 : IsPend (v231 X) 2 30 (k0_pay605 (v231 X) (v823 X) (v825 X)) := pendStep (v825_is X) h4
  have h8 : IsReg (v231 X) 2 31 (k0_pay606 (v231 X) (v823 X) (v825 X) (v827 X)) := regStep (v827_is X) h7
  have h9 : IsPend (v231 X) 3 31 (k0_pay625 (v231 X) (v823 X) (v825 X) (v827 X)) := pendStep h8 h6
  have h10 : IsPend (v231 X) 3 30 (k0_pay607 (v231 X) (v823 X) (v825 X) (v827 X)) := pendStep (v827_is X) h7
  have h11 : IsReg (v231 X) 3 31 (k0_pay608 (v231 X) (v823 X) (v825 X) (v827 X) (v829 X)) := regStep (v829_is X) h10
  have h12 : IsPend (v231 X) 4 31 (k0_pay627 (v231 X) (v823 X) (v825 X) (v827 X) (v829 X)) := pendStep h11 h9
  have h13 : IsPend (v231 X) 4 30 (k0_pay609 (v231 X) (v823 X) (v825 X) (v827 X) (v829 X)) := pendStep (v829_is X) h10
  have h14 : IsReg (v231 X) 4 30 (k0_pay592 (v811 X) (v830 X)) := regStep (v811_is X) (v830_is X)
  have h15 : IsReg (v231 X) 4 31 (k0_pay610 (v231 X) (v811 X) (v823 X) (v825 X) (v827 X) (v829 X) (v830 X)) := regStep h14 h13
  have h16 : IsReg (v231 X) 4 32 (k0_pay628 (v231 X) (v811 X) (v823 X) (v825 X) (v827 X) (v829 X) (v830 X)) := regStep h15 h12
  have h17 : IsPend (v231 X) 5 31 (k0_pay629 (v231 X) (v811 X) (v823 X) (v825 X) (v827 X) (v829 X) (v830 X)) := pendStep h15 h12
  have h18 : IsPend (v231 X) 5 30 (k0_pay611 (v231 X) (v811 X) (v823 X) (v825 X) (v827 X) (v829 X) (v830 X)) := pendStep h14 h13
  have h19 : IsPend (v231 X) 5 29 (k0_pay593 (v811 X) (v830 X)) := pendStep (v811_is X) (v830_is X)
  have h20 : IsReg (v231 X) 5 30 (k0_pay594 (v811 X) (v813 X) (v830 X)) := regStep (v813_is X) h19
  have h21 : IsReg (v231 X) 5 31 (k0_pay612 (v231 X) (v811 X) (v813 X) (v823 X) (v825 X) (v827 X) (v829 X) (v830 X)) := regStep h20 h18
  have h22 : IsReg (v231 X) 5 32 (k0_pay630 (v231 X) (v811 X) (v813 X) (v823 X) (v825 X) (v827 X) (v829 X) (v830 X)) := regStep h21 h17
  have h23 : IsPend (v231 X) 6 31 (k0_pay631 (v231 X) (v811 X) (v813 X) (v823 X) (v825 X) (v827 X) (v829 X) (v830 X)) := pendStep h21 h17
  have h24 : IsPend (v231 X) 6 30 (k0_pay613 (v231 X) (v811 X) (v813 X) (v823 X) (v825 X) (v827 X) (v829 X) (v830 X)) := pendStep h20 h18
  have h25 : IsPend (v231 X) 6 29 (k0_pay595 (v811 X) (v813 X) (v830 X)) := pendStep (v813_is X) h19
  have h26 : IsReg (v231 X) 6 30 (k0_pay596 (v811 X) (v813 X) (v815 X) (v830 X)) := regStep (v815_is X) h25
  have h27 : IsReg (v231 X) 6 31 (k0_pay614 (v231 X) (v811 X) (v813 X) (v815 X) (v823 X) (v825 X) (v827 X) (v829 X) (v830 X)) := regStep h26 h24
  have h28 : IsReg (v231 X) 6 32 (k0_pay632 (v231 X) (v811 X) (v813 X) (v815 X) (v823 X) (v825 X) (v827 X) (v829 X) (v830 X)) := regStep h27 h23
  have h29 : IsPend (v231 X) 7 31 (k0_pay633 (v231 X) (v811 X) (v813 X) (v815 X) (v823 X) (v825 X) (v827 X) (v829 X) (v830 X)) := pendStep h27 h23
  have h30 : IsPend (v231 X) 7 30 (k0_pay615 (v231 X) (v811 X) (v813 X) (v815 X) (v823 X) (v825 X) (v827 X) (v829 X) (v830 X)) := pendStep h26 h24
  have h31 : IsPend (v231 X) 7 29 (k0_pay597 (v811 X) (v813 X) (v815 X) (v830 X)) := pendStep (v815_is X) h25
  have h32 : IsReg (v231 X) 7 30 (k0_pay598 (v811 X) (v813 X) (v815 X) (v817 X) (v830 X)) := regStep (v817_is X) h31
  have h33 : IsReg (v231 X) 7 31 (k0_pay616 (v231 X) (v811 X) (v813 X) (v815 X) (v817 X) (v823 X) (v825 X) (v827 X) (v829 X) (v830 X)) := regStep h32 h30
  have h34 : IsReg (v231 X) 7 32 (k0_pay634 (v231 X) (v811 X) (v813 X) (v815 X) (v817 X) (v823 X) (v825 X) (v827 X) (v829 X) (v830 X)) := regStep h33 h29
  have h35 : IsPend (v231 X) 8 31 (k0_pay635 (v231 X) (v811 X) (v813 X) (v815 X) (v817 X) (v823 X) (v825 X) (v827 X) (v829 X) (v830 X)) := pendStep h33 h29
  have h36 : IsPend (v231 X) 8 30 (k0_pay617 (v231 X) (v811 X) (v813 X) (v815 X) (v817 X) (v823 X) (v825 X) (v827 X) (v829 X) (v830 X)) := pendStep h32 h30
  have h37 : IsPend (v231 X) 8 29 (k0_pay599 (v811 X) (v813 X) (v815 X) (v817 X) (v830 X)) := pendStep (v817_is X) h31
  have h38 : IsReg (v231 X) 8 30 (k0_pay600 (v811 X) (v813 X) (v815 X) (v817 X) (v819 X) (v830 X)) := regStep (v819_is X) h37
  have h39 : IsReg (v231 X) 8 31 (k0_pay618 (v231 X) (v811 X) (v813 X) (v815 X) (v817 X) (v819 X) (v823 X) (v825 X) (v827 X) (v829 X) (v830 X)) := regStep h38 h36
  have h40 : IsReg (v231 X) 8 32 (k0_pay636 (v231 X) (v811 X) (v813 X) (v815 X) (v817 X) (v819 X) (v823 X) (v825 X) (v827 X) (v829 X) (v830 X)) := regStep h39 h35
  have h41 : IsPend (v231 X) 9 31 (minimumf (k0_pay618 (v231 X) (v811 X) (v813 X) (v815 X) (v817 X) (v819 X) (v823 X) (v825 X) (v827 X) (v829 X) (v830 X)) (k0_pay635 (v231 X) (v811 X) (v813 X) (v815 X) (v817 X) (v823 X) (v825 X) (v827 X) (v829 X) (v830 X))) := pendStep h39 h35
  have h42 : IsPend (v231 X) 9 30 (minimumf (k0_pay600 (v811 X) (v813 X) (v815 X) (v817 X) (v819 X) (v830 X)) (k0_pay617 (v231 X) (v811 X) (v813 X) (v815 X) (v817 X) (v823 X) (v825 X) (v827 X) (v829 X) (v830 X))) := pendStep h38 h36
  have h43 : IsPend (v231 X) 9 29 (minimumf (v819 X) (k0_pay599 (v811 X) (v813 X) (v815 X) (v817 X) (v830 X))) := pendStep (v819_is X) h37
  have h44 : IsReg (v231 X) 9 30 (maximumf (v821 X) (minimumf (v819 X) (k0_pay599 (v811 X) (v813 X) (v815 X) (v817 X) (v830 X)))) := regStep (v821_is X) h43
  have h45 : IsReg (v231 X) 9 31 (maximumf (maximumf (v821 X) (minimumf (v819 X) (k0_pay599 (v811 X) (v813 X) (v815 X) (v817 X) (v830 X)))) (minimumf (k0_pay600 (v811 X) (v813 X) (v815 X) (v817 X) (v819 X) (v830 X)) (k0_pay617 (v231 X) (v811 X) (v813 X) (v815 X) (v817 X) (v823 X) (v825 X) (v827 X) (v829 X) (v830 X)))) := regStep h44 h42
  have h46 : IsReg (v231 X) 9 32 (k0_pay637 (v231 X) (v811 X) (v813 X) (v815 X) (v817 X) (v819 X) (v821 X) (v823 X) (v825 X) (v827 X) (v829 X) (v830 X)) := regStep h45 h41
  have h47 : IsPend (v231 X) 0 32 (k0_pay638 (v231 X)) := pendInit (v231 X) 32 (by decide) (by decide)
  have h48 : IsReg (v231 X) 0 32 (k0_pay620 (v231 X) (v823 X)) := regStep h2 h0
  have h49 : IsReg (v231 X) 0 33 (k0_pay639 (v231 X) (v823 X)) := regStep h48 h47
  have h50 : IsPend (v231 X) 1 32 (k0_pay640 (v231 X) (v823 X)) := pendStep h48 h47
  have h51 : IsReg (v231 X) 1 32 (k0_pay622 (v231 X) (v823 X) (v825 X)) := regStep h5 h3
  have h52 : IsReg (v231 X) 1 33 (k0_pay641 (v231 X) (v823 X) (v825 X)) := regStep h51 h50
  have h53 : IsPend (v231 X) 2 32 (k0_pay642 (v231 X) (v823 X) (v825 X)) := pendStep h51 h50
  have h54 : IsReg (v231 X) 2 32 (k0_pay624 (v231 X) (v823 X) (v825 X) (v827 X)) := regStep h8 h6
  have h55 : IsReg (v231 X) 2 33 (k0_pay643 (v231 X) (v823 X) (v825 X) (v827 X)) := regStep h54 h53
  have h56 : IsPend (v231 X) 3 32 (k0_pay644 (v231 X) (v823 X) (v825 X) (v827 X)) := pendStep h54 h53
  have h57 : IsReg (v231 X) 3 32 (k0_pay626 (v231 X) (v823 X) (v825 X) (v827 X) (v829 X)) := regStep h11 h9
  have h58 : IsReg (v231 X) 3 33 (k0_pay645 (v231 X) (v823 X) (v825 X) (v827 X) (v829 X)) := regStep h57 h56
  have h59 : IsPend (v231 X) 4 32 (k0_pay646 (v231 X) (v823 X) (v825 X) (v827 X) (v829 X)) := pendStep h57 h56
  exact ⟨h16, h22, h28, h34, h40, h46, h49, h52, h55, h58, h59⟩

theorem v871_is (X : Ins Ideal) : IsReg (v231 X) 4 32 (v871 X) := (part16_is X).1

theorem v873_is (X : Ins Ideal) : IsReg (v231 X) 5 32 (v873 X) := (part16_is X).2.1

theorem v875_is (X : Ins Ideal) : IsReg (v231 X) 6 32 (v875 X) := (part16_is X).2.2.1

theorem v877_is (X : Ins Ideal) : IsReg (v231 X) 7 32 (v877 X) := (part16_is X).2.2.2.1

theorem v879_is (X : Ins Ideal) : IsReg (v231 X) 8 32 (v879 X) := (part16_is X).2.2.2.2.1

theorem v881_is (X : Ins Ideal) : IsReg (v231 X) 9 32 (v881 X) := (part16_is X).2.2.2.2.2.1

theorem v883_is (X : Ins Ideal) : IsReg (v231 X) 0 33 (v883 X) := (part16_is X).2.2.2.2.2.2.1

theorem v885_is (X : Ins Ideal) : IsReg (v231 X) 1 33 (v885 X) := (part16_is X).2.2.2.2.2.2.2.1

theorem v887_is (X : Ins Ideal) : IsReg (v231 X) 2 33 (v887 X) := (part16_is X).2.2.2.2.2.2.2.2.1

theorem v889_is (X : Ins Ideal) : IsReg (v231 X) 3 33 (v889 X) := (part16_is X).2.2.2.2.2.2.2.2.2.1

theorem v890_is (X : Ins Ideal) : IsPend (v231 X) 4 32 (v890 X) := (part16_is X).2.2.2.2.2.2.2.2.2.2

end Cert.KernelIdeal.Vals
-- ==== Proof.KIns2.lean ====
/-
  The insertion network, value by value: which register after how many chunks, or which chunk on its way past which register (the second half).
-/
module

public import proofs.«01_k».proof.Proof.KIns1

@[expose] public section

noncomputable section

namespace Cert.KernelIdeal.Vals

open Idealize.ShloMosaic Idealize.ShloMosaic.TcCoe Idealize.SL.Sem Cert.KernelIdeal Cert.KernelIdeal.Gen Cert.Count

theorem part17_is (X : Ins Ideal) : IsReg (v231 X) 4 35 (v931 X) ∧ IsReg (v231 X) 5 35 (v933 X) ∧ IsReg (v231 X) 6 35 (v935 X) ∧ IsReg (v231 X) 7 35 (v937 X) ∧ IsReg (v231 X) 8 35 (v939 X) ∧ IsReg (v231 X) 9 35 (v941 X) ∧ IsReg (v231 X) 0 36 (v943 X) ∧ IsReg (v231 X) 1 36 (v945 X) ∧ IsReg (v231 X) 2 36 (v947 X) ∧ IsReg (v231 X) 3 36 (v949 X) ∧ IsPend (v231 X) 4 35 (v950 X) := by
  have h0 : IsPend (v231 X) 0 34 (k0_pay674 (v231 X)) := pendInit (v231 X) 34 (by decide) (by decide)
  have h1 : IsPend (v231 X) 0 33 (k0_pay656 (v231 X)) := pendInit (v231 X) 33 (by decide) (by decide)
  have h2 : IsReg (v231 X) 0 34 (k0_pay657 (v231 X) (v883 X)) := regStep (v883_is X) h1
  have h3 : IsPend (v231 X) 1 34 (k0_pay676 (v231 X) (v883 X)) := pendStep h2 h0
  have h4 : IsPend (v231 X) 1 33 (k0_pay658 (v231 X) (v883 X)) := pendStep (v883_is X) h1
  have h5 : IsReg (v231 X) 1 34 (k0_pay659 (v231 X) (v883 X) (v885 X)) := regStep (v885_is X) h4
  have h6 : IsPend (v231 X) 2 34 (k0_pay678 (v231 X) (v883 X) (v885 X)) := pendStep h5 h3
  have h7 : IsPend (v231 X) 2 33 (k0_pay660 (v231 X) (v883 X) (v885 X)) := pendStep (v885_is X) h4
  have h8 : IsReg (v231 X) 2 34 (k0_pay661 (v231 X) (v883 X) (v885 X) (v887 X)) := regStep (v887_is X) h7
  have h9 : IsPend (v231 X) 3 34 (k0_pay680 (v231 X) (v883 X) (v885 X) (v887 X)) := pendStep h8 h6
  have h10 : IsPend (v231 X) 3 33 (k0_pay662 (v231 X) (v883 X) (v885 X) (v887 X)) := pendStep (v887_is X) h7
  have h11 : IsReg (v231 X) 3 34 (k0_pay663 (v231 X) (v883 X) (v885 X) (v887 X) (v889 X)) := regStep (v889_is X) h10
  have h12 : IsPend (v231 X) 4 34 (k0_pay682 (v231 X) (v883 X) (v885 X) (v887 X) (v889 X)) := pendStep h11 h9
  have h13 : IsPend (v231 X) 4 33 (k0_pay664 (v231 X) (v883 X) (v885 X) (v887 X) (v889 X)) := pendStep (v889_is X) h10
  have h14 : IsReg (v231 X) 4 33 (k0_pay647 (v871 X) (v890 X)) := regStep (v871_is X) (v890_is X)
  have h15 : IsReg (v231 X) 4 34 (k0_pay665 (v231 X) (v871 X) (v883 X) (v885 X) (v887 X) (v889 X) (v890 X)) := regStep h14 h13
  have h16 : IsReg (v231 X) 4 35 (k0_pay683 (v231 X) (v871 X) (v883 X) (v885 X) (v887 X) (v889 X) (v890 X)) := regStep h15 h12
  have h17 : IsPend (v231 X) 5 34 (k0_pay684 (v231 X) (v871 X) (v883 X) (v885 X) (v887 X) (v889 X) (v890 X)) := pendStep h15 h12
  have h18 : IsPend (v231 X) 5 33 (k0_pay666 (v231 X) (v871 X) (v883 X) (v885 X) (v887 X) (v889 X) (v890 X)) := pendStep h14 h13
  have h19 : IsPend (v231 X) 5 32 (k0_pay648 (v871 X) (v890 X)) := pendStep (v871_is X) (v890_is X)
  have h20 : IsReg (v231 X) 5 33 (k0_pay649 (v871 X) (v873 X) (v890 X)) := regStep (v873_is X) h19
  have h21 : IsReg (v231 X) 5 34 (k0_pay667 (v231 X) (v871 X) (v873 X) (v883 X) (v885 X) (v887 X) (v889 X) (v890 X)) := regStep h20 h18
  have h22 : IsReg (v231 X) 5 35 (k0_pay685 (v231 X) (v871 X) (v873 X) (v883 X) (v885 X) (v887 X) (v889 X) (v890 X)) := regStep h21 h17
  have h23 : IsPend (v231 X) 6 34 (k0_pay686 (v231 X) (v871 X) (v873 X) (v883 X) (v885 X) (v887 X) (v889 X) (v890 X)) := pendStep h21 h17
  have h24 : IsPend (v231 X) 6 33 (k0_pay668 (v231 X) (v871 X) (v873 X) (v883 X) (v885 X) (v887 X) (v889 X) (v890 X)) := pendStep h20 h18
  have h25 : IsPend (v231 X) 6 32 (k0_pay650 (v871 X) (v873 X) (v890 X)) := pendStep (v873_is X) h19
  have h26 : IsReg (v231 X) 6 33 (k0_pay651 (v871 X) (v873 X) (v875 X) (v890 X)) := regStep (v875_is X) h25
  have h27 : IsReg (v231 X) 6 34 (k0_pay669 (v231 X) (v871 X) (v873 X) (v875 X) (v883 X) (v885 X) (v887 X) (v889 X) (v890 X)) := regStep h26 h24
  have h28 : IsReg (v231 X) 6 35 (k0_pay687 (v231 X) (v871 X) (v873 X) (v875 X) (v883 X) (v885 X) (v887 X) (v889 X) (v890 X)) := regStep h27 h23
  have h29 : IsPend (v231 X) 7 34 (k0_pay688 (v231 X) (v871 X) (v873 X) (v875 X) (v883 X) (v885 X) (v887 X) (v889 X) (v890 X)) := pendStep h27 h23
  have h30 : IsPend (v231 X) 7 33 (k0_pay670 (v231 X) (v871 X) (v873 X) (v875 X) (v883 X) (v885 X) (v887 X) (v889 X) (v890 X)) := pendStep h26 h24
  have h31 : IsPend (v231 X) 7 32 (k0_pay652 (v871 X) (v873 X) (v875 X) (v890 X)) := pendStep (v875_is X) h25
  have h32 : IsReg (v231 X) 7 33 (k0_pay653 (v871 X) (v873 X) (v875 X) (v877 X) (v890 X)) := regStep (v877_is X) h31
  have h33 : IsReg (v231 X) 7 34 (k0_pay671 (v231 X) (v871 X) (v873 X) (v875 X) (v877 X) (v883 X) (v885 X) (v887 X) (v889 X) (v890 X)) := regStep h32 h30
  have h34 : IsReg (v231 X) 7 35 (k0_pay689 (v231 X) (v871 X) (v873 X) (v875 X) (v877 X) (v883 X) (v885 X) (v887 X) (v889 X) (v890 X)) := regStep h33 h29
  have h35 : IsPend (v231 X) 8 34 (k0_pay690 (v231 X) (v871 X) (v873 X) (v875 X) (v877 X) (v883 X) (v885 X) (v887 X) (v889 X) (v890 X)) := pendStep h33 h29
  have h36 : IsPend (v231 X) 8 33 (k0_pay672 (v231 X) (v871 X) (v873 X) (v875 X) (v877 X) (v883 X) (v885 X) (v887 X) (v889 X) (v890 X)) := pendStep h32 h30
  have h37 : IsPend (v231 X) 8 32 (k0_pay654 (v871 X) (v873 X) (v875 X) (v877 X) (v890 X)) := pendStep (v877_is X) h31
  have h38 : IsReg (v231 X) 8 33 (k0_pay655 (v871 X) (v873 X) (v875 X) (v877 X) (v879 X) (v890 X)) := regStep (v879_is X) h37
  have h39 : IsReg (v231 X) 8 34 (k0_pay673 (v231 X) (v871 X) (v873 X) (v875 X) (v877 X) (v879 X) (v883 X) (v885 X) (v887 X) (v889 X) (v890 X)) := regStep h38 h36
  have h40 : IsReg (v231 X) 8 35 (k0_pay691 (v231 X) (v871 X) (v873 X) (v875 X) (v877 X) (v879 X) (v883 X) (v885 X) (v887 X) (v889 X) (v890 X)) := regStep h39 h35
  have h41 : IsPend (v231 X) 9 34 (minimumf (k0_pay673 (v231 X) (v871 X) (v873 X) (v875 X) (v877 X) (v879 X) (v883 X) (v885 X) (v887 X) (v889 X) (v890 X)) (k0_pay690 (v231 X) (v871 X) (v873 X) (v875 X) (v877 X) (v883 X) (v885 X) (v887 X) (v889 X) (v890 X))) := pendStep h39 h35
  have h42 : IsPend (v231 X) 9 33 (minimumf (k0_pay655 (v871 X) (v873 X) (v875 X) (v877 X) (v879 X) (v890 X)) (k0_pay672 (v231 X) (v871 X) (v873 X) (v875 X) (v877 X) (v883 X) (v885 X) (v887 X) (v889 X) (v890 X))) := pendStep h38 h36
  have h43 : IsPend (v231 X) 9 32 (minimumf (v879 X) (k0_pay654 (v871 X) (v873 X) (v875 X) (v877 X) (v890 X))) := pendStep (v879_is X) h37
  have h44 : IsReg (v231 X) 9 33 (maximumf (v881 X) (minimumf (v879 X) (k0_pay654 (v871 X) (v873 X) (v875 X) (v877 X) (v890 X)))) := regStep (v881_is X) h43
  have h45 : IsReg (v231 X) 9 34 (maximumf (maximumf (v881 X) (minimumf (v879 X) (k0_pay654 (v871 X) (v873 X) (v875 X) (v877 X) (v890 X)))) (minimumf (k0_pay655 (v871 X) (v873 X) (v875 X) (v877 X) (v879 X) (v890 X)) (k0_pay672 (v231 X) (v871 X) (v873 X) (v875 X) (v877 X) (v883 X) (v885 X) (v887 X) (v889 X) (v890 X)))) := regStep h44 h42
  have h46 : IsReg (v231 X) 9 35 (k0_pay692 (v231 X) (v871 X) (v873 X) (v875 X) (v877 X) (v879 X) (v881 X) (v883 X) (v885 X) (v887 X) (v889 X) (v890 X)) := regStep h45 h41
  have h47 : IsPend (v231 X) 0 35 (k0_pay693 (v231 X)) := pendInit (v231 X) 35 (by decide) (by decide)
  have h48 : IsReg (v231 X) 0 35 (k0_pay675 (v231 X) (v883 X)) := regStep h2 h0
  have h49 : IsReg (v231 X) 0 36 (k0_pay694 (v231 X) (v883 X)) := regStep h48 h47
  have h50 : IsPend (v231 X) 1 35 (k0_pay695 (v231 X) (v883 X)) := pendStep h48 h47
  have h51 : IsReg (v231 X) 1 35 (k0_pay677 (v231 X) (v883 X) (v885 X)) := regStep h5 h3
  have h52 : IsReg (v231 X) 1 36 (k0_pay696 (v231 X) (v883 X) (v885 X)) := regStep h51 h50
  have h53 : IsPend (v231 X) 2 35 (k0_pay697 (v231 X) (v883 X) (v885 X)) := pendStep h51 h50
  have h54 : IsReg (v231 X) 2 35 (k0_pay679 (v231 X) (v883 X) (v885 X) (v887 X)) := regStep h8 h6
  have h55 : IsReg (v231 X) 2 36 (k0_pay698 (v231 X) (v883 X) (v885 X) (v887 X)) := regStep h54 h53
  have h56 : IsPend (v231 X) 3 35 (k0_pay699 (v231 X) (v883 X) (v885 X) (v887 X)) := pendStep h54 h53
  have h57 : IsReg (v231 X) 3 35 (k0_pay681 (v231 X) (v883 X) (v885 X) (v887 X) (v889 X)) := regStep h11 h9
  have h58 : IsReg (v231 X) 3 36 (k0_pay700 (v231 X) (v883 X) (v885 X) (v887 X) (v889 X)) := regStep h57 h56
  have h59 : IsPend (v231 X) 4 35 (k0_pay701 (v231 X) (v883 X) (v885 X) (v887 X) (v889 X)) := pendStep h57 h56
  exact ⟨h16, h22, h28, h34, h40, h46, h49, h52, h55, h58, h59⟩

theorem v931_is (X : Ins Ideal) : IsReg (v231 X) 4 35 (v931 X) := (part17_is X).1

theorem v933_is (X : Ins Ideal) : IsReg (v231 X) 5 35 (v933 X) := (part17_is X).2.1

theorem v935_is (X : Ins Ideal) : IsReg (v231 X) 6 35 (v935 X) := (part17_is X).2.2.1

theorem v937_is (X : Ins Ideal) : IsReg (v231 X) 7 35 (v937 X) := (part17_is X).2.2.2.1

theorem v939_is (X : Ins Ideal) : IsReg (v231 X) 8 35 (v939 X) := (part17_is X).2.2.2.2.1

theorem v941_is (X : Ins Ideal) : IsReg (v231 X) 9 35 (v941 X) := (part17_is X).2.2.2.2.2.1

theorem v943_is (X : Ins Ideal) : IsReg (v231 X) 0 36 (v943 X) := (part17_is X).2.2.2.2.2.2.1

theorem v945_is (X : Ins Ideal) : IsReg (v231 X) 1 36 (v945 X) := (part17_is X).2.2.2.2.2.2.2.1

theorem v947_is (X : Ins Ideal) : IsReg (v231 X) 2 36 (v947 X) := (part17_is X).2.2.2.2.2.2.2.2.1

theorem v949_is (X : Ins Ideal) : IsReg (v231 X) 3 36 (v949 X) := (part17_is X).2.2.2.2.2.2.2.2.2.1

theorem v950_is (X : Ins Ideal) : IsPend (v231 X) 4 35 (v950 X) := (part17_is X).2.2.2.2.2.2.2.2.2.2

theorem part18_is (X : Ins Ideal) : IsReg (v231 X) 4 38 (v991 X) ∧ IsReg (v231 X) 5 38 (v993 X) ∧ IsReg (v231 X) 6 38 (v995 X) ∧ IsReg (v231 X) 7 38 (v997 X) ∧ IsReg (v231 X) 8 38 (v999 X) ∧ IsReg (v231 X) 9 38 (v1001 X) ∧ IsReg (v231 X) 0 39 (v1003 X) ∧ IsReg (v231 X) 1 39 (v1005 X) ∧ IsReg (v231 X) 2 39 (v1007 X) ∧ IsReg (v231 X) 3 39 (v1009 X) ∧ IsPend (v231 X) 4 38 (v1010 X) := by
  have h0 : IsPend (v231 X) 0 37 (k0_pay729 (v231 X)) := pendInit (v231 X) 37 (by decide) (by decide)
  have h1 : IsPend (v231 X) 0 36 (k0_pay711 (v231 X)) := pendInit (v231 X) 36 (by decide) (by decide)
  have h2 : IsReg (v231 X) 0 37 (k0_pay712 (v231 X) (v943 X)) := regStep (v943_is X) h1
  have h3 : IsPend (v231 X) 1 37 (k0_pay731 (v231 X) (v943 X)) := pendStep h2 h0
  have h4 : IsPend (v231 X) 1 36 (k0_pay713 (v231 X) (v943 X)) := pendStep (v943_is X) h1
  have h5 : IsReg (v231 X) 1 37 (k0_pay714 (v231 X) (v943 X) (v945 X)) := regStep (v945_is X) h4
  have h6 : IsPend (v231 X) 2 37 (k0_pay733 (v231 X) (v943 X) (v945 X)) := pendStep h5 h3
  have h7 : IsPend (v231 X) 2 36 (k0_pay715 (v231 X) (v943 X) (v945 X)) := pendStep (v945_is X) h4
  have h8 : IsReg (v231 X) 2 37 (k0_pay716 (v231 X) (v943 X) (v945 X) (v947 X)) := regStep (v947_is X) h7
  have h9 : IsPend (v231 X) 3 37 (k0_pay735 (v231 X) (v943 X) (v945 X) (v947 X)) := pendStep h8 h6
  have h10 : IsPend (v231 X) 3 36 (k0_pay717 (v231 X) (v943 X) (v945 X) (v947 X)) := pendStep (v947_is X) h7
  have h11 : IsReg (v231 X) 3 37 (k0_pay718 (v231 X) (v943 X) (v945 X) (v947 X) (v949 X)) := regStep (v949_is X) h10
  have h12 : IsPend (v231 X) 4 37 (k0_pay737 (v231 X) (v943 X) (v945 X) (v947 X) (v949 X)) := pendStep h11 h9
  have h13 : IsPend (v231 X) 4 36 (k0_pay719 (v231 X) (v943 X) (v945 X) (v947 X) (v949 X)) := pendStep (v949_is X) h10
  have h14 : IsReg (v231 X) 4 36 (k0_pay702 (v931 X) (v950 X)) := regStep (v931_is X) (v950_is X)
  have h15 : IsReg (v231 X) 4 37 (k0_pay720 (v231 X) (v931 X) (v943 X) (v945 X) (v947 X) (v949 X) (v950 X)) := regStep h14 h13
  have h16 : IsReg (v231 X) 4 38 (k0_pay738 (v231 X) (v931 X) (v943 X) (v945 X) (v947 X) (v949 X) (v950 X)) := regStep h15 h12
  have h17 : IsPend (v231 X) 5 37 (k0_pay739 (v231 X) (v931 X) (v943 X) (v945 X) (v947 X) (v949 X) (v950 X)) := pendStep h15 h12
  have h18 : IsPend (v231 X) 5 36 (k0_pay721 (v231 X) (v931 X) (v943 X) (v945 X) (v947 X) (v949 X) (v950 X)) := pendStep h14 h13
  have h19 : IsPend (v231 X) 5 35 (k0_pay703 (v931 X) (v950 X)) := pendStep (v931_is X) (v950_is X)
  have h20 : IsReg (v231 X) 5 36 (k0_pay704 (v931 X) (v933 X) (v950 X)) := regStep (v933_is X) h19
  have h21 : IsReg (v231 X) 5 37 (k0_pay722 (v231 X) (v931 X) (v933 X) (v943 X) (v945 X) (v947 X) (v949 X) (v950 X)) := regStep h20 h18
  have h22 : IsReg (v231 X) 5 38 (k0_pay740 (v231 X) (v931 X) (v933 X) (v943 X) (v945 X) (v947 X) (v949 X) (v950 X)) := regStep h21 h17
  have h23 : IsPend (v231 X) 6 37 (k0_pay741 (v231 X) (v931 X) (v933 X) (v943 X) (v945 X) (v947 X) (v949 X) (v950 X)) := pendStep h21 h17
  have h24 : IsPend (v231 X) 6 36 (k0_pay723 (v231 X) (v931 X) (v933 X) (v943 X) (v945 X) (v947 X) (v949 X) (v950 X)) := pendStep h20 h18
  have h25 : IsPend (v231 X) 6 35 (k0_pay705 (v931 X) (v933 X) (v950 X)) := pendStep (v933_is X) h19
  have h26 : IsReg (v231 X) 6 36 (k0_pay706 (v931 X) (v933 X) (v935 X) (v950 X)) := regStep (v935_is X) h25
  have h27 : IsReg (v231 X) 6 37 (k0_pay724 (v231 X) (v931 X) (v933 X) (v935 X) (v943 X) (v945 X) (v947 X) (v949 X) (v950 X)) := regStep h26 h24
  have h28 : IsReg (v231 X) 6 38 (k0_pay742 (v231 X) (v931 X) (v933 X) (v935 X) (v943 X) (v945 X) (v947 X) (v949 X) (v950 X)) := regStep h27 h23
  have h29 : IsPend (v231 X) 7 37 (k0_pay743 (v231 X) (v931 X) (v933 X) (v935 X) (v943 X) (v945 X) (v947 X) (v949 X) (v950 X)) := pendStep h27 h23
  have h30 : IsPend (v231 X) 7 36 (k0_pay725 (v231 X) (v931 X) (v933 X) (v935 X) (v943 X) (v945 X) (v947 X) (v949 X) (v950 X)) := pendStep h26 h24
  have h31 : IsPend (v231 X) 7 35 (k0_pay707 (v931 X) (v933 X) (v935 X) (v950 X)) := pendStep (v935_is X) h25
  have h32 : IsReg (v231 X) 7 36 (k0_pay708 (v931 X) (v933 X) (v935 X) (v937 X) (v950 X)) := regStep (v937_is X) h31
  have h33 : IsReg (v231 X) 7 37 (k0_pay726 (v231 X) (v931 X) (v933 X) (v935 X) (v937 X) (v943 X) (v945 X) (v947 X) (v949 X) (v950 X)) := regStep h32 h30
  have h34 : IsReg (v231 X) 7 38 (k0_pay744 (v231 X) (v931 X) (v933 X) (v935 X) (v937 X) (v943 X) (v945 X) (v947 X) (v949 X) (v950 X)) := regStep h33 h29
  have h35 : IsPend (v231 X) 8 37 (k0_pay745 (v231 X) (v931 X) (v933 X) (v935 X) (v937 X) (v943 X) (v945 X) (v947 X) (v949 X) (v950 X)) := pendStep h33 h29
  have h36 : IsPend (v231 X) 8 36 (k0_pay727 (v231 X) (v931 X) (v933 X) (v935 X) (v937 X) (v943 X) (v945 X) (v947 X) (v949 X) (v950 X)) := pendStep h32 h30
  have h37 : IsPend (v231 X) 8 35 (k0_pay709 (v931 X) (v933 X) (v935 X) (v937 X) (v950 X)) := pendStep (v937_is X) h31
  have h38 : IsReg (v231 X) 8 36 (k0_pay710 (v931 X) (v933 X) (v935 X) (v937 X) (v939 X) (v950 X)) := regStep (v939_is X) h37
  have h39 : IsReg (v231 X) 8 37 (k0_pay728 (v231 X) (v931 X) (v933 X) (v935 X) (v937 X) (v939 X) (v943 X) (v945 X) (v947 X) (v949 X) (v950 X)) := regStep h38 h36
  have h40 : IsReg (v231 X) 8 38 (k0_pay746 (v231 X) (v931 X) (v933 X) (v935 X) (v937 X) (v939 X) (v943 X) (v945 X) (v947 X) (v949 X) (v950 X)) := regStep h39 h35
  have h41 : IsPend (v231 X) 9 37 (minimumf (k0_pay728 (v231 X) (v931 X) (v933 X) (v935 X) (v937 X) (v939 X) (v943 X) (v945 X) (v947 X) (v949 X) (v950 X)) (k0_pay745 (v231 X) (v931 X) (v933 X) (v935 X) (v937 X) (v943 X) (v945 X) (v947 X) (v949 X) (v950 X))) := pendStep h39 h35
  have h42 : IsPend (v231 X) 9 36 (minimumf (k0_pay710 (v931 X) (v933 X) (v935 X) (v937 X) (v939 X) (v950 X)) (k0_pay727 (v231 X) (v931 X) (v933 X) (v935 X) (v937 X) (v943 X) (v945 X) (v947 X) (v949 X) (v950 X))) := pendStep h38 h36
  have h43 : IsPend (v231 X) 9 35 (minimumf (v939 X) (k0_pay709 (v931 X) (v933 X) (v935 X) (v937 X) (v950 X))) := pendStep (v939_is X) h37
  have h44 : IsReg (v231 X) 9 36 (maximumf (v941 X) (minimumf (v939 X) (k0_pay709 (v931 X) (v933 X) (v935 X) (v937 X) (v950 X)))) := regStep (v941_is X) h43
  have h45 : IsReg (v231 X) 9 37 (maximumf (maximumf (v941 X) (minimumf (v939 X) (k0_pay709 (v931 X) (v933 X) (v935 X) (v937 X) (v950 X)))) (minimumf (k0_pay710 (v931 X) (v933 X) (v935 X) (v937 X) (v939 X) (v950 X)) (k0_pay727 (v231 X) (v931 X) (v933 X) (v935 X) (v937 X) (v943 X) (v945 X) (v947 X) (v949 X) (v950 X)))) := regStep h44 h42
  have h46 : IsReg (v231 X) 9 38 (k0_pay747 (v231 X) (v931 X) (v933 X) (v935 X) (v937 X) (v939 X) (v941 X) (v943 X) (v945 X) (v947 X) (v949 X) (v950 X)) := regStep h45 h41
  have h47 : IsPend (v231 X) 0 38 (k0_pay748 (v231 X)) := pendInit (v231 X) 38 (by decide) (by decide)
  have h48 : IsReg (v231 X) 0 38 (k0_pay730 (v231 X) (v943 X)) := regStep h2 h0
  have h49 : IsReg (v231 X) 0 39 (k0_pay749 (v231 X) (v943 X)) := regStep h48 h47
  have h50 : IsPend (v231 X) 1 38 (k0_pay750 (v231 X) (v943 X)) := pendStep h48 h47
  have h51 : IsReg (v231 X) 1 38 (k0_pay732 (v231 X) (v943 X) (v945 X)) := regStep h5 h3
  have h52 : IsReg (v231 X) 1 39 (k0_pay751 (v231 X) (v943 X) (v945 X)) := regStep h51 h50
  have h53 : IsPend (v231 X) 2 38 (k0_pay752 (v231 X) (v943 X) (v945 X)) := pendStep h51 h50
  have h54 : IsReg (v231 X) 2 38 (k0_pay734 (v231 X) (v943 X) (v945 X) (v947 X)) := regStep h8 h6
  have h55 : IsReg (v231 X) 2 39 (k0_pay753 (v231 X) (v943 X) (v945 X) (v947 X)) := regStep h54 h53
  have h56 : IsPend (v231 X) 3 38 (k0_pay754 (v231 X) (v943 X) (v945 X) (v947 X)) := pendStep h54 h53
  have h57 : IsReg (v231 X) 3 38 (k0_pay736 (v231 X) (v943 X) (v945 X) (v947 X) (v949 X)) := regStep h11 h9
  have h58 : IsReg (v231 X) 3 39 (k0_pay755 (v231 X) (v943 X) (v945 X) (v947 X) (v949 X)) := regStep h57 h56
  have h59 : IsPend (v231 X) 4 38 (k0_pay756 (v231 X) (v943 X) (v945 X) (v947 X) (v949 X)) := pendStep h57 h56
  exact ⟨h16, h22, h28, h34, h40, h46, h49, h52, h55, h58, h59⟩

theorem v991_is (X : Ins Ideal) : IsReg (v231 X) 4 38 (v991 X) := (part18_is X).1

theorem v993_is (X : Ins Ideal) : IsReg (v231 X) 5 38 (v993 X) := (part18_is X).2.1

theorem v995_is (X : Ins Ideal) : IsReg (v231 X) 6 38 (v995 X) := (part18_is X).2.2.1

theorem v997_is (X : Ins Ideal) : IsReg (v231 X) 7 38 (v997 X) := (part18_is X).2.2.2.1

theorem v999_is (X : Ins Ideal) : IsReg (v231 X) 8 38 (v999 X) := (part18_is X).2.2.2.2.1

theorem v1001_is (X : Ins Ideal) : IsReg (v231 X) 9 38 (v1001 X) := (part18_is X).2.2.2.2.2.1

theorem v1003_is (X : Ins Ideal) : IsReg (v231 X) 0 39 (v1003 X) := (part18_is X).2.2.2.2.2.2.1

theorem v1005_is (X : Ins Ideal) : IsReg (v231 X) 1 39 (v1005 X) := (part18_is X).2.2.2.2.2.2.2.1

theorem v1007_is (X : Ins Ideal) : IsReg (v231 X) 2 39 (v1007 X) := (part18_is X).2.2.2.2.2.2.2.2.1

theorem v1009_is (X : Ins Ideal) : IsReg (v231 X) 3 39 (v1009 X) := (part18_is X).2.2.2.2.2.2.2.2.2.1

theorem v1010_is (X : Ins Ideal) : IsPend (v231 X) 4 38 (v1010 X) := (part18_is X).2.2.2.2.2.2.2.2.2.2

theorem part19_is (X : Ins Ideal) : IsReg (v231 X) 4 41 (v1051 X) ∧ IsReg (v231 X) 5 41 (v1053 X) ∧ IsReg (v231 X) 6 41 (v1055 X) ∧ IsReg (v231 X) 7 41 (v1057 X) ∧ IsReg (v231 X) 8 41 (v1059 X) ∧ IsReg (v231 X) 9 41 (v1061 X) ∧ IsReg (v231 X) 0 42 (v1063 X) ∧ IsReg (v231 X) 1 42 (v1065 X) ∧ IsReg (v231 X) 2 42 (v1067 X) ∧ IsReg (v231 X) 3 42 (v1069 X) ∧ IsPend (v231 X) 4 41 (v1070 X) := by
  have h0 : IsPend (v231 X) 0 40 (k0_pay784 (v231 X)) := pendInit (v231 X) 40 (by decide) (by decide)
  have h1 : IsPend (v231 X) 0 39 (k0_pay766 (v231 X)) := pendInit (v231 X) 39 (by decide) (by decide)
  have h2 : IsReg (v231 X) 0 40 (k0_pay767 (v231 X) (v1003 X)) := regStep (v1003_is X) h1
  have h3 : IsPend (v231 X) 1 40 (k0_pay786 (v231 X) (v1003 X)) := pendStep h2 h0
  have h4 : IsPend (v231 X) 1 39 (k0_pay768 (v231 X) (v1003 X)) := pendStep (v1003_is X) h1
  have h5 : IsReg (v231 X) 1 40 (k0_pay769 (v231 X) (v1003 X) (v1005 X)) := regStep (v1005_is X) h4
  have h6 : IsPend (v231 X) 2 40 (k0_pay788 (v231 X) (v1003 X) (v1005 X)) := pendStep h5 h3
  have h7 : IsPend (v231 X) 2 39 (k0_pay770 (v231 X) (v1003 X) (v1005 X)) := pendStep (v1005_is X) h4
  have h8 : IsReg (v231 X) 2 40 (k0_pay771 (v231 X) (v1003 X) (v1005 X) (v1007 X)) := regStep (v1007_is X) h7
  have h9 : IsPend (v231 X) 3 40 (k0_pay790 (v231 X) (v1003 X) (v1005 X) (v1007 X)) := pendStep h8 h6
  have h10 : IsPend (v231 X) 3 39 (k0_pay772 (v231 X) (v1003 X) (v1005 X) (v1007 X)) := pendStep (v1007_is X) h7
  have h11 : IsReg (v231 X) 3 40 (k0_pay773 (v231 X) (v1003 X) (v1005 X) (v1007 X) (v1009 X)) := regStep (v1009_is X) h10
  have h12 : IsPend (v231 X) 4 40 (k0_pay792 (v231 X) (v1003 X) (v1005 X) (v1007 X) (v1009 X)) := pendStep h11 h9
  have h13 : IsPend (v231 X) 4 39 (k0_pay774 (v231 X) (v1003 X) (v1005 X) (v1007 X) (v1009 X)) := pendStep (v1009_is X) h10
  have h14 : IsReg (v231 X) 4 39 (k0_pay757 (v991 X) (v1010 X)) := regStep (v991_is X) (v1010_is X)
  have h15 : IsReg (v231 X) 4 40 (k0_pay775 (v231 X) (v991 X) (v1003 X) (v1005 X) (v1007 X) (v1009 X) (v1010 X)) := regStep h14 h13
  have h16 : IsReg (v231 X) 4 41 (k0_pay793 (v231 X) (v991 X) (v1003 X) (v1005 X) (v1007 X) (v1009 X) (v1010 X)) := regStep h15 h12
  have h17 : IsPend (v231 X) 5 40 (k0_pay794 (v231 X) (v991 X) (v1003 X) (v1005 X) (v1007 X) (v1009 X) (v1010 X)) := pendStep h15 h12
  have h18 : IsPend (v231 X) 5 39 (k0_pay776 (v231 X) (v991 X) (v1003 X) (v1005 X) (v1007 X) (v1009 X) (v1010 X)) := pendStep h14 h13
  have h19 : IsPend (v231 X) 5 38 (k0_pay758 (v991 X) (v1010 X)) := pendStep (v991_is X) (v1010_is X)
  have h20 : IsReg (v231 X) 5 39 (k0_pay759 (v991 X) (v993 X) (v1010 X)) := regStep (v993_is X) h19
  have h21 : IsReg (v231 X) 5 40 (k0_pay777 (v231 X) (v991 X) (v993 X) (v1003 X) (v1005 X) (v1007 X) (v1009 X) (v1010 X)) := regStep h20 h18
  have h22 : IsReg (v231 X) 5 41 (k0_pay795 (v231 X) (v991 X) (v993 X) (v1003 X) (v1005 X) (v1007 X) (v1009 X) (v1010 X)) := regStep h21 h17
  have h23 : IsPend (v231 X) 6 40 (k0_pay796 (v231 X) (v991 X) (v993 X) (v1003 X) (v1005 X) (v1007 X) (v1009 X) (v1010 X)) := pendStep h21 h17
  have h24 : IsPend (v231 X) 6 39 (k0_pay778 (v231 X) (v991 X) (v993 X) (v1003 X) (v1005 X) (v1007 X) (v1009 X) (v1010 X)) := pendStep h20 h18
  have h25 : IsPend (v231 X) 6 38 (k0_pay760 (v991 X) (v993 X) (v1010 X)) := pendStep (v993_is X) h19
  have h26 : IsReg (v231 X) 6 39 (k0_pay761 (v991 X) (v993 X) (v995 X) (v1010 X)) := regStep (v995_is X) h25
  have h27 : IsReg (v231 X) 6 40 (k0_pay779 (v231 X) (v991 X) (v993 X) (v995 X) (v1003 X) (v1005 X) (v1007 X) (v1009 X) (v1010 X)) := regStep h26 h24
  have h28 : IsReg (v231 X) 6 41 (k0_pay797 (v231 X) (v991 X) (v993 X) (v995 X) (v1003 X) (v1005 X) (v1007 X) (v1009 X) (v1010 X)) := regStep h27 h23
  have h29 : IsPend (v231 X) 7 40 (k0_pay798 (v231 X) (v991 X) (v993 X) (v995 X) (v1003 X) (v1005 X) (v1007 X) (v1009 X) (v1010 X)) := pendStep h27 h23
  have h30 : IsPend (v231 X) 7 39 (k0_pay780 (v231 X) (v991 X) (v993 X) (v995 X) (v1003 X) (v1005 X) (v1007 X) (v1009 X) (v1010 X)) := pendStep h26 h24
  have h31 : IsPend (v231 X) 7 38 (k0_pay762 (v991 X) (v993 X) (v995 X) (v1010 X)) := pendStep (v995_is X) h25
  have h32 : IsReg (v231 X) 7 39 (k0_pay763 (v991 X) (v993 X) (v995 X) (v997 X) (v1010 X)) := regStep (v997_is X) h31
  have h33 : IsReg (v231 X) 7 40 (k0_pay781 (v231 X) (v991 X) (v993 X) (v995 X) (v997 X) (v1003 X) (v1005 X) (v1007 X) (v1009 X) (v1010 X)) := regStep h32 h30
  have h34 : IsReg (v231 X) 7 41 (k0_pay799 (v231 X) (v991 X) (v993 X) (v995 X) (v997 X) (v1003 X) (v1005 X) (v1007 X) (v1009 X) (v1010 X)) := regStep h33 h29
  have h35 : IsPend (v231 X) 8 40 (k0_pay800 (v231 X) (v991 X) (v993 X) (v995 X) (v997 X) (v1003 X) (v1005 X) (v1007 X) (v1009 X) (v1010 X)) := pendStep h33 h29
  have h36 : IsPend (v231 X) 8 39 (k0_pay782 (v231 X) (v991 X) (v993 X) (v995 X) (v997 X) (v1003 X) (v1005 X) (v1007 X) (v1009 X) (v1010 X)) := pendStep h32 h30
  have h37 : IsPend (v231 X) 8 38 (k0_pay764 (v991 X) (v993 X) (v995 X) (v997 X) (v1010 X)) := pendStep (v997_is X) h31
  have h38 : IsReg (v231 X) 8 39 (k0_pay765 (v991 X) (v993 X) (v995 X) (v997 X) (v999 X) (v1010 X)) := regStep (v999_is X) h37
  have h39 : IsReg (v231 X) 8 40 (k0_pay783 (v231 X) (v991 X) (v993 X) (v995 X) (v997 X) (v999 X) (v1003 X) (v1005 X) (v1007 X) (v1009 X) (v1010 X)) := regStep h38 h36
  have h40 : IsReg (v231 X) 8 41 (k0_pay801 (v231 X) (v991 X) (v993 X) (v995 X) (v997 X) (v999 X) (v1003 X) (v1005 X) (v1007 X) (v1009 X) (v1010 X)) := regStep h39 h35
  have h41 : IsPend (v231 X) 9 40 (minimumf (k0_pay783 (v231 X) (v991 X) (v993 X) (v995 X) (v997 X) (v999 X) (v1003 X) (v1005 X) (v1007 X) (v1009 X) (v1010 X)) (k0_pay800 (v231 X) (v991 X) (v993 X) (v995 X) (v997 X) (v1003 X) (v1005 X) (v1007 X) (v1009 X) (v1010 X))) := pendStep h39 h35
  have h42 : IsPend (v231 X) 9 39 (minimumf (k0_pay765 (v991 X) (v993 X) (v995 X) (v997 X) (v999 X) (v1010 X)) (k0_pay782 (v231 X) (v991 X) (v993 X) (v995 X) (v997 X) (v1003 X) (v1005 X) (v1007 X) (v1009 X) (v1010 X))) := pendStep h38 h36
  have h43 : IsPend (v231 X) 9 38 (minimumf (v999 X) (k0_pay764 (v991 X) (v993 X) (v995 X) (v997 X) (v1010 X))) := pendStep (v999_is X) h37
  have h44 : IsReg (v231 X) 9 39 (maximumf (v1001 X) (minimumf (v999 X) (k0_pay764 (v991 X) (v993 X) (v995 X) (v997 X) (v1010 X)))) := regStep (v1001_is X) h43
  have h45 : IsReg (v231 X) 9 40 (maximumf (maximumf (v1001 X) (minimumf (v999 X) (k0_pay764 (v991 X) (v993 X) (v995 X) (v997 X) (v1010 X)))) (minimumf (k0_pay765 (v991 X) (v993 X) (v995 X) (v997 X) (v999 X) (v1010 X)) (k0_pay782 (v231 X) (v991 X) (v993 X) (v995 X) (v997 X) (v1003 X) (v1005 X) (v1007 X) (v1009 X) (v1010 X)))) := regStep h44 h42
  have h46 : IsReg (v231 X) 9 41 (k0_pay802 (v231 X) (v991 X) (v993 X) (v995 X) (v997 X) (v999 X) (v1001 X) (v1003 X) (v1005 X) (v1007 X) (v1009 X) (v1010 X)) := regStep h45 h41
  have h47 : IsPend (v231 X) 0 41 (k0_pay803 (v231 X)) := pendInit (v231 X) 41 (by decide) (by decide)
  have h48 : IsReg (v231 X) 0 41 (k0_pay785 (v231 X) (v1003 X)) := regStep h2 h0
  have h49 : IsReg (v231 X) 0 42 (k0_pay804 (v231 X) (v1003 X)) := regStep h48 h47
  have h50 : IsPend (v231 X) 1 41 (k0_pay805 (v231 X) (v1003 X)) := pendStep h48 h47
  have h51 : IsReg (v231 X) 1 41 (k0_pay787 (v231 X) (v1003 X) (v1005 X)) := regStep h5 h3
  have h52 : IsReg (v231 X) 1 42 (k0_pay806 (v231 X) (v1003 X) (v1005 X)) := regStep h51 h50
  have h53 : IsPend (v231 X) 2 41 (k0_pay807 (v231 X) (v1003 X) (v1005 X)) := pendStep h51 h50
  have h54 : IsReg (v231 X) 2 41 (k0_pay789 (v231 X) (v1003 X) (v1005 X) (v1007 X)) := regStep h8 h6
  have h55 : IsReg (v231 X) 2 42 (k0_pay808 (v231 X) (v1003 X) (v1005 X) (v1007 X)) := regStep h54 h53
  have h56 : IsPend (v231 X) 3 41 (k0_pay809 (v231 X) (v1003 X) (v1005 X) (v1007 X)) := pendStep h54 h53
  have h57 : IsReg (v231 X) 3 41 (k0_pay791 (v231 X) (v1003 X) (v1005 X) (v1007 X) (v1009 X)) := regStep h11 h9
  have h58 : IsReg (v231 X) 3 42 (k0_pay810 (v231 X) (v1003 X) (v1005 X) (v1007 X) (v1009 X)) := regStep h57 h56
  have h59 : IsPend (v231 X) 4 41 (k0_pay811 (v231 X) (v1003 X) (v1005 X) (v1007 X) (v1009 X)) := pendStep h57 h56
  exact ⟨h16, h22, h28, h34, h40, h46, h49, h52, h55, h58, h59⟩

theorem v1051_is (X : Ins Ideal) : IsReg (v231 X) 4 41 (v1051 X) := (part19_is X).1

theorem v1053_is (X : Ins Ideal) : IsReg (v231 X) 5 41 (v1053 X) := (part19_is X).2.1

theorem v1055_is (X : Ins Ideal) : IsReg (v231 X) 6 41 (v1055 X) := (part19_is X).2.2.1

theorem v1057_is (X : Ins Ideal) : IsReg (v231 X) 7 41 (v1057 X) := (part19_is X).2.2.2.1

theorem v1059_is (X : Ins Ideal) : IsReg (v231 X) 8 41 (v1059 X) := (part19_is X).2.2.2.2.1

theorem v1061_is (X : Ins Ideal) : IsReg (v231 X) 9 41 (v1061 X) := (part19_is X).2.2.2.2.2.1

theorem v1063_is (X : Ins Ideal) : IsReg (v231 X) 0 42 (v1063 X) := (part19_is X).2.2.2.2.2.2.1

theorem v1065_is (X : Ins Ideal) : IsReg (v231 X) 1 42 (v1065 X) := (part19_is X).2.2.2.2.2.2.2.1

theorem v1067_is (X : Ins Ideal) : IsReg (v231 X) 2 42 (v1067 X) := (part19_is X).2.2.2.2.2.2.2.2.1

theorem v1069_is (X : Ins Ideal) : IsReg (v231 X) 3 42 (v1069 X) := (part19_is X).2.2.2.2.2.2.2.2.2.1

theorem v1070_is (X : Ins Ideal) : IsPend (v231 X) 4 41 (v1070 X) := (part19_is X).2.2.2.2.2.2.2.2.2.2

theorem part20_is (X : Ins Ideal) : IsReg (v231 X) 4 44 (v1111 X) ∧ IsReg (v231 X) 5 44 (v1113 X) ∧ IsReg (v231 X) 6 44 (v1115 X) ∧ IsReg (v231 X) 7 44 (v1117 X) ∧ IsReg (v231 X) 8 44 (v1119 X) ∧ IsReg (v231 X) 9 44 (v1121 X) ∧ IsReg (v231 X) 0 45 (v1123 X) ∧ IsReg (v231 X) 1 45 (v1125 X) ∧ IsReg (v231 X) 2 45 (v1127 X) ∧ IsReg (v231 X) 3 45 (v1129 X) ∧ IsPend (v231 X) 4 44 (v1130 X) := by
  have h0 : IsPend (v231 X) 0 43 (k0_pay839 (v231 X)) := pendInit (v231 X) 43 (by decide) (by decide)
  have h1 : IsPend (v231 X) 0 42 (k0_pay821 (v231 X)) := pendInit (v231 X) 42 (by decide) (by decide)
  have h2 : IsReg (v231 X) 0 43 (k0_pay822 (v231 X) (v1063 X)) := regStep (v1063_is X) h1
  have h3 : IsPend (v231 X) 1 43 (k0_pay841 (v231 X) (v1063 X)) := pendStep h2 h0
  have h4 : IsPend (v231 X) 1 42 (k0_pay823 (v231 X) (v1063 X)) := pendStep (v1063_is X) h1
  have h5 : IsReg (v231 X) 1 43 (k0_pay824 (v231 X) (v1063 X) (v1065 X)) := regStep (v1065_is X) h4
  have h6 : IsPend (v231 X) 2 43 (k0_pay843 (v231 X) (v1063 X) (v1065 X)) := pendStep h5 h3
  have h7 : IsPend (v231 X) 2 42 (k0_pay825 (v231 X) (v1063 X) (v1065 X)) := pendStep (v1065_is X) h4
  have h8 : IsReg (v231 X) 2 43 (k0_pay826 (v231 X) (v1063 X) (v1065 X) (v1067 X)) := regStep (v1067_is X) h7
  have h9 : IsPend (v231 X) 3 43 (k0_pay845 (v231 X) (v1063 X) (v1065 X) (v1067 X)) := pendStep h8 h6
  have h10 : IsPend (v231 X) 3 42 (k0_pay827 (v231 X) (v1063 X) (v1065 X) (v1067 X)) := pendStep (v1067_is X) h7
  have h11 : IsReg (v231 X) 3 43 (k0_pay828 (v231 X) (v1063 X) (v1065 X) (v1067 X) (v1069 X)) := regStep (v1069_is X) h10
  have h12 : IsPend (v231 X) 4 43 (k0_pay847 (v231 X) (v1063 X) (v1065 X) (v1067 X) (v1069 X)) := pendStep h11 h9
  have h13 : IsPend (v231 X) 4 42 (k0_pay829 (v231 X) (v1063 X) (v1065 X) (v1067 X) (v1069 X)) := pendStep (v1069_is X) h10
  have h14 : IsReg (v231 X) 4 42 (k0_pay812 (v1051 X) (v1070 X)) := regStep (v1051_is X) (v1070_is X)
  have h15 : IsReg (v231 X) 4 43 (k0_pay830 (v231 X) (v1051 X) (v1063 X) (v1065 X) (v1067 X) (v1069 X) (v1070 X)) := regStep h14 h13
  have h16 : IsReg (v231 X) 4 44 (k0_pay848 (v231 X) (v1051 X) (v1063 X) (v1065 X) (v1067 X) (v1069 X) (v1070 X)) := regStep h15 h12
  have h17 : IsPend (v231 X) 5 43 (k0_pay849 (v231 X) (v1051 X) (v1063 X) (v1065 X) (v1067 X) (v1069 X) (v1070 X)) := pendStep h15 h12
  have h18 : IsPend (v231 X) 5 42 (k0_pay831 (v231 X) (v1051 X) (v1063 X) (v1065 X) (v1067 X) (v1069 X) (v1070 X)) := pendStep h14 h13
  have h19 : IsPend (v231 X) 5 41 (k0_pay813 (v1051 X) (v1070 X)) := pendStep (v1051_is X) (v1070_is X)
  have h20 : IsReg (v231 X) 5 42 (k0_pay814 (v1051 X) (v1053 X) (v1070 X)) := regStep (v1053_is X) h19
  have h21 : IsReg (v231 X) 5 43 (k0_pay832 (v231 X) (v1051 X) (v1053 X) (v1063 X) (v1065 X) (v1067 X) (v1069 X) (v1070 X)) := regStep h20 h18
  have h22 : IsReg (v231 X) 5 44 (k0_pay850 (v231 X) (v1051 X) (v1053 X) (v1063 X) (v1065 X) (v1067 X) (v1069 X) (v1070 X)) := regStep h21 h17
  have h23 : IsPend (v231 X) 6 43 (k0_pay851 (v231 X) (v1051 X) (v1053 X) (v1063 X) (v1065 X) (v1067 X) (v1069 X) (v1070 X)) := pendStep h21 h17
  have h24 : IsPend (v231 X) 6 42 (k0_pay833 (v231 X) (v1051 X) (v1053 X) (v1063 X) (v1065 X) (v1067 X) (v1069 X) (v1070 X)) := pendStep h20 h18
  have h25 : IsPend (v231 X) 6 41 (k0_pay815 (v1051 X) (v1053 X) (v1070 X)) := pendStep (v1053_is X) h19
  have h26 : IsReg (v231 X) 6 42 (k0_pay816 (v1051 X) (v1053 X) (v1055 X) (v1070 X)) := regStep (v1055_is X) h25
  have h27 : IsReg (v231 X) 6 43 (k0_pay834 (v231 X) (v1051 X) (v1053 X) (v1055 X) (v1063 X) (v1065 X) (v1067 X) (v1069 X) (v1070 X)) := regStep h26 h24
  have h28 : IsReg (v231 X) 6 44 (k0_pay852 (v231 X) (v1051 X) (v1053 X) (v1055 X) (v1063 X) (v1065 X) (v1067 X) (v1069 X) (v1070 X)) := regStep h27 h23
  have h29 : IsPend (v231 X) 7 43 (k0_pay853 (v231 X) (v1051 X) (v1053 X) (v1055 X) (v1063 X) (v1065 X) (v1067 X) (v1069 X) (v1070 X)) := pendStep h27 h23
  have h30 : IsPend (v231 X) 7 42 (k0_pay835 (v231 X) (v1051 X) (v1053 X) (v1055 X) (v1063 X) (v1065 X) (v1067 X) (v1069 X) (v1070 X)) := pendStep h26 h24
  have h31 : IsPend (v231 X) 7 41 (k0_pay817 (v1051 X) (v1053 X) (v1055 X) (v1070 X)) := pendStep (v1055_is X) h25
  have h32 : IsReg (v231 X) 7 42 (k0_pay818 (v1051 X) (v1053 X) (v1055 X) (v1057 X) (v1070 X)) := regStep (v1057_is X) h31
  have h33 : IsReg (v231 X) 7 43 (k0_pay836 (v231 X) (v1051 X) (v1053 X) (v1055 X) (v1057 X) (v1063 X) (v1065 X) (v1067 X) (v1069 X) (v1070 X)) := regStep h32 h30
  have h34 : IsReg (v231 X) 7 44 (k0_pay854 (v231 X) (v1051 X) (v1053 X) (v1055 X) (v1057 X) (v1063 X) (v1065 X) (v1067 X) (v1069 X) (v1070 X)) := regStep h33 h29
  have h35 : IsPend (v231 X) 8 43 (k0_pay855 (v231 X) (v1051 X) (v1053 X) (v1055 X) (v1057 X) (v1063 X) (v1065 X) (v1067 X) (v1069 X) (v1070 X)) := pendStep h33 h29
  have h36 : IsPend (v231 X) 8 42 (k0_pay837 (v231 X) (v1051 X) (v1053 X) (v1055 X) (v1057 X) (v1063 X) (v1065 X) (v1067 X) (v1069 X) (v1070 X)) := pendStep h32 h30
  have h37 : IsPend (v231 X) 8 41 (k0_pay819 (v1051 X) (v1053 X) (v1055 X) (v1057 X) (v1070 X)) := pendStep (v1057_is X) h31
  have h38 : IsReg (v231 X) 8 42 (k0_pay820 (v1051 X) (v1053 X) (v1055 X) (v1057 X) (v1059 X) (v1070 X)) := regStep (v1059_is X) h37
  have h39 : IsReg (v231 X) 8 43 (k0_pay838 (v231 X) (v1051 X) (v1053 X) (v1055 X) (v1057 X) (v1059 X) (v1063 X) (v1065 X) (v1067 X) (v1069 X) (v1070 X)) := regStep h38 h36
  have h40 : IsReg (v231 X) 8 44 (k0_pay856 (v231 X) (v1051 X) (v1053 X) (v1055 X) (v1057 X) (v1059 X) (v1063 X) (v1065 X) (v1067 X) (v1069 X) (v1070 X)) := regStep h39 h35
  have h41 : IsPend (v231 X) 9 43 (minimumf (k0_pay838 (v231 X) (v1051 X) (v1053 X) (v1055 X) (v1057 X) (v1059 X) (v1063 X) (v1065 X) (v1067 X) (v1069 X) (v1070 X)) (k0_pay855 (v231 X) (v1051 X) (v1053 X) (v1055 X) (v1057 X) (v1063 X) (v1065 X) (v1067 X) (v1069 X) (v1070 X))) := pendStep h39 h35
  have h42 : IsPend (v231 X) 9 42 (minimumf (k0_pay820 (v1051 X) (v1053 X) (v1055 X) (v1057 X) (v1059 X) (v1070 X)) (k0_pay837 (v231 X) (v1051 X) (v1053 X) (v1055 X) (v1057 X) (v1063 X) (v1065 X) (v1067 X) (v1069 X) (v1070 X))) := pendStep h38 h36
  have h43 : IsPend (v231 X) 9 41 (minimumf (v1059 X) (k0_pay819 (v1051 X) (v1053 X) (v1055 X) (v1057 X) (v1070 X))) := pendStep (v1059_is X) h37
  have h44 : IsReg (v231 X) 9 42 (maximumf (v1061 X) (minimumf (v1059 X) (k0_pay819 (v1051 X) (v1053 X) (v1055 X) (v1057 X) (v1070 X)))) := regStep (v1061_is X) h43
  have h45 : IsReg (v231 X) 9 43 (maximumf (maximumf (v1061 X) (minimumf (v1059 X) (k0_pay819 (v1051 X) (v1053 X) (v1055 X) (v1057 X) (v1070 X)))) (minimumf (k0_pay820 (v1051 X) (v1053 X) (v1055 X) (v1057 X) (v1059 X) (v1070 X)) (k0_pay837 (v231 X) (v1051 X) (v1053 X) (v1055 X) (v1057 X) (v1063 X) (v1065 X) (v1067 X) (v1069 X) (v1070 X)))) := regStep h44 h42
  have h46 : IsReg (v231 X) 9 44 (k0_pay857 (v231 X) (v1051 X) (v1053 X) (v1055 X) (v1057 X) (v1059 X) (v1061 X) (v1063 X) (v1065 X) (v1067 X) (v1069 X) (v1070 X)) := regStep h45 h41
  have h47 : IsPend (v231 X) 0 44 (k0_pay858 (v231 X)) := pendInit (v231 X) 44 (by decide) (by decide)
  have h48 : IsReg (v231 X) 0 44 (k0_pay840 (v231 X) (v1063 X)) := regStep h2 h0
  have h49 : IsReg (v231 X) 0 45 (k0_pay859 (v231 X) (v1063 X)) := regStep h48 h47
  have h50 : IsPend (v231 X) 1 44 (k0_pay860 (v231 X) (v1063 X)) := pendStep h48 h47
  have h51 : IsReg (v231 X) 1 44 (k0_pay842 (v231 X) (v1063 X) (v1065 X)) := regStep h5 h3
  have h52 : IsReg (v231 X) 1 45 (k0_pay861 (v231 X) (v1063 X) (v1065 X)) := regStep h51 h50
  have h53 : IsPend (v231 X) 2 44 (k0_pay862 (v231 X) (v1063 X) (v1065 X)) := pendStep h51 h50
  have h54 : IsReg (v231 X) 2 44 (k0_pay844 (v231 X) (v1063 X) (v1065 X) (v1067 X)) := regStep h8 h6
  have h55 : IsReg (v231 X) 2 45 (k0_pay863 (v231 X) (v1063 X) (v1065 X) (v1067 X)) := regStep h54 h53
  have h56 : IsPend (v231 X) 3 44 (k0_pay864 (v231 X) (v1063 X) (v1065 X) (v1067 X)) := pendStep h54 h53
  have h57 : IsReg (v231 X) 3 44 (k0_pay846 (v231 X) (v1063 X) (v1065 X) (v1067 X) (v1069 X)) := regStep h11 h9
  have h58 : IsReg (v231 X) 3 45 (k0_pay865 (v231 X) (v1063 X) (v1065 X) (v1067 X) (v1069 X)) := regStep h57 h56
  have h59 : IsPend (v231 X) 4 44 (k0_pay866 (v231 X) (v1063 X) (v1065 X) (v1067 X) (v1069 X)) := pendStep h57 h56
  exact ⟨h16, h22, h28, h34, h40, h46, h49, h52, h55, h58, h59⟩

theorem v1111_is (X : Ins Ideal) : IsReg (v231 X) 4 44 (v1111 X) := (part20_is X).1

theorem v1113_is (X : Ins Ideal) : IsReg (v231 X) 5 44 (v1113 X) := (part20_is X).2.1

theorem v1115_is (X : Ins Ideal) : IsReg (v231 X) 6 44 (v1115 X) := (part20_is X).2.2.1

theorem v1117_is (X : Ins Ideal) : IsReg (v231 X) 7 44 (v1117 X) := (part20_is X).2.2.2.1

theorem v1119_is (X : Ins Ideal) : IsReg (v231 X) 8 44 (v1119 X) := (part20_is X).2.2.2.2.1

theorem v1121_is (X : Ins Ideal) : IsReg (v231 X) 9 44 (v1121 X) := (part20_is X).2.2.2.2.2.1

theorem v1123_is (X : Ins Ideal) : IsReg (v231 X) 0 45 (v1123 X) := (part20_is X).2.2.2.2.2.2.1

theorem v1125_is (X : Ins Ideal) : IsReg (v231 X) 1 45 (v1125 X) := (part20_is X).2.2.2.2.2.2.2.1

theorem v1127_is (X : Ins Ideal) : IsReg (v231 X) 2 45 (v1127 X) := (part20_is X).2.2.2.2.2.2.2.2.1

theorem v1129_is (X : Ins Ideal) : IsReg (v231 X) 3 45 (v1129 X) := (part20_is X).2.2.2.2.2.2.2.2.2.1

theorem v1130_is (X : Ins Ideal) : IsPend (v231 X) 4 44 (v1130 X) := (part20_is X).2.2.2.2.2.2.2.2.2.2

theorem part21_is (X : Ins Ideal) : IsReg (v231 X) 4 47 (v1171 X) ∧ IsReg (v231 X) 5 47 (v1173 X) ∧ IsReg (v231 X) 6 47 (v1175 X) ∧ IsReg (v231 X) 7 47 (v1177 X) ∧ IsReg (v231 X) 8 47 (v1179 X) ∧ IsReg (v231 X) 9 47 (v1181 X) ∧ IsReg (v231 X) 0 48 (v1183 X) ∧ IsReg (v231 X) 1 48 (v1185 X) ∧ IsReg (v231 X) 2 48 (v1187 X) ∧ IsReg (v231 X) 3 48 (v1189 X) ∧ IsPend (v231 X) 4 47 (v1190 X) := by
  have h0 : IsPend (v231 X) 0 46 (k0_pay894 (v231 X)) := pendInit (v231 X) 46 (by decide) (by decide)
  have h1 : IsPend (v231 X) 0 45 (k0_pay876 (v231 X)) := pendInit (v231 X) 45 (by decide) (by decide)
  have h2 : IsReg (v231 X) 0 46 (k0_pay877 (v231 X) (v1123 X)) := regStep (v1123_is X) h1
  have h3 : IsPend (v231 X) 1 46 (k0_pay896 (v231 X) (v1123 X)) := pendStep h2 h0
  have h4 : IsPend (v231 X) 1 45 (k0_pay878 (v231 X) (v1123 X)) := pendStep (v1123_is X) h1
  have h5 : IsReg (v231 X) 1 46 (k0_pay879 (v231 X) (v1123 X) (v1125 X)) := regStep (v1125_is X) h4
  have h6 : IsPend (v231 X) 2 46 (k0_pay898 (v231 X) (v1123 X) (v1125 X)) := pendStep h5 h3
  have h7 : IsPend (v231 X) 2 45 (k0_pay880 (v231 X) (v1123 X) (v1125 X)) := pendStep (v1125_is X) h4
  have h8 : IsReg (v231 X) 2 46 (k0_pay881 (v231 X) (v1123 X) (v1125 X) (v1127 X)) := regStep (v1127_is X) h7
  have h9 : IsPend (v231 X) 3 46 (k0_pay900 (v231 X) (v1123 X) (v1125 X) (v1127 X)) := pendStep h8 h6
  have h10 : IsPend (v231 X) 3 45 (k0_pay882 (v231 X) (v1123 X) (v1125 X) (v1127 X)) := pendStep (v1127_is X) h7
  have h11 : IsReg (v231 X) 3 46 (k0_pay883 (v231 X) (v1123 X) (v1125 X) (v1127 X) (v1129 X)) := regStep (v1129_is X) h10
  have h12 : IsPend (v231 X) 4 46 (k0_pay902 (v231 X) (v1123 X) (v1125 X) (v1127 X) (v1129 X)) := pendStep h11 h9
  have h13 : IsPend (v231 X) 4 45 (k0_pay884 (v231 X) (v1123 X) (v1125 X) (v1127 X) (v1129 X)) := pendStep (v1129_is X) h10
  have h14 : IsReg (v231 X) 4 45 (k0_pay867 (v1111 X) (v1130 X)) := regStep (v1111_is X) (v1130_is X)
  have h15 : IsReg (v231 X) 4 46 (k0_pay885 (v231 X) (v1111 X) (v1123 X) (v1125 X) (v1127 X) (v1129 X) (v1130 X)) := regStep h14 h13
  have h16 : IsReg (v231 X) 4 47 (k0_pay903 (v231 X) (v1111 X) (v1123 X) (v1125 X) (v1127 X) (v1129 X) (v1130 X)) := regStep h15 h12
  have h17 : IsPend (v231 X) 5 46 (k0_pay904 (v231 X) (v1111 X) (v1123 X) (v1125 X) (v1127 X) (v1129 X) (v1130 X)) := pendStep h15 h12
  have h18 : IsPend (v231 X) 5 45 (k0_pay886 (v231 X) (v1111 X) (v1123 X) (v1125 X) (v1127 X) (v1129 X) (v1130 X)) := pendStep h14 h13
  have h19 : IsPend (v231 X) 5 44 (k0_pay868 (v1111 X) (v1130 X)) := pendStep (v1111_is X) (v1130_is X)
  have h20 : IsReg (v231 X) 5 45 (k0_pay869 (v1111 X) (v1113 X) (v1130 X)) := regStep (v1113_is X) h19
  have h21 : IsReg (v231 X) 5 46 (k0_pay887 (v231 X) (v1111 X) (v1113 X) (v1123 X) (v1125 X) (v1127 X) (v1129 X) (v1130 X)) := regStep h20 h18
  have h22 : IsReg (v231 X) 5 47 (k0_pay905 (v231 X) (v1111 X) (v1113 X) (v1123 X) (v1125 X) (v1127 X) (v1129 X) (v1130 X)) := regStep h21 h17
  have h23 : IsPend (v231 X) 6 46 (k0_pay906 (v231 X) (v1111 X) (v1113 X) (v1123 X) (v1125 X) (v1127 X) (v1129 X) (v1130 X)) := pendStep h21 h17
  have h24 : IsPend (v231 X) 6 45 (k0_pay888 (v231 X) (v1111 X) (v1113 X) (v1123 X) (v1125 X) (v1127 X) (v1129 X) (v1130 X)) := pendStep h20 h18
  have h25 : IsPend (v231 X) 6 44 (k0_pay870 (v1111 X) (v1113 X) (v1130 X)) := pendStep (v1113_is X) h19
  have h26 : IsReg (v231 X) 6 45 (k0_pay871 (v1111 X) (v1113 X) (v1115 X) (v1130 X)) := regStep (v1115_is X) h25
  have h27 : IsReg (v231 X) 6 46 (k0_pay889 (v231 X) (v1111 X) (v1113 X) (v1115 X) (v1123 X) (v1125 X) (v1127 X) (v1129 X) (v1130 X)) := regStep h26 h24
  have h28 : IsReg (v231 X) 6 47 (k0_pay907 (v231 X) (v1111 X) (v1113 X) (v1115 X) (v1123 X) (v1125 X) (v1127 X) (v1129 X) (v1130 X)) := regStep h27 h23
  have h29 : IsPend (v231 X) 7 46 (k0_pay908 (v231 X) (v1111 X) (v1113 X) (v1115 X) (v1123 X) (v1125 X) (v1127 X) (v1129 X) (v1130 X)) := pendStep h27 h23
  have h30 : IsPend (v231 X) 7 45 (k0_pay890 (v231 X) (v1111 X) (v1113 X) (v1115 X) (v1123 X) (v1125 X) (v1127 X) (v1129 X) (v1130 X)) := pendStep h26 h24
  have h31 : IsPend (v231 X) 7 44 (k0_pay872 (v1111 X) (v1113 X) (v1115 X) (v1130 X)) := pendStep (v1115_is X) h25
  have h32 : IsReg (v231 X) 7 45 (k0_pay873 (v1111 X) (v1113 X) (v1115 X) (v1117 X) (v1130 X)) := regStep (v1117_is X) h31
  have h33 : IsReg (v231 X) 7 46 (k0_pay891 (v231 X) (v1111 X) (v1113 X) (v1115 X) (v1117 X) (v1123 X) (v1125 X) (v1127 X) (v1129 X) (v1130 X)) := regStep h32 h30
  have h34 : IsReg (v231 X) 7 47 (k0_pay909 (v231 X) (v1111 X) (v1113 X) (v1115 X) (v1117 X) (v1123 X) (v1125 X) (v1127 X) (v1129 X) (v1130 X)) := regStep h33 h29
  have h35 : IsPend (v231 X) 8 46 (k0_pay910 (v231 X) (v1111 X) (v1113 X) (v1115 X) (v1117 X) (v1123 X) (v1125 X) (v1127 X) (v1129 X) (v1130 X)) := pendStep h33 h29
  have h36 : IsPend (v231 X) 8 45 (k0_pay892 (v231 X) (v1111 X) (v1113 X) (v1115 X) (v1117 X) (v1123 X) (v1125 X) (v1127 X) (v1129 X) (v1130 X)) := pendStep h32 h30
  have h37 : IsPend (v231 X) 8 44 (k0_pay874 (v1111 X) (v1113 X) (v1115 X) (v1117 X) (v1130 X)) := pendStep (v1117_is X) h31
  have h38 : IsReg (v231 X) 8 45 (k0_pay875 (v1111 X) (v1113 X) (v1115 X) (v1117 X) (v1119 X) (v1130 X)) := regStep (v1119_is X) h37
  have h39 : IsReg (v231 X) 8 46 (k0_pay893 (v231 X) (v1111 X) (v1113 X) (v1115 X) (v1117 X) (v1119 X) (v1123 X) (v1125 X) (v1127 X) (v1129 X) (v1130 X)) := regStep h38 h36
  have h40 : IsReg (v231 X) 8 47 (k0_pay911 (v231 X) (v1111 X) (v1113 X) (v1115 X) (v1117 X) (v1119 X) (v1123 X) (v1125 X) (v1127 X) (v1129 X) (v1130 X)) := regStep h39 h35
  have h41 : IsPend (v231 X) 9 46 (minimumf (k0_pay893 (v231 X) (v1111 X) (v1113 X) (v1115 X) (v1117 X) (v1119 X) (v1123 X) (v1125 X) (v1127 X) (v1129 X) (v1130 X)) (k0_pay910 (v231 X) (v1111 X) (v1113 X) (v1115 X) (v1117 X) (v1123 X) (v1125 X) (v1127 X) (v1129 X) (v1130 X))) := pendStep h39 h35
  have h42 : IsPend (v231 X) 9 45 (minimumf (k0_pay875 (v1111 X) (v1113 X) (v1115 X) (v1117 X) (v1119 X) (v1130 X)) (k0_pay892 (v231 X) (v1111 X) (v1113 X) (v1115 X) (v1117 X) (v1123 X) (v1125 X) (v1127 X) (v1129 X) (v1130 X))) := pendStep h38 h36
  have h43 : IsPend (v231 X) 9 44 (minimumf (v1119 X) (k0_pay874 (v1111 X) (v1113 X) (v1115 X) (v1117 X) (v1130 X))) := pendStep (v1119_is X) h37
  have h44 : IsReg (v231 X) 9 45 (maximumf (v1121 X) (minimumf (v1119 X) (k0_pay874 (v1111 X) (v1113 X) (v1115 X) (v1117 X) (v1130 X)))) := regStep (v1121_is X) h43
  have h45 : IsReg (v231 X) 9 46 (maximumf (maximumf (v1121 X) (minimumf (v1119 X) (k0_pay874 (v1111 X) (v1113 X) (v1115 X) (v1117 X) (v1130 X)))) (minimumf (k0_pay875 (v1111 X) (v1113 X) (v1115 X) (v1117 X) (v1119 X) (v1130 X)) (k0_pay892 (v231 X) (v1111 X) (v1113 X) (v1115 X) (v1117 X) (v1123 X) (v1125 X) (v1127 X) (v1129 X) (v1130 X)))) := regStep h44 h42
  have h46 : IsReg (v231 X) 9 47 (k0_pay912 (v231 X) (v1111 X) (v1113 X) (v1115 X) (v1117 X) (v1119 X) (v1121 X) (v1123 X) (v1125 X) (v1127 X) (v1129 X) (v1130 X)) := regStep h45 h41
  have h47 : IsPend (v231 X) 0 47 (k0_pay913 (v231 X)) := pendInit (v231 X) 47 (by decide) (by decide)
  have h48 : IsReg (v231 X) 0 47 (k0_pay895 (v231 X) (v1123 X)) := regStep h2 h0
  have h49 : IsReg (v231 X) 0 48 (k0_pay914 (v231 X) (v1123 X)) := regStep h48 h47
  have h50 : IsPend (v231 X) 1 47 (k0_pay915 (v231 X) (v1123 X)) := pendStep h48 h47
  have h51 : IsReg (v231 X) 1 47 (k0_pay897 (v231 X) (v1123 X) (v1125 X)) := regStep h5 h3
  have h52 : IsReg (v231 X) 1 48 (k0_pay916 (v231 X) (v1123 X) (v1125 X)) := regStep h51 h50
  have h53 : IsPend (v231 X) 2 47 (k0_pay917 (v231 X) (v1123 X) (v1125 X)) := pendStep h51 h50
  have h54 : IsReg (v231 X) 2 47 (k0_pay899 (v231 X) (v1123 X) (v1125 X) (v1127 X)) := regStep h8 h6
  have h55 : IsReg (v231 X) 2 48 (k0_pay918 (v231 X) (v1123 X) (v1125 X) (v1127 X)) := regStep h54 h53
  have h56 : IsPend (v231 X) 3 47 (k0_pay919 (v231 X) (v1123 X) (v1125 X) (v1127 X)) := pendStep h54 h53
  have h57 : IsReg (v231 X) 3 47 (k0_pay901 (v231 X) (v1123 X) (v1125 X) (v1127 X) (v1129 X)) := regStep h11 h9
  have h58 : IsReg (v231 X) 3 48 (k0_pay920 (v231 X) (v1123 X) (v1125 X) (v1127 X) (v1129 X)) := regStep h57 h56
  have h59 : IsPend (v231 X) 4 47 (k0_pay921 (v231 X) (v1123 X) (v1125 X) (v1127 X) (v1129 X)) := pendStep h57 h56
  exact ⟨h16, h22, h28, h34, h40, h46, h49, h52, h55, h58, h59⟩

theorem v1171_is (X : Ins Ideal) : IsReg (v231 X) 4 47 (v1171 X) := (part21_is X).1

theorem v1173_is (X : Ins Ideal) : IsReg (v231 X) 5 47 (v1173 X) := (part21_is X).2.1

theorem v1175_is (X : Ins Ideal) : IsReg (v231 X) 6 47 (v1175 X) := (part21_is X).2.2.1

theorem v1177_is (X : Ins Ideal) : IsReg (v231 X) 7 47 (v1177 X) := (part21_is X).2.2.2.1

theorem v1179_is (X : Ins Ideal) : IsReg (v231 X) 8 47 (v1179 X) := (part21_is X).2.2.2.2.1

theorem v1181_is (X : Ins Ideal) : IsReg (v231 X) 9 47 (v1181 X) := (part21_is X).2.2.2.2.2.1

theorem v1183_is (X : Ins Ideal) : IsReg (v231 X) 0 48 (v1183 X) := (part21_is X).2.2.2.2.2.2.1

theorem v1185_is (X : Ins Ideal) : IsReg (v231 X) 1 48 (v1185 X) := (part21_is X).2.2.2.2.2.2.2.1

theorem v1187_is (X : Ins Ideal) : IsReg (v231 X) 2 48 (v1187 X) := (part21_is X).2.2.2.2.2.2.2.2.1

theorem v1189_is (X : Ins Ideal) : IsReg (v231 X) 3 48 (v1189 X) := (part21_is X).2.2.2.2.2.2.2.2.2.1

theorem v1190_is (X : Ins Ideal) : IsPend (v231 X) 4 47 (v1190 X) := (part21_is X).2.2.2.2.2.2.2.2.2.2

theorem part22_is (X : Ins Ideal) : IsReg (v231 X) 4 50 (v1231 X) ∧ IsReg (v231 X) 5 50 (v1233 X) ∧ IsReg (v231 X) 6 50 (v1235 X) ∧ IsReg (v231 X) 7 50 (v1237 X) ∧ IsReg (v231 X) 8 50 (v1239 X) ∧ IsReg (v231 X) 9 50 (v1241 X) ∧ IsReg (v231 X) 0 51 (v1243 X) ∧ IsReg (v231 X) 1 51 (v1245 X) ∧ IsReg (v231 X) 2 51 (v1247 X) ∧ IsReg (v231 X) 3 51 (v1249 X) ∧ IsPend (v231 X) 4 50 (v1250 X) := by
  have h0 : IsPend (v231 X) 0 49 (k0_pay949 (v231 X)) := pendInit (v231 X) 49 (by decide) (by decide)
  have h1 : IsPend (v231 X) 0 48 (k0_pay931 (v231 X)) := pendInit (v231 X) 48 (by decide) (by decide)
  have h2 : IsReg (v231 X) 0 49 (k0_pay932 (v231 X) (v1183 X)) := regStep (v1183_is X) h1
  have h3 : IsPend (v231 X) 1 49 (k0_pay951 (v231 X) (v1183 X)) := pendStep h2 h0
  have h4 : IsPend (v231 X) 1 48 (k0_pay933 (v231 X) (v1183 X)) := pendStep (v1183_is X) h1
  have h5 : IsReg (v231 X) 1 49 (k0_pay934 (v231 X) (v1183 X) (v1185 X)) := regStep (v1185_is X) h4
  have h6 : IsPend (v231 X) 2 49 (k0_pay953 (v231 X) (v1183 X) (v1185 X)) := pendStep h5 h3
  have h7 : IsPend (v231 X) 2 48 (k0_pay935 (v231 X) (v1183 X) (v1185 X)) := pendStep (v1185_is X) h4
  have h8 : IsReg (v231 X) 2 49 (k0_pay936 (v231 X) (v1183 X) (v1185 X) (v1187 X)) := regStep (v1187_is X) h7
  have h9 : IsPend (v231 X) 3 49 (k0_pay955 (v231 X) (v1183 X) (v1185 X) (v1187 X)) := pendStep h8 h6
  have h10 : IsPend (v231 X) 3 48 (k0_pay937 (v231 X) (v1183 X) (v1185 X) (v1187 X)) := pendStep (v1187_is X) h7
  have h11 : IsReg (v231 X) 3 49 (k0_pay938 (v231 X) (v1183 X) (v1185 X) (v1187 X) (v1189 X)) := regStep (v1189_is X) h10
  have h12 : IsPend (v231 X) 4 49 (k0_pay957 (v231 X) (v1183 X) (v1185 X) (v1187 X) (v1189 X)) := pendStep h11 h9
  have h13 : IsPend (v231 X) 4 48 (k0_pay939 (v231 X) (v1183 X) (v1185 X) (v1187 X) (v1189 X)) := pendStep (v1189_is X) h10
  have h14 : IsReg (v231 X) 4 48 (k0_pay922 (v1171 X) (v1190 X)) := regStep (v1171_is X) (v1190_is X)
  have h15 : IsReg (v231 X) 4 49 (k0_pay940 (v231 X) (v1171 X) (v1183 X) (v1185 X) (v1187 X) (v1189 X) (v1190 X)) := regStep h14 h13
  have h16 : IsReg (v231 X) 4 50 (k0_pay958 (v231 X) (v1171 X) (v1183 X) (v1185 X) (v1187 X) (v1189 X) (v1190 X)) := regStep h15 h12
  have h17 : IsPend (v231 X) 5 49 (k0_pay959 (v231 X) (v1171 X) (v1183 X) (v1185 X) (v1187 X) (v1189 X) (v1190 X)) := pendStep h15 h12
  have h18 : IsPend (v231 X) 5 48 (k0_pay941 (v231 X) (v1171 X) (v1183 X) (v1185 X) (v1187 X) (v1189 X) (v1190 X)) := pendStep h14 h13
  have h19 : IsPend (v231 X) 5 47 (k0_pay923 (v1171 X) (v1190 X)) := pendStep (v1171_is X) (v1190_is X)
  have h20 : IsReg (v231 X) 5 48 (k0_pay924 (v1171 X) (v1173 X) (v1190 X)) := regStep (v1173_is X) h19
  have h21 : IsReg (v231 X) 5 49 (k0_pay942 (v231 X) (v1171 X) (v1173 X) (v1183 X) (v1185 X) (v1187 X) (v1189 X) (v1190 X)) := regStep h20 h18
  have h22 : IsReg (v231 X) 5 50 (k0_pay960 (v231 X) (v1171 X) (v1173 X) (v1183 X) (v1185 X) (v1187 X) (v1189 X) (v1190 X)) := regStep h21 h17
  have h23 : IsPend (v231 X) 6 49 (k0_pay961 (v231 X) (v1171 X) (v1173 X) (v1183 X) (v1185 X) (v1187 X) (v1189 X) (v1190 X)) := pendStep h21 h17
  have h24 : IsPend (v231 X) 6 48 (k0_pay943 (v231 X) (v1171 X) (v1173 X) (v1183 X) (v1185 X) (v1187 X) (v1189 X) (v1190 X)) := pendStep h20 h18
  have h25 : IsPend (v231 X) 6 47 (k0_pay925 (v1171 X) (v1173 X) (v1190 X)) := pendStep (v1173_is X) h19
  have h26 : IsReg (v231 X) 6 48 (k0_pay926 (v1171 X) (v1173 X) (v1175 X) (v1190 X)) := regStep (v1175_is X) h25
  have h27 : IsReg (v231 X) 6 49 (k0_pay944 (v231 X) (v1171 X) (v1173 X) (v1175 X) (v1183 X) (v1185 X) (v1187 X) (v1189 X) (v1190 X)) := regStep h26 h24
  have h28 : IsReg (v231 X) 6 50 (k0_pay962 (v231 X) (v1171 X) (v1173 X) (v1175 X) (v1183 X) (v1185 X) (v1187 X) (v1189 X) (v1190 X)) := regStep h27 h23
  have h29 : IsPend (v231 X) 7 49 (k0_pay963 (v231 X) (v1171 X) (v1173 X) (v1175 X) (v1183 X) (v1185 X) (v1187 X) (v1189 X) (v1190 X)) := pendStep h27 h23
  have h30 : IsPend (v231 X) 7 48 (k0_pay945 (v231 X) (v1171 X) (v1173 X) (v1175 X) (v1183 X) (v1185 X) (v1187 X) (v1189 X) (v1190 X)) := pendStep h26 h24
  have h31 : IsPend (v231 X) 7 47 (k0_pay927 (v1171 X) (v1173 X) (v1175 X) (v1190 X)) := pendStep (v1175_is X) h25
  have h32 : IsReg (v231 X) 7 48 (k0_pay928 (v1171 X) (v1173 X) (v1175 X) (v1177 X) (v1190 X)) := regStep (v1177_is X) h31
  have h33 : IsReg (v231 X) 7 49 (k0_pay946 (v231 X) (v1171 X) (v1173 X) (v1175 X) (v1177 X) (v1183 X) (v1185 X) (v1187 X) (v1189 X) (v1190 X)) := regStep h32 h30
  have h34 : IsReg (v231 X) 7 50 (k0_pay964 (v231 X) (v1171 X) (v1173 X) (v1175 X) (v1177 X) (v1183 X) (v1185 X) (v1187 X) (v1189 X) (v1190 X)) := regStep h33 h29
  have h35 : IsPend (v231 X) 8 49 (k0_pay965 (v231 X) (v1171 X) (v1173 X) (v1175 X) (v1177 X) (v1183 X) (v1185 X) (v1187 X) (v1189 X) (v1190 X)) := pendStep h33 h29
  have h36 : IsPend (v231 X) 8 48 (k0_pay947 (v231 X) (v1171 X) (v1173 X) (v1175 X) (v1177 X) (v1183 X) (v1185 X) (v1187 X) (v1189 X) (v1190 X)) := pendStep h32 h30
  have h37 : IsPend (v231 X) 8 47 (k0_pay929 (v1171 X) (v1173 X) (v1175 X) (v1177 X) (v1190 X)) := pendStep (v1177_is X) h31
  have h38 : IsReg (v231 X) 8 48 (k0_pay930 (v1171 X) (v1173 X) (v1175 X) (v1177 X) (v1179 X) (v1190 X)) := regStep (v1179_is X) h37
  have h39 : IsReg (v231 X) 8 49 (k0_pay948 (v231 X) (v1171 X) (v1173 X) (v1175 X) (v1177 X) (v1179 X) (v1183 X) (v1185 X) (v1187 X) (v1189 X) (v1190 X)) := regStep h38 h36
  have h40 : IsReg (v231 X) 8 50 (k0_pay966 (v231 X) (v1171 X) (v1173 X) (v1175 X) (v1177 X) (v1179 X) (v1183 X) (v1185 X) (v1187 X) (v1189 X) (v1190 X)) := regStep h39 h35
  have h41 : IsPend (v231 X) 9 49 (minimumf (k0_pay948 (v231 X) (v1171 X) (v1173 X) (v1175 X) (v1177 X) (v1179 X) (v1183 X) (v1185 X) (v1187 X) (v1189 X) (v1190 X)) (k0_pay965 (v231 X) (v1171 X) (v1173 X) (v1175 X) (v1177 X) (v1183 X) (v1185 X) (v1187 X) (v1189 X) (v1190 X))) := pendStep h39 h35
  have h42 : IsPend (v231 X) 9 48 (minimumf (k0_pay930 (v1171 X) (v1173 X) (v1175 X) (v1177 X) (v1179 X) (v1190 X)) (k0_pay947 (v231 X) (v1171 X) (v1173 X) (v1175 X) (v1177 X) (v1183 X) (v1185 X) (v1187 X) (v1189 X) (v1190 X))) := pendStep h38 h36
  have h43 : IsPend (v231 X) 9 47 (minimumf (v1179 X) (k0_pay929 (v1171 X) (v1173 X) (v1175 X) (v1177 X) (v1190 X))) := pendStep (v1179_is X) h37
  have h44 : IsReg (v231 X) 9 48 (maximumf (v1181 X) (minimumf (v1179 X) (k0_pay929 (v1171 X) (v1173 X) (v1175 X) (v1177 X) (v1190 X)))) := regStep (v1181_is X) h43
  have h45 : IsReg (v231 X) 9 49 (maximumf (maximumf (v1181 X) (minimumf (v1179 X) (k0_pay929 (v1171 X) (v1173 X) (v1175 X) (v1177 X) (v1190 X)))) (minimumf (k0_pay930 (v1171 X) (v1173 X) (v1175 X) (v1177 X) (v1179 X) (v1190 X)) (k0_pay947 (v231 X) (v1171 X) (v1173 X) (v1175 X) (v1177 X) (v1183 X) (v1185 X) (v1187 X) (v1189 X) (v1190 X)))) := regStep h44 h42
  have h46 : IsReg (v231 X) 9 50 (k0_pay967 (v231 X) (v1171 X) (v1173 X) (v1175 X) (v1177 X) (v1179 X) (v1181 X) (v1183 X) (v1185 X) (v1187 X) (v1189 X) (v1190 X)) := regStep h45 h41
  have h47 : IsPend (v231 X) 0 50 (k0_pay968 (v231 X)) := pendInit (v231 X) 50 (by decide) (by decide)
  have h48 : IsReg (v231 X) 0 50 (k0_pay950 (v231 X) (v1183 X)) := regStep h2 h0
  have h49 : IsReg (v231 X) 0 51 (k0_pay969 (v231 X) (v1183 X)) := regStep h48 h47
  have h50 : IsPend (v231 X) 1 50 (k0_pay970 (v231 X) (v1183 X)) := pendStep h48 h47
  have h51 : IsReg (v231 X) 1 50 (k0_pay952 (v231 X) (v1183 X) (v1185 X)) := regStep h5 h3
  have h52 : IsReg (v231 X) 1 51 (k0_pay971 (v231 X) (v1183 X) (v1185 X)) := regStep h51 h50
  have h53 : IsPend (v231 X) 2 50 (k0_pay972 (v231 X) (v1183 X) (v1185 X)) := pendStep h51 h50
  have h54 : IsReg (v231 X) 2 50 (k0_pay954 (v231 X) (v1183 X) (v1185 X) (v1187 X)) := regStep h8 h6
  have h55 : IsReg (v231 X) 2 51 (k0_pay973 (v231 X) (v1183 X) (v1185 X) (v1187 X)) := regStep h54 h53
  have h56 : IsPend (v231 X) 3 50 (k0_pay974 (v231 X) (v1183 X) (v1185 X) (v1187 X)) := pendStep h54 h53
  have h57 : IsReg (v231 X) 3 50 (k0_pay956 (v231 X) (v1183 X) (v1185 X) (v1187 X) (v1189 X)) := regStep h11 h9
  have h58 : IsReg (v231 X) 3 51 (k0_pay975 (v231 X) (v1183 X) (v1185 X) (v1187 X) (v1189 X)) := regStep h57 h56
  have h59 : IsPend (v231 X) 4 50 (k0_pay976 (v231 X) (v1183 X) (v1185 X) (v1187 X) (v1189 X)) := pendStep h57 h56
  exact ⟨h16, h22, h28, h34, h40, h46, h49, h52, h55, h58, h59⟩

theorem v1231_is (X : Ins Ideal) : IsReg (v231 X) 4 50 (v1231 X) := (part22_is X).1

theorem v1233_is (X : Ins Ideal) : IsReg (v231 X) 5 50 (v1233 X) := (part22_is X).2.1

theorem v1235_is (X : Ins Ideal) : IsReg (v231 X) 6 50 (v1235 X) := (part22_is X).2.2.1

theorem v1237_is (X : Ins Ideal) : IsReg (v231 X) 7 50 (v1237 X) := (part22_is X).2.2.2.1

theorem v1239_is (X : Ins Ideal) : IsReg (v231 X) 8 50 (v1239 X) := (part22_is X).2.2.2.2.1

theorem v1241_is (X : Ins Ideal) : IsReg (v231 X) 9 50 (v1241 X) := (part22_is X).2.2.2.2.2.1

theorem v1243_is (X : Ins Ideal) : IsReg (v231 X) 0 51 (v1243 X) := (part22_is X).2.2.2.2.2.2.1

theorem v1245_is (X : Ins Ideal) : IsReg (v231 X) 1 51 (v1245 X) := (part22_is X).2.2.2.2.2.2.2.1

theorem v1247_is (X : Ins Ideal) : IsReg (v231 X) 2 51 (v1247 X) := (part22_is X).2.2.2.2.2.2.2.2.1

theorem v1249_is (X : Ins Ideal) : IsReg (v231 X) 3 51 (v1249 X) := (part22_is X).2.2.2.2.2.2.2.2.2.1

theorem v1250_is (X : Ins Ideal) : IsPend (v231 X) 4 50 (v1250 X) := (part22_is X).2.2.2.2.2.2.2.2.2.2

theorem part23_is (X : Ins Ideal) : IsReg (v231 X) 4 53 (v1291 X) ∧ IsReg (v231 X) 5 53 (v1293 X) ∧ IsReg (v231 X) 6 53 (v1295 X) ∧ IsReg (v231 X) 7 53 (v1297 X) ∧ IsReg (v231 X) 8 53 (v1299 X) ∧ IsReg (v231 X) 9 53 (v1301 X) ∧ IsReg (v231 X) 0 54 (v1303 X) ∧ IsReg (v231 X) 1 54 (v1305 X) ∧ IsReg (v231 X) 2 54 (v1307 X) ∧ IsReg (v231 X) 3 54 (v1309 X) ∧ IsPend (v231 X) 4 53 (v1310 X) := by
  have h0 : IsPend (v231 X) 0 52 (k0_pay1004 (v231 X)) := pendInit (v231 X) 52 (by decide) (by decide)
  have h1 : IsPend (v231 X) 0 51 (k0_pay986 (v231 X)) := pendInit (v231 X) 51 (by decide) (by decide)
  have h2 : IsReg (v231 X) 0 52 (k0_pay987 (v231 X) (v1243 X)) := regStep (v1243_is X) h1
  have h3 : IsPend (v231 X) 1 52 (k0_pay1006 (v231 X) (v1243 X)) := pendStep h2 h0
  have h4 : IsPend (v231 X) 1 51 (k0_pay988 (v231 X) (v1243 X)) := pendStep (v1243_is X) h1
  have h5 : IsReg (v231 X) 1 52 (k0_pay989 (v231 X) (v1243 X) (v1245 X)) := regStep (v1245_is X) h4
  have h6 : IsPend (v231 X) 2 52 (k0_pay1008 (v231 X) (v1243 X) (v1245 X)) := pendStep h5 h3
  have h7 : IsPend (v231 X) 2 51 (k0_pay990 (v231 X) (v1243 X) (v1245 X)) := pendStep (v1245_is X) h4
  have h8 : IsReg (v231 X) 2 52 (k0_pay991 (v231 X) (v1243 X) (v1245 X) (v1247 X)) := regStep (v1247_is X) h7
  have h9 : IsPend (v231 X) 3 52 (k0_pay1010 (v231 X) (v1243 X) (v1245 X) (v1247 X)) := pendStep h8 h6
  have h10 : IsPend (v231 X) 3 51 (k0_pay992 (v231 X) (v1243 X) (v1245 X) (v1247 X)) := pendStep (v1247_is X) h7
  have h11 : IsReg (v231 X) 3 52 (k0_pay993 (v231 X) (v1243 X) (v1245 X) (v1247 X) (v1249 X)) := regStep (v1249_is X) h10
  have h12 : IsPend (v231 X) 4 52 (k0_pay1012 (v231 X) (v1243 X) (v1245 X) (v1247 X) (v1249 X)) := pendStep h11 h9
  have h13 : IsPend (v231 X) 4 51 (k0_pay994 (v231 X) (v1243 X) (v1245 X) (v1247 X) (v1249 X)) := pendStep (v1249_is X) h10
  have h14 : IsReg (v231 X) 4 51 (k0_pay977 (v1231 X) (v1250 X)) := regStep (v1231_is X) (v1250_is X)
  have h15 : IsReg (v231 X) 4 52 (k0_pay995 (v231 X) (v1231 X) (v1243 X) (v1245 X) (v1247 X) (v1249 X) (v1250 X)) := regStep h14 h13
  have h16 : IsReg (v231 X) 4 53 (k0_pay1013 (v231 X) (v1231 X) (v1243 X) (v1245 X) (v1247 X) (v1249 X) (v1250 X)) := regStep h15 h12
  have h17 : IsPend (v231 X) 5 52 (k0_pay1014 (v231 X) (v1231 X) (v1243 X) (v1245 X) (v1247 X) (v1249 X) (v1250 X)) := pendStep h15 h12
  have h18 : IsPend (v231 X) 5 51 (k0_pay996 (v231 X) (v1231 X) (v1243 X) (v1245 X) (v1247 X) (v1249 X) (v1250 X)) := pendStep h14 h13
  have h19 : IsPend (v231 X) 5 50 (k0_pay978 (v1231 X) (v1250 X)) := pendStep (v1231_is X) (v1250_is X)
  have h20 : IsReg (v231 X) 5 51 (k0_pay979 (v1231 X) (v1233 X) (v1250 X)) := regStep (v1233_is X) h19
  have h21 : IsReg (v231 X) 5 52 (k0_pay997 (v231 X) (v1231 X) (v1233 X) (v1243 X) (v1245 X) (v1247 X) (v1249 X) (v1250 X)) := regStep h20 h18
  have h22 : IsReg (v231 X) 5 53 (k0_pay1015 (v231 X) (v1231 X) (v1233 X) (v1243 X) (v1245 X) (v1247 X) (v1249 X) (v1250 X)) := regStep h21 h17
  have h23 : IsPend (v231 X) 6 52 (k0_pay1016 (v231 X) (v1231 X) (v1233 X) (v1243 X) (v1245 X) (v1247 X) (v1249 X) (v1250 X)) := pendStep h21 h17
  have h24 : IsPend (v231 X) 6 51 (k0_pay998 (v231 X) (v1231 X) (v1233 X) (v1243 X) (v1245 X) (v1247 X) (v1249 X) (v1250 X)) := pendStep h20 h18
  have h25 : IsPend (v231 X) 6 50 (k0_pay980 (v1231 X) (v1233 X) (v1250 X)) := pendStep (v1233_is X) h19
  have h26 : IsReg (v231 X) 6 51 (k0_pay981 (v1231 X) (v1233 X) (v1235 X) (v1250 X)) := regStep (v1235_is X) h25
  have h27 : IsReg (v231 X) 6 52 (k0_pay999 (v231 X) (v1231 X) (v1233 X) (v1235 X) (v1243 X) (v1245 X) (v1247 X) (v1249 X) (v1250 X)) := regStep h26 h24
  have h28 : IsReg (v231 X) 6 53 (k0_pay1017 (v231 X) (v1231 X) (v1233 X) (v1235 X) (v1243 X) (v1245 X) (v1247 X) (v1249 X) (v1250 X)) := regStep h27 h23
  have h29 : IsPend (v231 X) 7 52 (k0_pay1018 (v231 X) (v1231 X) (v1233 X) (v1235 X) (v1243 X) (v1245 X) (v1247 X) (v1249 X) (v1250 X)) := pendStep h27 h23
  have h30 : IsPend (v231 X) 7 51 (k0_pay1000 (v231 X) (v1231 X) (v1233 X) (v1235 X) (v1243 X) (v1245 X) (v1247 X) (v1249 X) (v1250 X)) := pendStep h26 h24
  have h31 : IsPend (v231 X) 7 50 (k0_pay982 (v1231 X) (v1233 X) (v1235 X) (v1250 X)) := pendStep (v1235_is X) h25
  have h32 : IsReg (v231 X) 7 51 (k0_pay983 (v1231 X) (v1233 X) (v1235 X) (v1237 X) (v1250 X)) := regStep (v1237_is X) h31
  have h33 : IsReg (v231 X) 7 52 (k0_pay1001 (v231 X) (v1231 X) (v1233 X) (v1235 X) (v1237 X) (v1243 X) (v1245 X) (v1247 X) (v1249 X) (v1250 X)) := regStep h32 h30
  have h34 : IsReg (v231 X) 7 53 (k0_pay1019 (v231 X) (v1231 X) (v1233 X) (v1235 X) (v1237 X) (v1243 X) (v1245 X) (v1247 X) (v1249 X) (v1250 X)) := regStep h33 h29
  have h35 : IsPend (v231 X) 8 52 (k0_pay1020 (v231 X) (v1231 X) (v1233 X) (v1235 X) (v1237 X) (v1243 X) (v1245 X) (v1247 X) (v1249 X) (v1250 X)) := pendStep h33 h29
  have h36 : IsPend (v231 X) 8 51 (k0_pay1002 (v231 X) (v1231 X) (v1233 X) (v1235 X) (v1237 X) (v1243 X) (v1245 X) (v1247 X) (v1249 X) (v1250 X)) := pendStep h32 h30
  have h37 : IsPend (v231 X) 8 50 (k0_pay984 (v1231 X) (v1233 X) (v1235 X) (v1237 X) (v1250 X)) := pendStep (v1237_is X) h31
  have h38 : IsReg (v231 X) 8 51 (k0_pay985 (v1231 X) (v1233 X) (v1235 X) (v1237 X) (v1239 X) (v1250 X)) := regStep (v1239_is X) h37
  have h39 : IsReg (v231 X) 8 52 (k0_pay1003 (v231 X) (v1231 X) (v1233 X) (v1235 X) (v1237 X) (v1239 X) (v1243 X) (v1245 X) (v1247 X) (v1249 X) (v1250 X)) := regStep h38 h36
  have h40 : IsReg (v231 X) 8 53 (k0_pay1021 (v231 X) (v1231 X) (v1233 X) (v1235 X) (v1237 X) (v1239 X) (v1243 X) (v1245 X) (v1247 X) (v1249 X) (v1250 X)) := regStep h39 h35
  have h41 : IsPend (v231 X) 9 52 (minimumf (k0_pay1003 (v231 X) (v1231 X) (v1233 X) (v1235 X) (v1237 X) (v1239 X) (v1243 X) (v1245 X) (v1247 X) (v1249 X) (v1250 X)) (k0_pay1020 (v231 X) (v1231 X) (v1233 X) (v1235 X) (v1237 X) (v1243 X) (v1245 X) (v1247 X) (v1249 X) (v1250 X))) := pendStep h39 h35
  have h42 : IsPend (v231 X) 9 51 (minimumf (k0_pay985 (v1231 X) (v1233 X) (v1235 X) (v1237 X) (v1239 X) (v1250 X)) (k0_pay1002 (v231 X) (v1231 X) (v1233 X) (v1235 X) (v1237 X) (v1243 X) (v1245 X) (v1247 X) (v1249 X) (v1250 X))) := pendStep h38 h36
  have h43 : IsPend (v231 X) 9 50 (minimumf (v1239 X) (k0_pay984 (v1231 X) (v1233 X) (v1235 X) (v1237 X) (v1250 X))) := pendStep (v1239_is X) h37
  have h44 : IsReg (v231 X) 9 51 (maximumf (v1241 X) (minimumf (v1239 X) (k0_pay984 (v1231 X) (v1233 X) (v1235 X) (v1237 X) (v1250 X)))) := regStep (v1241_is X) h43
  have h45 : IsReg (v231 X) 9 52 (maximumf (maximumf (v1241 X) (minimumf (v1239 X) (k0_pay984 (v1231 X) (v1233 X) (v1235 X) (v1237 X) (v1250 X)))) (minimumf (k0_pay985 (v1231 X) (v1233 X) (v1235 X) (v1237 X) (v1239 X) (v1250 X)) (k0_pay1002 (v231 X) (v1231 X) (v1233 X) (v1235 X) (v1237 X) (v1243 X) (v1245 X) (v1247 X) (v1249 X) (v1250 X)))) := regStep h44 h42
  have h46 : IsReg (v231 X) 9 53 (k0_pay1022 (v231 X) (v1231 X) (v1233 X) (v1235 X) (v1237 X) (v1239 X) (v1241 X) (v1243 X) (v1245 X) (v1247 X) (v1249 X) (v1250 X)) := regStep h45 h41
  have h47 : IsPend (v231 X) 0 53 (k0_pay1023 (v231 X)) := pendInit (v231 X) 53 (by decide) (by decide)
  have h48 : IsReg (v231 X) 0 53 (k0_pay1005 (v231 X) (v1243 X)) := regStep h2 h0
  have h49 : IsReg (v231 X) 0 54 (k0_pay1024 (v231 X) (v1243 X)) := regStep h48 h47
  have h50 : IsPend (v231 X) 1 53 (k0_pay1025 (v231 X) (v1243 X)) := pendStep h48 h47
  have h51 : IsReg (v231 X) 1 53 (k0_pay1007 (v231 X) (v1243 X) (v1245 X)) := regStep h5 h3
  have h52 : IsReg (v231 X) 1 54 (k0_pay1026 (v231 X) (v1243 X) (v1245 X)) := regStep h51 h50
  have h53 : IsPend (v231 X) 2 53 (k0_pay1027 (v231 X) (v1243 X) (v1245 X)) := pendStep h51 h50
  have h54 : IsReg (v231 X) 2 53 (k0_pay1009 (v231 X) (v1243 X) (v1245 X) (v1247 X)) := regStep h8 h6
  have h55 : IsReg (v231 X) 2 54 (k0_pay1028 (v231 X) (v1243 X) (v1245 X) (v1247 X)) := regStep h54 h53
  have h56 : IsPend (v231 X) 3 53 (k0_pay1029 (v231 X) (v1243 X) (v1245 X) (v1247 X)) := pendStep h54 h53
  have h57 : IsReg (v231 X) 3 53 (k0_pay1011 (v231 X) (v1243 X) (v1245 X) (v1247 X) (v1249 X)) := regStep h11 h9
  have h58 : IsReg (v231 X) 3 54 (k0_pay1030 (v231 X) (v1243 X) (v1245 X) (v1247 X) (v1249 X)) := regStep h57 h56
  have h59 : IsPend (v231 X) 4 53 (k0_pay1031 (v231 X) (v1243 X) (v1245 X) (v1247 X) (v1249 X)) := pendStep h57 h56
  exact ⟨h16, h22, h28, h34, h40, h46, h49, h52, h55, h58, h59⟩

theorem v1291_is (X : Ins Ideal) : IsReg (v231 X) 4 53 (v1291 X) := (part23_is X).1

theorem v1293_is (X : Ins Ideal) : IsReg (v231 X) 5 53 (v1293 X) := (part23_is X).2.1

theorem v1295_is (X : Ins Ideal) : IsReg (v231 X) 6 53 (v1295 X) := (part23_is X).2.2.1

theorem v1297_is (X : Ins Ideal) : IsReg (v231 X) 7 53 (v1297 X) := (part23_is X).2.2.2.1

theorem v1299_is (X : Ins Ideal) : IsReg (v231 X) 8 53 (v1299 X) := (part23_is X).2.2.2.2.1

theorem v1301_is (X : Ins Ideal) : IsReg (v231 X) 9 53 (v1301 X) := (part23_is X).2.2.2.2.2.1

theorem v1303_is (X : Ins Ideal) : IsReg (v231 X) 0 54 (v1303 X) := (part23_is X).2.2.2.2.2.2.1

theorem v1305_is (X : Ins Ideal) : IsReg (v231 X) 1 54 (v1305 X) := (part23_is X).2.2.2.2.2.2.2.1

theorem v1307_is (X : Ins Ideal) : IsReg (v231 X) 2 54 (v1307 X) := (part23_is X).2.2.2.2.2.2.2.2.1

theorem v1309_is (X : Ins Ideal) : IsReg (v231 X) 3 54 (v1309 X) := (part23_is X).2.2.2.2.2.2.2.2.2.1

theorem v1310_is (X : Ins Ideal) : IsPend (v231 X) 4 53 (v1310 X) := (part23_is X).2.2.2.2.2.2.2.2.2.2

theorem part24_is (X : Ins Ideal) : IsReg (v231 X) 4 56 (v1351 X) ∧ IsReg (v231 X) 5 56 (v1353 X) ∧ IsReg (v231 X) 6 56 (v1355 X) ∧ IsReg (v231 X) 7 56 (v1357 X) ∧ IsReg (v231 X) 8 56 (v1359 X) ∧ IsReg (v231 X) 9 56 (v1361 X) ∧ IsReg (v231 X) 0 57 (v1363 X) ∧ IsReg (v231 X) 1 57 (v1365 X) ∧ IsReg (v231 X) 2 57 (v1367 X) ∧ IsReg (v231 X) 3 57 (v1369 X) ∧ IsPend (v231 X) 4 56 (v1370 X) := by
  have h0 : IsPend (v231 X) 0 55 (k0_pay1059 (v231 X)) := pendInit (v231 X) 55 (by decide) (by decide)
  have h1 : IsPend (v231 X) 0 54 (k0_pay1041 (v231 X)) := pendInit (v231 X) 54 (by decide) (by decide)
  have h2 : IsReg (v231 X) 0 55 (k0_pay1042 (v231 X) (v1303 X)) := regStep (v1303_is X) h1
  have h3 : IsPend (v231 X) 1 55 (k0_pay1061 (v231 X) (v1303 X)) := pendStep h2 h0
  have h4 : IsPend (v231 X) 1 54 (k0_pay1043 (v231 X) (v1303 X)) := pendStep (v1303_is X) h1
  have h5 : IsReg (v231 X) 1 55 (k0_pay1044 (v231 X) (v1303 X) (v1305 X)) := regStep (v1305_is X) h4
  have h6 : IsPend (v231 X) 2 55 (k0_pay1063 (v231 X) (v1303 X) (v1305 X)) := pendStep h5 h3
  have h7 : IsPend (v231 X) 2 54 (k0_pay1045 (v231 X) (v1303 X) (v1305 X)) := pendStep (v1305_is X) h4
  have h8 : IsReg (v231 X) 2 55 (k0_pay1046 (v231 X) (v1303 X) (v1305 X) (v1307 X)) := regStep (v1307_is X) h7
  have h9 : IsPend (v231 X) 3 55 (k0_pay1065 (v231 X) (v1303 X) (v1305 X) (v1307 X)) := pendStep h8 h6
  have h10 : IsPend (v231 X) 3 54 (k0_pay1047 (v231 X) (v1303 X) (v1305 X) (v1307 X)) := pendStep (v1307_is X) h7
  have h11 : IsReg (v231 X) 3 55 (k0_pay1048 (v231 X) (v1303 X) (v1305 X) (v1307 X) (v1309 X)) := regStep (v1309_is X) h10
  have h12 : IsPend (v231 X) 4 55 (k0_pay1067 (v231 X) (v1303 X) (v1305 X) (v1307 X) (v1309 X)) := pendStep h11 h9
  have h13 : IsPend (v231 X) 4 54 (k0_pay1049 (v231 X) (v1303 X) (v1305 X) (v1307 X) (v1309 X)) := pendStep (v1309_is X) h10
  have h14 : IsReg (v231 X) 4 54 (k0_pay1032 (v1291 X) (v1310 X)) := regStep (v1291_is X) (v1310_is X)
  have h15 : IsReg (v231 X) 4 55 (k0_pay1050 (v231 X) (v1291 X) (v1303 X) (v1305 X) (v1307 X) (v1309 X) (v1310 X)) := regStep h14 h13
  have h16 : IsReg (v231 X) 4 56 (k0_pay1068 (v231 X) (v1291 X) (v1303 X) (v1305 X) (v1307 X) (v1309 X) (v1310 X)) := regStep h15 h12
  have h17 : IsPend (v231 X) 5 55 (k0_pay1069 (v231 X) (v1291 X) (v1303 X) (v1305 X) (v1307 X) (v1309 X) (v1310 X)) := pendStep h15 h12
  have h18 : IsPend (v231 X) 5 54 (k0_pay1051 (v231 X) (v1291 X) (v1303 X) (v1305 X) (v1307 X) (v1309 X) (v1310 X)) := pendStep h14 h13
  have h19 : IsPend (v231 X) 5 53 (k0_pay1033 (v1291 X) (v1310 X)) := pendStep (v1291_is X) (v1310_is X)
  have h20 : IsReg (v231 X) 5 54 (k0_pay1034 (v1291 X) (v1293 X) (v1310 X)) := regStep (v1293_is X) h19
  have h21 : IsReg (v231 X) 5 55 (k0_pay1052 (v231 X) (v1291 X) (v1293 X) (v1303 X) (v1305 X) (v1307 X) (v1309 X) (v1310 X)) := regStep h20 h18
  have h22 : IsReg (v231 X) 5 56 (k0_pay1070 (v231 X) (v1291 X) (v1293 X) (v1303 X) (v1305 X) (v1307 X) (v1309 X) (v1310 X)) := regStep h21 h17
  have h23 : IsPend (v231 X) 6 55 (k0_pay1071 (v231 X) (v1291 X) (v1293 X) (v1303 X) (v1305 X) (v1307 X) (v1309 X) (v1310 X)) := pendStep h21 h17
  have h24 : IsPend (v231 X) 6 54 (k0_pay1053 (v231 X) (v1291 X) (v1293 X) (v1303 X) (v1305 X) (v1307 X) (v1309 X) (v1310 X)) := pendStep h20 h18
  have h25 : IsPend (v231 X) 6 53 (k0_pay1035 (v1291 X) (v1293 X) (v1310 X)) := pendStep (v1293_is X) h19
  have h26 : IsReg (v231 X) 6 54 (k0_pay1036 (v1291 X) (v1293 X) (v1295 X) (v1310 X)) := regStep (v1295_is X) h25
  have h27 : IsReg (v231 X) 6 55 (k0_pay1054 (v231 X) (v1291 X) (v1293 X) (v1295 X) (v1303 X) (v1305 X) (v1307 X) (v1309 X) (v1310 X)) := regStep h26 h24
  have h28 : IsReg (v231 X) 6 56 (k0_pay1072 (v231 X) (v1291 X) (v1293 X) (v1295 X) (v1303 X) (v1305 X) (v1307 X) (v1309 X) (v1310 X)) := regStep h27 h23
  have h29 : IsPend (v231 X) 7 55 (k0_pay1073 (v231 X) (v1291 X) (v1293 X) (v1295 X) (v1303 X) (v1305 X) (v1307 X) (v1309 X) (v1310 X)) := pendStep h27 h23
  have h30 : IsPend (v231 X) 7 54 (k0_pay1055 (v231 X) (v1291 X) (v1293 X) (v1295 X) (v1303 X) (v1305 X) (v1307 X) (v1309 X) (v1310 X)) := pendStep h26 h24
  have h31 : IsPend (v231 X) 7 53 (k0_pay1037 (v1291 X) (v1293 X) (v1295 X) (v1310 X)) := pendStep (v1295_is X) h25
  have h32 : IsReg (v231 X) 7 54 (k0_pay1038 (v1291 X) (v1293 X) (v1295 X) (v1297 X) (v1310 X)) := regStep (v1297_is X) h31
  have h33 : IsReg (v231 X) 7 55 (k0_pay1056 (v231 X) (v1291 X) (v1293 X) (v1295 X) (v1297 X) (v1303 X) (v1305 X) (v1307 X) (v1309 X) (v1310 X)) := regStep h32 h30
  have h34 : IsReg (v231 X) 7 56 (k0_pay1074 (v231 X) (v1291 X) (v1293 X) (v1295 X) (v1297 X) (v1303 X) (v1305 X) (v1307 X) (v1309 X) (v1310 X)) := regStep h33 h29
  have h35 : IsPend (v231 X) 8 55 (k0_pay1075 (v231 X) (v1291 X) (v1293 X) (v1295 X) (v1297 X) (v1303 X) (v1305 X) (v1307 X) (v1309 X) (v1310 X)) := pendStep h33 h29
  have h36 : IsPend (v231 X) 8 54 (k0_pay1057 (v231 X) (v1291 X) (v1293 X) (v1295 X) (v1297 X) (v1303 X) (v1305 X) (v1307 X) (v1309 X) (v1310 X)) := pendStep h32 h30
  have h37 : IsPend (v231 X) 8 53 (k0_pay1039 (v1291 X) (v1293 X) (v1295 X) (v1297 X) (v1310 X)) := pendStep (v1297_is X) h31
  have h38 : IsReg (v231 X) 8 54 (k0_pay1040 (v1291 X) (v1293 X) (v1295 X) (v1297 X) (v1299 X) (v1310 X)) := regStep (v1299_is X) h37
  have h39 : IsReg (v231 X) 8 55 (k0_pay1058 (v231 X) (v1291 X) (v1293 X) (v1295 X) (v1297 X) (v1299 X) (v1303 X) (v1305 X) (v1307 X) (v1309 X) (v1310 X)) := regStep h38 h36
  have h40 : IsReg (v231 X) 8 56 (k0_pay1076 (v231 X) (v1291 X) (v1293 X) (v1295 X) (v1297 X) (v1299 X) (v1303 X) (v1305 X) (v1307 X) (v1309 X) (v1310 X)) := regStep h39 h35
  have h41 : IsPend (v231 X) 9 55 (minimumf (k0_pay1058 (v231 X) (v1291 X) (v1293 X) (v1295 X) (v1297 X) (v1299 X) (v1303 X) (v1305 X) (v1307 X) (v1309 X) (v1310 X)) (k0_pay1075 (v231 X) (v1291 X) (v1293 X) (v1295 X) (v1297 X) (v1303 X) (v1305 X) (v1307 X) (v1309 X) (v1310 X))) := pendStep h39 h35
  have h42 : IsPend (v231 X) 9 54 (minimumf (k0_pay1040 (v1291 X) (v1293 X) (v1295 X) (v1297 X) (v1299 X) (v1310 X)) (k0_pay1057 (v231 X) (v1291 X) (v1293 X) (v1295 X) (v1297 X) (v1303 X) (v1305 X) (v1307 X) (v1309 X) (v1310 X))) := pendStep h38 h36
  have h43 : IsPend (v231 X) 9 53 (minimumf (v1299 X) (k0_pay1039 (v1291 X) (v1293 X) (v1295 X) (v1297 X) (v1310 X))) := pendStep (v1299_is X) h37
  have h44 : IsReg (v231 X) 9 54 (maximumf (v1301 X) (minimumf (v1299 X) (k0_pay1039 (v1291 X) (v1293 X) (v1295 X) (v1297 X) (v1310 X)))) := regStep (v1301_is X) h43
  have h45 : IsReg (v231 X) 9 55 (maximumf (maximumf (v1301 X) (minimumf (v1299 X) (k0_pay1039 (v1291 X) (v1293 X) (v1295 X) (v1297 X) (v1310 X)))) (minimumf (k0_pay1040 (v1291 X) (v1293 X) (v1295 X) (v1297 X) (v1299 X) (v1310 X)) (k0_pay1057 (v231 X) (v1291 X) (v1293 X) (v1295 X) (v1297 X) (v1303 X) (v1305 X) (v1307 X) (v1309 X) (v1310 X)))) := regStep h44 h42
  have h46 : IsReg (v231 X) 9 56 (k0_pay1077 (v231 X) (v1291 X) (v1293 X) (v1295 X) (v1297 X) (v1299 X) (v1301 X) (v1303 X) (v1305 X) (v1307 X) (v1309 X) (v1310 X)) := regStep h45 h41
  have h47 : IsPend (v231 X) 0 56 (k0_pay1078 (v231 X)) := pendInit (v231 X) 56 (by decide) (by decide)
  have h48 : IsReg (v231 X) 0 56 (k0_pay1060 (v231 X) (v1303 X)) := regStep h2 h0
  have h49 : IsReg (v231 X) 0 57 (k0_pay1079 (v231 X) (v1303 X)) := regStep h48 h47
  have h50 : IsPend (v231 X) 1 56 (k0_pay1080 (v231 X) (v1303 X)) := pendStep h48 h47
  have h51 : IsReg (v231 X) 1 56 (k0_pay1062 (v231 X) (v1303 X) (v1305 X)) := regStep h5 h3
  have h52 : IsReg (v231 X) 1 57 (k0_pay1081 (v231 X) (v1303 X) (v1305 X)) := regStep h51 h50
  have h53 : IsPend (v231 X) 2 56 (k0_pay1082 (v231 X) (v1303 X) (v1305 X)) := pendStep h51 h50
  have h54 : IsReg (v231 X) 2 56 (k0_pay1064 (v231 X) (v1303 X) (v1305 X) (v1307 X)) := regStep h8 h6
  have h55 : IsReg (v231 X) 2 57 (k0_pay1083 (v231 X) (v1303 X) (v1305 X) (v1307 X)) := regStep h54 h53
  have h56 : IsPend (v231 X) 3 56 (k0_pay1084 (v231 X) (v1303 X) (v1305 X) (v1307 X)) := pendStep h54 h53
  have h57 : IsReg (v231 X) 3 56 (k0_pay1066 (v231 X) (v1303 X) (v1305 X) (v1307 X) (v1309 X)) := regStep h11 h9
  have h58 : IsReg (v231 X) 3 57 (k0_pay1085 (v231 X) (v1303 X) (v1305 X) (v1307 X) (v1309 X)) := regStep h57 h56
  have h59 : IsPend (v231 X) 4 56 (k0_pay1086 (v231 X) (v1303 X) (v1305 X) (v1307 X) (v1309 X)) := pendStep h57 h56
  exact ⟨h16, h22, h28, h34, h40, h46, h49, h52, h55, h58, h59⟩

theorem v1351_is (X : Ins Ideal) : IsReg (v231 X) 4 56 (v1351 X) := (part24_is X).1

theorem v1353_is (X : Ins Ideal) : IsReg (v231 X) 5 56 (v1353 X) := (part24_is X).2.1

theorem v1355_is (X : Ins Ideal) : IsReg (v231 X) 6 56 (v1355 X) := (part24_is X).2.2.1

theorem v1357_is (X : Ins Ideal) : IsReg (v231 X) 7 56 (v1357 X) := (part24_is X).2.2.2.1

theorem v1359_is (X : Ins Ideal) : IsReg (v231 X) 8 56 (v1359 X) := (part24_is X).2.2.2.2.1

theorem v1361_is (X : Ins Ideal) : IsReg (v231 X) 9 56 (v1361 X) := (part24_is X).2.2.2.2.2.1

theorem v1363_is (X : Ins Ideal) : IsReg (v231 X) 0 57 (v1363 X) := (part24_is X).2.2.2.2.2.2.1

theorem v1365_is (X : Ins Ideal) : IsReg (v231 X) 1 57 (v1365 X) := (part24_is X).2.2.2.2.2.2.2.1

theorem v1367_is (X : Ins Ideal) : IsReg (v231 X) 2 57 (v1367 X) := (part24_is X).2.2.2.2.2.2.2.2.1

theorem v1369_is (X : Ins Ideal) : IsReg (v231 X) 3 57 (v1369 X) := (part24_is X).2.2.2.2.2.2.2.2.2.1

theorem v1370_is (X : Ins Ideal) : IsPend (v231 X) 4 56 (v1370 X) := (part24_is X).2.2.2.2.2.2.2.2.2.2

theorem part25_is (X : Ins Ideal) : IsReg (v231 X) 4 59 (v1411 X) ∧ IsReg (v231 X) 5 59 (v1413 X) ∧ IsReg (v231 X) 6 59 (v1415 X) ∧ IsReg (v231 X) 7 59 (v1417 X) ∧ IsReg (v231 X) 8 59 (v1419 X) ∧ IsReg (v231 X) 9 59 (v1421 X) ∧ IsReg (v231 X) 0 60 (v1423 X) ∧ IsReg (v231 X) 1 60 (v1425 X) ∧ IsReg (v231 X) 2 60 (v1427 X) ∧ IsReg (v231 X) 3 60 (v1429 X) ∧ IsPend (v231 X) 4 59 (v1430 X) := by
  have h0 : IsPend (v231 X) 0 58 (k0_pay1114 (v231 X)) := pendInit (v231 X) 58 (by decide) (by decide)
  have h1 : IsPend (v231 X) 0 57 (k0_pay1096 (v231 X)) := pendInit (v231 X) 57 (by decide) (by decide)
  have h2 : IsReg (v231 X) 0 58 (k0_pay1097 (v231 X) (v1363 X)) := regStep (v1363_is X) h1
  have h3 : IsPend (v231 X) 1 58 (k0_pay1116 (v231 X) (v1363 X)) := pendStep h2 h0
  have h4 : IsPend (v231 X) 1 57 (k0_pay1098 (v231 X) (v1363 X)) := pendStep (v1363_is X) h1
  have h5 : IsReg (v231 X) 1 58 (k0_pay1099 (v231 X) (v1363 X) (v1365 X)) := regStep (v1365_is X) h4
  have h6 : IsPend (v231 X) 2 58 (k0_pay1118 (v231 X) (v1363 X) (v1365 X)) := pendStep h5 h3
  have h7 : IsPend (v231 X) 2 57 (k0_pay1100 (v231 X) (v1363 X) (v1365 X)) := pendStep (v1365_is X) h4
  have h8 : IsReg (v231 X) 2 58 (k0_pay1101 (v231 X) (v1363 X) (v1365 X) (v1367 X)) := regStep (v1367_is X) h7
  have h9 : IsPend (v231 X) 3 58 (k0_pay1120 (v231 X) (v1363 X) (v1365 X) (v1367 X)) := pendStep h8 h6
  have h10 : IsPend (v231 X) 3 57 (k0_pay1102 (v231 X) (v1363 X) (v1365 X) (v1367 X)) := pendStep (v1367_is X) h7
  have h11 : IsReg (v231 X) 3 58 (k0_pay1103 (v231 X) (v1363 X) (v1365 X) (v1367 X) (v1369 X)) := regStep (v1369_is X) h10
  have h12 : IsPend (v231 X) 4 58 (k0_pay1122 (v231 X) (v1363 X) (v1365 X) (v1367 X) (v1369 X)) := pendStep h11 h9
  have h13 : IsPend (v231 X) 4 57 (k0_pay1104 (v231 X) (v1363 X) (v1365 X) (v1367 X) (v1369 X)) := pendStep (v1369_is X) h10
  have h14 : IsReg (v231 X) 4 57 (k0_pay1087 (v1351 X) (v1370 X)) := regStep (v1351_is X) (v1370_is X)
  have h15 : IsReg (v231 X) 4 58 (k0_pay1105 (v231 X) (v1351 X) (v1363 X) (v1365 X) (v1367 X) (v1369 X) (v1370 X)) := regStep h14 h13
  have h16 : IsReg (v231 X) 4 59 (k0_pay1123 (v231 X) (v1351 X) (v1363 X) (v1365 X) (v1367 X) (v1369 X) (v1370 X)) := regStep h15 h12
  have h17 : IsPend (v231 X) 5 58 (k0_pay1124 (v231 X) (v1351 X) (v1363 X) (v1365 X) (v1367 X) (v1369 X) (v1370 X)) := pendStep h15 h12
  have h18 : IsPend (v231 X) 5 57 (k0_pay1106 (v231 X) (v1351 X) (v1363 X) (v1365 X) (v1367 X) (v1369 X) (v1370 X)) := pendStep h14 h13
  have h19 : IsPend (v231 X) 5 56 (k0_pay1088 (v1351 X) (v1370 X)) := pendStep (v1351_is X) (v1370_is X)
  have h20 : IsReg (v231 X) 5 57 (k0_pay1089 (v1351 X) (v1353 X) (v1370 X)) := regStep (v1353_is X) h19
  have h21 : IsReg (v231 X) 5 58 (k0_pay1107 (v231 X) (v1351 X) (v1353 X) (v1363 X) (v1365 X) (v1367 X) (v1369 X) (v1370 X)) := regStep h20 h18
  have h22 : IsReg (v231 X) 5 59 (k0_pay1125 (v231 X) (v1351 X) (v1353 X) (v1363 X) (v1365 X) (v1367 X) (v1369 X) (v1370 X)) := regStep h21 h17
  have h23 : IsPend (v231 X) 6 58 (k0_pay1126 (v231 X) (v1351 X) (v1353 X) (v1363 X) (v1365 X) (v1367 X) (v1369 X) (v1370 X)) := pendStep h21 h17
  have h24 : IsPend (v231 X) 6 57 (k0_pay1108 (v231 X) (v1351 X) (v1353 X) (v1363 X) (v1365 X) (v1367 X) (v1369 X) (v1370 X)) := pendStep h20 h18
  have h25 : IsPend (v231 X) 6 56 (k0_pay1090 (v1351 X) (v1353 X) (v1370 X)) := pendStep (v1353_is X) h19
  have h26 : IsReg (v231 X) 6 57 (k0_pay1091 (v1351 X) (v1353 X) (v1355 X) (v1370 X)) := regStep (v1355_is X) h25
  have h27 : IsReg (v231 X) 6 58 (k0_pay1109 (v231 X) (v1351 X) (v1353 X) (v1355 X) (v1363 X) (v1365 X) (v1367 X) (v1369 X) (v1370 X)) := regStep h26 h24
  have h28 : IsReg (v231 X) 6 59 (k0_pay1127 (v231 X) (v1351 X) (v1353 X) (v1355 X) (v1363 X) (v1365 X) (v1367 X) (v1369 X) (v1370 X)) := regStep h27 h23
  have h29 : IsPend (v231 X) 7 58 (k0_pay1128 (v231 X) (v1351 X) (v1353 X) (v1355 X) (v1363 X) (v1365 X) (v1367 X) (v1369 X) (v1370 X)) := pendStep h27 h23
  have h30 : IsPend (v231 X) 7 57 (k0_pay1110 (v231 X) (v1351 X) (v1353 X) (v1355 X) (v1363 X) (v1365 X) (v1367 X) (v1369 X) (v1370 X)) := pendStep h26 h24
  have h31 : IsPend (v231 X) 7 56 (k0_pay1092 (v1351 X) (v1353 X) (v1355 X) (v1370 X)) := pendStep (v1355_is X) h25
  have h32 : IsReg (v231 X) 7 57 (k0_pay1093 (v1351 X) (v1353 X) (v1355 X) (v1357 X) (v1370 X)) := regStep (v1357_is X) h31
  have h33 : IsReg (v231 X) 7 58 (k0_pay1111 (v231 X) (v1351 X) (v1353 X) (v1355 X) (v1357 X) (v1363 X) (v1365 X) (v1367 X) (v1369 X) (v1370 X)) := regStep h32 h30
  have h34 : IsReg (v231 X) 7 59 (k0_pay1129 (v231 X) (v1351 X) (v1353 X) (v1355 X) (v1357 X) (v1363 X) (v1365 X) (v1367 X) (v1369 X) (v1370 X)) := regStep h33 h29
  have h35 : IsPend (v231 X) 8 58 (k0_pay1130 (v231 X) (v1351 X) (v1353 X) (v1355 X) (v1357 X) (v1363 X) (v1365 X) (v1367 X) (v1369 X) (v1370 X)) := pendStep h33 h29
  have h36 : IsPend (v231 X) 8 57 (k0_pay1112 (v231 X) (v1351 X) (v1353 X) (v1355 X) (v1357 X) (v1363 X) (v1365 X) (v1367 X) (v1369 X) (v1370 X)) := pendStep h32 h30
  have h37 : IsPend (v231 X) 8 56 (k0_pay1094 (v1351 X) (v1353 X) (v1355 X) (v1357 X) (v1370 X)) := pendStep (v1357_is X) h31
  have h38 : IsReg (v231 X) 8 57 (k0_pay1095 (v1351 X) (v1353 X) (v1355 X) (v1357 X) (v1359 X) (v1370 X)) := regStep (v1359_is X) h37
  have h39 : IsReg (v231 X) 8 58 (k0_pay1113 (v231 X) (v1351 X) (v1353 X) (v1355 X) (v1357 X) (v1359 X) (v1363 X) (v1365 X) (v1367 X) (v1369 X) (v1370 X)) := regStep h38 h36
  have h40 : IsReg (v231 X) 8 59 (k0_pay1131 (v231 X) (v1351 X) (v1353 X) (v1355 X) (v1357 X) (v1359 X) (v1363 X) (v1365 X) (v1367 X) (v1369 X) (v1370 X)) := regStep h39 h35
  have h41 : IsPend (v231 X) 9 58 (minimumf (k0_pay1113 (v231 X) (v1351 X) (v1353 X) (v1355 X) (v1357 X) (v1359 X) (v1363 X) (v1365 X) (v1367 X) (v1369 X) (v1370 X)) (k0_pay1130 (v231 X) (v1351 X) (v1353 X) (v1355 X) (v1357 X) (v1363 X) (v1365 X) (v1367 X) (v1369 X) (v1370 X))) := pendStep h39 h35
  have h42 : IsPend (v231 X) 9 57 (minimumf (k0_pay1095 (v1351 X) (v1353 X) (v1355 X) (v1357 X) (v1359 X) (v1370 X)) (k0_pay1112 (v231 X) (v1351 X) (v1353 X) (v1355 X) (v1357 X) (v1363 X) (v1365 X) (v1367 X) (v1369 X) (v1370 X))) := pendStep h38 h36
  have h43 : IsPend (v231 X) 9 56 (minimumf (v1359 X) (k0_pay1094 (v1351 X) (v1353 X) (v1355 X) (v1357 X) (v1370 X))) := pendStep (v1359_is X) h37
  have h44 : IsReg (v231 X) 9 57 (maximumf (v1361 X) (minimumf (v1359 X) (k0_pay1094 (v1351 X) (v1353 X) (v1355 X) (v1357 X) (v1370 X)))) := regStep (v1361_is X) h43
  have h45 : IsReg (v231 X) 9 58 (maximumf (maximumf (v1361 X) (minimumf (v1359 X) (k0_pay1094 (v1351 X) (v1353 X) (v1355 X) (v1357 X) (v1370 X)))) (minimumf (k0_pay1095 (v1351 X) (v1353 X) (v1355 X) (v1357 X) (v1359 X) (v1370 X)) (k0_pay1112 (v231 X) (v1351 X) (v1353 X) (v1355 X) (v1357 X) (v1363 X) (v1365 X) (v1367 X) (v1369 X) (v1370 X)))) := regStep h44 h42
  have h46 : IsReg (v231 X) 9 59 (k0_pay1132 (v231 X) (v1351 X) (v1353 X) (v1355 X) (v1357 X) (v1359 X) (v1361 X) (v1363 X) (v1365 X) (v1367 X) (v1369 X) (v1370 X)) := regStep h45 h41
  have h47 : IsPend (v231 X) 0 59 (k0_pay1133 (v231 X)) := pendInit (v231 X) 59 (by decide) (by decide)
  have h48 : IsReg (v231 X) 0 59 (k0_pay1115 (v231 X) (v1363 X)) := regStep h2 h0
  have h49 : IsReg (v231 X) 0 60 (k0_pay1134 (v231 X) (v1363 X)) := regStep h48 h47
  have h50 : IsPend (v231 X) 1 59 (k0_pay1135 (v231 X) (v1363 X)) := pendStep h48 h47
  have h51 : IsReg (v231 X) 1 59 (k0_pay1117 (v231 X) (v1363 X) (v1365 X)) := regStep h5 h3
  have h52 : IsReg (v231 X) 1 60 (k0_pay1136 (v231 X) (v1363 X) (v1365 X)) := regStep h51 h50
  have h53 : IsPend (v231 X) 2 59 (k0_pay1137 (v231 X) (v1363 X) (v1365 X)) := pendStep h51 h50
  have h54 : IsReg (v231 X) 2 59 (k0_pay1119 (v231 X) (v1363 X) (v1365 X) (v1367 X)) := regStep h8 h6
  have h55 : IsReg (v231 X) 2 60 (k0_pay1138 (v231 X) (v1363 X) (v1365 X) (v1367 X)) := regStep h54 h53
  have h56 : IsPend (v231 X) 3 59 (k0_pay1139 (v231 X) (v1363 X) (v1365 X) (v1367 X)) := pendStep h54 h53
  have h57 : IsReg (v231 X) 3 59 (k0_pay1121 (v231 X) (v1363 X) (v1365 X) (v1367 X) (v1369 X)) := regStep h11 h9
  have h58 : IsReg (v231 X) 3 60 (k0_pay1140 (v231 X) (v1363 X) (v1365 X) (v1367 X) (v1369 X)) := regStep h57 h56
  have h59 : IsPend (v231 X) 4 59 (k0_pay1141 (v231 X) (v1363 X) (v1365 X) (v1367 X) (v1369 X)) := pendStep h57 h56
  exact ⟨h16, h22, h28, h34, h40, h46, h49, h52, h55, h58, h59⟩

theorem v1411_is (X : Ins Ideal) : IsReg (v231 X) 4 59 (v1411 X) := (part25_is X).1

theorem v1413_is (X : Ins Ideal) : IsReg (v231 X) 5 59 (v1413 X) := (part25_is X).2.1

theorem v1415_is (X : Ins Ideal) : IsReg (v231 X) 6 59 (v1415 X) := (part25_is X).2.2.1

theorem v1417_is (X : Ins Ideal) : IsReg (v231 X) 7 59 (v1417 X) := (part25_is X).2.2.2.1

theorem v1419_is (X : Ins Ideal) : IsReg (v231 X) 8 59 (v1419 X) := (part25_is X).2.2.2.2.1

theorem v1421_is (X : Ins Ideal) : IsReg (v231 X) 9 59 (v1421 X) := (part25_is X).2.2.2.2.2.1

theorem v1423_is (X : Ins Ideal) : IsReg (v231 X) 0 60 (v1423 X) := (part25_is X).2.2.2.2.2.2.1

theorem v1425_is (X : Ins Ideal) : IsReg (v231 X) 1 60 (v1425 X) := (part25_is X).2.2.2.2.2.2.2.1

theorem v1427_is (X : Ins Ideal) : IsReg (v231 X) 2 60 (v1427 X) := (part25_is X).2.2.2.2.2.2.2.2.1

theorem v1429_is (X : Ins Ideal) : IsReg (v231 X) 3 60 (v1429 X) := (part25_is X).2.2.2.2.2.2.2.2.2.1

theorem v1430_is (X : Ins Ideal) : IsPend (v231 X) 4 59 (v1430 X) := (part25_is X).2.2.2.2.2.2.2.2.2.2

theorem part26_is (X : Ins Ideal) : IsReg (v231 X) 4 62 (v1471 X) ∧ IsReg (v231 X) 5 62 (v1473 X) ∧ IsReg (v231 X) 6 62 (v1475 X) ∧ IsReg (v231 X) 7 62 (v1477 X) ∧ IsReg (v231 X) 8 62 (v1479 X) ∧ IsReg (v231 X) 9 62 (v1481 X) ∧ IsReg (v231 X) 0 63 (v1483 X) ∧ IsReg (v231 X) 1 63 (v1485 X) ∧ IsReg (v231 X) 2 63 (v1487 X) ∧ IsReg (v231 X) 3 63 (v1489 X) ∧ IsPend (v231 X) 4 62 (v1490 X) := by
  have h0 : IsPend (v231 X) 0 61 (k0_pay1169 (v231 X)) := pendInit (v231 X) 61 (by decide) (by decide)
  have h1 : IsPend (v231 X) 0 60 (k0_pay1151 (v231 X)) := pendInit (v231 X) 60 (by decide) (by decide)
  have h2 : IsReg (v231 X) 0 61 (k0_pay1152 (v231 X) (v1423 X)) := regStep (v1423_is X) h1
  have h3 : IsPend (v231 X) 1 61 (k0_pay1171 (v231 X) (v1423 X)) := pendStep h2 h0
  have h4 : IsPend (v231 X) 1 60 (k0_pay1153 (v231 X) (v1423 X)) := pendStep (v1423_is X) h1
  have h5 : IsReg (v231 X) 1 61 (k0_pay1154 (v231 X) (v1423 X) (v1425 X)) := regStep (v1425_is X) h4
  have h6 : IsPend (v231 X) 2 61 (k0_pay1173 (v231 X) (v1423 X) (v1425 X)) := pendStep h5 h3
  have h7 : IsPend (v231 X) 2 60 (k0_pay1155 (v231 X) (v1423 X) (v1425 X)) := pendStep (v1425_is X) h4
  have h8 : IsReg (v231 X) 2 61 (k0_pay1156 (v231 X) (v1423 X) (v1425 X) (v1427 X)) := regStep (v1427_is X) h7
  have h9 : IsPend (v231 X) 3 61 (k0_pay1175 (v231 X) (v1423 X) (v1425 X) (v1427 X)) := pendStep h8 h6
  have h10 : IsPend (v231 X) 3 60 (k0_pay1157 (v231 X) (v1423 X) (v1425 X) (v1427 X)) := pendStep (v1427_is X) h7
  have h11 : IsReg (v231 X) 3 61 (k0_pay1158 (v231 X) (v1423 X) (v1425 X) (v1427 X) (v1429 X)) := regStep (v1429_is X) h10
  have h12 : IsPend (v231 X) 4 61 (k0_pay1177 (v231 X) (v1423 X) (v1425 X) (v1427 X) (v1429 X)) := pendStep h11 h9
  have h13 : IsPend (v231 X) 4 60 (k0_pay1159 (v231 X) (v1423 X) (v1425 X) (v1427 X) (v1429 X)) := pendStep (v1429_is X) h10
  have h14 : IsReg (v231 X) 4 60 (k0_pay1142 (v1411 X) (v1430 X)) := regStep (v1411_is X) (v1430_is X)
  have h15 : IsReg (v231 X) 4 61 (k0_pay1160 (v231 X) (v1411 X) (v1423 X) (v1425 X) (v1427 X) (v1429 X) (v1430 X)) := regStep h14 h13
  have h16 : IsReg (v231 X) 4 62 (k0_pay1178 (v231 X) (v1411 X) (v1423 X) (v1425 X) (v1427 X) (v1429 X) (v1430 X)) := regStep h15 h12
  have h17 : IsPend (v231 X) 5 61 (k0_pay1179 (v231 X) (v1411 X) (v1423 X) (v1425 X) (v1427 X) (v1429 X) (v1430 X)) := pendStep h15 h12
  have h18 : IsPend (v231 X) 5 60 (k0_pay1161 (v231 X) (v1411 X) (v1423 X) (v1425 X) (v1427 X) (v1429 X) (v1430 X)) := pendStep h14 h13
  have h19 : IsPend (v231 X) 5 59 (k0_pay1143 (v1411 X) (v1430 X)) := pendStep (v1411_is X) (v1430_is X)
  have h20 : IsReg (v231 X) 5 60 (k0_pay1144 (v1411 X) (v1413 X) (v1430 X)) := regStep (v1413_is X) h19
  have h21 : IsReg (v231 X) 5 61 (k0_pay1162 (v231 X) (v1411 X) (v1413 X) (v1423 X) (v1425 X) (v1427 X) (v1429 X) (v1430 X)) := regStep h20 h18
  have h22 : IsReg (v231 X) 5 62 (k0_pay1180 (v231 X) (v1411 X) (v1413 X) (v1423 X) (v1425 X) (v1427 X) (v1429 X) (v1430 X)) := regStep h21 h17
  have h23 : IsPend (v231 X) 6 61 (k0_pay1181 (v231 X) (v1411 X) (v1413 X) (v1423 X) (v1425 X) (v1427 X) (v1429 X) (v1430 X)) := pendStep h21 h17
  have h24 : IsPend (v231 X) 6 60 (k0_pay1163 (v231 X) (v1411 X) (v1413 X) (v1423 X) (v1425 X) (v1427 X) (v1429 X) (v1430 X)) := pendStep h20 h18
  have h25 : IsPend (v231 X) 6 59 (k0_pay1145 (v1411 X) (v1413 X) (v1430 X)) := pendStep (v1413_is X) h19
  have h26 : IsReg (v231 X) 6 60 (k0_pay1146 (v1411 X) (v1413 X) (v1415 X) (v1430 X)) := regStep (v1415_is X) h25
  have h27 : IsReg (v231 X) 6 61 (k0_pay1164 (v231 X) (v1411 X) (v1413 X) (v1415 X) (v1423 X) (v1425 X) (v1427 X) (v1429 X) (v1430 X)) := regStep h26 h24
  have h28 : IsReg (v231 X) 6 62 (k0_pay1182 (v231 X) (v1411 X) (v1413 X) (v1415 X) (v1423 X) (v1425 X) (v1427 X) (v1429 X) (v1430 X)) := regStep h27 h23
  have h29 : IsPend (v231 X) 7 61 (k0_pay1183 (v231 X) (v1411 X) (v1413 X) (v1415 X) (v1423 X) (v1425 X) (v1427 X) (v1429 X) (v1430 X)) := pendStep h27 h23
  have h30 : IsPend (v231 X) 7 60 (k0_pay1165 (v231 X) (v1411 X) (v1413 X) (v1415 X) (v1423 X) (v1425 X) (v1427 X) (v1429 X) (v1430 X)) := pendStep h26 h24
  have h31 : IsPend (v231 X) 7 59 (k0_pay1147 (v1411 X) (v1413 X) (v1415 X) (v1430 X)) := pendStep (v1415_is X) h25
  have h32 : IsReg (v231 X) 7 60 (k0_pay1148 (v1411 X) (v1413 X) (v1415 X) (v1417 X) (v1430 X)) := regStep (v1417_is X) h31
  have h33 : IsReg (v231 X) 7 61 (k0_pay1166 (v231 X) (v1411 X) (v1413 X) (v1415 X) (v1417 X) (v1423 X) (v1425 X) (v1427 X) (v1429 X) (v1430 X)) := regStep h32 h30
  have h34 : IsReg (v231 X) 7 62 (k0_pay1184 (v231 X) (v1411 X) (v1413 X) (v1415 X) (v1417 X) (v1423 X) (v1425 X) (v1427 X) (v1429 X) (v1430 X)) := regStep h33 h29
  have h35 : IsPend (v231 X) 8 61 (k0_pay1185 (v231 X) (v1411 X) (v1413 X) (v1415 X) (v1417 X) (v1423 X) (v1425 X) (v1427 X) (v1429 X) (v1430 X)) := pendStep h33 h29
  have h36 : IsPend (v231 X) 8 60 (k0_pay1167 (v231 X) (v1411 X) (v1413 X) (v1415 X) (v1417 X) (v1423 X) (v1425 X) (v1427 X) (v1429 X) (v1430 X)) := pendStep h32 h30
  have h37 : IsPend (v231 X) 8 59 (k0_pay1149 (v1411 X) (v1413 X) (v1415 X) (v1417 X) (v1430 X)) := pendStep (v1417_is X) h31
  have h38 : IsReg (v231 X) 8 60 (k0_pay1150 (v1411 X) (v1413 X) (v1415 X) (v1417 X) (v1419 X) (v1430 X)) := regStep (v1419_is X) h37
  have h39 : IsReg (v231 X) 8 61 (k0_pay1168 (v231 X) (v1411 X) (v1413 X) (v1415 X) (v1417 X) (v1419 X) (v1423 X) (v1425 X) (v1427 X) (v1429 X) (v1430 X)) := regStep h38 h36
  have h40 : IsReg (v231 X) 8 62 (k0_pay1186 (v231 X) (v1411 X) (v1413 X) (v1415 X) (v1417 X) (v1419 X) (v1423 X) (v1425 X) (v1427 X) (v1429 X) (v1430 X)) := regStep h39 h35
  have h41 : IsPend (v231 X) 9 61 (minimumf (k0_pay1168 (v231 X) (v1411 X) (v1413 X) (v1415 X) (v1417 X) (v1419 X) (v1423 X) (v1425 X) (v1427 X) (v1429 X) (v1430 X)) (k0_pay1185 (v231 X) (v1411 X) (v1413 X) (v1415 X) (v1417 X) (v1423 X) (v1425 X) (v1427 X) (v1429 X) (v1430 X))) := pendStep h39 h35
  have h42 : IsPend (v231 X) 9 60 (minimumf (k0_pay1150 (v1411 X) (v1413 X) (v1415 X) (v1417 X) (v1419 X) (v1430 X)) (k0_pay1167 (v231 X) (v1411 X) (v1413 X) (v1415 X) (v1417 X) (v1423 X) (v1425 X) (v1427 X) (v1429 X) (v1430 X))) := pendStep h38 h36
  have h43 : IsPend (v231 X) 9 59 (minimumf (v1419 X) (k0_pay1149 (v1411 X) (v1413 X) (v1415 X) (v1417 X) (v1430 X))) := pendStep (v1419_is X) h37
  have h44 : IsReg (v231 X) 9 60 (maximumf (v1421 X) (minimumf (v1419 X) (k0_pay1149 (v1411 X) (v1413 X) (v1415 X) (v1417 X) (v1430 X)))) := regStep (v1421_is X) h43
  have h45 : IsReg (v231 X) 9 61 (maximumf (maximumf (v1421 X) (minimumf (v1419 X) (k0_pay1149 (v1411 X) (v1413 X) (v1415 X) (v1417 X) (v1430 X)))) (minimumf (k0_pay1150 (v1411 X) (v1413 X) (v1415 X) (v1417 X) (v1419 X) (v1430 X)) (k0_pay1167 (v231 X) (v1411 X) (v1413 X) (v1415 X) (v1417 X) (v1423 X) (v1425 X) (v1427 X) (v1429 X) (v1430 X)))) := regStep h44 h42
  have h46 : IsReg (v231 X) 9 62 (k0_pay1187 (v231 X) (v1411 X) (v1413 X) (v1415 X) (v1417 X) (v1419 X) (v1421 X) (v1423 X) (v1425 X) (v1427 X) (v1429 X) (v1430 X)) := regStep h45 h41
  have h47 : IsPend (v231 X) 0 62 (k0_pay1188 (v231 X)) := pendInit (v231 X) 62 (by decide) (by decide)
  have h48 : IsReg (v231 X) 0 62 (k0_pay1170 (v231 X) (v1423 X)) := regStep h2 h0
  have h49 : IsReg (v231 X) 0 63 (k0_pay1189 (v231 X) (v1423 X)) := regStep h48 h47
  have h50 : IsPend (v231 X) 1 62 (k0_pay1190 (v231 X) (v1423 X)) := pendStep h48 h47
  have h51 : IsReg (v231 X) 1 62 (k0_pay1172 (v231 X) (v1423 X) (v1425 X)) := regStep h5 h3
  have h52 : IsReg (v231 X) 1 63 (k0_pay1191 (v231 X) (v1423 X) (v1425 X)) := regStep h51 h50
  have h53 : IsPend (v231 X) 2 62 (k0_pay1192 (v231 X) (v1423 X) (v1425 X)) := pendStep h51 h50
  have h54 : IsReg (v231 X) 2 62 (k0_pay1174 (v231 X) (v1423 X) (v1425 X) (v1427 X)) := regStep h8 h6
  have h55 : IsReg (v231 X) 2 63 (k0_pay1193 (v231 X) (v1423 X) (v1425 X) (v1427 X)) := regStep h54 h53
  have h56 : IsPend (v231 X) 3 62 (k0_pay1194 (v231 X) (v1423 X) (v1425 X) (v1427 X)) := pendStep h54 h53
  have h57 : IsReg (v231 X) 3 62 (k0_pay1176 (v231 X) (v1423 X) (v1425 X) (v1427 X) (v1429 X)) := regStep h11 h9
  have h58 : IsReg (v231 X) 3 63 (k0_pay1195 (v231 X) (v1423 X) (v1425 X) (v1427 X) (v1429 X)) := regStep h57 h56
  have h59 : IsPend (v231 X) 4 62 (k0_pay1196 (v231 X) (v1423 X) (v1425 X) (v1427 X) (v1429 X)) := pendStep h57 h56
  exact ⟨h16, h22, h28, h34, h40, h46, h49, h52, h55, h58, h59⟩

theorem v1471_is (X : Ins Ideal) : IsReg (v231 X) 4 62 (v1471 X) := (part26_is X).1

theorem v1473_is (X : Ins Ideal) : IsReg (v231 X) 5 62 (v1473 X) := (part26_is X).2.1

theorem v1475_is (X : Ins Ideal) : IsReg (v231 X) 6 62 (v1475 X) := (part26_is X).2.2.1

theorem v1477_is (X : Ins Ideal) : IsReg (v231 X) 7 62 (v1477 X) := (part26_is X).2.2.2.1

theorem v1479_is (X : Ins Ideal) : IsReg (v231 X) 8 62 (v1479 X) := (part26_is X).2.2.2.2.1

theorem v1481_is (X : Ins Ideal) : IsReg (v231 X) 9 62 (v1481 X) := (part26_is X).2.2.2.2.2.1

theorem v1483_is (X : Ins Ideal) : IsReg (v231 X) 0 63 (v1483 X) := (part26_is X).2.2.2.2.2.2.1

theorem v1485_is (X : Ins Ideal) : IsReg (v231 X) 1 63 (v1485 X) := (part26_is X).2.2.2.2.2.2.2.1

theorem v1487_is (X : Ins Ideal) : IsReg (v231 X) 2 63 (v1487 X) := (part26_is X).2.2.2.2.2.2.2.2.1

theorem v1489_is (X : Ins Ideal) : IsReg (v231 X) 3 63 (v1489 X) := (part26_is X).2.2.2.2.2.2.2.2.2.1

theorem v1490_is (X : Ins Ideal) : IsPend (v231 X) 4 62 (v1490 X) := (part26_is X).2.2.2.2.2.2.2.2.2.2

theorem part27_is (X : Ins Ideal) : IsReg (v231 X) 4 65 (v1531 X) ∧ IsReg (v231 X) 5 65 (v1533 X) ∧ IsReg (v231 X) 6 65 (v1535 X) ∧ IsReg (v231 X) 7 65 (v1537 X) ∧ IsReg (v231 X) 8 65 (v1539 X) ∧ IsReg (v231 X) 9 65 (v1541 X) ∧ IsReg (v231 X) 0 66 (v1543 X) ∧ IsReg (v231 X) 1 66 (v1545 X) ∧ IsReg (v231 X) 2 66 (v1547 X) ∧ IsReg (v231 X) 3 66 (v1549 X) ∧ IsPend (v231 X) 4 65 (v1550 X) := by
  have h0 : IsPend (v231 X) 0 64 (k0_pay1224 (v231 X)) := pendInit (v231 X) 64 (by decide) (by decide)
  have h1 : IsPend (v231 X) 0 63 (k0_pay1206 (v231 X)) := pendInit (v231 X) 63 (by decide) (by decide)
  have h2 : IsReg (v231 X) 0 64 (k0_pay1207 (v231 X) (v1483 X)) := regStep (v1483_is X) h1
  have h3 : IsPend (v231 X) 1 64 (k0_pay1226 (v231 X) (v1483 X)) := pendStep h2 h0
  have h4 : IsPend (v231 X) 1 63 (k0_pay1208 (v231 X) (v1483 X)) := pendStep (v1483_is X) h1
  have h5 : IsReg (v231 X) 1 64 (k0_pay1209 (v231 X) (v1483 X) (v1485 X)) := regStep (v1485_is X) h4
  have h6 : IsPend (v231 X) 2 64 (k0_pay1228 (v231 X) (v1483 X) (v1485 X)) := pendStep h5 h3
  have h7 : IsPend (v231 X) 2 63 (k0_pay1210 (v231 X) (v1483 X) (v1485 X)) := pendStep (v1485_is X) h4
  have h8 : IsReg (v231 X) 2 64 (k0_pay1211 (v231 X) (v1483 X) (v1485 X) (v1487 X)) := regStep (v1487_is X) h7
  have h9 : IsPend (v231 X) 3 64 (k0_pay1230 (v231 X) (v1483 X) (v1485 X) (v1487 X)) := pendStep h8 h6
  have h10 : IsPend (v231 X) 3 63 (k0_pay1212 (v231 X) (v1483 X) (v1485 X) (v1487 X)) := pendStep (v1487_is X) h7
  have h11 : IsReg (v231 X) 3 64 (k0_pay1213 (v231 X) (v1483 X) (v1485 X) (v1487 X) (v1489 X)) := regStep (v1489_is X) h10
  have h12 : IsPend (v231 X) 4 64 (k0_pay1232 (v231 X) (v1483 X) (v1485 X) (v1487 X) (v1489 X)) := pendStep h11 h9
  have h13 : IsPend (v231 X) 4 63 (k0_pay1214 (v231 X) (v1483 X) (v1485 X) (v1487 X) (v1489 X)) := pendStep (v1489_is X) h10
  have h14 : IsReg (v231 X) 4 63 (k0_pay1197 (v1471 X) (v1490 X)) := regStep (v1471_is X) (v1490_is X)
  have h15 : IsReg (v231 X) 4 64 (k0_pay1215 (v231 X) (v1471 X) (v1483 X) (v1485 X) (v1487 X) (v1489 X) (v1490 X)) := regStep h14 h13
  have h16 : IsReg (v231 X) 4 65 (k0_pay1233 (v231 X) (v1471 X) (v1483 X) (v1485 X) (v1487 X) (v1489 X) (v1490 X)) := regStep h15 h12
  have h17 : IsPend (v231 X) 5 64 (k0_pay1234 (v231 X) (v1471 X) (v1483 X) (v1485 X) (v1487 X) (v1489 X) (v1490 X)) := pendStep h15 h12
  have h18 : IsPend (v231 X) 5 63 (k0_pay1216 (v231 X) (v1471 X) (v1483 X) (v1485 X) (v1487 X) (v1489 X) (v1490 X)) := pendStep h14 h13
  have h19 : IsPend (v231 X) 5 62 (k0_pay1198 (v1471 X) (v1490 X)) := pendStep (v1471_is X) (v1490_is X)
  have h20 : IsReg (v231 X) 5 63 (k0_pay1199 (v1471 X) (v1473 X) (v1490 X)) := regStep (v1473_is X) h19
  have h21 : IsReg (v231 X) 5 64 (k0_pay1217 (v231 X) (v1471 X) (v1473 X) (v1483 X) (v1485 X) (v1487 X) (v1489 X) (v1490 X)) := regStep h20 h18
  have h22 : IsReg (v231 X) 5 65 (k0_pay1235 (v231 X) (v1471 X) (v1473 X) (v1483 X) (v1485 X) (v1487 X) (v1489 X) (v1490 X)) := regStep h21 h17
  have h23 : IsPend (v231 X) 6 64 (k0_pay1236 (v231 X) (v1471 X) (v1473 X) (v1483 X) (v1485 X) (v1487 X) (v1489 X) (v1490 X)) := pendStep h21 h17
  have h24 : IsPend (v231 X) 6 63 (k0_pay1218 (v231 X) (v1471 X) (v1473 X) (v1483 X) (v1485 X) (v1487 X) (v1489 X) (v1490 X)) := pendStep h20 h18
  have h25 : IsPend (v231 X) 6 62 (k0_pay1200 (v1471 X) (v1473 X) (v1490 X)) := pendStep (v1473_is X) h19
  have h26 : IsReg (v231 X) 6 63 (k0_pay1201 (v1471 X) (v1473 X) (v1475 X) (v1490 X)) := regStep (v1475_is X) h25
  have h27 : IsReg (v231 X) 6 64 (k0_pay1219 (v231 X) (v1471 X) (v1473 X) (v1475 X) (v1483 X) (v1485 X) (v1487 X) (v1489 X) (v1490 X)) := regStep h26 h24
  have h28 : IsReg (v231 X) 6 65 (k0_pay1237 (v231 X) (v1471 X) (v1473 X) (v1475 X) (v1483 X) (v1485 X) (v1487 X) (v1489 X) (v1490 X)) := regStep h27 h23
  have h29 : IsPend (v231 X) 7 64 (k0_pay1238 (v231 X) (v1471 X) (v1473 X) (v1475 X) (v1483 X) (v1485 X) (v1487 X) (v1489 X) (v1490 X)) := pendStep h27 h23
  have h30 : IsPend (v231 X) 7 63 (k0_pay1220 (v231 X) (v1471 X) (v1473 X) (v1475 X) (v1483 X) (v1485 X) (v1487 X) (v1489 X) (v1490 X)) := pendStep h26 h24
  have h31 : IsPend (v231 X) 7 62 (k0_pay1202 (v1471 X) (v1473 X) (v1475 X) (v1490 X)) := pendStep (v1475_is X) h25
  have h32 : IsReg (v231 X) 7 63 (k0_pay1203 (v1471 X) (v1473 X) (v1475 X) (v1477 X) (v1490 X)) := regStep (v1477_is X) h31
  have h33 : IsReg (v231 X) 7 64 (k0_pay1221 (v231 X) (v1471 X) (v1473 X) (v1475 X) (v1477 X) (v1483 X) (v1485 X) (v1487 X) (v1489 X) (v1490 X)) := regStep h32 h30
  have h34 : IsReg (v231 X) 7 65 (k0_pay1239 (v231 X) (v1471 X) (v1473 X) (v1475 X) (v1477 X) (v1483 X) (v1485 X) (v1487 X) (v1489 X) (v1490 X)) := regStep h33 h29
  have h35 : IsPend (v231 X) 8 64 (k0_pay1240 (v231 X) (v1471 X) (v1473 X) (v1475 X) (v1477 X) (v1483 X) (v1485 X) (v1487 X) (v1489 X) (v1490 X)) := pendStep h33 h29
  have h36 : IsPend (v231 X) 8 63 (k0_pay1222 (v231 X) (v1471 X) (v1473 X) (v1475 X) (v1477 X) (v1483 X) (v1485 X) (v1487 X) (v1489 X) (v1490 X)) := pendStep h32 h30
  have h37 : IsPend (v231 X) 8 62 (k0_pay1204 (v1471 X) (v1473 X) (v1475 X) (v1477 X) (v1490 X)) := pendStep (v1477_is X) h31
  have h38 : IsReg (v231 X) 8 63 (k0_pay1205 (v1471 X) (v1473 X) (v1475 X) (v1477 X) (v1479 X) (v1490 X)) := regStep (v1479_is X) h37
  have h39 : IsReg (v231 X) 8 64 (k0_pay1223 (v231 X) (v1471 X) (v1473 X) (v1475 X) (v1477 X) (v1479 X) (v1483 X) (v1485 X) (v1487 X) (v1489 X) (v1490 X)) := regStep h38 h36
  have h40 : IsReg (v231 X) 8 65 (k0_pay1241 (v231 X) (v1471 X) (v1473 X) (v1475 X) (v1477 X) (v1479 X) (v1483 X) (v1485 X) (v1487 X) (v1489 X) (v1490 X)) := regStep h39 h35
  have h41 : IsPend (v231 X) 9 64 (minimumf (k0_pay1223 (v231 X) (v1471 X) (v1473 X) (v1475 X) (v1477 X) (v1479 X) (v1483 X) (v1485 X) (v1487 X) (v1489 X) (v1490 X)) (k0_pay1240 (v231 X) (v1471 X) (v1473 X) (v1475 X) (v1477 X) (v1483 X) (v1485 X) (v1487 X) (v1489 X) (v1490 X))) := pendStep h39 h35
  have h42 : IsPend (v231 X) 9 63 (minimumf (k0_pay1205 (v1471 X) (v1473 X) (v1475 X) (v1477 X) (v1479 X) (v1490 X)) (k0_pay1222 (v231 X) (v1471 X) (v1473 X) (v1475 X) (v1477 X) (v1483 X) (v1485 X) (v1487 X) (v1489 X) (v1490 X))) := pendStep h38 h36
  have h43 : IsPend (v231 X) 9 62 (minimumf (v1479 X) (k0_pay1204 (v1471 X) (v1473 X) (v1475 X) (v1477 X) (v1490 X))) := pendStep (v1479_is X) h37
  have h44 : IsReg (v231 X) 9 63 (maximumf (v1481 X) (minimumf (v1479 X) (k0_pay1204 (v1471 X) (v1473 X) (v1475 X) (v1477 X) (v1490 X)))) := regStep (v1481_is X) h43
  have h45 : IsReg (v231 X) 9 64 (maximumf (maximumf (v1481 X) (minimumf (v1479 X) (k0_pay1204 (v1471 X) (v1473 X) (v1475 X) (v1477 X) (v1490 X)))) (minimumf (k0_pay1205 (v1471 X) (v1473 X) (v1475 X) (v1477 X) (v1479 X) (v1490 X)) (k0_pay1222 (v231 X) (v1471 X) (v1473 X) (v1475 X) (v1477 X) (v1483 X) (v1485 X) (v1487 X) (v1489 X) (v1490 X)))) := regStep h44 h42
  have h46 : IsReg (v231 X) 9 65 (k0_pay1242 (v231 X) (v1471 X) (v1473 X) (v1475 X) (v1477 X) (v1479 X) (v1481 X) (v1483 X) (v1485 X) (v1487 X) (v1489 X) (v1490 X)) := regStep h45 h41
  have h47 : IsPend (v231 X) 0 65 (k0_pay1243 (v231 X)) := pendInit (v231 X) 65 (by decide) (by decide)
  have h48 : IsReg (v231 X) 0 65 (k0_pay1225 (v231 X) (v1483 X)) := regStep h2 h0
  have h49 : IsReg (v231 X) 0 66 (k0_pay1244 (v231 X) (v1483 X)) := regStep h48 h47
  have h50 : IsPend (v231 X) 1 65 (k0_pay1245 (v231 X) (v1483 X)) := pendStep h48 h47
  have h51 : IsReg (v231 X) 1 65 (k0_pay1227 (v231 X) (v1483 X) (v1485 X)) := regStep h5 h3
  have h52 : IsReg (v231 X) 1 66 (k0_pay1246 (v231 X) (v1483 X) (v1485 X)) := regStep h51 h50
  have h53 : IsPend (v231 X) 2 65 (k0_pay1247 (v231 X) (v1483 X) (v1485 X)) := pendStep h51 h50
  have h54 : IsReg (v231 X) 2 65 (k0_pay1229 (v231 X) (v1483 X) (v1485 X) (v1487 X)) := regStep h8 h6
  have h55 : IsReg (v231 X) 2 66 (k0_pay1248 (v231 X) (v1483 X) (v1485 X) (v1487 X)) := regStep h54 h53
  have h56 : IsPend (v231 X) 3 65 (k0_pay1249 (v231 X) (v1483 X) (v1485 X) (v1487 X)) := pendStep h54 h53
  have h57 : IsReg (v231 X) 3 65 (k0_pay1231 (v231 X) (v1483 X) (v1485 X) (v1487 X) (v1489 X)) := regStep h11 h9
  have h58 : IsReg (v231 X) 3 66 (k0_pay1250 (v231 X) (v1483 X) (v1485 X) (v1487 X) (v1489 X)) := regStep h57 h56
  have h59 : IsPend (v231 X) 4 65 (k0_pay1251 (v231 X) (v1483 X) (v1485 X) (v1487 X) (v1489 X)) := pendStep h57 h56
  exact ⟨h16, h22, h28, h34, h40, h46, h49, h52, h55, h58, h59⟩

theorem v1531_is (X : Ins Ideal) : IsReg (v231 X) 4 65 (v1531 X) := (part27_is X).1

theorem v1533_is (X : Ins Ideal) : IsReg (v231 X) 5 65 (v1533 X) := (part27_is X).2.1

theorem v1535_is (X : Ins Ideal) : IsReg (v231 X) 6 65 (v1535 X) := (part27_is X).2.2.1

theorem v1537_is (X : Ins Ideal) : IsReg (v231 X) 7 65 (v1537 X) := (part27_is X).2.2.2.1

theorem v1539_is (X : Ins Ideal) : IsReg (v231 X) 8 65 (v1539 X) := (part27_is X).2.2.2.2.1

theorem v1541_is (X : Ins Ideal) : IsReg (v231 X) 9 65 (v1541 X) := (part27_is X).2.2.2.2.2.1

theorem v1543_is (X : Ins Ideal) : IsReg (v231 X) 0 66 (v1543 X) := (part27_is X).2.2.2.2.2.2.1

theorem v1545_is (X : Ins Ideal) : IsReg (v231 X) 1 66 (v1545 X) := (part27_is X).2.2.2.2.2.2.2.1

theorem v1547_is (X : Ins Ideal) : IsReg (v231 X) 2 66 (v1547 X) := (part27_is X).2.2.2.2.2.2.2.2.1

theorem v1549_is (X : Ins Ideal) : IsReg (v231 X) 3 66 (v1549 X) := (part27_is X).2.2.2.2.2.2.2.2.2.1

theorem v1550_is (X : Ins Ideal) : IsPend (v231 X) 4 65 (v1550 X) := (part27_is X).2.2.2.2.2.2.2.2.2.2

theorem part28_is (X : Ins Ideal) : IsReg (v231 X) 4 66 (v1551 X) ∧ IsReg (v231 X) 5 66 (v1553 X) ∧ IsReg (v231 X) 6 66 (v1555 X) ∧ IsReg (v231 X) 7 66 (v1557 X) ∧ IsReg (v231 X) 8 66 (v1559 X) ∧ IsReg (v231 X) 9 66 (v1561 X) := by
  have h0 : IsPend (v231 X) 5 65 (k0_pay1253 (v1531 X) (v1550 X)) := pendStep (v1531_is X) (v1550_is X)
  have h1 : IsPend (v231 X) 6 65 (k0_pay1255 (v1531 X) (v1533 X) (v1550 X)) := pendStep (v1533_is X) h0
  have h2 : IsPend (v231 X) 7 65 (k0_pay1257 (v1531 X) (v1533 X) (v1535 X) (v1550 X)) := pendStep (v1535_is X) h1
  have h3 : IsReg (v231 X) 7 66 (k0_pay1258 (v1531 X) (v1533 X) (v1535 X) (v1537 X) (v1550 X)) := regStep (v1537_is X) h2
  have h4 : IsPend (v231 X) 8 65 (k0_pay1259 (v1531 X) (v1533 X) (v1535 X) (v1537 X) (v1550 X)) := pendStep (v1537_is X) h2
  have h5 : IsReg (v231 X) 8 66 (k0_pay1260 (v1531 X) (v1533 X) (v1535 X) (v1537 X) (v1539 X) (v1550 X)) := regStep (v1539_is X) h4
  have h6 : IsPend (v231 X) 9 65 (minimumf (v1539 X) (k0_pay1259 (v1531 X) (v1533 X) (v1535 X) (v1537 X) (v1550 X))) := pendStep (v1539_is X) h4
  have h7 : IsReg (v231 X) 9 66 (k0_pay1261 (v1531 X) (v1533 X) (v1535 X) (v1537 X) (v1539 X) (v1541 X) (v1550 X)) := regStep (v1541_is X) h6
  have h8 : IsReg (v231 X) 4 66 (k0_pay1252 (v1531 X) (v1550 X)) := regStep (v1531_is X) (v1550_is X)
  have h9 : IsReg (v231 X) 5 66 (k0_pay1254 (v1531 X) (v1533 X) (v1550 X)) := regStep (v1533_is X) h0
  have h10 : IsReg (v231 X) 6 66 (k0_pay1256 (v1531 X) (v1533 X) (v1535 X) (v1550 X)) := regStep (v1535_is X) h1
  exact ⟨h8, h9, h10, h3, h5, h7⟩

theorem v1551_is (X : Ins Ideal) : IsReg (v231 X) 4 66 (v1551 X) := (part28_is X).1

theorem v1553_is (X : Ins Ideal) : IsReg (v231 X) 5 66 (v1553 X) := (part28_is X).2.1

theorem v1555_is (X : Ins Ideal) : IsReg (v231 X) 6 66 (v1555 X) := (part28_is X).2.2.1

theorem v1557_is (X : Ins Ideal) : IsReg (v231 X) 7 66 (v1557 X) := (part28_is X).2.2.2.1

theorem v1559_is (X : Ins Ideal) : IsReg (v231 X) 8 66 (v1559 X) := (part28_is X).2.2.2.2.1

theorem v1561_is (X : Ins Ideal) : IsReg (v231 X) 9 66 (v1561 X) := (part28_is X).2.2.2.2.2

end Cert.KernelIdeal.Vals
-- ==== Proof.KRounds.lean ====
/-
  The nine rounds that take the largest value out of the registers, and the threshold left by them: below the threshold
  lie exactly the values with ten different register values above them.
-/
module

public import proofs.«01_k».proof.Proof.KIns1
public import proofs.«01_k».proof.Proof.KIns2
public import Idealize.ShloMosaic.Lib.Pointwise

@[expose] public section

noncomputable section

namespace Cert.KernelIdeal.Vals

open Idealize.ShloMosaic Idealize.ShloMosaic.TcCoe Idealize.SL.Sem Cert.KernelIdeal Cert.KernelIdeal.Gen Cert.Count

/-- A register after the row maximum `m` is taken out of it. -/
def selv (r : FVec Ideal S32x128 .f32) (m : FVec Ideal S32x1 .f32) : FVec Ideal S32x128 .f32 :=
  select (cmpf .oge r (broadcastTo S32x128 m broadcasts_S32x1_S32x128))
    (broadcast S32x128 (Scalar.ofBits (F := Ideal) .f32 0xBF800000#32)) r

/-- Each row's maximum over ten registers. -/
def rowmax (r0 r1 r2 r3 r4 r5 r6 r7 r8 r9 : FVec Ideal S32x128 .f32) : FVec Ideal S32x1 .f32 :=
  shapeCast S32x1 (multiReduction .maximumf [1] S32
    (maximumf (maximumf (maximumf (maximumf (maximumf (maximumf (maximumf (maximumf (maximumf r0 r1) r2) r3) r4) r5) r6) r7) r8) r9)
    0xFF800000#32 reduces_S32x128_S32 (.inl rfl) rfl) shapeCasts_S32_S32x1

/-- The metric's entries kept by a threshold of each row. -/
def keep (v : FVec Ideal S32x8400 .f32) (thr : FVec Ideal S32x1 .f32) : FVec Ideal S32x8400 .f32 :=
  select (andi (cmpf .oge v (broadcastTo S32x8400 thr broadcasts_S32x1_S32x8400))
    (cmpf .ogt v (broadcast S32x8400 (Scalar.ofBits (F := Ideal) .f32 0x00000000#32)))) v
    (broadcast S32x8400 (Scalar.ofBits (F := Ideal) .f32 0x00000000#32))

/-- The family of a row's register values. -/
def fam (g : Fin 10 → FVec Ideal S32x128 .f32) (t : Fin 32) : Fin 10 × Fin 128 → EReal := fun p => g p.1 (ix2 t p.2)

theorem selv_apply (r : FVec Ideal S32x128 .f32) (m : FVec Ideal S32x1 .f32) (t : Fin 32) (l : Fin 128) :
    selv r m (ix2 t l) = if (m (ix2 t 0) : EReal) ≤ r (ix2 t l) then (-1 : EReal) else r (ix2 t l) := by
  unfold selv
  pointwise
  rw [show (Ideal.ofBits .f32 0xBF800000#32 : EReal) = (-1 : EReal) from minus_one]

theorem fold_max_lt {n : ℕ} (f : Fin n → EReal) (w : EReal) :
    w < Finset.fold max (Ideal.ofBits .f32 0xFF800000#32) f Finset.univ ↔ ∃ i, w < f i := by
  rw [Finset.lt_fold_max]
  have : (Ideal.ofBits .f32 0xFF800000#32 : EReal) = ⊥ := by
    simp [Ideal.ofBits, Ideal.ieee]
  rw [this]
  simp

theorem rowmax_sup (r0 r1 r2 r3 r4 r5 r6 r7 r8 r9 : FVec Ideal S32x128 .f32) (t : Fin 32) :
    IsSup (fam ![r0, r1, r2, r3, r4, r5, r6, r7, r8, r9] t) (rowmax r0 r1 r2 r3 r4 r5 r6 r7 r8 r9 (ix2 t 0)) := fun w => by
  have e : rowmax r0 r1 r2 r3 r4 r5 r6 r7 r8 r9 (ix2 t 0) = Finset.fold max (Ideal.ofBits .f32 0xFF800000#32)
      (fun x : Fin 128 => max (max (max (max (max (max (max (max (max (r0 (ix2 t x) : EReal) (r1 (ix2 t x))) (r2 (ix2 t x))) (r3 (ix2 t x))) (r4 (ix2 t x)))
        (r5 (ix2 t x))) (r6 (ix2 t x))) (r7 (ix2 t x))) (r8 (ix2 t x))) (r9 (ix2 t x))) Finset.univ := by
    unfold rowmax
    pointwise
  rw [e, fold_max_lt]
  constructor
  · rintro ⟨l, h⟩
    simp only [lt_max_iff] at h
    rcases h with ((((((((h | h) | h) | h) | h) | h) | h) | h) | h) | h
    exacts [⟨(0, l), h⟩, ⟨(1, l), h⟩, ⟨(2, l), h⟩, ⟨(3, l), h⟩, ⟨(4, l), h⟩, ⟨(5, l), h⟩, ⟨(6, l), h⟩, ⟨(7, l), h⟩, ⟨(8, l), h⟩, ⟨(9, l), h⟩]
  · rintro ⟨⟨k, l⟩, h⟩
    refine ⟨l, ?_⟩
    simp only [lt_max_iff]
    unfold fam at h
    match k, h with
    | 0, h => exact .inl (.inl (.inl (.inl (.inl (.inl (.inl (.inl (.inl h))))))))
    | 1, h => exact .inl (.inl (.inl (.inl (.inl (.inl (.inl (.inl (.inr h))))))))
    | 2, h => exact .inl (.inl (.inl (.inl (.inl (.inl (.inl (.inr h)))))))
    | 3, h => exact .inl (.inl (.inl (.inl (.inl (.inl (.inr h))))))
    | 4, h => exact .inl (.inl (.inl (.inl (.inl (.inr h)))))
    | 5, h => exact .inl (.inl (.inl (.inl (.inr h))))
    | 6, h => exact .inl (.inl (.inl (.inr h)))
    | 7, h => exact .inl (.inl (.inr h))
    | 8, h => exact .inl (.inr h)
    | 9, h => exact .inr h

theorem fam_step (g g' : Fin 10 → FVec Ideal S32x128 .f32) (m : FVec Ideal S32x1 .f32) (t : Fin 32)
    (hm : IsSup (fam g t) (m (ix2 t 0))) (hg : ∀ k, g' k = selv (g k) m) (v : EReal) (hv : -1 ≤ v) :
    dis (fam g' t) v = dis (fam g t) v - 1 := by
  rw [← dis_drop (fam g t) _ v hm hv]
  refine congrArg (fun f => dis f v) (funext fun p => ?_)
  unfold fam drop
  rw [hg, selv_apply]

theorem e_v1572 (X : Ins Ideal) : v1572 X = rowmax (v1543 X) (v1545 X) (v1547 X) (v1549 X) (v1551 X) (v1553 X) (v1555 X) (v1557 X) (v1559 X) (v1561 X) := rfl

/-- The registers after 0 rounds. -/
def g0 (X : Ins Ideal) : Fin 10 → FVec Ideal S32x128 .f32 :=
  ![v1543 X, v1545 X, v1547 X, v1549 X, v1551 X, v1553 X, v1555 X, v1557 X, v1559 X, v1561 X]

theorem sup0 (X : Ins Ideal) (t : Fin 32) : IsSup (fam (g0 X) t) (v1572 X (ix2 t 0)) := by
  rw [e_v1572]; exact rowmax_sup _ _ _ _ _ _ _ _ _ _ t

theorem e_v1623 (X : Ins Ideal) : v1623 X = rowmax (v1576 X) (v1580 X) (v1584 X) (v1588 X) (v1592 X) (v1596 X) (v1600 X) (v1604 X) (v1608 X) (v1612 X) := rfl

theorem e_v1576 (X : Ins Ideal) : v1576 X = selv (v1543 X) (v1572 X) := rfl
theorem e_v1580 (X : Ins Ideal) : v1580 X = selv (v1545 X) (v1572 X) := rfl
theorem e_v1584 (X : Ins Ideal) : v1584 X = selv (v1547 X) (v1572 X) := rfl
theorem e_v1588 (X : Ins Ideal) : v1588 X = selv (v1549 X) (v1572 X) := rfl
theorem e_v1592 (X : Ins Ideal) : v1592 X = selv (v1551 X) (v1572 X) := rfl
theorem e_v1596 (X : Ins Ideal) : v1596 X = selv (v1553 X) (v1572 X) := rfl
theorem e_v1600 (X : Ins Ideal) : v1600 X = selv (v1555 X) (v1572 X) := rfl
theorem e_v1604 (X : Ins Ideal) : v1604 X = selv (v1557 X) (v1572 X) := rfl
theorem e_v1608 (X : Ins Ideal) : v1608 X = selv (v1559 X) (v1572 X) := rfl
theorem e_v1612 (X : Ins Ideal) : v1612 X = selv (v1561 X) (v1572 X) := rfl

/-- The registers after 1 rounds. -/
def g1 (X : Ins Ideal) : Fin 10 → FVec Ideal S32x128 .f32 :=
  ![v1576 X, v1580 X, v1584 X, v1588 X, v1592 X, v1596 X, v1600 X, v1604 X, v1608 X, v1612 X]

theorem sup1 (X : Ins Ideal) (t : Fin 32) : IsSup (fam (g1 X) t) (v1623 X (ix2 t 0)) := by
  rw [e_v1623]; exact rowmax_sup _ _ _ _ _ _ _ _ _ _ t

theorem dis1 (X : Ins Ideal) (t : Fin 32) (v : EReal) (hv : -1 ≤ v) :
    dis (fam (g1 X) t) v = dis (fam (g0 X) t) v - 1 :=
  fam_step _ _ (v1572 X) t (sup0 X t) (fun k => match k with
    | 0 => e_v1576 X
    | 1 => e_v1580 X
    | 2 => e_v1584 X
    | 3 => e_v1588 X
    | 4 => e_v1592 X
    | 5 => e_v1596 X
    | 6 => e_v1600 X
    | 7 => e_v1604 X
    | 8 => e_v1608 X
    | 9 => e_v1612 X) v hv

theorem e_v1674 (X : Ins Ideal) : v1674 X = rowmax (v1627 X) (v1631 X) (v1635 X) (v1639 X) (v1643 X) (v1647 X) (v1651 X) (v1655 X) (v1659 X) (v1663 X) := rfl

theorem e_v1627 (X : Ins Ideal) : v1627 X = selv (v1576 X) (v1623 X) := rfl
theorem e_v1631 (X : Ins Ideal) : v1631 X = selv (v1580 X) (v1623 X) := rfl
theorem e_v1635 (X : Ins Ideal) : v1635 X = selv (v1584 X) (v1623 X) := rfl
theorem e_v1639 (X : Ins Ideal) : v1639 X = selv (v1588 X) (v1623 X) := rfl
theorem e_v1643 (X : Ins Ideal) : v1643 X = selv (v1592 X) (v1623 X) := rfl
theorem e_v1647 (X : Ins Ideal) : v1647 X = selv (v1596 X) (v1623 X) := rfl
theorem e_v1651 (X : Ins Ideal) : v1651 X = selv (v1600 X) (v1623 X) := rfl
theorem e_v1655 (X : Ins Ideal) : v1655 X = selv (v1604 X) (v1623 X) := rfl
theorem e_v1659 (X : Ins Ideal) : v1659 X = selv (v1608 X) (v1623 X) := rfl
theorem e_v1663 (X : Ins Ideal) : v1663 X = selv (v1612 X) (v1623 X) := rfl

/-- The registers after 2 rounds. -/
def g2 (X : Ins Ideal) : Fin 10 → FVec Ideal S32x128 .f32 :=
  ![v1627 X, v1631 X, v1635 X, v1639 X, v1643 X, v1647 X, v1651 X, v1655 X, v1659 X, v1663 X]

theorem sup2 (X : Ins Ideal) (t : Fin 32) : IsSup (fam (g2 X) t) (v1674 X (ix2 t 0)) := by
  rw [e_v1674]; exact rowmax_sup _ _ _ _ _ _ _ _ _ _ t

theorem dis2 (X : Ins Ideal) (t : Fin 32) (v : EReal) (hv : -1 ≤ v) :
    dis (fam (g2 X) t) v = dis (fam (g1 X) t) v - 1 :=
  fam_step _ _ (v1623 X) t (sup1 X t) (fun k => match k with
    | 0 => e_v1627 X
    | 1 => e_v1631 X
    | 2 => e_v1635 X
    | 3 => e_v1639 X
    | 4 => e_v1643 X
    | 5 => e_v1647 X
    | 6 => e_v1651 X
    | 7 => e_v1655 X
    | 8 => e_v1659 X
    | 9 => e_v1663 X) v hv

theorem e_v1725 (X : Ins Ideal) : v1725 X = rowmax (v1678 X) (v1682 X) (v1686 X) (v1690 X) (v1694 X) (v1698 X) (v1702 X) (v1706 X) (v1710 X) (v1714 X) := rfl

theorem e_v1678 (X : Ins Ideal) : v1678 X = selv (v1627 X) (v1674 X) := rfl
theorem e_v1682 (X : Ins Ideal) : v1682 X = selv (v1631 X) (v1674 X) := rfl
theorem e_v1686 (X : Ins Ideal) : v1686 X = selv (v1635 X) (v1674 X) := rfl
theorem e_v1690 (X : Ins Ideal) : v1690 X = selv (v1639 X) (v1674 X) := rfl
theorem e_v1694 (X : Ins Ideal) : v1694 X = selv (v1643 X) (v1674 X) := rfl
theorem e_v1698 (X : Ins Ideal) : v1698 X = selv (v1647 X) (v1674 X) := rfl
theorem e_v1702 (X : Ins Ideal) : v1702 X = selv (v1651 X) (v1674 X) := rfl
theorem e_v1706 (X : Ins Ideal) : v1706 X = selv (v1655 X) (v1674 X) := rfl
theorem e_v1710 (X : Ins Ideal) : v1710 X = selv (v1659 X) (v1674 X) := rfl
theorem e_v1714 (X : Ins Ideal) : v1714 X = selv (v1663 X) (v1674 X) := rfl

/-- The registers after 3 rounds. -/
def g3 (X : Ins Ideal) : Fin 10 → FVec Ideal S32x128 .f32 :=
  ![v1678 X, v1682 X, v1686 X, v1690 X, v1694 X, v1698 X, v1702 X, v1706 X, v1710 X, v1714 X]

theorem sup3 (X : Ins Ideal) (t : Fin 32) : IsSup (fam (g3 X) t) (v1725 X (ix2 t 0)) := by
  rw [e_v1725]; exact rowmax_sup _ _ _ _ _ _ _ _ _ _ t

theorem dis3 (X : Ins Ideal) (t : Fin 32) (v : EReal) (hv : -1 ≤ v) :
    dis (fam (g3 X) t) v = dis (fam (g2 X) t) v - 1 :=
  fam_step _ _ (v1674 X) t (sup2 X t) (fun k => match k with
    | 0 => e_v1678 X
    | 1 => e_v1682 X
    | 2 => e_v1686 X
    | 3 => e_v1690 X
    | 4 => e_v1694 X
    | 5 => e_v1698 X
    | 6 => e_v1702 X
    | 7 => e_v1706 X
    | 8 => e_v1710 X
    | 9 => e_v1714 X) v hv

theorem e_v1776 (X : Ins Ideal) : v1776 X = rowmax (v1729 X) (v1733 X) (v1737 X) (v1741 X) (v1745 X) (v1749 X) (v1753 X) (v1757 X) (v1761 X) (v1765 X) := rfl

theorem e_v1729 (X : Ins Ideal) : v1729 X = selv (v1678 X) (v1725 X) := rfl
theorem e_v1733 (X : Ins Ideal) : v1733 X = selv (v1682 X) (v1725 X) := rfl
theorem e_v1737 (X : Ins Ideal) : v1737 X = selv (v1686 X) (v1725 X) := rfl
theorem e_v1741 (X : Ins Ideal) : v1741 X = selv (v1690 X) (v1725 X) := rfl
theorem e_v1745 (X : Ins Ideal) : v1745 X = selv (v1694 X) (v1725 X) := rfl
theorem e_v1749 (X : Ins Ideal) : v1749 X = selv (v1698 X) (v1725 X) := rfl
theorem e_v1753 (X : Ins Ideal) : v1753 X = selv (v1702 X) (v1725 X) := rfl
theorem e_v1757 (X : Ins Ideal) : v1757 X = selv (v1706 X) (v1725 X) := rfl
theorem e_v1761 (X : Ins Ideal) : v1761 X = selv (v1710 X) (v1725 X) := rfl
theorem e_v1765 (X : Ins Ideal) : v1765 X = selv (v1714 X) (v1725 X) := rfl

/-- The registers after 4 rounds. -/
def g4 (X : Ins Ideal) : Fin 10 → FVec Ideal S32x128 .f32 :=
  ![v1729 X, v1733 X, v1737 X, v1741 X, v1745 X, v1749 X, v1753 X, v1757 X, v1761 X, v1765 X]

theorem sup4 (X : Ins Ideal) (t : Fin 32) : IsSup (fam (g4 X) t) (v1776 X (ix2 t 0)) := by
  rw [e_v1776]; exact rowmax_sup _ _ _ _ _ _ _ _ _ _ t

theorem dis4 (X : Ins Ideal) (t : Fin 32) (v : EReal) (hv : -1 ≤ v) :
    dis (fam (g4 X) t) v = dis (fam (g3 X) t) v - 1 :=
  fam_step _ _ (v1725 X) t (sup3 X t) (fun k => match k with
    | 0 => e_v1729 X
    | 1 => e_v1733 X
    | 2 => e_v1737 X
    | 3 => e_v1741 X
    | 4 => e_v1745 X
    | 5 => e_v1749 X
    | 6 => e_v1753 X
    | 7 => e_v1757 X
    | 8 => e_v1761 X
    | 9 => e_v1765 X) v hv

theorem e_v1827 (X : Ins Ideal) : v1827 X = rowmax (v1780 X) (v1784 X) (v1788 X) (v1792 X) (v1796 X) (v1800 X) (v1804 X) (v1808 X) (v1812 X) (v1816 X) := rfl

theorem e_v1780 (X : Ins Ideal) : v1780 X = selv (v1729 X) (v1776 X) := rfl
theorem e_v1784 (X : Ins Ideal) : v1784 X = selv (v1733 X) (v1776 X) := rfl
theorem e_v1788 (X : Ins Ideal) : v1788 X = selv (v1737 X) (v1776 X) := rfl
theorem e_v1792 (X : Ins Ideal) : v1792 X = selv (v1741 X) (v1776 X) := rfl
theorem e_v1796 (X : Ins Ideal) : v1796 X = selv (v1745 X) (v1776 X) := rfl
theorem e_v1800 (X : Ins Ideal) : v1800 X = selv (v1749 X) (v1776 X) := rfl
theorem e_v1804 (X : Ins Ideal) : v1804 X = selv (v1753 X) (v1776 X) := rfl
theorem e_v1808 (X : Ins Ideal) : v1808 X = selv (v1757 X) (v1776 X) := rfl
theorem e_v1812 (X : Ins Ideal) : v1812 X = selv (v1761 X) (v1776 X) := rfl
theorem e_v1816 (X : Ins Ideal) : v1816 X = selv (v1765 X) (v1776 X) := rfl

/-- The registers after 5 rounds. -/
def g5 (X : Ins Ideal) : Fin 10 → FVec Ideal S32x128 .f32 :=
  ![v1780 X, v1784 X, v1788 X, v1792 X, v1796 X, v1800 X, v1804 X, v1808 X, v1812 X, v1816 X]

theorem sup5 (X : Ins Ideal) (t : Fin 32) : IsSup (fam (g5 X) t) (v1827 X (ix2 t 0)) := by
  rw [e_v1827]; exact rowmax_sup _ _ _ _ _ _ _ _ _ _ t

theorem dis5 (X : Ins Ideal) (t : Fin 32) (v : EReal) (hv : -1 ≤ v) :
    dis (fam (g5 X) t) v = dis (fam (g4 X) t) v - 1 :=
  fam_step _ _ (v1776 X) t (sup4 X t) (fun k => match k with
    | 0 => e_v1780 X
    | 1 => e_v1784 X
    | 2 => e_v1788 X
    | 3 => e_v1792 X
    | 4 => e_v1796 X
    | 5 => e_v1800 X
    | 6 => e_v1804 X
    | 7 => e_v1808 X
    | 8 => e_v1812 X
    | 9 => e_v1816 X) v hv

theorem e_v1878 (X : Ins Ideal) : v1878 X = rowmax (v1831 X) (v1835 X) (v1839 X) (v1843 X) (v1847 X) (v1851 X) (v1855 X) (v1859 X) (v1863 X) (v1867 X) := rfl

theorem e_v1831 (X : Ins Ideal) : v1831 X = selv (v1780 X) (v1827 X) := rfl
theorem e_v1835 (X : Ins Ideal) : v1835 X = selv (v1784 X) (v1827 X) := rfl
theorem e_v1839 (X : Ins Ideal) : v1839 X = selv (v1788 X) (v1827 X) := rfl
theorem e_v1843 (X : Ins Ideal) : v1843 X = selv (v1792 X) (v1827 X) := rfl
theorem e_v1847 (X : Ins Ideal) : v1847 X = selv (v1796 X) (v1827 X) := rfl
theorem e_v1851 (X : Ins Ideal) : v1851 X = selv (v1800 X) (v1827 X) := rfl
theorem e_v1855 (X : Ins Ideal) : v1855 X = selv (v1804 X) (v1827 X) := rfl
theorem e_v1859 (X : Ins Ideal) : v1859 X = selv (v1808 X) (v1827 X) := rfl
theorem e_v1863 (X : Ins Ideal) : v1863 X = selv (v1812 X) (v1827 X) := rfl
theorem e_v1867 (X : Ins Ideal) : v1867 X = selv (v1816 X) (v1827 X) := rfl

/-- The registers after 6 rounds. -/
def g6 (X : Ins Ideal) : Fin 10 → FVec Ideal S32x128 .f32 :=
  ![v1831 X, v1835 X, v1839 X, v1843 X, v1847 X, v1851 X, v1855 X, v1859 X, v1863 X, v1867 X]

theorem sup6 (X : Ins Ideal) (t : Fin 32) : IsSup (fam (g6 X) t) (v1878 X (ix2 t 0)) := by
  rw [e_v1878]; exact rowmax_sup _ _ _ _ _ _ _ _ _ _ t

theorem dis6 (X : Ins Ideal) (t : Fin 32) (v : EReal) (hv : -1 ≤ v) :
    dis (fam (g6 X) t) v = dis (fam (g5 X) t) v - 1 :=
  fam_step _ _ (v1827 X) t (sup5 X t) (fun k => match k with
    | 0 => e_v1831 X
    | 1 => e_v1835 X
    | 2 => e_v1839 X
    | 3 => e_v1843 X
    | 4 => e_v1847 X
    | 5 => e_v1851 X
    | 6 => e_v1855 X
    | 7 => e_v1859 X
    | 8 => e_v1863 X
    | 9 => e_v1867 X) v hv

theorem e_v1929 (X : Ins Ideal) : v1929 X = rowmax (v1882 X) (v1886 X) (v1890 X) (v1894 X) (v1898 X) (v1902 X) (v1906 X) (v1910 X) (v1914 X) (v1918 X) := rfl

theorem e_v1882 (X : Ins Ideal) : v1882 X = selv (v1831 X) (v1878 X) := rfl
theorem e_v1886 (X : Ins Ideal) : v1886 X = selv (v1835 X) (v1878 X) := rfl
theorem e_v1890 (X : Ins Ideal) : v1890 X = selv (v1839 X) (v1878 X) := rfl
theorem e_v1894 (X : Ins Ideal) : v1894 X = selv (v1843 X) (v1878 X) := rfl
theorem e_v1898 (X : Ins Ideal) : v1898 X = selv (v1847 X) (v1878 X) := rfl
theorem e_v1902 (X : Ins Ideal) : v1902 X = selv (v1851 X) (v1878 X) := rfl
theorem e_v1906 (X : Ins Ideal) : v1906 X = selv (v1855 X) (v1878 X) := rfl
theorem e_v1910 (X : Ins Ideal) : v1910 X = selv (v1859 X) (v1878 X) := rfl
theorem e_v1914 (X : Ins Ideal) : v1914 X = selv (v1863 X) (v1878 X) := rfl
theorem e_v1918 (X : Ins Ideal) : v1918 X = selv (v1867 X) (v1878 X) := rfl

/-- The registers after 7 rounds. -/
def g7 (X : Ins Ideal) : Fin 10 → FVec Ideal S32x128 .f32 :=
  ![v1882 X, v1886 X, v1890 X, v1894 X, v1898 X, v1902 X, v1906 X, v1910 X, v1914 X, v1918 X]

theorem sup7 (X : Ins Ideal) (t : Fin 32) : IsSup (fam (g7 X) t) (v1929 X (ix2 t 0)) := by
  rw [e_v1929]; exact rowmax_sup _ _ _ _ _ _ _ _ _ _ t

theorem dis7 (X : Ins Ideal) (t : Fin 32) (v : EReal) (hv : -1 ≤ v) :
    dis (fam (g7 X) t) v = dis (fam (g6 X) t) v - 1 :=
  fam_step _ _ (v1878 X) t (sup6 X t) (fun k => match k with
    | 0 => e_v1882 X
    | 1 => e_v1886 X
    | 2 => e_v1890 X
    | 3 => e_v1894 X
    | 4 => e_v1898 X
    | 5 => e_v1902 X
    | 6 => e_v1906 X
    | 7 => e_v1910 X
    | 8 => e_v1914 X
    | 9 => e_v1918 X) v hv

theorem e_v1980 (X : Ins Ideal) : v1980 X = rowmax (v1933 X) (v1937 X) (v1941 X) (v1945 X) (v1949 X) (v1953 X) (v1957 X) (v1961 X) (v1965 X) (v1969 X) := rfl

theorem e_v1933 (X : Ins Ideal) : v1933 X = selv (v1882 X) (v1929 X) := rfl
theorem e_v1937 (X : Ins Ideal) : v1937 X = selv (v1886 X) (v1929 X) := rfl
theorem e_v1941 (X : Ins Ideal) : v1941 X = selv (v1890 X) (v1929 X) := rfl
theorem e_v1945 (X : Ins Ideal) : v1945 X = selv (v1894 X) (v1929 X) := rfl
theorem e_v1949 (X : Ins Ideal) : v1949 X = selv (v1898 X) (v1929 X) := rfl
theorem e_v1953 (X : Ins Ideal) : v1953 X = selv (v1902 X) (v1929 X) := rfl
theorem e_v1957 (X : Ins Ideal) : v1957 X = selv (v1906 X) (v1929 X) := rfl
theorem e_v1961 (X : Ins Ideal) : v1961 X = selv (v1910 X) (v1929 X) := rfl
theorem e_v1965 (X : Ins Ideal) : v1965 X = selv (v1914 X) (v1929 X) := rfl
theorem e_v1969 (X : Ins Ideal) : v1969 X = selv (v1918 X) (v1929 X) := rfl

/-- The registers after 8 rounds. -/
def g8 (X : Ins Ideal) : Fin 10 → FVec Ideal S32x128 .f32 :=
  ![v1933 X, v1937 X, v1941 X, v1945 X, v1949 X, v1953 X, v1957 X, v1961 X, v1965 X, v1969 X]

theorem sup8 (X : Ins Ideal) (t : Fin 32) : IsSup (fam (g8 X) t) (v1980 X (ix2 t 0)) := by
  rw [e_v1980]; exact rowmax_sup _ _ _ _ _ _ _ _ _ _ t

theorem dis8 (X : Ins Ideal) (t : Fin 32) (v : EReal) (hv : -1 ≤ v) :
    dis (fam (g8 X) t) v = dis (fam (g7 X) t) v - 1 :=
  fam_step _ _ (v1929 X) t (sup7 X t) (fun k => match k with
    | 0 => e_v1933 X
    | 1 => e_v1937 X
    | 2 => e_v1941 X
    | 3 => e_v1945 X
    | 4 => e_v1949 X
    | 5 => e_v1953 X
    | 6 => e_v1957 X
    | 7 => e_v1961 X
    | 8 => e_v1965 X
    | 9 => e_v1969 X) v hv

/-- A register no stretch hands on. -/
def v2000 (X : Ins Ideal) : FVec Ideal S32x128 .f32 := selv (v1949 X) (v1980 X)

/-- A register no stretch hands on. -/
def v2004 (X : Ins Ideal) : FVec Ideal S32x128 .f32 := selv (v1953 X) (v1980 X)

/-- A register no stretch hands on. -/
def v2008 (X : Ins Ideal) : FVec Ideal S32x128 .f32 := selv (v1957 X) (v1980 X)

/-- A register no stretch hands on. -/
def v2012 (X : Ins Ideal) : FVec Ideal S32x128 .f32 := selv (v1961 X) (v1980 X)

/-- A register no stretch hands on. -/
def v2016 (X : Ins Ideal) : FVec Ideal S32x128 .f32 := selv (v1965 X) (v1980 X)

/-- A register no stretch hands on. -/
def v2020 (X : Ins Ideal) : FVec Ideal S32x128 .f32 := selv (v1969 X) (v1980 X)

/-- The threshold. -/
def v2031 (X : Ins Ideal) : FVec Ideal S32x1 .f32 := rowmax (v1984 X) (v1988 X) (v1992 X) (v1996 X) (v2000 X) (v2004 X) (v2008 X) (v2012 X) (v2016 X) (v2020 X)

theorem e_v1984 (X : Ins Ideal) : v1984 X = selv (v1933 X) (v1980 X) := rfl
theorem e_v1988 (X : Ins Ideal) : v1988 X = selv (v1937 X) (v1980 X) := rfl
theorem e_v1992 (X : Ins Ideal) : v1992 X = selv (v1941 X) (v1980 X) := rfl
theorem e_v1996 (X : Ins Ideal) : v1996 X = selv (v1945 X) (v1980 X) := rfl
theorem e_v2000 (X : Ins Ideal) : v2000 X = selv (v1949 X) (v1980 X) := rfl
theorem e_v2004 (X : Ins Ideal) : v2004 X = selv (v1953 X) (v1980 X) := rfl
theorem e_v2008 (X : Ins Ideal) : v2008 X = selv (v1957 X) (v1980 X) := rfl
theorem e_v2012 (X : Ins Ideal) : v2012 X = selv (v1961 X) (v1980 X) := rfl
theorem e_v2016 (X : Ins Ideal) : v2016 X = selv (v1965 X) (v1980 X) := rfl
theorem e_v2020 (X : Ins Ideal) : v2020 X = selv (v1969 X) (v1980 X) := rfl

/-- The registers after 9 rounds. -/
def g9 (X : Ins Ideal) : Fin 10 → FVec Ideal S32x128 .f32 :=
  ![v1984 X, v1988 X, v1992 X, v1996 X, v2000 X, v2004 X, v2008 X, v2012 X, v2016 X, v2020 X]

theorem sup9 (X : Ins Ideal) (t : Fin 32) : IsSup (fam (g9 X) t) (v2031 X (ix2 t 0)) :=
  rowmax_sup _ _ _ _ _ _ _ _ _ _ t

theorem dis9 (X : Ins Ideal) (t : Fin 32) (v : EReal) (hv : -1 ≤ v) :
    dis (fam (g9 X) t) v = dis (fam (g8 X) t) v - 1 :=
  fam_step _ _ (v1980 X) t (sup8 X t) (fun k => match k with
    | 0 => e_v1984 X
    | 1 => e_v1988 X
    | 2 => e_v1992 X
    | 3 => e_v1996 X
    | 4 => e_v2000 X
    | 5 => e_v2004 X
    | 6 => e_v2008 X
    | 7 => e_v2012 X
    | 8 => e_v2016 X
    | 9 => e_v2020 X) v hv

theorem e_v2038 (X : Ins Ideal) : v2038 X = keep (v227 X) (v2031 X) := rfl

/-- Below the threshold: ten different register values lie above. -/
theorem lt_thr (X : Ins Ideal) (t : Fin 32) (v : EReal) (hv : -1 ≤ v) :
    v < v2031 X (ix2 t 0) ↔ 10 ≤ dis (fam (g0 X) t) v := by
  rw [lt_sup_iff _ _ _ (sup9 X t), dis9 X t v hv, dis8 X t v hv, dis7 X t v hv, dis6 X t v hv, dis5 X t v hv,
    dis4 X t v hv, dis3 X t v hv, dis2 X t v hv, dis1 X t v hv]
  omega

/-- The registers the rounds start from hold each lane's largest values in order. -/
theorem g0_reg (X : Ins Ideal) (t : Fin 32) (k : Fin 10) (l : Fin 128) :
    Reg (lane (row (v231 X) t) l) k.val 66 (fam (g0 X) t (k, l)) :=
  match k with
  | 0 => v1543_is X t l
  | 1 => v1545_is X t l
  | 2 => v1547_is X t l
  | 3 => v1549_is X t l
  | 4 => v1551_is X t l
  | 5 => v1553_is X t l
  | 6 => v1555_is X t l
  | 7 => v1557_is X t l
  | 8 => v1559_is X t l
  | 9 => v1561_is X t l

end Cert.KernelIdeal.Vals
-- ==== Proof.KIou.lean ====
/-
  The kernel's overlap of every target with every prediction, and the alignment metric made of it.
-/
module

public import proofs.«01_k».proof.Proof.KVals
public import proofs.«01_k».proof.Proof.SCiou
public import Idealize.ShloMosaic.Lib.Pointwise

@[expose] public section

noncomputable section

namespace Cert.KernelIdeal.Vals

open Idealize.ShloMosaic Idealize.ShloMosaic.TcCoe Idealize.SL.Sem Cert.KernelIdeal Cert.KernelIdeal.Gen Cert.Spec

section
variable (tgt : Vec Ideal S1x32x5 .f32) (pts : Vec Ideal S3x8400 .f32) (box : Vec Ideal S1x4x8400 .f32)
  (cls : Vec Ideal S1x80x8400 .f32) (anc : Vec Ideal S1x64x8400 .f32)
  (t : Fin 32) (a : Fin 8400) (c : Fin 80) (r : Fin 64)

theorem p_v1 : k0_pay2 (F := Ideal) cls (ix2 c a) = cls (ix3 0 c a) := by unfold_payloads; pointwise
theorem p_v3 : k0_pay3 (F := Ideal) anc (ix2 r a) = anc (ix3 0 r a) := by unfold_payloads; pointwise
theorem p_v14 : k0_pay8 (F := Ideal) tgt (ix2 t 0) = tgt (ix3 0 t 1) := by unfold_payloads; pointwise
theorem p_v15 : k0_pay9 (F := Ideal) tgt (ix2 t 0) = tgt (ix3 0 t 2) := by unfold_payloads; pointwise
theorem p_v16 : k0_pay10 (F := Ideal) tgt (ix2 t 0) = tgt (ix3 0 t 3) := by unfold_payloads; pointwise
theorem p_v17 : k0_pay11 (F := Ideal) tgt (ix2 t 0) = tgt (ix3 0 t 4) := by unfold_payloads; pointwise
theorem p_v18 : k0_pay12 (F := Ideal) pts (ix2 0 a) = pts (ix2 0 a) := by unfold_payloads; pointwise
theorem p_v19 : k0_pay13 (F := Ideal) pts (ix2 0 a) = pts (ix2 1 a) := by unfold_payloads; pointwise
theorem p_v20 : k0_pay14 (F := Ideal) pts (ix2 0 a) = pts (ix2 2 a) := by unfold_payloads; pointwise
theorem p_v21 : k0_pay15 (F := Ideal) box (ix2 0 a) = box (ix3 0 0 a) := by unfold_payloads; pointwise
theorem p_v22 : k0_pay16 (F := Ideal) box (ix2 0 a) = box (ix3 0 1 a) := by unfold_payloads; pointwise
theorem p_v23 : k0_pay17 (F := Ideal) box (ix2 0 a) = box (ix3 0 2 a) := by unfold_payloads; pointwise
theorem p_v24 : k0_pay18 (F := Ideal) box (ix2 0 a) = box (ix3 0 3 a) := by unfold_payloads; pointwise
theorem p_v42 : k0_pay20 (F := Ideal) tgt (ix2 t a) = tgt (ix3 0 t 1) := by unfold_payloads; pointwise
theorem p_v43 : k0_pay21 (F := Ideal) box (ix2 t a) = box (ix3 0 0 a) := by unfold_payloads; pointwise
theorem p_v191 : k0_pay35 (F := Ideal) (ix2 t a) = Ideal.ofBits .f32 0x3ECF817B#32 := rfl

/-- One where four conditions hold, as the kernel's bits say it. -/
theorem bits4 (p q r s : Prop) [Decidable p] [Decidable q] [Decidable r] [Decidable s] :
    (FloatOps.sitofp .f32 (BitVec.setWidth 32 (IntOp.andi (IntOp.andi (IntOp.andi (BitVec.ofBool (decide p))
      (BitVec.ofBool (decide q))) (BitVec.ofBool (decide r))) (BitVec.ofBool (decide s)))) : Ideal .f32)
      = if p ∧ q ∧ r ∧ s then 1 else 0 := by
  by_cases p <;> by_cases q <;> by_cases r <;> by_cases s <;> simp [*, IntOp.andi, FloatOps.sitofp]

theorem p_v41 : k0_pay19 (F := Ideal) tgt pts (ix2 t a)
    = inside (tgt (ix3 0 t 1)) (tgt (ix3 0 t 2)) (tgt (ix3 0 t 3)) (tgt (ix3 0 t 4)) (pts (ix2 0 a)) (pts (ix2 1 a)) := by
  unfold_payloads; pointwise
  rw [bits4]; rfl
end

section
variable (v14 v15 v16 v17 : FVec Ideal S32x1 .f32) (v21 v22 v23 v24 : FVec Ideal S1x8400 .f32)
  (v42 v43 v98 : FVec Ideal S32x8400 .f32) (v99 : FVec Ideal S32x1 .f32) (t : Fin 32) (a : Fin 8400)

theorem p_v73 (h42 : v42 (ix2 t a) = v14 (ix2 t 0)) (h43 : v43 (ix2 t a) = v21 (ix2 0 a)) :
    k0_pay22 (F := Ideal) v14 v15 v16 v17 v21 v22 v23 v24 v42 v43 (ix2 t a)
      = iou (v14 (ix2 t 0)) (v15 (ix2 t 0)) (v16 (ix2 t 0)) (v17 (ix2 t 0)) (v21 (ix2 0 a)) (v22 (ix2 0 a)) (v23 (ix2 0 a)) (v24 (ix2 0 a)) := by
  unfold_payloads; pointwise
  rw [h42, h43]; rfl

theorem p_v92 : k0_pay23 (F := Ideal) v14 v15 v16 v17 v21 v22 v23 v24 (ix2 t a)
      = diag (v14 (ix2 t 0)) (v15 (ix2 t 0)) (v16 (ix2 t 0)) (v17 (ix2 t 0)) (v21 (ix2 0 a)) (v22 (ix2 0 a)) (v23 (ix2 0 a)) (v24 (ix2 0 a)) := by
  unfold_payloads; pointwise
  rfl

theorem p_v98 : k0_pay24 (F := Ideal) v14 v16 v21 v23 (ix2 t a) = v14 (ix2 t 0) + v16 (ix2 t 0) - v21 (ix2 0 a) - v23 (ix2 0 a) := by
  unfold_payloads; pointwise

theorem p_v99 : k0_pay25 (F := Ideal) v15 v17 (ix2 t 0) = v15 (ix2 t 0) + v17 (ix2 t 0) := by
  unfold_payloads; pointwise

theorem p_v109 (h98 : v98 (ix2 t a) = v14 (ix2 t 0) + v16 (ix2 t 0) - v21 (ix2 0 a) - v23 (ix2 0 a))
    (h99 : v99 (ix2 t 0) = v15 (ix2 t 0) + v17 (ix2 t 0)) : k0_pay26 (F := Ideal) v22 v24 v98 v99 (ix2 t a)
      = rho (v14 (ix2 t 0)) (v15 (ix2 t 0)) (v16 (ix2 t 0)) (v17 (ix2 t 0)) (v21 (ix2 0 a)) (v22 (ix2 0 a)) (v23 (ix2 0 a)) (v24 (ix2 0 a)) := by
  unfold_payloads; pointwise
  rw [h98, h99]; rfl

theorem p_v118 : k0_pay27 (F := Ideal) v21 v23 (ix2 0 a) = v23 (ix2 0 a) - v21 (ix2 0 a) + eps := by
  unfold_payloads; pointwise; rfl

theorem p_v121 : k0_pay28 (F := Ideal) v22 v24 (ix2 0 a) = v24 (ix2 0 a) - v22 (ix2 0 a) + eps := by
  unfold_payloads; pointwise; rfl

/-- The first box's quotient of width and height. -/
def ratio (x1 y1 x2 y2 : Ideal .f32) : Ideal .f32 := Ideal.div (x2 - x1 + eps) (y2 - y1 + eps)

theorem p_v124 : k0_pay30 (F := Ideal) v14 v15 v16 v17 (ix2 t 0)
    = BitVec.ofBool (decide (1 < ratio (v14 (ix2 t 0)) (v15 (ix2 t 0)) (v16 (ix2 t 0)) (v17 (ix2 t 0)))) := by
  unfold_payloads; pointwise; rfl

theorem p_v127 : k0_pay31 (F := Ideal) v14 v15 v16 v17 (ix2 t 0)
    = inner (ratio (v14 (ix2 t 0)) (v15 (ix2 t 0)) (v16 (ix2 t 0)) (v17 (ix2 t 0))) := by
  unfold_payloads; pointwise; rfl

theorem p_v128 : k0_pay32 (F := Ideal) v14 v15 v16 v17 (ix2 t 0)
    = inner (ratio (v14 (ix2 t 0)) (v15 (ix2 t 0)) (v16 (ix2 t 0)) (v17 (ix2 t 0)))
      * inner (ratio (v14 (ix2 t 0)) (v15 (ix2 t 0)) (v16 (ix2 t 0)) (v17 (ix2 t 0))) := by
  unfold_payloads; pointwise; rfl

theorem p_v145 : k0_pay33 (F := Ideal) v14 v15 v16 v17 (ix2 t 0)
    = poly6 (inner (ratio (v14 (ix2 t 0)) (v15 (ix2 t 0)) (v16 (ix2 t 0)) (v17 (ix2 t 0)))
      * inner (ratio (v14 (ix2 t 0)) (v15 (ix2 t 0)) (v16 (ix2 t 0)) (v17 (ix2 t 0))))
      * (inner (ratio (v14 (ix2 t 0)) (v15 (ix2 t 0)) (v16 (ix2 t 0)) (v17 (ix2 t 0)))
      * inner (ratio (v14 (ix2 t 0)) (v15 (ix2 t 0)) (v16 (ix2 t 0)) (v17 (ix2 t 0)))) := by
  unfold_payloads; pointwise; rfl
end

/-- Choosing by a decided condition. -/
theorem select_dec (p : Prop) [Decidable p] (x y : Ideal .f32) :
    (Scalar.select (BitVec.ofBool (decide p)) x y : Ideal .f32) = if p then x else y := by
  by_cases p <;> simp [*, Scalar.select]

theorem p_v190 (v118 v121 : FVec Ideal S1x8400 .f32) (v124 : IVec S32x1 1) (v127 v128 v145 : FVec Ideal S32x1 .f32)
    (t : Fin 32) (a : Fin 8400) (r : Ideal .f32) (h124 : v124 (ix2 t 0) = BitVec.ofBool (decide (1 < r)))
    (h127 : v127 (ix2 t 0) = inner r) (h128 : v128 (ix2 t 0) = inner r * inner r)
    (h145 : v145 (ix2 t 0) = poly6 (inner r * inner r) * (inner r * inner r)) :
    k0_pay34 (F := Ideal) v118 v121 v124 v127 v128 v145 (Scalar.ofBits .f32 0xBEAAA697#32) (ix2 t a)
      = atan r - atan (Ideal.div (v118 (ix2 0 a)) (v121 (ix2 0 a))) := by
  unfold_payloads; pointwise
  rw [h124, h127, h128, h145]
  rw [select_dec]; rfl

end Cert.KernelIdeal.Vals
-- ==== Proof.KTm.lean ====
/-
  The kernel's overlap, score and alignment metric at a target and an anchor, in terms of its arguments.
-/
module

public import proofs.«01_k».proof.Proof.KIou
public import proofs.«01_k».proof.Proof.SMetric

@[expose] public section

noncomputable section

namespace Cert.KernelIdeal.Vals

open Idealize.ShloMosaic Idealize.ShloMosaic.TcCoe Idealize.SL.Sem Cert.KernelIdeal Cert.KernelIdeal.Gen Cert.Spec

/-- The overlap of target `t` and anchor `a`'s box. -/
def ov (X : Ins Ideal) (t : Fin 32) (a : Fin 8400) : Ideal .f32 :=
  ciou (X.tgt (ix3 0 t 1)) (X.tgt (ix3 0 t 2)) (X.tgt (ix3 0 t 3)) (X.tgt (ix3 0 t 4))
    (X.box (ix3 0 0 a)) (X.box (ix3 0 1 a)) (X.box (ix3 0 2 a)) (X.box (ix3 0 3 a))

/-- Whether anchor `a` lies in target `t`. -/
def ins (X : Ins Ideal) (t : Fin 32) (a : Fin 8400) : Ideal .f32 :=
  inside (X.tgt (ix3 0 t 1)) (X.tgt (ix3 0 t 2)) (X.tgt (ix3 0 t 3)) (X.tgt (ix3 0 t 4)) (X.pts (ix2 0 a)) (X.pts (ix2 1 a))

variable (X : Ins Ideal) (t : Fin 32) (a : Fin 8400)

theorem e_v1 (c : Fin 80) : v1 X (ix2 c a) = X.cls (ix3 0 c a) := p_v1 _ _ _
theorem e_v14 : v14 X (ix2 t 0) = X.tgt (ix3 0 t 1) := p_v14 _ _
theorem e_v15 : v15 X (ix2 t 0) = X.tgt (ix3 0 t 2) := p_v15 _ _
theorem e_v16 : v16 X (ix2 t 0) = X.tgt (ix3 0 t 3) := p_v16 _ _
theorem e_v17 : v17 X (ix2 t 0) = X.tgt (ix3 0 t 4) := p_v17 _ _
theorem e_v21 : v21 X (ix2 0 a) = X.box (ix3 0 0 a) := p_v21 _ _
theorem e_v22 : v22 X (ix2 0 a) = X.box (ix3 0 1 a) := p_v22 _ _
theorem e_v23 : v23 X (ix2 0 a) = X.box (ix3 0 2 a) := p_v23 _ _
theorem e_v24 : v24 X (ix2 0 a) = X.box (ix3 0 3 a) := p_v24 _ _
theorem e_v42 : v42 X (ix2 t a) = v14 X (ix2 t 0) := (p_v42 _ _ _).trans (e_v14 X t).symm
theorem e_v43 : v43 X (ix2 t a) = v21 X (ix2 0 a) := (p_v43 _ _ _).trans (e_v21 X a).symm
theorem e_v41 : v41 X (ix2 t a) = ins X t a := p_v41 _ _ _ _
theorem e_v191 : v191 X (ix2 t a) = Ideal.ofBits .f32 0x3ECF817B#32 := p_v191 _ _

theorem e_v73 : v73 X (ix2 t a) = iou (X.tgt (ix3 0 t 1)) (X.tgt (ix3 0 t 2)) (X.tgt (ix3 0 t 3)) (X.tgt (ix3 0 t 4))
    (X.box (ix3 0 0 a)) (X.box (ix3 0 1 a)) (X.box (ix3 0 2 a)) (X.box (ix3 0 3 a)) := by
  unfold v73
  rw [p_v73 _ _ _ _ _ _ _ _ _ _ t a (e_v42 X t a) (e_v43 X t a)]
  simp only [e_v14, e_v15, e_v16, e_v17, e_v21, e_v22, e_v23, e_v24]

theorem e_v92 : v92 X (ix2 t a) = diag (X.tgt (ix3 0 t 1)) (X.tgt (ix3 0 t 2)) (X.tgt (ix3 0 t 3)) (X.tgt (ix3 0 t 4))
    (X.box (ix3 0 0 a)) (X.box (ix3 0 1 a)) (X.box (ix3 0 2 a)) (X.box (ix3 0 3 a)) := by
  unfold v92
  rw [p_v92]
  simp only [e_v14, e_v15, e_v16, e_v17, e_v21, e_v22, e_v23, e_v24]

theorem e_v109 : v109 X (ix2 t a) = rho (X.tgt (ix3 0 t 1)) (X.tgt (ix3 0 t 2)) (X.tgt (ix3 0 t 3)) (X.tgt (ix3 0 t 4))
    (X.box (ix3 0 0 a)) (X.box (ix3 0 1 a)) (X.box (ix3 0 2 a)) (X.box (ix3 0 3 a)) := by
  have h98 : v98 X (ix2 t a) = v14 X (ix2 t 0) + v16 X (ix2 t 0) - v21 X (ix2 0 a) - v23 X (ix2 0 a) := p_v98 _ _ _ _ _ _
  have h99 : v99 X (ix2 t 0) = v15 X (ix2 t 0) + v17 X (ix2 t 0) := p_v99 _ _ _
  have h := p_v109 (v14 X) (v15 X) (v16 X) (v17 X) (v21 X) (v22 X) (v23 X) (v24 X) (v98 X) (v99 X) t a h98 h99
  simp only [e_v14, e_v15, e_v16, e_v17, e_v21, e_v22, e_v23, e_v24] at h
  exact h

theorem e_v190 : v190 X (ix2 t a) = angle (X.tgt (ix3 0 t 1)) (X.tgt (ix3 0 t 2)) (X.tgt (ix3 0 t 3)) (X.tgt (ix3 0 t 4))
    (X.box (ix3 0 0 a)) (X.box (ix3 0 1 a)) (X.box (ix3 0 2 a)) (X.box (ix3 0 3 a)) := by
  have h118 : v118 X (ix2 0 a) = v23 X (ix2 0 a) - v21 X (ix2 0 a) + eps := p_v118 _ _ _
  have h121 : v121 X (ix2 0 a) = v24 X (ix2 0 a) - v22 X (ix2 0 a) + eps := p_v121 _ _ _
  have h := p_v190 (v118 X) (v121 X) (v124 X) (v127 X) (v128 X) (v145 X) t a _ (p_v124 _ _ _ _ _) (p_v127 _ _ _ _ _)
    (p_v128 _ _ _ _ _) (p_v145 _ _ _ _ _)
  rw [h118, h121] at h
  simp only [e_v14, e_v15, e_v16, e_v17, e_v21, e_v22, e_v23, e_v24] at h
  exact h

/-- The kernel's expression for the clipped overlap. -/
theorem clip_ov : min 1 (max 0 (v73 X (ix2 t a) - Ideal.div (v109 X (ix2 t a)) (v92 X (ix2 t a))
    - Ideal.div (v191 X (ix2 t a) * v190 X (ix2 t a) * v190 X (ix2 t a))
        (1 - v73 X (ix2 t a) + v191 X (ix2 t a) * v190 X (ix2 t a) * v190 X (ix2 t a) + Ideal.ofBits .f32 0x3089705F#32)
      * (v191 X (ix2 t a) * v190 X (ix2 t a) * v190 X (ix2 t a)))) = clip (ov X t a) := by
  rw [e_v73, e_v92, e_v109, e_v190, e_v191]
  unfold ov ciou
  generalize angle _ _ _ _ _ _ _ _ = g
  have e : Ideal.ofBits .f32 0x3ECF817B#32 * (g * g) = Ideal.ofBits .f32 0x3ECF817B#32 * g * g := (mul_assoc _ _ _).symm
  exact congrArg (fun z => clip (assemble _ _ _ z)) e.symm

section
variable (w1 : FVec Ideal S80x8400 .f32) (w13 : IVec S32x1 32) (w41 w73 w92 w109 w190 w191 : FVec Ideal S32x8400 .f32)
  (t : Fin 32) (a : Fin 8400)

/-- The clipped overlap over any operands. -/
def ci (w73 w92 w109 w190 w191 : FVec Ideal S32x8400 .f32) (t : Fin 32) (a : Fin 8400) : Ideal .f32 :=
  min 1 (max 0 (w73 (ix2 t a) - Ideal.div (w109 (ix2 t a)) (w92 (ix2 t a))
    - Ideal.div (w191 (ix2 t a) * w190 (ix2 t a) * w190 (ix2 t a))
        (1 - w73 (ix2 t a) + w191 (ix2 t a) * w190 (ix2 t a) * w190 (ix2 t a) + Ideal.ofBits .f32 0x3089705F#32)
      * (w191 (ix2 t a) * w190 (ix2 t a) * w190 (ix2 t a))))

theorem p_v221 (κ : Fin 80) (h : w13 (ix2 t 0) = BitVec.ofNat 32 κ.val) : k0_pay38 w1 w13 (ix2 t a) = w1 (ix2 κ a) := by
  unfold_payloads; pointwise
  rw [h]
  exact sum_hot (by norm_num) κ fun c => w1 (ix2 c a)

theorem p_v227 (κ : Fin 80) (h : w13 (ix2 t 0) = BitVec.ofNat 32 κ.val) :
    k0_pay39 w1 w13 w41 w73 w92 w109 w190 w191 (ix2 t a)
      = metric (w41 (ix2 t a)) (ci w73 w92 w109 w190 w191 t a) (sigm (w1 (ix2 κ a))) := by
  rw [← sigm_tanh, ← sum_hot (by norm_num) κ fun c => (Ideal.ofBits .f32 0x3F000000#32 * Ideal.tanh (Ideal.ofBits .f32 0x3F000000#32 * w1 (ix2 c a)) + Ideal.ofBits .f32 0x3F000000#32), ← h]
  unfold_payloads; pointwise
  rfl

theorem p_v229 : k0_pay40 w73 w92 w109 w190 w191 (ix2 t 0)
    = Finset.fold max (Ideal.ofBits .f32 0xFF800000#32) (fun a => ci w73 w92 w109 w190 w191 t a) Finset.univ := by
  unfold_payloads; pointwise
  rfl

theorem p_v231 (κ : Fin 80) (h : w13 (ix2 t 0) = BitVec.ofNat 32 κ.val) (p : Fin 8448) :
    k0_pay41 w1 w13 w41 w73 w92 w109 w190 w191 (ix2 t p)
      = if hp : p.val < 8400 then metric (w41 (ix2 t ⟨p.val, hp⟩)) (ci w73 w92 w109 w190 w191 t ⟨p.val, hp⟩) (sigm (w1 (ix2 κ ⟨p.val, hp⟩))) else 0 := by
  have e : ∀ q : Fin 8400, _ := fun q => p_v227 w1 w13 w41 w73 w92 w109 w190 w191 t q κ h
  simp only [← e]
  unfold_payloads; pointwise
end

theorem p_v13 (tgt : Vec Ideal S1x32x5 .f32) (t : Fin 32) :
    k0_pay7 (F := Ideal) tgt (ix2 t 0) = FloatOps.fptosi 32 (max (tgt (ix3 0 t 0)) 0 : Ideal .f32) := by
  unfold_payloads; pointwise

/-- The metric of target `t`, whose class is `κ`, and anchor `a`. -/
def tm (X : Ins Ideal) (κ : Fin 80) (t : Fin 32) (a : Fin 8400) : Ideal .f32 :=
  metric (ins X t a) (clip (ov X t a)) (sigm (X.cls (ix3 0 κ a)))

section
variable (κ : Fin 80) (hκ : v13 X (ix2 t 0) = BitVec.ofNat 32 κ.val)
include hκ

theorem e_v221 : v221 X (ix2 t a) = X.cls (ix3 0 κ a) := (p_v221 _ _ t a κ hκ).trans (e_v1 X a κ)

theorem e_v227 : v227 X (ix2 t a) = tm X κ t a := by
  unfold v227
  rw [p_v227 _ _ _ _ _ _ _ _ t a κ hκ, e_v41, e_v1]
  exact congrArg (fun i => metric _ i _) (clip_ov X t a)

theorem e_v231 (p : Fin 8448) : v231 X (ix2 t p) = if hp : p.val < 8400 then tm X κ t ⟨p.val, hp⟩ else 0 := by
  unfold v231
  rw [p_v231 _ _ _ _ _ _ _ _ t κ hκ p]
  by_cases hp : p.val < 8400
  · rw [dif_pos hp, dif_pos hp, e_v41, e_v1]
    exact congrArg (fun i => metric _ i _) (clip_ov X t _)
  · rw [dif_neg hp, dif_neg hp]
end

theorem e_v229 : v229 X (ix2 t 0) = Finset.fold max (Ideal.ofBits .f32 0xFF800000#32) (fun a => clip (ov X t a)) Finset.univ := by
  unfold v229
  rw [p_v229]
  exact congrArg (fun f => Finset.fold max _ f Finset.univ) (funext fun a => clip_ov X t a)

end Cert.KernelIdeal.Vals
-- ==== Proof.SRank.lean ====
/-
  A padded row's registers against the sorted row: under distinct leading values the threshold of ten different register
  values keeps exactly the entries with fewer than ten greater ones, and the registers' maximum is the row's.
-/
module

public import proofs.«01_k».proof.Proof.Count
public import proofs.«01_k».proof.Proof.RSort
public import proofs.«01_k».proof.Proof.SMetric

@[expose] public section

noncomputable section

namespace Cert.Count

open Idealize.ShloMosaic Classical

/-- The row `y`, padded with zeros. -/
def pad (y : Fin 8400 → EReal) (p : Fin 8448) : EReal := if hp : p.val < 8400 then y ⟨p.val, hp⟩ else 0

theorem pad_cast (y : Fin 8400 → EReal) (a : Fin 8400) : pad y (Fin.castLE (by decide) a) = y a := by
  unfold pad
  exact dif_pos a.isLt

theorem num_pad (y : Fin 8400 → EReal) (v : EReal) (hv : 0 ≤ v) : num (pad y) v = num y v := by
  unfold num
  refine (Finset.card_bij (fun a _ => Fin.castLE (by decide) a) ?_ ?_ ?_).symm
  · intro a ha
    simp only [Finset.mem_filter, Finset.mem_univ, true_and] at ha ⊢
    rw [pad_cast]; exact ha
  · intro a _ a' _ h
    exact Fin.castLE_injective _ h
  · intro p hp
    simp only [Finset.mem_filter, Finset.mem_univ, true_and] at hp ⊢
    unfold pad at hp
    by_cases h : p.val < 8400
    · rw [dif_pos h] at hp
      exact ⟨⟨p.val, h⟩, hp, rfl⟩
    · rw [dif_neg h] at hp
      exact absurd hp (not_lt.2 hv)

/-- The ten leading values strictly fall while positive. -/
def Falls (y : Fin 8400 → EReal) : Prop := ∀ k : Fin 9,
  y (sortedFrom (Sort.before y) (Fin.castLE (by decide) k.succ)) < y (sortedFrom (Sort.before y) (Fin.castLE (by decide) k.castSucc))
    ∨ y (sortedFrom (Sort.before y) (Fin.castLE (by decide) k.succ)) ≤ 0

variable (y : Fin 8400 → EReal) (f : Fin 10 × Fin 128 → EReal)

theorem kept_iff (hf : ∀ k l, Reg (lane (pad y) l) k.val 66 (f (k, l))) (hy : Falls y) (v : EReal) (hv : 0 < v) :
    10 ≤ dis f v ↔ ¬ num y v ≤ 9 := by
  constructor
  · intro h h9
    have := dis_le (pad y) f hf v ((by norm_num : (-1 : EReal) ≤ 0).trans hv.le)
    rw [num_pad y v hv.le] at this
    omega
  · intro h
    have hlast : v < y (sortedFrom (Sort.before y) (Fin.castLE (by decide) (9 : Fin 10))) :=
      (Sort.lt_from y _ v).2 (not_le.1 h)
    let g : Fin 10 → EReal := fun i => y (sortedFrom (Sort.before y) (Fin.castLE (by decide) i))
    have hanti : ∀ i j : Fin 10, i ≤ j → g j ≤ g i := fun i j hij => by
      rcases hij.eq_or_lt with rfl | hij
      · exact le_rfl
      · exact (Sort.from_le y (i := Fin.castLE (by decide) i) (j := Fin.castLE (by decide) j) hij).1
    have hgt : ∀ i, v < g i := fun i => hlast.trans_le (hanti i 9 (Fin.le_last i))
    have hstrict : StrictAnti g := Fin.strictAnti_iff_succ_lt.2 fun k => by
      rcases hy k with h1 | h1
      · exact h1
      · exact absurd ((hv.trans (hgt k.succ)).trans_le h1) (lt_irrefl _)
    refine ten_le_dis (pad y) f hf v hv.le (fun i => Fin.castLE (by decide) (sortedFrom (Sort.before y) (Fin.castLE (by decide) i))) ?_ ?_ ?_
    · intro i j hij
      simp only [pad_cast] at hij
      exact hstrict.injective hij
    · intro i
      rw [pad_cast]
      exact hgt i
    · intro i
      rw [pad_cast, num_pad y _ (hv.trans (hgt i)).le]
      by_contra hn
      have h2 : g i < g 9 := (Sort.lt_from y _ _).2 (not_le.1 hn)
      exact absurd h2 (not_lt.2 (hanti i 9 (Fin.le_last i)))

/-- What the threshold keeps. -/
theorem keep_eq (hf : ∀ k l, Reg (lane (pad y) l) k.val 66 (f (k, l))) (hy : Falls y) (h0 : ∀ a, 0 ≤ y a) (thr : EReal)
    (ht : ∀ v, -1 ≤ v → (v < thr ↔ 10 ≤ dis f v)) (a : Fin 8400) :
    (if thr ≤ y a ∧ 0 < y a then y a else 0) = if num y (y a) ≤ 9 then y a else 0 := by
  rcases (h0 a).eq_or_lt with h | h
  · rw [← h]; simp
  · have e : thr ≤ y a ↔ num y (y a) ≤ 9 := by
      rw [← not_lt, ht (y a) ((by norm_num : (-1 : EReal) ≤ 0).trans h.le), kept_iff y f hf hy _ h, not_not]
    simp only [e, h, and_true]

/-- The registers' maximum. -/
theorem max_eq (hf : ∀ k l, Reg (lane (pad y) l) k.val 66 (f (k, l))) (h0 : ∀ a, 0 ≤ y a) (m m' : EReal) (hm : IsSup f m)
    (hm' : ∀ w, w < m' ↔ ∃ a, w < y a) : m = m' := by
  have hpad : ∀ w, (∃ p, w < pad y p) ↔ ∃ a, w < y a := fun w => by
    constructor
    · rintro ⟨p, hp⟩
      unfold pad at hp
      by_cases h : p.val < 8400
      · rw [dif_pos h] at hp; exact ⟨_, hp⟩
      · rw [dif_neg h] at hp; exact ⟨0, hp.trans_le (h0 0)⟩
    · rintro ⟨a, ha⟩
      exact ⟨Fin.castLE (by decide) a, by rw [pad_cast]; exact ha⟩
  have h1 : ∀ w, -1 ≤ w → (w < m ↔ w < m') := fun w hw => by
    rw [hm w, hm' w, ← hpad w]
    have hn : (∃ p, w < pad y p) ↔ 0 < num (pad y) w := by
      unfold num
      rw [Finset.card_pos]
      constructor
      · rintro ⟨p, hp⟩; exact ⟨p, by simp [hp]⟩
      · rintro ⟨p, hp⟩; exact ⟨p, by simpa using hp⟩
    rw [hn, ← num_lanes]
    constructor
    · rintro ⟨⟨k, l⟩, h⟩
      have := (hf k l w hw).1 h
      exact (Nat.zero_le _).trans_lt this |>.trans_le (Finset.single_le_sum (f := fun l => cnt (lane (pad y) l) 66 w) (fun _ _ => Nat.zero_le _) (Finset.mem_univ l))
    · intro h
      obtain ⟨l, -, hl⟩ := Finset.exists_ne_zero_of_sum_ne_zero h.ne'
      exact ⟨(0, l), (hf 0 l w hw).2 (Nat.pos_of_ne_zero hl)⟩
  have hlow : (-1 : EReal) < m' := (hm' _).2 ⟨0, lt_of_lt_of_le (by norm_num) (h0 0)⟩
  have hlow' : (-1 : EReal) < m := (h1 _ le_rfl).2 hlow
  refine eq_of_forall_lt_iff fun w => ?_
  rcases le_or_gt (-1) w with h | h
  · exact h1 w h
  · exact ⟨fun _ => h.trans hlow, fun _ => h.trans hlow'⟩

end Cert.Count

end
-- ==== Proof.KMatch.lean ====
/-
  The kernel's matching, read at an anchor: the kept metrics, the first target of the greatest one, the score written there
  and the two sums over it.
-/
module

public import proofs.«01_k».proof.Proof.KRounds
public import proofs.«01_k».proof.Proof.KTm
public import proofs.«01_k».proof.Proof.SRank
public import Idealize.ShloMosaic.Lib.Pointwise
public import Idealize.ShloMosaic.Lib.SortNet.Extract

@[expose] public section

noncomputable section

namespace Cert.KernelIdeal.Vals

open Idealize.ShloMosaic Idealize.ShloMosaic.TcCoe Idealize.SL.Sem Cert.KernelIdeal Cert.KernelIdeal.Gen Cert.Count Cert.Spec

theorem keep_apply (v : FVec Ideal S32x8400 .f32) (thr : FVec Ideal S32x1 .f32) (t : Fin 32) (a : Fin 8400) :
    keep v thr (ix2 t a) = if (thr (ix2 t 0) : EReal) ≤ v (ix2 t a) ∧ (0 : EReal) < v (ix2 t a) then v (ix2 t a) else (0 : EReal) := by
  unfold keep
  pointwise
  by_cases h1 : (thr (ix2 t 0) : EReal) ≤ v (ix2 t a) <;> by_cases h2 : (0 : EReal) < v (ix2 t a) <;>
    simp [h1, h2, Scalar.select, IntOp.andi]

/-- How many targets keep an anchor. -/
def keptCount (v : FVec Ideal S32x8400 .f32) : FVec Ideal S1x8400 .f32 :=
  shapeCast S1x8400 (multiReduction .add [0] S8400 (sitofp .f32 (extui 32 (cmpf .ogt v (broadcast S32x8400 (Scalar.ofBits (F := Ideal) .f32 0x00000000#32))) ))
    0x00000000#32 reduces_S32x8400_S8400 (.inl rfl) rfl) shapeCasts_S8400_S1x8400

theorem e_v2044 (X : Ins Ideal) : v2044 X = keptCount (v2038 X) := rfl

/-- A bit as a number, by way of a word. -/
def num1 (p : Prop) [Decidable p] : EReal := FloatOps.sitofp (F := Ideal) .f32 (BitVec.setWidth 32 (BitVec.ofBool (decide p)))

theorem keptCount_apply (v : FVec Ideal S32x8400 .f32) (a : Fin 8400) :
    keptCount v (ix2 0 a) = ∑ t : Fin 32, num1 ((0 : EReal) < v (ix2 t a)) := by
  unfold keptCount
  pointwise
  rfl

theorem p_v2045 (w : FVec Ideal S32x8400 .f32) (a : Fin 8400) : k0_pay1365 w (ix1 a) = ∑ t : Fin 32, w (ix2 t a) := by
  unfold_payloads; pointwise

/-- The first position of the greatest of a column, by the least word. -/
theorem first_word (w : Fin 32 → EReal) (τ : Fin 32) (h : ∀ i, w i ≤ w τ ∧ (w i = w τ → τ ≤ i)) :
    Finset.fold IntOp.minsi 2147483647#32 (fun x : Fin 32 => if w x = Finset.fold max (Ideal.ofBits .f32 4286578688#32) w Finset.univ
      then BitVec.ofNat 32 x.val else 32#32) Finset.univ = BitVec.ofNat 32 τ.val := by
  have e : Finset.fold max (Ideal.ofBits .f32 4286578688#32) w Finset.univ = w τ := by
    refine eq_of_forall_lt_iff fun c => ?_
    rw [fold_max_lt]
    exact ⟨fun ⟨i, hi⟩ => hi.trans_le (h i).1, fun hc => ⟨τ, hc⟩⟩
  rw [e]
  have hi : ∀ k : Fin 32, (BitVec.ofNat 32 k.val).toInt = k.val := by decide
  apply BitVec.eq_of_toInt_eq
  rw [← Finset.fold_hom (op := IntOp.minsi) (op' := min) (m := BitVec.toInt) (fun a b => SortNet.toInt_minsi a b)]
  rw [hi]
  apply le_antisymm
  · rw [Finset.fold_min_le]
    exact .inr ⟨τ, Finset.mem_univ _, by rw [if_pos rfl, hi]⟩
  · rw [Finset.le_fold_min]
    refine ⟨?_, fun x _ => ?_⟩
    · have := τ.isLt
      have : (2147483647#32).toInt = 2147483647 := by decide
      omega
    · by_cases hx : w x = w τ
      · rw [if_pos hx, hi]
        exact_mod_cast (h x).2 hx
      · rw [if_neg hx]
        have := τ.isLt
        have : (32#32).toInt = 32 := by decide
        omega

section
variable (w14 : FVec Ideal S32x1 .f32) (w221 w227 w2067 w2038 : FVec Ideal S32x8400 .f32) (w229 w1572 : FVec Ideal S32x1 .f32) (w2044 w2076 : FVec Ideal S1x8400 .f32)
  (w2045 : FVec Ideal S8400 .f32) (a : Fin 8400) (τ : Fin 32)
  (h : ∀ i, (w2038 (ix2 i a) : EReal) ≤ w2038 (ix2 τ a) ∧ ((w2038 (ix2 i a) : EReal) = w2038 (ix2 τ a) → τ ≤ i))
include h

theorem p_v2067 (t : Fin 32) : k0_pay1366 w2038 (ix2 t a) = if t = τ then (1 : EReal) else 0 := by
  unfold_payloads; pointwise
  have e := first_word (fun x => w2038 (ix2 x a)) τ h
  rw [e, bit_cmp _ (by omega) _ (by omega)]
  exact if_congr (by exact ⟨fun e => Fin.ext e, fun e => congrArg Fin.val e⟩) rfl rfl

/-- The score written at an anchor. -/
def scoreOf (w227 : FVec Ideal S32x8400 .f32) (w229 w1572 : FVec Ideal S32x1 .f32) (w2044 : FVec Ideal S1x8400 .f32)
    (w2045 : FVec Ideal S8400 .f32) (a : Fin 8400) (τ : Fin 32) : EReal :=
  w227 (ix2 τ a) * Ideal.div (w229 (ix2 τ 0)) (w1572 (ix2 τ 0) + eps) * num1 ((0 : EReal) < w2045 (ix1 a) * w2044 (ix2 0 a))

theorem p_v2076 : k0_pay1367 w227 w229 w1572 w2038 w2044 w2045 (ix2 0 a) = scoreOf w227 w229 w1572 w2044 w2045 a τ := by
  unfold_payloads; pointwise
  have e := first_word (fun x => w2038 (ix2 x a)) τ h
  rw [e]
  unfold scoreOf
  have e2 := sum_hot (by norm_num) τ (fun x => w227 (ix2 x a) * Ideal.div (w229 (ix2 x 0)) (w1572 (ix2 x 0) + eps))
  rw [← e2]
  simp only [← mul_assoc]
  rfl

theorem p_v2080 : k0_pay1368 w14 w2038 (ix2 0 a) = w14 (ix2 τ 0) := by
  unfold_payloads; pointwise
  have e := first_word (fun x => w2038 (ix2 x a)) τ h
  rw [e]
  exact sum_hot (by norm_num) τ (fun x => w14 (ix2 x 0))

omit h
theorem p_v2103 : k0_pay1374 w221 w2067 w2076 = ∑ t : Fin 32, ∑ a : Fin 8400, w2067 (ix2 t a) * w221 (ix2 t a) * w2076 (ix2 0 a) := by
  unfold_payloads; pointwise

theorem p_v2096 : k0_pay1373 (k0_pay1372 w227 w229 w1572 w2038 w2044 w2045) = ∑ a : Fin 8400, k0_pay1367 w227 w229 w1572 w2038 w2044 w2045 (ix2 0 a) := by
  have e : k0_pay1373 (k0_pay1372 w227 w229 w1572 w2038 w2044 w2045) = k0_pay1372 w227 w229 w1572 w2038 w2044 w2045 (ix1 0) := by
    generalize k0_pay1372 w227 w229 w1572 w2038 w2044 w2045 = u
    unfold_payloads; pointwise
  rw [e]
  unfold_payloads; pointwise
  rw [Finset.sum_const, Finset.card_univ, Fintype.card_fin, one_smul]
end

end Cert.KernelIdeal.Vals

end
-- ==== Proof.Match.lean ====
/-
  The kernel's matching and the reference's, for one image: the same metric, the same kept entries, the same target of
  every anchor, the same score; hence the same sums of the scores and of the scores against the logits.
-/
module

public import proofs.«01_k».proof.Proof.KMatch
public import proofs.«01_k».proof.Proof.RMatch

@[expose] public section

noncomputable section

namespace Cert.Match

open Idealize.ShloMosaic Cert.Spec Cert.Count Cert.KernelIdeal.Vals Cert.ReferenceIdeal.Read

variable (X : Ins Ideal)
  (x0 : (⟨Cert.ReferenceIdeal.S16x8400x80, .f32⟩ : BufTy).Contents (Elt Ideal))
  (x1 : (⟨Cert.ReferenceIdeal.S16x8400x4x16, .f32⟩ : BufTy).Contents (Elt Ideal))
  (x2 : (⟨Cert.ReferenceIdeal.S16x8400x4, .f32⟩ : BufTy).Contents (Elt Ideal))
  (x3 : (⟨Cert.ReferenceIdeal.S16x32x5, .f32⟩ : BufTy).Contents (Elt Ideal))
  (x4 : (⟨Cert.ReferenceIdeal.S8400x2, .f32⟩ : BufTy).Contents (Elt Ideal))
  (x5 : (⟨Cert.ReferenceIdeal.S8400, .f32⟩ : BufTy).Contents (Elt Ideal))
  (b : Fin 16)

/-- The kernel's blocks are image `b` of the arguments. -/
structure Same : Prop where
  cls : ∀ k a, X.cls (ix3 0 k a) = x0 (ix3 b a k)
  anc : ∀ (j : Fin 4) (k : Fin 16) a, X.anc (ix3 0 ⟨16 * j.val + k.val, by omega⟩ a) = x1 (ix4 b a j k)
  box : ∀ k a, X.box (ix3 0 k a) = x2 (ix3 b a k)
  tgt : ∀ t j, X.tgt (ix3 0 t j) = x3 (ix3 b t j)
  px : ∀ a, X.pts (ix2 0 a) = x4 (ix2 a 0)
  py : ∀ a, X.pts (ix2 1 a) = x4 (ix2 a 1)
  sc : ∀ a, X.pts (ix2 2 a) = x5 (ix1 a)

/-- What is asked of the image: class numbers below eighty, and leading metrics that differ while positive. -/
structure Ranked : Prop where
  cls : ∀ t, ((x3 (ix3 b t 0) : Ideal .f32) : EReal) < ((80 : ℝ) : EReal)
  falls : ∀ t, Falls (rowT x0 x2 x3 x4 b t)

variable {X x0 x1 x2 x3 x4 x5 b} (S : Same X x0 x1 x2 x3 x4 x5 b) (R : Ranked x0 x2 x3 x4 b)
include S R

/-- The class of a target, one number on both sides. -/
theorem cls_eq (t : Fin 32) : ∃ κ : Fin 80, v13 X (ix2 t 0) = BitVec.ofNat 32 κ.val
    ∧ val_main_v4 (F := Ideal) x3 (ix2 b t) = BitVec.ofNat 32 κ.val := by
  obtain ⟨κ, h1, h2⟩ := class_nat (x3 (ix3 b t 0)) (R.cls t)
  refine ⟨κ, ?_, ?_⟩
  · unfold v13
    rw [p_v13, S.tgt]
    exact h1
  · rw [r_v4]
    exact h2

omit R in
theorem over_eq (t : Fin 32) (a : Fin 8400) : clip (ov X t a) = val_main_v286 (F := Ideal) x2 x3 (ix3 b t a) := by
  rw [r_v286]
  unfold ov
  simp only [S.tgt, S.box]

omit R in
theorem ins_eq (t : Fin 32) (a : Fin 8400) : ins X t a = val_main_v304 (F := Ideal) x3 x4 (ix3 b t a) := by
  rw [r_v304]
  unfold ins
  simp only [S.tgt, S.px, S.py]

omit R in
theorem tm_eq (t : Fin 32) (κ : Fin 80) (h : val_main_v4 (F := Ideal) x3 (ix2 b t) = BitVec.ofNat 32 κ.val) (a : Fin 8400) :
    tm X κ t a = rowT x0 x2 x3 x4 b t a := by
  unfold rowT
  rw [r_v303 x0 x2 x3 x4 b t a κ h, ← over_eq S t a]
  unfold tm ins
  simp only [S.tgt, S.px, S.py, S.cls]

omit S in
theorem row_nonneg (t : Fin 32) (a : Fin 8400) : (0 : EReal) ≤ rowT x0 x2 x3 x4 b t a := by
  obtain ⟨κ, -, h2⟩ := class_nat (x3 (ix3 b t 0)) (R.cls t)
  have h : val_main_v4 (F := Ideal) x3 (ix2 b t) = BitVec.ofNat 32 κ.val := by rw [r_v4]; exact h2
  unfold rowT
  rw [r_v303 x0 x2 x3 x4 b t a κ h, r_v286]
  exact metric_nonneg _ _ _ _ _ _ _ _ (clip_nonneg _) (sigm_nonneg _)

theorem v227_eq (t : Fin 32) (a : Fin 8400) : v227 X (ix2 t a) = rowT x0 x2 x3 x4 b t a := by
  obtain ⟨κ, h1, h2⟩ := cls_eq S R t
  rw [e_v227 X t a κ h1, tm_eq S t κ h2 a]

theorem pad_eq (t : Fin 32) : row (v231 X) t = pad (rowT x0 x2 x3 x4 b t) := by
  obtain ⟨κ, h1, h2⟩ := cls_eq S R t
  funext p
  unfold row Count.pad
  rw [e_v231 X t κ h1 p]
  by_cases hp : p.val < 8400
  · rw [dif_pos hp, dif_pos hp, tm_eq S t κ h2]
  · rw [dif_neg hp, dif_neg hp]

theorem regs (t : Fin 32) (k : Fin 10) (l : Fin 128) : Reg (lane (pad (rowT x0 x2 x3 x4 b t)) l) k.val 66 (fam (g0 X) t (k, l)) := by
  rw [← pad_eq S R t]
  exact g0_reg X t k l

/-- The kept metrics agree. -/
theorem kept_eq (t : Fin 32) (a : Fin 8400) : v2038 X (ix2 t a) = val_main_v313 (F := Ideal) x0 x2 x3 x4 (ix3 b t a) := by
  rw [e_v2038, keep_apply, r_v313, v227_eq S R t a]
  exact keep_eq _ _ (regs S R t) (R.falls t) (row_nonneg R t) _ (fun v hv => lt_thr X t v hv) a

omit R in
theorem maxO_eq (t : Fin 32) : v229 X (ix2 t 0) = maxO x2 x3 b t := by
  rw [e_v229]
  unfold maxO
  exact congrArg (fun f => Finset.fold max _ f Finset.univ) (funext fun a => over_eq S t a)

theorem maxT_eq (t : Fin 32) : v1572 X (ix2 t 0) = maxT x0 x2 x3 x4 b t :=
  max_eq _ _ (regs S R t) (row_nonneg R t) _ _ (sup0 X t) fun w => fold_max_lt _ w

/-- The anchor's target is the first that keeps its greatest metric. -/
theorem first_eq (a : Fin 8400) (i : Fin 32) : (v2038 X (ix2 i a) : EReal) ≤ v2038 X (ix2 (tgtOf x0 x2 x3 x4 b a) a)
    ∧ ((v2038 X (ix2 i a) : EReal) = v2038 X (ix2 (tgtOf x0 x2 x3 x4 b a) a) → tgtOf x0 x2 x3 x4 b a ≤ i) := by
  rw [kept_eq S R, kept_eq S R]
  exact Sort.from_zero (fun t => val_main_v313 (F := Ideal) x0 x2 x3 x4 (ix3 b t a)) i

omit S R in
theorem num1_eq (p : Prop) [Decidable p] : num1 p = (FloatOps.uitofp (F := Ideal) .f32 (BitVec.ofBool (decide p)) : Ideal .f32) := by
  unfold num1
  by_cases h : p <;> simp [h, FloatOps.sitofp, FloatOps.uitofp]

omit S R in
theorem num1_val (p : Prop) [Decidable p] : num1 p = if p then 1 else 0 := by
  unfold num1
  by_cases h : p <;> simp [h, FloatOps.sitofp]

theorem ok_eq (a : Fin 8400) : num1 ((0 : EReal) < v2045 X (ix1 a) * v2044 X (ix2 0 a)) = okA x0 x2 x3 x4 b a := by
  unfold okA
  rw [r_v324, num1_eq]
  have e1 : (v2045 X (ix1 a) : EReal) = ∑ t : Fin 32, val_main_v304 (F := Ideal) x3 x4 (ix3 b t a) := by
    unfold v2045
    rw [p_v2045]
    exact Finset.sum_congr rfl fun t _ => (e_v41 X t a).trans (ins_eq S t a)
  have e2 : (v2044 X (ix2 0 a) : EReal) = ∑ t : Fin 32, (FloatOps.uitofp .f32 (BitVec.ofBool (decide ((0 : EReal) < val_main_v313 (F := Ideal) x0 x2 x3 x4 (ix3 b t a)))) : Ideal .f32) := by
    rw [e_v2044, keptCount_apply]
    refine Finset.sum_congr rfl fun t _ => ?_
    rw [num1_eq, kept_eq S R t a]
  rw [e1, e2]

omit S in
theorem maxT_eps (t : Fin 32) : maxT x0 x2 x3 x4 b t + eps ≠ 0 := by
  have h0 : (0 : EReal) ≤ maxT x0 x2 x3 x4 b t := by
    by_contra h
    have h1 := (fold_max_lt (rowT x0 x2 x3 x4 b t) (maxT x0 x2 x3 x4 b t)).2 ⟨0, (not_le.1 h).trans_le (row_nonneg R t 0)⟩
    exact lt_irrefl _ h1
  have h1 : (0 : EReal) < eps := by
    unfold eps
    simp [Ideal.ofBits, Ideal.ieee]
    rw [← EReal.coe_mul]
    exact_mod_cast (by norm_num)
  exact (lt_of_lt_of_le h1 (by simpa using add_le_add_left h0 eps)).ne'

omit S R in
theorem div_mul (x y z : EReal) (h : y ≠ 0) : x * Ideal.div z y = Ideal.div x y * z := by
  unfold Ideal.div
  rw [if_neg h, if_neg h, mul_comm z, ← mul_assoc]

/-- The score at an anchor. -/
def score (x0 : (⟨Cert.ReferenceIdeal.S16x8400x80, .f32⟩ : BufTy).Contents (Elt Ideal))
    (x2 : (⟨Cert.ReferenceIdeal.S16x8400x4, .f32⟩ : BufTy).Contents (Elt Ideal)) (x3 : (⟨Cert.ReferenceIdeal.S16x32x5, .f32⟩ : BufTy).Contents (Elt Ideal))
    (x4 : (⟨Cert.ReferenceIdeal.S8400x2, .f32⟩ : BufTy).Contents (Elt Ideal)) (b : Fin 16) (a : Fin 8400) : EReal :=
  normT x0 x2 x3 x4 b (tgtOf x0 x2 x3 x4 b a) a * okA x0 x2 x3 x4 b a

theorem score_eq (a : Fin 8400) : v2076 X (ix2 0 a) = score x0 x2 x3 x4 b a := by
  unfold v2076
  rw [p_v2076 _ _ _ _ _ _ a (tgtOf x0 x2 x3 x4 b a) (first_eq S R a)]
  unfold scoreOf score normT
  rw [ok_eq S R, v227_eq S R, maxO_eq S, maxT_eq S R, div_mul _ _ _ (maxT_eps R _)]

omit S in
theorem hot_eq (a : Fin 8400) (κ : Fin 80) (h : val_main_v4 (F := Ideal) x3 (ix2 b (tgtOf x0 x2 x3 x4 b a)) = BitVec.ofNat 32 κ.val) (c : Fin 80) :
    hotA x0 x2 x3 x4 b a c = if c = κ then 1 else 0 := by
  unfold hotA
  rw [h]
  have e : IntOp.cmpi .eq (BitVec.ofNat 32 κ.val) (BitVec.ofNat 32 c.val) = BitVec.ofBool (decide (c = κ)) := by
    by_cases hc : c = κ
    · subst hc; simp [IntOp.cmpi]
    · have hne : ¬ (BitVec.ofNat 32 κ.val = BitVec.ofNat 32 c.val) := fun e => by
        have e' := congrArg BitVec.toNat e
        simp only [BitVec.toNat_ofNat] at e'
        exact hc (Fin.ext (by omega))
      have hb := beq_eq_false_iff_ne.2 hne
      simp [IntOp.cmpi, hc, hb]
  rw [e, ← num1_eq, num1_val]

/-- The scores of an anchor against any numbers of its classes. -/
theorem hot_sum (a : Fin 8400) : ∃ κ : Fin 80, val_main_v4 (F := Ideal) x3 (ix2 b (tgtOf x0 x2 x3 x4 b a)) = BitVec.ofNat 32 κ.val
    ∧ v13 X (ix2 (tgtOf x0 x2 x3 x4 b a) 0) = BitVec.ofNat 32 κ.val
    ∧ (∑ c : Fin 80, (val_main_v347 (F := Ideal) x0 x2 x3 x4 (ix3 b a c) : EReal)) = score x0 x2 x3 x4 b a
    ∧ (∑ c : Fin 80, ((x0 (ix3 b a c) : EReal) * (val_main_v347 (F := Ideal) x0 x2 x3 x4 (ix3 b a c) : EReal)))
        = (x0 (ix3 b a κ) : EReal) * score x0 x2 x3 x4 b a := by
  obtain ⟨κ, h1, h2⟩ := cls_eq S R (tgtOf x0 x2 x3 x4 b a)
  refine ⟨κ, h2, h1, ?_, ?_⟩
  · rw [Finset.sum_eq_single κ]
    · rw [r_v347, hot_eq R a κ h2, if_pos rfl, one_mul]; rfl
    · intro c _ hc
      rw [r_v347, hot_eq R a κ h2, if_neg hc, zero_mul, zero_mul]
    · intro h; exact absurd (Finset.mem_univ _) h
  · rw [Finset.sum_eq_single κ]
    · rw [r_v347, hot_eq R a κ h2, if_pos rfl, one_mul]; rfl
    · intro c _ hc
      rw [r_v347, hot_eq R a κ h2, if_neg hc, zero_mul, zero_mul, mul_zero]
    · intro h; exact absurd (Finset.mem_univ _) h

/-- The sum of the scores. -/
theorem sum_scores : v2096 X = val_main_v618 (F := Ideal) x0 x2 x3 x4 (ix1 b) := by
  rw [a_v618]
  have e : v2096 X = ∑ a : Fin 8400, v2076 X (ix2 0 a) := p_v2096 _ _ _ _ _ _
  rw [e]
  refine Finset.sum_congr rfl fun a _ => ?_
  rw [a_v617, score_eq S R a]
  obtain ⟨κ, -, -, h, -⟩ := hot_sum S R a
  exact h.symm

/-- The sum of the scores against the logits. -/
theorem sum_gather : v2103 X = val_main_v623 (F := Ideal) x0 x2 x3 x4 (ix1 b) := by
  rw [a_v623]
  unfold v2103
  rw [p_v2103, Finset.sum_comm]
  refine Finset.sum_congr rfl fun a _ => ?_
  rw [a_v622]
  obtain ⟨κ, -, h1, -, h⟩ := hot_sum S R a
  refine Eq.trans ?_ h.symm
  rw [Finset.sum_eq_single (tgtOf x0 x2 x3 x4 b a)]
  · unfold v2067
    rw [p_v2067 _ a (tgtOf x0 x2 x3 x4 b a) (first_eq S R a), if_pos rfl, one_mul, score_eq S R a, e_v221 X _ a κ h1, S.cls]
  · intro t _ ht
    unfold v2067
    rw [p_v2067 _ a (tgtOf x0 x2 x3 x4 b a) (first_eq S R a), if_neg ht, zero_mul, zero_mul]
  · intro h; exact absurd (Finset.mem_univ _) h

end Cert.Match

end
-- ==== Proof.KBox.lean ====
/-
  The kernel's overlap of every prediction with its target, both divided by the anchor's scale, and the sum made of it.
-/
module

public import proofs.«01_k».proof.Proof.KIou
public import proofs.«01_k».proof.Proof.KMatch

@[expose] public section

noncomputable section

namespace Cert.KernelIdeal.Vals

open Idealize.ShloMosaic Idealize.ShloMosaic.TcCoe Idealize.SL.Sem Cert.KernelIdeal Cert.KernelIdeal.Gen Cert.Spec

section
variable (w20 w21 w22 w23 w24 w80 w84 w88 w92 : FVec Ideal S1x8400 .f32) (a : Fin 8400)

theorem p_v2117 : k0_pay1376 w20 (ix2 0 a) = Ideal.div 1 (w20 (ix2 0 a)) := by unfold_payloads; pointwise
theorem p_v2118 : k0_pay1377 w20 w21 (ix2 0 a) = w21 (ix2 0 a) * Ideal.div 1 (w20 (ix2 0 a)) := by unfold_payloads; pointwise
theorem p_v2119 : k0_pay1378 w20 w21 (ix2 0 a) = w21 (ix2 0 a) * Ideal.div 1 (w20 (ix2 0 a)) := by unfold_payloads; pointwise
theorem p_v2120 : k0_pay1379 w20 w21 (ix2 0 a) = w21 (ix2 0 a) * Ideal.div 1 (w20 (ix2 0 a)) := by unfold_payloads; pointwise
theorem p_v2121 : k0_pay1380 w20 w21 (ix2 0 a) = w21 (ix2 0 a) * Ideal.div 1 (w20 (ix2 0 a)) := by unfold_payloads; pointwise
theorem p_v2122 : k0_pay1381 w20 w21 (ix2 0 a) = w21 (ix2 0 a) * Ideal.div 1 (w20 (ix2 0 a)) := by unfold_payloads; pointwise
theorem p_v2123 : k0_pay1382 w20 w21 (ix2 0 a) = w21 (ix2 0 a) * Ideal.div 1 (w20 (ix2 0 a)) := by unfold_payloads; pointwise
theorem p_v2124 : k0_pay1383 w20 w21 (ix2 0 a) = w21 (ix2 0 a) * Ideal.div 1 (w20 (ix2 0 a)) := by unfold_payloads; pointwise
theorem p_v2125 : k0_pay1384 w20 w21 (ix2 0 a) = w21 (ix2 0 a) * Ideal.div 1 (w20 (ix2 0 a)) := by unfold_payloads; pointwise

theorem p_v2136 : k0_pay1385 w20 w21 w22 w23 w24 w80 w84 w88 w92 (ix2 0 a)
    = inter (k0_pay1377 w20 w21 (ix2 0 a)) (k0_pay1378 w20 w22 (ix2 0 a)) (k0_pay1379 w20 w23 (ix2 0 a)) (k0_pay1380 w20 w24 (ix2 0 a))
      (k0_pay1381 w20 w80 (ix2 0 a)) (k0_pay1382 w20 w84 (ix2 0 a)) (k0_pay1383 w20 w88 (ix2 0 a)) (k0_pay1384 w20 w92 (ix2 0 a)) := by
  simp only [p_v2118, p_v2119, p_v2120, p_v2121, p_v2122, p_v2123, p_v2124, p_v2125]
  unfold_payloads; pointwise; rfl

theorem p_v2146 : k0_pay1386 w20 w21 w22 w23 w24 w80 w84 w88 w92 (ix2 0 a)
    = (k0_pay1379 w20 w23 (ix2 0 a) - k0_pay1377 w20 w21 (ix2 0 a)) * (k0_pay1380 w20 w24 (ix2 0 a) - k0_pay1378 w20 w22 (ix2 0 a))
      + (k0_pay1383 w20 w88 (ix2 0 a) - k0_pay1381 w20 w80 (ix2 0 a)) * (k0_pay1384 w20 w92 (ix2 0 a) - k0_pay1382 w20 w84 (ix2 0 a))
      - k0_pay1385 w20 w21 w22 w23 w24 w80 w84 w88 w92 (ix2 0 a) + eps := by
  rw [p_v2136]
  simp only [p_v2118, p_v2119, p_v2120, p_v2121, p_v2122, p_v2123, p_v2124, p_v2125]
  unfold_payloads; pointwise; rfl

theorem p_v2147 : k0_pay1387 w21 w22 (ix2 0 a) = Ideal.div (w21 (ix2 0 a)) (w22 (ix2 0 a)) := by unfold_payloads; pointwise
end

section
variable (v0 v1 v2 v3 u0 u1 u2 u3 : FVec Ideal S1x8400 .f32) (a : Fin 8400)

theorem p_v2158 : k0_pay1388 v0 v1 v2 v3 u0 u1 u2 u3 (ix2 0 a)
    = diag (v0 (ix2 0 a)) (v1 (ix2 0 a)) (v2 (ix2 0 a)) (v3 (ix2 0 a)) (u0 (ix2 0 a)) (u1 (ix2 0 a)) (u2 (ix2 0 a)) (u3 (ix2 0 a)) := by
  unfold_payloads; pointwise; rfl

theorem p_v2169 : k0_pay1389 v0 v1 v2 v3 u0 u1 u2 u3 (ix2 0 a)
    = rho (v0 (ix2 0 a)) (v1 (ix2 0 a)) (v2 (ix2 0 a)) (v3 (ix2 0 a)) (u0 (ix2 0 a)) (u1 (ix2 0 a)) (u2 (ix2 0 a)) (u3 (ix2 0 a)) := by
  unfold_payloads; pointwise; rfl

theorem p_v2178 : k0_pay1390 u0 u2 (ix2 0 a) = u2 (ix2 0 a) - u0 (ix2 0 a) + eps := by unfold_payloads; pointwise; rfl
theorem p_v2181 : k0_pay1391 u1 u3 (ix2 0 a) = u3 (ix2 0 a) - u1 (ix2 0 a) + eps := by unfold_payloads; pointwise; rfl

/-- The first box's width over its height. -/
def rat (v0 v1 v2 v3 : FVec Ideal S1x8400 .f32) (a : Fin 8400) : Ideal .f32 :=
  Ideal.div (v2 (ix2 0 a) - v0 (ix2 0 a) + eps) (v3 (ix2 0 a) - v1 (ix2 0 a) + eps)

theorem p_v2184 : k0_pay1393 v0 v1 v2 v3 (ix2 0 a) = BitVec.ofBool (decide (1 < rat v0 v1 v2 v3 a)) := by
  unfold_payloads; pointwise; rfl
theorem p_v2187 : k0_pay1394 v0 v1 v2 v3 (ix2 0 a) = inner (rat v0 v1 v2 v3 a) := by
  unfold_payloads; pointwise; rfl
theorem p_v2188 : k0_pay1395 v0 v1 v2 v3 (ix2 0 a) = inner (rat v0 v1 v2 v3 a) * inner (rat v0 v1 v2 v3 a) := by
  unfold_payloads; pointwise; rfl

/-- The polynomial's three outer coefficients, in the square. -/
def poly3 (u : Ideal .f32) : Ideal .f32 :=
  (Ideal.ofBits .f32 0xBB8B852F#32 * u + Ideal.ofBits .f32 0x3CB8E0FC#32) * u + Ideal.ofBits .f32 0xBD68FDE7#32

theorem p_v2195 : k0_pay1396 v0 v1 v2 v3 (ix2 0 a) = poly3 (inner (rat v0 v1 v2 v3 a) * inner (rat v0 v1 v2 v3 a)) := by
  unfold_payloads; pointwise; rfl

theorem p_v2214 (b184 : IVec S1x8400 1) (w187 w188 w195 : FVec Ideal S1x8400 .f32) (r : Ideal .f32)
    (h1 : b184 (ix2 0 a) = BitVec.ofBool (decide (1 < r))) (h2 : w187 (ix2 0 a) = inner r)
    (h3 : w188 (ix2 0 a) = inner r * inner r) (h4 : w195 (ix2 0 a) = poly3 (inner r * inner r)) :
    k0_pay1397 b184 w187 w188 w195 (ix2 0 a) = atan r := by
  unfold_payloads; pointwise
  rw [h1, h2, h3, h4]
  rw [select_dec]; rfl

/-- The second box's width over its height. -/
def rat2 (w h : FVec Ideal S1x8400 .f32) (a : Fin 8400) : Ideal .f32 := Ideal.div (w (ix2 0 a)) (h (ix2 0 a))

theorem p_v2217 : k0_pay1399 v0 v1 (ix2 0 a) = BitVec.ofBool (decide (1 < rat2 v0 v1 a)) := by
  unfold_payloads; pointwise; rfl
theorem p_v2220 : k0_pay1400 v0 v1 (ix2 0 a) = inner (rat2 v0 v1 a) := by
  unfold_payloads; pointwise; rfl
theorem p_v2221 : k0_pay1401 v0 v1 (ix2 0 a) = inner (rat2 v0 v1 a) * inner (rat2 v0 v1 a) := by
  unfold_payloads; pointwise; rfl
theorem p_v2240 : k0_pay1402 v0 v1 (ix2 0 a) = poly6 (inner (rat2 v0 v1 a) * inner (rat2 v0 v1 a)) * (inner (rat2 v0 v1 a) * inner (rat2 v0 v1 a))
    + Ideal.ofBits .f32 0xBEAAA697#32 := by
  unfold_payloads; pointwise; rfl
end

/-- The weighted square of an angle. -/
def wsq (g : Ideal .f32) : Ideal .f32 := Ideal.ofBits .f32 0x3ECF817B#32 * g * g

theorem p_v2268 (w76 w147 w158 w169 w214 : FVec Ideal S1x8400 .f32) (b217 : IVec S1x8400 1) (w220 w221 w240 : FVec Ideal S1x8400 .f32)
    (r : Fin 8400 → Ideal .f32) (h1 : ∀ a, b217 (ix2 0 a) = BitVec.ofBool (decide (1 < r a))) (h2 : ∀ a, w220 (ix2 0 a) = inner (r a))
    (h3 : ∀ a, w221 (ix2 0 a) = inner (r a) * inner (r a))
    (h4 : ∀ a, w240 (ix2 0 a) = poly6 (inner (r a) * inner (r a)) * (inner (r a) * inner (r a)) + Ideal.ofBits .f32 0xBEAAA697#32) :
    k0_pay1403 w76 w147 w158 w169 w214 b217 w220 w221 w240
      = ∑ a : Fin 8400, (1 - assemble (w147 (ix2 0 a)) (w158 (ix2 0 a)) (w169 (ix2 0 a)) (wsq (w214 (ix2 0 a) - atan (r a)))) * w76 (ix2 0 a) := by
  unfold_payloads; pointwise
  rw [Finset.sum_const, Finset.card_univ, Fintype.card_fin, one_smul]
  refine Finset.sum_congr rfl fun a _ => ?_
  rw [h1, h2, h3, h4]
  rw [select_dec]; rfl

/-- A box's corner over the anchor's scale, as the kernel has it. -/
def scl (X : Ins Ideal) (a : Fin 8400) (x : Ideal .f32) : Ideal .f32 := x * Ideal.div 1 (X.pts (ix2 2 a))

variable (X : Ins Ideal) (a : Fin 8400)

theorem e_v18 : v18 X (ix2 0 a) = X.pts (ix2 0 a) := p_v18 _ _
theorem e_v19 : v19 X (ix2 0 a) = X.pts (ix2 1 a) := p_v19 _ _
theorem e_v20 : v20 X (ix2 0 a) = X.pts (ix2 2 a) := p_v20 _ _

section
variable (τ : Fin 32)
  (h : ∀ i, (v2038 X (ix2 i a) : EReal) ≤ v2038 X (ix2 τ a) ∧ ((v2038 X (ix2 i a) : EReal) = v2038 X (ix2 τ a) → τ ≤ i))
include h

theorem e_v2080 : v2080 X (ix2 0 a) = X.tgt (ix3 0 τ 1) := (p_v2080 (v14 X) (v2038 X) a τ h).trans (e_v14 X τ)
theorem p_v2084 (w15 : FVec Ideal S32x1 .f32) : k0_pay1369 w15 (v2038 X) (ix2 0 a) = w15 (ix2 τ 0) := p_v2080 w15 (v2038 X) a τ h
theorem p_v2088 (w16 : FVec Ideal S32x1 .f32) : k0_pay1370 w16 (v2038 X) (ix2 0 a) = w16 (ix2 τ 0) := p_v2080 w16 (v2038 X) a τ h
theorem p_v2092 (w17 : FVec Ideal S32x1 .f32) : k0_pay1371 w17 (v2038 X) (ix2 0 a) = w17 (ix2 τ 0) := p_v2080 w17 (v2038 X) a τ h
theorem e_v2084 : v2084 X (ix2 0 a) = X.tgt (ix3 0 τ 2) := (p_v2084 X a τ h (v15 X)).trans (e_v15 X τ)
theorem e_v2088 : v2088 X (ix2 0 a) = X.tgt (ix3 0 τ 3) := (p_v2088 X a τ h (v16 X)).trans (e_v16 X τ)
theorem e_v2092 : v2092 X (ix2 0 a) = X.tgt (ix3 0 τ 4) := (p_v2092 X a τ h (v17 X)).trans (e_v17 X τ)

theorem e_v2122 : v2122 X (ix2 0 a) = scl X a (X.tgt (ix3 0 τ 1)) := by unfold v2122 scl; rw [p_v2122, e_v20, e_v2080 X a τ h]
theorem e_v2123 : v2123 X (ix2 0 a) = scl X a (X.tgt (ix3 0 τ 2)) := by unfold v2123 scl; rw [p_v2123, e_v20, e_v2084 X a τ h]
theorem e_v2124 : v2124 X (ix2 0 a) = scl X a (X.tgt (ix3 0 τ 3)) := by unfold v2124 scl; rw [p_v2124, e_v20, e_v2088 X a τ h]
theorem e_v2125 : v2125 X (ix2 0 a) = scl X a (X.tgt (ix3 0 τ 4)) := by unfold v2125 scl; rw [p_v2125, e_v20, e_v2092 X a τ h]
end

theorem e_v2118 : v2118 X (ix2 0 a) = scl X a (X.box (ix3 0 0 a)) := by unfold v2118 scl; rw [p_v2118, e_v20, e_v21]
theorem e_v2119 : v2119 X (ix2 0 a) = scl X a (X.box (ix3 0 1 a)) := by unfold v2119 scl; rw [p_v2119, e_v20, e_v22]
theorem e_v2120 : v2120 X (ix2 0 a) = scl X a (X.box (ix3 0 2 a)) := by unfold v2120 scl; rw [p_v2120, e_v20, e_v23]
theorem e_v2121 : v2121 X (ix2 0 a) = scl X a (X.box (ix3 0 3 a)) := by unfold v2121 scl; rw [p_v2121, e_v20, e_v24]

/-- The overlap over the eight scaled corners. -/
def boxOv (X : Ins Ideal) (a : Fin 8400) : Ideal .f32 :=
  ciou (v2118 X (ix2 0 a)) (v2119 X (ix2 0 a)) (v2120 X (ix2 0 a)) (v2121 X (ix2 0 a))
    (v2122 X (ix2 0 a)) (v2123 X (ix2 0 a)) (v2124 X (ix2 0 a)) (v2125 X (ix2 0 a))

theorem e_v2147 : v2147 X (ix2 0 a) = iou (v2118 X (ix2 0 a)) (v2119 X (ix2 0 a)) (v2120 X (ix2 0 a)) (v2121 X (ix2 0 a))
    (v2122 X (ix2 0 a)) (v2123 X (ix2 0 a)) (v2124 X (ix2 0 a)) (v2125 X (ix2 0 a)) := by
  unfold v2147 v2136 v2146
  rw [p_v2147, p_v2146, p_v2136]
  rfl

theorem e_v2214 : v2214 X (ix2 0 a) = atan (rat (v2118 X) (v2119 X) (v2120 X) (v2121 X) a) :=
  p_v2214 a _ _ _ _ _ (p_v2184 _ _ _ _ a) (p_v2187 _ _ _ _ a) (p_v2188 _ _ _ _ a) (p_v2195 _ _ _ _ a)

/-- The kernel's fourth sum: one less the overlap, times the score. -/
theorem e_v2268 : v2268 X = ∑ a : Fin 8400, (1 - boxOv X a) * v2076 X (ix2 0 a) := by
  refine (p_v2268 (v2076 X) (v2147 X) (v2158 X) (v2169 X) (v2214 X) (v2217 X) (v2220 X) (v2221 X) (v2240 X)
    (rat2 (v2178 X) (v2181 X)) (fun a => p_v2217 _ _ a) (fun a => p_v2220 _ _ a) (fun a => p_v2221 _ _ a)
    (fun a => p_v2240 _ _ a)).trans ?_
  refine Finset.sum_congr rfl fun a _ => ?_
  have h1 : v2158 X (ix2 0 a) = _ := p_v2158 _ _ _ _ _ _ _ _ a
  have h2 : v2169 X (ix2 0 a) = _ := p_v2169 _ _ _ _ _ _ _ _ a
  have h3 : v2178 X (ix2 0 a) = _ := p_v2178 _ _ a
  have h4 : v2181 X (ix2 0 a) = _ := p_v2181 _ _ a
  rw [e_v2147, h1, h2, e_v2214]
  unfold rat2
  rw [h3, h4]
  unfold boxOv ciou wsq rat angle
  rw [mul_assoc]

end Cert.KernelIdeal.Vals

end
-- ==== Proof.MBox.lean ====
/-
  The fourth sum: the loss of the boxes, the same in the kernel and in the reference where no scale is zero.
-/
module

public import proofs.«01_k».proof.Proof.Match
public import proofs.«01_k».proof.Proof.KBox
public import proofs.«01_k».proof.Proof.RBox

@[expose] public section

noncomputable section

namespace Cert.Match

open Idealize.ShloMosaic Cert.Spec Cert.Count Cert.KernelIdeal.Vals Cert.ReferenceIdeal.Read

variable {X : Ins Ideal}
  {x0 : (⟨Cert.ReferenceIdeal.S16x8400x80, .f32⟩ : BufTy).Contents (Elt Ideal)}
  {x1 : (⟨Cert.ReferenceIdeal.S16x8400x4x16, .f32⟩ : BufTy).Contents (Elt Ideal)}
  {x2 : (⟨Cert.ReferenceIdeal.S16x8400x4, .f32⟩ : BufTy).Contents (Elt Ideal)}
  {x3 : (⟨Cert.ReferenceIdeal.S16x32x5, .f32⟩ : BufTy).Contents (Elt Ideal)}
  {x4 : (⟨Cert.ReferenceIdeal.S8400x2, .f32⟩ : BufTy).Contents (Elt Ideal)}
  {x5 : (⟨Cert.ReferenceIdeal.S8400, .f32⟩ : BufTy).Contents (Elt Ideal)}
  {b : Fin 16} (S : Same X x0 x1 x2 x3 x4 x5 b)
include S

/-- Times one over the scale is over the scale, where the scale is not zero. -/
theorem scl_eq (a : Fin 8400) (h : ((x5 (ix1 a) : Ideal .f32) : EReal) ≠ 0) (x : EReal) :
    scl X a x = Ideal.div x ((x5 (ix1 a) : Ideal .f32) : EReal) := by
  unfold scl
  rw [S.sc]
  unfold Ideal.div
  rw [if_neg h, if_neg h, one_mul]

variable (R : Ranked x0 x2 x3 x4 b)
include R

theorem boxOv_eq (a : Fin 8400) (h : ((x5 (ix1 a) : Ideal .f32) : EReal) ≠ 0) :
    boxOv X a = val_main_v577 (F := Ideal) x0 x2 x3 x4 x5 (ix2 b a) := by
  rw [r_v577]
  simp only [r_v357, r_v360]
  have hf := first_eq S R a
  unfold boxOv
  rw [e_v2118, e_v2119, e_v2120, e_v2121, e_v2122 X a _ hf, e_v2123 X a _ hf, e_v2124 X a _ hf, e_v2125 X a _ hf]
  simp only [S.box, S.tgt, scl_eq S a h]
  rfl

omit S R in
/-- The flag of an anchor is zero or one. -/
theorem okA_sq (a : Fin 8400) : okA x0 x2 x3 x4 b a * okA x0 x2 x3 x4 b a = okA x0 x2 x3 x4 b a := by
  unfold okA
  rw [r_v324, ← num1_eq, num1_val]
  split
  · exact one_mul _
  · exact zero_mul _

omit S R in
theorem score_ok (a : Fin 8400) : score x0 x2 x3 x4 b a * okA x0 x2 x3 x4 b a = score x0 x2 x3 x4 b a := by
  unfold score
  rw [mul_assoc, okA_sq]

/-- The sum of the boxes' losses. -/
theorem sum_box (h : ∀ a : Fin 8400, ((x5 (ix1 a) : Ideal .f32) : EReal) ≠ 0) :
    v2268 X = val_main_v628 (F := Ideal) x0 x2 x3 x4 x5 (ix1 b) := by
  rw [a_v628, e_v2268]
  refine Finset.sum_congr rfl fun a _ => ?_
  rw [r_v627, boxOv_eq S R a (h a), score_eq S R a]
  obtain ⟨κ, -, -, hk, -⟩ := hot_sum S R a
  rw [hk]
  refine Eq.trans ?_ (mul_assoc _ _ _).symm
  exact congrArg (fun z => (1 - val_main_v577 (F := Ideal) x0 x2 x3 x4 x5 (ix2 b a)) * z) (score_ok a).symm

end Cert.Match

end
-- ==== Proof.KDfl.lean ====
/-
  The kernel's fifth sum, value by value: the distances, and for each side of the box the logarithm of the summed
  exponentials less the interpolated logit.
-/
module

public import proofs.«01_k».proof.Proof.KBox
public import proofs.«01_k».proof.Proof.KLast
public import proofs.«01_k».proof.Proof.SDfl

@[expose] public section

noncomputable section

namespace Cert.KernelIdeal.Vals

open Idealize.ShloMosaic Idealize.ShloMosaic.TcCoe Idealize.SL.Sem Cert.KernelIdeal Cert.KernelIdeal.Gen Cert.Spec

/-- A bin's number, as a float. -/
theorem bin_num (k : Fin 16) : (FloatOps.sitofp (F := Ideal) .f32 (BitVec.ofNat 32 k.val) : EReal) = ((k.val : ℝ) : EReal) := by
  have e : (BitVec.ofNat 32 k.val).toInt = k.val := by revert k; decide
  show (((BitVec.ofNat 32 k.val).toInt : ℝ) : EReal) = _
  rw [e]
  norm_cast

/-- The weight as the kernel writes it. -/
theorem hat_eq (k : Fin 16) (d : Ideal .f32) :
    (max (1 - FloatOps.absf ((FloatOps.sitofp .f32 (BitVec.ofNat 32 k.val) : Ideal .f32) - d)) 0 : Ideal .f32) = hat k d := by
  unfold hat
  rw [← bin_num]
  rfl

/-- The sixteen logits of side `j` at an anchor. -/
def logits (w3 : FVec Ideal S64x8400 .f32) (j : Fin 4) (a : Fin 8400) : Fin 16 → EReal :=
  fun k => w3 (ix2 ⟨16 * j.val + k.val, by omega⟩ a)

section
variable (w3 : FVec Ideal S64x8400 .f32) (d : FVec Ideal S1x8400 .f32) (a : Fin 8400)

theorem logits0 (k : Fin 16) (h) : w3 (ix2 ⟨k.val, h⟩ a) = logits w3 0 a k := by
  unfold logits; congr 2; exact Fin.ext (by simp)

theorem p_v2320 : k0_pay1413 w3 d (ix2 0 a) = sideK (logits w3 0 a) (d (ix2 0 a)) := by
  unfold_payloads; pointwise
  simp only [hat_eq, logits0]
  rfl

theorem p_v2330 : k0_pay1415 w3 (ix2 0 a) = maxOf (logits w3 1 a) + Ideal.log (expSum (logits w3 1 a)) := by
  unfold_payloads; pointwise
  rfl

theorem p_v2321 (k : Fin 16) : k0_pay1414 w3 (ix2 k a) = logits w3 1 a k := by
  unfold_payloads; pointwise
  rfl

theorem p_v2336 (k : Fin 16) : k0_pay1416 d (ix2 k a) = 1 - FloatOps.absf (FloatOps.sitofp FTy.f32 (BitVec.ofNat 32 k.val) - d (ix2 0 a)) := by
  unfold_payloads; pointwise

theorem p_v2296 (k : Fin 16) : k0_pay1412 (F := Ideal) (ix2 k 0) = FloatOps.sitofp FTy.f32 (BitVec.ofNat 32 k.val) := by
  unfold_payloads; pointwise

theorem p_v2376 : k0_pay1419 w3 (ix2 0 a) = maxOf (logits w3 3 a) + Ideal.log (expSum (logits w3 3 a)) := by
  unfold_payloads; pointwise
  rfl

theorem p_v2385 (w2296 : FVec Ideal S16x1 .f32) (k : Fin 16) (h : w2296 (ix2 k 0) = FloatOps.sitofp FTy.f32 (BitVec.ofNat 32 k.val)) :
    k0_pay1420 w3 d w2296 (ix2 k a) = logits w3 3 a k * hat k (d (ix2 0 a)) := by
  unfold_payloads; pointwise
  rw [h, hat_eq]
  rfl

theorem p_v2366 (w2296 : FVec Ideal S16x1 .f32) (w2320 w2330 : FVec Ideal S1x8400 .f32) (w2321 w2336 : FVec Ideal S16x8400 .f32)
    (h : ∀ k, w2296 (ix2 k 0) = FloatOps.sitofp FTy.f32 (BitVec.ofNat 32 k.val)) :
    k0_pay1417 w3 d w2296 w2320 w2321 w2330 w2336 (ix2 0 a)
      = w2320 (ix2 0 a) + (w2330 (ix2 0 a) - ∑ x, w2321 (ix2 x a) * max (w2336 (ix2 x a)) 0) + sideK (logits w3 2 a) (d (ix2 0 a)) := by
  unfold_payloads; pointwise
  simp only [h, hat_eq]
  rfl

theorem p_v2276 (w1 w2 w4 : FVec Ideal S1x8400 .f32) :
    k0_pay1406 w1 w2 w4 (ix2 0 a) = held (w1 (ix2 0 a) * w4 (ix2 0 a) - w2 (ix2 0 a) * w4 (ix2 0 a)) := by
  unfold_payloads; pointwise; rfl

theorem p_v2282 (w1 w2 w4 : FVec Ideal S1x8400 .f32) :
    k0_pay1407 w1 w2 w4 (ix2 0 a) = held (w1 (ix2 0 a) * w4 (ix2 0 a) - w2 (ix2 0 a) * w4 (ix2 0 a)) := by
  unfold_payloads; pointwise; rfl

theorem p_v2288 (w1 w2 w4 : FVec Ideal S1x8400 .f32) :
    k0_pay1410 (k0_pay1408 w1 w2 w4) (k0_pay1409 (F := Ideal)) (ix2 0 a) = held (w2 (ix2 0 a) * w4 (ix2 0 a) - w1 (ix2 0 a) * w4 (ix2 0 a)) := by
  unfold_payloads; pointwise; rfl

theorem p_v2294 (w1 w2 w4 : FVec Ideal S1x8400 .f32) :
    k0_pay1411 w2 w4 (k0_pay1405 w1 w4) (ix2 0 a) = held (w2 (ix2 0 a) * w4 (ix2 0 a) - w1 (ix2 0 a) * w4 (ix2 0 a)) := by
  unfold_payloads; pointwise; rfl
end

variable (X : Ins Ideal) (a : Fin 8400)

/-- An anchor's four sides' losses added up. -/
def sides (X : Ins Ideal) (a : Fin 8400) : EReal :=
  sideK (logits (v3 X) 0 a) (v2276 X (ix2 0 a)) + sideK (logits (v3 X) 1 a) (v2282 X (ix2 0 a))
    + sideK (logits (v3 X) 2 a) (v2288 X (ix2 0 a)) + sideK (logits (v3 X) 3 a) (v2294 X (ix2 0 a))

theorem e_v2366 : v2366 X (ix2 0 a) = sideK (logits (v3 X) 0 a) (v2276 X (ix2 0 a)) + sideK (logits (v3 X) 1 a) (v2282 X (ix2 0 a))
    + sideK (logits (v3 X) 2 a) (v2288 X (ix2 0 a)) := by
  unfold v2366
  rw [p_v2366 _ _ _ _ _ _ _ _ (fun k => by unfold v2296; exact p_v2296 k)]
  unfold v2320 v2330 v2321 v2336
  rw [p_v2320, p_v2330]
  simp only [p_v2321, p_v2336, hat_eq]
  rfl

/-- The kernel's fifth sum. -/
theorem e_dfl : sumDfl (v2076 X) (v2366 X) (v2376 X) (v2385 X)
    = ∑ a : Fin 8400, Ideal.ofBits .f32 0x3E800000#32 * sides X a * v2076 X (ix2 0 a) := by
  unfold sumDfl
  rw [Finset.sum_const, Finset.card_univ, Fintype.card_fin, one_smul]
  refine Finset.sum_congr rfl fun a _ => ?_
  rw [e_v2366]
  unfold v2376 v2385
  rw [p_v2376]
  simp only [fun k => p_v2385 (v3 X) (v2294 X) a (v2296 X) k (by unfold v2296; exact p_v2296 k)]
  rfl

theorem e_logits (j : Fin 4) (k : Fin 16) : logits (v3 X) j a k = X.anc (ix3 0 ⟨16 * j.val + k.val, by omega⟩ a) := by
  unfold logits v3
  exact p_v3 _ _ _

theorem e_v2276 (τ : Fin 32) (h : ∀ i, (v2038 X (ix2 i a) : EReal) ≤ v2038 X (ix2 τ a) ∧ ((v2038 X (ix2 i a) : EReal) = v2038 X (ix2 τ a) → τ ≤ i)) :
    v2276 X (ix2 0 a) = held (scl X a (X.pts (ix2 0 a)) - scl X a (X.tgt (ix3 0 τ 1))) := by
  unfold v2276 v2117 scl
  rw [p_v2276, p_v2117, e_v20, e_v18, e_v2080 X a τ h]

theorem e_v2282 (τ : Fin 32) (h : ∀ i, (v2038 X (ix2 i a) : EReal) ≤ v2038 X (ix2 τ a) ∧ ((v2038 X (ix2 i a) : EReal) = v2038 X (ix2 τ a) → τ ≤ i)) :
    v2282 X (ix2 0 a) = held (scl X a (X.pts (ix2 1 a)) - scl X a (X.tgt (ix3 0 τ 2))) := by
  unfold v2282 v2117 scl
  rw [p_v2282, p_v2117, e_v20, e_v19, e_v2084 X a τ h]

theorem e_v2288 (τ : Fin 32) (h : ∀ i, (v2038 X (ix2 i a) : EReal) ≤ v2038 X (ix2 τ a) ∧ ((v2038 X (ix2 i a) : EReal) = v2038 X (ix2 τ a) → τ ≤ i)) :
    v2288 X (ix2 0 a) = held (scl X a (X.tgt (ix3 0 τ 3)) - scl X a (X.pts (ix2 0 a))) := by
  unfold v2288 v2286 v2287 v2117 scl
  rw [p_v2288, p_v2117, e_v20, e_v18, e_v2088 X a τ h]

theorem e_v2294 (τ : Fin 32) (h : ∀ i, (v2038 X (ix2 i a) : EReal) ≤ v2038 X (ix2 τ a) ∧ ((v2038 X (ix2 i a) : EReal) = v2038 X (ix2 τ a) → τ ≤ i)) :
    v2294 X (ix2 0 a) = held (scl X a (X.tgt (ix3 0 τ 4)) - scl X a (X.pts (ix2 1 a))) := by
  unfold v2294 v2270 v2117 scl
  rw [p_v2294, p_v2117, e_v20, e_v19, e_v2092 X a τ h]

end Cert.KernelIdeal.Vals

end
-- ==== Proof.MDfl.lean ====
/-
  The fifth sum: the loss of the distances, the same in the kernel and in the reference where no scale is zero and the
  greatest logit of each distance is finite.
-/
module

public import proofs.«01_k».proof.Proof.MBox
public import proofs.«01_k».proof.Proof.KDfl
public import proofs.«01_k».proof.Proof.RDfl

@[expose] public section

noncomputable section

namespace Cert.Match

open Idealize.ShloMosaic Cert.Spec Cert.Count Cert.KernelIdeal.Vals Cert.ReferenceIdeal.Read

variable {X : Ins Ideal}
  {x0 : (⟨Cert.ReferenceIdeal.S16x8400x80, .f32⟩ : BufTy).Contents (Elt Ideal)}
  {x1 : (⟨Cert.ReferenceIdeal.S16x8400x4x16, .f32⟩ : BufTy).Contents (Elt Ideal)}
  {x2 : (⟨Cert.ReferenceIdeal.S16x8400x4, .f32⟩ : BufTy).Contents (Elt Ideal)}
  {x3 : (⟨Cert.ReferenceIdeal.S16x32x5, .f32⟩ : BufTy).Contents (Elt Ideal)}
  {x4 : (⟨Cert.ReferenceIdeal.S8400x2, .f32⟩ : BufTy).Contents (Elt Ideal)}
  {x5 : (⟨Cert.ReferenceIdeal.S8400, .f32⟩ : BufTy).Contents (Elt Ideal)}
  {b : Fin 16} (S : Same X x0 x1 x2 x3 x4 x5 b)
include S

theorem bins_eq (j : Fin 4) (a : Fin 8400) : logits (v3 X) j a = binsR x1 b a j :=
  funext fun k => (e_logits X a j k).trans (S.anc j k a)

variable (R : Ranked x0 x2 x3 x4 b)
include R

section
variable (a : Fin 8400) (h : ((x5 (ix1 a) : Ideal .f32) : EReal) ≠ 0)
include h

theorem dist0 : v2276 X (ix2 0 a) = held (val_main_v588 (F := Ideal) x0 x2 x3 x4 x5 (ix3 b a 0)) := by
  rw [e_v2276 X a _ (first_eq S R a), S.px, S.tgt, scl_eq S a h, scl_eq S a h]
  exact congrArg held ((r_v588_left x0 x2 x3 x4 x5 b a 0).trans (r_v584 x0 x2 x3 x4 x5 b a 0)).symm

theorem dist1 : v2282 X (ix2 0 a) = held (val_main_v588 (F := Ideal) x0 x2 x3 x4 x5 (ix3 b a 1)) := by
  rw [e_v2282 X a _ (first_eq S R a), S.py, S.tgt, scl_eq S a h, scl_eq S a h]
  exact congrArg held ((r_v588_left x0 x2 x3 x4 x5 b a 1).trans (r_v584 x0 x2 x3 x4 x5 b a 1)).symm

theorem dist2 : v2288 X (ix2 0 a) = held (val_main_v588 (F := Ideal) x0 x2 x3 x4 x5 (ix3 b a 2)) := by
  rw [e_v2288 X a _ (first_eq S R a), S.px, S.tgt, scl_eq S a h, scl_eq S a h]
  exact congrArg held ((r_v588_right x0 x2 x3 x4 x5 b a 0).trans (r_v587 x0 x2 x3 x4 x5 b a 0)).symm

theorem dist3 : v2294 X (ix2 0 a) = held (val_main_v588 (F := Ideal) x0 x2 x3 x4 x5 (ix3 b a 3)) := by
  rw [e_v2294 X a _ (first_eq S R a), S.py, S.tgt, scl_eq S a h, scl_eq S a h]
  exact congrArg held ((r_v588_right x0 x2 x3 x4 x5 b a 1).trans (r_v587 x0 x2 x3 x4 x5 b a 1)).symm

/-- The four sides' losses of an anchor. -/
theorem sides_eq (hx : ∀ j, maxOf (binsR x1 b a j) ≠ ⊤ ∧ maxOf (binsR x1 b a j) ≠ ⊥) :
    sides X a = ∑ j : Fin 4, (val_main_v613 (F := Ideal) x0 x1 x2 x3 x4 x5 (ix3 b a j) : EReal) := by
  unfold sides
  rw [Fin.sum_univ_four, dist0 S R a h, dist1 S R a h, dist2 S R a h, dist3 S R a h, bins_eq S, bins_eq S, bins_eq S, bins_eq S]
  rw [r_v613 x0 x1 x2 x3 x4 x5 b a 0 (hx 0), r_v613 x0 x1 x2 x3 x4 x5 b a 1 (hx 1), r_v613 x0 x1 x2 x3 x4 x5 b a 2 (hx 2), r_v613 x0 x1 x2 x3 x4 x5 b a 3 (hx 3)]
end

omit S R in
theorem regroup (u q s o : EReal) (e : s * o = s) : q * u * s = u * q * s * o := by
  rw [mul_assoc (u * q), e, mul_comm q]

/-- The sum of the distances' losses. -/
theorem sum_dist (h : ∀ a : Fin 8400, ((x5 (ix1 a) : Ideal .f32) : EReal) ≠ 0)
    (hx : ∀ a j, maxOf (binsR x1 b a j) ≠ ⊤ ∧ maxOf (binsR x1 b a j) ≠ ⊥) :
    sumDfl (v2076 X) (v2366 X) (v2376 X) (v2385 X) = val_main_v631 (F := Ideal) x0 x1 x2 x3 x4 x5 (ix1 b) := by
  rw [a_v631, e_dfl]
  refine Finset.sum_congr rfl fun a _ => ?_
  rw [r_v630, sides_eq S R a (h a) (hx a), score_eq S R a]
  obtain ⟨κ, -, -, hk, -⟩ := hot_sum S R a
  rw [hk]
  exact regroup _ _ _ _ (score_ok a)

end Cert.Match

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Read
public import proofs.«01_k».proof.Proof.KArr
public import proofs.«01_k».proof.Proof.KLast
public import proofs.«01_k».proof.Proof.RTop
public import proofs.«01_k».proof.Proof.RPre
public import proofs.«01_k».proof.Proof.MDfl
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.Spec

/-- The kernel's result array, lane by lane. -/
theorem kernel_lanes (m : (ℓ : Loc Cert.KernelIdeal.nD Cert.KernelIdeal.τ Cert.KernelIdeal.sig) → Buf (Elt Ideal) ℓ)
    (c : Dev Cert.KernelIdeal.nD) (b : Fin 16) (r : Fin 8) (l : Fin 128) :
    ((Cert.KernelIdeal.Gen.dats m 0 c).arrAt 5 Cert.KernelIdeal.cfg0.N : Cert.KernelIdeal.S16x8x128.Idx → Ideal .f32)
        (ix3 b r l)
      = lanes (Cert.KernelIdeal.Vals.v2096 (Cert.KernelIdeal.Vals.insAt m c (Cert.KernelIdeal.Vals.pt b)))
          (Cert.KernelIdeal.Vals.v2115 (Cert.KernelIdeal.Vals.insAt m c (Cert.KernelIdeal.Vals.pt b)))
          (Cert.KernelIdeal.Vals.v2103 (Cert.KernelIdeal.Vals.insAt m c (Cert.KernelIdeal.Vals.pt b)))
          (Cert.KernelIdeal.Vals.v2268 (Cert.KernelIdeal.Vals.insAt m c (Cert.KernelIdeal.Vals.pt b)))
          (Cert.KernelIdeal.Vals.sumDfl (Cert.KernelIdeal.Vals.v2076 (Cert.KernelIdeal.Vals.insAt m c (Cert.KernelIdeal.Vals.pt b)))
            (Cert.KernelIdeal.Vals.v2366 (Cert.KernelIdeal.Vals.insAt m c (Cert.KernelIdeal.Vals.pt b)))
            (Cert.KernelIdeal.Vals.v2376 (Cert.KernelIdeal.Vals.insAt m c (Cert.KernelIdeal.Vals.pt b)))
            (Cert.KernelIdeal.Vals.v2385 (Cert.KernelIdeal.Vals.insAt m c (Cert.KernelIdeal.Vals.pt b)))) l := by
  rw [Cert.KernelIdeal.Vals.arr_apply, Cert.KernelIdeal.Vals.v2428, Cert.KernelIdeal.Vals.k0_pay1_rows]

/-- The kernel's second lane: every logit's loss, added over classes and anchors. -/
theorem kernel_bce (m : (ℓ : Loc Cert.KernelIdeal.nD Cert.KernelIdeal.τ Cert.KernelIdeal.sig) → Buf (Elt Ideal) ℓ)
    (c : Dev Cert.KernelIdeal.nD) (b : Fin 16) :
    Cert.KernelIdeal.Vals.v2115 (Cert.KernelIdeal.Vals.insAt m c (Cert.KernelIdeal.Vals.pt b))
      = ∑ k : Fin 80, ∑ a : Fin 8400,
          bce ((m ((c.tc : Thread Cert.KernelIdeal.nD Cert.KernelIdeal.τ).loc Cert.KernelIdeal.main_arg0) :
            Cert.KernelIdeal.S16x8400x80.Idx → Ideal .f32) (ix3 b a k)) := by
  rw [Cert.KernelIdeal.Vals.v2115, Cert.KernelIdeal.Vals.v1, Cert.KernelIdeal.Vals.v2115_sum]
  exact Finset.sum_congr rfl fun k _ => Finset.sum_congr rfl fun a _ =>
    congrArg bce (Cert.KernelIdeal.Vals.ins_cls m c b k a)

/-- The kernel's blocks at step `b` are image `b` of the arguments. -/
theorem same (m : (ℓ : Loc Cert.KernelIdeal.nD Cert.KernelIdeal.τ Cert.KernelIdeal.sig) → Buf (Elt Ideal) ℓ)
    (c : Dev Cert.KernelIdeal.nD) (b : Fin 16) :
    Cert.Match.Same (Cert.KernelIdeal.Vals.insAt m c (Cert.KernelIdeal.Vals.pt b))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) b where
  cls := Cert.KernelIdeal.Vals.ins_cls m c b
  anc := Cert.KernelIdeal.Vals.ins_anc m c b
  box := Cert.KernelIdeal.Vals.ins_box m c b
  tgt := Cert.KernelIdeal.Vals.ins_tgt m c b
  px := fun a => (Cert.KernelIdeal.Vals.ins_px m c b a).1
  py := fun a => (Cert.KernelIdeal.Vals.ins_px m c b a).2.1
  sc := fun a => (Cert.KernelIdeal.Vals.ins_px m c b a).2.2

section
variable (m : (ℓ : Loc Cert.KernelIdeal.nD Cert.KernelIdeal.τ Cert.KernelIdeal.sig) → Buf (Elt Ideal) ℓ)
  (c : Dev Cert.KernelIdeal.nD) (h : Cert.Pre_KernelIdeal_regular_inputs m)
include h

/-- The precondition says that every image is ranked. -/
theorem ranked (b : Fin 16) :
    Cert.Match.Ranked (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) b where
  cls := fun t => ((Cert.ReferenceIdeal.Read.pre_facts _ _ _ _ _ _ (h c)).1 b t).1
  falls := fun t k => by
    have h1 := ((Cert.ReferenceIdeal.Read.pre_facts _ _ _ _ _ _ (h c)).1 b t).2 k
    rw [Cert.ReferenceIdeal.Read.r_values, Cert.ReferenceIdeal.Read.r_values] at h1
    exact h1

end

theorem frame_r : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two results are the same five sums of every image. -/
theorem algebraic : Cert.algebraic_KernelIdeal_ReferenceIdeal_pre_regular_inputs := by
  intro m g m' g' hpre hag
  refine ⟨fun c => (Cert.KernelIdeal.Gen.dats m 0 c).arrAt 5 Cert.KernelIdeal.cfg0.N,
    Cert.KernelIdeal.Value.run_blocks (F := Ideal) m g, ?_⟩
  refine (θ_run Cert.ReferenceIdeal.defs _ _).mono (fun r h c => ⟨?_, (h c).2⟩)
    (Cert.ReferenceIdeal.Value.run (F := Ideal) m' g')
  obtain ⟨h0, h1, h2, h3, h4, h5⟩ := hag c
  rw [(h c).1, Cert.ReferenceIdeal.Read.val_main_v653_eq]
  funext i
  obtain ⟨b, r, l, rfl⟩ : ∃ (b : Fin 16) (r : Fin 8) (l : Fin 128), i = ix3 b r l :=
    ⟨i 0, i 1, i 2, (ix3_eta i).symm⟩
  refine (Cert.ReferenceIdeal.Read.result_lanes _ _ _ _ _ _ b r l).trans
    (Eq.trans ?_ (kernel_lanes m c b r l).symm)
  simp only [StableHlo.launchContents_devRef, h0, h1, h2, h3, h4, h5]
  have hs := same m c b
  have hr := ranked m c hpre b
  have hf := (Cert.ReferenceIdeal.Read.pre_facts _ _ _ _ _ _ (hpre c)).2
  rw [Cert.Match.sum_scores hs hr, Cert.Match.sum_gather hs hr, Cert.Match.sum_box hs hr hf.1,
    Cert.Match.sum_dist hs hr hf.1 (hf.2 b),
    kernel_bce, Finset.sum_comm, ← Cert.ReferenceIdeal.Read.bce_sum]

/-- The claims: three frames, the empty list of rewrites, the results equal. -/
theorem claim : Cert.Claim := ⟨Cert.Kernel.Gen.facts, Cert.KernelIdeal.Gen.facts, Cert.ReferenceIdeal.Gen.facts,
  Cert.ReferenceIdeal.Read.preFacts,
  fun m ρ _ => Cert.Kernel.Gen.frame m ρ, fun m ρ _ => Cert.KernelIdeal.Gen.frame m ρ, fun m ρ _ => Cert.KernelIdeal.Gen.frame m ρ,
  frame_r, fun m ρ _ => frame_r m ρ trivial, trivial, algebraic⟩

end Cert.Proof

end
